-- ==== Defs.lean ====
def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Stick (m : (ℓ : Loc Cert.Stick.nD Cert.Stick.τ Cert.Stick.sig) → Buf (Elt Bits) ℓ) : Prop :=
  True

def Pre_StickIdeal (m : (ℓ : Loc Cert.StickIdeal.nD Cert.StickIdeal.τ Cert.StickIdeal.sig) → Buf (Elt Ideal) ℓ) : Prop :=
  True

def Pre_NormProj (m : (ℓ : Loc Cert.NormProj.nD Cert.NormProj.τ Cert.NormProj.sig) → Buf (Elt Bits) ℓ) : Prop :=
  True

def Pre_NormProjIdeal (m : (ℓ : Loc Cert.NormProjIdeal.nD Cert.NormProjIdeal.τ Cert.NormProjIdeal.sig) → Buf (Elt Ideal) ℓ) : Prop :=
  True

def Pre_NormProjRefIdeal (m : (ℓ : Loc Cert.NormProjRefIdeal.nD Cert.NormProjRefIdeal.τ Cert.NormProjRefIdeal.sig) → Buf (Elt Ideal) ℓ) : Prop :=
  True

def Pre_FfnIn (m : (ℓ : Loc Cert.FfnIn.nD Cert.FfnIn.τ Cert.FfnIn.sig) → Buf (Elt Bits) ℓ) : Prop :=
  True

def Pre_FfnInIdeal (m : (ℓ : Loc Cert.FfnInIdeal.nD Cert.FfnInIdeal.τ Cert.FfnInIdeal.sig) → Buf (Elt Ideal) ℓ) : Prop :=
  True

def Pre_FfnInRefIdeal (m : (ℓ : Loc Cert.FfnInRefIdeal.nD Cert.FfnInRefIdeal.τ Cert.FfnInRefIdeal.sig) → Buf (Elt Ideal) ℓ) : Prop :=
  True

def Pre_FfnOut (m : (ℓ : Loc Cert.FfnOut.nD Cert.FfnOut.τ Cert.FfnOut.sig) → Buf (Elt Bits) ℓ) : Prop :=
  True

def Pre_FfnOutIdeal (m : (ℓ : Loc Cert.FfnOutIdeal.nD Cert.FfnOutIdeal.τ Cert.FfnOutIdeal.sig) → Buf (Elt Ideal) ℓ) : Prop :=
  True

def Pre_FfnOutRefIdeal (m : (ℓ : Loc Cert.FfnOutRefIdeal.nD Cert.FfnOutRefIdeal.τ Cert.FfnOutRefIdeal.sig) → Buf (Elt Ideal) ℓ) : Prop :=
  True

def Pre_ProjBwd (m : (ℓ : Loc Cert.ProjBwd.nD Cert.ProjBwd.τ Cert.ProjBwd.sig) → Buf (Elt Bits) ℓ) : Prop :=
  True

def Pre_ProjBwdIdeal (m : (ℓ : Loc Cert.ProjBwdIdeal.nD Cert.ProjBwdIdeal.τ Cert.ProjBwdIdeal.sig) → Buf (Elt Ideal) ℓ) : Prop :=
  True

def Pre_ProjBwdIdeal_proj_finite [hPre_proj_finite : Cert.Pre_proj_finite.Facts] (m : (ℓ : Loc Cert.ProjBwdIdeal.nD Cert.ProjBwdIdeal.τ Cert.ProjBwdIdeal.sig) → Buf (Elt Ideal) ℓ) : Prop :=
  ∀ c : Dev Cert.ProjBwdIdeal.nD,
    (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.2.2.2.2.2.2.1 = (fun _ => 1#1)
    ∧ (Cert.Pre_proj_finite.fn (F := Ideal) (m ((c.tc : Thread Cert.ProjBwdIdeal.nD Cert.ProjBwdIdeal.τ).loc Cert.ProjBwdIdeal.main_arg0)) (m ((c.tc : Thread Cert.ProjBwdIdeal.nD Cert.ProjBwdIdeal.τ).loc Cert.ProjBwdIdeal.main_arg1)) (m ((c.tc : Thread Cert.ProjBwdIdeal.nD Cert.ProjBwdIdeal.τ).loc Cert.ProjBwdIdeal.main_arg2)) (m ((c.tc : Thread Cert.ProjBwdIdeal.nD Cert.ProjBwdIdeal.τ).loc Cert.ProjBwdIdeal.main_arg3)) (m ((c.tc : Thread Cert.ProjBwdIdeal.nD Cert.ProjBwdIdeal.τ).loc Cert.ProjBwdIdeal.main_arg4)) (m ((c.tc : Thread Cert.ProjBwdIdeal.nD Cert.ProjBwdIdeal.τ).loc Cert.ProjBwdIdeal.main_arg5)) (m ((c.tc : Thread Cert.ProjBwdIdeal.nD Cert.ProjBwdIdeal.τ).loc Cert.ProjBwdIdeal.main_arg6)) (m ((c.tc : Thread Cert.ProjBwdIdeal.nD Cert.ProjBwdIdeal.τ).loc Cert.ProjBwdIdeal.main_arg7)) (m ((c.tc : Thread Cert.ProjBwdIdeal.nD Cert.ProjBwdIdeal.τ).loc Cert.ProjBwdIdeal.main_arg8)) (m ((c.tc : Thread Cert.ProjBwdIdeal.nD Cert.ProjBwdIdeal.τ).loc Cert.ProjBwdIdeal.main_arg9)) (m ((c.tc : Thread Cert.ProjBwdIdeal.nD Cert.ProjBwdIdeal.τ).loc Cert.ProjBwdIdeal.main_arg10)) (m ((c.tc : Thread Cert.ProjBwdIdeal.nD Cert.ProjBwdIdeal.τ).loc Cert.ProjBwdIdeal.main_arg11)) (m ((c.tc : Thread Cert.ProjBwdIdeal.nD Cert.ProjBwdIdeal.τ).loc Cert.ProjBwdIdeal.main_arg12)) (m ((c.tc : Thread Cert.ProjBwdIdeal.nD Cert.ProjBwdIdeal.τ).loc Cert.ProjBwdIdeal.main_arg13)) (m ((c.tc : Thread Cert.ProjBwdIdeal.nD Cert.ProjBwdIdeal.τ).loc Cert.ProjBwdIdeal.main_arg14)) (m ((c.tc : Thread Cert.ProjBwdIdeal.nD Cert.ProjBwdIdeal.τ).loc Cert.ProjBwdIdeal.main_arg15)) (m ((c.tc : Thread Cert.ProjBwdIdeal.nD Cert.ProjBwdIdeal.τ).loc Cert.ProjBwdIdeal.main_arg16))).2.2.2.2.2.2.2.2.2.2.2.2.2.2.2 = (fun _ => 1#1)

def Pre_ProjBwdRefIdeal (m : (ℓ : Loc Cert.ProjBwdRefIdeal.nD Cert.ProjBwdRefIdeal.τ Cert.ProjBwdRefIdeal.sig) → Buf (Elt Ideal) ℓ) : Prop :=
  True

def Pre_ProjBwdRefIdeal_proj_finite [hPre_proj_finite : Cert.Pre_proj_finite.Facts] (m : (ℓ : Loc Cert.ProjBwdRefIdeal.nD Cert.ProjBwdRefIdeal.τ Cert.ProjBwdRefIdeal.sig) → Buf (Elt Ideal) ℓ) : Prop :=
  ∀ c : Dev Cert.ProjBwdRefIdeal.nD,
    (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.2.2.2.2.2.2.1 = (fun _ => 1#1)
    ∧ (Cert.Pre_proj_finite.fn (F := Ideal) (m ((c.tc : Thread Cert.ProjBwdRefIdeal.nD Cert.ProjBwdRefIdeal.τ).loc Cert.ProjBwdRefIdeal.main_arg0)) (m ((c.tc : Thread Cert.ProjBwdRefIdeal.nD Cert.ProjBwdRefIdeal.τ).loc Cert.ProjBwdRefIdeal.main_arg1)) (m ((c.tc : Thread Cert.ProjBwdRefIdeal.nD Cert.ProjBwdRefIdeal.τ).loc Cert.ProjBwdRefIdeal.main_arg2)) (m ((c.tc : Thread Cert.ProjBwdRefIdeal.nD Cert.ProjBwdRefIdeal.τ).loc Cert.ProjBwdRefIdeal.main_arg3)) (m ((c.tc : Thread Cert.ProjBwdRefIdeal.nD Cert.ProjBwdRefIdeal.τ).loc Cert.ProjBwdRefIdeal.main_arg4)) (m ((c.tc : Thread Cert.ProjBwdRefIdeal.nD Cert.ProjBwdRefIdeal.τ).loc Cert.ProjBwdRefIdeal.main_arg5)) (m ((c.tc : Thread Cert.ProjBwdRefIdeal.nD Cert.ProjBwdRefIdeal.τ).loc Cert.ProjBwdRefIdeal.main_arg6)) (m ((c.tc : Thread Cert.ProjBwdRefIdeal.nD Cert.ProjBwdRefIdeal.τ).loc Cert.ProjBwdRefIdeal.main_arg7)) (m ((c.tc : Thread Cert.ProjBwdRefIdeal.nD Cert.ProjBwdRefIdeal.τ).loc Cert.ProjBwdRefIdeal.main_arg8)) (m ((c.tc : Thread Cert.ProjBwdRefIdeal.nD Cert.ProjBwdRefIdeal.τ).loc Cert.ProjBwdRefIdeal.main_arg9)) (m ((c.tc : Thread Cert.ProjBwdRefIdeal.nD Cert.ProjBwdRefIdeal.τ).loc Cert.ProjBwdRefIdeal.main_arg10)) (m ((c.tc : Thread Cert.ProjBwdRefIdeal.nD Cert.ProjBwdRefIdeal.τ).loc Cert.ProjBwdRefIdeal.main_arg11)) (m ((c.tc : Thread Cert.ProjBwdRefIdeal.nD Cert.ProjBwdRefIdeal.τ).loc Cert.ProjBwdRefIdeal.main_arg12)) (m ((c.tc : Thread Cert.ProjBwdRefIdeal.nD Cert.ProjBwdRefIdeal.τ).loc Cert.ProjBwdRefIdeal.main_arg13)) (m ((c.tc : Thread Cert.ProjBwdRefIdeal.nD Cert.ProjBwdRefIdeal.τ).loc Cert.ProjBwdRefIdeal.main_arg14)) (m ((c.tc : Thread Cert.ProjBwdRefIdeal.nD Cert.ProjBwdRefIdeal.τ).loc Cert.ProjBwdRefIdeal.main_arg15)) (m ((c.tc : Thread Cert.ProjBwdRefIdeal.nD Cert.ProjBwdRefIdeal.τ).loc Cert.ProjBwdRefIdeal.main_arg16))).2.2.2.2.2.2.2.2.2.2.2.2.2.2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.2.2.2.2.2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5)) (m ((c.tc : Thread Cert.FfnIdeal.nD Cert.FfnIdeal.τ).loc Cert.FfnIdeal.main_arg6)) (m ((c.tc : Thread Cert.FfnIdeal.nD Cert.FfnIdeal.τ).loc Cert.FfnIdeal.main_arg7)) (m ((c.tc : Thread Cert.FfnIdeal.nD Cert.FfnIdeal.τ).loc Cert.FfnIdeal.main_arg8)) (m ((c.tc : Thread Cert.FfnIdeal.nD Cert.FfnIdeal.τ).loc Cert.FfnIdeal.main_arg9)) (m ((c.tc : Thread Cert.FfnIdeal.nD Cert.FfnIdeal.τ).loc Cert.FfnIdeal.main_arg10)) (m ((c.tc : Thread Cert.FfnIdeal.nD Cert.FfnIdeal.τ).loc Cert.FfnIdeal.main_arg11))).2.2.2.2.2.2.2.2.2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.2.2.2.2.2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5)) (m ((c.tc : Thread Cert.FfnRefIdeal.nD Cert.FfnRefIdeal.τ).loc Cert.FfnRefIdeal.main_arg6)) (m ((c.tc : Thread Cert.FfnRefIdeal.nD Cert.FfnRefIdeal.τ).loc Cert.FfnRefIdeal.main_arg7)) (m ((c.tc : Thread Cert.FfnRefIdeal.nD Cert.FfnRefIdeal.τ).loc Cert.FfnRefIdeal.main_arg8)) (m ((c.tc : Thread Cert.FfnRefIdeal.nD Cert.FfnRefIdeal.τ).loc Cert.FfnRefIdeal.main_arg9)) (m ((c.tc : Thread Cert.FfnRefIdeal.nD Cert.FfnRefIdeal.τ).loc Cert.FfnRefIdeal.main_arg10)) (m ((c.tc : Thread Cert.FfnRefIdeal.nD Cert.FfnRefIdeal.τ).loc Cert.FfnRefIdeal.main_arg11))).2.2.2.2.2.2.2.2.2.2.2 = (fun _ => 1#1)

def Pre_InGrad (m : (ℓ : Loc Cert.InGrad.nD Cert.InGrad.τ Cert.InGrad.sig) → Buf (Elt Bits) ℓ) : Prop :=
  True

def Pre_InGradIdeal (m : (ℓ : Loc Cert.InGradIdeal.nD Cert.InGradIdeal.τ Cert.InGradIdeal.sig) → Buf (Elt Ideal) ℓ) : Prop :=
  True

def Pre_InGradRefIdeal (m : (ℓ : Loc Cert.InGradRefIdeal.nD Cert.InGradRefIdeal.τ Cert.InGradRefIdeal.sig) → Buf (Elt Ideal) ℓ) : Prop :=
  True

def Pre_SbUp (m : (ℓ : Loc Cert.SbUp.nD Cert.SbUp.τ Cert.SbUp.sig) → Buf (Elt Bits) ℓ) : Prop :=
  True

def Pre_SbUpIdeal (m : (ℓ : Loc Cert.SbUpIdeal.nD Cert.SbUpIdeal.τ Cert.SbUpIdeal.sig) → Buf (Elt Ideal) ℓ) : Prop :=
  True

def Pre_SbUpRefIdeal (m : (ℓ : Loc Cert.SbUpRefIdeal.nD Cert.SbUpRefIdeal.τ Cert.SbUpRefIdeal.sig) → Buf (Elt Ideal) ℓ) : Prop :=
  True

def Pre_DilUp (m : (ℓ : Loc Cert.DilUp.nD Cert.DilUp.τ Cert.DilUp.sig) → Buf (Elt Bits) ℓ) : Prop :=
  True

def Pre_DilUpIdeal (m : (ℓ : Loc Cert.DilUpIdeal.nD Cert.DilUpIdeal.τ Cert.DilUpIdeal.sig) → Buf (Elt Ideal) ℓ) : Prop :=
  True

def Pre_DilUpRefIdeal (m : (ℓ : Loc Cert.DilUpRefIdeal.nD Cert.DilUpRefIdeal.τ Cert.DilUpRefIdeal.sig) → Buf (Elt Ideal) ℓ) : Prop :=
  True

def Pre_WOut (m : (ℓ : Loc Cert.WOut.nD Cert.WOut.τ Cert.WOut.sig) → Buf (Elt Bits) ℓ) : Prop :=
  True

def Pre_WOutIdeal (m : (ℓ : Loc Cert.WOutIdeal.nD Cert.WOutIdeal.τ Cert.WOutIdeal.sig) → Buf (Elt Ideal) ℓ) : Prop :=
  True

def Pre_WOutRefIdeal (m : (ℓ : Loc Cert.WOutRefIdeal.nD Cert.WOutRefIdeal.τ Cert.WOutRefIdeal.sig) → Buf (Elt Ideal) ℓ) : Prop :=
  True

def Pre_UpIn (m : (ℓ : Loc Cert.UpIn.nD Cert.UpIn.τ Cert.UpIn.sig) → Buf (Elt Bits) ℓ) : Prop :=
  True

def Pre_UpInIdeal (m : (ℓ : Loc Cert.UpInIdeal.nD Cert.UpInIdeal.τ Cert.UpInIdeal.sig) → Buf (Elt Ideal) ℓ) : Prop :=
  True

def Pre_UpInRefIdeal (m : (ℓ : Loc Cert.UpInRefIdeal.nD Cert.UpInRefIdeal.τ Cert.UpInRefIdeal.sig) → Buf (Elt Ideal) ℓ) : Prop :=
  True

def Pre_UpSb (m : (ℓ : Loc Cert.UpSb.nD Cert.UpSb.τ Cert.UpSb.sig) → Buf (Elt Bits) ℓ) : Prop :=
  True

def Pre_UpSbIdeal (m : (ℓ : Loc Cert.UpSbIdeal.nD Cert.UpSbIdeal.τ Cert.UpSbIdeal.sig) → Buf (Elt Ideal) ℓ) : Prop :=
  True

def Pre_UpSbRefIdeal (m : (ℓ : Loc Cert.UpSbRefIdeal.nD Cert.UpSbRefIdeal.τ Cert.UpSbRefIdeal.sig) → Buf (Elt Ideal) ℓ) : Prop :=
  True

def Pre_UpDil (m : (ℓ : Loc Cert.UpDil.nD Cert.UpDil.τ Cert.UpDil.sig) → Buf (Elt Bits) ℓ) : Prop :=
  True

def Pre_UpDilIdeal (m : (ℓ : Loc Cert.UpDilIdeal.nD Cert.UpDilIdeal.τ Cert.UpDilIdeal.sig) → Buf (Elt Ideal) ℓ) : Prop :=
  True

def Pre_UpDilRefIdeal (m : (ℓ : Loc Cert.UpDilRefIdeal.nD Cert.UpDilRefIdeal.τ Cert.UpDilRefIdeal.sig) → Buf (Elt Ideal) ℓ) : Prop :=
  True

def Pre_UpOut (m : (ℓ : Loc Cert.UpOut.nD Cert.UpOut.τ Cert.UpOut.sig) → Buf (Elt Bits) ℓ) : Prop :=
  True

def Pre_UpOutIdeal (m : (ℓ : Loc Cert.UpOutIdeal.nD Cert.UpOutIdeal.τ Cert.UpOutIdeal.sig) → Buf (Elt Ideal) ℓ) : Prop :=
  True

def Pre_UpOutRefIdeal (m : (ℓ : Loc Cert.UpOutRefIdeal.nD Cert.UpOutRefIdeal.τ Cert.UpOutRefIdeal.sig) → Buf (Elt Ideal) ℓ) : Prop :=
  True

def Pre_UpFfnIn (m : (ℓ : Loc Cert.UpFfnIn.nD Cert.UpFfnIn.τ Cert.UpFfnIn.sig) → Buf (Elt Bits) ℓ) : Prop :=
  True

def Pre_UpFfnInIdeal (m : (ℓ : Loc Cert.UpFfnInIdeal.nD Cert.UpFfnInIdeal.τ Cert.UpFfnInIdeal.sig) → Buf (Elt Ideal) ℓ) : Prop :=
  True

def Pre_UpFfnInRefIdeal (m : (ℓ : Loc Cert.UpFfnInRefIdeal.nD Cert.UpFfnInRefIdeal.τ Cert.UpFfnInRefIdeal.sig) → Buf (Elt Ideal) ℓ) : Prop :=
  True

def Pre_UpFfnOut (m : (ℓ : Loc Cert.UpFfnOut.nD Cert.UpFfnOut.τ Cert.UpFfnOut.sig) → Buf (Elt Bits) ℓ) : Prop :=
  True

def Pre_UpFfnOutIdeal (m : (ℓ : Loc Cert.UpFfnOutIdeal.nD Cert.UpFfnOutIdeal.τ Cert.UpFfnOutIdeal.sig) → Buf (Elt Ideal) ℓ) : Prop :=
  True

def Pre_UpFfnOutRefIdeal (m : (ℓ : Loc Cert.UpFfnOutRefIdeal.nD Cert.UpFfnOutRefIdeal.τ Cert.UpFfnOutRefIdeal.sig) → Buf (Elt Ideal) ℓ) : Prop :=
  True

def Pre_UpGains (m : (ℓ : Loc Cert.UpGains.nD Cert.UpGains.τ Cert.UpGains.sig) → Buf (Elt Bits) ℓ) : Prop :=
  True

def Pre_UpGainsIdeal (m : (ℓ : Loc Cert.UpGainsIdeal.nD Cert.UpGainsIdeal.τ Cert.UpGainsIdeal.sig) → Buf (Elt Ideal) ℓ) : Prop :=
  True

def Pre_UpGainsRefIdeal (m : (ℓ : Loc Cert.UpGainsRefIdeal.nD Cert.UpGainsRefIdeal.τ Cert.UpGainsRefIdeal.sig) → Buf (Elt Ideal) ℓ) : Prop :=
  True

def Pre_PairSum [hPre_core_ok : Cert.Pre_core_ok.Facts] (m : (ℓ : Loc Cert.PairSum.nD Cert.PairSum.τ Cert.PairSum.sig) → Buf (Elt Bits) ℓ) : Prop :=
  ∀ c : Dev Cert.PairSum.nD,
    (Cert.Pre_core_ok.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_core_ok : Cert.Pre_core_ok.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_core_ok.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_core_ok [hPre_core_ok : Cert.Pre_core_ok.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_core_ok.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))) = (fun _ => 1#1)

def Pre_ToBf16 (m : (ℓ : Loc Cert.ToBf16.nD Cert.ToBf16.τ Cert.ToBf16.sig) → Buf (Elt Bits) ℓ) : Prop :=
  True

def Pre_ToBf16Ideal (m : (ℓ : Loc Cert.ToBf16Ideal.nD Cert.ToBf16Ideal.τ Cert.ToBf16Ideal.sig) → Buf (Elt Ideal) ℓ) : Prop :=
  True

def Pre_ToBf16RefIdeal (m : (ℓ : Loc Cert.ToBf16RefIdeal.nD Cert.ToBf16RefIdeal.τ Cert.ToBf16RefIdeal.sig) → Buf (Elt Ideal) ℓ) : Prop :=
  True

def Pre_StickFwd (m : (ℓ : Loc Cert.StickFwd.nD Cert.StickFwd.τ Cert.StickFwd.sig) → Buf (Elt Bits) ℓ) : Prop :=
  True

def Pre_StickFwdIdeal (m : (ℓ : Loc Cert.StickFwdIdeal.nD Cert.StickFwdIdeal.τ Cert.StickFwdIdeal.sig) → Buf (Elt Ideal) ℓ) : Prop :=
  True

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3)
      ∧ r.2.mem ((c.tc : Thread Cert.Gate.nD Cert.Gate.τ).loc Cert.Gate.main_arg4) = m ((c.tc : Thread Cert.Gate.nD Cert.Gate.τ).loc Cert.Gate.main_arg4)
      ∧ r.2.mem ((c.tc : Thread Cert.Gate.nD Cert.Gate.τ).loc Cert.Gate.main_arg5) = m ((c.tc : Thread Cert.Gate.nD Cert.Gate.τ).loc Cert.Gate.main_arg5)
      ∧ r.2.mem ((c.tc : Thread Cert.Gate.nD Cert.Gate.τ).loc Cert.Gate.main_arg6) = m ((c.tc : Thread Cert.Gate.nD Cert.Gate.τ).loc Cert.Gate.main_arg6))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
      ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
      ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
      ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3)
      ∧ r.2.mem ((c.tc : Thread Cert.GateRefIdeal.nD Cert.GateRefIdeal.τ).loc Cert.GateRefIdeal.main_arg4) = m ((c.tc : Thread Cert.GateRefIdeal.nD Cert.GateRefIdeal.τ).loc Cert.GateRefIdeal.main_arg4)
      ∧ r.2.mem ((c.tc : Thread Cert.GateRefIdeal.nD Cert.GateRefIdeal.τ).loc Cert.GateRefIdeal.main_arg5) = m ((c.tc : Thread Cert.GateRefIdeal.nD Cert.GateRefIdeal.τ).loc Cert.GateRefIdeal.main_arg5)
      ∧ r.2.mem ((c.tc : Thread Cert.GateRefIdeal.nD Cert.GateRefIdeal.τ).loc Cert.GateRefIdeal.main_arg6) = m ((c.tc : Thread Cert.GateRefIdeal.nD Cert.GateRefIdeal.τ).loc Cert.GateRefIdeal.main_arg6))
      ∧ r.2.sem = fun _ => 0)

def quiescent_Stick [hStick : Cert.Stick.Facts] : Prop :=
  ∀ (m : (ℓ : Loc Cert.Stick.nD Cert.Stick.τ Cert.Stick.sig) → Buf (Elt Bits) ℓ) (g : Dev Cert.Stick.nD → PrngReg), Pre_Stick m →
    θ_run (Cert.Stick.defs (F := Bits)) (onTc (τ := Cert.Stick.τ) (Cert.Stick.main (F := Bits))) ⟨m, fun _ => 0, g⟩ (fun r => (∀ c : Dev Cert.Stick.nD,
      r.2.mem ((c.tc : Thread Cert.Stick.nD Cert.Stick.τ).loc Cert.Stick.main_arg0) = m ((c.tc : Thread Cert.Stick.nD Cert.Stick.τ).loc Cert.Stick.main_arg0)
      ∧ r.2.mem ((c.tc : Thread Cert.Stick.nD Cert.Stick.τ).loc Cert.Stick.main_arg1) = m ((c.tc : Thread Cert.Stick.nD Cert.Stick.τ).loc Cert.Stick.main_arg1))
      ∧ r.2.sem = fun _ => 0)

def quiescent_StickIdeal [hStickIdeal : Cert.StickIdeal.Facts] : Prop :=
  ∀ (m : (ℓ : Loc Cert.StickIdeal.nD Cert.StickIdeal.τ Cert.StickIdeal.sig) → Buf (Elt Ideal) ℓ) (g : Dev Cert.StickIdeal.nD → PrngReg), Pre_StickIdeal m →
    θ_run (Cert.StickIdeal.defs (F := Ideal)) (onTc (τ := Cert.StickIdeal.τ) (Cert.StickIdeal.main (F := Ideal))) ⟨m, fun _ => 0, g⟩ (fun r => (∀ c : Dev Cert.StickIdeal.nD,
      r.2.mem ((c.tc : Thread Cert.StickIdeal.nD Cert.StickIdeal.τ).loc Cert.StickIdeal.main_arg0) = m ((c.tc : Thread Cert.StickIdeal.nD Cert.StickIdeal.τ).loc Cert.StickIdeal.main_arg0)
      ∧ r.2.mem ((c.tc : Thread Cert.StickIdeal.nD Cert.StickIdeal.τ).loc Cert.StickIdeal.main_arg1) = m ((c.tc : Thread Cert.StickIdeal.nD Cert.StickIdeal.τ).loc Cert.StickIdeal.main_arg1))
      ∧ r.2.sem = fun _ => 0)

def quiescent_NormProj [hNormProj : Cert.NormProj.Facts] : Prop :=
  ∀ (m : (ℓ : Loc Cert.NormProj.nD Cert.NormProj.τ Cert.NormProj.sig) → Buf (Elt Bits) ℓ) (g : Dev Cert.NormProj.nD → PrngReg), Pre_NormProj m →
    θ_run (Cert.NormProj.defs (F := Bits)) (onTc (τ := Cert.NormProj.τ) (Cert.NormProj.main (F := Bits))) ⟨m, fun _ => 0, g⟩ (fun r => (∀ c : Dev Cert.NormProj.nD,
      r.2.mem ((c.tc : Thread Cert.NormProj.nD Cert.NormProj.τ).loc Cert.NormProj.main_arg0) = m ((c.tc : Thread Cert.NormProj.nD Cert.NormProj.τ).loc Cert.NormProj.main_arg0)
      ∧ r.2.mem ((c.tc : Thread Cert.NormProj.nD Cert.NormProj.τ).loc Cert.NormProj.main_arg1) = m ((c.tc : Thread Cert.NormProj.nD Cert.NormProj.τ).loc Cert.NormProj.main_arg1)
      ∧ r.2.mem ((c.tc : Thread Cert.NormProj.nD Cert.NormProj.τ).loc Cert.NormProj.main_arg2) = m ((c.tc : Thread Cert.NormProj.nD Cert.NormProj.τ).loc Cert.NormProj.main_arg2))
      ∧ r.2.sem = fun _ => 0)

def quiescent_NormProjIdeal [hNormProjIdeal : Cert.NormProjIdeal.Facts] : Prop :=
  ∀ (m : (ℓ : Loc Cert.NormProjIdeal.nD Cert.NormProjIdeal.τ Cert.NormProjIdeal.sig) → Buf (Elt Ideal) ℓ) (g : Dev Cert.NormProjIdeal.nD → PrngReg), Pre_NormProjIdeal m →
    θ_run (Cert.NormProjIdeal.defs (F := Ideal)) (onTc (τ := Cert.NormProjIdeal.τ) (Cert.NormProjIdeal.main (F := Ideal))) ⟨m, fun _ => 0, g⟩ (fun r => (∀ c : Dev Cert.NormProjIdeal.nD,
      r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
      ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
      ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ r.2.sem = fun _ => 0)

def quiescent_NormProjRefIdeal [hNormProjRefIdeal : Cert.NormProjRefIdeal.Facts] : Prop :=
  ∀ (m : (ℓ : Loc Cert.NormProjRefIdeal.nD Cert.NormProjRefIdeal.τ Cert.NormProjRefIdeal.sig) → Buf (Elt Ideal) ℓ) (g : Dev Cert.NormProjRefIdeal.nD → PrngReg), Pre_NormProjRefIdeal m →
    θ_run (Cert.NormProjRefIdeal.defs (F := Ideal)) (onTc (τ := Cert.NormProjRefIdeal.τ) (Cert.NormProjRefIdeal.main (F := Ideal))) ⟨m, fun _ => 0, g⟩ (fun r => (∀ c : Dev Cert.NormProjRefIdeal.nD,
      r.2.mem ((c.tc : Thread Cert.NormProjRefIdeal.nD Cert.NormProjRefIdeal.τ).loc Cert.NormProjRefIdeal.main_arg0) = m ((c.tc : Thread Cert.NormProjRefIdeal.nD Cert.NormProjRefIdeal.τ).loc Cert.NormProjRefIdeal.main_arg0)
      ∧ r.2.mem ((c.tc : Thread Cert.NormProjRefIdeal.nD Cert.NormProjRefIdeal.τ).loc Cert.NormProjRefIdeal.main_arg1) = m ((c.tc : Thread Cert.NormProjRefIdeal.nD Cert.NormProjRefIdeal.τ).loc Cert.NormProjRefIdeal.main_arg1)
      ∧ r.2.mem ((c.tc : Thread Cert.NormProjRefIdeal.nD Cert.NormProjRefIdeal.τ).loc Cert.NormProjRefIdeal.main_arg2) = m ((c.tc : Thread Cert.NormProjRefIdeal.nD Cert.NormProjRefIdeal.τ).loc Cert.NormProjRefIdeal.main_arg2))
      ∧ r.2.sem = fun _ => 0)

def quiescent_FfnIn [hFfnIn : Cert.FfnIn.Facts] : Prop :=
  ∀ (m : (ℓ : Loc Cert.FfnIn.nD Cert.FfnIn.τ Cert.FfnIn.sig) → Buf (Elt Bits) ℓ) (g : Dev Cert.FfnIn.nD → PrngReg), Pre_FfnIn m →
    θ_run (Cert.FfnIn.defs (F := Bits)) (onTc (τ := Cert.FfnIn.τ) (Cert.FfnIn.main (F := Bits))) ⟨m, fun _ => 0, g⟩ (fun r => (∀ c : Dev Cert.FfnIn.nD,
      r.2.mem ((c.tc : Thread Cert.FfnIn.nD Cert.FfnIn.τ).loc Cert.FfnIn.main_arg0) = m ((c.tc : Thread Cert.FfnIn.nD Cert.FfnIn.τ).loc Cert.FfnIn.main_arg0)
      ∧ r.2.mem ((c.tc : Thread Cert.FfnIn.nD Cert.FfnIn.τ).loc Cert.FfnIn.main_arg1) = m ((c.tc : Thread Cert.FfnIn.nD Cert.FfnIn.τ).loc Cert.FfnIn.main_arg1))
      ∧ r.2.sem = fun _ => 0)

def quiescent_FfnInIdeal [hFfnInIdeal : Cert.FfnInIdeal.Facts] : Prop :=
  ∀ (m : (ℓ : Loc Cert.FfnInIdeal.nD Cert.FfnInIdeal.τ Cert.FfnInIdeal.sig) → Buf (Elt Ideal) ℓ) (g : Dev Cert.FfnInIdeal.nD → PrngReg), Pre_FfnInIdeal m →
    θ_run (Cert.FfnInIdeal.defs (F := Ideal)) (onTc (τ := Cert.FfnInIdeal.τ) (Cert.FfnInIdeal.main (F := Ideal))) ⟨m, fun _ => 0, g⟩ (fun r => (∀ c : Dev Cert.FfnInIdeal.nD,
      r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
      ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ r.2.sem = fun _ => 0)

def quiescent_FfnInRefIdeal [hFfnInRefIdeal : Cert.FfnInRefIdeal.Facts] : Prop :=
  ∀ (m : (ℓ : Loc Cert.FfnInRefIdeal.nD Cert.FfnInRefIdeal.τ Cert.FfnInRefIdeal.sig) → Buf (Elt Ideal) ℓ) (g : Dev Cert.FfnInRefIdeal.nD → PrngReg), Pre_FfnInRefIdeal m →
    θ_run (Cert.FfnInRefIdeal.defs (F := Ideal)) (onTc (τ := Cert.FfnInRefIdeal.τ) (Cert.FfnInRefIdeal.main (F := Ideal))) ⟨m, fun _ => 0, g⟩ (fun r => (∀ c : Dev Cert.FfnInRefIdeal.nD,
      r.2.mem ((c.tc : Thread Cert.FfnInRefIdeal.nD Cert.FfnInRefIdeal.τ).loc Cert.FfnInRefIdeal.main_arg0) = m ((c.tc : Thread Cert.FfnInRefIdeal.nD Cert.FfnInRefIdeal.τ).loc Cert.FfnInRefIdeal.main_arg0)
      ∧ r.2.mem ((c.tc : Thread Cert.FfnInRefIdeal.nD Cert.FfnInRefIdeal.τ).loc Cert.FfnInRefIdeal.main_arg1) = m ((c.tc : Thread Cert.FfnInRefIdeal.nD Cert.FfnInRefIdeal.τ).loc Cert.FfnInRefIdeal.main_arg1))
      ∧ r.2.sem = fun _ => 0)

def quiescent_FfnOut [hFfnOut : Cert.FfnOut.Facts] : Prop :=
  ∀ (m : (ℓ : Loc Cert.FfnOut.nD Cert.FfnOut.τ Cert.FfnOut.sig) → Buf (Elt Bits) ℓ) (g : Dev Cert.FfnOut.nD → PrngReg), Pre_FfnOut m →
    θ_run (Cert.FfnOut.defs (F := Bits)) (onTc (τ := Cert.FfnOut.τ) (Cert.FfnOut.main (F := Bits))) ⟨m, fun _ => 0, g⟩ (fun r => (∀ c : Dev Cert.FfnOut.nD,
      r.2.mem ((c.tc : Thread Cert.FfnOut.nD Cert.FfnOut.τ).loc Cert.FfnOut.main_arg0) = m ((c.tc : Thread Cert.FfnOut.nD Cert.FfnOut.τ).loc Cert.FfnOut.main_arg0)
      ∧ r.2.mem ((c.tc : Thread Cert.FfnOut.nD Cert.FfnOut.τ).loc Cert.FfnOut.main_arg1) = m ((c.tc : Thread Cert.FfnOut.nD Cert.FfnOut.τ).loc Cert.FfnOut.main_arg1))
      ∧ r.2.sem = fun _ => 0)

def quiescent_FfnOutIdeal [hFfnOutIdeal : Cert.FfnOutIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg), Pre_FfnOutIdeal m →
    θ_run (Cert.FfnOutIdeal.defs (F := Ideal)) (onTc (τ := Cert.FfnOutIdeal.τ) (Cert.FfnOutIdeal.main (F := Ideal))) ⟨m, fun _ => 0, g⟩ (fun r => (∀ c : Dev Cert.FfnOutIdeal.nD,
      r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
      ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ r.2.sem = fun _ => 0)

def quiescent_FfnOutRefIdeal [hFfnOutRefIdeal : Cert.FfnOutRefIdeal.Facts] : Prop :=
  ∀ (m : (ℓ : Loc Cert.FfnOutRefIdeal.nD Cert.FfnOutRefIdeal.τ Cert.FfnOutRefIdeal.sig) → Buf (Elt Ideal) ℓ) (g : Dev Cert.FfnOutRefIdeal.nD → PrngReg), Pre_FfnOutRefIdeal m →
    θ_run (Cert.FfnOutRefIdeal.defs (F := Ideal)) (onTc (τ := Cert.FfnOutRefIdeal.τ) (Cert.FfnOutRefIdeal.main (F := Ideal))) ⟨m, fun _ => 0, g⟩ (fun r => (∀ c : Dev Cert.FfnOutRefIdeal.nD,
      r.2.mem ((c.tc : Thread Cert.FfnOutRefIdeal.nD Cert.FfnOutRefIdeal.τ).loc Cert.FfnOutRefIdeal.main_arg0) = m ((c.tc : Thread Cert.FfnOutRefIdeal.nD Cert.FfnOutRefIdeal.τ).loc Cert.FfnOutRefIdeal.main_arg0)
      ∧ r.2.mem ((c.tc : Thread Cert.FfnOutRefIdeal.nD Cert.FfnOutRefIdeal.τ).loc Cert.FfnOutRefIdeal.main_arg1) = m ((c.tc : Thread Cert.FfnOutRefIdeal.nD Cert.FfnOutRefIdeal.τ).loc Cert.FfnOutRefIdeal.main_arg1))
      ∧ r.2.sem = fun _ => 0)

def quiescent_ProjBwd [hProjBwd : Cert.ProjBwd.Facts] : Prop :=
  ∀ (m : (ℓ : Loc Cert.ProjBwd.nD Cert.ProjBwd.τ Cert.ProjBwd.sig) → Buf (Elt Bits) ℓ) (g : Dev Cert.ProjBwd.nD → PrngReg), Pre_ProjBwd m →
    θ_run (Cert.ProjBwd.defs (F := Bits)) (onTc (τ := Cert.ProjBwd.τ) (Cert.ProjBwd.main (F := Bits))) ⟨m, fun _ => 0, g⟩ (fun r => (∀ c : Dev Cert.ProjBwd.nD,
      r.2.mem ((c.tc : Thread Cert.ProjBwd.nD Cert.ProjBwd.τ).loc Cert.ProjBwd.main_arg0) = m ((c.tc : Thread Cert.ProjBwd.nD Cert.ProjBwd.τ).loc Cert.ProjBwd.main_arg0)
      ∧ r.2.mem ((c.tc : Thread Cert.ProjBwd.nD Cert.ProjBwd.τ).loc Cert.ProjBwd.main_arg1) = m ((c.tc : Thread Cert.ProjBwd.nD Cert.ProjBwd.τ).loc Cert.ProjBwd.main_arg1)
      ∧ r.2.mem ((c.tc : Thread Cert.ProjBwd.nD Cert.ProjBwd.τ).loc Cert.ProjBwd.main_arg2) = m ((c.tc : Thread Cert.ProjBwd.nD Cert.ProjBwd.τ).loc Cert.ProjBwd.main_arg2)
      ∧ r.2.mem ((c.tc : Thread Cert.ProjBwd.nD Cert.ProjBwd.τ).loc Cert.ProjBwd.main_arg3) = m ((c.tc : Thread Cert.ProjBwd.nD Cert.ProjBwd.τ).loc Cert.ProjBwd.main_arg3)
      ∧ r.2.mem ((c.tc : Thread Cert.ProjBwd.nD Cert.ProjBwd.τ).loc Cert.ProjBwd.main_arg4) = m ((c.tc : Thread Cert.ProjBwd.nD Cert.ProjBwd.τ).loc Cert.ProjBwd.main_arg4)
      ∧ r.2.mem ((c.tc : Thread Cert.ProjBwd.nD Cert.ProjBwd.τ).loc Cert.ProjBwd.main_arg5) = m ((c.tc : Thread Cert.ProjBwd.nD Cert.ProjBwd.τ).loc Cert.ProjBwd.main_arg5)
      ∧ r.2.mem ((c.tc : Thread Cert.ProjBwd.nD Cert.ProjBwd.τ).loc Cert.ProjBwd.main_arg6) = m ((c.tc : Thread Cert.ProjBwd.nD Cert.ProjBwd.τ).loc Cert.ProjBwd.main_arg6)
      ∧ r.2.mem ((c.tc : Thread Cert.ProjBwd.nD Cert.ProjBwd.τ).loc Cert.ProjBwd.main_arg7) = m ((c.tc : Thread Cert.ProjBwd.nD Cert.ProjBwd.τ).loc Cert.ProjBwd.main_arg7)
      ∧ r.2.mem ((c.tc : Thread Cert.ProjBwd.nD Cert.ProjBwd.τ).loc Cert.ProjBwd.main_arg8) = m ((c.tc : Thread Cert.ProjBwd.nD Cert.ProjBwd.τ).loc Cert.ProjBwd.main_arg8)
      ∧ r.2.mem ((c.tc : Thread Cert.ProjBwd.nD Cert.ProjBwd.τ).loc Cert.ProjBwd.main_arg9) = m ((c.tc : Thread Cert.ProjBwd.nD Cert.ProjBwd.τ).loc Cert.ProjBwd.main_arg9)
      ∧ r.2.mem ((c.tc : Thread Cert.ProjBwd.nD Cert.ProjBwd.τ).loc Cert.ProjBwd.main_arg10) = m ((c.tc : Thread Cert.ProjBwd.nD Cert.ProjBwd.τ).loc Cert.ProjBwd.main_arg10)
      ∧ r.2.mem ((c.tc : Thread Cert.ProjBwd.nD Cert.ProjBwd.τ).loc Cert.ProjBwd.main_arg11) = m ((c.tc : Thread Cert.ProjBwd.nD Cert.ProjBwd.τ).loc Cert.ProjBwd.main_arg11)
      ∧ r.2.mem ((c.tc : Thread Cert.ProjBwd.nD Cert.ProjBwd.τ).loc Cert.ProjBwd.main_arg12) = m ((c.tc : Thread Cert.ProjBwd.nD Cert.ProjBwd.τ).loc Cert.ProjBwd.main_arg12)
      ∧ r.2.mem ((c.tc : Thread Cert.ProjBwd.nD Cert.ProjBwd.τ).loc Cert.ProjBwd.main_arg13) = m ((c.tc : Thread Cert.ProjBwd.nD Cert.ProjBwd.τ).loc Cert.ProjBwd.main_arg13)
      ∧ r.2.mem ((c.tc : Thread Cert.ProjBwd.nD Cert.ProjBwd.τ).loc Cert.ProjBwd.main_arg14) = m ((c.tc : Thread Cert.ProjBwd.nD Cert.ProjBwd.τ).loc Cert.ProjBwd.main_arg14)
      ∧ r.2.mem ((c.tc : Thread Cert.ProjBwd.nD Cert.ProjBwd.τ).loc Cert.ProjBwd.main_arg15) = m ((c.tc : Thread Cert.ProjBwd.nD Cert.ProjBwd.τ).loc Cert.ProjBwd.main_arg15)
      ∧ r.2.mem ((c.tc : Thread Cert.ProjBwd.nD Cert.ProjBwd.τ).loc Cert.ProjBwd.main_arg16) = m ((c.tc : Thread Cert.ProjBwd.nD Cert.ProjBwd.τ).loc Cert.ProjBwd.main_arg16))
      ∧ r.2.sem = fun _ => 0)

def quiescent_ProjBwdIdeal [hProjBwdIdeal : Cert.ProjBwdIdeal.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
      ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11)
      ∧ r.2.mem ((c.tc : Thread Cert.ProjBwdIdeal.nD Cert.ProjBwdIdeal.τ).loc Cert.ProjBwdIdeal.main_arg12) = m ((c.tc : Thread Cert.ProjBwdIdeal.nD Cert.ProjBwdIdeal.τ).loc Cert.ProjBwdIdeal.main_arg12)
      ∧ r.2.mem ((c.tc : Thread Cert.ProjBwdIdeal.nD Cert.ProjBwdIdeal.τ).loc Cert.ProjBwdIdeal.main_arg13) = m ((c.tc : Thread Cert.ProjBwdIdeal.nD Cert.ProjBwdIdeal.τ).loc Cert.ProjBwdIdeal.main_arg13)
      ∧ r.2.mem ((c.tc : Thread Cert.ProjBwdIdeal.nD Cert.ProjBwdIdeal.τ).loc Cert.ProjBwdIdeal.main_arg14) = m ((c.tc : Thread Cert.ProjBwdIdeal.nD Cert.ProjBwdIdeal.τ).loc Cert.ProjBwdIdeal.main_arg14)
      ∧ r.2.mem ((c.tc : Thread Cert.ProjBwdIdeal.nD Cert.ProjBwdIdeal.τ).loc Cert.ProjBwdIdeal.main_arg15) = m ((c.tc : Thread Cert.ProjBwdIdeal.nD Cert.ProjBwdIdeal.τ).loc Cert.ProjBwdIdeal.main_arg15)
      ∧ r.2.mem ((c.tc : Thread Cert.ProjBwdIdeal.nD Cert.ProjBwdIdeal.τ).loc Cert.ProjBwdIdeal.main_arg16) = m ((c.tc : Thread Cert.ProjBwdIdeal.nD Cert.ProjBwdIdeal.τ).loc Cert.ProjBwdIdeal.main_arg16))
      ∧ r.2.sem = fun _ => 0)

def quiescent_ProjBwdIdeal_pre_proj_finite [hProjBwdIdeal : Cert.ProjBwdIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg), Pre_ProjBwdIdeal_proj_finite m →
    θ_run (Cert.ProjBwdIdeal.defs (F := Ideal)) (onTc (τ := Cert.ProjBwdIdeal.τ) (Cert.ProjBwdIdeal.main (F := Ideal))) ⟨m, fun _ => 0, g⟩ (fun r => (∀ c : Dev Cert.ProjBwdIdeal.nD,
      r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
      ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
      ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
      ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
      ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
      ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
      ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
      ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
      ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
      ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
      ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
      ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11)
      ∧ r.2.mem ((c.tc : Thread Cert.ProjBwdIdeal.nD Cert.ProjBwdIdeal.τ).loc Cert.ProjBwdIdeal.main_arg12) = m ((c.tc : Thread Cert.ProjBwdIdeal.nD Cert.ProjBwdIdeal.τ).loc Cert.ProjBwdIdeal.main_arg12)
      ∧ r.2.mem ((c.tc : Thread Cert.ProjBwdIdeal.nD Cert.ProjBwdIdeal.τ).loc Cert.ProjBwdIdeal.main_arg13) = m ((c.tc : Thread Cert.ProjBwdIdeal.nD Cert.ProjBwdIdeal.τ).loc Cert.ProjBwdIdeal.main_arg13)
      ∧ r.2.mem ((c.tc : Thread Cert.ProjBwdIdeal.nD Cert.ProjBwdIdeal.τ).loc Cert.ProjBwdIdeal.main_arg14) = m ((c.tc : Thread Cert.ProjBwdIdeal.nD Cert.ProjBwdIdeal.τ).loc Cert.ProjBwdIdeal.main_arg14)
      ∧ r.2.mem ((c.tc : Thread Cert.ProjBwdIdeal.nD Cert.ProjBwdIdeal.τ).loc Cert.ProjBwdIdeal.main_arg15) = m ((c.tc : Thread Cert.ProjBwdIdeal.nD Cert.ProjBwdIdeal.τ).loc Cert.ProjBwdIdeal.main_arg15)
      ∧ r.2.mem ((c.tc : Thread Cert.ProjBwdIdeal.nD Cert.ProjBwdIdeal.τ).loc Cert.ProjBwdIdeal.main_arg16) = m ((c.tc : Thread Cert.ProjBwdIdeal.nD Cert.ProjBwdIdeal.τ).loc Cert.ProjBwdIdeal.main_arg16))
      ∧ r.2.sem = fun _ => 0)

def quiescent_ProjBwdRefIdeal [hProjBwdRefIdeal : Cert.ProjBwdRefIdeal.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6)
      ∧ r.2.mem ((c.tc : Thread Cert.ProjBwdRefIdeal.nD Cert.ProjBwdRefIdeal.τ).loc Cert.ProjBwdRefIdeal.main_arg7) = m ((c.tc : Thread Cert.ProjBwdRefIdeal.nD Cert.ProjBwdRefIdeal.τ).loc Cert.ProjBwdRefIdeal.main_arg7)
      ∧ r.2.mem ((c.tc : Thread Cert.ProjBwdRefIdeal.nD Cert.ProjBwdRefIdeal.τ).loc Cert.ProjBwdRefIdeal.main_arg8) = m ((c.tc : Thread Cert.ProjBwdRefIdeal.nD Cert.ProjBwdRefIdeal.τ).loc Cert.ProjBwdRefIdeal.main_arg8)
      ∧ r.2.mem ((c.tc : Thread Cert.ProjBwdRefIdeal.nD Cert.ProjBwdRefIdeal.τ).loc Cert.ProjBwdRefIdeal.main_arg9) = m ((c.tc : Thread Cert.ProjBwdRefIdeal.nD Cert.ProjBwdRefIdeal.τ).loc Cert.ProjBwdRefIdeal.main_arg9)
      ∧ r.2.mem ((c.tc : Thread Cert.ProjBwdRefIdeal.nD Cert.ProjBwdRefIdeal.τ).loc Cert.ProjBwdRefIdeal.main_arg10) = m ((c.tc : Thread Cert.ProjBwdRefIdeal.nD Cert.ProjBwdRefIdeal.τ).loc Cert.ProjBwdRefIdeal.main_arg10)
      ∧ r.2.mem ((c.tc : Thread Cert.ProjBwdRefIdeal.nD Cert.ProjBwdRefIdeal.τ).loc Cert.ProjBwdRefIdeal.main_arg11) = m ((c.tc : Thread Cert.ProjBwdRefIdeal.nD Cert.ProjBwdRefIdeal.τ).loc Cert.ProjBwdRefIdeal.main_arg11)
      ∧ r.2.mem ((c.tc : Thread Cert.ProjBwdRefIdeal.nD Cert.ProjBwdRefIdeal.τ).loc Cert.ProjBwdRefIdeal.main_arg12) = m ((c.tc : Thread Cert.ProjBwdRefIdeal.nD Cert.ProjBwdRefIdeal.τ).loc Cert.ProjBwdRefIdeal.main_arg12)
      ∧ r.2.mem ((c.tc : Thread Cert.ProjBwdRefIdeal.nD Cert.ProjBwdRefIdeal.τ).loc Cert.ProjBwdRefIdeal.main_arg13) = m ((c.tc : Thread Cert.ProjBwdRefIdeal.nD Cert.ProjBwdRefIdeal.τ).loc Cert.ProjBwdRefIdeal.main_arg13)
      ∧ r.2.mem ((c.tc : Thread Cert.ProjBwdRefIdeal.nD Cert.ProjBwdRefIdeal.τ).loc Cert.ProjBwdRefIdeal.main_arg14) = m ((c.tc : Thread Cert.ProjBwdRefIdeal.nD Cert.ProjBwdRefIdeal.τ).loc Cert.ProjBwdRefIdeal.main_arg14)
      ∧ r.2.mem ((c.tc : Thread Cert.ProjBwdRefIdeal.nD Cert.ProjBwdRefIdeal.τ).loc Cert.ProjBwdRefIdeal.main_arg15) = m ((c.tc : Thread Cert.ProjBwdRefIdeal.nD Cert.ProjBwdRefIdeal.τ).loc Cert.ProjBwdRefIdeal.main_arg15)
      ∧ r.2.mem ((c.tc : Thread Cert.ProjBwdRefIdeal.nD Cert.ProjBwdRefIdeal.τ).loc Cert.ProjBwdRefIdeal.main_arg16) = m ((c.tc : Thread Cert.ProjBwdRefIdeal.nD Cert.ProjBwdRefIdeal.τ).loc Cert.ProjBwdRefIdeal.main_arg16))
      ∧ r.2.sem = fun _ => 0)

def quiescent_ProjBwdRefIdeal_pre_proj_finite [hProjBwdRefIdeal : Cert.ProjBwdRefIdeal.Facts] [hPre_proj_finite : Cert.Pre_proj_finite.Facts] : Prop :=
  ∀ (m : (ℓ : Loc Cert.ProjBwdRefIdeal.nD Cert.ProjBwdRefIdeal.τ Cert.ProjBwdRefIdeal.sig) → Buf (Elt Ideal) ℓ) (g : Dev Cert.ProjBwdRefIdeal.nD → PrngReg), Pre_ProjBwdRefIdeal_proj_finite m →
    θ_run (Cert.ProjBwdRefIdeal.defs (F := Ideal)) (onTc (τ := Cert.ProjBwdRefIdeal.τ) (Cert.ProjBwdRefIdeal.main (F := Ideal))) ⟨m, fun _ => 0, g⟩ (fun r => (∀ c : Dev Cert.ProjBwdRefIdeal.nD,
      r.2.mem ((c.tc : Thread Cert.ProjBwdRefIdeal.nD Cert.ProjBwdRefIdeal.τ).loc Cert.ProjBwdRefIdeal.main_arg0) = m ((c.tc : Thread Cert.ProjBwdRefIdeal.nD Cert.ProjBwdRefIdeal.τ).loc Cert.ProjBwdRefIdeal.main_arg0)
      ∧ r.2.mem ((c.tc : Thread Cert.ProjBwdRefIdeal.nD Cert.ProjBwdRefIdeal.τ).loc Cert.ProjBwdRefIdeal.main_arg1) = m ((c.tc : Thread Cert.ProjBwdRefIdeal.nD Cert.ProjBwdRefIdeal.τ).loc Cert.ProjBwdRefIdeal.main_arg1)
      ∧ r.2.mem ((c.tc : Thread Cert.ProjBwdRefIdeal.nD Cert.ProjBwdRefIdeal.τ).loc Cert.ProjBwdRefIdeal.main_arg2) = m ((c.tc : Thread Cert.ProjBwdRefIdeal.nD Cert.ProjBwdRefIdeal.τ).loc Cert.ProjBwdRefIdeal.main_arg2)
      ∧ r.2.mem ((c.tc : Thread Cert.ProjBwdRefIdeal.nD Cert.ProjBwdRefIdeal.τ).loc Cert.ProjBwdRefIdeal.main_arg3) = m ((c.tc : Thread Cert.ProjBwdRefIdeal.nD Cert.ProjBwdRefIdeal.τ).loc Cert.ProjBwdRefIdeal.main_arg3)
      ∧ r.2.mem ((c.tc : Thread Cert.ProjBwdRefIdeal.nD Cert.ProjBwdRefIdeal.τ).loc Cert.ProjBwdRefIdeal.main_arg4) = m ((c.tc : Thread Cert.ProjBwdRefIdeal.nD Cert.ProjBwdRefIdeal.τ).loc Cert.ProjBwdRefIdeal.main_arg4)
      ∧ r.2.mem ((c.tc : Thread Cert.ProjBwdRefIdeal.nD Cert.ProjBwdRefIdeal.τ).loc Cert.ProjBwdRefIdeal.main_arg5) = m ((c.tc : Thread Cert.ProjBwdRefIdeal.nD Cert.ProjBwdRefIdeal.τ).loc Cert.ProjBwdRefIdeal.main_arg5)
      ∧ r.2.mem ((c.tc : Thread Cert.ProjBwdRefIdeal.nD Cert.ProjBwdRefIdeal.τ).loc Cert.ProjBwdRefIdeal.main_arg6) = m ((c.tc : Thread Cert.ProjBwdRefIdeal.nD Cert.ProjBwdRefIdeal.τ).loc Cert.ProjBwdRefIdeal.main_arg6)
      ∧ r.2.mem ((c.tc : Thread Cert.ProjBwdRefIdeal.nD Cert.ProjBwdRefIdeal.τ).loc Cert.ProjBwdRefIdeal.main_arg7) = m ((c.tc : Thread Cert.ProjBwdRefIdeal.nD Cert.ProjBwdRefIdeal.τ).loc Cert.ProjBwdRefIdeal.main_arg7)
      ∧ r.2.mem ((c.tc : Thread Cert.ProjBwdRefIdeal.nD Cert.ProjBwdRefIdeal.τ).loc Cert.ProjBwdRefIdeal.main_arg8) = m ((c.tc : Thread Cert.ProjBwdRefIdeal.nD Cert.ProjBwdRefIdeal.τ).loc Cert.ProjBwdRefIdeal.main_arg8)
      ∧ r.2.mem ((c.tc : Thread Cert.ProjBwdRefIdeal.nD Cert.ProjBwdRefIdeal.τ).loc Cert.ProjBwdRefIdeal.main_arg9) = m ((c.tc : Thread Cert.ProjBwdRefIdeal.nD Cert.ProjBwdRefIdeal.τ).loc Cert.ProjBwdRefIdeal.main_arg9)
      ∧ r.2.mem ((c.tc : Thread Cert.ProjBwdRefIdeal.nD Cert.ProjBwdRefIdeal.τ).loc Cert.ProjBwdRefIdeal.main_arg10) = m ((c.tc : Thread Cert.ProjBwdRefIdeal.nD Cert.ProjBwdRefIdeal.τ).loc Cert.ProjBwdRefIdeal.main_arg10)
      ∧ r.2.mem ((c.tc : Thread Cert.ProjBwdRefIdeal.nD Cert.ProjBwdRefIdeal.τ).loc Cert.ProjBwdRefIdeal.main_arg11) = m ((c.tc : Thread Cert.ProjBwdRefIdeal.nD Cert.ProjBwdRefIdeal.τ).loc Cert.ProjBwdRefIdeal.main_arg11)
      ∧ r.2.mem ((c.tc : Thread Cert.ProjBwdRefIdeal.nD Cert.ProjBwdRefIdeal.τ).loc Cert.ProjBwdRefIdeal.main_arg12) = m ((c.tc : Thread Cert.ProjBwdRefIdeal.nD Cert.ProjBwdRefIdeal.τ).loc Cert.ProjBwdRefIdeal.main_arg12)
      ∧ r.2.mem ((c.tc : Thread Cert.ProjBwdRefIdeal.nD Cert.ProjBwdRefIdeal.τ).loc Cert.ProjBwdRefIdeal.main_arg13) = m ((c.tc : Thread Cert.ProjBwdRefIdeal.nD Cert.ProjBwdRefIdeal.τ).loc Cert.ProjBwdRefIdeal.main_arg13)
      ∧ r.2.mem ((c.tc : Thread Cert.ProjBwdRefIdeal.nD Cert.ProjBwdRefIdeal.τ).loc Cert.ProjBwdRefIdeal.main_arg14) = m ((c.tc : Thread Cert.ProjBwdRefIdeal.nD Cert.ProjBwdRefIdeal.τ).loc Cert.ProjBwdRefIdeal.main_arg14)
      ∧ r.2.mem ((c.tc : Thread Cert.ProjBwdRefIdeal.nD Cert.ProjBwdRefIdeal.τ).loc Cert.ProjBwdRefIdeal.main_arg15) = m ((c.tc : Thread Cert.ProjBwdRefIdeal.nD Cert.ProjBwdRefIdeal.τ).loc Cert.ProjBwdRefIdeal.main_arg15)
      ∧ r.2.mem ((c.tc : Thread Cert.ProjBwdRefIdeal.nD Cert.ProjBwdRefIdeal.τ).loc Cert.ProjBwdRefIdeal.main_arg16) = m ((c.tc : Thread Cert.ProjBwdRefIdeal.nD Cert.ProjBwdRefIdeal.τ).loc Cert.ProjBwdRefIdeal.main_arg16))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9)
      ∧ r.2.mem ((c.tc : Thread Cert.Ffn.nD Cert.Ffn.τ).loc Cert.Ffn.main_arg10) = m ((c.tc : Thread Cert.Ffn.nD Cert.Ffn.τ).loc Cert.Ffn.main_arg10)
      ∧ r.2.mem ((c.tc : Thread Cert.Ffn.nD Cert.Ffn.τ).loc Cert.Ffn.main_arg11) = m ((c.tc : Thread Cert.Ffn.nD Cert.Ffn.τ).loc Cert.Ffn.main_arg11))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
      ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
      ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9)
      ∧ r.2.mem ((c.tc : Thread Cert.FfnRefIdeal.nD Cert.FfnRefIdeal.τ).loc Cert.FfnRefIdeal.main_arg10) = m ((c.tc : Thread Cert.FfnRefIdeal.nD Cert.FfnRefIdeal.τ).loc Cert.FfnRefIdeal.main_arg10)
      ∧ r.2.mem ((c.tc : Thread Cert.FfnRefIdeal.nD Cert.FfnRefIdeal.τ).loc Cert.FfnRefIdeal.main_arg11) = m ((c.tc : Thread Cert.FfnRefIdeal.nD Cert.FfnRefIdeal.τ).loc Cert.FfnRefIdeal.main_arg11))
      ∧ r.2.sem = fun _ => 0)

def quiescent_InGrad [hInGrad : Cert.InGrad.Facts] : Prop :=
  ∀ (m : (ℓ : Loc Cert.InGrad.nD Cert.InGrad.τ Cert.InGrad.sig) → Buf (Elt Bits) ℓ) (g : Dev Cert.InGrad.nD → PrngReg), Pre_InGrad m →
    θ_run (Cert.InGrad.defs (F := Bits)) (onTc (τ := Cert.InGrad.τ) (Cert.InGrad.main (F := Bits))) ⟨m, fun _ => 0, g⟩ (fun r => (∀ c : Dev Cert.InGrad.nD,
      r.2.mem ((c.tc : Thread Cert.InGrad.nD Cert.InGrad.τ).loc Cert.InGrad.main_arg0) = m ((c.tc : Thread Cert.InGrad.nD Cert.InGrad.τ).loc Cert.InGrad.main_arg0)
      ∧ r.2.mem ((c.tc : Thread Cert.InGrad.nD Cert.InGrad.τ).loc Cert.InGrad.main_arg1) = m ((c.tc : Thread Cert.InGrad.nD Cert.InGrad.τ).loc Cert.InGrad.main_arg1)
      ∧ r.2.mem ((c.tc : Thread Cert.InGrad.nD Cert.InGrad.τ).loc Cert.InGrad.main_arg2) = m ((c.tc : Thread Cert.InGrad.nD Cert.InGrad.τ).loc Cert.InGrad.main_arg2)
      ∧ r.2.mem ((c.tc : Thread Cert.InGrad.nD Cert.InGrad.τ).loc Cert.InGrad.main_arg3) = m ((c.tc : Thread Cert.InGrad.nD Cert.InGrad.τ).loc Cert.InGrad.main_arg3)
      ∧ r.2.mem ((c.tc : Thread Cert.InGrad.nD Cert.InGrad.τ).loc Cert.InGrad.main_arg4) = m ((c.tc : Thread Cert.InGrad.nD Cert.InGrad.τ).loc Cert.InGrad.main_arg4)
      ∧ r.2.mem ((c.tc : Thread Cert.InGrad.nD Cert.InGrad.τ).loc Cert.InGrad.main_arg5) = m ((c.tc : Thread Cert.InGrad.nD Cert.InGrad.τ).loc Cert.InGrad.main_arg5)
      ∧ r.2.mem ((c.tc : Thread Cert.InGrad.nD Cert.InGrad.τ).loc Cert.InGrad.main_arg6) = m ((c.tc : Thread Cert.InGrad.nD Cert.InGrad.τ).loc Cert.InGrad.main_arg6)
      ∧ r.2.mem ((c.tc : Thread Cert.InGrad.nD Cert.InGrad.τ).loc Cert.InGrad.main_arg7) = m ((c.tc : Thread Cert.InGrad.nD Cert.InGrad.τ).loc Cert.InGrad.main_arg7)
      ∧ r.2.mem ((c.tc : Thread Cert.InGrad.nD Cert.InGrad.τ).loc Cert.InGrad.main_arg8) = m ((c.tc : Thread Cert.InGrad.nD Cert.InGrad.τ).loc Cert.InGrad.main_arg8)
      ∧ r.2.mem ((c.tc : Thread Cert.InGrad.nD Cert.InGrad.τ).loc Cert.InGrad.main_arg9) = m ((c.tc : Thread Cert.InGrad.nD Cert.InGrad.τ).loc Cert.InGrad.main_arg9)
      ∧ r.2.mem ((c.tc : Thread Cert.InGrad.nD Cert.InGrad.τ).loc Cert.InGrad.main_arg10) = m ((c.tc : Thread Cert.InGrad.nD Cert.InGrad.τ).loc Cert.InGrad.main_arg10)
      ∧ r.2.mem ((c.tc : Thread Cert.InGrad.nD Cert.InGrad.τ).loc Cert.InGrad.main_arg11) = m ((c.tc : Thread Cert.InGrad.nD Cert.InGrad.τ).loc Cert.InGrad.main_arg11)
      ∧ r.2.mem ((c.tc : Thread Cert.InGrad.nD Cert.InGrad.τ).loc Cert.InGrad.main_arg12) = m ((c.tc : Thread Cert.InGrad.nD Cert.InGrad.τ).loc Cert.InGrad.main_arg12)
      ∧ r.2.mem ((c.tc : Thread Cert.InGrad.nD Cert.InGrad.τ).loc Cert.InGrad.main_arg13) = m ((c.tc : Thread Cert.InGrad.nD Cert.InGrad.τ).loc Cert.InGrad.main_arg13))
      ∧ r.2.sem = fun _ => 0)

def quiescent_InGradIdeal [hInGradIdeal : Cert.InGradIdeal.Facts] : Prop :=
  ∀ (m : (ℓ : Loc Cert.InGradIdeal.nD Cert.InGradIdeal.τ Cert.InGradIdeal.sig) → Buf (Elt Ideal) ℓ) (g : Dev Cert.InGradIdeal.nD → PrngReg), Pre_InGradIdeal m →
    θ_run (Cert.InGradIdeal.defs (F := Ideal)) (onTc (τ := Cert.InGradIdeal.τ) (Cert.InGradIdeal.main (F := Ideal))) ⟨m, fun _ => 0, g⟩ (fun r => (∀ c : Dev Cert.InGradIdeal.nD,
      r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
      ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
      ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
      ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
      ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
      ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
      ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
      ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7)
      ∧ r.2.mem ((c.tc : Thread Cert.InGradIdeal.nD Cert.InGradIdeal.τ).loc Cert.InGradIdeal.main_arg8) = m ((c.tc : Thread Cert.InGradIdeal.nD Cert.InGradIdeal.τ).loc Cert.InGradIdeal.main_arg8)
      ∧ r.2.mem ((c.tc : Thread Cert.InGradIdeal.nD Cert.InGradIdeal.τ).loc Cert.InGradIdeal.main_arg9) = m ((c.tc : Thread Cert.InGradIdeal.nD Cert.InGradIdeal.τ).loc Cert.InGradIdeal.main_arg9)
      ∧ r.2.mem ((c.tc : Thread Cert.InGradIdeal.nD Cert.InGradIdeal.τ).loc Cert.InGradIdeal.main_arg10) = m ((c.tc : Thread Cert.InGradIdeal.nD Cert.InGradIdeal.τ).loc Cert.InGradIdeal.main_arg10)
      ∧ r.2.mem ((c.tc : Thread Cert.InGradIdeal.nD Cert.InGradIdeal.τ).loc Cert.InGradIdeal.main_arg11) = m ((c.tc : Thread Cert.InGradIdeal.nD Cert.InGradIdeal.τ).loc Cert.InGradIdeal.main_arg11)
      ∧ r.2.mem ((c.tc : Thread Cert.InGradIdeal.nD Cert.InGradIdeal.τ).loc Cert.InGradIdeal.main_arg12) = m ((c.tc : Thread Cert.InGradIdeal.nD Cert.InGradIdeal.τ).loc Cert.InGradIdeal.main_arg12)
      ∧ r.2.mem ((c.tc : Thread Cert.InGradIdeal.nD Cert.InGradIdeal.τ).loc Cert.InGradIdeal.main_arg13) = m ((c.tc : Thread Cert.InGradIdeal.nD Cert.InGradIdeal.τ).loc Cert.InGradIdeal.main_arg13))
      ∧ r.2.sem = fun _ => 0)

def quiescent_InGradRefIdeal [hInGradRefIdeal : Cert.InGradRefIdeal.Facts] : Prop :=
  ∀ (m : (ℓ : Loc Cert.InGradRefIdeal.nD Cert.InGradRefIdeal.τ Cert.InGradRefIdeal.sig) → Buf (Elt Ideal) ℓ) (g : Dev Cert.InGradRefIdeal.nD → PrngReg), Pre_InGradRefIdeal m →
    θ_run (Cert.InGradRefIdeal.defs (F := Ideal)) (onTc (τ := Cert.InGradRefIdeal.τ) (Cert.InGradRefIdeal.main (F := Ideal))) ⟨m, fun _ => 0, g⟩ (fun r => (∀ c : Dev Cert.InGradRefIdeal.nD,
      r.2.mem ((c.tc : Thread Cert.InGradRefIdeal.nD Cert.InGradRefIdeal.τ).loc Cert.InGradRefIdeal.main_arg0) = m ((c.tc : Thread Cert.InGradRefIdeal.nD Cert.InGradRefIdeal.τ).loc Cert.InGradRefIdeal.main_arg0)
      ∧ r.2.mem ((c.tc : Thread Cert.InGradRefIdeal.nD Cert.InGradRefIdeal.τ).loc Cert.InGradRefIdeal.main_arg1) = m ((c.tc : Thread Cert.InGradRefIdeal.nD Cert.InGradRefIdeal.τ).loc Cert.InGradRefIdeal.main_arg1)
      ∧ r.2.mem ((c.tc : Thread Cert.InGradRefIdeal.nD Cert.InGradRefIdeal.τ).loc Cert.InGradRefIdeal.main_arg2) = m ((c.tc : Thread Cert.InGradRefIdeal.nD Cert.InGradRefIdeal.τ).loc Cert.InGradRefIdeal.main_arg2)
      ∧ r.2.mem ((c.tc : Thread Cert.InGradRefIdeal.nD Cert.InGradRefIdeal.τ).loc Cert.InGradRefIdeal.main_arg3) = m ((c.tc : Thread Cert.InGradRefIdeal.nD Cert.InGradRefIdeal.τ).loc Cert.InGradRefIdeal.main_arg3)
      ∧ r.2.mem ((c.tc : Thread Cert.InGradRefIdeal.nD Cert.InGradRefIdeal.τ).loc Cert.InGradRefIdeal.main_arg4) = m ((c.tc : Thread Cert.InGradRefIdeal.nD Cert.InGradRefIdeal.τ).loc Cert.InGradRefIdeal.main_arg4)
      ∧ r.2.mem ((c.tc : Thread Cert.InGradRefIdeal.nD Cert.InGradRefIdeal.τ).loc Cert.InGradRefIdeal.main_arg5) = m ((c.tc : Thread Cert.InGradRefIdeal.nD Cert.InGradRefIdeal.τ).loc Cert.InGradRefIdeal.main_arg5)
      ∧ r.2.mem ((c.tc : Thread Cert.InGradRefIdeal.nD Cert.InGradRefIdeal.τ).loc Cert.InGradRefIdeal.main_arg6) = m ((c.tc : Thread Cert.InGradRefIdeal.nD Cert.InGradRefIdeal.τ).loc Cert.InGradRefIdeal.main_arg6)
      ∧ r.2.mem ((c.tc : Thread Cert.InGradRefIdeal.nD Cert.InGradRefIdeal.τ).loc Cert.InGradRefIdeal.main_arg7) = m ((c.tc : Thread Cert.InGradRefIdeal.nD Cert.InGradRefIdeal.τ).loc Cert.InGradRefIdeal.main_arg7)
      ∧ r.2.mem ((c.tc : Thread Cert.InGradRefIdeal.nD Cert.InGradRefIdeal.τ).loc Cert.InGradRefIdeal.main_arg8) = m ((c.tc : Thread Cert.InGradRefIdeal.nD Cert.InGradRefIdeal.τ).loc Cert.InGradRefIdeal.main_arg8)
      ∧ r.2.mem ((c.tc : Thread Cert.InGradRefIdeal.nD Cert.InGradRefIdeal.τ).loc Cert.InGradRefIdeal.main_arg9) = m ((c.tc : Thread Cert.InGradRefIdeal.nD Cert.InGradRefIdeal.τ).loc Cert.InGradRefIdeal.main_arg9)
      ∧ r.2.mem ((c.tc : Thread Cert.InGradRefIdeal.nD Cert.InGradRefIdeal.τ).loc Cert.InGradRefIdeal.main_arg10) = m ((c.tc : Thread Cert.InGradRefIdeal.nD Cert.InGradRefIdeal.τ).loc Cert.InGradRefIdeal.main_arg10)
      ∧ r.2.mem ((c.tc : Thread Cert.InGradRefIdeal.nD Cert.InGradRefIdeal.τ).loc Cert.InGradRefIdeal.main_arg11) = m ((c.tc : Thread Cert.InGradRefIdeal.nD Cert.InGradRefIdeal.τ).loc Cert.InGradRefIdeal.main_arg11)
      ∧ r.2.mem ((c.tc : Thread Cert.InGradRefIdeal.nD Cert.InGradRefIdeal.τ).loc Cert.InGradRefIdeal.main_arg12) = m ((c.tc : Thread Cert.InGradRefIdeal.nD Cert.InGradRefIdeal.τ).loc Cert.InGradRefIdeal.main_arg12)
      ∧ r.2.mem ((c.tc : Thread Cert.InGradRefIdeal.nD Cert.InGradRefIdeal.τ).loc Cert.InGradRefIdeal.main_arg13) = m ((c.tc : Thread Cert.InGradRefIdeal.nD Cert.InGradRefIdeal.τ).loc Cert.InGradRefIdeal.main_arg13))
      ∧ r.2.sem = fun _ => 0)

def quiescent_SbUp [hSbUp : Cert.SbUp.Facts] : Prop :=
  ∀ (m : (ℓ : Loc Cert.SbUp.nD Cert.SbUp.τ Cert.SbUp.sig) → Buf (Elt Bits) ℓ) (g : Dev Cert.SbUp.nD → PrngReg), Pre_SbUp m →
    θ_run (Cert.SbUp.defs (F := Bits)) (onTc (τ := Cert.SbUp.τ) (Cert.SbUp.main (F := Bits))) ⟨m, fun _ => 0, g⟩ (fun r => (∀ c : Dev Cert.SbUp.nD,
      r.2.mem ((c.tc : Thread Cert.SbUp.nD Cert.SbUp.τ).loc Cert.SbUp.main_arg0) = m ((c.tc : Thread Cert.SbUp.nD Cert.SbUp.τ).loc Cert.SbUp.main_arg0)
      ∧ r.2.mem ((c.tc : Thread Cert.SbUp.nD Cert.SbUp.τ).loc Cert.SbUp.main_arg1) = m ((c.tc : Thread Cert.SbUp.nD Cert.SbUp.τ).loc Cert.SbUp.main_arg1))
      ∧ r.2.sem = fun _ => 0)

def quiescent_SbUpIdeal [hSbUpIdeal : Cert.SbUpIdeal.Facts] : Prop :=
  ∀ (m : (ℓ : Loc Cert.SbUpIdeal.nD Cert.SbUpIdeal.τ Cert.SbUpIdeal.sig) → Buf (Elt Ideal) ℓ) (g : Dev Cert.SbUpIdeal.nD → PrngReg), Pre_SbUpIdeal m →
    θ_run (Cert.SbUpIdeal.defs (F := Ideal)) (onTc (τ := Cert.SbUpIdeal.τ) (Cert.SbUpIdeal.main (F := Ideal))) ⟨m, fun _ => 0, g⟩ (fun r => (∀ c : Dev Cert.SbUpIdeal.nD,
      r.2.mem ((c.tc : Thread Cert.SbUpIdeal.nD Cert.SbUpIdeal.τ).loc Cert.SbUpIdeal.main_arg0) = m ((c.tc : Thread Cert.SbUpIdeal.nD Cert.SbUpIdeal.τ).loc Cert.SbUpIdeal.main_arg0)
      ∧ r.2.mem ((c.tc : Thread Cert.SbUpIdeal.nD Cert.SbUpIdeal.τ).loc Cert.SbUpIdeal.main_arg1) = m ((c.tc : Thread Cert.SbUpIdeal.nD Cert.SbUpIdeal.τ).loc Cert.SbUpIdeal.main_arg1))
      ∧ r.2.sem = fun _ => 0)

def quiescent_SbUpRefIdeal [hSbUpRefIdeal : Cert.SbUpRefIdeal.Facts] : Prop :=
  ∀ (m : (ℓ : Loc Cert.SbUpRefIdeal.nD Cert.SbUpRefIdeal.τ Cert.SbUpRefIdeal.sig) → Buf (Elt Ideal) ℓ) (g : Dev Cert.SbUpRefIdeal.nD → PrngReg), Pre_SbUpRefIdeal m →
    θ_run (Cert.SbUpRefIdeal.defs (F := Ideal)) (onTc (τ := Cert.SbUpRefIdeal.τ) (Cert.SbUpRefIdeal.main (F := Ideal))) ⟨m, fun _ => 0, g⟩ (fun r => (∀ c : Dev Cert.SbUpRefIdeal.nD,
      r.2.mem ((c.tc : Thread Cert.SbUpRefIdeal.nD Cert.SbUpRefIdeal.τ).loc Cert.SbUpRefIdeal.main_arg0) = m ((c.tc : Thread Cert.SbUpRefIdeal.nD Cert.SbUpRefIdeal.τ).loc Cert.SbUpRefIdeal.main_arg0)
      ∧ r.2.mem ((c.tc : Thread Cert.SbUpRefIdeal.nD Cert.SbUpRefIdeal.τ).loc Cert.SbUpRefIdeal.main_arg1) = m ((c.tc : Thread Cert.SbUpRefIdeal.nD Cert.SbUpRefIdeal.τ).loc Cert.SbUpRefIdeal.main_arg1))
      ∧ r.2.sem = fun _ => 0)

def quiescent_DilUp [hDilUp : Cert.DilUp.Facts] : Prop :=
  ∀ (m : (ℓ : Loc Cert.DilUp.nD Cert.DilUp.τ Cert.DilUp.sig) → Buf (Elt Bits) ℓ) (g : Dev Cert.DilUp.nD → PrngReg), Pre_DilUp m →
    θ_run (Cert.DilUp.defs (F := Bits)) (onTc (τ := Cert.DilUp.τ) (Cert.DilUp.main (F := Bits))) ⟨m, fun _ => 0, g⟩ (fun r => (∀ c : Dev Cert.DilUp.nD,
      r.2.mem ((c.tc : Thread Cert.DilUp.nD Cert.DilUp.τ).loc Cert.DilUp.main_arg0) = m ((c.tc : Thread Cert.DilUp.nD Cert.DilUp.τ).loc Cert.DilUp.main_arg0)
      ∧ r.2.mem ((c.tc : Thread Cert.DilUp.nD Cert.DilUp.τ).loc Cert.DilUp.main_arg1) = m ((c.tc : Thread Cert.DilUp.nD Cert.DilUp.τ).loc Cert.DilUp.main_arg1))
      ∧ r.2.sem = fun _ => 0)

def quiescent_DilUpIdeal [hDilUpIdeal : Cert.DilUpIdeal.Facts] : Prop :=
  ∀ (m : (ℓ : Loc Cert.DilUpIdeal.nD Cert.DilUpIdeal.τ Cert.DilUpIdeal.sig) → Buf (Elt Ideal) ℓ) (g : Dev Cert.DilUpIdeal.nD → PrngReg), Pre_DilUpIdeal m →
    θ_run (Cert.DilUpIdeal.defs (F := Ideal)) (onTc (τ := Cert.DilUpIdeal.τ) (Cert.DilUpIdeal.main (F := Ideal))) ⟨m, fun _ => 0, g⟩ (fun r => (∀ c : Dev Cert.DilUpIdeal.nD,
      r.2.mem ((c.tc : Thread Cert.DilUpIdeal.nD Cert.DilUpIdeal.τ).loc Cert.DilUpIdeal.main_arg0) = m ((c.tc : Thread Cert.DilUpIdeal.nD Cert.DilUpIdeal.τ).loc Cert.DilUpIdeal.main_arg0)
      ∧ r.2.mem ((c.tc : Thread Cert.DilUpIdeal.nD Cert.DilUpIdeal.τ).loc Cert.DilUpIdeal.main_arg1) = m ((c.tc : Thread Cert.DilUpIdeal.nD Cert.DilUpIdeal.τ).loc Cert.DilUpIdeal.main_arg1))
      ∧ r.2.sem = fun _ => 0)

def quiescent_DilUpRefIdeal [hDilUpRefIdeal : Cert.DilUpRefIdeal.Facts] : Prop :=
  ∀ (m : (ℓ : Loc Cert.DilUpRefIdeal.nD Cert.DilUpRefIdeal.τ Cert.DilUpRefIdeal.sig) → Buf (Elt Ideal) ℓ) (g : Dev Cert.DilUpRefIdeal.nD → PrngReg), Pre_DilUpRefIdeal m →
    θ_run (Cert.DilUpRefIdeal.defs (F := Ideal)) (onTc (τ := Cert.DilUpRefIdeal.τ) (Cert.DilUpRefIdeal.main (F := Ideal))) ⟨m, fun _ => 0, g⟩ (fun r => (∀ c : Dev Cert.DilUpRefIdeal.nD,
      r.2.mem ((c.tc : Thread Cert.DilUpRefIdeal.nD Cert.DilUpRefIdeal.τ).loc Cert.DilUpRefIdeal.main_arg0) = m ((c.tc : Thread Cert.DilUpRefIdeal.nD Cert.DilUpRefIdeal.τ).loc Cert.DilUpRefIdeal.main_arg0)
      ∧ r.2.mem ((c.tc : Thread Cert.DilUpRefIdeal.nD Cert.DilUpRefIdeal.τ).loc Cert.DilUpRefIdeal.main_arg1) = m ((c.tc : Thread Cert.DilUpRefIdeal.nD Cert.DilUpRefIdeal.τ).loc Cert.DilUpRefIdeal.main_arg1))
      ∧ r.2.sem = fun _ => 0)

def quiescent_WOut [hWOut : Cert.WOut.Facts] : Prop :=
  ∀ (m : (ℓ : Loc Cert.WOut.nD Cert.WOut.τ Cert.WOut.sig) → Buf (Elt Bits) ℓ) (g : Dev Cert.WOut.nD → PrngReg), Pre_WOut m →
    θ_run (Cert.WOut.defs (F := Bits)) (onTc (τ := Cert.WOut.τ) (Cert.WOut.main (F := Bits))) ⟨m, fun _ => 0, g⟩ (fun r => (∀ c : Dev Cert.WOut.nD,
      r.2.mem ((c.tc : Thread Cert.WOut.nD Cert.WOut.τ).loc Cert.WOut.main_arg0) = m ((c.tc : Thread Cert.WOut.nD Cert.WOut.τ).loc Cert.WOut.main_arg0)
      ∧ r.2.mem ((c.tc : Thread Cert.WOut.nD Cert.WOut.τ).loc Cert.WOut.main_arg1) = m ((c.tc : Thread Cert.WOut.nD Cert.WOut.τ).loc Cert.WOut.main_arg1))
      ∧ r.2.sem = fun _ => 0)

def quiescent_WOutIdeal [hWOutIdeal : Cert.WOutIdeal.Facts] : Prop :=
  ∀ (m : (ℓ : Loc Cert.WOutIdeal.nD Cert.WOutIdeal.τ Cert.WOutIdeal.sig) → Buf (Elt Ideal) ℓ) (g : Dev Cert.WOutIdeal.nD → PrngReg), Pre_WOutIdeal m →
    θ_run (Cert.WOutIdeal.defs (F := Ideal)) (onTc (τ := Cert.WOutIdeal.τ) (Cert.WOutIdeal.main (F := Ideal))) ⟨m, fun _ => 0, g⟩ (fun r => (∀ c : Dev Cert.WOutIdeal.nD,
      r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
      ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ r.2.sem = fun _ => 0)

def quiescent_WOutRefIdeal [hWOutRefIdeal : Cert.WOutRefIdeal.Facts] : Prop :=
  ∀ (m : (ℓ : Loc Cert.WOutRefIdeal.nD Cert.WOutRefIdeal.τ Cert.WOutRefIdeal.sig) → Buf (Elt Ideal) ℓ) (g : Dev Cert.WOutRefIdeal.nD → PrngReg), Pre_WOutRefIdeal m →
    θ_run (Cert.WOutRefIdeal.defs (F := Ideal)) (onTc (τ := Cert.WOutRefIdeal.τ) (Cert.WOutRefIdeal.main (F := Ideal))) ⟨m, fun _ => 0, g⟩ (fun r => (∀ c : Dev Cert.WOutRefIdeal.nD,
      r.2.mem ((c.tc : Thread Cert.WOutRefIdeal.nD Cert.WOutRefIdeal.τ).loc Cert.WOutRefIdeal.main_arg0) = m ((c.tc : Thread Cert.WOutRefIdeal.nD Cert.WOutRefIdeal.τ).loc Cert.WOutRefIdeal.main_arg0)
      ∧ r.2.mem ((c.tc : Thread Cert.WOutRefIdeal.nD Cert.WOutRefIdeal.τ).loc Cert.WOutRefIdeal.main_arg1) = m ((c.tc : Thread Cert.WOutRefIdeal.nD Cert.WOutRefIdeal.τ).loc Cert.WOutRefIdeal.main_arg1))
      ∧ r.2.sem = fun _ => 0)

def quiescent_UpIn [hUpIn : Cert.UpIn.Facts] : Prop :=
  ∀ (m : (ℓ : Loc Cert.UpIn.nD Cert.UpIn.τ Cert.UpIn.sig) → Buf (Elt Bits) ℓ) (g : Dev Cert.UpIn.nD → PrngReg), Pre_UpIn m →
    θ_run (Cert.UpIn.defs (F := Bits)) (onTc (τ := Cert.UpIn.τ) (Cert.UpIn.main (F := Bits))) ⟨m, fun _ => 0, g⟩ (fun r => (∀ c : Dev Cert.UpIn.nD,
      r.2.mem ((c.tc : Thread Cert.UpIn.nD Cert.UpIn.τ).loc Cert.UpIn.main_arg0) = m ((c.tc : Thread Cert.UpIn.nD Cert.UpIn.τ).loc Cert.UpIn.main_arg0)
      ∧ r.2.mem ((c.tc : Thread Cert.UpIn.nD Cert.UpIn.τ).loc Cert.UpIn.main_arg1) = m ((c.tc : Thread Cert.UpIn.nD Cert.UpIn.τ).loc Cert.UpIn.main_arg1)
      ∧ r.2.mem ((c.tc : Thread Cert.UpIn.nD Cert.UpIn.τ).loc Cert.UpIn.main_arg2) = m ((c.tc : Thread Cert.UpIn.nD Cert.UpIn.τ).loc Cert.UpIn.main_arg2)
      ∧ r.2.mem ((c.tc : Thread Cert.UpIn.nD Cert.UpIn.τ).loc Cert.UpIn.main_arg3) = m ((c.tc : Thread Cert.UpIn.nD Cert.UpIn.τ).loc Cert.UpIn.main_arg3))
      ∧ r.2.sem = fun _ => 0)

def quiescent_UpInIdeal [hUpInIdeal : Cert.UpInIdeal.Facts] : Prop :=
  ∀ (m : (ℓ : Loc Cert.UpInIdeal.nD Cert.UpInIdeal.τ Cert.UpInIdeal.sig) → Buf (Elt Ideal) ℓ) (g : Dev Cert.UpInIdeal.nD → PrngReg), Pre_UpInIdeal m →
    θ_run (Cert.UpInIdeal.defs (F := Ideal)) (onTc (τ := Cert.UpInIdeal.τ) (Cert.UpInIdeal.main (F := Ideal))) ⟨m, fun _ => 0, g⟩ (fun r => (∀ c : Dev Cert.UpInIdeal.nD,
      r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
      ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
      ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
      ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3))
      ∧ r.2.sem = fun _ => 0)

def quiescent_UpInRefIdeal [hUpInRefIdeal : Cert.UpInRefIdeal.Facts] : Prop :=
  ∀ (m : (ℓ : Loc Cert.UpInRefIdeal.nD Cert.UpInRefIdeal.τ Cert.UpInRefIdeal.sig) → Buf (Elt Ideal) ℓ) (g : Dev Cert.UpInRefIdeal.nD → PrngReg), Pre_UpInRefIdeal m →
    θ_run (Cert.UpInRefIdeal.defs (F := Ideal)) (onTc (τ := Cert.UpInRefIdeal.τ) (Cert.UpInRefIdeal.main (F := Ideal))) ⟨m, fun _ => 0, g⟩ (fun r => (∀ c : Dev Cert.UpInRefIdeal.nD,
      r.2.mem ((c.tc : Thread Cert.UpInRefIdeal.nD Cert.UpInRefIdeal.τ).loc Cert.UpInRefIdeal.main_arg0) = m ((c.tc : Thread Cert.UpInRefIdeal.nD Cert.UpInRefIdeal.τ).loc Cert.UpInRefIdeal.main_arg0)
      ∧ r.2.mem ((c.tc : Thread Cert.UpInRefIdeal.nD Cert.UpInRefIdeal.τ).loc Cert.UpInRefIdeal.main_arg1) = m ((c.tc : Thread Cert.UpInRefIdeal.nD Cert.UpInRefIdeal.τ).loc Cert.UpInRefIdeal.main_arg1)
      ∧ r.2.mem ((c.tc : Thread Cert.UpInRefIdeal.nD Cert.UpInRefIdeal.τ).loc Cert.UpInRefIdeal.main_arg2) = m ((c.tc : Thread Cert.UpInRefIdeal.nD Cert.UpInRefIdeal.τ).loc Cert.UpInRefIdeal.main_arg2)
      ∧ r.2.mem ((c.tc : Thread Cert.UpInRefIdeal.nD Cert.UpInRefIdeal.τ).loc Cert.UpInRefIdeal.main_arg3) = m ((c.tc : Thread Cert.UpInRefIdeal.nD Cert.UpInRefIdeal.τ).loc Cert.UpInRefIdeal.main_arg3))
      ∧ r.2.sem = fun _ => 0)

def quiescent_UpSb [hUpSb : Cert.UpSb.Facts] : Prop :=
  ∀ (m : (ℓ : Loc Cert.UpSb.nD Cert.UpSb.τ Cert.UpSb.sig) → Buf (Elt Bits) ℓ) (g : Dev Cert.UpSb.nD → PrngReg), Pre_UpSb m →
    θ_run (Cert.UpSb.defs (F := Bits)) (onTc (τ := Cert.UpSb.τ) (Cert.UpSb.main (F := Bits))) ⟨m, fun _ => 0, g⟩ (fun r => (∀ c : Dev Cert.UpSb.nD,
      r.2.mem ((c.tc : Thread Cert.UpSb.nD Cert.UpSb.τ).loc Cert.UpSb.main_arg0) = m ((c.tc : Thread Cert.UpSb.nD Cert.UpSb.τ).loc Cert.UpSb.main_arg0)
      ∧ r.2.mem ((c.tc : Thread Cert.UpSb.nD Cert.UpSb.τ).loc Cert.UpSb.main_arg1) = m ((c.tc : Thread Cert.UpSb.nD Cert.UpSb.τ).loc Cert.UpSb.main_arg1)
      ∧ r.2.mem ((c.tc : Thread Cert.UpSb.nD Cert.UpSb.τ).loc Cert.UpSb.main_arg2) = m ((c.tc : Thread Cert.UpSb.nD Cert.UpSb.τ).loc Cert.UpSb.main_arg2)
      ∧ r.2.mem ((c.tc : Thread Cert.UpSb.nD Cert.UpSb.τ).loc Cert.UpSb.main_arg3) = m ((c.tc : Thread Cert.UpSb.nD Cert.UpSb.τ).loc Cert.UpSb.main_arg3))
      ∧ r.2.sem = fun _ => 0)

def quiescent_UpSbIdeal [hUpSbIdeal : Cert.UpSbIdeal.Facts] : Prop :=
  ∀ (m : (ℓ : Loc Cert.UpSbIdeal.nD Cert.UpSbIdeal.τ Cert.UpSbIdeal.sig) → Buf (Elt Ideal) ℓ) (g : Dev Cert.UpSbIdeal.nD → PrngReg), Pre_UpSbIdeal m →
    θ_run (Cert.UpSbIdeal.defs (F := Ideal)) (onTc (τ := Cert.UpSbIdeal.τ) (Cert.UpSbIdeal.main (F := Ideal))) ⟨m, fun _ => 0, g⟩ (fun r => (∀ c : Dev Cert.UpSbIdeal.nD,
      r.2.mem ((c.tc : Thread Cert.UpSbIdeal.nD Cert.UpSbIdeal.τ).loc Cert.UpSbIdeal.main_arg0) = m ((c.tc : Thread Cert.UpSbIdeal.nD Cert.UpSbIdeal.τ).loc Cert.UpSbIdeal.main_arg0)
      ∧ r.2.mem ((c.tc : Thread Cert.UpSbIdeal.nD Cert.UpSbIdeal.τ).loc Cert.UpSbIdeal.main_arg1) = m ((c.tc : Thread Cert.UpSbIdeal.nD Cert.UpSbIdeal.τ).loc Cert.UpSbIdeal.main_arg1)
      ∧ r.2.mem ((c.tc : Thread Cert.UpSbIdeal.nD Cert.UpSbIdeal.τ).loc Cert.UpSbIdeal.main_arg2) = m ((c.tc : Thread Cert.UpSbIdeal.nD Cert.UpSbIdeal.τ).loc Cert.UpSbIdeal.main_arg2)
      ∧ r.2.mem ((c.tc : Thread Cert.UpSbIdeal.nD Cert.UpSbIdeal.τ).loc Cert.UpSbIdeal.main_arg3) = m ((c.tc : Thread Cert.UpSbIdeal.nD Cert.UpSbIdeal.τ).loc Cert.UpSbIdeal.main_arg3))
      ∧ r.2.sem = fun _ => 0)

def quiescent_UpSbRefIdeal [hUpSbRefIdeal : Cert.UpSbRefIdeal.Facts] : Prop :=
  ∀ (m : (ℓ : Loc Cert.UpSbRefIdeal.nD Cert.UpSbRefIdeal.τ Cert.UpSbRefIdeal.sig) → Buf (Elt Ideal) ℓ) (g : Dev Cert.UpSbRefIdeal.nD → PrngReg), Pre_UpSbRefIdeal m →
    θ_run (Cert.UpSbRefIdeal.defs (F := Ideal)) (onTc (τ := Cert.UpSbRefIdeal.τ) (Cert.UpSbRefIdeal.main (F := Ideal))) ⟨m, fun _ => 0, g⟩ (fun r => (∀ c : Dev Cert.UpSbRefIdeal.nD,
      r.2.mem ((c.tc : Thread Cert.UpSbRefIdeal.nD Cert.UpSbRefIdeal.τ).loc Cert.UpSbRefIdeal.main_arg0) = m ((c.tc : Thread Cert.UpSbRefIdeal.nD Cert.UpSbRefIdeal.τ).loc Cert.UpSbRefIdeal.main_arg0)
      ∧ r.2.mem ((c.tc : Thread Cert.UpSbRefIdeal.nD Cert.UpSbRefIdeal.τ).loc Cert.UpSbRefIdeal.main_arg1) = m ((c.tc : Thread Cert.UpSbRefIdeal.nD Cert.UpSbRefIdeal.τ).loc Cert.UpSbRefIdeal.main_arg1)
      ∧ r.2.mem ((c.tc : Thread Cert.UpSbRefIdeal.nD Cert.UpSbRefIdeal.τ).loc Cert.UpSbRefIdeal.main_arg2) = m ((c.tc : Thread Cert.UpSbRefIdeal.nD Cert.UpSbRefIdeal.τ).loc Cert.UpSbRefIdeal.main_arg2)
      ∧ r.2.mem ((c.tc : Thread Cert.UpSbRefIdeal.nD Cert.UpSbRefIdeal.τ).loc Cert.UpSbRefIdeal.main_arg3) = m ((c.tc : Thread Cert.UpSbRefIdeal.nD Cert.UpSbRefIdeal.τ).loc Cert.UpSbRefIdeal.main_arg3))
      ∧ r.2.sem = fun _ => 0)

def quiescent_UpDil [hUpDil : Cert.UpDil.Facts] : Prop :=
  ∀ (m : (ℓ : Loc Cert.UpDil.nD Cert.UpDil.τ Cert.UpDil.sig) → Buf (Elt Bits) ℓ) (g : Dev Cert.UpDil.nD → PrngReg), Pre_UpDil m →
    θ_run (Cert.UpDil.defs (F := Bits)) (onTc (τ := Cert.UpDil.τ) (Cert.UpDil.main (F := Bits))) ⟨m, fun _ => 0, g⟩ (fun r => (∀ c : Dev Cert.UpDil.nD,
      r.2.mem ((c.tc : Thread Cert.UpDil.nD Cert.UpDil.τ).loc Cert.UpDil.main_arg0) = m ((c.tc : Thread Cert.UpDil.nD Cert.UpDil.τ).loc Cert.UpDil.main_arg0)
      ∧ r.2.mem ((c.tc : Thread Cert.UpDil.nD Cert.UpDil.τ).loc Cert.UpDil.main_arg1) = m ((c.tc : Thread Cert.UpDil.nD Cert.UpDil.τ).loc Cert.UpDil.main_arg1)
      ∧ r.2.mem ((c.tc : Thread Cert.UpDil.nD Cert.UpDil.τ).loc Cert.UpDil.main_arg2) = m ((c.tc : Thread Cert.UpDil.nD Cert.UpDil.τ).loc Cert.UpDil.main_arg2)
      ∧ r.2.mem ((c.tc : Thread Cert.UpDil.nD Cert.UpDil.τ).loc Cert.UpDil.main_arg3) = m ((c.tc : Thread Cert.UpDil.nD Cert.UpDil.τ).loc Cert.UpDil.main_arg3))
      ∧ r.2.sem = fun _ => 0)

def quiescent_UpDilIdeal [hUpDilIdeal : Cert.UpDilIdeal.Facts] : Prop :=
  ∀ (m : (ℓ : Loc Cert.UpDilIdeal.nD Cert.UpDilIdeal.τ Cert.UpDilIdeal.sig) → Buf (Elt Ideal) ℓ) (g : Dev Cert.UpDilIdeal.nD → PrngReg), Pre_UpDilIdeal m →
    θ_run (Cert.UpDilIdeal.defs (F := Ideal)) (onTc (τ := Cert.UpDilIdeal.τ) (Cert.UpDilIdeal.main (F := Ideal))) ⟨m, fun _ => 0, g⟩ (fun r => (∀ c : Dev Cert.UpDilIdeal.nD,
      r.2.mem ((c.tc : Thread Cert.UpDilIdeal.nD Cert.UpDilIdeal.τ).loc Cert.UpDilIdeal.main_arg0) = m ((c.tc : Thread Cert.UpDilIdeal.nD Cert.UpDilIdeal.τ).loc Cert.UpDilIdeal.main_arg0)
      ∧ r.2.mem ((c.tc : Thread Cert.UpDilIdeal.nD Cert.UpDilIdeal.τ).loc Cert.UpDilIdeal.main_arg1) = m ((c.tc : Thread Cert.UpDilIdeal.nD Cert.UpDilIdeal.τ).loc Cert.UpDilIdeal.main_arg1)
      ∧ r.2.mem ((c.tc : Thread Cert.UpDilIdeal.nD Cert.UpDilIdeal.τ).loc Cert.UpDilIdeal.main_arg2) = m ((c.tc : Thread Cert.UpDilIdeal.nD Cert.UpDilIdeal.τ).loc Cert.UpDilIdeal.main_arg2)
      ∧ r.2.mem ((c.tc : Thread Cert.UpDilIdeal.nD Cert.UpDilIdeal.τ).loc Cert.UpDilIdeal.main_arg3) = m ((c.tc : Thread Cert.UpDilIdeal.nD Cert.UpDilIdeal.τ).loc Cert.UpDilIdeal.main_arg3))
      ∧ r.2.sem = fun _ => 0)

def quiescent_UpDilRefIdeal [hUpDilRefIdeal : Cert.UpDilRefIdeal.Facts] : Prop :=
  ∀ (m : (ℓ : Loc Cert.UpDilRefIdeal.nD Cert.UpDilRefIdeal.τ Cert.UpDilRefIdeal.sig) → Buf (Elt Ideal) ℓ) (g : Dev Cert.UpDilRefIdeal.nD → PrngReg), Pre_UpDilRefIdeal m →
    θ_run (Cert.UpDilRefIdeal.defs (F := Ideal)) (onTc (τ := Cert.UpDilRefIdeal.τ) (Cert.UpDilRefIdeal.main (F := Ideal))) ⟨m, fun _ => 0, g⟩ (fun r => (∀ c : Dev Cert.UpDilRefIdeal.nD,
      r.2.mem ((c.tc : Thread Cert.UpDilRefIdeal.nD Cert.UpDilRefIdeal.τ).loc Cert.UpDilRefIdeal.main_arg0) = m ((c.tc : Thread Cert.UpDilRefIdeal.nD Cert.UpDilRefIdeal.τ).loc Cert.UpDilRefIdeal.main_arg0)
      ∧ r.2.mem ((c.tc : Thread Cert.UpDilRefIdeal.nD Cert.UpDilRefIdeal.τ).loc Cert.UpDilRefIdeal.main_arg1) = m ((c.tc : Thread Cert.UpDilRefIdeal.nD Cert.UpDilRefIdeal.τ).loc Cert.UpDilRefIdeal.main_arg1)
      ∧ r.2.mem ((c.tc : Thread Cert.UpDilRefIdeal.nD Cert.UpDilRefIdeal.τ).loc Cert.UpDilRefIdeal.main_arg2) = m ((c.tc : Thread Cert.UpDilRefIdeal.nD Cert.UpDilRefIdeal.τ).loc Cert.UpDilRefIdeal.main_arg2)
      ∧ r.2.mem ((c.tc : Thread Cert.UpDilRefIdeal.nD Cert.UpDilRefIdeal.τ).loc Cert.UpDilRefIdeal.main_arg3) = m ((c.tc : Thread Cert.UpDilRefIdeal.nD Cert.UpDilRefIdeal.τ).loc Cert.UpDilRefIdeal.main_arg3))
      ∧ r.2.sem = fun _ => 0)

def quiescent_UpOut [hUpOut : Cert.UpOut.Facts] : Prop :=
  ∀ (m : (ℓ : Loc Cert.UpOut.nD Cert.UpOut.τ Cert.UpOut.sig) → Buf (Elt Bits) ℓ) (g : Dev Cert.UpOut.nD → PrngReg), Pre_UpOut m →
    θ_run (Cert.UpOut.defs (F := Bits)) (onTc (τ := Cert.UpOut.τ) (Cert.UpOut.main (F := Bits))) ⟨m, fun _ => 0, g⟩ (fun r => (∀ c : Dev Cert.UpOut.nD,
      r.2.mem ((c.tc : Thread Cert.UpOut.nD Cert.UpOut.τ).loc Cert.UpOut.main_arg0) = m ((c.tc : Thread Cert.UpOut.nD Cert.UpOut.τ).loc Cert.UpOut.main_arg0)
      ∧ r.2.mem ((c.tc : Thread Cert.UpOut.nD Cert.UpOut.τ).loc Cert.UpOut.main_arg1) = m ((c.tc : Thread Cert.UpOut.nD Cert.UpOut.τ).loc Cert.UpOut.main_arg1)
      ∧ r.2.mem ((c.tc : Thread Cert.UpOut.nD Cert.UpOut.τ).loc Cert.UpOut.main_arg2) = m ((c.tc : Thread Cert.UpOut.nD Cert.UpOut.τ).loc Cert.UpOut.main_arg2)
      ∧ r.2.mem ((c.tc : Thread Cert.UpOut.nD Cert.UpOut.τ).loc Cert.UpOut.main_arg3) = m ((c.tc : Thread Cert.UpOut.nD Cert.UpOut.τ).loc Cert.UpOut.main_arg3))
      ∧ r.2.sem = fun _ => 0)

def quiescent_UpOutIdeal [hUpOutIdeal : Cert.UpOutIdeal.Facts] : Prop :=
  ∀ (m : (ℓ : Loc Cert.UpOutIdeal.nD Cert.UpOutIdeal.τ Cert.UpOutIdeal.sig) → Buf (Elt Ideal) ℓ) (g : Dev Cert.UpOutIdeal.nD → PrngReg), Pre_UpOutIdeal m →
    θ_run (Cert.UpOutIdeal.defs (F := Ideal)) (onTc (τ := Cert.UpOutIdeal.τ) (Cert.UpOutIdeal.main (F := Ideal))) ⟨m, fun _ => 0, g⟩ (fun r => (∀ c : Dev Cert.UpOutIdeal.nD,
      r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
      ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
      ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
      ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3))
      ∧ r.2.sem = fun _ => 0)

def quiescent_UpOutRefIdeal [hUpOutRefIdeal : Cert.UpOutRefIdeal.Facts] : Prop :=
  ∀ (m : (ℓ : Loc Cert.UpOutRefIdeal.nD Cert.UpOutRefIdeal.τ Cert.UpOutRefIdeal.sig) → Buf (Elt Ideal) ℓ) (g : Dev Cert.UpOutRefIdeal.nD → PrngReg), Pre_UpOutRefIdeal m →
    θ_run (Cert.UpOutRefIdeal.defs (F := Ideal)) (onTc (τ := Cert.UpOutRefIdeal.τ) (Cert.UpOutRefIdeal.main (F := Ideal))) ⟨m, fun _ => 0, g⟩ (fun r => (∀ c : Dev Cert.UpOutRefIdeal.nD,
      r.2.mem ((c.tc : Thread Cert.UpOutRefIdeal.nD Cert.UpOutRefIdeal.τ).loc Cert.UpOutRefIdeal.main_arg0) = m ((c.tc : Thread Cert.UpOutRefIdeal.nD Cert.UpOutRefIdeal.τ).loc Cert.UpOutRefIdeal.main_arg0)
      ∧ r.2.mem ((c.tc : Thread Cert.UpOutRefIdeal.nD Cert.UpOutRefIdeal.τ).loc Cert.UpOutRefIdeal.main_arg1) = m ((c.tc : Thread Cert.UpOutRefIdeal.nD Cert.UpOutRefIdeal.τ).loc Cert.UpOutRefIdeal.main_arg1)
      ∧ r.2.mem ((c.tc : Thread Cert.UpOutRefIdeal.nD Cert.UpOutRefIdeal.τ).loc Cert.UpOutRefIdeal.main_arg2) = m ((c.tc : Thread Cert.UpOutRefIdeal.nD Cert.UpOutRefIdeal.τ).loc Cert.UpOutRefIdeal.main_arg2)
      ∧ r.2.mem ((c.tc : Thread Cert.UpOutRefIdeal.nD Cert.UpOutRefIdeal.τ).loc Cert.UpOutRefIdeal.main_arg3) = m ((c.tc : Thread Cert.UpOutRefIdeal.nD Cert.UpOutRefIdeal.τ).loc Cert.UpOutRefIdeal.main_arg3))
      ∧ r.2.sem = fun _ => 0)

def quiescent_UpFfnIn [hUpFfnIn : Cert.UpFfnIn.Facts] : Prop :=
  ∀ (m : (ℓ : Loc Cert.UpFfnIn.nD Cert.UpFfnIn.τ Cert.UpFfnIn.sig) → Buf (Elt Bits) ℓ) (g : Dev Cert.UpFfnIn.nD → PrngReg), Pre_UpFfnIn m →
    θ_run (Cert.UpFfnIn.defs (F := Bits)) (onTc (τ := Cert.UpFfnIn.τ) (Cert.UpFfnIn.main (F := Bits))) ⟨m, fun _ => 0, g⟩ (fun r => (∀ c : Dev Cert.UpFfnIn.nD,
      r.2.mem ((c.tc : Thread Cert.UpFfnIn.nD Cert.UpFfnIn.τ).loc Cert.UpFfnIn.main_arg0) = m ((c.tc : Thread Cert.UpFfnIn.nD Cert.UpFfnIn.τ).loc Cert.UpFfnIn.main_arg0)
      ∧ r.2.mem ((c.tc : Thread Cert.UpFfnIn.nD Cert.UpFfnIn.τ).loc Cert.UpFfnIn.main_arg1) = m ((c.tc : Thread Cert.UpFfnIn.nD Cert.UpFfnIn.τ).loc Cert.UpFfnIn.main_arg1)
      ∧ r.2.mem ((c.tc : Thread Cert.UpFfnIn.nD Cert.UpFfnIn.τ).loc Cert.UpFfnIn.main_arg2) = m ((c.tc : Thread Cert.UpFfnIn.nD Cert.UpFfnIn.τ).loc Cert.UpFfnIn.main_arg2)
      ∧ r.2.mem ((c.tc : Thread Cert.UpFfnIn.nD Cert.UpFfnIn.τ).loc Cert.UpFfnIn.main_arg3) = m ((c.tc : Thread Cert.UpFfnIn.nD Cert.UpFfnIn.τ).loc Cert.UpFfnIn.main_arg3))
      ∧ r.2.sem = fun _ => 0)

def quiescent_UpFfnInIdeal [hUpFfnInIdeal : Cert.UpFfnInIdeal.Facts] : Prop :=
  ∀ (m : (ℓ : Loc Cert.UpFfnInIdeal.nD Cert.UpFfnInIdeal.τ Cert.UpFfnInIdeal.sig) → Buf (Elt Ideal) ℓ) (g : Dev Cert.UpFfnInIdeal.nD → PrngReg), Pre_UpFfnInIdeal m →
    θ_run (Cert.UpFfnInIdeal.defs (F := Ideal)) (onTc (τ := Cert.UpFfnInIdeal.τ) (Cert.UpFfnInIdeal.main (F := Ideal))) ⟨m, fun _ => 0, g⟩ (fun r => (∀ c : Dev Cert.UpFfnInIdeal.nD,
      r.2.mem ((c.tc : Thread Cert.UpFfnInIdeal.nD Cert.UpFfnInIdeal.τ).loc Cert.UpFfnInIdeal.main_arg0) = m ((c.tc : Thread Cert.UpFfnInIdeal.nD Cert.UpFfnInIdeal.τ).loc Cert.UpFfnInIdeal.main_arg0)
      ∧ r.2.mem ((c.tc : Thread Cert.UpFfnInIdeal.nD Cert.UpFfnInIdeal.τ).loc Cert.UpFfnInIdeal.main_arg1) = m ((c.tc : Thread Cert.UpFfnInIdeal.nD Cert.UpFfnInIdeal.τ).loc Cert.UpFfnInIdeal.main_arg1)
      ∧ r.2.mem ((c.tc : Thread Cert.UpFfnInIdeal.nD Cert.UpFfnInIdeal.τ).loc Cert.UpFfnInIdeal.main_arg2) = m ((c.tc : Thread Cert.UpFfnInIdeal.nD Cert.UpFfnInIdeal.τ).loc Cert.UpFfnInIdeal.main_arg2)
      ∧ r.2.mem ((c.tc : Thread Cert.UpFfnInIdeal.nD Cert.UpFfnInIdeal.τ).loc Cert.UpFfnInIdeal.main_arg3) = m ((c.tc : Thread Cert.UpFfnInIdeal.nD Cert.UpFfnInIdeal.τ).loc Cert.UpFfnInIdeal.main_arg3))
      ∧ r.2.sem = fun _ => 0)

def quiescent_UpFfnInRefIdeal [hUpFfnInRefIdeal : Cert.UpFfnInRefIdeal.Facts] : Prop :=
  ∀ (m : (ℓ : Loc Cert.UpFfnInRefIdeal.nD Cert.UpFfnInRefIdeal.τ Cert.UpFfnInRefIdeal.sig) → Buf (Elt Ideal) ℓ) (g : Dev Cert.UpFfnInRefIdeal.nD → PrngReg), Pre_UpFfnInRefIdeal m →
    θ_run (Cert.UpFfnInRefIdeal.defs (F := Ideal)) (onTc (τ := Cert.UpFfnInRefIdeal.τ) (Cert.UpFfnInRefIdeal.main (F := Ideal))) ⟨m, fun _ => 0, g⟩ (fun r => (∀ c : Dev Cert.UpFfnInRefIdeal.nD,
      r.2.mem ((c.tc : Thread Cert.UpFfnInRefIdeal.nD Cert.UpFfnInRefIdeal.τ).loc Cert.UpFfnInRefIdeal.main_arg0) = m ((c.tc : Thread Cert.UpFfnInRefIdeal.nD Cert.UpFfnInRefIdeal.τ).loc Cert.UpFfnInRefIdeal.main_arg0)
      ∧ r.2.mem ((c.tc : Thread Cert.UpFfnInRefIdeal.nD Cert.UpFfnInRefIdeal.τ).loc Cert.UpFfnInRefIdeal.main_arg1) = m ((c.tc : Thread Cert.UpFfnInRefIdeal.nD Cert.UpFfnInRefIdeal.τ).loc Cert.UpFfnInRefIdeal.main_arg1)
      ∧ r.2.mem ((c.tc : Thread Cert.UpFfnInRefIdeal.nD Cert.UpFfnInRefIdeal.τ).loc Cert.UpFfnInRefIdeal.main_arg2) = m ((c.tc : Thread Cert.UpFfnInRefIdeal.nD Cert.UpFfnInRefIdeal.τ).loc Cert.UpFfnInRefIdeal.main_arg2)
      ∧ r.2.mem ((c.tc : Thread Cert.UpFfnInRefIdeal.nD Cert.UpFfnInRefIdeal.τ).loc Cert.UpFfnInRefIdeal.main_arg3) = m ((c.tc : Thread Cert.UpFfnInRefIdeal.nD Cert.UpFfnInRefIdeal.τ).loc Cert.UpFfnInRefIdeal.main_arg3))
      ∧ r.2.sem = fun _ => 0)

def quiescent_UpFfnOut [hUpFfnOut : Cert.UpFfnOut.Facts] : Prop :=
  ∀ (m : (ℓ : Loc Cert.UpFfnOut.nD Cert.UpFfnOut.τ Cert.UpFfnOut.sig) → Buf (Elt Bits) ℓ) (g : Dev Cert.UpFfnOut.nD → PrngReg), Pre_UpFfnOut m →
    θ_run (Cert.UpFfnOut.defs (F := Bits)) (onTc (τ := Cert.UpFfnOut.τ) (Cert.UpFfnOut.main (F := Bits))) ⟨m, fun _ => 0, g⟩ (fun r => (∀ c : Dev Cert.UpFfnOut.nD,
      r.2.mem ((c.tc : Thread Cert.UpFfnOut.nD Cert.UpFfnOut.τ).loc Cert.UpFfnOut.main_arg0) = m ((c.tc : Thread Cert.UpFfnOut.nD Cert.UpFfnOut.τ).loc Cert.UpFfnOut.main_arg0)
      ∧ r.2.mem ((c.tc : Thread Cert.UpFfnOut.nD Cert.UpFfnOut.τ).loc Cert.UpFfnOut.main_arg1) = m ((c.tc : Thread Cert.UpFfnOut.nD Cert.UpFfnOut.τ).loc Cert.UpFfnOut.main_arg1)
      ∧ r.2.mem ((c.tc : Thread Cert.UpFfnOut.nD Cert.UpFfnOut.τ).loc Cert.UpFfnOut.main_arg2) = m ((c.tc : Thread Cert.UpFfnOut.nD Cert.UpFfnOut.τ).loc Cert.UpFfnOut.main_arg2)
      ∧ r.2.mem ((c.tc : Thread Cert.UpFfnOut.nD Cert.UpFfnOut.τ).loc Cert.UpFfnOut.main_arg3) = m ((c.tc : Thread Cert.UpFfnOut.nD Cert.UpFfnOut.τ).loc Cert.UpFfnOut.main_arg3))
      ∧ r.2.sem = fun _ => 0)

def quiescent_UpFfnOutIdeal [hUpFfnOutIdeal : Cert.UpFfnOutIdeal.Facts] : Prop :=
  ∀ (m : (ℓ : Loc Cert.UpFfnOutIdeal.nD Cert.UpFfnOutIdeal.τ Cert.UpFfnOutIdeal.sig) → Buf (Elt Ideal) ℓ) (g : Dev Cert.UpFfnOutIdeal.nD → PrngReg), Pre_UpFfnOutIdeal m →
    θ_run (Cert.UpFfnOutIdeal.defs (F := Ideal)) (onTc (τ := Cert.UpFfnOutIdeal.τ) (Cert.UpFfnOutIdeal.main (F := Ideal))) ⟨m, fun _ => 0, g⟩ (fun r => (∀ c : Dev Cert.UpFfnOutIdeal.nD,
      r.2.mem ((c.tc : Thread Cert.UpFfnOutIdeal.nD Cert.UpFfnOutIdeal.τ).loc Cert.UpFfnOutIdeal.main_arg0) = m ((c.tc : Thread Cert.UpFfnOutIdeal.nD Cert.UpFfnOutIdeal.τ).loc Cert.UpFfnOutIdeal.main_arg0)
      ∧ r.2.mem ((c.tc : Thread Cert.UpFfnOutIdeal.nD Cert.UpFfnOutIdeal.τ).loc Cert.UpFfnOutIdeal.main_arg1) = m ((c.tc : Thread Cert.UpFfnOutIdeal.nD Cert.UpFfnOutIdeal.τ).loc Cert.UpFfnOutIdeal.main_arg1)
      ∧ r.2.mem ((c.tc : Thread Cert.UpFfnOutIdeal.nD Cert.UpFfnOutIdeal.τ).loc Cert.UpFfnOutIdeal.main_arg2) = m ((c.tc : Thread Cert.UpFfnOutIdeal.nD Cert.UpFfnOutIdeal.τ).loc Cert.UpFfnOutIdeal.main_arg2)
      ∧ r.2.mem ((c.tc : Thread Cert.UpFfnOutIdeal.nD Cert.UpFfnOutIdeal.τ).loc Cert.UpFfnOutIdeal.main_arg3) = m ((c.tc : Thread Cert.UpFfnOutIdeal.nD Cert.UpFfnOutIdeal.τ).loc Cert.UpFfnOutIdeal.main_arg3))
      ∧ r.2.sem = fun _ => 0)

def quiescent_UpFfnOutRefIdeal [hUpFfnOutRefIdeal : Cert.UpFfnOutRefIdeal.Facts] : Prop :=
  ∀ (m : (ℓ : Loc Cert.UpFfnOutRefIdeal.nD Cert.UpFfnOutRefIdeal.τ Cert.UpFfnOutRefIdeal.sig) → Buf (Elt Ideal) ℓ) (g : Dev Cert.UpFfnOutRefIdeal.nD → PrngReg), Pre_UpFfnOutRefIdeal m →
    θ_run (Cert.UpFfnOutRefIdeal.defs (F := Ideal)) (onTc (τ := Cert.UpFfnOutRefIdeal.τ) (Cert.UpFfnOutRefIdeal.main (F := Ideal))) ⟨m, fun _ => 0, g⟩ (fun r => (∀ c : Dev Cert.UpFfnOutRefIdeal.nD,
      r.2.mem ((c.tc : Thread Cert.UpFfnOutRefIdeal.nD Cert.UpFfnOutRefIdeal.τ).loc Cert.UpFfnOutRefIdeal.main_arg0) = m ((c.tc : Thread Cert.UpFfnOutRefIdeal.nD Cert.UpFfnOutRefIdeal.τ).loc Cert.UpFfnOutRefIdeal.main_arg0)
      ∧ r.2.mem ((c.tc : Thread Cert.UpFfnOutRefIdeal.nD Cert.UpFfnOutRefIdeal.τ).loc Cert.UpFfnOutRefIdeal.main_arg1) = m ((c.tc : Thread Cert.UpFfnOutRefIdeal.nD Cert.UpFfnOutRefIdeal.τ).loc Cert.UpFfnOutRefIdeal.main_arg1)
      ∧ r.2.mem ((c.tc : Thread Cert.UpFfnOutRefIdeal.nD Cert.UpFfnOutRefIdeal.τ).loc Cert.UpFfnOutRefIdeal.main_arg2) = m ((c.tc : Thread Cert.UpFfnOutRefIdeal.nD Cert.UpFfnOutRefIdeal.τ).loc Cert.UpFfnOutRefIdeal.main_arg2)
      ∧ r.2.mem ((c.tc : Thread Cert.UpFfnOutRefIdeal.nD Cert.UpFfnOutRefIdeal.τ).loc Cert.UpFfnOutRefIdeal.main_arg3) = m ((c.tc : Thread Cert.UpFfnOutRefIdeal.nD Cert.UpFfnOutRefIdeal.τ).loc Cert.UpFfnOutRefIdeal.main_arg3))
      ∧ r.2.sem = fun _ => 0)

def quiescent_UpGains [hUpGains : Cert.UpGains.Facts] : Prop :=
  ∀ (m : (ℓ : Loc Cert.UpGains.nD Cert.UpGains.τ Cert.UpGains.sig) → Buf (Elt Bits) ℓ) (g : Dev Cert.UpGains.nD → PrngReg), Pre_UpGains m →
    θ_run (Cert.UpGains.defs (F := Bits)) (onTc (τ := Cert.UpGains.τ) (Cert.UpGains.main (F := Bits))) ⟨m, fun _ => 0, g⟩ (fun r => (∀ c : Dev Cert.UpGains.nD,
      r.2.mem ((c.tc : Thread Cert.UpGains.nD Cert.UpGains.τ).loc Cert.UpGains.main_arg0) = m ((c.tc : Thread Cert.UpGains.nD Cert.UpGains.τ).loc Cert.UpGains.main_arg0)
      ∧ r.2.mem ((c.tc : Thread Cert.UpGains.nD Cert.UpGains.τ).loc Cert.UpGains.main_arg1) = m ((c.tc : Thread Cert.UpGains.nD Cert.UpGains.τ).loc Cert.UpGains.main_arg1)
      ∧ r.2.mem ((c.tc : Thread Cert.UpGains.nD Cert.UpGains.τ).loc Cert.UpGains.main_arg2) = m ((c.tc : Thread Cert.UpGains.nD Cert.UpGains.τ).loc Cert.UpGains.main_arg2)
      ∧ r.2.mem ((c.tc : Thread Cert.UpGains.nD Cert.UpGains.τ).loc Cert.UpGains.main_arg3) = m ((c.tc : Thread Cert.UpGains.nD Cert.UpGains.τ).loc Cert.UpGains.main_arg3)
      ∧ r.2.mem ((c.tc : Thread Cert.UpGains.nD Cert.UpGains.τ).loc Cert.UpGains.main_arg4) = m ((c.tc : Thread Cert.UpGains.nD Cert.UpGains.τ).loc Cert.UpGains.main_arg4)
      ∧ r.2.mem ((c.tc : Thread Cert.UpGains.nD Cert.UpGains.τ).loc Cert.UpGains.main_arg5) = m ((c.tc : Thread Cert.UpGains.nD Cert.UpGains.τ).loc Cert.UpGains.main_arg5)
      ∧ r.2.mem ((c.tc : Thread Cert.UpGains.nD Cert.UpGains.τ).loc Cert.UpGains.main_arg6) = m ((c.tc : Thread Cert.UpGains.nD Cert.UpGains.τ).loc Cert.UpGains.main_arg6)
      ∧ r.2.mem ((c.tc : Thread Cert.UpGains.nD Cert.UpGains.τ).loc Cert.UpGains.main_arg7) = m ((c.tc : Thread Cert.UpGains.nD Cert.UpGains.τ).loc Cert.UpGains.main_arg7)
      ∧ r.2.mem ((c.tc : Thread Cert.UpGains.nD Cert.UpGains.τ).loc Cert.UpGains.main_arg8) = m ((c.tc : Thread Cert.UpGains.nD Cert.UpGains.τ).loc Cert.UpGains.main_arg8)
      ∧ r.2.mem ((c.tc : Thread Cert.UpGains.nD Cert.UpGains.τ).loc Cert.UpGains.main_arg9) = m ((c.tc : Thread Cert.UpGains.nD Cert.UpGains.τ).loc Cert.UpGains.main_arg9))
      ∧ r.2.sem = fun _ => 0)

def quiescent_UpGainsIdeal [hUpGainsIdeal : Cert.UpGainsIdeal.Facts] : Prop :=
  ∀ (m : (ℓ : Loc Cert.UpGainsIdeal.nD Cert.UpGainsIdeal.τ Cert.UpGainsIdeal.sig) → Buf (Elt Ideal) ℓ) (g : Dev Cert.UpGainsIdeal.nD → PrngReg), Pre_UpGainsIdeal m →
    θ_run (Cert.UpGainsIdeal.defs (F := Ideal)) (onTc (τ := Cert.UpGainsIdeal.τ) (Cert.UpGainsIdeal.main (F := Ideal))) ⟨m, fun _ => 0, g⟩ (fun r => (∀ c : Dev Cert.UpGainsIdeal.nD,
      r.2.mem ((c.tc : Thread Cert.UpGainsIdeal.nD Cert.UpGainsIdeal.τ).loc Cert.UpGainsIdeal.main_arg0) = m ((c.tc : Thread Cert.UpGainsIdeal.nD Cert.UpGainsIdeal.τ).loc Cert.UpGainsIdeal.main_arg0)
      ∧ r.2.mem ((c.tc : Thread Cert.UpGainsIdeal.nD Cert.UpGainsIdeal.τ).loc Cert.UpGainsIdeal.main_arg1) = m ((c.tc : Thread Cert.UpGainsIdeal.nD Cert.UpGainsIdeal.τ).loc Cert.UpGainsIdeal.main_arg1)
      ∧ r.2.mem ((c.tc : Thread Cert.UpGainsIdeal.nD Cert.UpGainsIdeal.τ).loc Cert.UpGainsIdeal.main_arg2) = m ((c.tc : Thread Cert.UpGainsIdeal.nD Cert.UpGainsIdeal.τ).loc Cert.UpGainsIdeal.main_arg2)
      ∧ r.2.mem ((c.tc : Thread Cert.UpGainsIdeal.nD Cert.UpGainsIdeal.τ).loc Cert.UpGainsIdeal.main_arg3) = m ((c.tc : Thread Cert.UpGainsIdeal.nD Cert.UpGainsIdeal.τ).loc Cert.UpGainsIdeal.main_arg3)
      ∧ r.2.mem ((c.tc : Thread Cert.UpGainsIdeal.nD Cert.UpGainsIdeal.τ).loc Cert.UpGainsIdeal.main_arg4) = m ((c.tc : Thread Cert.UpGainsIdeal.nD Cert.UpGainsIdeal.τ).loc Cert.UpGainsIdeal.main_arg4)
      ∧ r.2.mem ((c.tc : Thread Cert.UpGainsIdeal.nD Cert.UpGainsIdeal.τ).loc Cert.UpGainsIdeal.main_arg5) = m ((c.tc : Thread Cert.UpGainsIdeal.nD Cert.UpGainsIdeal.τ).loc Cert.UpGainsIdeal.main_arg5)
      ∧ r.2.mem ((c.tc : Thread Cert.UpGainsIdeal.nD Cert.UpGainsIdeal.τ).loc Cert.UpGainsIdeal.main_arg6) = m ((c.tc : Thread Cert.UpGainsIdeal.nD Cert.UpGainsIdeal.τ).loc Cert.UpGainsIdeal.main_arg6)
      ∧ r.2.mem ((c.tc : Thread Cert.UpGainsIdeal.nD Cert.UpGainsIdeal.τ).loc Cert.UpGainsIdeal.main_arg7) = m ((c.tc : Thread Cert.UpGainsIdeal.nD Cert.UpGainsIdeal.τ).loc Cert.UpGainsIdeal.main_arg7)
      ∧ r.2.mem ((c.tc : Thread Cert.UpGainsIdeal.nD Cert.UpGainsIdeal.τ).loc Cert.UpGainsIdeal.main_arg8) = m ((c.tc : Thread Cert.UpGainsIdeal.nD Cert.UpGainsIdeal.τ).loc Cert.UpGainsIdeal.main_arg8)
      ∧ r.2.mem ((c.tc : Thread Cert.UpGainsIdeal.nD Cert.UpGainsIdeal.τ).loc Cert.UpGainsIdeal.main_arg9) = m ((c.tc : Thread Cert.UpGainsIdeal.nD Cert.UpGainsIdeal.τ).loc Cert.UpGainsIdeal.main_arg9))
      ∧ r.2.sem = fun _ => 0)

def quiescent_UpGainsRefIdeal [hUpGainsRefIdeal : Cert.UpGainsRefIdeal.Facts] : Prop :=
  ∀ (m : (ℓ : Loc Cert.UpGainsRefIdeal.nD Cert.UpGainsRefIdeal.τ Cert.UpGainsRefIdeal.sig) → Buf (Elt Ideal) ℓ) (g : Dev Cert.UpGainsRefIdeal.nD → PrngReg), Pre_UpGainsRefIdeal m →
    θ_run (Cert.UpGainsRefIdeal.defs (F := Ideal)) (onTc (τ := Cert.UpGainsRefIdeal.τ) (Cert.UpGainsRefIdeal.main (F := Ideal))) ⟨m, fun _ => 0, g⟩ (fun r => (∀ c : Dev Cert.UpGainsRefIdeal.nD,
      r.2.mem ((c.tc : Thread Cert.UpGainsRefIdeal.nD Cert.UpGainsRefIdeal.τ).loc Cert.UpGainsRefIdeal.main_arg0) = m ((c.tc : Thread Cert.UpGainsRefIdeal.nD Cert.UpGainsRefIdeal.τ).loc Cert.UpGainsRefIdeal.main_arg0)
      ∧ r.2.mem ((c.tc : Thread Cert.UpGainsRefIdeal.nD Cert.UpGainsRefIdeal.τ).loc Cert.UpGainsRefIdeal.main_arg1) = m ((c.tc : Thread Cert.UpGainsRefIdeal.nD Cert.UpGainsRefIdeal.τ).loc Cert.UpGainsRefIdeal.main_arg1)
      ∧ r.2.mem ((c.tc : Thread Cert.UpGainsRefIdeal.nD Cert.UpGainsRefIdeal.τ).loc Cert.UpGainsRefIdeal.main_arg2) = m ((c.tc : Thread Cert.UpGainsRefIdeal.nD Cert.UpGainsRefIdeal.τ).loc Cert.UpGainsRefIdeal.main_arg2)
      ∧ r.2.mem ((c.tc : Thread Cert.UpGainsRefIdeal.nD Cert.UpGainsRefIdeal.τ).loc Cert.UpGainsRefIdeal.main_arg3) = m ((c.tc : Thread Cert.UpGainsRefIdeal.nD Cert.UpGainsRefIdeal.τ).loc Cert.UpGainsRefIdeal.main_arg3)
      ∧ r.2.mem ((c.tc : Thread Cert.UpGainsRefIdeal.nD Cert.UpGainsRefIdeal.τ).loc Cert.UpGainsRefIdeal.main_arg4) = m ((c.tc : Thread Cert.UpGainsRefIdeal.nD Cert.UpGainsRefIdeal.τ).loc Cert.UpGainsRefIdeal.main_arg4)
      ∧ r.2.mem ((c.tc : Thread Cert.UpGainsRefIdeal.nD Cert.UpGainsRefIdeal.τ).loc Cert.UpGainsRefIdeal.main_arg5) = m ((c.tc : Thread Cert.UpGainsRefIdeal.nD Cert.UpGainsRefIdeal.τ).loc Cert.UpGainsRefIdeal.main_arg5)
      ∧ r.2.mem ((c.tc : Thread Cert.UpGainsRefIdeal.nD Cert.UpGainsRefIdeal.τ).loc Cert.UpGainsRefIdeal.main_arg6) = m ((c.tc : Thread Cert.UpGainsRefIdeal.nD Cert.UpGainsRefIdeal.τ).loc Cert.UpGainsRefIdeal.main_arg6)
      ∧ r.2.mem ((c.tc : Thread Cert.UpGainsRefIdeal.nD Cert.UpGainsRefIdeal.τ).loc Cert.UpGainsRefIdeal.main_arg7) = m ((c.tc : Thread Cert.UpGainsRefIdeal.nD Cert.UpGainsRefIdeal.τ).loc Cert.UpGainsRefIdeal.main_arg7)
      ∧ r.2.mem ((c.tc : Thread Cert.UpGainsRefIdeal.nD Cert.UpGainsRefIdeal.τ).loc Cert.UpGainsRefIdeal.main_arg8) = m ((c.tc : Thread Cert.UpGainsRefIdeal.nD Cert.UpGainsRefIdeal.τ).loc Cert.UpGainsRefIdeal.main_arg8)
      ∧ r.2.mem ((c.tc : Thread Cert.UpGainsRefIdeal.nD Cert.UpGainsRefIdeal.τ).loc Cert.UpGainsRefIdeal.main_arg9) = m ((c.tc : Thread Cert.UpGainsRefIdeal.nD Cert.UpGainsRefIdeal.τ).loc Cert.UpGainsRefIdeal.main_arg9))
      ∧ r.2.sem = fun _ => 0)

def quiescent_PairSum [hPairSum : Cert.PairSum.Facts] [hPre_core_ok : Cert.Pre_core_ok.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_core_ok : Cert.Pre_core_ok.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_core_ok [hPairSumRefIdeal : Cert.PairSumRefIdeal.Facts] [hPre_core_ok : Cert.Pre_core_ok.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_core_ok m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_ToBf16 [hToBf16 : Cert.ToBf16.Facts] : Prop :=
  ∀ (m : (ℓ : Loc Cert.ToBf16.nD Cert.ToBf16.τ Cert.ToBf16.sig) → Buf (Elt Bits) ℓ) (g : Dev Cert.ToBf16.nD → PrngReg), Pre_ToBf16 m →
    θ_run (Cert.ToBf16.defs (F := Bits)) (onTc (τ := Cert.ToBf16.τ) (Cert.ToBf16.main (F := Bits))) ⟨m, fun _ => 0, g⟩ (fun r => (∀ c : Dev Cert.ToBf16.nD,
      r.2.mem ((c.tc : Thread Cert.ToBf16.nD Cert.ToBf16.τ).loc Cert.ToBf16.main_arg0) = m ((c.tc : Thread Cert.ToBf16.nD Cert.ToBf16.τ).loc Cert.ToBf16.main_arg0)
      ∧ r.2.mem ((c.tc : Thread Cert.ToBf16.nD Cert.ToBf16.τ).loc Cert.ToBf16.main_arg1) = m ((c.tc : Thread Cert.ToBf16.nD Cert.ToBf16.τ).loc Cert.ToBf16.main_arg1)
      ∧ r.2.mem ((c.tc : Thread Cert.ToBf16.nD Cert.ToBf16.τ).loc Cert.ToBf16.main_arg2) = m ((c.tc : Thread Cert.ToBf16.nD Cert.ToBf16.τ).loc Cert.ToBf16.main_arg2)
      ∧ r.2.mem ((c.tc : Thread Cert.ToBf16.nD Cert.ToBf16.τ).loc Cert.ToBf16.main_arg3) = m ((c.tc : Thread Cert.ToBf16.nD Cert.ToBf16.τ).loc Cert.ToBf16.main_arg3)
      ∧ r.2.mem ((c.tc : Thread Cert.ToBf16.nD Cert.ToBf16.τ).loc Cert.ToBf16.main_arg4) = m ((c.tc : Thread Cert.ToBf16.nD Cert.ToBf16.τ).loc Cert.ToBf16.main_arg4)
      ∧ r.2.mem ((c.tc : Thread Cert.ToBf16.nD Cert.ToBf16.τ).loc Cert.ToBf16.main_arg5) = m ((c.tc : Thread Cert.ToBf16.nD Cert.ToBf16.τ).loc Cert.ToBf16.main_arg5))
      ∧ r.2.sem = fun _ => 0)

def quiescent_ToBf16Ideal [hToBf16Ideal : Cert.ToBf16Ideal.Facts] : Prop :=
  ∀ (m : (ℓ : Loc Cert.ToBf16Ideal.nD Cert.ToBf16Ideal.τ Cert.ToBf16Ideal.sig) → Buf (Elt Ideal) ℓ) (g : Dev Cert.ToBf16Ideal.nD → PrngReg), Pre_ToBf16Ideal m →
    θ_run (Cert.ToBf16Ideal.defs (F := Ideal)) (onTc (τ := Cert.ToBf16Ideal.τ) (Cert.ToBf16Ideal.main (F := Ideal))) ⟨m, fun _ => 0, g⟩ (fun r => (∀ c : Dev Cert.ToBf16Ideal.nD,
      r.2.mem ((c.tc : Thread Cert.ToBf16Ideal.nD Cert.ToBf16Ideal.τ).loc Cert.ToBf16Ideal.main_arg0) = m ((c.tc : Thread Cert.ToBf16Ideal.nD Cert.ToBf16Ideal.τ).loc Cert.ToBf16Ideal.main_arg0)
      ∧ r.2.mem ((c.tc : Thread Cert.ToBf16Ideal.nD Cert.ToBf16Ideal.τ).loc Cert.ToBf16Ideal.main_arg1) = m ((c.tc : Thread Cert.ToBf16Ideal.nD Cert.ToBf16Ideal.τ).loc Cert.ToBf16Ideal.main_arg1)
      ∧ r.2.mem ((c.tc : Thread Cert.ToBf16Ideal.nD Cert.ToBf16Ideal.τ).loc Cert.ToBf16Ideal.main_arg2) = m ((c.tc : Thread Cert.ToBf16Ideal.nD Cert.ToBf16Ideal.τ).loc Cert.ToBf16Ideal.main_arg2)
      ∧ r.2.mem ((c.tc : Thread Cert.ToBf16Ideal.nD Cert.ToBf16Ideal.τ).loc Cert.ToBf16Ideal.main_arg3) = m ((c.tc : Thread Cert.ToBf16Ideal.nD Cert.ToBf16Ideal.τ).loc Cert.ToBf16Ideal.main_arg3)
      ∧ r.2.mem ((c.tc : Thread Cert.ToBf16Ideal.nD Cert.ToBf16Ideal.τ).loc Cert.ToBf16Ideal.main_arg4) = m ((c.tc : Thread Cert.ToBf16Ideal.nD Cert.ToBf16Ideal.τ).loc Cert.ToBf16Ideal.main_arg4)
      ∧ r.2.mem ((c.tc : Thread Cert.ToBf16Ideal.nD Cert.ToBf16Ideal.τ).loc Cert.ToBf16Ideal.main_arg5) = m ((c.tc : Thread Cert.ToBf16Ideal.nD Cert.ToBf16Ideal.τ).loc Cert.ToBf16Ideal.main_arg5))
      ∧ r.2.sem = fun _ => 0)

def quiescent_ToBf16RefIdeal [hToBf16RefIdeal : Cert.ToBf16RefIdeal.Facts] : Prop :=
  ∀ (m : (ℓ : Loc Cert.ToBf16RefIdeal.nD Cert.ToBf16RefIdeal.τ Cert.ToBf16RefIdeal.sig) → Buf (Elt Ideal) ℓ) (g : Dev Cert.ToBf16RefIdeal.nD → PrngReg), Pre_ToBf16RefIdeal m →
    θ_run (Cert.ToBf16RefIdeal.defs (F := Ideal)) (onTc (τ := Cert.ToBf16RefIdeal.τ) (Cert.ToBf16RefIdeal.main (F := Ideal))) ⟨m, fun _ => 0, g⟩ (fun r => (∀ c : Dev Cert.ToBf16RefIdeal.nD,
      r.2.mem ((c.tc : Thread Cert.ToBf16RefIdeal.nD Cert.ToBf16RefIdeal.τ).loc Cert.ToBf16RefIdeal.main_arg0) = m ((c.tc : Thread Cert.ToBf16RefIdeal.nD Cert.ToBf16RefIdeal.τ).loc Cert.ToBf16RefIdeal.main_arg0)
      ∧ r.2.mem ((c.tc : Thread Cert.ToBf16RefIdeal.nD Cert.ToBf16RefIdeal.τ).loc Cert.ToBf16RefIdeal.main_arg1) = m ((c.tc : Thread Cert.ToBf16RefIdeal.nD Cert.ToBf16RefIdeal.τ).loc Cert.ToBf16RefIdeal.main_arg1)
      ∧ r.2.mem ((c.tc : Thread Cert.ToBf16RefIdeal.nD Cert.ToBf16RefIdeal.τ).loc Cert.ToBf16RefIdeal.main_arg2) = m ((c.tc : Thread Cert.ToBf16RefIdeal.nD Cert.ToBf16RefIdeal.τ).loc Cert.ToBf16RefIdeal.main_arg2)
      ∧ r.2.mem ((c.tc : Thread Cert.ToBf16RefIdeal.nD Cert.ToBf16RefIdeal.τ).loc Cert.ToBf16RefIdeal.main_arg3) = m ((c.tc : Thread Cert.ToBf16RefIdeal.nD Cert.ToBf16RefIdeal.τ).loc Cert.ToBf16RefIdeal.main_arg3)
      ∧ r.2.mem ((c.tc : Thread Cert.ToBf16RefIdeal.nD Cert.ToBf16RefIdeal.τ).loc Cert.ToBf16RefIdeal.main_arg4) = m ((c.tc : Thread Cert.ToBf16RefIdeal.nD Cert.ToBf16RefIdeal.τ).loc Cert.ToBf16RefIdeal.main_arg4)
      ∧ r.2.mem ((c.tc : Thread Cert.ToBf16RefIdeal.nD Cert.ToBf16RefIdeal.τ).loc Cert.ToBf16RefIdeal.main_arg5) = m ((c.tc : Thread Cert.ToBf16RefIdeal.nD Cert.ToBf16RefIdeal.τ).loc Cert.ToBf16RefIdeal.main_arg5))
      ∧ r.2.sem = fun _ => 0)

def quiescent_StickFwd [hStickFwd : Cert.StickFwd.Facts] : Prop :=
  ∀ (m : (ℓ : Loc Cert.StickFwd.nD Cert.StickFwd.τ Cert.StickFwd.sig) → Buf (Elt Bits) ℓ) (g : Dev Cert.StickFwd.nD → PrngReg), Pre_StickFwd m →
    θ_run (Cert.StickFwd.defs (F := Bits)) (onTc (τ := Cert.StickFwd.τ) (Cert.StickFwd.main (F := Bits))) ⟨m, fun _ => 0, g⟩ (fun r => (∀ c : Dev Cert.StickFwd.nD,
      r.2.mem ((c.tc : Thread Cert.StickFwd.nD Cert.StickFwd.τ).loc Cert.StickFwd.main_arg0) = m ((c.tc : Thread Cert.StickFwd.nD Cert.StickFwd.τ).loc Cert.StickFwd.main_arg0))
      ∧ r.2.sem = fun _ => 0)

def quiescent_StickFwdIdeal [hStickFwdIdeal : Cert.StickFwdIdeal.Facts] : Prop :=
  ∀ (m : (ℓ : Loc Cert.StickFwdIdeal.nD Cert.StickFwdIdeal.τ Cert.StickFwdIdeal.sig) → Buf (Elt Ideal) ℓ) (g : Dev Cert.StickFwdIdeal.nD → PrngReg), Pre_StickFwdIdeal m →
    θ_run (Cert.StickFwdIdeal.defs (F := Ideal)) (onTc (τ := Cert.StickFwdIdeal.τ) (Cert.StickFwdIdeal.main (F := Ideal))) ⟨m, fun _ => 0, g⟩ (fun r => (∀ c : Dev Cert.StickFwdIdeal.nD,
      r.2.mem ((c.tc : Thread Cert.StickFwdIdeal.nD Cert.StickFwdIdeal.τ).loc Cert.StickFwdIdeal.main_arg0) = m ((c.tc : Thread Cert.StickFwdIdeal.nD Cert.StickFwdIdeal.τ).loc Cert.StickFwdIdeal.main_arg0))
      ∧ r.2.sem = fun _ => 0)

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)
      ∧ m' ((c.tc : Thread Cert.GateRefIdeal.nD Cert.GateRefIdeal.τ).loc Cert.GateRefIdeal.main_arg4) = m ((c.tc : Thread Cert.GateIdeal.nD Cert.GateIdeal.τ).loc Cert.GateIdeal.main_arg4)
      ∧ m' ((c.tc : Thread Cert.GateRefIdeal.nD Cert.GateRefIdeal.τ).loc Cert.GateRefIdeal.main_arg5) = m ((c.tc : Thread Cert.GateIdeal.nD Cert.GateIdeal.τ).loc Cert.GateIdeal.main_arg5)
      ∧ m' ((c.tc : Thread Cert.GateRefIdeal.nD Cert.GateRefIdeal.τ).loc Cert.GateRefIdeal.main_arg6) = m ((c.tc : Thread Cert.GateIdeal.nD Cert.GateIdeal.τ).loc Cert.GateIdeal.main_arg6)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)) (v2 : (c : Dev Cert.GateIdeal.nD) → Buf (Elt Ideal) ((c.tc : Thread Cert.GateIdeal.nD Cert.GateIdeal.τ).loc Cert.GateIdeal.main_v2_2)) (v3 : (c : Dev Cert.GateIdeal.nD) → Buf (Elt Ideal) ((c.tc : Thread Cert.GateIdeal.nD Cert.GateIdeal.τ).loc Cert.GateIdeal.main_v2_3)) (v4 : (c : Dev Cert.GateIdeal.nD) → Buf (Elt Ideal) ((c.tc : Thread Cert.GateIdeal.nD Cert.GateIdeal.τ).loc Cert.GateIdeal.main_v2_4)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_v2_2) = v2 c
          ∧ r.2.mem ((c.tc : Thread Cert.GateIdeal.nD Cert.GateIdeal.τ).loc Cert.GateIdeal.main_v2_3) = v3 c
          ∧ r.2.mem ((c.tc : Thread Cert.GateIdeal.nD Cert.GateIdeal.τ).loc Cert.GateIdeal.main_v2_4) = v4 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3)
          ∧ r.2.mem ((c.tc : Thread Cert.GateIdeal.nD Cert.GateIdeal.τ).loc Cert.GateIdeal.main_arg4) = m ((c.tc : Thread Cert.GateIdeal.nD Cert.GateIdeal.τ).loc Cert.GateIdeal.main_arg4)
          ∧ r.2.mem ((c.tc : Thread Cert.GateIdeal.nD Cert.GateIdeal.τ).loc Cert.GateIdeal.main_arg5) = m ((c.tc : Thread Cert.GateIdeal.nD Cert.GateIdeal.τ).loc Cert.GateIdeal.main_arg5)
          ∧ r.2.mem ((c.tc : Thread Cert.GateIdeal.nD Cert.GateIdeal.τ).loc Cert.GateIdeal.main_arg6) = m ((c.tc : Thread Cert.GateIdeal.nD Cert.GateIdeal.τ).loc Cert.GateIdeal.main_arg6))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v40) = v0 c
          ∧ r.2.mem ((c.tc : Thread Cert.GateRefIdeal.nD Cert.GateRefIdeal.τ).loc Cert.GateRefIdeal.main_v41) = v1 c
          ∧ r.2.mem ((c.tc : Thread Cert.GateRefIdeal.nD Cert.GateRefIdeal.τ).loc Cert.GateRefIdeal.main_v42) = v2 c
          ∧ r.2.mem ((c.tc : Thread Cert.GateRefIdeal.nD Cert.GateRefIdeal.τ).loc Cert.GateRefIdeal.main_v43) = v3 c
          ∧ r.2.mem ((c.tc : Thread Cert.GateRefIdeal.nD Cert.GateRefIdeal.τ).loc Cert.GateRefIdeal.main_v39) = v4 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3)
          ∧ r.2.mem ((c.tc : Thread Cert.GateRefIdeal.nD Cert.GateRefIdeal.τ).loc Cert.GateRefIdeal.main_arg4) = m' ((c.tc : Thread Cert.GateRefIdeal.nD Cert.GateRefIdeal.τ).loc Cert.GateRefIdeal.main_arg4)
          ∧ r.2.mem ((c.tc : Thread Cert.GateRefIdeal.nD Cert.GateRefIdeal.τ).loc Cert.GateRefIdeal.main_arg5) = m' ((c.tc : Thread Cert.GateRefIdeal.nD Cert.GateRefIdeal.τ).loc Cert.GateRefIdeal.main_arg5)
          ∧ r.2.mem ((c.tc : Thread Cert.GateRefIdeal.nD Cert.GateRefIdeal.τ).loc Cert.GateRefIdeal.main_arg6) = m' ((c.tc : Thread Cert.GateRefIdeal.nD Cert.GateRefIdeal.τ).loc Cert.GateRefIdeal.main_arg6))

def preserves_Stick_StickIdeal : Prop :=
  True

def preserves_NormProj_NormProjIdeal : Prop :=
  True

def algebraic_NormProjIdeal_NormProjRefIdeal [hNormProjIdeal : Cert.NormProjIdeal.Facts] [hNormProjRefIdeal : Cert.NormProjRefIdeal.Facts] : Prop :=
  ∀ (m : (ℓ : Loc Cert.NormProjIdeal.nD Cert.NormProjIdeal.τ Cert.NormProjIdeal.sig) → Buf (Elt Ideal) ℓ) (g : Dev Cert.NormProjIdeal.nD → PrngReg)
    (m' : (ℓ : Loc Cert.NormProjRefIdeal.nD Cert.NormProjRefIdeal.τ Cert.NormProjRefIdeal.sig) → Buf (Elt Ideal) ℓ) (g' : Dev Cert.NormProjRefIdeal.nD → PrngReg), Pre_NormProjIdeal m →
    (∀ c : Dev Cert.NormProjIdeal.nD,
      m' ((c.tc : Thread Cert.NormProjRefIdeal.nD Cert.NormProjRefIdeal.τ).loc Cert.NormProjRefIdeal.main_arg0) = m ((c.tc : Thread Cert.NormProjIdeal.nD Cert.NormProjIdeal.τ).loc Cert.NormProjIdeal.main_arg0)
      ∧ m' ((c.tc : Thread Cert.NormProjRefIdeal.nD Cert.NormProjRefIdeal.τ).loc Cert.NormProjRefIdeal.main_arg1) = m ((c.tc : Thread Cert.NormProjIdeal.nD Cert.NormProjIdeal.τ).loc Cert.NormProjIdeal.main_arg1)
      ∧ m' ((c.tc : Thread Cert.NormProjRefIdeal.nD Cert.NormProjRefIdeal.τ).loc Cert.NormProjRefIdeal.main_arg2) = m ((c.tc : Thread Cert.NormProjIdeal.nD Cert.NormProjIdeal.τ).loc Cert.NormProjIdeal.main_arg2)) →
    ∃ (v0 : (c : Dev Cert.NormProjIdeal.nD) → Buf (Elt Ideal) ((c.tc : Thread Cert.NormProjIdeal.nD Cert.NormProjIdeal.τ).loc Cert.NormProjIdeal.main_v1_0)) (v1 : (c : Dev Cert.NormProjIdeal.nD) → Buf (Elt Ideal) ((c.tc : Thread Cert.NormProjIdeal.nD Cert.NormProjIdeal.τ).loc Cert.NormProjIdeal.main_v1_1)) (v2 : (c : Dev Cert.NormProjIdeal.nD) → Buf (Elt Ideal) ((c.tc : Thread Cert.NormProjIdeal.nD Cert.NormProjIdeal.τ).loc Cert.NormProjIdeal.main_v1_2)) (v3 : (c : Dev Cert.NormProjIdeal.nD) → Buf (Elt Ideal) ((c.tc : Thread Cert.NormProjIdeal.nD Cert.NormProjIdeal.τ).loc Cert.NormProjIdeal.main_v1_3)),
      θ_run (Cert.NormProjIdeal.defs (F := Ideal)) (onTc (τ := Cert.NormProjIdeal.τ) (Cert.NormProjIdeal.main (F := Ideal))) ⟨m, fun _ => 0, g⟩ (fun r => ∀ c : Dev Cert.NormProjIdeal.nD,
          r.2.mem ((c.tc : Thread Cert.NormProjIdeal.nD Cert.NormProjIdeal.τ).loc Cert.NormProjIdeal.main_v1_0) = v0 c
          ∧ r.2.mem ((c.tc : Thread Cert.NormProjIdeal.nD Cert.NormProjIdeal.τ).loc Cert.NormProjIdeal.main_v1_1) = v1 c
          ∧ r.2.mem ((c.tc : Thread Cert.NormProjIdeal.nD Cert.NormProjIdeal.τ).loc Cert.NormProjIdeal.main_v1_2) = v2 c
          ∧ r.2.mem ((c.tc : Thread Cert.NormProjIdeal.nD Cert.NormProjIdeal.τ).loc Cert.NormProjIdeal.main_v1_3) = v3 c
          ∧ r.2.mem ((c.tc : Thread Cert.NormProjIdeal.nD Cert.NormProjIdeal.τ).loc Cert.NormProjIdeal.main_arg0) = m ((c.tc : Thread Cert.NormProjIdeal.nD Cert.NormProjIdeal.τ).loc Cert.NormProjIdeal.main_arg0)
          ∧ r.2.mem ((c.tc : Thread Cert.NormProjIdeal.nD Cert.NormProjIdeal.τ).loc Cert.NormProjIdeal.main_arg1) = m ((c.tc : Thread Cert.NormProjIdeal.nD Cert.NormProjIdeal.τ).loc Cert.NormProjIdeal.main_arg1)
          ∧ r.2.mem ((c.tc : Thread Cert.NormProjIdeal.nD Cert.NormProjIdeal.τ).loc Cert.NormProjIdeal.main_arg2) = m ((c.tc : Thread Cert.NormProjIdeal.nD Cert.NormProjIdeal.τ).loc Cert.NormProjIdeal.main_arg2))
      ∧ θ_run (Cert.NormProjRefIdeal.defs (F := Ideal)) (onTc (τ := Cert.NormProjRefIdeal.τ) (Cert.NormProjRefIdeal.main (F := Ideal))) ⟨m', fun _ => 0, g'⟩ (fun r => ∀ c : Dev Cert.NormProjRefIdeal.nD,
          r.2.mem ((c.tc : Thread Cert.NormProjRefIdeal.nD Cert.NormProjRefIdeal.τ).loc Cert.NormProjRefIdeal.main_v17) = v0 c
          ∧ r.2.mem ((c.tc : Thread Cert.NormProjRefIdeal.nD Cert.NormProjRefIdeal.τ).loc Cert.NormProjRefIdeal.main_v15) = v1 c
          ∧ r.2.mem ((c.tc : Thread Cert.NormProjRefIdeal.nD Cert.NormProjRefIdeal.τ).loc Cert.NormProjRefIdeal.main_v16) = v2 c
          ∧ r.2.mem ((c.tc : Thread Cert.NormProjRefIdeal.nD Cert.NormProjRefIdeal.τ).loc Cert.NormProjRefIdeal.main_v18) = v3 c
          ∧ r.2.mem ((c.tc : Thread Cert.NormProjRefIdeal.nD Cert.NormProjRefIdeal.τ).loc Cert.NormProjRefIdeal.main_arg0) = m' ((c.tc : Thread Cert.NormProjRefIdeal.nD Cert.NormProjRefIdeal.τ).loc Cert.NormProjRefIdeal.main_arg0)
          ∧ r.2.mem ((c.tc : Thread Cert.NormProjRefIdeal.nD Cert.NormProjRefIdeal.τ).loc Cert.NormProjRefIdeal.main_arg1) = m' ((c.tc : Thread Cert.NormProjRefIdeal.nD Cert.NormProjRefIdeal.τ).loc Cert.NormProjRefIdeal.main_arg1)
          ∧ r.2.mem ((c.tc : Thread Cert.NormProjRefIdeal.nD Cert.NormProjRefIdeal.τ).loc Cert.NormProjRefIdeal.main_arg2) = m' ((c.tc : Thread Cert.NormProjRefIdeal.nD Cert.NormProjRefIdeal.τ).loc Cert.NormProjRefIdeal.main_arg2))

def preserves_FfnIn_FfnInIdeal : Prop :=
  True

def algebraic_FfnInIdeal_FfnInRefIdeal [hFfnInIdeal : Cert.FfnInIdeal.Facts] [hFfnInRefIdeal : Cert.FfnInRefIdeal.Facts] : Prop :=
  ∀ (m : (ℓ : Loc Cert.FfnInIdeal.nD Cert.FfnInIdeal.τ Cert.FfnInIdeal.sig) → Buf (Elt Ideal) ℓ) (g : Dev Cert.FfnInIdeal.nD → PrngReg)
    (m' : (ℓ : Loc Cert.FfnInRefIdeal.nD Cert.FfnInRefIdeal.τ Cert.FfnInRefIdeal.sig) → Buf (Elt Ideal) ℓ) (g' : Dev Cert.FfnInRefIdeal.nD → PrngReg), Pre_FfnInIdeal m →
    (∀ c : Dev Cert.FfnInIdeal.nD,
      m' ((c.tc : Thread Cert.FfnInRefIdeal.nD Cert.FfnInRefIdeal.τ).loc Cert.FfnInRefIdeal.main_arg0) = m ((c.tc : Thread Cert.FfnInIdeal.nD Cert.FfnInIdeal.τ).loc Cert.FfnInIdeal.main_arg0)
      ∧ m' ((c.tc : Thread Cert.FfnInRefIdeal.nD Cert.FfnInRefIdeal.τ).loc Cert.FfnInRefIdeal.main_arg1) = m ((c.tc : Thread Cert.FfnInIdeal.nD Cert.FfnInIdeal.τ).loc Cert.FfnInIdeal.main_arg1)) →
    ∃ (v0 : (c : Dev Cert.FfnInIdeal.nD) → Buf (Elt Ideal) ((c.tc : Thread Cert.FfnInIdeal.nD Cert.FfnInIdeal.τ).loc Cert.FfnInIdeal.main_v0)),
      θ_run (Cert.FfnInIdeal.defs (F := Ideal)) (onTc (τ := Cert.FfnInIdeal.τ) (Cert.FfnInIdeal.main (F := Ideal))) ⟨m, fun _ => 0, g⟩ (fun r => ∀ c : Dev Cert.FfnInIdeal.nD,
          r.2.mem ((c.tc : Thread Cert.FfnInIdeal.nD Cert.FfnInIdeal.τ).loc Cert.FfnInIdeal.main_v0) = v0 c
          ∧ r.2.mem ((c.tc : Thread Cert.FfnInIdeal.nD Cert.FfnInIdeal.τ).loc Cert.FfnInIdeal.main_arg0) = m ((c.tc : Thread Cert.FfnInIdeal.nD Cert.FfnInIdeal.τ).loc Cert.FfnInIdeal.main_arg0)
          ∧ r.2.mem ((c.tc : Thread Cert.FfnInIdeal.nD Cert.FfnInIdeal.τ).loc Cert.FfnInIdeal.main_arg1) = m ((c.tc : Thread Cert.FfnInIdeal.nD Cert.FfnInIdeal.τ).loc Cert.FfnInIdeal.main_arg1))
      ∧ θ_run (Cert.FfnInRefIdeal.defs (F := Ideal)) (onTc (τ := Cert.FfnInRefIdeal.τ) (Cert.FfnInRefIdeal.main (F := Ideal))) ⟨m', fun _ => 0, g'⟩ (fun r => ∀ c : Dev Cert.FfnInRefIdeal.nD,
          r.2.mem ((c.tc : Thread Cert.FfnInRefIdeal.nD Cert.FfnInRefIdeal.τ).loc Cert.FfnInRefIdeal.main_v7) = v0 c
          ∧ r.2.mem ((c.tc : Thread Cert.FfnInRefIdeal.nD Cert.FfnInRefIdeal.τ).loc Cert.FfnInRefIdeal.main_arg0) = m' ((c.tc : Thread Cert.FfnInRefIdeal.nD Cert.FfnInRefIdeal.τ).loc Cert.FfnInRefIdeal.main_arg0)
          ∧ r.2.mem ((c.tc : Thread Cert.FfnInRefIdeal.nD Cert.FfnInRefIdeal.τ).loc Cert.FfnInRefIdeal.main_arg1) = m' ((c.tc : Thread Cert.FfnInRefIdeal.nD Cert.FfnInRefIdeal.τ).loc Cert.FfnInRefIdeal.main_arg1))

def preserves_FfnOut_FfnOutIdeal : Prop :=
  True

def algebraic_FfnOutIdeal_FfnOutRefIdeal [hFfnOutIdeal : Cert.FfnOutIdeal.Facts] [hFfnOutRefIdeal : Cert.FfnOutRefIdeal.Facts] : Prop :=
  ∀ (m : (ℓ : Loc Cert.FfnOutIdeal.nD Cert.FfnOutIdeal.τ Cert.FfnOutIdeal.sig) → Buf (Elt Ideal) ℓ) (g : Dev Cert.FfnOutIdeal.nD → PrngReg)
    (m' : (ℓ : Loc Cert.FfnOutRefIdeal.nD Cert.FfnOutRefIdeal.τ Cert.FfnOutRefIdeal.sig) → Buf (Elt Ideal) ℓ) (g' : Dev Cert.FfnOutRefIdeal.nD → PrngReg), Pre_FfnOutIdeal m →
    (∀ c : Dev Cert.FfnOutIdeal.nD,
      m' ((c.tc : Thread Cert.FfnOutRefIdeal.nD Cert.FfnOutRefIdeal.τ).loc Cert.FfnOutRefIdeal.main_arg0) = m ((c.tc : Thread Cert.FfnOutIdeal.nD Cert.FfnOutIdeal.τ).loc Cert.FfnOutIdeal.main_arg0)
      ∧ m' ((c.tc : Thread Cert.FfnOutRefIdeal.nD Cert.FfnOutRefIdeal.τ).loc Cert.FfnOutRefIdeal.main_arg1) = m ((c.tc : Thread Cert.FfnOutIdeal.nD Cert.FfnOutIdeal.τ).loc Cert.FfnOutIdeal.main_arg1)) →
    ∃ (v0 : (c : Dev Cert.FfnOutIdeal.nD) → Buf (Elt Ideal) ((c.tc : Thread Cert.FfnOutIdeal.nD Cert.FfnOutIdeal.τ).loc Cert.FfnOutIdeal.main_v0)),
      θ_run (Cert.FfnOutIdeal.defs (F := Ideal)) (onTc (τ := Cert.FfnOutIdeal.τ) (Cert.FfnOutIdeal.main (F := Ideal))) ⟨m, fun _ => 0, g⟩ (fun r => ∀ c : Dev Cert.FfnOutIdeal.nD,
          r.2.mem ((c.tc : Thread Cert.FfnOutIdeal.nD Cert.FfnOutIdeal.τ).loc Cert.FfnOutIdeal.main_v0) = v0 c
          ∧ r.2.mem ((c.tc : Thread Cert.FfnOutIdeal.nD Cert.FfnOutIdeal.τ).loc Cert.FfnOutIdeal.main_arg0) = m ((c.tc : Thread Cert.FfnOutIdeal.nD Cert.FfnOutIdeal.τ).loc Cert.FfnOutIdeal.main_arg0)
          ∧ r.2.mem ((c.tc : Thread Cert.FfnOutIdeal.nD Cert.FfnOutIdeal.τ).loc Cert.FfnOutIdeal.main_arg1) = m ((c.tc : Thread Cert.FfnOutIdeal.nD Cert.FfnOutIdeal.τ).loc Cert.FfnOutIdeal.main_arg1))
      ∧ θ_run (Cert.FfnOutRefIdeal.defs (F := Ideal)) (onTc (τ := Cert.FfnOutRefIdeal.τ) (Cert.FfnOutRefIdeal.main (F := Ideal))) ⟨m', fun _ => 0, g'⟩ (fun r => ∀ c : Dev Cert.FfnOutRefIdeal.nD,
          r.2.mem ((c.tc : Thread Cert.FfnOutRefIdeal.nD Cert.FfnOutRefIdeal.τ).loc Cert.FfnOutRefIdeal.main_v6) = v0 c
          ∧ r.2.mem ((c.tc : Thread Cert.FfnOutRefIdeal.nD Cert.FfnOutRefIdeal.τ).loc Cert.FfnOutRefIdeal.main_arg0) = m' ((c.tc : Thread Cert.FfnOutRefIdeal.nD Cert.FfnOutRefIdeal.τ).loc Cert.FfnOutRefIdeal.main_arg0)
          ∧ r.2.mem ((c.tc : Thread Cert.FfnOutRefIdeal.nD Cert.FfnOutRefIdeal.τ).loc Cert.FfnOutRefIdeal.main_arg1) = m' ((c.tc : Thread Cert.FfnOutRefIdeal.nD Cert.FfnOutRefIdeal.τ).loc Cert.FfnOutRefIdeal.main_arg1))

def preserves_ProjBwd_ProjBwdIdeal : Prop :=
  True

def algebraic_ProjBwdIdeal_ProjBwdRefIdeal_pre_proj_finite [hProjBwdIdeal : Cert.ProjBwdIdeal.Facts] [hProjBwdRefIdeal : Cert.ProjBwdRefIdeal.Facts] [hPre_proj_finite : Cert.Pre_proj_finite.Facts] : Prop :=
  ∀ (m : (ℓ : Loc Cert.ProjBwdIdeal.nD Cert.ProjBwdIdeal.τ Cert.ProjBwdIdeal.sig) → Buf (Elt Ideal) ℓ) (g : Dev Cert.ProjBwdIdeal.nD → PrngReg)
    (m' : (ℓ : Loc Cert.ProjBwdRefIdeal.nD Cert.ProjBwdRefIdeal.τ Cert.ProjBwdRefIdeal.sig) → Buf (Elt Ideal) ℓ) (g' : Dev Cert.ProjBwdRefIdeal.nD → PrngReg), Pre_ProjBwdIdeal_proj_finite m →
    (∀ c : Dev Cert.ProjBwdIdeal.nD,
      m' ((c.tc : Thread Cert.ProjBwdRefIdeal.nD Cert.ProjBwdRefIdeal.τ).loc Cert.ProjBwdRefIdeal.main_arg0) = m ((c.tc : Thread Cert.ProjBwdIdeal.nD Cert.ProjBwdIdeal.τ).loc Cert.ProjBwdIdeal.main_arg0)
      ∧ m' ((c.tc : Thread Cert.ProjBwdRefIdeal.nD Cert.ProjBwdRefIdeal.τ).loc Cert.ProjBwdRefIdeal.main_arg1) = m ((c.tc : Thread Cert.ProjBwdIdeal.nD Cert.ProjBwdIdeal.τ).loc Cert.ProjBwdIdeal.main_arg1)
      ∧ m' ((c.tc : Thread Cert.ProjBwdRefIdeal.nD Cert.ProjBwdRefIdeal.τ).loc Cert.ProjBwdRefIdeal.main_arg2) = m ((c.tc : Thread Cert.ProjBwdIdeal.nD Cert.ProjBwdIdeal.τ).loc Cert.ProjBwdIdeal.main_arg2)
      ∧ m' ((c.tc : Thread Cert.ProjBwdRefIdeal.nD Cert.ProjBwdRefIdeal.τ).loc Cert.ProjBwdRefIdeal.main_arg3) = m ((c.tc : Thread Cert.ProjBwdIdeal.nD Cert.ProjBwdIdeal.τ).loc Cert.ProjBwdIdeal.main_arg3)
      ∧ m' ((c.tc : Thread Cert.ProjBwdRefIdeal.nD Cert.ProjBwdRefIdeal.τ).loc Cert.ProjBwdRefIdeal.main_arg4) = m ((c.tc : Thread Cert.ProjBwdIdeal.nD Cert.ProjBwdIdeal.τ).loc Cert.ProjBwdIdeal.main_arg4)
      ∧ m' ((c.tc : Thread Cert.ProjBwdRefIdeal.nD Cert.ProjBwdRefIdeal.τ).loc Cert.ProjBwdRefIdeal.main_arg5) = m ((c.tc : Thread Cert.ProjBwdIdeal.nD Cert.ProjBwdIdeal.τ).loc Cert.ProjBwdIdeal.main_arg5)
      ∧ m' ((c.tc : Thread Cert.ProjBwdRefIdeal.nD Cert.ProjBwdRefIdeal.τ).loc Cert.ProjBwdRefIdeal.main_arg6) = m ((c.tc : Thread Cert.ProjBwdIdeal.nD Cert.ProjBwdIdeal.τ).loc Cert.ProjBwdIdeal.main_arg6)
      ∧ m' ((c.tc : Thread Cert.ProjBwdRefIdeal.nD Cert.ProjBwdRefIdeal.τ).loc Cert.ProjBwdRefIdeal.main_arg7) = m ((c.tc : Thread Cert.ProjBwdIdeal.nD Cert.ProjBwdIdeal.τ).loc Cert.ProjBwdIdeal.main_arg7)
      ∧ m' ((c.tc : Thread Cert.ProjBwdRefIdeal.nD Cert.ProjBwdRefIdeal.τ).loc Cert.ProjBwdRefIdeal.main_arg8) = m ((c.tc : Thread Cert.ProjBwdIdeal.nD Cert.ProjBwdIdeal.τ).loc Cert.ProjBwdIdeal.main_arg8)
      ∧ m' ((c.tc : Thread Cert.ProjBwdRefIdeal.nD Cert.ProjBwdRefIdeal.τ).loc Cert.ProjBwdRefIdeal.main_arg9) = m ((c.tc : Thread Cert.ProjBwdIdeal.nD Cert.ProjBwdIdeal.τ).loc Cert.ProjBwdIdeal.main_arg9)
      ∧ m' ((c.tc : Thread Cert.ProjBwdRefIdeal.nD Cert.ProjBwdRefIdeal.τ).loc Cert.ProjBwdRefIdeal.main_arg10) = m ((c.tc : Thread Cert.ProjBwdIdeal.nD Cert.ProjBwdIdeal.τ).loc Cert.ProjBwdIdeal.main_arg10)
      ∧ m' ((c.tc : Thread Cert.ProjBwdRefIdeal.nD Cert.ProjBwdRefIdeal.τ).loc Cert.ProjBwdRefIdeal.main_arg11) = m ((c.tc : Thread Cert.ProjBwdIdeal.nD Cert.ProjBwdIdeal.τ).loc Cert.ProjBwdIdeal.main_arg11)
      ∧ m' ((c.tc : Thread Cert.ProjBwdRefIdeal.nD Cert.ProjBwdRefIdeal.τ).loc Cert.ProjBwdRefIdeal.main_arg12) = m ((c.tc : Thread Cert.ProjBwdIdeal.nD Cert.ProjBwdIdeal.τ).loc Cert.ProjBwdIdeal.main_arg12)
      ∧ m' ((c.tc : Thread Cert.ProjBwdRefIdeal.nD Cert.ProjBwdRefIdeal.τ).loc Cert.ProjBwdRefIdeal.main_arg13) = m ((c.tc : Thread Cert.ProjBwdIdeal.nD Cert.ProjBwdIdeal.τ).loc Cert.ProjBwdIdeal.main_arg13)
      ∧ m' ((c.tc : Thread Cert.ProjBwdRefIdeal.nD Cert.ProjBwdRefIdeal.τ).loc Cert.ProjBwdRefIdeal.main_arg14) = m ((c.tc : Thread Cert.ProjBwdIdeal.nD Cert.ProjBwdIdeal.τ).loc Cert.ProjBwdIdeal.main_arg14)
      ∧ m' ((c.tc : Thread Cert.ProjBwdRefIdeal.nD Cert.ProjBwdRefIdeal.τ).loc Cert.ProjBwdRefIdeal.main_arg15) = m ((c.tc : Thread Cert.ProjBwdIdeal.nD Cert.ProjBwdIdeal.τ).loc Cert.ProjBwdIdeal.main_arg15)
      ∧ m' ((c.tc : Thread Cert.ProjBwdRefIdeal.nD Cert.ProjBwdRefIdeal.τ).loc Cert.ProjBwdRefIdeal.main_arg16) = m ((c.tc : Thread Cert.ProjBwdIdeal.nD Cert.ProjBwdIdeal.τ).loc Cert.ProjBwdIdeal.main_arg16)) →
    ∃ (v0 : (c : Dev Cert.ProjBwdIdeal.nD) → Buf (Elt Ideal) ((c.tc : Thread Cert.ProjBwdIdeal.nD Cert.ProjBwdIdeal.τ).loc Cert.ProjBwdIdeal.main_v1_0)) (v1 : (c : Dev Cert.ProjBwdIdeal.nD) → Buf (Elt Ideal) ((c.tc : Thread Cert.ProjBwdIdeal.nD Cert.ProjBwdIdeal.τ).loc Cert.ProjBwdIdeal.main_v1_1)),
      θ_run (Cert.ProjBwdIdeal.defs (F := Ideal)) (onTc (τ := Cert.ProjBwdIdeal.τ) (Cert.ProjBwdIdeal.main (F := Ideal))) ⟨m, fun _ => 0, g⟩ (fun r => ∀ c : Dev Cert.ProjBwdIdeal.nD,
          r.2.mem ((c.tc : Thread Cert.ProjBwdIdeal.nD Cert.ProjBwdIdeal.τ).loc Cert.ProjBwdIdeal.main_v1_0) = v0 c
          ∧ r.2.mem ((c.tc : Thread Cert.ProjBwdIdeal.nD Cert.ProjBwdIdeal.τ).loc Cert.ProjBwdIdeal.main_v1_1) = v1 c
          ∧ r.2.mem ((c.tc : Thread Cert.ProjBwdIdeal.nD Cert.ProjBwdIdeal.τ).loc Cert.ProjBwdIdeal.main_arg0) = m ((c.tc : Thread Cert.ProjBwdIdeal.nD Cert.ProjBwdIdeal.τ).loc Cert.ProjBwdIdeal.main_arg0)
          ∧ r.2.mem ((c.tc : Thread Cert.ProjBwdIdeal.nD Cert.ProjBwdIdeal.τ).loc Cert.ProjBwdIdeal.main_arg1) = m ((c.tc : Thread Cert.ProjBwdIdeal.nD Cert.ProjBwdIdeal.τ).loc Cert.ProjBwdIdeal.main_arg1)
          ∧ r.2.mem ((c.tc : Thread Cert.ProjBwdIdeal.nD Cert.ProjBwdIdeal.τ).loc Cert.ProjBwdIdeal.main_arg2) = m ((c.tc : Thread Cert.ProjBwdIdeal.nD Cert.ProjBwdIdeal.τ).loc Cert.ProjBwdIdeal.main_arg2)
          ∧ r.2.mem ((c.tc : Thread Cert.ProjBwdIdeal.nD Cert.ProjBwdIdeal.τ).loc Cert.ProjBwdIdeal.main_arg3) = m ((c.tc : Thread Cert.ProjBwdIdeal.nD Cert.ProjBwdIdeal.τ).loc Cert.ProjBwdIdeal.main_arg3)
          ∧ r.2.mem ((c.tc : Thread Cert.ProjBwdIdeal.nD Cert.ProjBwdIdeal.τ).loc Cert.ProjBwdIdeal.main_arg4) = m ((c.tc : Thread Cert.ProjBwdIdeal.nD Cert.ProjBwdIdeal.τ).loc Cert.ProjBwdIdeal.main_arg4)
          ∧ r.2.mem ((c.tc : Thread Cert.ProjBwdIdeal.nD Cert.ProjBwdIdeal.τ).loc Cert.ProjBwdIdeal.main_arg5) = m ((c.tc : Thread Cert.ProjBwdIdeal.nD Cert.ProjBwdIdeal.τ).loc Cert.ProjBwdIdeal.main_arg5)
          ∧ r.2.mem ((c.tc : Thread Cert.ProjBwdIdeal.nD Cert.ProjBwdIdeal.τ).loc Cert.ProjBwdIdeal.main_arg6) = m ((c.tc : Thread Cert.ProjBwdIdeal.nD Cert.ProjBwdIdeal.τ).loc Cert.ProjBwdIdeal.main_arg6)
          ∧ r.2.mem ((c.tc : Thread Cert.ProjBwdIdeal.nD Cert.ProjBwdIdeal.τ).loc Cert.ProjBwdIdeal.main_arg7) = m ((c.tc : Thread Cert.ProjBwdIdeal.nD Cert.ProjBwdIdeal.τ).loc Cert.ProjBwdIdeal.main_arg7)
          ∧ r.2.mem ((c.tc : Thread Cert.ProjBwdIdeal.nD Cert.ProjBwdIdeal.τ).loc Cert.ProjBwdIdeal.main_arg8) = m ((c.tc : Thread Cert.ProjBwdIdeal.nD Cert.ProjBwdIdeal.τ).loc Cert.ProjBwdIdeal.main_arg8)
          ∧ r.2.mem ((c.tc : Thread Cert.ProjBwdIdeal.nD Cert.ProjBwdIdeal.τ).loc Cert.ProjBwdIdeal.main_arg9) = m ((c.tc : Thread Cert.ProjBwdIdeal.nD Cert.ProjBwdIdeal.τ).loc Cert.ProjBwdIdeal.main_arg9)
          ∧ r.2.mem ((c.tc : Thread Cert.ProjBwdIdeal.nD Cert.ProjBwdIdeal.τ).loc Cert.ProjBwdIdeal.main_arg10) = m ((c.tc : Thread Cert.ProjBwdIdeal.nD Cert.ProjBwdIdeal.τ).loc Cert.ProjBwdIdeal.main_arg10)
          ∧ r.2.mem ((c.tc : Thread Cert.ProjBwdIdeal.nD Cert.ProjBwdIdeal.τ).loc Cert.ProjBwdIdeal.main_arg11) = m ((c.tc : Thread Cert.ProjBwdIdeal.nD Cert.ProjBwdIdeal.τ).loc Cert.ProjBwdIdeal.main_arg11)
          ∧ r.2.mem ((c.tc : Thread Cert.ProjBwdIdeal.nD Cert.ProjBwdIdeal.τ).loc Cert.ProjBwdIdeal.main_arg12) = m ((c.tc : Thread Cert.ProjBwdIdeal.nD Cert.ProjBwdIdeal.τ).loc Cert.ProjBwdIdeal.main_arg12)
          ∧ r.2.mem ((c.tc : Thread Cert.ProjBwdIdeal.nD Cert.ProjBwdIdeal.τ).loc Cert.ProjBwdIdeal.main_arg13) = m ((c.tc : Thread Cert.ProjBwdIdeal.nD Cert.ProjBwdIdeal.τ).loc Cert.ProjBwdIdeal.main_arg13)
          ∧ r.2.mem ((c.tc : Thread Cert.ProjBwdIdeal.nD Cert.ProjBwdIdeal.τ).loc Cert.ProjBwdIdeal.main_arg14) = m ((c.tc : Thread Cert.ProjBwdIdeal.nD Cert.ProjBwdIdeal.τ).loc Cert.ProjBwdIdeal.main_arg14)
          ∧ r.2.mem ((c.tc : Thread Cert.ProjBwdIdeal.nD Cert.ProjBwdIdeal.τ).loc Cert.ProjBwdIdeal.main_arg15) = m ((c.tc : Thread Cert.ProjBwdIdeal.nD Cert.ProjBwdIdeal.τ).loc Cert.ProjBwdIdeal.main_arg15)
          ∧ r.2.mem ((c.tc : Thread Cert.ProjBwdIdeal.nD Cert.ProjBwdIdeal.τ).loc Cert.ProjBwdIdeal.main_arg16) = m ((c.tc : Thread Cert.ProjBwdIdeal.nD Cert.ProjBwdIdeal.τ).loc Cert.ProjBwdIdeal.main_arg16))
      ∧ θ_run (Cert.ProjBwdRefIdeal.defs (F := Ideal)) (onTc (τ := Cert.ProjBwdRefIdeal.τ) (Cert.ProjBwdRefIdeal.main (F := Ideal))) ⟨m', fun _ => 0, g'⟩ (fun r => ∀ c : Dev Cert.ProjBwdRefIdeal.nD,
          r.2.mem ((c.tc : Thread Cert.ProjBwdRefIdeal.nD Cert.ProjBwdRefIdeal.τ).loc Cert.ProjBwdRefIdeal.main_v42) = v0 c
          ∧ r.2.mem ((c.tc : Thread Cert.ProjBwdRefIdeal.nD Cert.ProjBwdRefIdeal.τ).loc Cert.ProjBwdRefIdeal.main_v25) = v1 c
          ∧ r.2.mem ((c.tc : Thread Cert.ProjBwdRefIdeal.nD Cert.ProjBwdRefIdeal.τ).loc Cert.ProjBwdRefIdeal.main_arg0) = m' ((c.tc : Thread Cert.ProjBwdRefIdeal.nD Cert.ProjBwdRefIdeal.τ).loc Cert.ProjBwdRefIdeal.main_arg0)
          ∧ r.2.mem ((c.tc : Thread Cert.ProjBwdRefIdeal.nD Cert.ProjBwdRefIdeal.τ).loc Cert.ProjBwdRefIdeal.main_arg1) = m' ((c.tc : Thread Cert.ProjBwdRefIdeal.nD Cert.ProjBwdRefIdeal.τ).loc Cert.ProjBwdRefIdeal.main_arg1)
          ∧ r.2.mem ((c.tc : Thread Cert.ProjBwdRefIdeal.nD Cert.ProjBwdRefIdeal.τ).loc Cert.ProjBwdRefIdeal.main_arg2) = m' ((c.tc : Thread Cert.ProjBwdRefIdeal.nD Cert.ProjBwdRefIdeal.τ).loc Cert.ProjBwdRefIdeal.main_arg2)
          ∧ r.2.mem ((c.tc : Thread Cert.ProjBwdRefIdeal.nD Cert.ProjBwdRefIdeal.τ).loc Cert.ProjBwdRefIdeal.main_arg3) = m' ((c.tc : Thread Cert.ProjBwdRefIdeal.nD Cert.ProjBwdRefIdeal.τ).loc Cert.ProjBwdRefIdeal.main_arg3)
          ∧ r.2.mem ((c.tc : Thread Cert.ProjBwdRefIdeal.nD Cert.ProjBwdRefIdeal.τ).loc Cert.ProjBwdRefIdeal.main_arg4) = m' ((c.tc : Thread Cert.ProjBwdRefIdeal.nD Cert.ProjBwdRefIdeal.τ).loc Cert.ProjBwdRefIdeal.main_arg4)
          ∧ r.2.mem ((c.tc : Thread Cert.ProjBwdRefIdeal.nD Cert.ProjBwdRefIdeal.τ).loc Cert.ProjBwdRefIdeal.main_arg5) = m' ((c.tc : Thread Cert.ProjBwdRefIdeal.nD Cert.ProjBwdRefIdeal.τ).loc Cert.ProjBwdRefIdeal.main_arg5)
          ∧ r.2.mem ((c.tc : Thread Cert.ProjBwdRefIdeal.nD Cert.ProjBwdRefIdeal.τ).loc Cert.ProjBwdRefIdeal.main_arg6) = m' ((c.tc : Thread Cert.ProjBwdRefIdeal.nD Cert.ProjBwdRefIdeal.τ).loc Cert.ProjBwdRefIdeal.main_arg6)
          ∧ r.2.mem ((c.tc : Thread Cert.ProjBwdRefIdeal.nD Cert.ProjBwdRefIdeal.τ).loc Cert.ProjBwdRefIdeal.main_arg7) = m' ((c.tc : Thread Cert.ProjBwdRefIdeal.nD Cert.ProjBwdRefIdeal.τ).loc Cert.ProjBwdRefIdeal.main_arg7)
          ∧ r.2.mem ((c.tc : Thread Cert.ProjBwdRefIdeal.nD Cert.ProjBwdRefIdeal.τ).loc Cert.ProjBwdRefIdeal.main_arg8) = m' ((c.tc : Thread Cert.ProjBwdRefIdeal.nD Cert.ProjBwdRefIdeal.τ).loc Cert.ProjBwdRefIdeal.main_arg8)
          ∧ r.2.mem ((c.tc : Thread Cert.ProjBwdRefIdeal.nD Cert.ProjBwdRefIdeal.τ).loc Cert.ProjBwdRefIdeal.main_arg9) = m' ((c.tc : Thread Cert.ProjBwdRefIdeal.nD Cert.ProjBwdRefIdeal.τ).loc Cert.ProjBwdRefIdeal.main_arg9)
          ∧ r.2.mem ((c.tc : Thread Cert.ProjBwdRefIdeal.nD Cert.ProjBwdRefIdeal.τ).loc Cert.ProjBwdRefIdeal.main_arg10) = m' ((c.tc : Thread Cert.ProjBwdRefIdeal.nD Cert.ProjBwdRefIdeal.τ).loc Cert.ProjBwdRefIdeal.main_arg10)
          ∧ r.2.mem ((c.tc : Thread Cert.ProjBwdRefIdeal.nD Cert.ProjBwdRefIdeal.τ).loc Cert.ProjBwdRefIdeal.main_arg11) = m' ((c.tc : Thread Cert.ProjBwdRefIdeal.nD Cert.ProjBwdRefIdeal.τ).loc Cert.ProjBwdRefIdeal.main_arg11)
          ∧ r.2.mem ((c.tc : Thread Cert.ProjBwdRefIdeal.nD Cert.ProjBwdRefIdeal.τ).loc Cert.ProjBwdRefIdeal.main_arg12) = m' ((c.tc : Thread Cert.ProjBwdRefIdeal.nD Cert.ProjBwdRefIdeal.τ).loc Cert.ProjBwdRefIdeal.main_arg12)
          ∧ r.2.mem ((c.tc : Thread Cert.ProjBwdRefIdeal.nD Cert.ProjBwdRefIdeal.τ).loc Cert.ProjBwdRefIdeal.main_arg13) = m' ((c.tc : Thread Cert.ProjBwdRefIdeal.nD Cert.ProjBwdRefIdeal.τ).loc Cert.ProjBwdRefIdeal.main_arg13)
          ∧ r.2.mem ((c.tc : Thread Cert.ProjBwdRefIdeal.nD Cert.ProjBwdRefIdeal.τ).loc Cert.ProjBwdRefIdeal.main_arg14) = m' ((c.tc : Thread Cert.ProjBwdRefIdeal.nD Cert.ProjBwdRefIdeal.τ).loc Cert.ProjBwdRefIdeal.main_arg14)
          ∧ r.2.mem ((c.tc : Thread Cert.ProjBwdRefIdeal.nD Cert.ProjBwdRefIdeal.τ).loc Cert.ProjBwdRefIdeal.main_arg15) = m' ((c.tc : Thread Cert.ProjBwdRefIdeal.nD Cert.ProjBwdRefIdeal.τ).loc Cert.ProjBwdRefIdeal.main_arg15)
          ∧ r.2.mem ((c.tc : Thread Cert.ProjBwdRefIdeal.nD Cert.ProjBwdRefIdeal.τ).loc Cert.ProjBwdRefIdeal.main_arg16) = m' ((c.tc : Thread Cert.ProjBwdRefIdeal.nD Cert.ProjBwdRefIdeal.τ).loc Cert.ProjBwdRefIdeal.main_arg16))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)
      ∧ m' ((c.tc : Thread Cert.FfnRefIdeal.nD Cert.FfnRefIdeal.τ).loc Cert.FfnRefIdeal.main_arg10) = m ((c.tc : Thread Cert.FfnIdeal.nD Cert.FfnIdeal.τ).loc Cert.FfnIdeal.main_arg10)
      ∧ m' ((c.tc : Thread Cert.FfnRefIdeal.nD Cert.FfnRefIdeal.τ).loc Cert.FfnRefIdeal.main_arg11) = m ((c.tc : Thread Cert.FfnIdeal.nD Cert.FfnIdeal.τ).loc Cert.FfnIdeal.main_arg11)) →
    ∃ (v0 : (c : Dev Cert.FfnIdeal.nD) → Buf (Elt Ideal) ((c.tc : Thread Cert.FfnIdeal.nD Cert.FfnIdeal.τ).loc Cert.FfnIdeal.main_v3_0)) (v1 : (c : Dev Cert.FfnIdeal.nD) → Buf (Elt Ideal) ((c.tc : Thread Cert.FfnIdeal.nD Cert.FfnIdeal.τ).loc Cert.FfnIdeal.main_v3_1)) (v2 : (c : Dev Cert.FfnIdeal.nD) → Buf (Elt Ideal) ((c.tc : Thread Cert.FfnIdeal.nD Cert.FfnIdeal.τ).loc Cert.FfnIdeal.main_v3_2)) (v3 : (c : Dev Cert.FfnIdeal.nD) → Buf (Elt Ideal) ((c.tc : Thread Cert.FfnIdeal.nD Cert.FfnIdeal.τ).loc Cert.FfnIdeal.main_v3_3)) (v4 : (c : Dev Cert.FfnIdeal.nD) → Buf (Elt Ideal) ((c.tc : Thread Cert.FfnIdeal.nD Cert.FfnIdeal.τ).loc Cert.FfnIdeal.main_v3_4)) (v5 : (c : Dev Cert.FfnIdeal.nD) → Buf (Elt Ideal) ((c.tc : Thread Cert.FfnIdeal.nD Cert.FfnIdeal.τ).loc Cert.FfnIdeal.main_v3_5)) (v6 : (c : Dev Cert.FfnIdeal.nD) → Buf (Elt Ideal) ((c.tc : Thread Cert.FfnIdeal.nD Cert.FfnIdeal.τ).loc Cert.FfnIdeal.main_v3_6)) (v7 : (c : Dev Cert.FfnIdeal.nD) → Buf (Elt Ideal) ((c.tc : Thread Cert.FfnIdeal.nD Cert.FfnIdeal.τ).loc Cert.FfnIdeal.main_v3_7)) (v8 : (c : Dev Cert.FfnIdeal.nD) → Buf (Elt Ideal) ((c.tc : Thread Cert.FfnIdeal.nD Cert.FfnIdeal.τ).loc Cert.FfnIdeal.main_v3_8)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v3_0) = v0 c
          ∧ r.2.mem ((c.tc : Thread Cert.FfnIdeal.nD Cert.FfnIdeal.τ).loc Cert.FfnIdeal.main_v3_1) = v1 c
          ∧ r.2.mem ((c.tc : Thread Cert.FfnIdeal.nD Cert.FfnIdeal.τ).loc Cert.FfnIdeal.main_v3_2) = v2 c
          ∧ r.2.mem ((c.tc : Thread Cert.FfnIdeal.nD Cert.FfnIdeal.τ).loc Cert.FfnIdeal.main_v3_3) = v3 c
          ∧ r.2.mem ((c.tc : Thread Cert.FfnIdeal.nD Cert.FfnIdeal.τ).loc Cert.FfnIdeal.main_v3_4) = v4 c
          ∧ r.2.mem ((c.tc : Thread Cert.FfnIdeal.nD Cert.FfnIdeal.τ).loc Cert.FfnIdeal.main_v3_5) = v5 c
          ∧ r.2.mem ((c.tc : Thread Cert.FfnIdeal.nD Cert.FfnIdeal.τ).loc Cert.FfnIdeal.main_v3_6) = v6 c
          ∧ r.2.mem ((c.tc : Thread Cert.FfnIdeal.nD Cert.FfnIdeal.τ).loc Cert.FfnIdeal.main_v3_7) = v7 c
          ∧ r.2.mem ((c.tc : Thread Cert.FfnIdeal.nD Cert.FfnIdeal.τ).loc Cert.FfnIdeal.main_v3_8) = v8 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9)
          ∧ r.2.mem ((c.tc : Thread Cert.FfnIdeal.nD Cert.FfnIdeal.τ).loc Cert.FfnIdeal.main_arg10) = m ((c.tc : Thread Cert.FfnIdeal.nD Cert.FfnIdeal.τ).loc Cert.FfnIdeal.main_arg10)
          ∧ r.2.mem ((c.tc : Thread Cert.FfnIdeal.nD Cert.FfnIdeal.τ).loc Cert.FfnIdeal.main_arg11) = m ((c.tc : Thread Cert.FfnIdeal.nD Cert.FfnIdeal.τ).loc Cert.FfnIdeal.main_arg11))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v128) = v0 c
          ∧ r.2.mem ((c.tc : Thread Cert.FfnRefIdeal.nD Cert.FfnRefIdeal.τ).loc Cert.FfnRefIdeal.main_v129) = v1 c
          ∧ r.2.mem ((c.tc : Thread Cert.FfnRefIdeal.nD Cert.FfnRefIdeal.τ).loc Cert.FfnRefIdeal.main_v123) = v2 c
          ∧ r.2.mem ((c.tc : Thread Cert.FfnRefIdeal.nD Cert.FfnRefIdeal.τ).loc Cert.FfnRefIdeal.main_v124) = v3 c
          ∧ r.2.mem ((c.tc : Thread Cert.FfnRefIdeal.nD Cert.FfnRefIdeal.τ).loc Cert.FfnRefIdeal.main_v125) = v4 c
          ∧ r.2.mem ((c.tc : Thread Cert.FfnRefIdeal.nD Cert.FfnRefIdeal.τ).loc Cert.FfnRefIdeal.main_v126) = v5 c
          ∧ r.2.mem ((c.tc : Thread Cert.FfnRefIdeal.nD Cert.FfnRefIdeal.τ).loc Cert.FfnRefIdeal.main_v127) = v6 c
          ∧ r.2.mem ((c.tc : Thread Cert.FfnRefIdeal.nD Cert.FfnRefIdeal.τ).loc Cert.FfnRefIdeal.main_v81) = v7 c
          ∧ r.2.mem ((c.tc : Thread Cert.FfnRefIdeal.nD Cert.FfnRefIdeal.τ).loc Cert.FfnRefIdeal.main_v106) = v8 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9)
          ∧ r.2.mem ((c.tc : Thread Cert.FfnRefIdeal.nD Cert.FfnRefIdeal.τ).loc Cert.FfnRefIdeal.main_arg10) = m' ((c.tc : Thread Cert.FfnRefIdeal.nD Cert.FfnRefIdeal.τ).loc Cert.FfnRefIdeal.main_arg10)
          ∧ r.2.mem ((c.tc : Thread Cert.FfnRefIdeal.nD Cert.FfnRefIdeal.τ).loc Cert.FfnRefIdeal.main_arg11) = m' ((c.tc : Thread Cert.FfnRefIdeal.nD Cert.FfnRefIdeal.τ).loc Cert.FfnRefIdeal.main_arg11))

def preserves_InGrad_InGradIdeal : Prop :=
  True

def algebraic_InGradIdeal_InGradRefIdeal [hInGradIdeal : Cert.InGradIdeal.Facts] [hInGradRefIdeal : Cert.InGradRefIdeal.Facts] : Prop :=
  ∀ (m : (ℓ : Loc Cert.InGradIdeal.nD Cert.InGradIdeal.τ Cert.InGradIdeal.sig) → Buf (Elt Ideal) ℓ) (g : Dev Cert.InGradIdeal.nD → PrngReg)
    (m' : (ℓ : Loc Cert.InGradRefIdeal.nD Cert.InGradRefIdeal.τ Cert.InGradRefIdeal.sig) → Buf (Elt Ideal) ℓ) (g' : Dev Cert.InGradRefIdeal.nD → PrngReg), Pre_InGradIdeal m →
    (∀ c : Dev Cert.InGradIdeal.nD,
      m' ((c.tc : Thread Cert.InGradRefIdeal.nD Cert.InGradRefIdeal.τ).loc Cert.InGradRefIdeal.main_arg0) = m ((c.tc : Thread Cert.InGradIdeal.nD Cert.InGradIdeal.τ).loc Cert.InGradIdeal.main_arg0)
      ∧ m' ((c.tc : Thread Cert.InGradRefIdeal.nD Cert.InGradRefIdeal.τ).loc Cert.InGradRefIdeal.main_arg1) = m ((c.tc : Thread Cert.InGradIdeal.nD Cert.InGradIdeal.τ).loc Cert.InGradIdeal.main_arg1)
      ∧ m' ((c.tc : Thread Cert.InGradRefIdeal.nD Cert.InGradRefIdeal.τ).loc Cert.InGradRefIdeal.main_arg2) = m ((c.tc : Thread Cert.InGradIdeal.nD Cert.InGradIdeal.τ).loc Cert.InGradIdeal.main_arg2)
      ∧ m' ((c.tc : Thread Cert.InGradRefIdeal.nD Cert.InGradRefIdeal.τ).loc Cert.InGradRefIdeal.main_arg3) = m ((c.tc : Thread Cert.InGradIdeal.nD Cert.InGradIdeal.τ).loc Cert.InGradIdeal.main_arg3)
      ∧ m' ((c.tc : Thread Cert.InGradRefIdeal.nD Cert.InGradRefIdeal.τ).loc Cert.InGradRefIdeal.main_arg4) = m ((c.tc : Thread Cert.InGradIdeal.nD Cert.InGradIdeal.τ).loc Cert.InGradIdeal.main_arg4)
      ∧ m' ((c.tc : Thread Cert.InGradRefIdeal.nD Cert.InGradRefIdeal.τ).loc Cert.InGradRefIdeal.main_arg5) = m ((c.tc : Thread Cert.InGradIdeal.nD Cert.InGradIdeal.τ).loc Cert.InGradIdeal.main_arg5)
      ∧ m' ((c.tc : Thread Cert.InGradRefIdeal.nD Cert.InGradRefIdeal.τ).loc Cert.InGradRefIdeal.main_arg6) = m ((c.tc : Thread Cert.InGradIdeal.nD Cert.InGradIdeal.τ).loc Cert.InGradIdeal.main_arg6)
      ∧ m' ((c.tc : Thread Cert.InGradRefIdeal.nD Cert.InGradRefIdeal.τ).loc Cert.InGradRefIdeal.main_arg7) = m ((c.tc : Thread Cert.InGradIdeal.nD Cert.InGradIdeal.τ).loc Cert.InGradIdeal.main_arg7)
      ∧ m' ((c.tc : Thread Cert.InGradRefIdeal.nD Cert.InGradRefIdeal.τ).loc Cert.InGradRefIdeal.main_arg8) = m ((c.tc : Thread Cert.InGradIdeal.nD Cert.InGradIdeal.τ).loc Cert.InGradIdeal.main_arg8)
      ∧ m' ((c.tc : Thread Cert.InGradRefIdeal.nD Cert.InGradRefIdeal.τ).loc Cert.InGradRefIdeal.main_arg9) = m ((c.tc : Thread Cert.InGradIdeal.nD Cert.InGradIdeal.τ).loc Cert.InGradIdeal.main_arg9)
      ∧ m' ((c.tc : Thread Cert.InGradRefIdeal.nD Cert.InGradRefIdeal.τ).loc Cert.InGradRefIdeal.main_arg10) = m ((c.tc : Thread Cert.InGradIdeal.nD Cert.InGradIdeal.τ).loc Cert.InGradIdeal.main_arg10)
      ∧ m' ((c.tc : Thread Cert.InGradRefIdeal.nD Cert.InGradRefIdeal.τ).loc Cert.InGradRefIdeal.main_arg11) = m ((c.tc : Thread Cert.InGradIdeal.nD Cert.InGradIdeal.τ).loc Cert.InGradIdeal.main_arg11)
      ∧ m' ((c.tc : Thread Cert.InGradRefIdeal.nD Cert.InGradRefIdeal.τ).loc Cert.InGradRefIdeal.main_arg12) = m ((c.tc : Thread Cert.InGradIdeal.nD Cert.InGradIdeal.τ).loc Cert.InGradIdeal.main_arg12)
      ∧ m' ((c.tc : Thread Cert.InGradRefIdeal.nD Cert.InGradRefIdeal.τ).loc Cert.InGradRefIdeal.main_arg13) = m ((c.tc : Thread Cert.InGradIdeal.nD Cert.InGradIdeal.τ).loc Cert.InGradIdeal.main_arg13)) →
    ∃ (v0 : (c : Dev Cert.InGradIdeal.nD) → Buf (Elt Ideal) ((c.tc : Thread Cert.InGradIdeal.nD Cert.InGradIdeal.τ).loc Cert.InGradIdeal.main_v0)),
      θ_run (Cert.InGradIdeal.defs (F := Ideal)) (onTc (τ := Cert.InGradIdeal.τ) (Cert.InGradIdeal.main (F := Ideal))) ⟨m, fun _ => 0, g⟩ (fun r => ∀ c : Dev Cert.InGradIdeal.nD,
          r.2.mem ((c.tc : Thread Cert.InGradIdeal.nD Cert.InGradIdeal.τ).loc Cert.InGradIdeal.main_v0) = v0 c
          ∧ r.2.mem ((c.tc : Thread Cert.InGradIdeal.nD Cert.InGradIdeal.τ).loc Cert.InGradIdeal.main_arg0) = m ((c.tc : Thread Cert.InGradIdeal.nD Cert.InGradIdeal.τ).loc Cert.InGradIdeal.main_arg0)
          ∧ r.2.mem ((c.tc : Thread Cert.InGradIdeal.nD Cert.InGradIdeal.τ).loc Cert.InGradIdeal.main_arg1) = m ((c.tc : Thread Cert.InGradIdeal.nD Cert.InGradIdeal.τ).loc Cert.InGradIdeal.main_arg1)
          ∧ r.2.mem ((c.tc : Thread Cert.InGradIdeal.nD Cert.InGradIdeal.τ).loc Cert.InGradIdeal.main_arg2) = m ((c.tc : Thread Cert.InGradIdeal.nD Cert.InGradIdeal.τ).loc Cert.InGradIdeal.main_arg2)
          ∧ r.2.mem ((c.tc : Thread Cert.InGradIdeal.nD Cert.InGradIdeal.τ).loc Cert.InGradIdeal.main_arg3) = m ((c.tc : Thread Cert.InGradIdeal.nD Cert.InGradIdeal.τ).loc Cert.InGradIdeal.main_arg3)
          ∧ r.2.mem ((c.tc : Thread Cert.InGradIdeal.nD Cert.InGradIdeal.τ).loc Cert.InGradIdeal.main_arg4) = m ((c.tc : Thread Cert.InGradIdeal.nD Cert.InGradIdeal.τ).loc Cert.InGradIdeal.main_arg4)
          ∧ r.2.mem ((c.tc : Thread Cert.InGradIdeal.nD Cert.InGradIdeal.τ).loc Cert.InGradIdeal.main_arg5) = m ((c.tc : Thread Cert.InGradIdeal.nD Cert.InGradIdeal.τ).loc Cert.InGradIdeal.main_arg5)
          ∧ r.2.mem ((c.tc : Thread Cert.InGradIdeal.nD Cert.InGradIdeal.τ).loc Cert.InGradIdeal.main_arg6) = m ((c.tc : Thread Cert.InGradIdeal.nD Cert.InGradIdeal.τ).loc Cert.InGradIdeal.main_arg6)
          ∧ r.2.mem ((c.tc : Thread Cert.InGradIdeal.nD Cert.InGradIdeal.τ).loc Cert.InGradIdeal.main_arg7) = m ((c.tc : Thread Cert.InGradIdeal.nD Cert.InGradIdeal.τ).loc Cert.InGradIdeal.main_arg7)
          ∧ r.2.mem ((c.tc : Thread Cert.InGradIdeal.nD Cert.InGradIdeal.τ).loc Cert.InGradIdeal.main_arg8) = m ((c.tc : Thread Cert.InGradIdeal.nD Cert.InGradIdeal.τ).loc Cert.InGradIdeal.main_arg8)
          ∧ r.2.mem ((c.tc : Thread Cert.InGradIdeal.nD Cert.InGradIdeal.τ).loc Cert.InGradIdeal.main_arg9) = m ((c.tc : Thread Cert.InGradIdeal.nD Cert.InGradIdeal.τ).loc Cert.InGradIdeal.main_arg9)
          ∧ r.2.mem ((c.tc : Thread Cert.InGradIdeal.nD Cert.InGradIdeal.τ).loc Cert.InGradIdeal.main_arg10) = m ((c.tc : Thread Cert.InGradIdeal.nD Cert.InGradIdeal.τ).loc Cert.InGradIdeal.main_arg10)
          ∧ r.2.mem ((c.tc : Thread Cert.InGradIdeal.nD Cert.InGradIdeal.τ).loc Cert.InGradIdeal.main_arg11) = m ((c.tc : Thread Cert.InGradIdeal.nD Cert.InGradIdeal.τ).loc Cert.InGradIdeal.main_arg11)
          ∧ r.2.mem ((c.tc : Thread Cert.InGradIdeal.nD Cert.InGradIdeal.τ).loc Cert.InGradIdeal.main_arg12) = m ((c.tc : Thread Cert.InGradIdeal.nD Cert.InGradIdeal.τ).loc Cert.InGradIdeal.main_arg12)
          ∧ r.2.mem ((c.tc : Thread Cert.InGradIdeal.nD Cert.InGradIdeal.τ).loc Cert.InGradIdeal.main_arg13) = m ((c.tc : Thread Cert.InGradIdeal.nD Cert.InGradIdeal.τ).loc Cert.InGradIdeal.main_arg13))
      ∧ θ_run (Cert.InGradRefIdeal.defs (F := Ideal)) (onTc (τ := Cert.InGradRefIdeal.τ) (Cert.InGradRefIdeal.main (F := Ideal))) ⟨m', fun _ => 0, g'⟩ (fun r => ∀ c : Dev Cert.InGradRefIdeal.nD,
          r.2.mem ((c.tc : Thread Cert.InGradRefIdeal.nD Cert.InGradRefIdeal.τ).loc Cert.InGradRefIdeal.main_v11) = v0 c
          ∧ r.2.mem ((c.tc : Thread Cert.InGradRefIdeal.nD Cert.InGradRefIdeal.τ).loc Cert.InGradRefIdeal.main_arg0) = m' ((c.tc : Thread Cert.InGradRefIdeal.nD Cert.InGradRefIdeal.τ).loc Cert.InGradRefIdeal.main_arg0)
          ∧ r.2.mem ((c.tc : Thread Cert.InGradRefIdeal.nD Cert.InGradRefIdeal.τ).loc Cert.InGradRefIdeal.main_arg1) = m' ((c.tc : Thread Cert.InGradRefIdeal.nD Cert.InGradRefIdeal.τ).loc Cert.InGradRefIdeal.main_arg1)
          ∧ r.2.mem ((c.tc : Thread Cert.InGradRefIdeal.nD Cert.InGradRefIdeal.τ).loc Cert.InGradRefIdeal.main_arg2) = m' ((c.tc : Thread Cert.InGradRefIdeal.nD Cert.InGradRefIdeal.τ).loc Cert.InGradRefIdeal.main_arg2)
          ∧ r.2.mem ((c.tc : Thread Cert.InGradRefIdeal.nD Cert.InGradRefIdeal.τ).loc Cert.InGradRefIdeal.main_arg3) = m' ((c.tc : Thread Cert.InGradRefIdeal.nD Cert.InGradRefIdeal.τ).loc Cert.InGradRefIdeal.main_arg3)
          ∧ r.2.mem ((c.tc : Thread Cert.InGradRefIdeal.nD Cert.InGradRefIdeal.τ).loc Cert.InGradRefIdeal.main_arg4) = m' ((c.tc : Thread Cert.InGradRefIdeal.nD Cert.InGradRefIdeal.τ).loc Cert.InGradRefIdeal.main_arg4)
          ∧ r.2.mem ((c.tc : Thread Cert.InGradRefIdeal.nD Cert.InGradRefIdeal.τ).loc Cert.InGradRefIdeal.main_arg5) = m' ((c.tc : Thread Cert.InGradRefIdeal.nD Cert.InGradRefIdeal.τ).loc Cert.InGradRefIdeal.main_arg5)
          ∧ r.2.mem ((c.tc : Thread Cert.InGradRefIdeal.nD Cert.InGradRefIdeal.τ).loc Cert.InGradRefIdeal.main_arg6) = m' ((c.tc : Thread Cert.InGradRefIdeal.nD Cert.InGradRefIdeal.τ).loc Cert.InGradRefIdeal.main_arg6)
          ∧ r.2.mem ((c.tc : Thread Cert.InGradRefIdeal.nD Cert.InGradRefIdeal.τ).loc Cert.InGradRefIdeal.main_arg7) = m' ((c.tc : Thread Cert.InGradRefIdeal.nD Cert.InGradRefIdeal.τ).loc Cert.InGradRefIdeal.main_arg7)
          ∧ r.2.mem ((c.tc : Thread Cert.InGradRefIdeal.nD Cert.InGradRefIdeal.τ).loc Cert.InGradRefIdeal.main_arg8) = m' ((c.tc : Thread Cert.InGradRefIdeal.nD Cert.InGradRefIdeal.τ).loc Cert.InGradRefIdeal.main_arg8)
          ∧ r.2.mem ((c.tc : Thread Cert.InGradRefIdeal.nD Cert.InGradRefIdeal.τ).loc Cert.InGradRefIdeal.main_arg9) = m' ((c.tc : Thread Cert.InGradRefIdeal.nD Cert.InGradRefIdeal.τ).loc Cert.InGradRefIdeal.main_arg9)
          ∧ r.2.mem ((c.tc : Thread Cert.InGradRefIdeal.nD Cert.InGradRefIdeal.τ).loc Cert.InGradRefIdeal.main_arg10) = m' ((c.tc : Thread Cert.InGradRefIdeal.nD Cert.InGradRefIdeal.τ).loc Cert.InGradRefIdeal.main_arg10)
          ∧ r.2.mem ((c.tc : Thread Cert.InGradRefIdeal.nD Cert.InGradRefIdeal.τ).loc Cert.InGradRefIdeal.main_arg11) = m' ((c.tc : Thread Cert.InGradRefIdeal.nD Cert.InGradRefIdeal.τ).loc Cert.InGradRefIdeal.main_arg11)
          ∧ r.2.mem ((c.tc : Thread Cert.InGradRefIdeal.nD Cert.InGradRefIdeal.τ).loc Cert.InGradRefIdeal.main_arg12) = m' ((c.tc : Thread Cert.InGradRefIdeal.nD Cert.InGradRefIdeal.τ).loc Cert.InGradRefIdeal.main_arg12)
          ∧ r.2.mem ((c.tc : Thread Cert.InGradRefIdeal.nD Cert.InGradRefIdeal.τ).loc Cert.InGradRefIdeal.main_arg13) = m' ((c.tc : Thread Cert.InGradRefIdeal.nD Cert.InGradRefIdeal.τ).loc Cert.InGradRefIdeal.main_arg13))

def preserves_SbUp_SbUpIdeal : Prop :=
  True

def algebraic_SbUpIdeal_SbUpRefIdeal [hSbUpIdeal : Cert.SbUpIdeal.Facts] [hSbUpRefIdeal : Cert.SbUpRefIdeal.Facts] : Prop :=
  ∀ (m : (ℓ : Loc Cert.SbUpIdeal.nD Cert.SbUpIdeal.τ Cert.SbUpIdeal.sig) → Buf (Elt Ideal) ℓ) (g : Dev Cert.SbUpIdeal.nD → PrngReg)
    (m' : (ℓ : Loc Cert.SbUpRefIdeal.nD Cert.SbUpRefIdeal.τ Cert.SbUpRefIdeal.sig) → Buf (Elt Ideal) ℓ) (g' : Dev Cert.SbUpRefIdeal.nD → PrngReg), Pre_SbUpIdeal m →
    (∀ c : Dev Cert.SbUpIdeal.nD,
      m' ((c.tc : Thread Cert.SbUpRefIdeal.nD Cert.SbUpRefIdeal.τ).loc Cert.SbUpRefIdeal.main_arg0) = m ((c.tc : Thread Cert.SbUpIdeal.nD Cert.SbUpIdeal.τ).loc Cert.SbUpIdeal.main_arg0)
      ∧ m' ((c.tc : Thread Cert.SbUpRefIdeal.nD Cert.SbUpRefIdeal.τ).loc Cert.SbUpRefIdeal.main_arg1) = m ((c.tc : Thread Cert.SbUpIdeal.nD Cert.SbUpIdeal.τ).loc Cert.SbUpIdeal.main_arg1)) →
    ∃ (v0 : (c : Dev Cert.SbUpIdeal.nD) → Buf (Elt Ideal) ((c.tc : Thread Cert.SbUpIdeal.nD Cert.SbUpIdeal.τ).loc Cert.SbUpIdeal.main_v0)),
      θ_run (Cert.SbUpIdeal.defs (F := Ideal)) (onTc (τ := Cert.SbUpIdeal.τ) (Cert.SbUpIdeal.main (F := Ideal))) ⟨m, fun _ => 0, g⟩ (fun r => ∀ c : Dev Cert.SbUpIdeal.nD,
          r.2.mem ((c.tc : Thread Cert.SbUpIdeal.nD Cert.SbUpIdeal.τ).loc Cert.SbUpIdeal.main_v0) = v0 c
          ∧ r.2.mem ((c.tc : Thread Cert.SbUpIdeal.nD Cert.SbUpIdeal.τ).loc Cert.SbUpIdeal.main_arg0) = m ((c.tc : Thread Cert.SbUpIdeal.nD Cert.SbUpIdeal.τ).loc Cert.SbUpIdeal.main_arg0)
          ∧ r.2.mem ((c.tc : Thread Cert.SbUpIdeal.nD Cert.SbUpIdeal.τ).loc Cert.SbUpIdeal.main_arg1) = m ((c.tc : Thread Cert.SbUpIdeal.nD Cert.SbUpIdeal.τ).loc Cert.SbUpIdeal.main_arg1))
      ∧ θ_run (Cert.SbUpRefIdeal.defs (F := Ideal)) (onTc (τ := Cert.SbUpRefIdeal.τ) (Cert.SbUpRefIdeal.main (F := Ideal))) ⟨m', fun _ => 0, g'⟩ (fun r => ∀ c : Dev Cert.SbUpRefIdeal.nD,
          r.2.mem ((c.tc : Thread Cert.SbUpRefIdeal.nD Cert.SbUpRefIdeal.τ).loc Cert.SbUpRefIdeal.main_v8) = v0 c
          ∧ r.2.mem ((c.tc : Thread Cert.SbUpRefIdeal.nD Cert.SbUpRefIdeal.τ).loc Cert.SbUpRefIdeal.main_arg0) = m' ((c.tc : Thread Cert.SbUpRefIdeal.nD Cert.SbUpRefIdeal.τ).loc Cert.SbUpRefIdeal.main_arg0)
          ∧ r.2.mem ((c.tc : Thread Cert.SbUpRefIdeal.nD Cert.SbUpRefIdeal.τ).loc Cert.SbUpRefIdeal.main_arg1) = m' ((c.tc : Thread Cert.SbUpRefIdeal.nD Cert.SbUpRefIdeal.τ).loc Cert.SbUpRefIdeal.main_arg1))

def preserves_DilUp_DilUpIdeal : Prop :=
  True

def algebraic_DilUpIdeal_DilUpRefIdeal [hDilUpIdeal : Cert.DilUpIdeal.Facts] [hDilUpRefIdeal : Cert.DilUpRefIdeal.Facts] : Prop :=
  ∀ (m : (ℓ : Loc Cert.DilUpIdeal.nD Cert.DilUpIdeal.τ Cert.DilUpIdeal.sig) → Buf (Elt Ideal) ℓ) (g : Dev Cert.DilUpIdeal.nD → PrngReg)
    (m' : (ℓ : Loc Cert.DilUpRefIdeal.nD Cert.DilUpRefIdeal.τ Cert.DilUpRefIdeal.sig) → Buf (Elt Ideal) ℓ) (g' : Dev Cert.DilUpRefIdeal.nD → PrngReg), Pre_DilUpIdeal m →
    (∀ c : Dev Cert.DilUpIdeal.nD,
      m' ((c.tc : Thread Cert.DilUpRefIdeal.nD Cert.DilUpRefIdeal.τ).loc Cert.DilUpRefIdeal.main_arg0) = m ((c.tc : Thread Cert.DilUpIdeal.nD Cert.DilUpIdeal.τ).loc Cert.DilUpIdeal.main_arg0)
      ∧ m' ((c.tc : Thread Cert.DilUpRefIdeal.nD Cert.DilUpRefIdeal.τ).loc Cert.DilUpRefIdeal.main_arg1) = m ((c.tc : Thread Cert.DilUpIdeal.nD Cert.DilUpIdeal.τ).loc Cert.DilUpIdeal.main_arg1)) →
    ∃ (v0 : (c : Dev Cert.DilUpIdeal.nD) → Buf (Elt Ideal) ((c.tc : Thread Cert.DilUpIdeal.nD Cert.DilUpIdeal.τ).loc Cert.DilUpIdeal.main_v0)),
      θ_run (Cert.DilUpIdeal.defs (F := Ideal)) (onTc (τ := Cert.DilUpIdeal.τ) (Cert.DilUpIdeal.main (F := Ideal))) ⟨m, fun _ => 0, g⟩ (fun r => ∀ c : Dev Cert.DilUpIdeal.nD,
          r.2.mem ((c.tc : Thread Cert.DilUpIdeal.nD Cert.DilUpIdeal.τ).loc Cert.DilUpIdeal.main_v0) = v0 c
          ∧ r.2.mem ((c.tc : Thread Cert.DilUpIdeal.nD Cert.DilUpIdeal.τ).loc Cert.DilUpIdeal.main_arg0) = m ((c.tc : Thread Cert.DilUpIdeal.nD Cert.DilUpIdeal.τ).loc Cert.DilUpIdeal.main_arg0)
          ∧ r.2.mem ((c.tc : Thread Cert.DilUpIdeal.nD Cert.DilUpIdeal.τ).loc Cert.DilUpIdeal.main_arg1) = m ((c.tc : Thread Cert.DilUpIdeal.nD Cert.DilUpIdeal.τ).loc Cert.DilUpIdeal.main_arg1))
      ∧ θ_run (Cert.DilUpRefIdeal.defs (F := Ideal)) (onTc (τ := Cert.DilUpRefIdeal.τ) (Cert.DilUpRefIdeal.main (F := Ideal))) ⟨m', fun _ => 0, g'⟩ (fun r => ∀ c : Dev Cert.DilUpRefIdeal.nD,
          r.2.mem ((c.tc : Thread Cert.DilUpRefIdeal.nD Cert.DilUpRefIdeal.τ).loc Cert.DilUpRefIdeal.main_v7) = v0 c
          ∧ r.2.mem ((c.tc : Thread Cert.DilUpRefIdeal.nD Cert.DilUpRefIdeal.τ).loc Cert.DilUpRefIdeal.main_arg0) = m' ((c.tc : Thread Cert.DilUpRefIdeal.nD Cert.DilUpRefIdeal.τ).loc Cert.DilUpRefIdeal.main_arg0)
          ∧ r.2.mem ((c.tc : Thread Cert.DilUpRefIdeal.nD Cert.DilUpRefIdeal.τ).loc Cert.DilUpRefIdeal.main_arg1) = m' ((c.tc : Thread Cert.DilUpRefIdeal.nD Cert.DilUpRefIdeal.τ).loc Cert.DilUpRefIdeal.main_arg1))

def preserves_WOut_WOutIdeal : Prop :=
  True

def algebraic_WOutIdeal_WOutRefIdeal [hWOutIdeal : Cert.WOutIdeal.Facts] [hWOutRefIdeal : Cert.WOutRefIdeal.Facts] : Prop :=
  ∀ (m : (ℓ : Loc Cert.WOutIdeal.nD Cert.WOutIdeal.τ Cert.WOutIdeal.sig) → Buf (Elt Ideal) ℓ) (g : Dev Cert.WOutIdeal.nD → PrngReg)
    (m' : (ℓ : Loc Cert.WOutRefIdeal.nD Cert.WOutRefIdeal.τ Cert.WOutRefIdeal.sig) → Buf (Elt Ideal) ℓ) (g' : Dev Cert.WOutRefIdeal.nD → PrngReg), Pre_WOutIdeal m →
    (∀ c : Dev Cert.WOutIdeal.nD,
      m' ((c.tc : Thread Cert.WOutRefIdeal.nD Cert.WOutRefIdeal.τ).loc Cert.WOutRefIdeal.main_arg0) = m ((c.tc : Thread Cert.WOutIdeal.nD Cert.WOutIdeal.τ).loc Cert.WOutIdeal.main_arg0)
      ∧ m' ((c.tc : Thread Cert.WOutRefIdeal.nD Cert.WOutRefIdeal.τ).loc Cert.WOutRefIdeal.main_arg1) = m ((c.tc : Thread Cert.WOutIdeal.nD Cert.WOutIdeal.τ).loc Cert.WOutIdeal.main_arg1)) →
    ∃ (v0 : (c : Dev Cert.WOutIdeal.nD) → Buf (Elt Ideal) ((c.tc : Thread Cert.WOutIdeal.nD Cert.WOutIdeal.τ).loc Cert.WOutIdeal.main_v0)),
      θ_run (Cert.WOutIdeal.defs (F := Ideal)) (onTc (τ := Cert.WOutIdeal.τ) (Cert.WOutIdeal.main (F := Ideal))) ⟨m, fun _ => 0, g⟩ (fun r => ∀ c : Dev Cert.WOutIdeal.nD,
          r.2.mem ((c.tc : Thread Cert.WOutIdeal.nD Cert.WOutIdeal.τ).loc Cert.WOutIdeal.main_v0) = v0 c
          ∧ r.2.mem ((c.tc : Thread Cert.WOutIdeal.nD Cert.WOutIdeal.τ).loc Cert.WOutIdeal.main_arg0) = m ((c.tc : Thread Cert.WOutIdeal.nD Cert.WOutIdeal.τ).loc Cert.WOutIdeal.main_arg0)
          ∧ r.2.mem ((c.tc : Thread Cert.WOutIdeal.nD Cert.WOutIdeal.τ).loc Cert.WOutIdeal.main_arg1) = m ((c.tc : Thread Cert.WOutIdeal.nD Cert.WOutIdeal.τ).loc Cert.WOutIdeal.main_arg1))
      ∧ θ_run (Cert.WOutRefIdeal.defs (F := Ideal)) (onTc (τ := Cert.WOutRefIdeal.τ) (Cert.WOutRefIdeal.main (F := Ideal))) ⟨m', fun _ => 0, g'⟩ (fun r => ∀ c : Dev Cert.WOutRefIdeal.nD,
          r.2.mem ((c.tc : Thread Cert.WOutRefIdeal.nD Cert.WOutRefIdeal.τ).loc Cert.WOutRefIdeal.main_v5) = v0 c
          ∧ r.2.mem ((c.tc : Thread Cert.WOutRefIdeal.nD Cert.WOutRefIdeal.τ).loc Cert.WOutRefIdeal.main_arg0) = m' ((c.tc : Thread Cert.WOutRefIdeal.nD Cert.WOutRefIdeal.τ).loc Cert.WOutRefIdeal.main_arg0)
          ∧ r.2.mem ((c.tc : Thread Cert.WOutRefIdeal.nD Cert.WOutRefIdeal.τ).loc Cert.WOutRefIdeal.main_arg1) = m' ((c.tc : Thread Cert.WOutRefIdeal.nD Cert.WOutRefIdeal.τ).loc Cert.WOutRefIdeal.main_arg1))

def preserves_UpIn_UpInIdeal : Prop :=
  True

def algebraic_UpInIdeal_UpInRefIdeal [hUpInIdeal : Cert.UpInIdeal.Facts] [hUpInRefIdeal : Cert.UpInRefIdeal.Facts] : Prop :=
  ∀ (m : (ℓ : Loc Cert.UpInIdeal.nD Cert.UpInIdeal.τ Cert.UpInIdeal.sig) → Buf (Elt Ideal) ℓ) (g : Dev Cert.UpInIdeal.nD → PrngReg)
    (m' : (ℓ : Loc Cert.UpInRefIdeal.nD Cert.UpInRefIdeal.τ Cert.UpInRefIdeal.sig) → Buf (Elt Ideal) ℓ) (g' : Dev Cert.UpInRefIdeal.nD → PrngReg), Pre_UpInIdeal m →
    (∀ c : Dev Cert.UpInIdeal.nD,
      m' ((c.tc : Thread Cert.UpInRefIdeal.nD Cert.UpInRefIdeal.τ).loc Cert.UpInRefIdeal.main_arg0) = m ((c.tc : Thread Cert.UpInIdeal.nD Cert.UpInIdeal.τ).loc Cert.UpInIdeal.main_arg0)
      ∧ m' ((c.tc : Thread Cert.UpInRefIdeal.nD Cert.UpInRefIdeal.τ).loc Cert.UpInRefIdeal.main_arg1) = m ((c.tc : Thread Cert.UpInIdeal.nD Cert.UpInIdeal.τ).loc Cert.UpInIdeal.main_arg1)
      ∧ m' ((c.tc : Thread Cert.UpInRefIdeal.nD Cert.UpInRefIdeal.τ).loc Cert.UpInRefIdeal.main_arg2) = m ((c.tc : Thread Cert.UpInIdeal.nD Cert.UpInIdeal.τ).loc Cert.UpInIdeal.main_arg2)
      ∧ m' ((c.tc : Thread Cert.UpInRefIdeal.nD Cert.UpInRefIdeal.τ).loc Cert.UpInRefIdeal.main_arg3) = m ((c.tc : Thread Cert.UpInIdeal.nD Cert.UpInIdeal.τ).loc Cert.UpInIdeal.main_arg3)) →
    ∃ (v0 : (c : Dev Cert.UpInIdeal.nD) → Buf (Elt Ideal) ((c.tc : Thread Cert.UpInIdeal.nD Cert.UpInIdeal.τ).loc Cert.UpInIdeal.main_v0_0)) (v1 : (c : Dev Cert.UpInIdeal.nD) → Buf (Elt Ideal) ((c.tc : Thread Cert.UpInIdeal.nD Cert.UpInIdeal.τ).loc Cert.UpInIdeal.main_v0_1)) (v2 : (c : Dev Cert.UpInIdeal.nD) → Buf (Elt Ideal) ((c.tc : Thread Cert.UpInIdeal.nD Cert.UpInIdeal.τ).loc Cert.UpInIdeal.main_v0_2)) (v3 : (c : Dev Cert.UpInIdeal.nD) → Buf (Elt Ideal) ((c.tc : Thread Cert.UpInIdeal.nD Cert.UpInIdeal.τ).loc Cert.UpInIdeal.main_v0_3)),
      θ_run (Cert.UpInIdeal.defs (F := Ideal)) (onTc (τ := Cert.UpInIdeal.τ) (Cert.UpInIdeal.main (F := Ideal))) ⟨m, fun _ => 0, g⟩ (fun r => ∀ c : Dev Cert.UpInIdeal.nD,
          r.2.mem ((c.tc : Thread Cert.UpInIdeal.nD Cert.UpInIdeal.τ).loc Cert.UpInIdeal.main_v0_0) = v0 c
          ∧ r.2.mem ((c.tc : Thread Cert.UpInIdeal.nD Cert.UpInIdeal.τ).loc Cert.UpInIdeal.main_v0_1) = v1 c
          ∧ r.2.mem ((c.tc : Thread Cert.UpInIdeal.nD Cert.UpInIdeal.τ).loc Cert.UpInIdeal.main_v0_2) = v2 c
          ∧ r.2.mem ((c.tc : Thread Cert.UpInIdeal.nD Cert.UpInIdeal.τ).loc Cert.UpInIdeal.main_v0_3) = v3 c
          ∧ r.2.mem ((c.tc : Thread Cert.UpInIdeal.nD Cert.UpInIdeal.τ).loc Cert.UpInIdeal.main_arg0) = m ((c.tc : Thread Cert.UpInIdeal.nD Cert.UpInIdeal.τ).loc Cert.UpInIdeal.main_arg0)
          ∧ r.2.mem ((c.tc : Thread Cert.UpInIdeal.nD Cert.UpInIdeal.τ).loc Cert.UpInIdeal.main_arg1) = m ((c.tc : Thread Cert.UpInIdeal.nD Cert.UpInIdeal.τ).loc Cert.UpInIdeal.main_arg1)
          ∧ r.2.mem ((c.tc : Thread Cert.UpInIdeal.nD Cert.UpInIdeal.τ).loc Cert.UpInIdeal.main_arg2) = m ((c.tc : Thread Cert.UpInIdeal.nD Cert.UpInIdeal.τ).loc Cert.UpInIdeal.main_arg2)
          ∧ r.2.mem ((c.tc : Thread Cert.UpInIdeal.nD Cert.UpInIdeal.τ).loc Cert.UpInIdeal.main_arg3) = m ((c.tc : Thread Cert.UpInIdeal.nD Cert.UpInIdeal.τ).loc Cert.UpInIdeal.main_arg3))
      ∧ θ_run (Cert.UpInRefIdeal.defs (F := Ideal)) (onTc (τ := Cert.UpInRefIdeal.τ) (Cert.UpInRefIdeal.main (F := Ideal))) ⟨m', fun _ => 0, g'⟩ (fun r => ∀ c : Dev Cert.UpInRefIdeal.nD,
          r.2.mem ((c.tc : Thread Cert.UpInRefIdeal.nD Cert.UpInRefIdeal.τ).loc Cert.UpInRefIdeal.main_v2) = v0 c
          ∧ r.2.mem ((c.tc : Thread Cert.UpInRefIdeal.nD Cert.UpInRefIdeal.τ).loc Cert.UpInRefIdeal.main_v26) = v1 c
          ∧ r.2.mem ((c.tc : Thread Cert.UpInRefIdeal.nD Cert.UpInRefIdeal.τ).loc Cert.UpInRefIdeal.main_v7) = v2 c
          ∧ r.2.mem ((c.tc : Thread Cert.UpInRefIdeal.nD Cert.UpInRefIdeal.τ).loc Cert.UpInRefIdeal.main_v13) = v3 c
          ∧ r.2.mem ((c.tc : Thread Cert.UpInRefIdeal.nD Cert.UpInRefIdeal.τ).loc Cert.UpInRefIdeal.main_arg0) = m' ((c.tc : Thread Cert.UpInRefIdeal.nD Cert.UpInRefIdeal.τ).loc Cert.UpInRefIdeal.main_arg0)
          ∧ r.2.mem ((c.tc : Thread Cert.UpInRefIdeal.nD Cert.UpInRefIdeal.τ).loc Cert.UpInRefIdeal.main_arg1) = m' ((c.tc : Thread Cert.UpInRefIdeal.nD Cert.UpInRefIdeal.τ).loc Cert.UpInRefIdeal.main_arg1)
          ∧ r.2.mem ((c.tc : Thread Cert.UpInRefIdeal.nD Cert.UpInRefIdeal.τ).loc Cert.UpInRefIdeal.main_arg2) = m' ((c.tc : Thread Cert.UpInRefIdeal.nD Cert.UpInRefIdeal.τ).loc Cert.UpInRefIdeal.main_arg2)
          ∧ r.2.mem ((c.tc : Thread Cert.UpInRefIdeal.nD Cert.UpInRefIdeal.τ).loc Cert.UpInRefIdeal.main_arg3) = m' ((c.tc : Thread Cert.UpInRefIdeal.nD Cert.UpInRefIdeal.τ).loc Cert.UpInRefIdeal.main_arg3))

def preserves_UpSb_UpSbIdeal : Prop :=
  True

def algebraic_UpSbIdeal_UpSbRefIdeal [hUpSbIdeal : Cert.UpSbIdeal.Facts] [hUpSbRefIdeal : Cert.UpSbRefIdeal.Facts] : Prop :=
  ∀ (m : (ℓ : Loc Cert.UpSbIdeal.nD Cert.UpSbIdeal.τ Cert.UpSbIdeal.sig) → Buf (Elt Ideal) ℓ) (g : Dev Cert.UpSbIdeal.nD → PrngReg)
    (m' : (ℓ : Loc Cert.UpSbRefIdeal.nD Cert.UpSbRefIdeal.τ Cert.UpSbRefIdeal.sig) → Buf (Elt Ideal) ℓ) (g' : Dev Cert.UpSbRefIdeal.nD → PrngReg), Pre_UpSbIdeal m →
    (∀ c : Dev Cert.UpSbIdeal.nD,
      m' ((c.tc : Thread Cert.UpSbRefIdeal.nD Cert.UpSbRefIdeal.τ).loc Cert.UpSbRefIdeal.main_arg0) = m ((c.tc : Thread Cert.UpSbIdeal.nD Cert.UpSbIdeal.τ).loc Cert.UpSbIdeal.main_arg0)
      ∧ m' ((c.tc : Thread Cert.UpSbRefIdeal.nD Cert.UpSbRefIdeal.τ).loc Cert.UpSbRefIdeal.main_arg1) = m ((c.tc : Thread Cert.UpSbIdeal.nD Cert.UpSbIdeal.τ).loc Cert.UpSbIdeal.main_arg1)
      ∧ m' ((c.tc : Thread Cert.UpSbRefIdeal.nD Cert.UpSbRefIdeal.τ).loc Cert.UpSbRefIdeal.main_arg2) = m ((c.tc : Thread Cert.UpSbIdeal.nD Cert.UpSbIdeal.τ).loc Cert.UpSbIdeal.main_arg2)
      ∧ m' ((c.tc : Thread Cert.UpSbRefIdeal.nD Cert.UpSbRefIdeal.τ).loc Cert.UpSbRefIdeal.main_arg3) = m ((c.tc : Thread Cert.UpSbIdeal.nD Cert.UpSbIdeal.τ).loc Cert.UpSbIdeal.main_arg3)) →
    ∃ (v0 : (c : Dev Cert.UpSbIdeal.nD) → Buf (Elt Ideal) ((c.tc : Thread Cert.UpSbIdeal.nD Cert.UpSbIdeal.τ).loc Cert.UpSbIdeal.main_v0_0)) (v1 : (c : Dev Cert.UpSbIdeal.nD) → Buf (Elt Ideal) ((c.tc : Thread Cert.UpSbIdeal.nD Cert.UpSbIdeal.τ).loc Cert.UpSbIdeal.main_v0_1)) (v2 : (c : Dev Cert.UpSbIdeal.nD) → Buf (Elt Ideal) ((c.tc : Thread Cert.UpSbIdeal.nD Cert.UpSbIdeal.τ).loc Cert.UpSbIdeal.main_v0_2)) (v3 : (c : Dev Cert.UpSbIdeal.nD) → Buf (Elt Ideal) ((c.tc : Thread Cert.UpSbIdeal.nD Cert.UpSbIdeal.τ).loc Cert.UpSbIdeal.main_v0_3)),
      θ_run (Cert.UpSbIdeal.defs (F := Ideal)) (onTc (τ := Cert.UpSbIdeal.τ) (Cert.UpSbIdeal.main (F := Ideal))) ⟨m, fun _ => 0, g⟩ (fun r => ∀ c : Dev Cert.UpSbIdeal.nD,
          r.2.mem ((c.tc : Thread Cert.UpSbIdeal.nD Cert.UpSbIdeal.τ).loc Cert.UpSbIdeal.main_v0_0) = v0 c
          ∧ r.2.mem ((c.tc : Thread Cert.UpSbIdeal.nD Cert.UpSbIdeal.τ).loc Cert.UpSbIdeal.main_v0_1) = v1 c
          ∧ r.2.mem ((c.tc : Thread Cert.UpSbIdeal.nD Cert.UpSbIdeal.τ).loc Cert.UpSbIdeal.main_v0_2) = v2 c
          ∧ r.2.mem ((c.tc : Thread Cert.UpSbIdeal.nD Cert.UpSbIdeal.τ).loc Cert.UpSbIdeal.main_v0_3) = v3 c
          ∧ r.2.mem ((c.tc : Thread Cert.UpSbIdeal.nD Cert.UpSbIdeal.τ).loc Cert.UpSbIdeal.main_arg0) = m ((c.tc : Thread Cert.UpSbIdeal.nD Cert.UpSbIdeal.τ).loc Cert.UpSbIdeal.main_arg0)
          ∧ r.2.mem ((c.tc : Thread Cert.UpSbIdeal.nD Cert.UpSbIdeal.τ).loc Cert.UpSbIdeal.main_arg1) = m ((c.tc : Thread Cert.UpSbIdeal.nD Cert.UpSbIdeal.τ).loc Cert.UpSbIdeal.main_arg1)
          ∧ r.2.mem ((c.tc : Thread Cert.UpSbIdeal.nD Cert.UpSbIdeal.τ).loc Cert.UpSbIdeal.main_arg2) = m ((c.tc : Thread Cert.UpSbIdeal.nD Cert.UpSbIdeal.τ).loc Cert.UpSbIdeal.main_arg2)
          ∧ r.2.mem ((c.tc : Thread Cert.UpSbIdeal.nD Cert.UpSbIdeal.τ).loc Cert.UpSbIdeal.main_arg3) = m ((c.tc : Thread Cert.UpSbIdeal.nD Cert.UpSbIdeal.τ).loc Cert.UpSbIdeal.main_arg3))
      ∧ θ_run (Cert.UpSbRefIdeal.defs (F := Ideal)) (onTc (τ := Cert.UpSbRefIdeal.τ) (Cert.UpSbRefIdeal.main (F := Ideal))) ⟨m', fun _ => 0, g'⟩ (fun r => ∀ c : Dev Cert.UpSbRefIdeal.nD,
          r.2.mem ((c.tc : Thread Cert.UpSbRefIdeal.nD Cert.UpSbRefIdeal.τ).loc Cert.UpSbRefIdeal.main_v2) = v0 c
          ∧ r.2.mem ((c.tc : Thread Cert.UpSbRefIdeal.nD Cert.UpSbRefIdeal.τ).loc Cert.UpSbRefIdeal.main_v26) = v1 c
          ∧ r.2.mem ((c.tc : Thread Cert.UpSbRefIdeal.nD Cert.UpSbRefIdeal.τ).loc Cert.UpSbRefIdeal.main_v7) = v2 c
          ∧ r.2.mem ((c.tc : Thread Cert.UpSbRefIdeal.nD Cert.UpSbRefIdeal.τ).loc Cert.UpSbRefIdeal.main_v13) = v3 c
          ∧ r.2.mem ((c.tc : Thread Cert.UpSbRefIdeal.nD Cert.UpSbRefIdeal.τ).loc Cert.UpSbRefIdeal.main_arg0) = m' ((c.tc : Thread Cert.UpSbRefIdeal.nD Cert.UpSbRefIdeal.τ).loc Cert.UpSbRefIdeal.main_arg0)
          ∧ r.2.mem ((c.tc : Thread Cert.UpSbRefIdeal.nD Cert.UpSbRefIdeal.τ).loc Cert.UpSbRefIdeal.main_arg1) = m' ((c.tc : Thread Cert.UpSbRefIdeal.nD Cert.UpSbRefIdeal.τ).loc Cert.UpSbRefIdeal.main_arg1)
          ∧ r.2.mem ((c.tc : Thread Cert.UpSbRefIdeal.nD Cert.UpSbRefIdeal.τ).loc Cert.UpSbRefIdeal.main_arg2) = m' ((c.tc : Thread Cert.UpSbRefIdeal.nD Cert.UpSbRefIdeal.τ).loc Cert.UpSbRefIdeal.main_arg2)
          ∧ r.2.mem ((c.tc : Thread Cert.UpSbRefIdeal.nD Cert.UpSbRefIdeal.τ).loc Cert.UpSbRefIdeal.main_arg3) = m' ((c.tc : Thread Cert.UpSbRefIdeal.nD Cert.UpSbRefIdeal.τ).loc Cert.UpSbRefIdeal.main_arg3))

def preserves_UpDil_UpDilIdeal : Prop :=
  True

def algebraic_UpDilIdeal_UpDilRefIdeal [hUpDilIdeal : Cert.UpDilIdeal.Facts] [hUpDilRefIdeal : Cert.UpDilRefIdeal.Facts] : Prop :=
  ∀ (m : (ℓ : Loc Cert.UpDilIdeal.nD Cert.UpDilIdeal.τ Cert.UpDilIdeal.sig) → Buf (Elt Ideal) ℓ) (g : Dev Cert.UpDilIdeal.nD → PrngReg)
    (m' : (ℓ : Loc Cert.UpDilRefIdeal.nD Cert.UpDilRefIdeal.τ Cert.UpDilRefIdeal.sig) → Buf (Elt Ideal) ℓ) (g' : Dev Cert.UpDilRefIdeal.nD → PrngReg), Pre_UpDilIdeal m →
    (∀ c : Dev Cert.UpDilIdeal.nD,
      m' ((c.tc : Thread Cert.UpDilRefIdeal.nD Cert.UpDilRefIdeal.τ).loc Cert.UpDilRefIdeal.main_arg0) = m ((c.tc : Thread Cert.UpDilIdeal.nD Cert.UpDilIdeal.τ).loc Cert.UpDilIdeal.main_arg0)
      ∧ m' ((c.tc : Thread Cert.UpDilRefIdeal.nD Cert.UpDilRefIdeal.τ).loc Cert.UpDilRefIdeal.main_arg1) = m ((c.tc : Thread Cert.UpDilIdeal.nD Cert.UpDilIdeal.τ).loc Cert.UpDilIdeal.main_arg1)
      ∧ m' ((c.tc : Thread Cert.UpDilRefIdeal.nD Cert.UpDilRefIdeal.τ).loc Cert.UpDilRefIdeal.main_arg2) = m ((c.tc : Thread Cert.UpDilIdeal.nD Cert.UpDilIdeal.τ).loc Cert.UpDilIdeal.main_arg2)
      ∧ m' ((c.tc : Thread Cert.UpDilRefIdeal.nD Cert.UpDilRefIdeal.τ).loc Cert.UpDilRefIdeal.main_arg3) = m ((c.tc : Thread Cert.UpDilIdeal.nD Cert.UpDilIdeal.τ).loc Cert.UpDilIdeal.main_arg3)) →
    ∃ (v0 : (c : Dev Cert.UpDilIdeal.nD) → Buf (Elt Ideal) ((c.tc : Thread Cert.UpDilIdeal.nD Cert.UpDilIdeal.τ).loc Cert.UpDilIdeal.main_v0_0)) (v1 : (c : Dev Cert.UpDilIdeal.nD) → Buf (Elt Ideal) ((c.tc : Thread Cert.UpDilIdeal.nD Cert.UpDilIdeal.τ).loc Cert.UpDilIdeal.main_v0_1)) (v2 : (c : Dev Cert.UpDilIdeal.nD) → Buf (Elt Ideal) ((c.tc : Thread Cert.UpDilIdeal.nD Cert.UpDilIdeal.τ).loc Cert.UpDilIdeal.main_v0_2)) (v3 : (c : Dev Cert.UpDilIdeal.nD) → Buf (Elt Ideal) ((c.tc : Thread Cert.UpDilIdeal.nD Cert.UpDilIdeal.τ).loc Cert.UpDilIdeal.main_v0_3)),
      θ_run (Cert.UpDilIdeal.defs (F := Ideal)) (onTc (τ := Cert.UpDilIdeal.τ) (Cert.UpDilIdeal.main (F := Ideal))) ⟨m, fun _ => 0, g⟩ (fun r => ∀ c : Dev Cert.UpDilIdeal.nD,
          r.2.mem ((c.tc : Thread Cert.UpDilIdeal.nD Cert.UpDilIdeal.τ).loc Cert.UpDilIdeal.main_v0_0) = v0 c
          ∧ r.2.mem ((c.tc : Thread Cert.UpDilIdeal.nD Cert.UpDilIdeal.τ).loc Cert.UpDilIdeal.main_v0_1) = v1 c
          ∧ r.2.mem ((c.tc : Thread Cert.UpDilIdeal.nD Cert.UpDilIdeal.τ).loc Cert.UpDilIdeal.main_v0_2) = v2 c
          ∧ r.2.mem ((c.tc : Thread Cert.UpDilIdeal.nD Cert.UpDilIdeal.τ).loc Cert.UpDilIdeal.main_v0_3) = v3 c
          ∧ r.2.mem ((c.tc : Thread Cert.UpDilIdeal.nD Cert.UpDilIdeal.τ).loc Cert.UpDilIdeal.main_arg0) = m ((c.tc : Thread Cert.UpDilIdeal.nD Cert.UpDilIdeal.τ).loc Cert.UpDilIdeal.main_arg0)
          ∧ r.2.mem ((c.tc : Thread Cert.UpDilIdeal.nD Cert.UpDilIdeal.τ).loc Cert.UpDilIdeal.main_arg1) = m ((c.tc : Thread Cert.UpDilIdeal.nD Cert.UpDilIdeal.τ).loc Cert.UpDilIdeal.main_arg1)
          ∧ r.2.mem ((c.tc : Thread Cert.UpDilIdeal.nD Cert.UpDilIdeal.τ).loc Cert.UpDilIdeal.main_arg2) = m ((c.tc : Thread Cert.UpDilIdeal.nD Cert.UpDilIdeal.τ).loc Cert.UpDilIdeal.main_arg2)
          ∧ r.2.mem ((c.tc : Thread Cert.UpDilIdeal.nD Cert.UpDilIdeal.τ).loc Cert.UpDilIdeal.main_arg3) = m ((c.tc : Thread Cert.UpDilIdeal.nD Cert.UpDilIdeal.τ).loc Cert.UpDilIdeal.main_arg3))
      ∧ θ_run (Cert.UpDilRefIdeal.defs (F := Ideal)) (onTc (τ := Cert.UpDilRefIdeal.τ) (Cert.UpDilRefIdeal.main (F := Ideal))) ⟨m', fun _ => 0, g'⟩ (fun r => ∀ c : Dev Cert.UpDilRefIdeal.nD,
          r.2.mem ((c.tc : Thread Cert.UpDilRefIdeal.nD Cert.UpDilRefIdeal.τ).loc Cert.UpDilRefIdeal.main_v2) = v0 c
          ∧ r.2.mem ((c.tc : Thread Cert.UpDilRefIdeal.nD Cert.UpDilRefIdeal.τ).loc Cert.UpDilRefIdeal.main_v26) = v1 c
          ∧ r.2.mem ((c.tc : Thread Cert.UpDilRefIdeal.nD Cert.UpDilRefIdeal.τ).loc Cert.UpDilRefIdeal.main_v7) = v2 c
          ∧ r.2.mem ((c.tc : Thread Cert.UpDilRefIdeal.nD Cert.UpDilRefIdeal.τ).loc Cert.UpDilRefIdeal.main_v13) = v3 c
          ∧ r.2.mem ((c.tc : Thread Cert.UpDilRefIdeal.nD Cert.UpDilRefIdeal.τ).loc Cert.UpDilRefIdeal.main_arg0) = m' ((c.tc : Thread Cert.UpDilRefIdeal.nD Cert.UpDilRefIdeal.τ).loc Cert.UpDilRefIdeal.main_arg0)
          ∧ r.2.mem ((c.tc : Thread Cert.UpDilRefIdeal.nD Cert.UpDilRefIdeal.τ).loc Cert.UpDilRefIdeal.main_arg1) = m' ((c.tc : Thread Cert.UpDilRefIdeal.nD Cert.UpDilRefIdeal.τ).loc Cert.UpDilRefIdeal.main_arg1)
          ∧ r.2.mem ((c.tc : Thread Cert.UpDilRefIdeal.nD Cert.UpDilRefIdeal.τ).loc Cert.UpDilRefIdeal.main_arg2) = m' ((c.tc : Thread Cert.UpDilRefIdeal.nD Cert.UpDilRefIdeal.τ).loc Cert.UpDilRefIdeal.main_arg2)
          ∧ r.2.mem ((c.tc : Thread Cert.UpDilRefIdeal.nD Cert.UpDilRefIdeal.τ).loc Cert.UpDilRefIdeal.main_arg3) = m' ((c.tc : Thread Cert.UpDilRefIdeal.nD Cert.UpDilRefIdeal.τ).loc Cert.UpDilRefIdeal.main_arg3))

def preserves_UpOut_UpOutIdeal : Prop :=
  True

def algebraic_UpOutIdeal_UpOutRefIdeal [hUpOutIdeal : Cert.UpOutIdeal.Facts] [hUpOutRefIdeal : Cert.UpOutRefIdeal.Facts] : Prop :=
  ∀ (m : (ℓ : Loc Cert.UpOutIdeal.nD Cert.UpOutIdeal.τ Cert.UpOutIdeal.sig) → Buf (Elt Ideal) ℓ) (g : Dev Cert.UpOutIdeal.nD → PrngReg)
    (m' : (ℓ : Loc Cert.UpOutRefIdeal.nD Cert.UpOutRefIdeal.τ Cert.UpOutRefIdeal.sig) → Buf (Elt Ideal) ℓ) (g' : Dev Cert.UpOutRefIdeal.nD → PrngReg), Pre_UpOutIdeal m →
    (∀ c : Dev Cert.UpOutIdeal.nD,
      m' ((c.tc : Thread Cert.UpOutRefIdeal.nD Cert.UpOutRefIdeal.τ).loc Cert.UpOutRefIdeal.main_arg0) = m ((c.tc : Thread Cert.UpOutIdeal.nD Cert.UpOutIdeal.τ).loc Cert.UpOutIdeal.main_arg0)
      ∧ m' ((c.tc : Thread Cert.UpOutRefIdeal.nD Cert.UpOutRefIdeal.τ).loc Cert.UpOutRefIdeal.main_arg1) = m ((c.tc : Thread Cert.UpOutIdeal.nD Cert.UpOutIdeal.τ).loc Cert.UpOutIdeal.main_arg1)
      ∧ m' ((c.tc : Thread Cert.UpOutRefIdeal.nD Cert.UpOutRefIdeal.τ).loc Cert.UpOutRefIdeal.main_arg2) = m ((c.tc : Thread Cert.UpOutIdeal.nD Cert.UpOutIdeal.τ).loc Cert.UpOutIdeal.main_arg2)
      ∧ m' ((c.tc : Thread Cert.UpOutRefIdeal.nD Cert.UpOutRefIdeal.τ).loc Cert.UpOutRefIdeal.main_arg3) = m ((c.tc : Thread Cert.UpOutIdeal.nD Cert.UpOutIdeal.τ).loc Cert.UpOutIdeal.main_arg3)) →
    ∃ (v0 : (c : Dev Cert.UpOutIdeal.nD) → Buf (Elt Ideal) ((c.tc : Thread Cert.UpOutIdeal.nD Cert.UpOutIdeal.τ).loc Cert.UpOutIdeal.main_v0_0)) (v1 : (c : Dev Cert.UpOutIdeal.nD) → Buf (Elt Ideal) ((c.tc : Thread Cert.UpOutIdeal.nD Cert.UpOutIdeal.τ).loc Cert.UpOutIdeal.main_v0_1)) (v2 : (c : Dev Cert.UpOutIdeal.nD) → Buf (Elt Ideal) ((c.tc : Thread Cert.UpOutIdeal.nD Cert.UpOutIdeal.τ).loc Cert.UpOutIdeal.main_v0_2)) (v3 : (c : Dev Cert.UpOutIdeal.nD) → Buf (Elt Ideal) ((c.tc : Thread Cert.UpOutIdeal.nD Cert.UpOutIdeal.τ).loc Cert.UpOutIdeal.main_v0_3)),
      θ_run (Cert.UpOutIdeal.defs (F := Ideal)) (onTc (τ := Cert.UpOutIdeal.τ) (Cert.UpOutIdeal.main (F := Ideal))) ⟨m, fun _ => 0, g⟩ (fun r => ∀ c : Dev Cert.UpOutIdeal.nD,
          r.2.mem ((c.tc : Thread Cert.UpOutIdeal.nD Cert.UpOutIdeal.τ).loc Cert.UpOutIdeal.main_v0_0) = v0 c
          ∧ r.2.mem ((c.tc : Thread Cert.UpOutIdeal.nD Cert.UpOutIdeal.τ).loc Cert.UpOutIdeal.main_v0_1) = v1 c
          ∧ r.2.mem ((c.tc : Thread Cert.UpOutIdeal.nD Cert.UpOutIdeal.τ).loc Cert.UpOutIdeal.main_v0_2) = v2 c
          ∧ r.2.mem ((c.tc : Thread Cert.UpOutIdeal.nD Cert.UpOutIdeal.τ).loc Cert.UpOutIdeal.main_v0_3) = v3 c
          ∧ r.2.mem ((c.tc : Thread Cert.UpOutIdeal.nD Cert.UpOutIdeal.τ).loc Cert.UpOutIdeal.main_arg0) = m ((c.tc : Thread Cert.UpOutIdeal.nD Cert.UpOutIdeal.τ).loc Cert.UpOutIdeal.main_arg0)
          ∧ r.2.mem ((c.tc : Thread Cert.UpOutIdeal.nD Cert.UpOutIdeal.τ).loc Cert.UpOutIdeal.main_arg1) = m ((c.tc : Thread Cert.UpOutIdeal.nD Cert.UpOutIdeal.τ).loc Cert.UpOutIdeal.main_arg1)
          ∧ r.2.mem ((c.tc : Thread Cert.UpOutIdeal.nD Cert.UpOutIdeal.τ).loc Cert.UpOutIdeal.main_arg2) = m ((c.tc : Thread Cert.UpOutIdeal.nD Cert.UpOutIdeal.τ).loc Cert.UpOutIdeal.main_arg2)
          ∧ r.2.mem ((c.tc : Thread Cert.UpOutIdeal.nD Cert.UpOutIdeal.τ).loc Cert.UpOutIdeal.main_arg3) = m ((c.tc : Thread Cert.UpOutIdeal.nD Cert.UpOutIdeal.τ).loc Cert.UpOutIdeal.main_arg3))
      ∧ θ_run (Cert.UpOutRefIdeal.defs (F := Ideal)) (onTc (τ := Cert.UpOutRefIdeal.τ) (Cert.UpOutRefIdeal.main (F := Ideal))) ⟨m', fun _ => 0, g'⟩ (fun r => ∀ c : Dev Cert.UpOutRefIdeal.nD,
          r.2.mem ((c.tc : Thread Cert.UpOutRefIdeal.nD Cert.UpOutRefIdeal.τ).loc Cert.UpOutRefIdeal.main_v2) = v0 c
          ∧ r.2.mem ((c.tc : Thread Cert.UpOutRefIdeal.nD Cert.UpOutRefIdeal.τ).loc Cert.UpOutRefIdeal.main_v26) = v1 c
          ∧ r.2.mem ((c.tc : Thread Cert.UpOutRefIdeal.nD Cert.UpOutRefIdeal.τ).loc Cert.UpOutRefIdeal.main_v7) = v2 c
          ∧ r.2.mem ((c.tc : Thread Cert.UpOutRefIdeal.nD Cert.UpOutRefIdeal.τ).loc Cert.UpOutRefIdeal.main_v13) = v3 c
          ∧ r.2.mem ((c.tc : Thread Cert.UpOutRefIdeal.nD Cert.UpOutRefIdeal.τ).loc Cert.UpOutRefIdeal.main_arg0) = m' ((c.tc : Thread Cert.UpOutRefIdeal.nD Cert.UpOutRefIdeal.τ).loc Cert.UpOutRefIdeal.main_arg0)
          ∧ r.2.mem ((c.tc : Thread Cert.UpOutRefIdeal.nD Cert.UpOutRefIdeal.τ).loc Cert.UpOutRefIdeal.main_arg1) = m' ((c.tc : Thread Cert.UpOutRefIdeal.nD Cert.UpOutRefIdeal.τ).loc Cert.UpOutRefIdeal.main_arg1)
          ∧ r.2.mem ((c.tc : Thread Cert.UpOutRefIdeal.nD Cert.UpOutRefIdeal.τ).loc Cert.UpOutRefIdeal.main_arg2) = m' ((c.tc : Thread Cert.UpOutRefIdeal.nD Cert.UpOutRefIdeal.τ).loc Cert.UpOutRefIdeal.main_arg2)
          ∧ r.2.mem ((c.tc : Thread Cert.UpOutRefIdeal.nD Cert.UpOutRefIdeal.τ).loc Cert.UpOutRefIdeal.main_arg3) = m' ((c.tc : Thread Cert.UpOutRefIdeal.nD Cert.UpOutRefIdeal.τ).loc Cert.UpOutRefIdeal.main_arg3))

def preserves_UpFfnIn_UpFfnInIdeal : Prop :=
  True

def algebraic_UpFfnInIdeal_UpFfnInRefIdeal [hUpFfnInIdeal : Cert.UpFfnInIdeal.Facts] [hUpFfnInRefIdeal : Cert.UpFfnInRefIdeal.Facts] : Prop :=
  ∀ (m : (ℓ : Loc Cert.UpFfnInIdeal.nD Cert.UpFfnInIdeal.τ Cert.UpFfnInIdeal.sig) → Buf (Elt Ideal) ℓ) (g : Dev Cert.UpFfnInIdeal.nD → PrngReg)
    (m' : (ℓ : Loc Cert.UpFfnInRefIdeal.nD Cert.UpFfnInRefIdeal.τ Cert.UpFfnInRefIdeal.sig) → Buf (Elt Ideal) ℓ) (g' : Dev Cert.UpFfnInRefIdeal.nD → PrngReg), Pre_UpFfnInIdeal m →
    (∀ c : Dev Cert.UpFfnInIdeal.nD,
      m' ((c.tc : Thread Cert.UpFfnInRefIdeal.nD Cert.UpFfnInRefIdeal.τ).loc Cert.UpFfnInRefIdeal.main_arg0) = m ((c.tc : Thread Cert.UpFfnInIdeal.nD Cert.UpFfnInIdeal.τ).loc Cert.UpFfnInIdeal.main_arg0)
      ∧ m' ((c.tc : Thread Cert.UpFfnInRefIdeal.nD Cert.UpFfnInRefIdeal.τ).loc Cert.UpFfnInRefIdeal.main_arg1) = m ((c.tc : Thread Cert.UpFfnInIdeal.nD Cert.UpFfnInIdeal.τ).loc Cert.UpFfnInIdeal.main_arg1)
      ∧ m' ((c.tc : Thread Cert.UpFfnInRefIdeal.nD Cert.UpFfnInRefIdeal.τ).loc Cert.UpFfnInRefIdeal.main_arg2) = m ((c.tc : Thread Cert.UpFfnInIdeal.nD Cert.UpFfnInIdeal.τ).loc Cert.UpFfnInIdeal.main_arg2)
      ∧ m' ((c.tc : Thread Cert.UpFfnInRefIdeal.nD Cert.UpFfnInRefIdeal.τ).loc Cert.UpFfnInRefIdeal.main_arg3) = m ((c.tc : Thread Cert.UpFfnInIdeal.nD Cert.UpFfnInIdeal.τ).loc Cert.UpFfnInIdeal.main_arg3)) →
    ∃ (v0 : (c : Dev Cert.UpFfnInIdeal.nD) → Buf (Elt Ideal) ((c.tc : Thread Cert.UpFfnInIdeal.nD Cert.UpFfnInIdeal.τ).loc Cert.UpFfnInIdeal.main_v0_0)) (v1 : (c : Dev Cert.UpFfnInIdeal.nD) → Buf (Elt Ideal) ((c.tc : Thread Cert.UpFfnInIdeal.nD Cert.UpFfnInIdeal.τ).loc Cert.UpFfnInIdeal.main_v0_1)) (v2 : (c : Dev Cert.UpFfnInIdeal.nD) → Buf (Elt Ideal) ((c.tc : Thread Cert.UpFfnInIdeal.nD Cert.UpFfnInIdeal.τ).loc Cert.UpFfnInIdeal.main_v0_2)) (v3 : (c : Dev Cert.UpFfnInIdeal.nD) → Buf (Elt Ideal) ((c.tc : Thread Cert.UpFfnInIdeal.nD Cert.UpFfnInIdeal.τ).loc Cert.UpFfnInIdeal.main_v0_3)),
      θ_run (Cert.UpFfnInIdeal.defs (F := Ideal)) (onTc (τ := Cert.UpFfnInIdeal.τ) (Cert.UpFfnInIdeal.main (F := Ideal))) ⟨m, fun _ => 0, g⟩ (fun r => ∀ c : Dev Cert.UpFfnInIdeal.nD,
          r.2.mem ((c.tc : Thread Cert.UpFfnInIdeal.nD Cert.UpFfnInIdeal.τ).loc Cert.UpFfnInIdeal.main_v0_0) = v0 c
          ∧ r.2.mem ((c.tc : Thread Cert.UpFfnInIdeal.nD Cert.UpFfnInIdeal.τ).loc Cert.UpFfnInIdeal.main_v0_1) = v1 c
          ∧ r.2.mem ((c.tc : Thread Cert.UpFfnInIdeal.nD Cert.UpFfnInIdeal.τ).loc Cert.UpFfnInIdeal.main_v0_2) = v2 c
          ∧ r.2.mem ((c.tc : Thread Cert.UpFfnInIdeal.nD Cert.UpFfnInIdeal.τ).loc Cert.UpFfnInIdeal.main_v0_3) = v3 c
          ∧ r.2.mem ((c.tc : Thread Cert.UpFfnInIdeal.nD Cert.UpFfnInIdeal.τ).loc Cert.UpFfnInIdeal.main_arg0) = m ((c.tc : Thread Cert.UpFfnInIdeal.nD Cert.UpFfnInIdeal.τ).loc Cert.UpFfnInIdeal.main_arg0)
          ∧ r.2.mem ((c.tc : Thread Cert.UpFfnInIdeal.nD Cert.UpFfnInIdeal.τ).loc Cert.UpFfnInIdeal.main_arg1) = m ((c.tc : Thread Cert.UpFfnInIdeal.nD Cert.UpFfnInIdeal.τ).loc Cert.UpFfnInIdeal.main_arg1)
          ∧ r.2.mem ((c.tc : Thread Cert.UpFfnInIdeal.nD Cert.UpFfnInIdeal.τ).loc Cert.UpFfnInIdeal.main_arg2) = m ((c.tc : Thread Cert.UpFfnInIdeal.nD Cert.UpFfnInIdeal.τ).loc Cert.UpFfnInIdeal.main_arg2)
          ∧ r.2.mem ((c.tc : Thread Cert.UpFfnInIdeal.nD Cert.UpFfnInIdeal.τ).loc Cert.UpFfnInIdeal.main_arg3) = m ((c.tc : Thread Cert.UpFfnInIdeal.nD Cert.UpFfnInIdeal.τ).loc Cert.UpFfnInIdeal.main_arg3))
      ∧ θ_run (Cert.UpFfnInRefIdeal.defs (F := Ideal)) (onTc (τ := Cert.UpFfnInRefIdeal.τ) (Cert.UpFfnInRefIdeal.main (F := Ideal))) ⟨m', fun _ => 0, g'⟩ (fun r => ∀ c : Dev Cert.UpFfnInRefIdeal.nD,
          r.2.mem ((c.tc : Thread Cert.UpFfnInRefIdeal.nD Cert.UpFfnInRefIdeal.τ).loc Cert.UpFfnInRefIdeal.main_v2) = v0 c
          ∧ r.2.mem ((c.tc : Thread Cert.UpFfnInRefIdeal.nD Cert.UpFfnInRefIdeal.τ).loc Cert.UpFfnInRefIdeal.main_v26) = v1 c
          ∧ r.2.mem ((c.tc : Thread Cert.UpFfnInRefIdeal.nD Cert.UpFfnInRefIdeal.τ).loc Cert.UpFfnInRefIdeal.main_v7) = v2 c
          ∧ r.2.mem ((c.tc : Thread Cert.UpFfnInRefIdeal.nD Cert.UpFfnInRefIdeal.τ).loc Cert.UpFfnInRefIdeal.main_v13) = v3 c
          ∧ r.2.mem ((c.tc : Thread Cert.UpFfnInRefIdeal.nD Cert.UpFfnInRefIdeal.τ).loc Cert.UpFfnInRefIdeal.main_arg0) = m' ((c.tc : Thread Cert.UpFfnInRefIdeal.nD Cert.UpFfnInRefIdeal.τ).loc Cert.UpFfnInRefIdeal.main_arg0)
          ∧ r.2.mem ((c.tc : Thread Cert.UpFfnInRefIdeal.nD Cert.UpFfnInRefIdeal.τ).loc Cert.UpFfnInRefIdeal.main_arg1) = m' ((c.tc : Thread Cert.UpFfnInRefIdeal.nD Cert.UpFfnInRefIdeal.τ).loc Cert.UpFfnInRefIdeal.main_arg1)
          ∧ r.2.mem ((c.tc : Thread Cert.UpFfnInRefIdeal.nD Cert.UpFfnInRefIdeal.τ).loc Cert.UpFfnInRefIdeal.main_arg2) = m' ((c.tc : Thread Cert.UpFfnInRefIdeal.nD Cert.UpFfnInRefIdeal.τ).loc Cert.UpFfnInRefIdeal.main_arg2)
          ∧ r.2.mem ((c.tc : Thread Cert.UpFfnInRefIdeal.nD Cert.UpFfnInRefIdeal.τ).loc Cert.UpFfnInRefIdeal.main_arg3) = m' ((c.tc : Thread Cert.UpFfnInRefIdeal.nD Cert.UpFfnInRefIdeal.τ).loc Cert.UpFfnInRefIdeal.main_arg3))

def preserves_UpFfnOut_UpFfnOutIdeal : Prop :=
  True

def algebraic_UpFfnOutIdeal_UpFfnOutRefIdeal [hUpFfnOutIdeal : Cert.UpFfnOutIdeal.Facts] [hUpFfnOutRefIdeal : Cert.UpFfnOutRefIdeal.Facts] : Prop :=
  ∀ (m : (ℓ : Loc Cert.UpFfnOutIdeal.nD Cert.UpFfnOutIdeal.τ Cert.UpFfnOutIdeal.sig) → Buf (Elt Ideal) ℓ) (g : Dev Cert.UpFfnOutIdeal.nD → PrngReg)
    (m' : (ℓ : Loc Cert.UpFfnOutRefIdeal.nD Cert.UpFfnOutRefIdeal.τ Cert.UpFfnOutRefIdeal.sig) → Buf (Elt Ideal) ℓ) (g' : Dev Cert.UpFfnOutRefIdeal.nD → PrngReg), Pre_UpFfnOutIdeal m →
    (∀ c : Dev Cert.UpFfnOutIdeal.nD,
      m' ((c.tc : Thread Cert.UpFfnOutRefIdeal.nD Cert.UpFfnOutRefIdeal.τ).loc Cert.UpFfnOutRefIdeal.main_arg0) = m ((c.tc : Thread Cert.UpFfnOutIdeal.nD Cert.UpFfnOutIdeal.τ).loc Cert.UpFfnOutIdeal.main_arg0)
      ∧ m' ((c.tc : Thread Cert.UpFfnOutRefIdeal.nD Cert.UpFfnOutRefIdeal.τ).loc Cert.UpFfnOutRefIdeal.main_arg1) = m ((c.tc : Thread Cert.UpFfnOutIdeal.nD Cert.UpFfnOutIdeal.τ).loc Cert.UpFfnOutIdeal.main_arg1)
      ∧ m' ((c.tc : Thread Cert.UpFfnOutRefIdeal.nD Cert.UpFfnOutRefIdeal.τ).loc Cert.UpFfnOutRefIdeal.main_arg2) = m ((c.tc : Thread Cert.UpFfnOutIdeal.nD Cert.UpFfnOutIdeal.τ).loc Cert.UpFfnOutIdeal.main_arg2)
      ∧ m' ((c.tc : Thread Cert.UpFfnOutRefIdeal.nD Cert.UpFfnOutRefIdeal.τ).loc Cert.UpFfnOutRefIdeal.main_arg3) = m ((c.tc : Thread Cert.UpFfnOutIdeal.nD Cert.UpFfnOutIdeal.τ).loc Cert.UpFfnOutIdeal.main_arg3)) →
    ∃ (v0 : (c : Dev Cert.UpFfnOutIdeal.nD) → Buf (Elt Ideal) ((c.tc : Thread Cert.UpFfnOutIdeal.nD Cert.UpFfnOutIdeal.τ).loc Cert.UpFfnOutIdeal.main_v0_0)) (v1 : (c : Dev Cert.UpFfnOutIdeal.nD) → Buf (Elt Ideal) ((c.tc : Thread Cert.UpFfnOutIdeal.nD Cert.UpFfnOutIdeal.τ).loc Cert.UpFfnOutIdeal.main_v0_1)) (v2 : (c : Dev Cert.UpFfnOutIdeal.nD) → Buf (Elt Ideal) ((c.tc : Thread Cert.UpFfnOutIdeal.nD Cert.UpFfnOutIdeal.τ).loc Cert.UpFfnOutIdeal.main_v0_2)) (v3 : (c : Dev Cert.UpFfnOutIdeal.nD) → Buf (Elt Ideal) ((c.tc : Thread Cert.UpFfnOutIdeal.nD Cert.UpFfnOutIdeal.τ).loc Cert.UpFfnOutIdeal.main_v0_3)),
      θ_run (Cert.UpFfnOutIdeal.defs (F := Ideal)) (onTc (τ := Cert.UpFfnOutIdeal.τ) (Cert.UpFfnOutIdeal.main (F := Ideal))) ⟨m, fun _ => 0, g⟩ (fun r => ∀ c : Dev Cert.UpFfnOutIdeal.nD,
          r.2.mem ((c.tc : Thread Cert.UpFfnOutIdeal.nD Cert.UpFfnOutIdeal.τ).loc Cert.UpFfnOutIdeal.main_v0_0) = v0 c
          ∧ r.2.mem ((c.tc : Thread Cert.UpFfnOutIdeal.nD Cert.UpFfnOutIdeal.τ).loc Cert.UpFfnOutIdeal.main_v0_1) = v1 c
          ∧ r.2.mem ((c.tc : Thread Cert.UpFfnOutIdeal.nD Cert.UpFfnOutIdeal.τ).loc Cert.UpFfnOutIdeal.main_v0_2) = v2 c
          ∧ r.2.mem ((c.tc : Thread Cert.UpFfnOutIdeal.nD Cert.UpFfnOutIdeal.τ).loc Cert.UpFfnOutIdeal.main_v0_3) = v3 c
          ∧ r.2.mem ((c.tc : Thread Cert.UpFfnOutIdeal.nD Cert.UpFfnOutIdeal.τ).loc Cert.UpFfnOutIdeal.main_arg0) = m ((c.tc : Thread Cert.UpFfnOutIdeal.nD Cert.UpFfnOutIdeal.τ).loc Cert.UpFfnOutIdeal.main_arg0)
          ∧ r.2.mem ((c.tc : Thread Cert.UpFfnOutIdeal.nD Cert.UpFfnOutIdeal.τ).loc Cert.UpFfnOutIdeal.main_arg1) = m ((c.tc : Thread Cert.UpFfnOutIdeal.nD Cert.UpFfnOutIdeal.τ).loc Cert.UpFfnOutIdeal.main_arg1)
          ∧ r.2.mem ((c.tc : Thread Cert.UpFfnOutIdeal.nD Cert.UpFfnOutIdeal.τ).loc Cert.UpFfnOutIdeal.main_arg2) = m ((c.tc : Thread Cert.UpFfnOutIdeal.nD Cert.UpFfnOutIdeal.τ).loc Cert.UpFfnOutIdeal.main_arg2)
          ∧ r.2.mem ((c.tc : Thread Cert.UpFfnOutIdeal.nD Cert.UpFfnOutIdeal.τ).loc Cert.UpFfnOutIdeal.main_arg3) = m ((c.tc : Thread Cert.UpFfnOutIdeal.nD Cert.UpFfnOutIdeal.τ).loc Cert.UpFfnOutIdeal.main_arg3))
      ∧ θ_run (Cert.UpFfnOutRefIdeal.defs (F := Ideal)) (onTc (τ := Cert.UpFfnOutRefIdeal.τ) (Cert.UpFfnOutRefIdeal.main (F := Ideal))) ⟨m', fun _ => 0, g'⟩ (fun r => ∀ c : Dev Cert.UpFfnOutRefIdeal.nD,
          r.2.mem ((c.tc : Thread Cert.UpFfnOutRefIdeal.nD Cert.UpFfnOutRefIdeal.τ).loc Cert.UpFfnOutRefIdeal.main_v2) = v0 c
          ∧ r.2.mem ((c.tc : Thread Cert.UpFfnOutRefIdeal.nD Cert.UpFfnOutRefIdeal.τ).loc Cert.UpFfnOutRefIdeal.main_v26) = v1 c
          ∧ r.2.mem ((c.tc : Thread Cert.UpFfnOutRefIdeal.nD Cert.UpFfnOutRefIdeal.τ).loc Cert.UpFfnOutRefIdeal.main_v7) = v2 c
          ∧ r.2.mem ((c.tc : Thread Cert.UpFfnOutRefIdeal.nD Cert.UpFfnOutRefIdeal.τ).loc Cert.UpFfnOutRefIdeal.main_v13) = v3 c
          ∧ r.2.mem ((c.tc : Thread Cert.UpFfnOutRefIdeal.nD Cert.UpFfnOutRefIdeal.τ).loc Cert.UpFfnOutRefIdeal.main_arg0) = m' ((c.tc : Thread Cert.UpFfnOutRefIdeal.nD Cert.UpFfnOutRefIdeal.τ).loc Cert.UpFfnOutRefIdeal.main_arg0)
          ∧ r.2.mem ((c.tc : Thread Cert.UpFfnOutRefIdeal.nD Cert.UpFfnOutRefIdeal.τ).loc Cert.UpFfnOutRefIdeal.main_arg1) = m' ((c.tc : Thread Cert.UpFfnOutRefIdeal.nD Cert.UpFfnOutRefIdeal.τ).loc Cert.UpFfnOutRefIdeal.main_arg1)
          ∧ r.2.mem ((c.tc : Thread Cert.UpFfnOutRefIdeal.nD Cert.UpFfnOutRefIdeal.τ).loc Cert.UpFfnOutRefIdeal.main_arg2) = m' ((c.tc : Thread Cert.UpFfnOutRefIdeal.nD Cert.UpFfnOutRefIdeal.τ).loc Cert.UpFfnOutRefIdeal.main_arg2)
          ∧ r.2.mem ((c.tc : Thread Cert.UpFfnOutRefIdeal.nD Cert.UpFfnOutRefIdeal.τ).loc Cert.UpFfnOutRefIdeal.main_arg3) = m' ((c.tc : Thread Cert.UpFfnOutRefIdeal.nD Cert.UpFfnOutRefIdeal.τ).loc Cert.UpFfnOutRefIdeal.main_arg3))

def preserves_UpGains_UpGainsIdeal : Prop :=
  True

def algebraic_UpGainsIdeal_UpGainsRefIdeal [hUpGainsIdeal : Cert.UpGainsIdeal.Facts] [hUpGainsRefIdeal : Cert.UpGainsRefIdeal.Facts] : Prop :=
  ∀ (m : (ℓ : Loc Cert.UpGainsIdeal.nD Cert.UpGainsIdeal.τ Cert.UpGainsIdeal.sig) → Buf (Elt Ideal) ℓ) (g : Dev Cert.UpGainsIdeal.nD → PrngReg)
    (m' : (ℓ : Loc Cert.UpGainsRefIdeal.nD Cert.UpGainsRefIdeal.τ Cert.UpGainsRefIdeal.sig) → Buf (Elt Ideal) ℓ) (g' : Dev Cert.UpGainsRefIdeal.nD → PrngReg), Pre_UpGainsIdeal m →
    (∀ c : Dev Cert.UpGainsIdeal.nD,
      m' ((c.tc : Thread Cert.UpGainsRefIdeal.nD Cert.UpGainsRefIdeal.τ).loc Cert.UpGainsRefIdeal.main_arg0) = m ((c.tc : Thread Cert.UpGainsIdeal.nD Cert.UpGainsIdeal.τ).loc Cert.UpGainsIdeal.main_arg0)
      ∧ m' ((c.tc : Thread Cert.UpGainsRefIdeal.nD Cert.UpGainsRefIdeal.τ).loc Cert.UpGainsRefIdeal.main_arg1) = m ((c.tc : Thread Cert.UpGainsIdeal.nD Cert.UpGainsIdeal.τ).loc Cert.UpGainsIdeal.main_arg1)
      ∧ m' ((c.tc : Thread Cert.UpGainsRefIdeal.nD Cert.UpGainsRefIdeal.τ).loc Cert.UpGainsRefIdeal.main_arg2) = m ((c.tc : Thread Cert.UpGainsIdeal.nD Cert.UpGainsIdeal.τ).loc Cert.UpGainsIdeal.main_arg2)
      ∧ m' ((c.tc : Thread Cert.UpGainsRefIdeal.nD Cert.UpGainsRefIdeal.τ).loc Cert.UpGainsRefIdeal.main_arg3) = m ((c.tc : Thread Cert.UpGainsIdeal.nD Cert.UpGainsIdeal.τ).loc Cert.UpGainsIdeal.main_arg3)
      ∧ m' ((c.tc : Thread Cert.UpGainsRefIdeal.nD Cert.UpGainsRefIdeal.τ).loc Cert.UpGainsRefIdeal.main_arg4) = m ((c.tc : Thread Cert.UpGainsIdeal.nD Cert.UpGainsIdeal.τ).loc Cert.UpGainsIdeal.main_arg4)
      ∧ m' ((c.tc : Thread Cert.UpGainsRefIdeal.nD Cert.UpGainsRefIdeal.τ).loc Cert.UpGainsRefIdeal.main_arg5) = m ((c.tc : Thread Cert.UpGainsIdeal.nD Cert.UpGainsIdeal.τ).loc Cert.UpGainsIdeal.main_arg5)
      ∧ m' ((c.tc : Thread Cert.UpGainsRefIdeal.nD Cert.UpGainsRefIdeal.τ).loc Cert.UpGainsRefIdeal.main_arg6) = m ((c.tc : Thread Cert.UpGainsIdeal.nD Cert.UpGainsIdeal.τ).loc Cert.UpGainsIdeal.main_arg6)
      ∧ m' ((c.tc : Thread Cert.UpGainsRefIdeal.nD Cert.UpGainsRefIdeal.τ).loc Cert.UpGainsRefIdeal.main_arg7) = m ((c.tc : Thread Cert.UpGainsIdeal.nD Cert.UpGainsIdeal.τ).loc Cert.UpGainsIdeal.main_arg7)
      ∧ m' ((c.tc : Thread Cert.UpGainsRefIdeal.nD Cert.UpGainsRefIdeal.τ).loc Cert.UpGainsRefIdeal.main_arg8) = m ((c.tc : Thread Cert.UpGainsIdeal.nD Cert.UpGainsIdeal.τ).loc Cert.UpGainsIdeal.main_arg8)
      ∧ m' ((c.tc : Thread Cert.UpGainsRefIdeal.nD Cert.UpGainsRefIdeal.τ).loc Cert.UpGainsRefIdeal.main_arg9) = m ((c.tc : Thread Cert.UpGainsIdeal.nD Cert.UpGainsIdeal.τ).loc Cert.UpGainsIdeal.main_arg9)) →
    ∃ (v0 : (c : Dev Cert.UpGainsIdeal.nD) → Buf (Elt Ideal) ((c.tc : Thread Cert.UpGainsIdeal.nD Cert.UpGainsIdeal.τ).loc Cert.UpGainsIdeal.main_v0_0)) (v1 : (c : Dev Cert.UpGainsIdeal.nD) → Buf (Elt Ideal) ((c.tc : Thread Cert.UpGainsIdeal.nD Cert.UpGainsIdeal.τ).loc Cert.UpGainsIdeal.main_v0_1)) (v2 : (c : Dev Cert.UpGainsIdeal.nD) → Buf (Elt Ideal) ((c.tc : Thread Cert.UpGainsIdeal.nD Cert.UpGainsIdeal.τ).loc Cert.UpGainsIdeal.main_v0_2)) (v3 : (c : Dev Cert.UpGainsIdeal.nD) → Buf (Elt Ideal) ((c.tc : Thread Cert.UpGainsIdeal.nD Cert.UpGainsIdeal.τ).loc Cert.UpGainsIdeal.main_v0_3)) (v4 : (c : Dev Cert.UpGainsIdeal.nD) → Buf (Elt Ideal) ((c.tc : Thread Cert.UpGainsIdeal.nD Cert.UpGainsIdeal.τ).loc Cert.UpGainsIdeal.main_v0_4)) (v5 : (c : Dev Cert.UpGainsIdeal.nD) → Buf (Elt Ideal) ((c.tc : Thread Cert.UpGainsIdeal.nD Cert.UpGainsIdeal.τ).loc Cert.UpGainsIdeal.main_v0_5)) (v6 : (c : Dev Cert.UpGainsIdeal.nD) → Buf (Elt Ideal) ((c.tc : Thread Cert.UpGainsIdeal.nD Cert.UpGainsIdeal.τ).loc Cert.UpGainsIdeal.main_v0_6)) (v7 : (c : Dev Cert.UpGainsIdeal.nD) → Buf (Elt Ideal) ((c.tc : Thread Cert.UpGainsIdeal.nD Cert.UpGainsIdeal.τ).loc Cert.UpGainsIdeal.main_v0_7)) (v8 : (c : Dev Cert.UpGainsIdeal.nD) → Buf (Elt Ideal) ((c.tc : Thread Cert.UpGainsIdeal.nD Cert.UpGainsIdeal.τ).loc Cert.UpGainsIdeal.main_v0_8)) (v9 : (c : Dev Cert.UpGainsIdeal.nD) → Buf (Elt Ideal) ((c.tc : Thread Cert.UpGainsIdeal.nD Cert.UpGainsIdeal.τ).loc Cert.UpGainsIdeal.main_v0_9)) (v10 : (c : Dev Cert.UpGainsIdeal.nD) → Buf (Elt Ideal) ((c.tc : Thread Cert.UpGainsIdeal.nD Cert.UpGainsIdeal.τ).loc Cert.UpGainsIdeal.main_v0_10)) (v11 : (c : Dev Cert.UpGainsIdeal.nD) → Buf (Elt Ideal) ((c.tc : Thread Cert.UpGainsIdeal.nD Cert.UpGainsIdeal.τ).loc Cert.UpGainsIdeal.main_v0_11)) (v12 : (c : Dev Cert.UpGainsIdeal.nD) → Buf (Elt Ideal) ((c.tc : Thread Cert.UpGainsIdeal.nD Cert.UpGainsIdeal.τ).loc Cert.UpGainsIdeal.main_v0_12)),
      θ_run (Cert.UpGainsIdeal.defs (F := Ideal)) (onTc (τ := Cert.UpGainsIdeal.τ) (Cert.UpGainsIdeal.main (F := Ideal))) ⟨m, fun _ => 0, g⟩ (fun r => ∀ c : Dev Cert.UpGainsIdeal.nD,
          r.2.mem ((c.tc : Thread Cert.UpGainsIdeal.nD Cert.UpGainsIdeal.τ).loc Cert.UpGainsIdeal.main_v0_0) = v0 c
          ∧ r.2.mem ((c.tc : Thread Cert.UpGainsIdeal.nD Cert.UpGainsIdeal.τ).loc Cert.UpGainsIdeal.main_v0_1) = v1 c
          ∧ r.2.mem ((c.tc : Thread Cert.UpGainsIdeal.nD Cert.UpGainsIdeal.τ).loc Cert.UpGainsIdeal.main_v0_2) = v2 c
          ∧ r.2.mem ((c.tc : Thread Cert.UpGainsIdeal.nD Cert.UpGainsIdeal.τ).loc Cert.UpGainsIdeal.main_v0_3) = v3 c
          ∧ r.2.mem ((c.tc : Thread Cert.UpGainsIdeal.nD Cert.UpGainsIdeal.τ).loc Cert.UpGainsIdeal.main_v0_4) = v4 c
          ∧ r.2.mem ((c.tc : Thread Cert.UpGainsIdeal.nD Cert.UpGainsIdeal.τ).loc Cert.UpGainsIdeal.main_v0_5) = v5 c
          ∧ r.2.mem ((c.tc : Thread Cert.UpGainsIdeal.nD Cert.UpGainsIdeal.τ).loc Cert.UpGainsIdeal.main_v0_6) = v6 c
          ∧ r.2.mem ((c.tc : Thread Cert.UpGainsIdeal.nD Cert.UpGainsIdeal.τ).loc Cert.UpGainsIdeal.main_v0_7) = v7 c
          ∧ r.2.mem ((c.tc : Thread Cert.UpGainsIdeal.nD Cert.UpGainsIdeal.τ).loc Cert.UpGainsIdeal.main_v0_8) = v8 c
          ∧ r.2.mem ((c.tc : Thread Cert.UpGainsIdeal.nD Cert.UpGainsIdeal.τ).loc Cert.UpGainsIdeal.main_v0_9) = v9 c
          ∧ r.2.mem ((c.tc : Thread Cert.UpGainsIdeal.nD Cert.UpGainsIdeal.τ).loc Cert.UpGainsIdeal.main_v0_10) = v10 c
          ∧ r.2.mem ((c.tc : Thread Cert.UpGainsIdeal.nD Cert.UpGainsIdeal.τ).loc Cert.UpGainsIdeal.main_v0_11) = v11 c
          ∧ r.2.mem ((c.tc : Thread Cert.UpGainsIdeal.nD Cert.UpGainsIdeal.τ).loc Cert.UpGainsIdeal.main_v0_12) = v12 c
          ∧ r.2.mem ((c.tc : Thread Cert.UpGainsIdeal.nD Cert.UpGainsIdeal.τ).loc Cert.UpGainsIdeal.main_arg0) = m ((c.tc : Thread Cert.UpGainsIdeal.nD Cert.UpGainsIdeal.τ).loc Cert.UpGainsIdeal.main_arg0)
          ∧ r.2.mem ((c.tc : Thread Cert.UpGainsIdeal.nD Cert.UpGainsIdeal.τ).loc Cert.UpGainsIdeal.main_arg1) = m ((c.tc : Thread Cert.UpGainsIdeal.nD Cert.UpGainsIdeal.τ).loc Cert.UpGainsIdeal.main_arg1)
          ∧ r.2.mem ((c.tc : Thread Cert.UpGainsIdeal.nD Cert.UpGainsIdeal.τ).loc Cert.UpGainsIdeal.main_arg2) = m ((c.tc : Thread Cert.UpGainsIdeal.nD Cert.UpGainsIdeal.τ).loc Cert.UpGainsIdeal.main_arg2)
          ∧ r.2.mem ((c.tc : Thread Cert.UpGainsIdeal.nD Cert.UpGainsIdeal.τ).loc Cert.UpGainsIdeal.main_arg3) = m ((c.tc : Thread Cert.UpGainsIdeal.nD Cert.UpGainsIdeal.τ).loc Cert.UpGainsIdeal.main_arg3)
          ∧ r.2.mem ((c.tc : Thread Cert.UpGainsIdeal.nD Cert.UpGainsIdeal.τ).loc Cert.UpGainsIdeal.main_arg4) = m ((c.tc : Thread Cert.UpGainsIdeal.nD Cert.UpGainsIdeal.τ).loc Cert.UpGainsIdeal.main_arg4)
          ∧ r.2.mem ((c.tc : Thread Cert.UpGainsIdeal.nD Cert.UpGainsIdeal.τ).loc Cert.UpGainsIdeal.main_arg5) = m ((c.tc : Thread Cert.UpGainsIdeal.nD Cert.UpGainsIdeal.τ).loc Cert.UpGainsIdeal.main_arg5)
          ∧ r.2.mem ((c.tc : Thread Cert.UpGainsIdeal.nD Cert.UpGainsIdeal.τ).loc Cert.UpGainsIdeal.main_arg6) = m ((c.tc : Thread Cert.UpGainsIdeal.nD Cert.UpGainsIdeal.τ).loc Cert.UpGainsIdeal.main_arg6)
          ∧ r.2.mem ((c.tc : Thread Cert.UpGainsIdeal.nD Cert.UpGainsIdeal.τ).loc Cert.UpGainsIdeal.main_arg7) = m ((c.tc : Thread Cert.UpGainsIdeal.nD Cert.UpGainsIdeal.τ).loc Cert.UpGainsIdeal.main_arg7)
          ∧ r.2.mem ((c.tc : Thread Cert.UpGainsIdeal.nD Cert.UpGainsIdeal.τ).loc Cert.UpGainsIdeal.main_arg8) = m ((c.tc : Thread Cert.UpGainsIdeal.nD Cert.UpGainsIdeal.τ).loc Cert.UpGainsIdeal.main_arg8)
          ∧ r.2.mem ((c.tc : Thread Cert.UpGainsIdeal.nD Cert.UpGainsIdeal.τ).loc Cert.UpGainsIdeal.main_arg9) = m ((c.tc : Thread Cert.UpGainsIdeal.nD Cert.UpGainsIdeal.τ).loc Cert.UpGainsIdeal.main_arg9))
      ∧ θ_run (Cert.UpGainsRefIdeal.defs (F := Ideal)) (onTc (τ := Cert.UpGainsRefIdeal.τ) (Cert.UpGainsRefIdeal.main (F := Ideal))) ⟨m', fun _ => 0, g'⟩ (fun r => ∀ c : Dev Cert.UpGainsRefIdeal.nD,
          r.2.mem ((c.tc : Thread Cert.UpGainsRefIdeal.nD Cert.UpGainsRefIdeal.τ).loc Cert.UpGainsRefIdeal.main_v15) = v0 c
          ∧ r.2.mem ((c.tc : Thread Cert.UpGainsRefIdeal.nD Cert.UpGainsRefIdeal.τ).loc Cert.UpGainsRefIdeal.main_v3) = v1 c
          ∧ r.2.mem ((c.tc : Thread Cert.UpGainsRefIdeal.nD Cert.UpGainsRefIdeal.τ).loc Cert.UpGainsRefIdeal.main_v39) = v2 c
          ∧ r.2.mem ((c.tc : Thread Cert.UpGainsRefIdeal.nD Cert.UpGainsRefIdeal.τ).loc Cert.UpGainsRefIdeal.main_v20) = v3 c
          ∧ r.2.mem ((c.tc : Thread Cert.UpGainsRefIdeal.nD Cert.UpGainsRefIdeal.τ).loc Cert.UpGainsRefIdeal.main_v26) = v4 c
          ∧ r.2.mem ((c.tc : Thread Cert.UpGainsRefIdeal.nD Cert.UpGainsRefIdeal.τ).loc Cert.UpGainsRefIdeal.main_v7) = v5 c
          ∧ r.2.mem ((c.tc : Thread Cert.UpGainsRefIdeal.nD Cert.UpGainsRefIdeal.τ).loc Cert.UpGainsRefIdeal.main_v63) = v6 c
          ∧ r.2.mem ((c.tc : Thread Cert.UpGainsRefIdeal.nD Cert.UpGainsRefIdeal.τ).loc Cert.UpGainsRefIdeal.main_v44) = v7 c
          ∧ r.2.mem ((c.tc : Thread Cert.UpGainsRefIdeal.nD Cert.UpGainsRefIdeal.τ).loc Cert.UpGainsRefIdeal.main_v50) = v8 c
          ∧ r.2.mem ((c.tc : Thread Cert.UpGainsRefIdeal.nD Cert.UpGainsRefIdeal.τ).loc Cert.UpGainsRefIdeal.main_v11) = v9 c
          ∧ r.2.mem ((c.tc : Thread Cert.UpGainsRefIdeal.nD Cert.UpGainsRefIdeal.τ).loc Cert.UpGainsRefIdeal.main_v87) = v10 c
          ∧ r.2.mem ((c.tc : Thread Cert.UpGainsRefIdeal.nD Cert.UpGainsRefIdeal.τ).loc Cert.UpGainsRefIdeal.main_v68) = v11 c
          ∧ r.2.mem ((c.tc : Thread Cert.UpGainsRefIdeal.nD Cert.UpGainsRefIdeal.τ).loc Cert.UpGainsRefIdeal.main_v74) = v12 c
          ∧ r.2.mem ((c.tc : Thread Cert.UpGainsRefIdeal.nD Cert.UpGainsRefIdeal.τ).loc Cert.UpGainsRefIdeal.main_arg0) = m' ((c.tc : Thread Cert.UpGainsRefIdeal.nD Cert.UpGainsRefIdeal.τ).loc Cert.UpGainsRefIdeal.main_arg0)
          ∧ r.2.mem ((c.tc : Thread Cert.UpGainsRefIdeal.nD Cert.UpGainsRefIdeal.τ).loc Cert.UpGainsRefIdeal.main_arg1) = m' ((c.tc : Thread Cert.UpGainsRefIdeal.nD Cert.UpGainsRefIdeal.τ).loc Cert.UpGainsRefIdeal.main_arg1)
          ∧ r.2.mem ((c.tc : Thread Cert.UpGainsRefIdeal.nD Cert.UpGainsRefIdeal.τ).loc Cert.UpGainsRefIdeal.main_arg2) = m' ((c.tc : Thread Cert.UpGainsRefIdeal.nD Cert.UpGainsRefIdeal.τ).loc Cert.UpGainsRefIdeal.main_arg2)
          ∧ r.2.mem ((c.tc : Thread Cert.UpGainsRefIdeal.nD Cert.UpGainsRefIdeal.τ).loc Cert.UpGainsRefIdeal.main_arg3) = m' ((c.tc : Thread Cert.UpGainsRefIdeal.nD Cert.UpGainsRefIdeal.τ).loc Cert.UpGainsRefIdeal.main_arg3)
          ∧ r.2.mem ((c.tc : Thread Cert.UpGainsRefIdeal.nD Cert.UpGainsRefIdeal.τ).loc Cert.UpGainsRefIdeal.main_arg4) = m' ((c.tc : Thread Cert.UpGainsRefIdeal.nD Cert.UpGainsRefIdeal.τ).loc Cert.UpGainsRefIdeal.main_arg4)
          ∧ r.2.mem ((c.tc : Thread Cert.UpGainsRefIdeal.nD Cert.UpGainsRefIdeal.τ).loc Cert.UpGainsRefIdeal.main_arg5) = m' ((c.tc : Thread Cert.UpGainsRefIdeal.nD Cert.UpGainsRefIdeal.τ).loc Cert.UpGainsRefIdeal.main_arg5)
          ∧ r.2.mem ((c.tc : Thread Cert.UpGainsRefIdeal.nD Cert.UpGainsRefIdeal.τ).loc Cert.UpGainsRefIdeal.main_arg6) = m' ((c.tc : Thread Cert.UpGainsRefIdeal.nD Cert.UpGainsRefIdeal.τ).loc Cert.UpGainsRefIdeal.main_arg6)
          ∧ r.2.mem ((c.tc : Thread Cert.UpGainsRefIdeal.nD Cert.UpGainsRefIdeal.τ).loc Cert.UpGainsRefIdeal.main_arg7) = m' ((c.tc : Thread Cert.UpGainsRefIdeal.nD Cert.UpGainsRefIdeal.τ).loc Cert.UpGainsRefIdeal.main_arg7)
          ∧ r.2.mem ((c.tc : Thread Cert.UpGainsRefIdeal.nD Cert.UpGainsRefIdeal.τ).loc Cert.UpGainsRefIdeal.main_arg8) = m' ((c.tc : Thread Cert.UpGainsRefIdeal.nD Cert.UpGainsRefIdeal.τ).loc Cert.UpGainsRefIdeal.main_arg8)
          ∧ r.2.mem ((c.tc : Thread Cert.UpGainsRefIdeal.nD Cert.UpGainsRefIdeal.τ).loc Cert.UpGainsRefIdeal.main_arg9) = m' ((c.tc : Thread Cert.UpGainsRefIdeal.nD Cert.UpGainsRefIdeal.τ).loc Cert.UpGainsRefIdeal.main_arg9))

def preserves_PairSum_PairSumIdeal : Prop :=
  True

def algebraic_PairSumIdeal_PairSumRefIdeal [hPairSumIdeal : Cert.PairSumIdeal.Facts] [hPairSumRefIdeal : Cert.PairSumRefIdeal.Facts] [hPre_core_ok : Cert.Pre_core_ok.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v8) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def preserves_ToBf16_ToBf16Ideal : Prop :=
  True

def algebraic_ToBf16Ideal_ToBf16RefIdeal [hToBf16Ideal : Cert.ToBf16Ideal.Facts] [hToBf16RefIdeal : Cert.ToBf16RefIdeal.Facts] : Prop :=
  ∀ (m : (ℓ : Loc Cert.ToBf16Ideal.nD Cert.ToBf16Ideal.τ Cert.ToBf16Ideal.sig) → Buf (Elt Ideal) ℓ) (g : Dev Cert.ToBf16Ideal.nD → PrngReg)
    (m' : (ℓ : Loc Cert.ToBf16RefIdeal.nD Cert.ToBf16RefIdeal.τ Cert.ToBf16RefIdeal.sig) → Buf (Elt Ideal) ℓ) (g' : Dev Cert.ToBf16RefIdeal.nD → PrngReg), Pre_ToBf16Ideal m →
    (∀ c : Dev Cert.ToBf16Ideal.nD,
      m' ((c.tc : Thread Cert.ToBf16RefIdeal.nD Cert.ToBf16RefIdeal.τ).loc Cert.ToBf16RefIdeal.main_arg0) = m ((c.tc : Thread Cert.ToBf16Ideal.nD Cert.ToBf16Ideal.τ).loc Cert.ToBf16Ideal.main_arg0)
      ∧ m' ((c.tc : Thread Cert.ToBf16RefIdeal.nD Cert.ToBf16RefIdeal.τ).loc Cert.ToBf16RefIdeal.main_arg1) = m ((c.tc : Thread Cert.ToBf16Ideal.nD Cert.ToBf16Ideal.τ).loc Cert.ToBf16Ideal.main_arg1)
      ∧ m' ((c.tc : Thread Cert.ToBf16RefIdeal.nD Cert.ToBf16RefIdeal.τ).loc Cert.ToBf16RefIdeal.main_arg2) = m ((c.tc : Thread Cert.ToBf16Ideal.nD Cert.ToBf16Ideal.τ).loc Cert.ToBf16Ideal.main_arg2)
      ∧ m' ((c.tc : Thread Cert.ToBf16RefIdeal.nD Cert.ToBf16RefIdeal.τ).loc Cert.ToBf16RefIdeal.main_arg3) = m ((c.tc : Thread Cert.ToBf16Ideal.nD Cert.ToBf16Ideal.τ).loc Cert.ToBf16Ideal.main_arg3)
      ∧ m' ((c.tc : Thread Cert.ToBf16RefIdeal.nD Cert.ToBf16RefIdeal.τ).loc Cert.ToBf16RefIdeal.main_arg4) = m ((c.tc : Thread Cert.ToBf16Ideal.nD Cert.ToBf16Ideal.τ).loc Cert.ToBf16Ideal.main_arg4)
      ∧ m' ((c.tc : Thread Cert.ToBf16RefIdeal.nD Cert.ToBf16RefIdeal.τ).loc Cert.ToBf16RefIdeal.main_arg5) = m ((c.tc : Thread Cert.ToBf16Ideal.nD Cert.ToBf16Ideal.τ).loc Cert.ToBf16Ideal.main_arg5)) →
    ∃ (v0 : (c : Dev Cert.ToBf16Ideal.nD) → Buf (Elt Ideal) ((c.tc : Thread Cert.ToBf16Ideal.nD Cert.ToBf16Ideal.τ).loc Cert.ToBf16Ideal.main_v0_0)) (v1 : (c : Dev Cert.ToBf16Ideal.nD) → Buf (Elt Ideal) ((c.tc : Thread Cert.ToBf16Ideal.nD Cert.ToBf16Ideal.τ).loc Cert.ToBf16Ideal.main_v0_1)) (v2 : (c : Dev Cert.ToBf16Ideal.nD) → Buf (Elt Ideal) ((c.tc : Thread Cert.ToBf16Ideal.nD Cert.ToBf16Ideal.τ).loc Cert.ToBf16Ideal.main_v0_2)) (v3 : (c : Dev Cert.ToBf16Ideal.nD) → Buf (Elt Ideal) ((c.tc : Thread Cert.ToBf16Ideal.nD Cert.ToBf16Ideal.τ).loc Cert.ToBf16Ideal.main_v0_3)) (v4 : (c : Dev Cert.ToBf16Ideal.nD) → Buf (Elt Ideal) ((c.tc : Thread Cert.ToBf16Ideal.nD Cert.ToBf16Ideal.τ).loc Cert.ToBf16Ideal.main_v0_4)) (v5 : (c : Dev Cert.ToBf16Ideal.nD) → Buf (Elt Ideal) ((c.tc : Thread Cert.ToBf16Ideal.nD Cert.ToBf16Ideal.τ).loc Cert.ToBf16Ideal.main_v0_5)),
      θ_run (Cert.ToBf16Ideal.defs (F := Ideal)) (onTc (τ := Cert.ToBf16Ideal.τ) (Cert.ToBf16Ideal.main (F := Ideal))) ⟨m, fun _ => 0, g⟩ (fun r => ∀ c : Dev Cert.ToBf16Ideal.nD,
          r.2.mem ((c.tc : Thread Cert.ToBf16Ideal.nD Cert.ToBf16Ideal.τ).loc Cert.ToBf16Ideal.main_v0_0) = v0 c
          ∧ r.2.mem ((c.tc : Thread Cert.ToBf16Ideal.nD Cert.ToBf16Ideal.τ).loc Cert.ToBf16Ideal.main_v0_1) = v1 c
          ∧ r.2.mem ((c.tc : Thread Cert.ToBf16Ideal.nD Cert.ToBf16Ideal.τ).loc Cert.ToBf16Ideal.main_v0_2) = v2 c
          ∧ r.2.mem ((c.tc : Thread Cert.ToBf16Ideal.nD Cert.ToBf16Ideal.τ).loc Cert.ToBf16Ideal.main_v0_3) = v3 c
          ∧ r.2.mem ((c.tc : Thread Cert.ToBf16Ideal.nD Cert.ToBf16Ideal.τ).loc Cert.ToBf16Ideal.main_v0_4) = v4 c
          ∧ r.2.mem ((c.tc : Thread Cert.ToBf16Ideal.nD Cert.ToBf16Ideal.τ).loc Cert.ToBf16Ideal.main_v0_5) = v5 c
          ∧ r.2.mem ((c.tc : Thread Cert.ToBf16Ideal.nD Cert.ToBf16Ideal.τ).loc Cert.ToBf16Ideal.main_arg0) = m ((c.tc : Thread Cert.ToBf16Ideal.nD Cert.ToBf16Ideal.τ).loc Cert.ToBf16Ideal.main_arg0)
          ∧ r.2.mem ((c.tc : Thread Cert.ToBf16Ideal.nD Cert.ToBf16Ideal.τ).loc Cert.ToBf16Ideal.main_arg1) = m ((c.tc : Thread Cert.ToBf16Ideal.nD Cert.ToBf16Ideal.τ).loc Cert.ToBf16Ideal.main_arg1)
          ∧ r.2.mem ((c.tc : Thread Cert.ToBf16Ideal.nD Cert.ToBf16Ideal.τ).loc Cert.ToBf16Ideal.main_arg2) = m ((c.tc : Thread Cert.ToBf16Ideal.nD Cert.ToBf16Ideal.τ).loc Cert.ToBf16Ideal.main_arg2)
          ∧ r.2.mem ((c.tc : Thread Cert.ToBf16Ideal.nD Cert.ToBf16Ideal.τ).loc Cert.ToBf16Ideal.main_arg3) = m ((c.tc : Thread Cert.ToBf16Ideal.nD Cert.ToBf16Ideal.τ).loc Cert.ToBf16Ideal.main_arg3)
          ∧ r.2.mem ((c.tc : Thread Cert.ToBf16Ideal.nD Cert.ToBf16Ideal.τ).loc Cert.ToBf16Ideal.main_arg4) = m ((c.tc : Thread Cert.ToBf16Ideal.nD Cert.ToBf16Ideal.τ).loc Cert.ToBf16Ideal.main_arg4)
          ∧ r.2.mem ((c.tc : Thread Cert.ToBf16Ideal.nD Cert.ToBf16Ideal.τ).loc Cert.ToBf16Ideal.main_arg5) = m ((c.tc : Thread Cert.ToBf16Ideal.nD Cert.ToBf16Ideal.τ).loc Cert.ToBf16Ideal.main_arg5))
      ∧ θ_run (Cert.ToBf16RefIdeal.defs (F := Ideal)) (onTc (τ := Cert.ToBf16RefIdeal.τ) (Cert.ToBf16RefIdeal.main (F := Ideal))) ⟨m', fun _ => 0, g'⟩ (fun r => ∀ c : Dev Cert.ToBf16RefIdeal.nD,
          r.2.mem ((c.tc : Thread Cert.ToBf16RefIdeal.nD Cert.ToBf16RefIdeal.τ).loc Cert.ToBf16RefIdeal.main_v2) = v0 c
          ∧ r.2.mem ((c.tc : Thread Cert.ToBf16RefIdeal.nD Cert.ToBf16RefIdeal.τ).loc Cert.ToBf16RefIdeal.main_v3) = v1 c
          ∧ r.2.mem ((c.tc : Thread Cert.ToBf16RefIdeal.nD Cert.ToBf16RefIdeal.τ).loc Cert.ToBf16RefIdeal.main_v4) = v2 c
          ∧ r.2.mem ((c.tc : Thread Cert.ToBf16RefIdeal.nD Cert.ToBf16RefIdeal.τ).loc Cert.ToBf16RefIdeal.main_v5) = v3 c
          ∧ r.2.mem ((c.tc : Thread Cert.ToBf16RefIdeal.nD Cert.ToBf16RefIdeal.τ).loc Cert.ToBf16RefIdeal.main_v6) = v4 c
          ∧ r.2.mem ((c.tc : Thread Cert.ToBf16RefIdeal.nD Cert.ToBf16RefIdeal.τ).loc Cert.ToBf16RefIdeal.main_v7) = v5 c
          ∧ r.2.mem ((c.tc : Thread Cert.ToBf16RefIdeal.nD Cert.ToBf16RefIdeal.τ).loc Cert.ToBf16RefIdeal.main_arg0) = m' ((c.tc : Thread Cert.ToBf16RefIdeal.nD Cert.ToBf16RefIdeal.τ).loc Cert.ToBf16RefIdeal.main_arg0)
          ∧ r.2.mem ((c.tc : Thread Cert.ToBf16RefIdeal.nD Cert.ToBf16RefIdeal.τ).loc Cert.ToBf16RefIdeal.main_arg1) = m' ((c.tc : Thread Cert.ToBf16RefIdeal.nD Cert.ToBf16RefIdeal.τ).loc Cert.ToBf16RefIdeal.main_arg1)
          ∧ r.2.mem ((c.tc : Thread Cert.ToBf16RefIdeal.nD Cert.ToBf16RefIdeal.τ).loc Cert.ToBf16RefIdeal.main_arg2) = m' ((c.tc : Thread Cert.ToBf16RefIdeal.nD Cert.ToBf16RefIdeal.τ).loc Cert.ToBf16RefIdeal.main_arg2)
          ∧ r.2.mem ((c.tc : Thread Cert.ToBf16RefIdeal.nD Cert.ToBf16RefIdeal.τ).loc Cert.ToBf16RefIdeal.main_arg3) = m' ((c.tc : Thread Cert.ToBf16RefIdeal.nD Cert.ToBf16RefIdeal.τ).loc Cert.ToBf16RefIdeal.main_arg3)
          ∧ r.2.mem ((c.tc : Thread Cert.ToBf16RefIdeal.nD Cert.ToBf16RefIdeal.τ).loc Cert.ToBf16RefIdeal.main_arg4) = m' ((c.tc : Thread Cert.ToBf16RefIdeal.nD Cert.ToBf16RefIdeal.τ).loc Cert.ToBf16RefIdeal.main_arg4)
          ∧ r.2.mem ((c.tc : Thread Cert.ToBf16RefIdeal.nD Cert.ToBf16RefIdeal.τ).loc Cert.ToBf16RefIdeal.main_arg5) = m' ((c.tc : Thread Cert.ToBf16RefIdeal.nD Cert.ToBf16RefIdeal.τ).loc Cert.ToBf16RefIdeal.main_arg5))

def preserves_StickFwd_StickFwdIdeal : Prop :=
  True

def Claim : Prop :=
  ∃ (hGate : Cert.Gate.Facts) (hGateIdeal : Cert.GateIdeal.Facts) (hGateRefIdeal : Cert.GateRefIdeal.Facts) (hStick : Cert.Stick.Facts) (hStickIdeal : Cert.StickIdeal.Facts) (hNormProj : Cert.NormProj.Facts) (hNormProjIdeal : Cert.NormProjIdeal.Facts) (hNormProjRefIdeal : Cert.NormProjRefIdeal.Facts) (hFfnIn : Cert.FfnIn.Facts) (hFfnInIdeal : Cert.FfnInIdeal.Facts) (hFfnInRefIdeal : Cert.FfnInRefIdeal.Facts) (hFfnOut : Cert.FfnOut.Facts) (hFfnOutIdeal : Cert.FfnOutIdeal.Facts) (hFfnOutRefIdeal : Cert.FfnOutRefIdeal.Facts) (hProjBwd : Cert.ProjBwd.Facts) (hProjBwdIdeal : Cert.ProjBwdIdeal.Facts) (hProjBwdRefIdeal : Cert.ProjBwdRefIdeal.Facts) (hFfn : Cert.Ffn.Facts) (hFfnIdeal : Cert.FfnIdeal.Facts) (hFfnRefIdeal : Cert.FfnRefIdeal.Facts) (hInGrad : Cert.InGrad.Facts) (hInGradIdeal : Cert.InGradIdeal.Facts) (hInGradRefIdeal : Cert.InGradRefIdeal.Facts) (hSbUp : Cert.SbUp.Facts) (hSbUpIdeal : Cert.SbUpIdeal.Facts) (hSbUpRefIdeal : Cert.SbUpRefIdeal.Facts) (hDilUp : Cert.DilUp.Facts) (hDilUpIdeal : Cert.DilUpIdeal.Facts) (hDilUpRefIdeal : Cert.DilUpRefIdeal.Facts) (hWOut : Cert.WOut.Facts) (hWOutIdeal : Cert.WOutIdeal.Facts) (hWOutRefIdeal : Cert.WOutRefIdeal.Facts) (hUpIn : Cert.UpIn.Facts) (hUpInIdeal : Cert.UpInIdeal.Facts) (hUpInRefIdeal : Cert.UpInRefIdeal.Facts) (hUpSb : Cert.UpSb.Facts) (hUpSbIdeal : Cert.UpSbIdeal.Facts) (hUpSbRefIdeal : Cert.UpSbRefIdeal.Facts) (hUpDil : Cert.UpDil.Facts) (hUpDilIdeal : Cert.UpDilIdeal.Facts) (hUpDilRefIdeal : Cert.UpDilRefIdeal.Facts) (hUpOut : Cert.UpOut.Facts) (hUpOutIdeal : Cert.UpOutIdeal.Facts) (hUpOutRefIdeal : Cert.UpOutRefIdeal.Facts) (hUpFfnIn : Cert.UpFfnIn.Facts) (hUpFfnInIdeal : Cert.UpFfnInIdeal.Facts) (hUpFfnInRefIdeal : Cert.UpFfnInRefIdeal.Facts) (hUpFfnOut : Cert.UpFfnOut.Facts) (hUpFfnOutIdeal : Cert.UpFfnOutIdeal.Facts) (hUpFfnOutRefIdeal : Cert.UpFfnOutRefIdeal.Facts) (hUpGains : Cert.UpGains.Facts) (hUpGainsIdeal : Cert.UpGainsIdeal.Facts) (hUpGainsRefIdeal : Cert.UpGainsRefIdeal.Facts) (hPairSum : Cert.PairSum.Facts) (hPairSumIdeal : Cert.PairSumIdeal.Facts) (hPairSumRefIdeal : Cert.PairSumRefIdeal.Facts) (hToBf16 : Cert.ToBf16.Facts) (hToBf16Ideal : Cert.ToBf16Ideal.Facts) (hToBf16RefIdeal : Cert.ToBf16RefIdeal.Facts) (hStickFwd : Cert.StickFwd.Facts) (hStickFwdIdeal : Cert.StickFwdIdeal.Facts) (hPre_proj_finite : Cert.Pre_proj_finite.Facts) (hPre_ffn_finite : Cert.Pre_ffn_finite.Facts) (hPre_core_ok : Cert.Pre_core_ok.Facts),
    quiescent_Gate (hGate := hGate)
    ∧ quiescent_GateIdeal (hGateIdeal := hGateIdeal)
    ∧ quiescent_GateRefIdeal (hGateRefIdeal := hGateRefIdeal)
    ∧ quiescent_Stick (hStick := hStick)
    ∧ quiescent_StickIdeal (hStickIdeal := hStickIdeal)
    ∧ quiescent_NormProj (hNormProj := hNormProj)
    ∧ quiescent_NormProjIdeal (hNormProjIdeal := hNormProjIdeal)
    ∧ quiescent_NormProjRefIdeal (hNormProjRefIdeal := hNormProjRefIdeal)
    ∧ quiescent_FfnIn (hFfnIn := hFfnIn)
    ∧ quiescent_FfnInIdeal (hFfnInIdeal := hFfnInIdeal)
    ∧ quiescent_FfnInRefIdeal (hFfnInRefIdeal := hFfnInRefIdeal)
    ∧ quiescent_FfnOut (hFfnOut := hFfnOut)
    ∧ quiescent_FfnOutIdeal (hFfnOutIdeal := hFfnOutIdeal)
    ∧ quiescent_FfnOutRefIdeal (hFfnOutRefIdeal := hFfnOutRefIdeal)
    ∧ quiescent_ProjBwd (hProjBwd := hProjBwd)
    ∧ quiescent_ProjBwdIdeal (hProjBwdIdeal := hProjBwdIdeal)
    ∧ quiescent_ProjBwdIdeal_pre_proj_finite (hProjBwdIdeal := hProjBwdIdeal) (hPre_proj_finite := hPre_proj_finite)
    ∧ quiescent_ProjBwdRefIdeal (hProjBwdRefIdeal := hProjBwdRefIdeal)
    ∧ quiescent_ProjBwdRefIdeal_pre_proj_finite (hProjBwdRefIdeal := hProjBwdRefIdeal) (hPre_proj_finite := hPre_proj_finite)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_InGrad (hInGrad := hInGrad)
    ∧ quiescent_InGradIdeal (hInGradIdeal := hInGradIdeal)
    ∧ quiescent_InGradRefIdeal (hInGradRefIdeal := hInGradRefIdeal)
    ∧ quiescent_SbUp (hSbUp := hSbUp)
    ∧ quiescent_SbUpIdeal (hSbUpIdeal := hSbUpIdeal)
    ∧ quiescent_SbUpRefIdeal (hSbUpRefIdeal := hSbUpRefIdeal)
    ∧ quiescent_DilUp (hDilUp := hDilUp)
    ∧ quiescent_DilUpIdeal (hDilUpIdeal := hDilUpIdeal)
    ∧ quiescent_DilUpRefIdeal (hDilUpRefIdeal := hDilUpRefIdeal)
    ∧ quiescent_WOut (hWOut := hWOut)
    ∧ quiescent_WOutIdeal (hWOutIdeal := hWOutIdeal)
    ∧ quiescent_WOutRefIdeal (hWOutRefIdeal := hWOutRefIdeal)
    ∧ quiescent_UpIn (hUpIn := hUpIn)
    ∧ quiescent_UpInIdeal (hUpInIdeal := hUpInIdeal)
    ∧ quiescent_UpInRefIdeal (hUpInRefIdeal := hUpInRefIdeal)
    ∧ quiescent_UpSb (hUpSb := hUpSb)
    ∧ quiescent_UpSbIdeal (hUpSbIdeal := hUpSbIdeal)
    ∧ quiescent_UpSbRefIdeal (hUpSbRefIdeal := hUpSbRefIdeal)
    ∧ quiescent_UpDil (hUpDil := hUpDil)
    ∧ quiescent_UpDilIdeal (hUpDilIdeal := hUpDilIdeal)
    ∧ quiescent_UpDilRefIdeal (hUpDilRefIdeal := hUpDilRefIdeal)
    ∧ quiescent_UpOut (hUpOut := hUpOut)
    ∧ quiescent_UpOutIdeal (hUpOutIdeal := hUpOutIdeal)
    ∧ quiescent_UpOutRefIdeal (hUpOutRefIdeal := hUpOutRefIdeal)
    ∧ quiescent_UpFfnIn (hUpFfnIn := hUpFfnIn)
    ∧ quiescent_UpFfnInIdeal (hUpFfnInIdeal := hUpFfnInIdeal)
    ∧ quiescent_UpFfnInRefIdeal (hUpFfnInRefIdeal := hUpFfnInRefIdeal)
    ∧ quiescent_UpFfnOut (hUpFfnOut := hUpFfnOut)
    ∧ quiescent_UpFfnOutIdeal (hUpFfnOutIdeal := hUpFfnOutIdeal)
    ∧ quiescent_UpFfnOutRefIdeal (hUpFfnOutRefIdeal := hUpFfnOutRefIdeal)
    ∧ quiescent_UpGains (hUpGains := hUpGains)
    ∧ quiescent_UpGainsIdeal (hUpGainsIdeal := hUpGainsIdeal)
    ∧ quiescent_UpGainsRefIdeal (hUpGainsRefIdeal := hUpGainsRefIdeal)
    ∧ quiescent_PairSum (hPairSum := hPairSum) (hPre_core_ok := hPre_core_ok)
    ∧ quiescent_PairSumIdeal (hPairSumIdeal := hPairSumIdeal) (hPre_core_ok := hPre_core_ok)
    ∧ quiescent_PairSumRefIdeal (hPairSumRefIdeal := hPairSumRefIdeal)
    ∧ quiescent_PairSumRefIdeal_pre_core_ok (hPairSumRefIdeal := hPairSumRefIdeal) (hPre_core_ok := hPre_core_ok)
    ∧ quiescent_ToBf16 (hToBf16 := hToBf16)
    ∧ quiescent_ToBf16Ideal (hToBf16Ideal := hToBf16Ideal)
    ∧ quiescent_ToBf16RefIdeal (hToBf16RefIdeal := hToBf16RefIdeal)
    ∧ quiescent_StickFwd (hStickFwd := hStickFwd)
    ∧ quiescent_StickFwdIdeal (hStickFwdIdeal := hStickFwdIdeal)
    ∧ preserves_Gate_GateIdeal
    ∧ algebraic_GateIdeal_GateRefIdeal (hGateIdeal := hGateIdeal) (hGateRefIdeal := hGateRefIdeal)
    ∧ preserves_Stick_StickIdeal
    ∧ preserves_NormProj_NormProjIdeal
    ∧ algebraic_NormProjIdeal_NormProjRefIdeal (hNormProjIdeal := hNormProjIdeal) (hNormProjRefIdeal := hNormProjRefIdeal)
    ∧ preserves_FfnIn_FfnInIdeal
    ∧ algebraic_FfnInIdeal_FfnInRefIdeal (hFfnInIdeal := hFfnInIdeal) (hFfnInRefIdeal := hFfnInRefIdeal)
    ∧ preserves_FfnOut_FfnOutIdeal
    ∧ algebraic_FfnOutIdeal_FfnOutRefIdeal (hFfnOutIdeal := hFfnOutIdeal) (hFfnOutRefIdeal := hFfnOutRefIdeal)
    ∧ preserves_ProjBwd_ProjBwdIdeal
    ∧ algebraic_ProjBwdIdeal_ProjBwdRefIdeal_pre_proj_finite (hProjBwdIdeal := hProjBwdIdeal) (hProjBwdRefIdeal := hProjBwdRefIdeal) (hPre_proj_finite := hPre_proj_finite)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_InGrad_InGradIdeal
    ∧ algebraic_InGradIdeal_InGradRefIdeal (hInGradIdeal := hInGradIdeal) (hInGradRefIdeal := hInGradRefIdeal)
    ∧ preserves_SbUp_SbUpIdeal
    ∧ algebraic_SbUpIdeal_SbUpRefIdeal (hSbUpIdeal := hSbUpIdeal) (hSbUpRefIdeal := hSbUpRefIdeal)
    ∧ preserves_DilUp_DilUpIdeal
    ∧ algebraic_DilUpIdeal_DilUpRefIdeal (hDilUpIdeal := hDilUpIdeal) (hDilUpRefIdeal := hDilUpRefIdeal)
    ∧ preserves_WOut_WOutIdeal
    ∧ algebraic_WOutIdeal_WOutRefIdeal (hWOutIdeal := hWOutIdeal) (hWOutRefIdeal := hWOutRefIdeal)
    ∧ preserves_UpIn_UpInIdeal
    ∧ algebraic_UpInIdeal_UpInRefIdeal (hUpInIdeal := hUpInIdeal) (hUpInRefIdeal := hUpInRefIdeal)
    ∧ preserves_UpSb_UpSbIdeal
    ∧ algebraic_UpSbIdeal_UpSbRefIdeal (hUpSbIdeal := hUpSbIdeal) (hUpSbRefIdeal := hUpSbRefIdeal)
    ∧ preserves_UpDil_UpDilIdeal
    ∧ algebraic_UpDilIdeal_UpDilRefIdeal (hUpDilIdeal := hUpDilIdeal) (hUpDilRefIdeal := hUpDilRefIdeal)
    ∧ preserves_UpOut_UpOutIdeal
    ∧ algebraic_UpOutIdeal_UpOutRefIdeal (hUpOutIdeal := hUpOutIdeal) (hUpOutRefIdeal := hUpOutRefIdeal)
    ∧ preserves_UpFfnIn_UpFfnInIdeal
    ∧ algebraic_UpFfnInIdeal_UpFfnInRefIdeal (hUpFfnInIdeal := hUpFfnInIdeal) (hUpFfnInRefIdeal := hUpFfnInRefIdeal)
    ∧ preserves_UpFfnOut_UpFfnOutIdeal
    ∧ algebraic_UpFfnOutIdeal_UpFfnOutRefIdeal (hUpFfnOutIdeal := hUpFfnOutIdeal) (hUpFfnOutRefIdeal := hUpFfnOutRefIdeal)
    ∧ preserves_UpGains_UpGainsIdeal
    ∧ algebraic_UpGainsIdeal_UpGainsRefIdeal (hUpGainsIdeal := hUpGainsIdeal) (hUpGainsRefIdeal := hUpGainsRefIdeal)
    ∧ preserves_PairSum_PairSumIdeal
    ∧ algebraic_PairSumIdeal_PairSumRefIdeal (hPairSumIdeal := hPairSumIdeal) (hPairSumRefIdeal := hPairSumRefIdeal) (hPre_core_ok := hPre_core_ok)
    ∧ preserves_ToBf16_ToBf16Ideal
    ∧ algebraic_ToBf16Ideal_ToBf16RefIdeal (hToBf16Ideal := hToBf16Ideal) (hToBf16RefIdeal := hToBf16RefIdeal)
    ∧ preserves_StickFwd_StickFwdIdeal
-- ==== Pre_core_ok.lean ====
abbrev S8x736x1024 : Shape := ⟨3, ![8, 736, 1024]⟩
abbrev S4x736x1024 : Shape := ⟨3, ![4, 736, 1024]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S8x736x1024 .bf16) (main_arg1 : FVec F S4x736x1024 .bf16) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_ffn_finite.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S4096x512 : S_.BroadcastsInDim S4096x512 (![] : Fin 0 → Fin S4096x512.rank)
  bcast_S_S4096x256 : S_.BroadcastsInDim S4096x256 (![] : Fin 0 → Fin S4096x256.rank)
  bcast_S_S4096x2048 : S_.BroadcastsInDim S4096x2048 (![] : Fin 0 → Fin S4096x2048.rank)
  bcast_S_S512x1024 : S_.BroadcastsInDim S512x1024 (![] : Fin 0 → Fin S512x1024.rank)
  bcast_S_S256x1024 : S_.BroadcastsInDim S256x1024 (![] : Fin 0 → Fin S256x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn_part2 {F : FTy → Type} [FloatOps F] (main_arg11 : FVec F S2816x1024 .bf16) (main_v2 : IVec S4096x1024 1) (main_v6 : IVec S4096x512 1) (main_v9 : IVec S4096x256 1) (main_v12 : IVec S4096x2048 1) (main_v16 : IVec S512x1024 1) (main_v20 : IVec S256x1024 1) (main_v24 : IVec S1024x1024 1) (main_v27 : IVec S4096x1024 1) (main_v30 : IVec S1x1024 1) (main_v33 : IVec S1x1024 1) (main_v35 : FVec F S1024x5632 .f32) (main_v36 : FVec F S1024x5632 .f32) : IVec S4096x1024 1 × IVec S4096x512 1 × IVec S4096x256 1 × IVec S4096x2048 1 × IVec S512x1024 1 × IVec S256x1024 1 × IVec S1024x1024 1 × IVec S4096x1024 1 × IVec S1x1024 1 × IVec S1x1024 1 × IVec S1024x5632 1 × IVec S2816x1024 1 :=
  let main_v37 : IVec S1024x5632 1 := cmpf .olt main_v35 main_v36
  let main_v38 : FVec F S2816x1024 .f32 := (extf .f32 · bitsLt_bf16_f32) main_arg11
  let main_v39 : FVec F S2816x1024 .f32 := Host.absf main_v38
  let main_cst_10 : FVec F S_ .f32 := constant S_ .f32 0x7F800000#32
  let main_v40 : FVec F S2816x1024 .f32 := broadcastInDim S2816x1024 ![] bcast_S_S2816x1024 main_cst_10
  let main_v41 : IVec S2816x1024 1 := cmpf .olt main_v39 main_v40
  (main_v2, main_v6, main_v9, main_v12, main_v16, main_v20, main_v24, main_v27, main_v30, main_v33, main_v37, main_v41)

def fn_part1 {F : FTy → Type} [FloatOps F] (main_arg6 : FVec F S1024x1024 .bf16) (main_arg7 : FVec F S4096x1024 .f32) (main_arg8 : FVec F S1x1024 .f32) (main_arg9 : FVec F S1x1024 .f32) (main_arg10 : FVec F S1024x5632 .bf16) (main_arg11 : FVec F S2816x1024 .bf16) (main_v2 : IVec S4096x1024 1) (main_v6 : IVec S4096x512 1) (main_v9 : IVec S4096x256 1) (main_v12 : IVec S4096x2048 1) (main_v16 : IVec S512x1024 1) (main_v18 : FVec F S256x1024 .f32) : IVec S4096x1024 1 × IVec S4096x512 1 × IVec S4096x256 1 × IVec S4096x2048 1 × IVec S512x1024 1 × IVec S256x1024 1 × IVec S1024x1024 1 × IVec S4096x1024 1 × IVec S1x1024 1 × IVec S1x1024 1 × IVec S1024x5632 1 × IVec S2816x1024 1 :=
  let main_cst_4 : FVec F S_ .f32 := constant S_ .f32 0x7F800000#32
  let main_v19 : FVec F S256x1024 .f32 := broadcastInDim S256x1024 ![] bcast_S_S256x1024 main_cst_4
  let main_v20 : IVec S256x1024 1 := cmpf .olt main_v18 main_v19
  let main_v21 : FVec F S1024x1024 .f32 := (extf .f32 · bitsLt_bf16_f32) main_arg6
  let main_v22 : FVec F S1024x1024 .f32 := Host.absf main_v21
  let main_cst_5 : FVec F S_ .f32 := constant S_ .f32 0x7F800000#32
  let main_v23 : FVec F S1024x1024 .f32 := broadcastInDim S1024x1024 ![] bcast_S_S1024x1024 main_cst_5
  let main_v24 : IVec S1024x1024 1 := cmpf .olt main_v22 main_v23
  let main_v25 : FVec F S4096x1024 .f32 := Host.absf main_arg7
  let main_cst_6 : FVec F S_ .f32 := constant S_ .f32 0x7F800000#32
  let main_v26 : FVec F S4096x1024 .f32 := broadcastInDim S4096x1024 ![] bcast_S_S4096x1024 main_cst_6
  let main_v27 : IVec S4096x1024 1 := cmpf .olt main_v25 main_v26
  let main_v28 : FVec F S1x1024 .f32 := Host.absf main_arg8
  let main_cst_7 : FVec F S_ .f32 := constant S_ .f32 0x7F800000#32
  let main_v29 : FVec F S1x1024 .f32 := broadcastInDim S1x1024 ![] bcast_S_S1x1024 main_cst_7
  let main_v30 : IVec S1x1024 1 := cmpf .olt main_v28 main_v29
  let main_v31 : FVec F S1x1024 .f32 := Host.absf main_arg9
  let main_cst_8 : FVec F S_ .f32 := constant S_ .f32 0x7F800000#32
  let main_v32 : FVec F S1x1024 .f32 := broadcastInDim S1x1024 ![] bcast_S_S1x1024 main_cst_8
  let main_v33 : IVec S1x1024 1 := cmpf .olt main_v31 main_v32
  let main_v34 : FVec F S1024x5632 .f32 := (extf .f32 · bitsLt_bf16_f32) main_arg10
  let main_v35 : FVec F S1024x5632 .f32 := Host.absf main_v34
  let main_cst_9 : FVec F S_ .f32 := constant S_ .f32 0x7F800000#32
  let main_v36 : FVec F S1024x5632 .f32 := broadcastInDim S1024x5632 ![] bcast_S_S1024x5632 main_cst_9
  fn_part2 (F := F) main_arg11 main_v2 main_v6 main_v9 main_v12 main_v16 main_v20 main_v24 main_v27 main_v30 main_v33 main_v35 main_v36

def fn {F : FTy → Type} [FloatOps F] (main_arg0 : FVec F S4096x1024 .f32) (main_arg1 : FVec F S4096x512 .bf16) (main_arg2 : FVec F S4096x256 .f32) (main_arg3 : FVec F S4096x2048 .f32) (main_arg4 : FVec F S512x1024 .bf16) (main_arg5 : FVec F S256x1024 .bf16) (main_arg6 : FVec F S1024x1024 .bf16) (main_arg7 : FVec F S4096x1024 .f32) (main_arg8 : FVec F S1x1024 .f32) (main_arg9 : FVec F S1x1024 .f32) (main_arg10 : FVec F S1024x5632 .bf16) (main_arg11 : FVec F S2816x1024 .bf16) : IVec S4096x1024 1 × IVec S4096x512 1 × IVec S4096x256 1 × IVec S4096x2048 1 × IVec S512x1024 1 × IVec S256x1024 1 × IVec S1024x1024 1 × IVec S4096x1024 1 × IVec S1x1024 1 × IVec S1x1024 1 × IVec S1024x5632 1 × IVec S2816x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x512 .f32 := (extf .f32 · bitsLt_bf16_f32) main_arg1
  let main_v4 : FVec F S4096x512 .f32 := Host.absf main_v3
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_v7 : FVec F S4096x256 .f32 := Host.absf main_arg2
  let main_cst_1 : FVec F S_ .f32 := constant S_ .f32 0x7F800000#32
  let main_v8 : FVec F S4096x256 .f32 := broadcastInDim S4096x256 ![] bcast_S_S4096x256 main_cst_1
  let main_v9 : IVec S4096x256 1 := cmpf .olt main_v7 main_v8
  let main_v10 : FVec F S4096x2048 .f32 := Host.absf main_arg3
  let main_cst_2 : FVec F S_ .f32 := constant S_ .f32 0x7F800000#32
  let main_v11 : FVec F S4096x2048 .f32 := broadcastInDim S4096x2048 ![] bcast_S_S4096x2048 main_cst_2
  let main_v12 : IVec S4096x2048 1 := cmpf .olt main_v10 main_v11
  let main_v13 : FVec F S512x1024 .f32 := (extf .f32 · bitsLt_bf16_f32) main_arg4
  let main_v14 : FVec F S512x1024 .f32 := Host.absf main_v13
  let main_cst_3 : FVec F S_ .f32 := constant S_ .f32 0x7F800000#32
  let main_v15 : FVec F S512x1024 .f32 := broadcastInDim S512x1024 ![] bcast_S_S512x1024 main_cst_3
  let main_v16 : IVec S512x1024 1 := cmpf .olt main_v14 main_v15
  let main_v17 : FVec F S256x1024 .f32 := (extf .f32 · bitsLt_bf16_f32) main_arg5
  let main_v18 : FVec F S256x1024 .f32 := Host.absf main_v17
  fn_part1 (F := F) main_arg6 main_arg7 main_arg8 main_arg9 main_arg10 main_arg11 main_v2 main_v6 main_v9 main_v12 main_v16 main_v18
-- ==== Pre_proj_finite.lean ====
abbrev S4096x512 : Shape := ⟨2, ![4096, 512]⟩
abbrev S4096x256 : Shape := ⟨2, ![4096, 256]⟩
abbrev S4096x2048 : Shape := ⟨2, ![4096, 2048]⟩
abbrev S4096x1024 : Shape := ⟨2, ![4096, 1024]⟩
abbrev S1x1024 : Shape := ⟨2, ![1, 1024]⟩
abbrev S1024x5888 : Shape := ⟨2, ![1024, 5888]⟩
abbrev S_ : Shape := ⟨0, ![]⟩

class Facts : Prop where
  bitsLt_bf16_f32 : FTy.bits .bf16 < FTy.bits .f32
  bcast_S_S4096x512 : S_.BroadcastsInDim S4096x512 (![] : Fin 0 → Fin S4096x512.rank)
  bcast_S_S4096x256 : S_.BroadcastsInDim S4096x256 (![] : Fin 0 → Fin S4096x256.rank)
  bcast_S_S4096x2048 : S_.BroadcastsInDim S4096x2048 (![] : Fin 0 → Fin S4096x2048.rank)
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x5888 : S_.BroadcastsInDim S1024x5888 (![] : Fin 0 → Fin S1024x5888.rank)

variable [Facts]

def fn_part2 {F : FTy → Type} [FloatOps F] (main_arg12 : FVec F S4096x2048 .bf16) (main_arg14 : FVec F S4096x1024 .f32) (main_arg15 : FVec F S1x1024 .f32) (main_arg16 : FVec F S1024x5888 .bf16) (main_v3 : IVec S4096x512 1) (main_v7 : IVec S4096x512 1) (main_v11 : IVec S4096x512 1) (main_v14 : IVec S4096x256 1) (main_v17 : IVec S4096x256 1) (main_v20 : IVec S4096x256 1) (main_v23 : IVec S4096x256 1) (main_v26 : IVec S4096x256 1) (main_v29 : IVec S4096x256 1) (main_v32 : IVec S4096x256 1) (main_v35 : IVec S4096x256 1) (main_v36 : FVec F S4096x256 .f32) : IVec S4096x512 1 × IVec S4096x512 1 × IVec S4096x512 1 × IVec S4096x256 1 × IVec S4096x256 1 × IVec S4096x256 1 × IVec S4096x256 1 × IVec S4096x256 1 × IVec S4096x256 1 × IVec S4096x256 1 × IVec S4096x256 1 × IVec S4096x256 1 × IVec S4096x2048 1 × IVec S4096x1024 1 × IVec S1x1024 1 × IVec S1024x5888 1 :=
  let main_cst_10 : FVec F S_ .f32 := constant S_ .f32 0x7F800000#32
  let main_v37 : FVec F S4096x256 .f32 := broadcastInDim S4096x256 ![] bcast_S_S4096x256 main_cst_10
  let main_v38 : IVec S4096x256 1 := cmpf .olt main_v36 main_v37
  let main_v39 : FVec F S4096x2048 .f32 := (extf .f32 · bitsLt_bf16_f32) main_arg12
  let main_v40 : FVec F S4096x2048 .f32 := Host.absf main_v39
  let main_cst_11 : FVec F S_ .f32 := constant S_ .f32 0x7F800000#32
  let main_v41 : FVec F S4096x2048 .f32 := broadcastInDim S4096x2048 ![] bcast_S_S4096x2048 main_cst_11
  let main_v42 : IVec S4096x2048 1 := cmpf .olt main_v40 main_v41
  let main_v43 : FVec F S4096x1024 .f32 := Host.absf main_arg14
  let main_cst_12 : FVec F S_ .f32 := constant S_ .f32 0x7F800000#32
  let main_v44 : FVec F S4096x1024 .f32 := broadcastInDim S4096x1024 ![] bcast_S_S4096x1024 main_cst_12
  let main_v45 : IVec S4096x1024 1 := cmpf .olt main_v43 main_v44
  let main_v46 : FVec F S1x1024 .f32 := Host.absf main_arg15
  let main_cst_13 : FVec F S_ .f32 := constant S_ .f32 0x7F800000#32
  let main_v47 : FVec F S1x1024 .f32 := broadcastInDim S1x1024 ![] bcast_S_S1x1024 main_cst_13
  let main_v48 : IVec S1x1024 1 := cmpf .olt main_v46 main_v47
  let main_v49 : FVec F S1024x5888 .f32 := (extf .f32 · bitsLt_bf16_f32) main_arg16
  let main_v50 : FVec F S1024x5888 .f32 := Host.absf main_v49
  let main_cst_14 : FVec F S_ .f32 := constant S_ .f32 0x7F800000#32
  let main_v51 : FVec F S1024x5888 .f32 := broadcastInDim S1024x5888 ![] bcast_S_S1024x5888 main_cst_14
  let main_v52 : IVec S1024x5888 1 := cmpf .olt main_v50 main_v51
  (main_v3, main_v7, main_v11, main_v14, main_v17, main_v20, main_v23, main_v26, main_v29, main_v32, main_v35, main_v38, main_v42, main_v45, main_v48, main_v52)

def fn_part1 {F : FTy → Type} [FloatOps F] (main_arg6 : FVec F S4096x256 .f32) (main_arg7 : FVec F S4096x256 .f32) (main_arg8 : FVec F S4096x256 .f32) (main_arg9 : FVec F S4096x256 .f32) (main_arg10 : FVec F S4096x256 .f32) (main_arg11 : FVec F S4096x256 .f32) (main_arg12 : FVec F S4096x2048 .bf16) (main_arg14 : FVec F S4096x1024 .f32) (main_arg15 : FVec F S1x1024 .f32) (main_arg16 : FVec F S1024x5888 .bf16) (main_v3 : IVec S4096x512 1) (main_v7 : IVec S4096x512 1) (main_v11 : IVec S4096x512 1) (main_v14 : IVec S4096x256 1) (main_v17 : IVec S4096x256 1) (main_v18 : FVec F S4096x256 .f32) : IVec S4096x512 1 × IVec S4096x512 1 × IVec S4096x512 1 × IVec S4096x256 1 × IVec S4096x256 1 × IVec S4096x256 1 × IVec S4096x256 1 × IVec S4096x256 1 × IVec S4096x256 1 × IVec S4096x256 1 × IVec S4096x256 1 × IVec S4096x256 1 × IVec S4096x2048 1 × IVec S4096x1024 1 × IVec S1x1024 1 × IVec S1024x5888 1 :=
  let main_cst_4 : FVec F S_ .f32 := constant S_ .f32 0x7F800000#32
  let main_v19 : FVec F S4096x256 .f32 := broadcastInDim S4096x256 ![] bcast_S_S4096x256 main_cst_4
  let main_v20 : IVec S4096x256 1 := cmpf .olt main_v18 main_v19
  let main_v21 : FVec F S4096x256 .f32 := Host.absf main_arg6
  let main_cst_5 : FVec F S_ .f32 := constant S_ .f32 0x7F800000#32
  let main_v22 : FVec F S4096x256 .f32 := broadcastInDim S4096x256 ![] bcast_S_S4096x256 main_cst_5
  let main_v23 : IVec S4096x256 1 := cmpf .olt main_v21 main_v22
  let main_v24 : FVec F S4096x256 .f32 := Host.absf main_arg7
  let main_cst_6 : FVec F S_ .f32 := constant S_ .f32 0x7F800000#32
  let main_v25 : FVec F S4096x256 .f32 := broadcastInDim S4096x256 ![] bcast_S_S4096x256 main_cst_6
  let main_v26 : IVec S4096x256 1 := cmpf .olt main_v24 main_v25
  let main_v27 : FVec F S4096x256 .f32 := Host.absf main_arg8
  let main_cst_7 : FVec F S_ .f32 := constant S_ .f32 0x7F800000#32
  let main_v28 : FVec F S4096x256 .f32 := broadcastInDim S4096x256 ![] bcast_S_S4096x256 main_cst_7
  let main_v29 : IVec S4096x256 1 := cmpf .olt main_v27 main_v28
  let main_v30 : FVec F S4096x256 .f32 := Host.absf main_arg9
  let main_cst_8 : FVec F S_ .f32 := constant S_ .f32 0x7F800000#32
  let main_v31 : FVec F S4096x256 .f32 := broadcastInDim S4096x256 ![] bcast_S_S4096x256 main_cst_8
  let main_v32 : IVec S4096x256 1 := cmpf .olt main_v30 main_v31
  let main_v33 : FVec F S4096x256 .f32 := Host.absf main_arg10
  let main_cst_9 : FVec F S_ .f32 := constant S_ .f32 0x7F800000#32
  let main_v34 : FVec F S4096x256 .f32 := broadcastInDim S4096x256 ![] bcast_S_S4096x256 main_cst_9
  let main_v35 : IVec S4096x256 1 := cmpf .olt main_v33 main_v34
  let main_v36 : FVec F S4096x256 .f32 := Host.absf main_arg11
  fn_part2 (F := F) main_arg12 main_arg14 main_arg15 main_arg16 main_v3 main_v7 main_v11 main_v14 main_v17 main_v20 main_v23 main_v26 main_v29 main_v32 main_v35 main_v36

def fn {F : FTy → Type} [FloatOps F] (main_arg0 : FVec F S4096x512 .bf16) (main_arg1 : FVec F S4096x512 .bf16) (main_arg2 : FVec F S4096x512 .bf16) (main_arg3 : FVec F S4096x256 .f32) (main_arg4 : FVec F S4096x256 .f32) (main_arg5 : FVec F S4096x256 .f32) (main_arg6 : FVec F S4096x256 .f32) (main_arg7 : FVec F S4096x256 .f32) (main_arg8 : FVec F S4096x256 .f32) (main_arg9 : FVec F S4096x256 .f32) (main_arg10 : FVec F S4096x256 .f32) (main_arg11 : FVec F S4096x256 .f32) (main_arg12 : FVec F S4096x2048 .bf16) (main_arg13 : FVec F S4096x1024 .f32) (main_arg14 : FVec F S4096x1024 .f32) (main_arg15 : FVec F S1x1024 .f32) (main_arg16 : FVec F S1024x5888 .bf16) : IVec S4096x512 1 × IVec S4096x512 1 × IVec S4096x512 1 × IVec S4096x256 1 × IVec S4096x256 1 × IVec S4096x256 1 × IVec S4096x256 1 × IVec S4096x256 1 × IVec S4096x256 1 × IVec S4096x256 1 × IVec S4096x256 1 × IVec S4096x256 1 × IVec S4096x2048 1 × IVec S4096x1024 1 × IVec S1x1024 1 × IVec S1024x5888 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : FVec F S4096x512 .f32 := (extf .f32 · bitsLt_bf16_f32) main_arg2
  let main_v9 : FVec F S4096x512 .f32 := Host.absf main_v8
  let main_cst_1 : FVec F S_ .f32 := constant S_ .f32 0x7F800000#32
  let main_v10 : FVec F S4096x512 .f32 := broadcastInDim S4096x512 ![] bcast_S_S4096x512 main_cst_1
  let main_v11 : IVec S4096x512 1 := cmpf .olt main_v9 main_v10
  let main_v12 : FVec F S4096x256 .f32 := Host.absf main_arg3
  let main_cst_2 : FVec F S_ .f32 := constant S_ .f32 0x7F800000#32
  let main_v13 : FVec F S4096x256 .f32 := broadcastInDim S4096x256 ![] bcast_S_S4096x256 main_cst_2
  let main_v14 : IVec S4096x256 1 := cmpf .olt main_v12 main_v13
  let main_v15 : FVec F S4096x256 .f32 := Host.absf main_arg4
  let main_cst_3 : FVec F S_ .f32 := constant S_ .f32 0x7F800000#32
  let main_v16 : FVec F S4096x256 .f32 := broadcastInDim S4096x256 ![] bcast_S_S4096x256 main_cst_3
  let main_v17 : IVec S4096x256 1 := cmpf .olt main_v15 main_v16
  let main_v18 : FVec F S4096x256 .f32 := Host.absf main_arg5
  fn_part1 (F := F) main_arg6 main_arg7 main_arg8 main_arg9 main_arg10 main_arg11 main_arg12 main_arg14 main_arg15 main_arg16 main_v3 main_v7 main_v11 main_v14 main_v17 main_v18
-- ==== Gate.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S512x1024 : Shape := ⟨2, ![512, 1024]⟩
abbrev S256x1024 : Shape := ⟨2, ![256, 1024]⟩
abbrev S1024x1024 : Shape := ⟨2, ![1024, 1024]⟩
abbrev S1024x512 : Shape := ⟨2, ![1024, 512]⟩
abbrev S1024x256 : Shape := ⟨2, ![1024, 256]⟩
abbrev S512x512 : Shape := ⟨2, ![512, 512]⟩
abbrev S512x256 : Shape := ⟨2, ![512, 256]⟩
abbrev S512x2048 : Shape := ⟨2, ![512, 2048]⟩
abbrev S256x256 : Shape := ⟨2, ![256, 256]⟩

abbrev nBuf : Space → Nat
  | .hbm => 15
  | .vmem => 23
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x256, .f32⟩
  | .hbm, ⟨3, _⟩ => ⟨S4096x2048, .f32⟩
  | .hbm, ⟨4, _⟩ => ⟨S512x1024, .bf16⟩
  | .hbm, ⟨5, _⟩ => ⟨S256x1024, .bf16⟩
  | .hbm, ⟨6, _⟩ => ⟨S1024x1024, .bf16⟩
  | .hbm, ⟨7, _⟩ => ⟨S1024x512, .bf16⟩
  | .hbm, ⟨8, _⟩ => ⟨S1024x256, .bf16⟩
  | .hbm, ⟨9, _⟩ => ⟨S4096x2048, .bf16⟩
  | .hbm, ⟨10, _⟩ => ⟨S4096x1024, .bf16⟩
  | .hbm, ⟨11, _⟩ => ⟨S4096x1024, .bf16⟩
  | .hbm, ⟨12, _⟩ => ⟨S4096x512, .bf16⟩
  | .hbm, ⟨13, _⟩ => ⟨S4096x256, .f32⟩
  | .hbm, ⟨14, _⟩ => ⟨S4096x256, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x256, .f32⟩
  | .local _ .vmem, ⟨5, _⟩ => ⟨S512x256, .f32⟩
  | .local _ .vmem, ⟨6, _⟩ => ⟨S512x2048, .f32⟩
  | .local _ .vmem, ⟨7, _⟩ => ⟨S512x2048, .f32⟩
  | .local _ .vmem, ⟨8, _⟩ => ⟨S1024x512, .bf16⟩
  | .local _ .vmem, ⟨9, _⟩ => ⟨S1024x256, .bf16⟩
  | .local _ .vmem, ⟨10, _⟩ => ⟨S1024x1024, .bf16⟩
  | .local _ .vmem, ⟨11, _⟩ => ⟨S512x2048, .bf16⟩
  | .local _ .vmem, ⟨12, _⟩ => ⟨S512x2048, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x512, .bf16⟩
  | .local _ .vmem, ⟨18, _⟩ => ⟨S512x512, .bf16⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v2_4 : Ref sig .tc := ⟨.hbm, 13, rfl⟩
abbrev main_v2_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== GateRefIdeal.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S512x1024 : Shape := ⟨2, ![512, 1024]⟩
abbrev S256x1024 : Shape := ⟨2, ![256, 1024]⟩
abbrev S1024x1024 : Shape := ⟨2, ![1024, 1024]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x256, .f32⟩
  | .hbm, ⟨3, _⟩ => ⟨S4096x2048, .f32⟩
  | .hbm, ⟨4, _⟩ => ⟨S512x1024, .bf16⟩
  | .hbm, ⟨5, _⟩ => ⟨S256x1024, .bf16⟩
  | .hbm, ⟨6, _⟩ => ⟨S1024x1024, .bf16⟩
  | .hbm, ⟨7, _⟩ => ⟨S4096x512, .f32⟩
  | .hbm, ⟨8, _⟩ => ⟨S512x1024, .f32⟩
  | .hbm, ⟨9, _⟩ => ⟨S256x1024, .f32⟩
  | .hbm, ⟨10, _⟩ => ⟨S1024x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x2048, .f32⟩
  | .hbm, ⟨51, _⟩ => ⟨S4096x512, .f32⟩
  | .hbm, ⟨52, _⟩ => ⟨S4096x256, .f32⟩
  | .hbm, ⟨53, _⟩ => ⟨S4096x2048, .bf16⟩
  | .hbm, ⟨54, _⟩ => ⟨S4096x1024, .bf16⟩
  | .hbm, ⟨55, _⟩ => ⟨S4096x1024, .bf16⟩
  | .hbm, ⟨56, _⟩ => ⟨S4096x512, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_2 : Ref sig .tc := ⟨.hbm, 30, rfl⟩
abbrev main_v20 : Ref sig .tc := ⟨.hbm, 31, rfl⟩
abbrev main_v21 : Ref sig .tc := ⟨.hbm, 32, rfl⟩
abbrev main_cst_3 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩

abbrev nD : Nat := 1
abbrev τ : Topo := Topo.v7x

variable {F : FTy → Type} [FloatOps F]
-- ==== Stick.lean ====
abbrev S2x2048x1536 : Shape := ⟨3, ![2, 2048, 1536]⟩
abbrev S2x2048x512 : Shape := ⟨3, ![2, 2048, 512]⟩
abbrev S1x256x128 : Shape := ⟨3, ![1, 256, 128]⟩
abbrev S1x2048x128 : Shape := ⟨3, ![1, 2048, 128]⟩
abbrev S2048x128 : Shape := ⟨2, ![2048, 128]⟩
abbrev S8x512x256 : Shape := ⟨3, ![8, 512, 256]⟩
abbrev S128x128 : Shape := ⟨2, ![128, 128]⟩
abbrev S256x128 : Shape := ⟨2, ![256, 128]⟩
abbrev S512x128 : Shape := ⟨2, ![512, 128]⟩
abbrev S512x256 : Shape := ⟨2, ![512, 256]⟩
abbrev S1x512x256 : Shape := ⟨3, ![1, 512, 256]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩
abbrev S1024x128 : Shape := ⟨2, ![1024, 128]⟩

abbrev nBuf : Space → Nat
  | .hbm => 5
  | .vmem => 18
  | .smem => 0
  | _ => 0

abbrev bufTy : (tb : Table) → Fin (tcTables nBuf tb) → BufTy
  | .hbm, ⟨0, _⟩ => ⟨S2x2048x1536, .bf16⟩
  | .hbm, ⟨1, _⟩ => ⟨S2x2048x512, .bf16⟩
  | .hbm, ⟨2, _⟩ => ⟨S2x2048x512, .bf16⟩
  | .hbm, ⟨3, _⟩ => ⟨S2x2048x512, .bf16⟩
  | .hbm, ⟨4, _⟩ => ⟨S2x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | .local _ .vmem, ⟨8, _⟩ => ⟨S1x256x128, .bf16⟩
  | .local _ .vmem, ⟨9, _⟩ => ⟨S1x256x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S2048x128, .f32⟩
  | .local _ .vmem, ⟨15, _⟩ => ⟨S2048x128, .f32⟩
  | .local _ .vmem, ⟨16, _⟩ => ⟨S8x512x256, .f32⟩
  | .local _ .vmem, ⟨17, _⟩ => ⟨S8x512x256, .f32⟩
  | _, _ => ⟨S2x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32_8 : BitVec 32 := 256#32
  let v35 : BitVec 32 := Scalar.muli arg2 c256_i32_8
  v35
def k0_off1 (i : grid0.Coords) : Fin 3 → Nat :=
  let c0_9 : Index := 0#32
  let arg2 : BitVec 32 := BitVec.ofNat 32 (i 2).val
  let c256_i32_8 : BitVec 32 := 256#32
  let v35 : BitVec 32 := Scalar.muli arg2 c256_i32_8
  let v36 : BitVec 32 := v35
  let v37 : Index := Scalar.indexCast v36
  let c0_10 : Index := 0#32
  ![0, v37.toNat, 0]
def k0_off2 (i : grid0.Coords) : Fin 3 → Nat :=
  let arg2 : BitVec 32 := BitVec.ofNat 32 (i 2).val
  let v53 : Index := Scalar.indexCast arg2
  let c0_16 : Index := 0#32
  let c0_17 : Index := 0#32
  ![v53.toNat, 0, 0]
def k0_mult2 (i : grid0.Coords) (arg14 : BitVec 32) : BitVec 32 :=
  let arg2 : BitVec 32 := BitVec.ofNat 32 (i 2).val
  let c1_i32_59 : BitVec 32 := 1#32
  let v187 : BitVec 32 := Scalar.subi arg2 c1_i32_59
  let v188 : BitVec 32 := Scalar.subi v187 arg14
  let c256_i32_60 : BitVec 32 := 256#32
  let v189 : BitVec 32 := Scalar.muli v188 c256_i32_60
  v189

def k0_off3 (i : grid0.Coords) (arg14 : BitVec 32) : Fin 3 → Nat :=
  let c0_61 : Index := 0#32
  let arg2 : BitVec 32 := BitVec.ofNat 32 (i 2).val
  let c1_i32_59 : BitVec 32 := 1#32
  let v187 : BitVec 32 := Scalar.subi arg2 c1_i32_59
  let v188 : BitVec 32 := Scalar.subi v187 arg14
  let c256_i32_60 : BitVec 32 := 256#32
  let v189 : BitVec 32 := Scalar.muli v188 c256_i32_60
  let v190 : BitVec 32 := v189
  let v191 : Index := Scalar.indexCast v190
  let c0_62 : Index := 0#32
  ![0, v191.toNat, 0]
def k0_off4 (i : grid0.Coords) (arg14 : BitVec 32) : Fin 3 → Nat :=
  let arg2 : BitVec 32 := BitVec.ofNat 32 (i 2).val
  let c1_i32_59 : BitVec 32 := 1#32
  let v187 : BitVec 32 := Scalar.subi arg2 c1_i32_59
  let v188 : BitVec 32 := Scalar.subi v187 arg14
  let v205 : Index := Scalar.indexCast v188
  let c0_67 : Index := 0#32
  let c0_68 : Index := 0#32
  ![v205.toNat, 0, 0]

def k0_chk1 (i : grid0.Coords) (arg14 : BitVec 32) : Prop :=
  (256 ∣ (k0_mult2 i arg14).toNat) ∧
  (∀ a, (k0_off3 i arg14) a + S1x256x128.size a ≤ S1x2048x128.size a) ∧
  (∀ a, (k0_off4 i arg14) a + S1x512x256.size a ≤ S8x512x256.size a)
theorem k0_mult2_dvd : ∀ (i : grid0.Coords) (arg14 : BitVec 32) (k0_hw1 : k0_chk1 i arg14), 256 ∣ (k0_mult2 i arg14).toNat := fun i arg14 k0_hw1 => k0_hw1.1
theorem k0_off3_inb : ∀ (i : grid0.Coords) (arg14 : BitVec 32) (k0_hw1 : k0_chk1 i arg14), ∀ a, (k0_off3 i arg14) a + S1x256x128.size a ≤ S1x2048x128.size a := fun i arg14 k0_hw1 => k0_hw1.2.1
theorem k0_off4_inb : ∀ (i : grid0.Coords) (arg14 : BitVec 32) (k0_hw1 : k0_chk1 i arg14), ∀ a, (k0_off4 i arg14) a + S1x512x256.size a ≤ S8x512x256.size a := fun i arg14 k0_hw1 => k0_hw1.2.2

@[reducible] def k0_t1_loop (i : grid0.Coords) (v69_0 : BitVec 32) : Scf.Loop 32 :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_27 : BitVec 32 := 1#32
  ⟨v70, v80, c1_i32_27⟩

def k0_mult3 (i : grid0.Coords) (v69_0 : BitVec 32) (k0_t1 : Fin (k0_t1_loop i v69_0).trips) : BitVec 32 :=
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let c256_i32_59 : BitVec 32 := 256#32
  let v187 : BitVec 32 := Scalar.muli arg14 c256_i32_59
  v187
def k0_off5 (i : grid0.Coords) (v69_0 : BitVec 32) (k0_t1 : Fin (k0_t1_loop i v69_0).trips) : Fin 3 → Nat :=
  let c0_60 : Index := 0#32
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let c256_i32_59 : BitVec 32 := 256#32
  let v187 : BitVec 32 := Scalar.muli arg14 c256_i32_59
  let v188 : BitVec 32 := v187
  let v189 : Index := Scalar.indexCast v188
  let c0_61 : Index := 0#32
  ![0, v189.toNat, 0]
def k0_off6 (i : grid0.Coords) (v69_0 : BitVec 32) (k0_t1 : Fin (k0_t1_loop i v69_0).trips) : Fin 3 → Nat :=
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let v196 : Index := Scalar.indexCast arg14
  let c0_65 : Index := 0#32
  let c0_66 : Index := 0#32
  ![v196.toNat, 0, 0]
def k0_off7 (i : grid0.Coords) (v69_0 : BitVec 32) (k0_t1 : Fin (k0_t1_loop i v69_0).trips) : Fin 2 → Nat :=
  let arg2 : BitVec 32 := BitVec.ofNat 32 (i 2).val
  let v70 : BitVec 32 := Scalar.subi arg2 v69_0
  let c1_i32_27 : BitVec 32 := 1#32
  let arg14 : BitVec 32 := Scf.iv v70 c1_i32_27 k0_t1
  let c256_i32_59 : BitVec 32 := 256#32
  let v187 : BitVec 32 := Scalar.muli arg14 c256_i32_59
  let v188 : BitVec 32 := v187
  let v254 : Index := Scalar.indexCast v188
  let c0_76 : Index := 0#32
  ![v254.toNat, 0]
@[reducible] def k0_t2_loop (i : grid0.Coords) (v69_0 : BitVec 32) : Scf.Loop 32 :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let v77 : BitVec 32 := Scalar.addi v70 v76
  let c1_i32_28 : BitVec 32 := 1#32
  ⟨v80, v77, c1_i32_28⟩
def k0_mult4 (i : grid0.Coords) (v69_0 : BitVec 32) (k0_t2 : Fin (k0_t2_loop i v69_0).trips) : BitVec 32 :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let c256_i32_59 : BitVec 32 := 256#32
  let v187 : BitVec 32 := Scalar.muli arg14 c256_i32_59
  v187
def k0_off8 (i : grid0.Coords) (v69_0 : BitVec 32) (k0_t2 : Fin (k0_t2_loop i v69_0).trips) : Fin 3 → Nat :=
  let c0_60 : Index := 0#32
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let c256_i32_59 : BitVec 32 := 256#32
  let v187 : BitVec 32 := Scalar.muli arg14 c256_i32_59
  let v188 : BitVec 32 := v187
  let v189 : Index := Scalar.indexCast v188
  let c0_61 : Index := 0#32
  ![0, v189.toNat, 0]
def k0_off9 (i : grid0.Coords) (v69_0 : BitVec 32) (k0_t2 : Fin (k0_t2_loop i v69_0).trips) : Fin 3 → Nat :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let v196 : Index := Scalar.indexCast arg14
  let c0_65 : Index := 0#32
  let c0_66 : Index := 0#32
  ![v196.toNat, 0, 0]
def k0_off10 (i : grid0.Coords) (v69_0 : BitVec 32) (k0_t2 : Fin (k0_t2_loop i v69_0).trips) : Fin 2 → Nat :=
  let arg2 : BitVec 32 := BitVec.ofNat 32 (i 2).val
  let v70 : BitVec 32 := Scalar.subi arg2 v69_0
  let v76 : BitVec 32 := Scalar.subi arg2 v70
  let c1_i32 : BitVec 32 := 1#32
  let v78 : BitVec 32 := Scalar.divsi v76 c1_i32
  let v79 : BitVec 32 := Scalar.muli v78 c1_i32
  let v80 : BitVec 32 := Scalar.addi v70 v79
  let c1_i32_28 : BitVec 32 := 1#32
  let arg14 : BitVec 32 := Scf.iv v80 c1_i32_28 k0_t2
  let c256_i32_59 : BitVec 32 := 256#32
  let v187 : BitVec 32 := Scalar.muli arg14 c256_i32_59
  let v188 : BitVec 32 := v187
  let v254 : Index := Scalar.indexCast v188
  let c0_76 : Index := 0#32
  ![v254.toNat, 0]

def k0_chk2 (i : grid0.Coords) (v69_0 : BitVec 32) : Prop :=
  ((k0_t1_loop i v69_0).OK) ∧
  (∀ k0_t1 : Fin (k0_t1_loop i v69_0).trips, 256 ∣ (k0_mult3 i v69_0 k0_t1).toNat) ∧
  (∀ k0_t1 : Fin (k0_t1_loop i v69_0).trips, ∀ a, (k0_off5 i v69_0 k0_t1) a + S1x256x128.size a ≤ S1x2048x128.size a) ∧
  (∀ k0_t1 : Fin (k0_t1_loop i v69_0).trips, ∀ a, (k0_off6 i v69_0 k0_t1) a + S1x512x256.size a ≤ S8x512x256.size a) ∧
  (∀ k0_t1 : Fin (k0_t1_loop i v69_0).trips, ∀ a, (k0_off7 i v69_0 k0_t1) a + S256x128.size a ≤ S2048x128.size a) ∧
  ((k0_t2_loop i v69_0).OK) ∧
  (∀ k0_t2 : Fin (k0_t2_loop i v69_0).trips, 256 ∣ (k0_mult4 i v69_0 k0_t2).toNat) ∧
  (∀ k0_t2 : Fin (k0_t2_loop i v69_0).trips, ∀ a, (k0_off8 i v69_0 k0_t2) a + S1x256x128.size a ≤ S1x2048x128.size a) ∧
  (∀ k0_t2 : Fin (k0_t2_loop i v69_0).trips, ∀ a, (k0_off9 i v69_0 k0_t2) a + S1x512x256.size a ≤ S8x512x256.size a) ∧
  (∀ k0_t2 : Fin (k0_t2_loop i v69_0).trips, ∀ a, (k0_off10 i v69_0 k0_t2) a + S256x128.size a ≤ S2048x128.size a)
theorem k0_t1_ok : ∀ (i : grid0.Coords) (v69_0 : BitVec 32) (k0_hw2 : k0_chk2 i v69_0), (k0_t1_loop i v69_0).OK := fun i v69_0 k0_hw2 => k0_hw2.1
theorem k0_mult3_dvd : ∀ (i : grid0.Coords) (v69_0 : BitVec 32) (k0_hw2 : k0_chk2 i v69_0) (k0_t1 : Fin (k0_t1_loop i v69_0).trips), 256 ∣ (k0_mult3 i v69_0 k0_t1).toNat := fun i v69_0 k0_hw2 k0_t1 => k0_hw2.2.1 k0_t1
theorem k0_off5_inb : ∀ (i : grid0.Coords) (v69_0 : BitVec 32) (k0_hw2 : k0_chk2 i v69_0) (k0_t1 : Fin (k0_t1_loop i v69_0).trips), ∀ a, (k0_off5 i v69_0 k0_t1) a + S1x256x128.size a ≤ S1x2048x128.size a := fun i v69_0 k0_hw2 k0_t1 => k0_hw2.2.2.1 k0_t1
theorem k0_off6_inb : ∀ (i : grid0.Coords) (v69_0 : BitVec 32) (k0_hw2 : k0_chk2 i v69_0) (k0_t1 : Fin (k0_t1_loop i v69_0).trips), ∀ a, (k0_off6 i v69_0 k0_t1) a + S1x512x256.size a ≤ S8x512x256.size a := fun i v69_0 k0_hw2 k0_t1 => k0_hw2.2.2.2.1 k0_t1
theorem k0_off7_inb : ∀ (i : grid0.Coords) (v69_0 : BitVec 32) (k0_hw2 : k0_chk2 i v69_0) (k0_t1 : Fin (k0_t1_loop i v69_0).trips), ∀ a, (k0_off7 i v69_0 k0_t1) a + S256x128.size a ≤ S2048x128.size a := fun i v69_0 k0_hw2 k0_t1 => k0_hw2.2.2.2.2.1 k0_t1
theorem k0_t2_ok : ∀ (i : grid0.Coords) (v69_0 : BitVec 32) (k0_hw2 : k0_chk2 i v69_0), (k0_t2_loop i v69_0).OK := fun i v69_0 k0_hw2 => k0_hw2.2.2.2.2.2.1
theorem k0_mult4_dvd : ∀ (i : grid0.Coords) (v69_0 : BitVec 32) (k0_hw2 : k0_chk2 i v69_0) (k0_t2 : Fin (k0_t2_loop i v69_0).trips), 256 ∣ (k0_mult4 i v69_0 k0_t2).toNat := fun i v69_0 k0_hw2 k0_t2 => k0_hw2.2.2.2.2.2.2.1 k0_t2
theorem k0_off8_inb : ∀ (i : grid0.Coords) (v69_0 : BitVec 32) (k0_hw2 : k0_chk2 i v69_0) (k0_t2 : Fin (k0_t2_loop i v69_0).trips), ∀ a, (k0_off8 i v69_0 k0_t2) a + S1x256x128.size a ≤ S1x2048x128.size a := fun i v69_0 k0_hw2 k0_t2 => k0_hw2.2.2.2.2.2.2.2.1 k0_t2
theorem k0_off9_inb : ∀ (i : grid0.Coords) (v69_0 : BitVec 32) (k0_hw2 : k0_chk2 i v69_0) (k0_t2 : Fin (k0_t2_loop i v69_0).trips), ∀ a, (k0_off9 i v69_0 k0_t2) a + S1x512x256.size a ≤ S8x512x256.size a := fun i v69_0 k0_hw2 k0_t2 => k0_hw2.2.2.2.2.2.2.2.2.1 k0_t2
theorem k0_off10_inb : ∀ (i : grid0.Coords) (v69_0 : BitVec 32) (k0_hw2 : k0_chk2 i v69_0) (k0_t2 : Fin (k0_t2_loop i v69_0).trips), ∀ a, (k0_off10 i v69_0 k0_t2) a + S256x128.size a ≤ S2048x128.size a := fun i v69_0 k0_hw2 k0_t2 => k0_hw2.2.2.2.2.2.2.2.2.2 k0_t2

def k0_mult5 (i : grid0.Coords) : BitVec 32 :=
  let arg2 : BitVec 32 := BitVec.ofNat 32 (i 2).val
  let c256_i32_31 : BitVec 32 := 256#32
  let v91 : BitVec 32 := Scalar.muli arg2 c256_i32_31
  v91
def k0_off11 (i : grid0.Coords) : Fin 3 → Nat :=
  let c0_32 : Index := 0#32
  let arg2 : BitVec 32 := BitVec.ofNat 32 (i 2).val
  let c256_i32_31 : BitVec 32 := 256#32
  let v91 : BitVec 32 := Scalar.muli arg2 c256_i32_31
  let v92 : BitVec 32 := v91
  let v93 : Index := Scalar.indexCast v92
  let c0_33 : Index := 0#32
  ![0, v93.toNat, 0]
def k0_off12 (i : grid0.Coords) : Fin 3 → Nat :=
  let arg2 : BitVec 32 := BitVec.ofNat 32 (i 2).val
  let v100 : Index := Scalar.indexCast arg2
  let c0_37 : Index := 0#32
  let c0_38 : Index := 0#32
  ![v100.toNat, 0, 0]
def k0_off13 (i : grid0.Coords) : Fin 2 → Nat :=
  let arg2 : BitVec 32 := BitVec.ofNat 32 (i 2).val
  let c256_i32_31 : BitVec 32 := 256#32
  let v91 : BitVec 32 := Scalar.muli arg2 c256_i32_31
  let v92 : BitVec 32 := v91
  let v158 : Index := Scalar.indexCast v92
  let c0_48 : Index := 0#32
  ![v158.toNat, 0]
def k0_cond2 (i : grid0.Coords) : BitVec 1 :=
  let arg2 : BitVec 32 := BitVec.ofNat 32 (i 2).val
  let c7_i32 : BitVec 32 := 7#32
  let v184 : BitVec 1 := Scalar.cmpi .eq arg2 c7_i32
  let v185 : BitVec 32 := Scalar.extui v184
  let c0_i32_58 : BitVec 32 := 0#32
  let v186 : BitVec 1 := Scalar.cmpi .ne v185 c0_i32_58
  v186

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== NormProj.lean ====
abbrev S4096x1024 : Shape := ⟨2, ![4096, 1024]⟩
abbrev S1x1024 : Shape := ⟨2, ![1, 1024]⟩
abbrev S1024x5888 : Shape := ⟨2, ![1024, 5888]⟩
abbrev S5888x1024 : Shape := ⟨2, ![5888, 1024]⟩
abbrev S4096x1536 : Shape := ⟨2, ![4096, 1536]⟩
abbrev S4096x2304 : Shape := ⟨2, ![4096, 2304]⟩
abbrev S4096x2048 : Shape := ⟨2, ![4096, 2048]⟩
abbrev S512x1024 : Shape := ⟨2, ![512, 1024]⟩
abbrev S512x1536 : Shape := ⟨2, ![512, 1536]⟩
abbrev S512x2304 : Shape := ⟨2, ![512, 2304]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩
abbrev S256x1024 : Shape := ⟨2, ![256, 1024]⟩
abbrev S512x256 : Shape := ⟨2, ![512, 256]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5888, .bf16⟩
  | .hbm, ⟨3, _⟩ => ⟨S5888x1024, .bf16⟩
  | .hbm, ⟨4, _⟩ => ⟨S4096x1536, .bf16⟩
  | .hbm, ⟨5, _⟩ => ⟨S4096x2304, .f32⟩
  | .hbm, ⟨6, _⟩ => ⟨S4096x2048, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5888x1024, .bf16⟩
  | .local _ .vmem, ⟨4, _⟩ => ⟨S512x1536, .bf16⟩
  | .local _ .vmem, ⟨5, _⟩ => ⟨S512x1536, .bf16⟩
  | .local _ .vmem, ⟨6, _⟩ => ⟨S512x2304, .f32⟩
  | .local _ .vmem, ⟨7, _⟩ => ⟨S512x2304, .f32⟩
  | .local _ .vmem, ⟨8, _⟩ => ⟨S512x2048, .f32⟩
  | .local _ .vmem, ⟨9, _⟩ => ⟨S512x2048, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5888x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2304 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormProjRefIdeal.lean ====
abbrev S4096x1024 : Shape := ⟨2, ![4096, 1024]⟩
abbrev S1x1024 : Shape := ⟨2, ![1, 1024]⟩
abbrev S1024x5888 : Shape := ⟨2, ![1024, 5888]⟩
abbrev S_ : Shape := ⟨0, ![]⟩
abbrev S4096 : Shape := ⟨1, ![4096]⟩
abbrev S4096x1 : Shape := ⟨2, ![4096, 1]⟩
abbrev S4096x5888 : Shape := ⟨2, ![4096, 5888]⟩
abbrev S4096x1536 : Shape := ⟨2, ![4096, 1536]⟩
abbrev S4096x2304 : Shape := ⟨2, ![4096, 2304]⟩
abbrev S4096x2048 : Shape := ⟨2, ![4096, 2048]⟩

abbrev nBuf : Space → Nat
  | .hbm => 25
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x5888, .bf16⟩
  | .hbm, ⟨3, _⟩ => ⟨S4096x1024, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x5888, .f32⟩
  | .hbm, ⟨19, _⟩ => ⟨S4096x5888, .f32⟩
  | .hbm, ⟨20, _⟩ => ⟨S4096x1536, .f32⟩
  | .hbm, ⟨21, _⟩ => ⟨S4096x2304, .f32⟩
  | .hbm, ⟨22, _⟩ => ⟨S4096x2048, .f32⟩
  | .hbm, ⟨23, _⟩ => ⟨S4096x1536, .bf16⟩
  | .hbm, ⟨24, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== FfnIn.lean ====
abbrev S4096x1024 : Shape := ⟨2, ![4096, 1024]⟩
abbrev S4096x5632 : Shape := ⟨2, ![4096, 5632]⟩
abbrev S5632x1024 : Shape := ⟨2, ![5632, 1024]⟩
abbrev S4096x512 : Shape := ⟨2, ![4096, 512]⟩
abbrev S512x1024 : Shape := ⟨2, ![512, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnInRefIdeal.lean ====
abbrev S4096x1024 : Shape := ⟨2, ![4096, 1024]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x5632, .bf16⟩
  | .hbm, ⟨2, _⟩ => ⟨S4096x1024, .f32⟩
  | .hbm, ⟨3, _⟩ => ⟨S4096x5632, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== FfnOut.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩
abbrev S512x256 : Shape := ⟨2, ![512, 256]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== FfnOutRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ProjBwd.lean ====
abbrev S4096x512 : Shape := ⟨2, ![4096, 512]⟩
abbrev S4096x256 : Shape := ⟨2, ![4096, 256]⟩
abbrev S4096x2048 : Shape := ⟨2, ![4096, 2048]⟩
abbrev S4096x1024 : Shape := ⟨2, ![4096, 1024]⟩
abbrev S1x1024 : Shape := ⟨2, ![1, 1024]⟩
abbrev S1024x5888 : Shape := ⟨2, ![1024, 5888]⟩
abbrev S5888x1024 : Shape := ⟨2, ![5888, 1024]⟩
abbrev S256x512 : Shape := ⟨2, ![256, 512]⟩
abbrev S256x256 : Shape := ⟨2, ![256, 256]⟩
abbrev S256x2048 : Shape := ⟨2, ![256, 2048]⟩
abbrev S256x1024 : Shape := ⟨2, ![256, 1024]⟩
abbrev S512x1024 : Shape := ⟨2, ![512, 1024]⟩
abbrev S2048x1024 : Shape := ⟨2, ![2048, 1024]⟩
abbrev S256 : Shape := ⟨1, ![256]⟩
abbrev S256x1 : Shape := ⟨2, ![256, 1]⟩
abbrev S1024 : Shape := ⟨1, ![1024]⟩

abbrev nBuf : Space → Nat
  | .hbm => 20
  | .vmem => 35
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x2048, .bf16⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024x5888, .bf16⟩
  | .hbm, ⟨17, _⟩ => ⟨S5888x1024, .bf16⟩
  | .hbm, ⟨18, _⟩ => ⟨S4096x1024, .f32⟩
  | .hbm, ⟨19, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x256, .f32⟩
  | .local _ .vmem, ⟨7, _⟩ => ⟨S256x256, .f32⟩
  | .local _ .vmem, ⟨8, _⟩ => ⟨S256x256, .f32⟩
  | .local _ .vmem, ⟨9, _⟩ => ⟨S256x256, .f32⟩
  | .local _ .vmem, ⟨10, _⟩ => ⟨S256x256, .f32⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x256, .f32⟩
  | .local _ .vmem, ⟨16, _⟩ => ⟨S256x256, .f32⟩
  | .local _ .vmem, ⟨17, _⟩ => ⟨S256x256, .f32⟩
  | .local _ .vmem, ⟨18, _⟩ => ⟨S256x256, .f32⟩
  | .local _ .vmem, ⟨19, _⟩ => ⟨S256x256, .f32⟩
  | .local _ .vmem, ⟨20, _⟩ => ⟨S256x256, .f32⟩
  | .local _ .vmem, ⟨21, _⟩ => ⟨S256x256, .f32⟩
  | .local _ .vmem, ⟨22, _⟩ => ⟨S256x256, .f32⟩
  | .local _ .vmem, ⟨23, _⟩ => ⟨S256x256, .f32⟩
  | .local _ .vmem, ⟨24, _⟩ => ⟨S256x2048, .bf16⟩
  | .local _ .vmem, ⟨25, _⟩ => ⟨S256x2048, .bf16⟩
  | .local _ .vmem, ⟨26, _⟩ => ⟨S256x1024, .f32⟩
  | .local _ .vmem, ⟨27, _⟩ => ⟨S256x1024, .f32⟩
  | .local _ .vmem, ⟨28, _⟩ => ⟨S256x1024, .f32⟩
  | .local _ .vmem, ⟨29, _⟩ => ⟨S256x1024, .f32⟩
  | .local _ .vmem, ⟨30, _⟩ => ⟨S1x1024, .f32⟩
  | .local _ .vmem, ⟨31, _⟩ => ⟨S5888x1024, .bf16⟩
  | .local _ .vmem, ⟨32, _⟩ => ⟨S256x1024, .f32⟩
  | .local _ .vmem, ⟨33, _⟩ => ⟨S256x1024, .f32⟩
  | .local _ .vmem, ⟨34, _⟩ => ⟨S1x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1_0 : Ref sig .tc := ⟨.hbm, 18, rfl⟩
abbrev main_v1_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem16_0 : DmaSem sig := 31
abbrev cc0_sem17_0 : DmaSem sig := 32
abbrev cc0_sem17_1 : DmaSem sig := 33
abbrev cc0_sem18_0 : DmaSem sig := 34

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S5888x1024 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S256x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== ProjBwdRefIdeal.lean ====
abbrev S4096x512 : Shape := ⟨2, ![4096, 512]⟩
abbrev S4096x256 : Shape := ⟨2, ![4096, 256]⟩
abbrev S4096x2048 : Shape := ⟨2, ![4096, 2048]⟩
abbrev S4096x1024 : Shape := ⟨2, ![4096, 1024]⟩
abbrev S1x1024 : Shape := ⟨2, ![1, 1024]⟩
abbrev S1024x5888 : Shape := ⟨2, ![1024, 5888]⟩
abbrev S4096x5888 : Shape := ⟨2, ![4096, 5888]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 68
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x512, .bf16⟩
  | .hbm, ⟨3, _⟩ => ⟨S4096x256, .f32⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x2048, .bf16⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S1024x5888, .bf16⟩
  | .hbm, ⟨17, _⟩ => ⟨S4096x512, .f32⟩
  | .hbm, ⟨18, _⟩ => ⟨S4096x512, .f32⟩
  | .hbm, ⟨19, _⟩ => ⟨S4096x512, .f32⟩
  | .hbm, ⟨20, _⟩ => ⟨S4096x2048, .f32⟩
  | .hbm, ⟨21, _⟩ => ⟨S4096x5888, .f32⟩
  | .hbm, ⟨22, _⟩ => ⟨S1024x5888, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x5888, .f32⟩
  | .hbm, ⟨43, _⟩ => ⟨S4096x1024, .f32⟩
  | .hbm, ⟨44, _⟩ => ⟨S4096x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096, .f32⟩
  | .hbm, ⟨53, _⟩ => ⟨S4096x1, .f32⟩
  | .hbm, ⟨54, _⟩ => ⟨S4096x1024, .f32⟩
  | .hbm, ⟨55, _⟩ => ⟨S4096x1024, .f32⟩
  | .hbm, ⟨56, _⟩ => ⟨S4096x1, .f32⟩
  | .hbm, ⟨57, _⟩ => ⟨S_, .f32⟩
  | .hbm, ⟨58, _⟩ => ⟨S4096x1, .f32⟩
  | .hbm, ⟨59, _⟩ => ⟨S4096x1, .f32⟩
  | .hbm, ⟨60, _⟩ => ⟨S_, .f32⟩
  | .hbm, ⟨61, _⟩ => ⟨S4096, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_cst : Ref sig .tc := ⟨.hbm, 24, rfl⟩
abbrev main_v7 : Ref sig .tc := ⟨.hbm, 25, rfl⟩
abbrev main_v8 : Ref sig .tc := ⟨.hbm, 26, rfl⟩
abbrev main_cst_0 : Ref sig .tc := ⟨.hbm, 27, rfl⟩
abbrev main_v9 : Ref sig .tc := ⟨.hbm, 28, rfl⟩
abbrev main_v10 : Ref sig .tc := ⟨.hbm, 29, rfl⟩
abbrev main_cst_1 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_2 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_cst_3 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_4 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_5 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]
-- ==== Ffn.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S1024x512 : Shape := ⟨2, ![1024, 512]⟩
abbrev S1024x256 : Shape := ⟨2, ![1024, 256]⟩
abbrev S5632x1024 : Shape := ⟨2, ![5632, 1024]⟩
abbrev S1x128 : Shape := ⟨2, ![1, 128]⟩
abbrev S4096x2816 : Shape := ⟨2, ![4096, 2816]⟩
abbrev S4096x5632 : Shape := ⟨2, ![4096, 5632]⟩
abbrev S256x512 : Shape := ⟨2, ![256, 512]⟩
abbrev S256x256 : Shape := ⟨2, ![256, 256]⟩
abbrev S256x2048 : Shape := ⟨2, ![256, 2048]⟩
abbrev S256x2816 : Shape := ⟨2, ![256, 2816]⟩
abbrev S256x5632 : Shape := ⟨2, ![256, 5632]⟩
abbrev S256 : Shape := ⟨1, ![256]⟩
abbrev S256x1 : Shape := ⟨2, ![256, 1]⟩
abbrev S768x1024 : Shape := ⟨2, ![768, 1024]⟩
abbrev S256x768 : Shape := ⟨2, ![256, 768]⟩
abbrev S1 : Shape := ⟨1, ![1]⟩
abbrev S1x1 : Shape := ⟨2, ![1, 1]⟩
abbrev S1024 : Shape := ⟨1, ![1024]⟩

abbrev nBuf : Space → Nat
  | .hbm => 24
  | .vmem => 33
  | .smem => 0
  | _ => 0

abbrev bufTy : (tb : Table) → Fin (tcTables nBuf tb) → BufTy
  | .hbm, ⟨0, _⟩ => ⟨S4096x1024, .f32⟩
  | .hbm, ⟨1, _⟩ => ⟨S4096x512, .bf16⟩
  | .hbm, ⟨2, _⟩ => ⟨S4096x256, .f32⟩
  | .hbm, ⟨3, _⟩ => ⟨S4096x2048, .f32⟩
  | .hbm, ⟨4, _⟩ => ⟨S512x1024, .bf16⟩
  | .hbm, ⟨5, _⟩ => ⟨S256x1024, .bf16⟩
  | .hbm, ⟨6, _⟩ => ⟨S1024x1024, .bf16⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1024x5632, .bf16⟩
  | .hbm, ⟨11, _⟩ => ⟨S2816x1024, .bf16⟩
  | .hbm, ⟨12, _⟩ => ⟨S1024x512, .bf16⟩
  | .hbm, ⟨13, _⟩ => ⟨S1024x256, .bf16⟩
  | .hbm, ⟨14, _⟩ => ⟨S5632x1024, .bf16⟩
  | .hbm, ⟨15, _⟩ => ⟨S1x128, .f32⟩
  | .hbm, ⟨16, _⟩ => ⟨S4096x1024, .f32⟩
  | .hbm, ⟨17, _⟩ => ⟨S4096x1024, .bf16⟩
  | .hbm, ⟨18, _⟩ => ⟨S4096x1024, .bf16⟩
  | .hbm, ⟨19, _⟩ => ⟨S4096x2816, .bf16⟩
  | .hbm, ⟨20, _⟩ => ⟨S4096x5632, .bf16⟩
  | .hbm, ⟨21, _⟩ => ⟨S4096x1024, .bf16⟩
  | .hbm, ⟨22, _⟩ => ⟨S1x1024, .f32⟩
  | .hbm, ⟨23, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x512, .bf16⟩
  | .local _ .vmem, ⟨3, _⟩ => ⟨S256x512, .bf16⟩
  | .local _ .vmem, ⟨4, _⟩ => ⟨S256x256, .f32⟩
  | .local _ .vmem, ⟨5, _⟩ => ⟨S256x256, .f32⟩
  | .local _ .vmem, ⟨6, _⟩ => ⟨S256x2048, .f32⟩
  | .local _ .vmem, ⟨7, _⟩ => ⟨S256x2048, .f32⟩
  | .local _ .vmem, ⟨8, _⟩ => ⟨S1024x512, .bf16⟩
  | .local _ .vmem, ⟨9, _⟩ => ⟨S1024x256, .bf16⟩
  | .local _ .vmem, ⟨10, _⟩ => ⟨S1024x1024, .bf16⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | .local _ .vmem, ⟨15, _⟩ => ⟨S5632x1024, .bf16⟩
  | .local _ .vmem, ⟨16, _⟩ => ⟨S2816x1024, .bf16⟩
  | .local _ .vmem, ⟨17, _⟩ => ⟨S1x128, .f32⟩
  | .local _ .vmem, ⟨18, _⟩ => ⟨S256x1024, .f32⟩
  | .local _ .vmem, ⟨19, _⟩ => ⟨S256x1024, .f32⟩
  | .local _ .vmem, ⟨20, _⟩ => ⟨S256x1024, .bf16⟩
  | .local _ .vmem, ⟨21, _⟩ => ⟨S256x1024, .bf16⟩
  | .local _ .vmem, ⟨22, _⟩ => ⟨S256x1024, .bf16⟩
  | .local _ .vmem, ⟨23, _⟩ => ⟨S256x1024, .bf16⟩
  | .local _ .vmem, ⟨24, _⟩ => ⟨S256x2816, .bf16⟩
  | .local _ .vmem, ⟨25, _⟩ => ⟨S256x2816, .bf16⟩
  | .local _ .vmem, ⟨26, _⟩ => ⟨S256x5632, .bf16⟩
  | .local _ .vmem, ⟨27, _⟩ => ⟨S256x5632, .bf16⟩
  | .local _ .vmem, ⟨28, _⟩ => ⟨S256x1024, .bf16⟩
  | .local _ .vmem, ⟨29, _⟩ => ⟨S256x1024, .bf16⟩
  | .local _ .vmem, ⟨30, _⟩ => ⟨S1x1024, .f32⟩
  | .local _ .vmem, ⟨31, _⟩ => ⟨S1x1024, .f32⟩
  | .local _ .vmem, ⟨32, _⟩ => ⟨S256x5632, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3_0 : Ref sig .tc := ⟨.hbm, 15, rfl⟩
abbrev main_v3_1 : Ref sig .tc := ⟨.hbm, 16, rfl⟩
abbrev main_v3_2 : Ref sig .tc := ⟨.hbm, 17, rfl⟩
abbrev main_v3_3 : Ref sig .tc := ⟨.hbm, 18, rfl⟩
abbrev main_v3_4 : Ref sig .tc := ⟨.hbm, 19, rfl⟩
abbrev main_v3_5 : Ref sig .tc := ⟨.hbm, 20, rfl⟩
abbrev main_v3_6 : Ref sig .tc := ⟨.hbm, 21, rfl⟩
abbrev main_v3_7 : Ref sig .tc := ⟨.hbm, 22, rfl⟩
abbrev main_v3_8 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg20_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem20_0 : DmaSem sig := 31

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S5632x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2816x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2816 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x5632 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x1024 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== FfnRefIdeal.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S512x1024 : Shape := ⟨2, ![512, 1024]⟩
abbrev S256x1024 : Shape := ⟨2, ![256, 1024]⟩
abbrev S1024x1024 : Shape := ⟨2, ![1024, 1024]⟩
abbrev S1x1024 : Shape := ⟨2, ![1, 1024]⟩
abbrev S1024x5632 : Shape := ⟨2, ![1024, 5632]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4096x5632 : Shape := ⟨2, ![4096, 5632]⟩
abbrev S4096x2816 : Shape := ⟨2, ![4096, 2816]⟩
abbrev S1024 : Shape := ⟨1, ![1024]⟩
abbrev S1x128 : Shape := ⟨2, ![1, 128]⟩

abbrev nBuf : Space → Nat
  | .hbm => 185
  | .vmem => 0
  | .smem => 0
  | _ => 0

abbrev hbmTy0_0 (i : Nat) : BufTy := match i % 128 with
  | 0 => ⟨S4096x1024, .f32⟩
  | 1 => ⟨S4096x512, .bf16⟩
  | 2 => ⟨S4096x256, .f32⟩
  | 3 => ⟨S4096x2048, .f32⟩
  | 4 => ⟨S512x1024, .bf16⟩
  | 5 => ⟨S256x1024, .bf16⟩
  | 6 => ⟨S1024x1024, .bf16⟩
  | 7 => ⟨S4096x1024, .f32⟩
  | 8 => ⟨S1x1024, .f32⟩
  | 9 => ⟨S1x1024, .f32⟩
  | 10 => ⟨S1024x5632, .bf16⟩
  | 11 => ⟨S2816x1024, .bf16⟩
  | 12 => ⟨S4096x512, .f32⟩
  | 13 => ⟨S512x1024, .f32⟩
  | 14 => ⟨S256x1024, .f32⟩
  | 15 => ⟨S1024x1024, .f32⟩
  | 16 => ⟨S1024x5632, .f32⟩
  | 17 => ⟨S2816x1024, .f32⟩
  | 18 => ⟨S4096x1024, .f32⟩
  | 19 => ⟨S4096x1024, .f32⟩
  | 20 => ⟨S4096x1024, .f32⟩
  | 21 => ⟨S4096x1024, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S_, .f32⟩
  | 28 => ⟨S4096x1024, .f32⟩
  | 29 => ⟨S4096x1024, .f32⟩
  | 30 => ⟨S4096x1024, .f32⟩
  | 31 => ⟨S4096x1024, .f32⟩
  | 32 => ⟨S4096x1024, .f32⟩
  | 33 => ⟨S_, .f32⟩
  | 34 => ⟨S4096x1024, .f32⟩
  | 35 => ⟨S4096x1024, .f32⟩
  | 36 => ⟨S_, .f32⟩
  | 37 => ⟨S4096x1024, .f32⟩
  | 38 => ⟨S4096x1024, .f32⟩
  | 39 => ⟨S4096x1024, .f32⟩
  | 40 => ⟨S4096x1024, .f32⟩
  | 41 => ⟨S4096x1024, .f32⟩
  | 42 => ⟨S4096x1024, .f32⟩
  | 43 => ⟨S4096x1024, .f32⟩
  | 44 => ⟨S_, .f32⟩
  | 45 => ⟨S4096, .f32⟩
  | 46 => ⟨S4096x1, .f32⟩
  | 47 => ⟨S_, .f32⟩
  | 48 => ⟨S4096x1, .f32⟩
  | 49 => ⟨S4096x1, .f32⟩
  | 50 => ⟨S_, .f32⟩
  | 51 => ⟨S4096x1, .f32⟩
  | 52 => ⟨S4096x1, .f32⟩
  | 53 => ⟨S4096x1, .f32⟩
  | 54 => ⟨S4096x1, .f32⟩
  | 55 => ⟨S_, .f32⟩
  | 56 => ⟨S4096x1, .f32⟩
  | 57 => ⟨S4096x1, .f32⟩
  | 58 => ⟨S4096x1024, .f32⟩
  | 59 => ⟨S4096x1024, .f32⟩
  | 60 => ⟨S4096x1024, .f32⟩
  | 61 => ⟨S4096x1024, .f32⟩
  | 62 => ⟨S4096x5632, .f32⟩
  | 63 => ⟨S4096x2816, .f32⟩
  | 64 => ⟨S4096x2816, .f32⟩
  | 65 => ⟨S4096x2816, .f32⟩
  | 66 => ⟨S4096x2816, .f32⟩
  | 67 => ⟨S_, .f32⟩
  | 68 => ⟨S4096x2816, .f32⟩
  | 69 => ⟨S4096x2816, .f32⟩
  | 70 => ⟨S_, .f32⟩
  | 71 => ⟨S4096x2816, .f32⟩
  | 72 => ⟨S4096x2816, .f32⟩
  | 73 => ⟨S_, .f32⟩
  | 74 => ⟨S4096x2816, .f32⟩
  | 75 => ⟨S4096x2816, .f32⟩
  | 76 => ⟨S4096x2816, .f32⟩
  | 77 => ⟨S4096x2816, .f32⟩
  | 78 => ⟨S4096x2816, .f32⟩
  | 79 => ⟨S4096x1024, .f32⟩
  | 80 => ⟨S4096x1024, .f32⟩
  | 81 => ⟨S4096x1024, .f32⟩
  | 82 => ⟨S_, .f32⟩
  | 83 => ⟨S4096, .f32⟩
  | 84 => ⟨S4096x1, .f32⟩
  | 85 => ⟨S_, .f32⟩
  | 86 => ⟨S4096x1, .f32⟩
  | 87 => ⟨S4096x1, .f32⟩
  | 88 => ⟨S_, .f32⟩
  | 89 => ⟨S4096x1, .f32⟩
  | 90 => ⟨S4096x1, .f32⟩
  | 91 => ⟨S4096x1, .f32⟩
  | 92 => ⟨S4096x1, .f32⟩
  | 93 => ⟨S_, .f32⟩
  | 94 => ⟨S4096x1, .f32⟩
  | 95 => ⟨S4096x1, .f32⟩
  | 96 => ⟨S4096x1024, .f32⟩
  | 97 => ⟨S4096x1024, .f32⟩
  | 98 => ⟨S4096x1024, .f32⟩
  | 99 => ⟨S4096x1024, .f32⟩
  | 100 => ⟨S4096x1024, .f32⟩
  | 101 => ⟨S4096x1024, .f32⟩
  | 102 => ⟨S_, .f32⟩
  | 103 => ⟨S4096x1024, .f32⟩
  | 104 => ⟨S4096x1024, .f32⟩
  | 105 => ⟨S_, .f32⟩
  | 106 => ⟨S4096, .f32⟩
  | 107 => ⟨S_, .f32⟩
  | 108 => ⟨S4096, .f32⟩
  | 109 => ⟨S4096, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S4096, .f32⟩
  | 118 => ⟨S_, .f32⟩
  | 119 => ⟨S4096, .f32⟩
  | 120 => ⟨S4096, .f32⟩
  | 121 => ⟨S4096x1024, .f32⟩
  | 122 => ⟨S4096x1024, .f32⟩
  | 123 => ⟨S4096x1024, .f32⟩
  | 124 => ⟨S_, .f32⟩
  | 125 => ⟨S1024, .f32⟩
  | 126 => ⟨S1x1024, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S_, .f32⟩
  | 3 => ⟨S4096, .f32⟩
  | 4 => ⟨S4096x1, .f32⟩
  | 5 => ⟨S4096x1024, .f32⟩
  | 6 => ⟨S4096x1024, .f32⟩
  | 7 => ⟨S4096x1, .f32⟩
  | 8 => ⟨S_, .f32⟩
  | 9 => ⟨S4096x1, .f32⟩
  | 10 => ⟨S4096x1, .f32⟩
  | 11 => ⟨S_, .f32⟩
  | 12 => ⟨S4096, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S4096x2816, .f32⟩
  | 19 => ⟨S4096x2816, .f32⟩
  | 20 => ⟨S4096x2816, .f32⟩
  | 21 => ⟨S4096x2816, .f32⟩
  | 22 => ⟨S4096x2816, .f32⟩
  | 23 => ⟨S4096x2816, .f32⟩
  | 24 => ⟨S4096x2816, .f32⟩
  | 25 => ⟨S4096x5632, .f32⟩
  | 26 => ⟨S4096x1024, .f32⟩
  | 27 => ⟨S4096x1024, .f32⟩
  | 28 => ⟨S_, .f32⟩
  | 29 => ⟨S1024, .f32⟩
  | 30 => ⟨S1x1024, .f32⟩
  | 31 => ⟨S4096x1024, .f32⟩
  | 32 => ⟨S4096x1024, .f32⟩
  | 33 => ⟨S4096x1024, .f32⟩
  | 34 => ⟨S_, .f32⟩
  | 35 => ⟨S4096, .f32⟩
  | 36 => ⟨S4096x1, .f32⟩
  | 37 => ⟨S4096x1024, .f32⟩
  | 38 => ⟨S4096x1024, .f32⟩
  | 39 => ⟨S4096x1, .f32⟩
  | 40 => ⟨S_, .f32⟩
  | 41 => ⟨S4096x1, .f32⟩
  | 42 => ⟨S4096x1, .f32⟩
  | 43 => ⟨S_, .f32⟩
  | 44 => ⟨S4096, .f32⟩
  | 45 => ⟨S4096x1024, .f32⟩
  | 46 => ⟨S4096x1024, .f32⟩
  | 47 => ⟨S4096x1024, .f32⟩
  | 48 => ⟨S4096x1024, .f32⟩
  | 49 => ⟨S4096x1024, .f32⟩
  | 50 => ⟨S4096x1024, .bf16⟩
  | 51 => ⟨S4096x1024, .bf16⟩
  | 52 => ⟨S4096x2816, .bf16⟩
  | 53 => ⟨S4096x5632, .bf16⟩
  | 54 => ⟨S4096x1024, .bf16⟩
  | 55 => ⟨S1x128, .f32⟩
  | 56 => ⟨S4096x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_3 : Ref sig .tc := ⟨.hbm, 44, rfl⟩
abbrev main_v28 : Ref sig .tc := ⟨.hbm, 45, rfl⟩
abbrev main_v29 : Ref sig .tc := ⟨.hbm, 46, rfl⟩
abbrev main_cst_4 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call0_v0 : Ref sig .tc := ⟨.hbm, 65, rfl⟩
abbrev main_call0_v1 : Ref sig .tc := ⟨.hbm, 66, rfl⟩
abbrev main_call0_cst : Ref sig .tc := ⟨.hbm, 67, rfl⟩
abbrev main_call0_v2 : Ref sig .tc := ⟨.hbm, 68, rfl⟩
abbrev main_call0_v3 : Ref sig .tc := ⟨.hbm, 69, rfl⟩
abbrev main_call0_cst_0 : Ref sig .tc := ⟨.hbm, 70, rfl⟩
abbrev main_call0_v4 : Ref sig .tc := ⟨.hbm, 71, rfl⟩
abbrev main_v45_2 : Ref sig .tc := ⟨.hbm, 72, rfl⟩
abbrev main_call0_cst_1 : Ref sig .tc := ⟨.hbm, 73, rfl⟩
abbrev main_call0_v6 : Ref sig .tc := ⟨.hbm, 74, rfl⟩
abbrev main_call0_v7 : Ref sig .tc := ⟨.hbm, 75, rfl⟩
abbrev main_v45_1 : Ref sig .tc := ⟨.hbm, 76, rfl⟩
abbrev main_v45_0 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_7 : Ref sig .tc := ⟨.hbm, 82, rfl⟩
abbrev main_v50 : Ref sig .tc := ⟨.hbm, 83, rfl⟩
abbrev main_v51 : Ref sig .tc := ⟨.hbm, 84, rfl⟩
abbrev main_cst_8 : Ref sig .tc := ⟨.hbm, 85, rfl⟩
abbrev main_v52 : Ref sig .tc := ⟨.hbm, 86, rfl⟩
abbrev main_v53 : Ref sig .tc := ⟨.hbm, 87, rfl⟩
abbrev main_cst_9 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_10 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_cst_11 : Ref sig .tc := ⟨.hbm, 102, rfl⟩
abbrev main_v66 : Ref sig .tc := ⟨.hbm, 103, rfl⟩
abbrev main_v67 : Ref sig .tc := ⟨.hbm, 104, rfl⟩
abbrev main_cst_12 : Ref sig .tc := ⟨.hbm, 105, rfl⟩
abbrev main_v68 : Ref sig .tc := ⟨.hbm, 106, rfl⟩
abbrev main_cst_13 : Ref sig .tc := ⟨.hbm, 107, rfl⟩
abbrev main_v69 : Ref sig .tc := ⟨.hbm, 108, rfl⟩
abbrev main_v70 : Ref sig .tc := ⟨.hbm, 109, rfl⟩
abbrev main_cst_14 : Ref sig .tc := ⟨.hbm, 110, rfl⟩
abbrev main_v71 : Ref sig .tc := ⟨.hbm, 111, rfl⟩
abbrev main_cst_15 : Ref sig .tc := ⟨.hbm, 112, rfl⟩
abbrev main_v72 : Ref sig .tc := ⟨.hbm, 113, rfl⟩
abbrev main_cst_16 : Ref sig .tc := ⟨.hbm, 114, rfl⟩
abbrev main_cst_17 : Ref sig .tc := ⟨.hbm, 115, rfl⟩
abbrev main_v73 : Ref sig .tc := ⟨.hbm, 116, rfl⟩
abbrev main_v74 : Ref sig .tc := ⟨.hbm, 117, rfl⟩
abbrev main_cst_18 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_cst_19 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_20 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_cst_21 : Ref sig .tc := ⟨.hbm, 136, rfl⟩
abbrev main_v90 : Ref sig .tc := ⟨.hbm, 137, rfl⟩
abbrev main_v91 : Ref sig .tc := ⟨.hbm, 138, rfl⟩
abbrev main_cst_22 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_v95 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_call1_v0 : Ref sig .tc := ⟨.hbm, 149, rfl⟩
abbrev main_call1_v1 : Ref sig .tc := ⟨.hbm, 150, rfl⟩
abbrev main_call1_v2 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_v104 : Ref sig .tc := ⟨.hbm, 155, rfl⟩
abbrev main_cst_23 : Ref sig .tc := ⟨.hbm, 156, rfl⟩
abbrev main_v105 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_cst_24 : Ref sig .tc := ⟨.hbm, 162, rfl⟩
abbrev main_v110 : Ref sig .tc := ⟨.hbm, 163, rfl⟩
abbrev main_v111 : Ref sig .tc := ⟨.hbm, 164, rfl⟩
abbrev main_v112 : Ref sig .tc := ⟨.hbm, 165, rfl⟩
abbrev main_v113 : Ref sig .tc := ⟨.hbm, 166, rfl⟩
abbrev main_v114 : Ref sig .tc := ⟨.hbm, 167, rfl⟩
abbrev main_cst_25 : Ref sig .tc := ⟨.hbm, 168, rfl⟩
abbrev main_v115 : Ref sig .tc := ⟨.hbm, 169, rfl⟩
abbrev main_v116 : Ref sig .tc := ⟨.hbm, 170, rfl⟩
abbrev main_cst_26 : Ref sig .tc := ⟨.hbm, 171, rfl⟩
abbrev main_v117 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_v124 : Ref sig .tc := ⟨.hbm, 179, rfl⟩
abbrev main_v125 : Ref sig .tc := ⟨.hbm, 180, rfl⟩
abbrev main_v126 : Ref sig .tc := ⟨.hbm, 181, rfl⟩
abbrev main_v127 : Ref sig .tc := ⟨.hbm, 182, rfl⟩
abbrev main_v128 : Ref sig .tc := ⟨.hbm, 183, rfl⟩
abbrev main_v129 : Ref sig .tc := ⟨.hbm, 184, rfl⟩

abbrev nD : Nat := 1
abbrev τ : Topo := Topo.v7x

variable {F : FTy → Type} [FloatOps F]
-- ==== InGrad.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S5888x1024 : Shape := ⟨2, ![5888, 1024]⟩
abbrev S512x512 : Shape := ⟨2, ![512, 512]⟩
abbrev S512x256 : Shape := ⟨2, ![512, 256]⟩
abbrev S512x2048 : Shape := ⟨2, ![512, 2048]⟩
abbrev S5888x512 : Shape := ⟨2, ![5888, 512]⟩
abbrev S512x5888 : Shape := ⟨2, ![512, 5888]⟩
abbrev S256x512 : Shape := ⟨2, ![256, 512]⟩

abbrev nBuf : Space → Nat
  | .hbm => 15
  | .vmem => 31
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x2048, .bf16⟩
  | .hbm, ⟨14, _⟩ => ⟨S5888x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S512x256, .f32⟩
  | .local _ .vmem, ⟨18, _⟩ => ⟨S512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S512x256, .f32⟩
  | .local _ .vmem, ⟨24, _⟩ => ⟨S512x256, .f32⟩
  | .local _ .vmem, ⟨25, _⟩ => ⟨S512x256, .f32⟩
  | .local _ .vmem, ⟨26, _⟩ => ⟨S512x2048, .bf16⟩
  | .local _ .vmem, ⟨27, _⟩ => ⟨S512x2048, .bf16⟩
  | .local _ .vmem, ⟨28, _⟩ => ⟨S5888x512, .bf16⟩
  | .local _ .vmem, ⟨29, _⟩ => ⟨S5888x512, .bf16⟩
  | .local _ .vmem, ⟨30, _⟩ => ⟨S512x5888, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_scratch0 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v104 : BitVec 1 := Scalar.cmpi .eq arg1 c7_i32
  let v105 : BitVec 32 := Scalar.extui v104
  let c0_i32_80 : BitVec 32 := 0#32
  let v106 : BitVec 1 := Scalar.cmpi .ne v105 c0_i32_80
  v106

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S512x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S512x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S5888x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]
-- ==== InGradRefIdeal.lean ====
abbrev S4096x1024 : Shape := ⟨2, ![4096, 1024]⟩
abbrev S4096x512 : Shape := ⟨2, ![4096, 512]⟩
abbrev S4096x256 : Shape := ⟨2, ![4096, 256]⟩
abbrev S4096x2048 : Shape := ⟨2, ![4096, 2048]⟩
abbrev S4096x5888 : Shape := ⟨2, ![4096, 5888]⟩
abbrev S_ : Shape := ⟨0, ![]⟩
abbrev S1024x5888 : Shape := ⟨2, ![1024, 5888]⟩
abbrev S5888x1024 : Shape := ⟨2, ![5888, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x512, .bf16⟩
  | .hbm, ⟨2, _⟩ => ⟨S4096x512, .bf16⟩
  | .hbm, ⟨3, _⟩ => ⟨S4096x512, .bf16⟩
  | .hbm, ⟨4, _⟩ => ⟨S4096x256, .f32⟩
  | .hbm, ⟨5, _⟩ => ⟨S4096x256, .f32⟩
  | .hbm, ⟨6, _⟩ => ⟨S4096x256, .f32⟩
  | .hbm, ⟨7, _⟩ => ⟨S4096x256, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x256, .f32⟩
  | .hbm, ⟨12, _⟩ => ⟨S4096x256, .f32⟩
  | .hbm, ⟨13, _⟩ => ⟨S4096x2048, .bf16⟩
  | .hbm, ⟨14, _⟩ => ⟨S4096x512, .f32⟩
  | .hbm, ⟨15, _⟩ => ⟨S4096x512, .f32⟩
  | .hbm, ⟨16, _⟩ => ⟨S4096x512, .f32⟩
  | .hbm, ⟨17, _⟩ => ⟨S4096x2048, .f32⟩
  | .hbm, ⟨18, _⟩ => ⟨S4096x5888, .f32⟩
  | .hbm, ⟨19, _⟩ => ⟨S4096x1024, .f32⟩
  | .hbm, ⟨20, _⟩ => ⟨S_, .f32⟩
  | .hbm, ⟨21, _⟩ => ⟨S1024x5888, .f32⟩
  | .hbm, ⟨22, _⟩ => ⟨S4096x5888, .f32⟩
  | .hbm, ⟨23, _⟩ => ⟨S5888x1024, .f32⟩
  | .hbm, ⟨24, _⟩ => ⟨S1024x5888, .f32⟩
  | .hbm, ⟨25, _⟩ => ⟨S5888x1024, .f32⟩
  | .hbm, ⟨26, _⟩ => ⟨S5888x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩

abbrev nD : Nat := 1
abbrev τ : Topo := Topo.v7x

variable {F : FTy → Type} [FloatOps F]
-- ==== SbUp.lean ====
abbrev S4096x512 : Shape := ⟨2, ![4096, 512]⟩
abbrev S4096x1024 : Shape := ⟨2, ![4096, 1024]⟩
abbrev S8x512x128 : Shape := ⟨3, ![8, 512, 128]⟩
abbrev S2048x512 : Shape := ⟨2, ![2048, 512]⟩
abbrev S2048x1024 : Shape := ⟨2, ![2048, 1024]⟩
abbrev S512x1024 : Shape := ⟨2, ![512, 1024]⟩
abbrev S512x128 : Shape := ⟨2, ![512, 128]⟩
abbrev S1x512x128 : Shape := ⟨3, ![1, 512, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S8x512x128, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S8x512x128, .bf16⟩
  | .local _ .vmem, ⟨5, _⟩ => ⟨S512x1024, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x512x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== SbUpRefIdeal.lean ====
abbrev S4096x512 : Shape := ⟨2, ![4096, 512]⟩
abbrev S4096x1024 : Shape := ⟨2, ![4096, 1024]⟩
abbrev S_ : Shape := ⟨0, ![]⟩
abbrev S512x1024 : Shape := ⟨2, ![512, 1024]⟩
abbrev S1024x512 : Shape := ⟨2, ![1024, 512]⟩
abbrev S512x8x128 : Shape := ⟨3, ![512, 8, 128]⟩
abbrev S8x512x128 : Shape := ⟨3, ![8, 512, 128]⟩

abbrev nBuf : Space → Nat
  | .hbm => 12
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4096x512, .f32⟩
  | .hbm, ⟨3, _⟩ => ⟨S4096x1024, .f32⟩
  | .hbm, ⟨4, _⟩ => ⟨S_, .f32⟩
  | .hbm, ⟨5, _⟩ => ⟨S512x1024, .f32⟩
  | .hbm, ⟨6, _⟩ => ⟨S4096x1024, .f32⟩
  | .hbm, ⟨7, _⟩ => ⟨S1024x512, .f32⟩
  | .hbm, ⟨8, _⟩ => ⟨S512x1024, .f32⟩
  | .hbm, ⟨9, _⟩ => ⟨S512x8x128, .f32⟩
  | .hbm, ⟨10, _⟩ => ⟨S8x512x128, .f32⟩
  | .hbm, ⟨11, _⟩ => ⟨S8x512x128, .bf16⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DilUp.lean ====
abbrev S4096x256 : Shape := ⟨2, ![4096, 256]⟩
abbrev S4096x1024 : Shape := ⟨2, ![4096, 1024]⟩
abbrev S8x256x128 : Shape := ⟨3, ![8, 256, 128]⟩
abbrev S2048x256 : Shape := ⟨2, ![2048, 256]⟩
abbrev S2048x1024 : Shape := ⟨2, ![2048, 1024]⟩
abbrev S256x1024 : Shape := ⟨2, ![256, 1024]⟩
abbrev S256x128 : Shape := ⟨2, ![256, 128]⟩
abbrev S1x256x128 : Shape := ⟨3, ![1, 256, 128]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S8x256x128, .bf16⟩
  | .local _ .vmem, ⟨0, _⟩ => ⟨S2048x256, .f32⟩
  | .local _ .vmem, ⟨1, _⟩ => ⟨S2048x256, .f32⟩
  | .local _ .vmem, ⟨2, _⟩ => ⟨S2048x1024, .bf16⟩
  | .local _ .vmem, ⟨3, _⟩ => ⟨S2048x1024, .bf16⟩
  | .local _ .vmem, ⟨4, _⟩ => ⟨S8x256x128, .bf16⟩
  | .local _ .vmem, ⟨5, _⟩ => ⟨S256x1024, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S8x256x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false, false]
-- ==== DilUpRefIdeal.lean ====
abbrev S4096x256 : Shape := ⟨2, ![4096, 256]⟩
abbrev S4096x1024 : Shape := ⟨2, ![4096, 1024]⟩
abbrev S_ : Shape := ⟨0, ![]⟩
abbrev S256x1024 : Shape := ⟨2, ![256, 1024]⟩
abbrev S1024x256 : Shape := ⟨2, ![1024, 256]⟩
abbrev S256x8x128 : Shape := ⟨3, ![256, 8, 128]⟩
abbrev S8x256x128 : Shape := ⟨3, ![8, 256, 128]⟩

abbrev nBuf : Space → Nat
  | .hbm => 11
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S4096x1024, .bf16⟩
  | .hbm, ⟨2, _⟩ => ⟨S4096x1024, .f32⟩
  | .hbm, ⟨3, _⟩ => ⟨S_, .f32⟩
  | .hbm, ⟨4, _⟩ => ⟨S256x1024, .f32⟩
  | .hbm, ⟨5, _⟩ => ⟨S4096x1024, .f32⟩
  | .hbm, ⟨6, _⟩ => ⟨S1024x256, .f32⟩
  | .hbm, ⟨7, _⟩ => ⟨S256x1024, .f32⟩
  | .hbm, ⟨8, _⟩ => ⟨S256x8x128, .f32⟩
  | .hbm, ⟨9, _⟩ => ⟨S8x256x128, .f32⟩
  | .hbm, ⟨10, _⟩ => ⟨S8x256x128, .bf16⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== WOut.lean ====
abbrev S4096x1024 : Shape := ⟨2, ![4096, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== WOutRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== UpIn.lean ====
abbrev S4x736x1024 : Shape := ⟨3, ![4, 736, 1024]⟩
abbrev S1x736x1024 : Shape := ⟨3, ![1, 736, 1024]⟩
abbrev S4x368x1024 : Shape := ⟨3, ![4, 368, 1024]⟩
abbrev S1x368x1024 : Shape := ⟨3, ![1, 368, 1024]⟩
abbrev S368x1024 : Shape := ⟨2, ![368, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x736x1024, .bf16⟩
  | .hbm, ⟨1, _⟩ => ⟨S1x736x1024, .f32⟩
  | .hbm, ⟨2, _⟩ => ⟨S1x736x1024, .f32⟩
  | .hbm, ⟨3, _⟩ => ⟨S1x736x1024, .f32⟩
  | .hbm, ⟨4, _⟩ => ⟨S1x736x1024, .f32⟩
  | .hbm, ⟨5, _⟩ => ⟨S1x736x1024, .f32⟩
  | .hbm, ⟨6, _⟩ => ⟨S1x736x1024, .f32⟩
  | .hbm, ⟨7, _⟩ => ⟨S1x736x1024, .f32⟩
  | .local _ .vmem, ⟨0, _⟩ => ⟨S4x368x1024, .bf16⟩
  | .local _ .vmem, ⟨1, _⟩ => ⟨S4x368x1024, .bf16⟩
  | .local _ .vmem, ⟨2, _⟩ => ⟨S1x368x1024, .f32⟩
  | .local _ .vmem, ⟨3, _⟩ => ⟨S1x368x1024, .f32⟩
  | .local _ .vmem, ⟨4, _⟩ => ⟨S1x368x1024, .f32⟩
  | .local _ .vmem, ⟨5, _⟩ => ⟨S1x368x1024, .f32⟩
  | .local _ .vmem, ⟨6, _⟩ => ⟨S1x368x1024, .f32⟩
  | .local _ .vmem, ⟨7, _⟩ => ⟨S1x368x1024, .f32⟩
  | .local _ .vmem, ⟨8, _⟩ => ⟨S1x368x1024, .f32⟩
  | .local _ .vmem, ⟨9, _⟩ => ⟨S1x368x1024, .f32⟩
  | .local _ .vmem, ⟨10, _⟩ => ⟨S1x368x1024, .f32⟩
  | .local _ .vmem, ⟨11, _⟩ => ⟨S1x368x1024, .f32⟩
  | .local _ .vmem, ⟨12, _⟩ => ⟨S1x368x1024, .f32⟩
  | .local _ .vmem, ⟨13, _⟩ => ⟨S1x368x1024, .f32⟩
  | .local _ .vmem, ⟨14, _⟩ => ⟨S1x368x1024, .f32⟩
  | .local _ .vmem, ⟨15, _⟩ => ⟨S1x368x1024, .f32⟩
  | _, _ => ⟨S4x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x368x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x368x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x368x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x368x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x368x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x368x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpInIdeal.lean ====
abbrev S4x736x1024 : Shape := ⟨3, ![4, 736, 1024]⟩
abbrev S1x736x1024 : Shape := ⟨3, ![1, 736, 1024]⟩
abbrev S4x368x1024 : Shape := ⟨3, ![4, 368, 1024]⟩
abbrev S1x368x1024 : Shape := ⟨3, ![1, 368, 1024]⟩
abbrev S368x1024 : Shape := ⟨2, ![368, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x736x1024, .bf16⟩
  | .hbm, ⟨1, _⟩ => ⟨S1x736x1024, .f32⟩
  | .hbm, ⟨2, _⟩ => ⟨S1x736x1024, .f32⟩
  | .hbm, ⟨3, _⟩ => ⟨S1x736x1024, .f32⟩
  | .hbm, ⟨4, _⟩ => ⟨S1x736x1024, .f32⟩
  | .hbm, ⟨5, _⟩ => ⟨S1x736x1024, .f32⟩
  | .hbm, ⟨6, _⟩ => ⟨S1x736x1024, .f32⟩
  | .hbm, ⟨7, _⟩ => ⟨S1x736x1024, .f32⟩
  | .local _ .vmem, ⟨0, _⟩ => ⟨S4x368x1024, .bf16⟩
  | .local _ .vmem, ⟨1, _⟩ => ⟨S4x368x1024, .bf16⟩
  | .local _ .vmem, ⟨2, _⟩ => ⟨S1x368x1024, .f32⟩
  | .local _ .vmem, ⟨3, _⟩ => ⟨S1x368x1024, .f32⟩
  | .local _ .vmem, ⟨4, _⟩ => ⟨S1x368x1024, .f32⟩
  | .local _ .vmem, ⟨5, _⟩ => ⟨S1x368x1024, .f32⟩
  | .local _ .vmem, ⟨6, _⟩ => ⟨S1x368x1024, .f32⟩
  | .local _ .vmem, ⟨7, _⟩ => ⟨S1x368x1024, .f32⟩
  | .local _ .vmem, ⟨8, _⟩ => ⟨S1x368x1024, .f32⟩
  | .local _ .vmem, ⟨9, _⟩ => ⟨S1x368x1024, .f32⟩
  | .local _ .vmem, ⟨10, _⟩ => ⟨S1x368x1024, .f32⟩
  | .local _ .vmem, ⟨11, _⟩ => ⟨S1x368x1024, .f32⟩
  | .local _ .vmem, ⟨12, _⟩ => ⟨S1x368x1024, .f32⟩
  | .local _ .vmem, ⟨13, _⟩ => ⟨S1x368x1024, .f32⟩
  | .local _ .vmem, ⟨14, _⟩ => ⟨S1x368x1024, .f32⟩
  | .local _ .vmem, ⟨15, _⟩ => ⟨S1x368x1024, .f32⟩
  | _, _ => ⟨S4x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x368x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x368x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x368x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x368x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x368x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x368x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x368x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpInRefIdeal.lean ====
abbrev S4x736x1024 : Shape := ⟨3, ![4, 736, 1024]⟩
abbrev S1x736x1024 : Shape := ⟨3, ![1, 736, 1024]⟩
abbrev S_ : Shape := ⟨0, ![]⟩
abbrev S736x1024 : Shape := ⟨2, ![736, 1024]⟩

abbrev nBuf : Space → Nat
  | .hbm => 41
  | .vmem => 0
  | .smem => 0
  | _ => 0

abbrev bufTy : (tb : Table) → Fin (tcTables nBuf tb) → BufTy
  | .hbm, ⟨0, _⟩ => ⟨S4x736x1024, .bf16⟩
  | .hbm, ⟨1, _⟩ => ⟨S1x736x1024, .f32⟩
  | .hbm, ⟨2, _⟩ => ⟨S1x736x1024, .f32⟩
  | .hbm, ⟨3, _⟩ => ⟨S1x736x1024, .f32⟩
  | .hbm, ⟨4, _⟩ => ⟨S4x736x1024, .f32⟩
  | .hbm, ⟨5, _⟩ => ⟨S_, .f32⟩
  | .hbm, ⟨6, _⟩ => ⟨S736x1024, .f32⟩
  | .hbm, ⟨7, _⟩ => ⟨S1x736x1024, .f32⟩
  | .hbm, ⟨8, _⟩ => ⟨S_, .f32⟩
  | .hbm, ⟨9, _⟩ => ⟨S1x736x1024, .f32⟩
  | .hbm, ⟨10, _⟩ => ⟨S1x736x1024, .f32⟩
  | .hbm, ⟨11, _⟩ => ⟨S_, .f32⟩
  | .hbm, ⟨12, _⟩ => ⟨S1x736x1024, .f32⟩
  | .hbm, ⟨13, _⟩ => ⟨S1x736x1024, .f32⟩
  | .hbm, ⟨14, _⟩ => ⟨S1x736x1024, .f32⟩
  | .hbm, ⟨15, _⟩ => ⟨S_, .f32⟩
  | .hbm, ⟨16, _⟩ => ⟨S1x736x1024, .f32⟩
  | .hbm, ⟨17, _⟩ => ⟨S1x736x1024, .f32⟩
  | .hbm, ⟨18, _⟩ => ⟨S1x736x1024, .f32⟩
  | .hbm, ⟨19, _⟩ => ⟨S_, .f32⟩
  | .hbm, ⟨20, _⟩ => ⟨S1x736x1024, .f32⟩
  | .hbm, ⟨21, _⟩ => ⟨S1x736x1024, .f32⟩
  | .hbm, ⟨22, _⟩ => ⟨S1x736x1024, .f32⟩
  | .hbm, ⟨23, _⟩ => ⟨S_, .f32⟩
  | .hbm, ⟨24, _⟩ => ⟨S1x736x1024, .f32⟩
  | .hbm, ⟨25, _⟩ => ⟨S1x736x1024, .f32⟩
  | .hbm, ⟨26, _⟩ => ⟨S_, .f32⟩
  | .hbm, ⟨27, _⟩ => ⟨S1x736x1024, .f32⟩
  | .hbm, ⟨28, _⟩ => ⟨S1x736x1024, .f32⟩
  | .hbm, ⟨29, _⟩ => ⟨S1x736x1024, .f32⟩
  | .hbm, ⟨30, _⟩ => ⟨S_, .f32⟩
  | .hbm, ⟨31, _⟩ => ⟨S1x736x1024, .f32⟩
  | .hbm, ⟨32, _⟩ => ⟨S1x736x1024, .f32⟩
  | .hbm, ⟨33, _⟩ => ⟨S1x736x1024, .f32⟩
  | .hbm, ⟨34, _⟩ => ⟨S_, .f32⟩
  | .hbm, ⟨35, _⟩ => ⟨S1x736x1024, .f32⟩
  | .hbm, ⟨36, _⟩ => ⟨S1x736x1024, .f32⟩
  | .hbm, ⟨37, _⟩ => ⟨S1x736x1024, .f32⟩
  | .hbm, ⟨38, _⟩ => ⟨S_, .f32⟩
  | .hbm, ⟨39, _⟩ => ⟨S1x736x1024, .f32⟩
  | .hbm, ⟨40, _⟩ => ⟨S1x736x1024, .f32⟩
  | _, _ => ⟨S4x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== UpSb.lean ====
abbrev S8x512x128 : Shape := ⟨3, ![8, 512, 128]⟩
abbrev S1x512x128 : Shape := ⟨3, ![1, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpSbIdeal.lean ====
abbrev S8x512x128 : Shape := ⟨3, ![8, 512, 128]⟩
abbrev S1x512x128 : Shape := ⟨3, ![1, 512, 128]⟩
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S1x512x128, .f32⟩
  | .hbm, ⟨5, _⟩ => ⟨S1x512x128, .f32⟩
  | .hbm, ⟨6, _⟩ => ⟨S1x512x128, .f32⟩
  | .hbm, ⟨7, _⟩ => ⟨S1x512x128, .f32⟩
  | .local _ .vmem, ⟨0, _⟩ => ⟨S8x256x128, .bf16⟩
  | .local _ .vmem, ⟨1, _⟩ => ⟨S8x256x128, .bf16⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | .local _ .vmem, ⟨8, _⟩ => ⟨S1x256x128, .f32⟩
  | .local _ .vmem, ⟨9, _⟩ => ⟨S1x256x128, .f32⟩
  | .local _ .vmem, ⟨10, _⟩ => ⟨S1x256x128, .f32⟩
  | .local _ .vmem, ⟨11, _⟩ => ⟨S1x256x128, .f32⟩
  | .local _ .vmem, ⟨12, _⟩ => ⟨S1x256x128, .f32⟩
  | .local _ .vmem, ⟨13, _⟩ => ⟨S1x256x128, .f32⟩
  | .local _ .vmem, ⟨14, _⟩ => ⟨S1x256x128, .f32⟩
  | .local _ .vmem, ⟨15, _⟩ => ⟨S1x256x128, .f32⟩
  | _, _ => ⟨S8x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpSbRefIdeal.lean ====
abbrev S8x512x128 : Shape := ⟨3, ![8, 512, 128]⟩
abbrev S1x512x128 : Shape := ⟨3, ![1, 512, 128]⟩
abbrev S_ : Shape := ⟨0, ![]⟩
abbrev S512x128 : Shape := ⟨2, ![512, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x512x128, .bf16⟩
  | .hbm, ⟨1, _⟩ => ⟨S1x512x128, .f32⟩
  | .hbm, ⟨2, _⟩ => ⟨S1x512x128, .f32⟩
  | .hbm, ⟨3, _⟩ => ⟨S1x512x128, .f32⟩
  | .hbm, ⟨4, _⟩ => ⟨S8x512x128, .f32⟩
  | .hbm, ⟨5, _⟩ => ⟨S_, .f32⟩
  | .hbm, ⟨6, _⟩ => ⟨S512x128, .f32⟩
  | .hbm, ⟨7, _⟩ => ⟨S1x512x128, .f32⟩
  | .hbm, ⟨8, _⟩ => ⟨S_, .f32⟩
  | .hbm, ⟨9, _⟩ => ⟨S1x512x128, .f32⟩
  | .hbm, ⟨10, _⟩ => ⟨S1x512x128, .f32⟩
  | .hbm, ⟨11, _⟩ => ⟨S_, .f32⟩
  | .hbm, ⟨12, _⟩ => ⟨S1x512x128, .f32⟩
  | .hbm, ⟨13, _⟩ => ⟨S1x512x128, .f32⟩
  | .hbm, ⟨14, _⟩ => ⟨S1x512x128, .f32⟩
  | .hbm, ⟨15, _⟩ => ⟨S_, .f32⟩
  | .hbm, ⟨16, _⟩ => ⟨S1x512x128, .f32⟩
  | .hbm, ⟨17, _⟩ => ⟨S1x512x128, .f32⟩
  | .hbm, ⟨18, _⟩ => ⟨S1x512x128, .f32⟩
  | .hbm, ⟨19, _⟩ => ⟨S_, .f32⟩
  | .hbm, ⟨20, _⟩ => ⟨S1x512x128, .f32⟩
  | .hbm, ⟨21, _⟩ => ⟨S1x512x128, .f32⟩
  | .hbm, ⟨22, _⟩ => ⟨S1x512x128, .f32⟩
  | .hbm, ⟨23, _⟩ => ⟨S_, .f32⟩
  | .hbm, ⟨24, _⟩ => ⟨S1x512x128, .f32⟩
  | .hbm, ⟨25, _⟩ => ⟨S1x512x128, .f32⟩
  | .hbm, ⟨26, _⟩ => ⟨S_, .f32⟩
  | .hbm, ⟨27, _⟩ => ⟨S1x512x128, .f32⟩
  | .hbm, ⟨28, _⟩ => ⟨S1x512x128, .f32⟩
  | .hbm, ⟨29, _⟩ => ⟨S1x512x128, .f32⟩
  | .hbm, ⟨30, _⟩ => ⟨S_, .f32⟩
  | .hbm, ⟨31, _⟩ => ⟨S1x512x128, .f32⟩
  | .hbm, ⟨32, _⟩ => ⟨S1x512x128, .f32⟩
  | .hbm, ⟨33, _⟩ => ⟨S1x512x128, .f32⟩
  | .hbm, ⟨34, _⟩ => ⟨S_, .f32⟩
  | .hbm, ⟨35, _⟩ => ⟨S1x512x128, .f32⟩
  | .hbm, ⟨36, _⟩ => ⟨S1x512x128, .f32⟩
  | .hbm, ⟨37, _⟩ => ⟨S1x512x128, .f32⟩
  | .hbm, ⟨38, _⟩ => ⟨S_, .f32⟩
  | .hbm, ⟨39, _⟩ => ⟨S1x512x128, .f32⟩
  | .hbm, ⟨40, _⟩ => ⟨S1x512x128, .f32⟩
  | _, _ => ⟨S8x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== UpDil.lean ====
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpDilIdeal.lean ====
abbrev S8x256x128 : Shape := ⟨3, ![8, 256, 128]⟩
abbrev S1x256x128 : Shape := ⟨3, ![1, 256, 128]⟩
abbrev S256x128 : Shape := ⟨2, ![256, 128]⟩

abbrev nBuf : Space → Nat
  | .hbm => 8
  | .vmem => 8
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S1x256x128, .f32⟩
  | .hbm, ⟨5, _⟩ => ⟨S1x256x128, .f32⟩
  | .hbm, ⟨6, _⟩ => ⟨S1x256x128, .f32⟩
  | .hbm, ⟨7, _⟩ => ⟨S1x256x128, .f32⟩
  | .local _ .vmem, ⟨0, _⟩ => ⟨S8x256x128, .bf16⟩
  | .local _ .vmem, ⟨1, _⟩ => ⟨S1x256x128, .f32⟩
  | .local _ .vmem, ⟨2, _⟩ => ⟨S1x256x128, .f32⟩
  | .local _ .vmem, ⟨3, _⟩ => ⟨S1x256x128, .f32⟩
  | .local _ .vmem, ⟨4, _⟩ => ⟨S1x256x128, .f32⟩
  | .local _ .vmem, ⟨5, _⟩ => ⟨S1x256x128, .f32⟩
  | .local _ .vmem, ⟨6, _⟩ => ⟨S1x256x128, .f32⟩
  | .local _ .vmem, ⟨7, _⟩ => ⟨S1x256x128, .f32⟩
  | _, _ => ⟨S8x256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpDilRefIdeal.lean ====
abbrev S8x256x128 : Shape := ⟨3, ![8, 256, 128]⟩
abbrev S1x256x128 : Shape := ⟨3, ![1, 256, 128]⟩
abbrev S_ : Shape := ⟨0, ![]⟩
abbrev S256x128 : Shape := ⟨2, ![256, 128]⟩

abbrev nBuf : Space → Nat
  | .hbm => 41
  | .vmem => 0
  | .smem => 0
  | _ => 0

abbrev bufTy : (tb : Table) → Fin (tcTables nBuf tb) → BufTy
  | .hbm, ⟨0, _⟩ => ⟨S8x256x128, .bf16⟩
  | .hbm, ⟨1, _⟩ => ⟨S1x256x128, .f32⟩
  | .hbm, ⟨2, _⟩ => ⟨S1x256x128, .f32⟩
  | .hbm, ⟨3, _⟩ => ⟨S1x256x128, .f32⟩
  | .hbm, ⟨4, _⟩ => ⟨S8x256x128, .f32⟩
  | .hbm, ⟨5, _⟩ => ⟨S_, .f32⟩
  | .hbm, ⟨6, _⟩ => ⟨S256x128, .f32⟩
  | .hbm, ⟨7, _⟩ => ⟨S1x256x128, .f32⟩
  | .hbm, ⟨8, _⟩ => ⟨S_, .f32⟩
  | .hbm, ⟨9, _⟩ => ⟨S1x256x128, .f32⟩
  | .hbm, ⟨10, _⟩ => ⟨S1x256x128, .f32⟩
  | .hbm, ⟨11, _⟩ => ⟨S_, .f32⟩
  | .hbm, ⟨12, _⟩ => ⟨S1x256x128, .f32⟩
  | .hbm, ⟨13, _⟩ => ⟨S1x256x128, .f32⟩
  | .hbm, ⟨14, _⟩ => ⟨S1x256x128, .f32⟩
  | .hbm, ⟨15, _⟩ => ⟨S_, .f32⟩
  | .hbm, ⟨16, _⟩ => ⟨S1x256x128, .f32⟩
  | .hbm, ⟨17, _⟩ => ⟨S1x256x128, .f32⟩
  | .hbm, ⟨18, _⟩ => ⟨S1x256x128, .f32⟩
  | .hbm, ⟨19, _⟩ => ⟨S_, .f32⟩
  | .hbm, ⟨20, _⟩ => ⟨S1x256x128, .f32⟩
  | .hbm, ⟨21, _⟩ => ⟨S1x256x128, .f32⟩
  | .hbm, ⟨22, _⟩ => ⟨S1x256x128, .f32⟩
  | .hbm, ⟨23, _⟩ => ⟨S_, .f32⟩
  | .hbm, ⟨24, _⟩ => ⟨S1x256x128, .f32⟩
  | .hbm, ⟨25, _⟩ => ⟨S1x256x128, .f32⟩
  | .hbm, ⟨26, _⟩ => ⟨S_, .f32⟩
  | .hbm, ⟨27, _⟩ => ⟨S1x256x128, .f32⟩
  | .hbm, ⟨28, _⟩ => ⟨S1x256x128, .f32⟩
  | .hbm, ⟨29, _⟩ => ⟨S1x256x128, .f32⟩
  | .hbm, ⟨30, _⟩ => ⟨S_, .f32⟩
  | .hbm, ⟨31, _⟩ => ⟨S1x256x128, .f32⟩
  | .hbm, ⟨32, _⟩ => ⟨S1x256x128, .f32⟩
  | .hbm, ⟨33, _⟩ => ⟨S1x256x128, .f32⟩
  | .hbm, ⟨34, _⟩ => ⟨S_, .f32⟩
  | .hbm, ⟨35, _⟩ => ⟨S1x256x128, .f32⟩
  | .hbm, ⟨36, _⟩ => ⟨S1x256x128, .f32⟩
  | .hbm, ⟨37, _⟩ => ⟨S1x256x128, .f32⟩
  | .hbm, ⟨38, _⟩ => ⟨S_, .f32⟩
  | .hbm, ⟨39, _⟩ => ⟨S1x256x128, .f32⟩
  | .hbm, ⟨40, _⟩ => ⟨S1x256x128, .f32⟩
  | _, _ => ⟨S8x256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== UpOut.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpOutIdeal.lean ====
abbrev S8x128x1024 : Shape := ⟨3, ![8, 128, 1024]⟩
abbrev S1x128x1024 : Shape := ⟨3, ![1, 128, 1024]⟩
abbrev S128x1024 : Shape := ⟨2, ![128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpOutRefIdeal.lean ====
abbrev S8x128x1024 : Shape := ⟨3, ![8, 128, 1024]⟩
abbrev S1x128x1024 : Shape := ⟨3, ![1, 128, 1024]⟩
abbrev S_ : Shape := ⟨0, ![]⟩
abbrev S128x1024 : Shape := ⟨2, ![128, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S1x128x1024, .f32⟩
  | .hbm, ⟨2, _⟩ => ⟨S1x128x1024, .f32⟩
  | .hbm, ⟨3, _⟩ => ⟨S1x128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S1x128x1024, .f32⟩
  | .hbm, ⟨8, _⟩ => ⟨S_, .f32⟩
  | .hbm, ⟨9, _⟩ => ⟨S1x128x1024, .f32⟩
  | .hbm, ⟨10, _⟩ => ⟨S1x128x1024, .f32⟩
  | .hbm, ⟨11, _⟩ => ⟨S_, .f32⟩
  | .hbm, ⟨12, _⟩ => ⟨S1x128x1024, .f32⟩
  | .hbm, ⟨13, _⟩ => ⟨S1x128x1024, .f32⟩
  | .hbm, ⟨14, _⟩ => ⟨S1x128x1024, .f32⟩
  | .hbm, ⟨15, _⟩ => ⟨S_, .f32⟩
  | .hbm, ⟨16, _⟩ => ⟨S1x128x1024, .f32⟩
  | .hbm, ⟨17, _⟩ => ⟨S1x128x1024, .f32⟩
  | .hbm, ⟨18, _⟩ => ⟨S1x128x1024, .f32⟩
  | .hbm, ⟨19, _⟩ => ⟨S_, .f32⟩
  | .hbm, ⟨20, _⟩ => ⟨S1x128x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S_, .f32⟩
  | .hbm, ⟨27, _⟩ => ⟨S1x128x1024, .f32⟩
  | .hbm, ⟨28, _⟩ => ⟨S1x128x1024, .f32⟩
  | .hbm, ⟨29, _⟩ => ⟨S1x128x1024, .f32⟩
  | .hbm, ⟨30, _⟩ => ⟨S_, .f32⟩
  | .hbm, ⟨31, _⟩ => ⟨S1x128x1024, .f32⟩
  | .hbm, ⟨32, _⟩ => ⟨S1x128x1024, .f32⟩
  | .hbm, ⟨33, _⟩ => ⟨S1x128x1024, .f32⟩
  | .hbm, ⟨34, _⟩ => ⟨S_, .f32⟩
  | .hbm, ⟨35, _⟩ => ⟨S1x128x1024, .f32⟩
  | .hbm, ⟨36, _⟩ => ⟨S1x128x1024, .f32⟩
  | .hbm, ⟨37, _⟩ => ⟨S1x128x1024, .f32⟩
  | .hbm, ⟨38, _⟩ => ⟨S_, .f32⟩
  | .hbm, ⟨39, _⟩ => ⟨S1x128x1024, .f32⟩
  | .hbm, ⟨40, _⟩ => ⟨S1x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== UpFfnIn.lean ====
abbrev S8x704x1024 : Shape := ⟨3, ![8, 704, 1024]⟩
abbrev S1x704x1024 : Shape := ⟨3, ![1, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpFfnInIdeal.lean ====
abbrev S8x704x1024 : Shape := ⟨3, ![8, 704, 1024]⟩
abbrev S1x704x1024 : Shape := ⟨3, ![1, 704, 1024]⟩
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S1x704x1024, .f32⟩
  | .hbm, ⟨5, _⟩ => ⟨S1x704x1024, .f32⟩
  | .hbm, ⟨6, _⟩ => ⟨S1x704x1024, .f32⟩
  | .hbm, ⟨7, _⟩ => ⟨S1x704x1024, .f32⟩
  | .local _ .vmem, ⟨0, _⟩ => ⟨S8x352x1024, .bf16⟩
  | .local _ .vmem, ⟨1, _⟩ => ⟨S8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== UpFfnInRefIdeal.lean ====
abbrev S8x704x1024 : Shape := ⟨3, ![8, 704, 1024]⟩
abbrev S1x704x1024 : Shape := ⟨3, ![1, 704, 1024]⟩
abbrev S_ : Shape := ⟨0, ![]⟩
abbrev S704x1024 : Shape := ⟨2, ![704, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S1x704x1024, .f32⟩
  | .hbm, ⟨2, _⟩ => ⟨S1x704x1024, .f32⟩
  | .hbm, ⟨3, _⟩ => ⟨S1x704x1024, .f32⟩
  | .hbm, ⟨4, _⟩ => ⟨S8x704x1024, .f32⟩
  | .hbm, ⟨5, _⟩ => ⟨S_, .f32⟩
  | .hbm, ⟨6, _⟩ => ⟨S704x1024, .f32⟩
  | .hbm, ⟨7, _⟩ => ⟨S1x704x1024, .f32⟩
  | .hbm, ⟨8, _⟩ => ⟨S_, .f32⟩
  | .hbm, ⟨9, _⟩ => ⟨S1x704x1024, .f32⟩
  | .hbm, ⟨10, _⟩ => ⟨S1x704x1024, .f32⟩
  | .hbm, ⟨11, _⟩ => ⟨S_, .f32⟩
  | .hbm, ⟨12, _⟩ => ⟨S1x704x1024, .f32⟩
  | .hbm, ⟨13, _⟩ => ⟨S1x704x1024, .f32⟩
  | .hbm, ⟨14, _⟩ => ⟨S1x704x1024, .f32⟩
  | .hbm, ⟨15, _⟩ => ⟨S_, .f32⟩
  | .hbm, ⟨16, _⟩ => ⟨S1x704x1024, .f32⟩
  | .hbm, ⟨17, _⟩ => ⟨S1x704x1024, .f32⟩
  | .hbm, ⟨18, _⟩ => ⟨S1x704x1024, .f32⟩
  | .hbm, ⟨19, _⟩ => ⟨S_, .f32⟩
  | .hbm, ⟨20, _⟩ => ⟨S1x704x1024, .f32⟩
  | .hbm, ⟨21, _⟩ => ⟨S1x704x1024, .f32⟩
  | .hbm, ⟨22, _⟩ => ⟨S1x704x1024, .f32⟩
  | .hbm, ⟨23, _⟩ => ⟨S_, .f32⟩
  | .hbm, ⟨24, _⟩ => ⟨S1x704x1024, .f32⟩
  | .hbm, ⟨25, _⟩ => ⟨S1x704x1024, .f32⟩
  | .hbm, ⟨26, _⟩ => ⟨S_, .f32⟩
  | .hbm, ⟨27, _⟩ => ⟨S1x704x1024, .f32⟩
  | .hbm, ⟨28, _⟩ => ⟨S1x704x1024, .f32⟩
  | .hbm, ⟨29, _⟩ => ⟨S1x704x1024, .f32⟩
  | .hbm, ⟨30, _⟩ => ⟨S_, .f32⟩
  | .hbm, ⟨31, _⟩ => ⟨S1x704x1024, .f32⟩
  | .hbm, ⟨32, _⟩ => ⟨S1x704x1024, .f32⟩
  | .hbm, ⟨33, _⟩ => ⟨S1x704x1024, .f32⟩
  | .hbm, ⟨34, _⟩ => ⟨S_, .f32⟩
  | .hbm, ⟨35, _⟩ => ⟨S1x704x1024, .f32⟩
  | .hbm, ⟨36, _⟩ => ⟨S1x704x1024, .f32⟩
  | .hbm, ⟨37, _⟩ => ⟨S1x704x1024, .f32⟩
  | .hbm, ⟨38, _⟩ => ⟨S_, .f32⟩
  | .hbm, ⟨39, _⟩ => ⟨S1x704x1024, .f32⟩
  | .hbm, ⟨40, _⟩ => ⟨S1x704x1024, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== UpFfnOut.lean ====
abbrev S8x352x1024 : Shape := ⟨3, ![8, 352, 1024]⟩
abbrev S1x352x1024 : Shape := ⟨3, ![1, 352, 1024]⟩
abbrev S352x1024 : Shape := ⟨2, ![352, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S1x352x1024, .f32⟩
  | .hbm, ⟨5, _⟩ => ⟨S1x352x1024, .f32⟩
  | .hbm, ⟨6, _⟩ => ⟨S1x352x1024, .f32⟩
  | .hbm, ⟨7, _⟩ => ⟨S1x352x1024, .f32⟩
  | .local _ .vmem, ⟨0, _⟩ => ⟨S8x352x1024, .bf16⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x352x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x352x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x352x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x352x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x352x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x352x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== UpFfnOutRefIdeal.lean ====
abbrev S8x352x1024 : Shape := ⟨3, ![8, 352, 1024]⟩
abbrev S1x352x1024 : Shape := ⟨3, ![1, 352, 1024]⟩
abbrev S_ : Shape := ⟨0, ![]⟩
abbrev S352x1024 : Shape := ⟨2, ![352, 1024]⟩

abbrev nBuf : Space → Nat
  | .hbm => 41
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S1x352x1024, .f32⟩
  | .hbm, ⟨2, _⟩ => ⟨S1x352x1024, .f32⟩
  | .hbm, ⟨3, _⟩ => ⟨S1x352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S1x352x1024, .f32⟩
  | .hbm, ⟨8, _⟩ => ⟨S_, .f32⟩
  | .hbm, ⟨9, _⟩ => ⟨S1x352x1024, .f32⟩
  | .hbm, ⟨10, _⟩ => ⟨S1x352x1024, .f32⟩
  | .hbm, ⟨11, _⟩ => ⟨S_, .f32⟩
  | .hbm, ⟨12, _⟩ => ⟨S1x352x1024, .f32⟩
  | .hbm, ⟨13, _⟩ => ⟨S1x352x1024, .f32⟩
  | .hbm, ⟨14, _⟩ => ⟨S1x352x1024, .f32⟩
  | .hbm, ⟨15, _⟩ => ⟨S_, .f32⟩
  | .hbm, ⟨16, _⟩ => ⟨S1x352x1024, .f32⟩
  | .hbm, ⟨17, _⟩ => ⟨S1x352x1024, .f32⟩
  | .hbm, ⟨18, _⟩ => ⟨S1x352x1024, .f32⟩
  | .hbm, ⟨19, _⟩ => ⟨S_, .f32⟩
  | .hbm, ⟨20, _⟩ => ⟨S1x352x1024, .f32⟩
  | .hbm, ⟨21, _⟩ => ⟨S1x352x1024, .f32⟩
  | .hbm, ⟨22, _⟩ => ⟨S1x352x1024, .f32⟩
  | .hbm, ⟨23, _⟩ => ⟨S_, .f32⟩
  | .hbm, ⟨24, _⟩ => ⟨S1x352x1024, .f32⟩
  | .hbm, ⟨25, _⟩ => ⟨S1x352x1024, .f32⟩
  | .hbm, ⟨26, _⟩ => ⟨S_, .f32⟩
  | .hbm, ⟨27, _⟩ => ⟨S1x352x1024, .f32⟩
  | .hbm, ⟨28, _⟩ => ⟨S1x352x1024, .f32⟩
  | .hbm, ⟨29, _⟩ => ⟨S1x352x1024, .f32⟩
  | .hbm, ⟨30, _⟩ => ⟨S_, .f32⟩
  | .hbm, ⟨31, _⟩ => ⟨S1x352x1024, .f32⟩
  | .hbm, ⟨32, _⟩ => ⟨S1x352x1024, .f32⟩
  | .hbm, ⟨33, _⟩ => ⟨S1x352x1024, .f32⟩
  | .hbm, ⟨34, _⟩ => ⟨S_, .f32⟩
  | .hbm, ⟨35, _⟩ => ⟨S1x352x1024, .f32⟩
  | .hbm, ⟨36, _⟩ => ⟨S1x352x1024, .f32⟩
  | .hbm, ⟨37, _⟩ => ⟨S1x352x1024, .f32⟩
  | .hbm, ⟨38, _⟩ => ⟨S_, .f32⟩
  | .hbm, ⟨39, _⟩ => ⟨S1x352x1024, .f32⟩
  | .hbm, ⟨40, _⟩ => ⟨S1x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_8 : Ref sig .tc := ⟨.hbm, 38, rfl⟩
abbrev main_v25 : Ref sig .tc := ⟨.hbm, 39, rfl⟩
abbrev main_v26 : Ref sig .tc := ⟨.hbm, 40, rfl⟩

abbrev nD : Nat := 1
abbrev τ : Topo := Topo.v7x

variable {F : FTy → Type} [FloatOps F]
-- ==== UpGains.lean ====
abbrev S8x8x1024 : Shape := ⟨3, ![8, 8, 1024]⟩
abbrev S1x1024 : Shape := ⟨2, ![1, 1024]⟩
abbrev S1x8x1024 : Shape := ⟨3, ![1, 8, 1024]⟩
abbrev S8x1024 : Shape := ⟨2, ![8, 1024]⟩

abbrev nBuf : Space → Nat
  | .hbm => 23
  | .vmem => 23
  | .smem => 0
  | _ => 0

abbrev bufTy : (tb : Table) → Fin (tcTables nBuf tb) → BufTy
  | .hbm, ⟨0, _⟩ => ⟨S8x8x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S1x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1x1024, .f32⟩
  | .local _ .vmem, ⟨0, _⟩ => ⟨S8x8x1024, .f32⟩
  | .local _ .vmem, ⟨1, _⟩ => ⟨S1x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | _, _ => ⟨S8x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v0_4 : Ref sig .tc := ⟨.hbm, 14, rfl⟩
abbrev main_v0_5 : Ref sig .tc := ⟨.hbm, 15, rfl⟩
abbrev main_v0_6 : Ref sig .tc := ⟨.hbm, 16, rfl⟩
abbrev main_v0_7 : Ref sig .tc := ⟨.hbm, 17, rfl⟩
abbrev main_v0_8 : Ref sig .tc := ⟨.hbm, 18, rfl⟩
abbrev main_v0_9 : Ref sig .tc := ⟨.hbm, 19, rfl⟩
abbrev main_v0_10 : Ref sig .tc := ⟨.hbm, 20, rfl⟩
abbrev main_v0_11 : Ref sig .tc := ⟨.hbm, 21, rfl⟩
abbrev main_v0_12 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8x8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]
-- ==== UpGainsRefIdeal.lean ====
abbrev S8x8x1024 : Shape := ⟨3, ![8, 8, 1024]⟩
abbrev S1x1024 : Shape := ⟨2, ![1, 1024]⟩
abbrev S8x1x1024 : Shape := ⟨3, ![8, 1, 1024]⟩
abbrev S8x1024 : Shape := ⟨2, ![8, 1024]⟩
abbrev S_ : Shape := ⟨0, ![]⟩
abbrev S1024 : Shape := ⟨1, ![1024]⟩

abbrev nBuf : Space → Nat
  | .hbm => 129
  | .vmem => 0
  | .smem => 0
  | _ => 0

abbrev hbmTy0_0 (i : Nat) : BufTy := match i % 128 with
  | 0 => ⟨S8x8x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S1x1024, .f32⟩
  | 7 => ⟨S1x1024, .f32⟩
  | 8 => ⟨S1x1024, .f32⟩
  | 9 => ⟨S1x1024, .f32⟩
  | 10 => ⟨S8x1x1024, .f32⟩
  | 11 => ⟨S8x1024, .f32⟩
  | 12 => ⟨S_, .f32⟩
  | 13 => ⟨S1024, .f32⟩
  | 14 => ⟨S1x1024, .f32⟩
  | 15 => ⟨S8x1x1024, .f32⟩
  | 16 => ⟨S8x1024, .f32⟩
  | 17 => ⟨S_, .f32⟩
  | 18 => ⟨S1024, .f32⟩
  | 19 => ⟨S1x1024, .f32⟩
  | 20 => ⟨S8x1x1024, .f32⟩
  | 21 => ⟨S8x1024, .f32⟩
  | 22 => ⟨S_, .f32⟩
  | 23 => ⟨S1024, .f32⟩
  | 24 => ⟨S1x1024, .f32⟩
  | 25 => ⟨S8x1x1024, .f32⟩
  | 26 => ⟨S8x1024, .f32⟩
  | 27 => ⟨S_, .f32⟩
  | 28 => ⟨S1024, .f32⟩
  | 29 => ⟨S1x1024, .f32⟩
  | 30 => ⟨S_, .f32⟩
  | 31 => ⟨S1x1024, .f32⟩
  | 32 => ⟨S1x1024, .f32⟩
  | 33 => ⟨S_, .f32⟩
  | 34 => ⟨S1x1024, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S_, .f32⟩
  | 49 => ⟨S1x1024, .f32⟩
  | 50 => ⟨S1x1024, .f32⟩
  | 51 => ⟨S1x1024, .f32⟩
  | 52 => ⟨S_, .f32⟩
  | 53 => ⟨S1x1024, .f32⟩
  | 54 => ⟨S1x1024, .f32⟩
  | 55 => ⟨S1x1024, .f32⟩
  | 56 => ⟨S_, .f32⟩
  | 57 => ⟨S1x1024, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S_, .f32⟩
  | 64 => ⟨S1x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S1x1024, .f32⟩
  | 72 => ⟨S1x1024, .f32⟩
  | 73 => ⟨S1x1024, .f32⟩
  | 74 => ⟨S_, .f32⟩
  | 75 => ⟨S1x1024, .f32⟩
  | 76 => ⟨S1x1024, .f32⟩
  | 77 => ⟨S1x1024, .f32⟩
  | 78 => ⟨S_, .f32⟩
  | 79 => ⟨S1x1024, .f32⟩
  | 80 => ⟨S1x1024, .f32⟩
  | 81 => ⟨S_, .f32⟩
  | 82 => ⟨S1x1024, .f32⟩
  | 83 => ⟨S1x1024, .f32⟩
  | 84 => ⟨S1x1024, .f32⟩
  | 85 => ⟨S_, .f32⟩
  | 86 => ⟨S1x1024, .f32⟩
  | 87 => ⟨S1x1024, .f32⟩
  | 88 => ⟨S1x1024, .f32⟩
  | 89 => ⟨S_, .f32⟩
  | 90 => ⟨S1x1024, .f32⟩
  | 91 => ⟨S1x1024, .f32⟩
  | 92 => ⟨S1x1024, .f32⟩
  | 93 => ⟨S_, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S_, .f32⟩
  | 115 => ⟨S1x1024, .f32⟩
  | 116 => ⟨S1x1024, .f32⟩
  | 117 => ⟨S1x1024, .f32⟩
  | 118 => ⟨S_, .f32⟩
  | 119 => ⟨S1x1024, .f32⟩
  | 120 => ⟨S1x1024, .f32⟩
  | 121 => ⟨S1x1024, .f32⟩
  | 122 => ⟨S_, .f32⟩
  | 123 => ⟨S1x1024, .f32⟩
  | 124 => ⟨S1x1024, .f32⟩
  | 125 => ⟨S1x1024, .f32⟩
  | 126 => ⟨S_, .f32⟩
  | 127 => ⟨S1x1024, .f32⟩
  | _ => ⟨S8x8x1024, .f32⟩

abbrev hbmTy0_1 (i : Nat) : BufTy := match i % 128 with
  | 0 => ⟨S1x1024, .f32⟩
  | _ => ⟨S8x8x1024, .f32⟩

abbrev hbmTy (i : Nat) : BufTy := match i / 128 with
  | 0 => hbmTy0_0 i
  | 1 => hbmTy0_1 i
  | _ => ⟨S8x8x1024, .f32⟩

abbrev bufTy : (tb : Table) → Fin (tcTables nBuf tb) → BufTy
  | .hbm, ⟨i, _⟩ => hbmTy i
  | _, _ => ⟨S8x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_cst_3 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_5 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_v28 : Ref sig .tc := ⟨.hbm, 47, rfl⟩
abbrev main_cst_8 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_9 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_10 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_11 : Ref sig .tc := ⟨.hbm, 60, rfl⟩
abbrev main_v38 : Ref sig .tc := ⟨.hbm, 61, rfl⟩
abbrev main_v39 : Ref sig .tc := ⟨.hbm, 62, rfl⟩
abbrev main_cst_12 : Ref sig .tc := ⟨.hbm, 63, rfl⟩
abbrev main_v40 : Ref sig .tc := ⟨.hbm, 64, rfl⟩
abbrev main_v41 : Ref sig .tc := ⟨.hbm, 65, rfl⟩
abbrev main_cst_13 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_14 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_15 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_16 : Ref sig .tc := ⟨.hbm, 78, rfl⟩
abbrev main_v51 : Ref sig .tc := ⟨.hbm, 79, rfl⟩
abbrev main_v52 : Ref sig .tc := ⟨.hbm, 80, rfl⟩
abbrev main_cst_17 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_cst_18 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_cst_19 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_cst_20 : Ref sig .tc := ⟨.hbm, 93, rfl⟩
abbrev main_v62 : Ref sig .tc := ⟨.hbm, 94, rfl⟩
abbrev main_v63 : Ref sig .tc := ⟨.hbm, 95, rfl⟩
abbrev main_cst_21 : Ref sig .tc := ⟨.hbm, 96, rfl⟩
abbrev main_v64 : Ref sig .tc := ⟨.hbm, 97, rfl⟩
abbrev main_v65 : Ref sig .tc := ⟨.hbm, 98, rfl⟩
abbrev main_cst_22 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_cst_23 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_cst_24 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_25 : Ref sig .tc := ⟨.hbm, 111, rfl⟩
abbrev main_v75 : Ref sig .tc := ⟨.hbm, 112, rfl⟩
abbrev main_v76 : Ref sig .tc := ⟨.hbm, 113, rfl⟩
abbrev main_cst_26 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_27 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_cst_28 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_cst_29 : Ref sig .tc := ⟨.hbm, 126, rfl⟩
abbrev main_v86 : Ref sig .tc := ⟨.hbm, 127, rfl⟩
abbrev main_v87 : Ref sig .tc := ⟨.hbm, 128, rfl⟩

abbrev nD : Nat := 1
abbrev τ : Topo := Topo.v7x

variable {F : FTy → Type} [FloatOps F]
-- ==== PairSum.lean ====
abbrev S8x736x1024 : Shape := ⟨3, ![8, 736, 1024]⟩
abbrev S4x736x1024 : Shape := ⟨3, ![4, 736, 1024]⟩
abbrev S1 : Shape := ⟨1, ![1]⟩
abbrev S1x368x1024 : Shape := ⟨3, ![1, 368, 1024]⟩
abbrev S368x1024 : Shape := ⟨2, ![368, 1024]⟩

abbrev nBuf : Space → Nat
  | .hbm => 3
  | .vmem => 6
  | .smem => 1
  | _ => 0

abbrev bufTy : (tb : Table) → Fin (tcTables nBuf tb) → BufTy
  | .hbm, ⟨0, _⟩ => ⟨S8x736x1024, .bf16⟩
  | .hbm, ⟨1, _⟩ => ⟨S4x736x1024, .bf16⟩
  | .hbm, ⟨2, _⟩ => ⟨S4x736x1024, .bf16⟩
  | .local _ .vmem, ⟨0, _⟩ => ⟨S1x368x1024, .bf16⟩
  | .local _ .vmem, ⟨1, _⟩ => ⟨S1x368x1024, .bf16⟩
  | .local _ .vmem, ⟨2, _⟩ => ⟨S1x368x1024, .bf16⟩
  | .local _ .vmem, ⟨3, _⟩ => ⟨S1x368x1024, .bf16⟩
  | .local _ .vmem, ⟨4, _⟩ => ⟨S1x368x1024, .bf16⟩
  | .local _ .vmem, ⟨5, _⟩ => ⟨S1x368x1024, .bf16⟩
  | .local _ .smem, ⟨0, _⟩ => ⟨S1, .i32⟩
  | _, _ => ⟨S8x736x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg0
  let c0 : Index := 0#32
  let v1 : BitVec 32 := pf.at 0 (Rect.unit (s := S1) ![0] S1.size inb_S1_S1_0) numel1_S1
  let v2 : BitVec 32 := Scalar.addi v0 v1
  let c0_i32 : BitVec 32 := 0#32
  let c0_i32_0 : BitVec 32 := 0#32
  ![v2.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x368x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x368x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x368x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S8x736x1024 : Shape := ⟨3, ![8, 736, 1024]⟩
abbrev S4x736x1024 : Shape := ⟨3, ![4, 736, 1024]⟩
abbrev S1 : Shape := ⟨1, ![1]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S8x736x1024, .bf16⟩
  | .hbm, ⟨1, _⟩ => ⟨S4x736x1024, .bf16⟩
  | .hbm, ⟨2, _⟩ => ⟨S1, .i32⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x736x1024, .bf16⟩
  | .hbm, ⟨7, _⟩ => ⟨S4x736x1024, .bf16⟩
  | .hbm, ⟨8, _⟩ => ⟨S4x736x1024, .bf16⟩
  | .hbm, ⟨9, _⟩ => ⟨S4x736x1024, .f32⟩
  | .hbm, ⟨10, _⟩ => ⟨S4x736x1024, .f32⟩
  | .hbm, ⟨11, _⟩ => ⟨S4x736x1024, .f32⟩
  | .hbm, ⟨12, _⟩ => ⟨S4x736x1024, .bf16⟩
  | _, _ => ⟨S8x736x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== ToBf16.lean ====
abbrev S736x1024 : Shape := ⟨2, ![736, 1024]⟩
abbrev S512x128 : Shape := ⟨2, ![512, 128]⟩
abbrev S256x128 : Shape := ⟨2, ![256, 128]⟩
abbrev S128x1024 : Shape := ⟨2, ![128, 1024]⟩
abbrev S704x1024 : Shape := ⟨2, ![704, 1024]⟩
abbrev S352x1024 : Shape := ⟨2, ![352, 1024]⟩
abbrev S128x512 : Shape := ⟨2, ![128, 512]⟩
abbrev S128x256 : Shape := ⟨2, ![128, 256]⟩

abbrev nBuf : Space → Nat
  | .hbm => 12
  | .vmem => 12
  | .smem => 0
  | _ => 0

abbrev bufTy : (tb : Table) → Fin (tcTables nBuf tb) → BufTy
  | .hbm, ⟨0, _⟩ => ⟨S736x1024, .f32⟩
  | .hbm, ⟨1, _⟩ => ⟨S512x128, .f32⟩
  | .hbm, ⟨2, _⟩ => ⟨S256x128, .f32⟩
  | .hbm, ⟨3, _⟩ => ⟨S128x1024, .f32⟩
  | .hbm, ⟨4, _⟩ => ⟨S704x1024, .f32⟩
  | .hbm, ⟨5, _⟩ => ⟨S352x1024, .f32⟩
  | .hbm, ⟨6, _⟩ => ⟨S736x1024, .bf16⟩
  | .hbm, ⟨7, _⟩ => ⟨S128x512, .bf16⟩
  | .hbm, ⟨8, _⟩ => ⟨S128x256, .bf16⟩
  | .hbm, ⟨9, _⟩ => ⟨S128x1024, .bf16⟩
  | .hbm, ⟨10, _⟩ => ⟨S704x1024, .bf16⟩
  | .hbm, ⟨11, _⟩ => ⟨S352x1024, .bf16⟩
  | .local _ .vmem, ⟨0, _⟩ => ⟨S736x1024, .f32⟩
  | .local _ .vmem, ⟨1, _⟩ => ⟨S512x128, .f32⟩
  | .local _ .vmem, ⟨2, _⟩ => ⟨S256x128, .f32⟩
  | .local _ .vmem, ⟨3, _⟩ => ⟨S128x1024, .f32⟩
  | .local _ .vmem, ⟨4, _⟩ => ⟨S704x1024, .f32⟩
  | .local _ .vmem, ⟨5, _⟩ => ⟨S352x1024, .f32⟩
  | .local _ .vmem, ⟨6, _⟩ => ⟨S736x1024, .bf16⟩
  | .local _ .vmem, ⟨7, _⟩ => ⟨S128x512, .bf16⟩
  | .local _ .vmem, ⟨8, _⟩ => ⟨S128x256, .bf16⟩
  | .local _ .vmem, ⟨9, _⟩ => ⟨S128x1024, .bf16⟩
  | .local _ .vmem, ⟨10, _⟩ => ⟨S704x1024, .bf16⟩
  | .local _ .vmem, ⟨11, _⟩ => ⟨S352x1024, .bf16⟩
  | _, _ => ⟨S736x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S736x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S704x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S352x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S736x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S704x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S352x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ToBf16RefIdeal.lean ====
abbrev S736x1024 : Shape := ⟨2, ![736, 1024]⟩
abbrev S512x128 : Shape := ⟨2, ![512, 128]⟩
abbrev S256x128 : Shape := ⟨2, ![256, 128]⟩
abbrev S128x1024 : Shape := ⟨2, ![128, 1024]⟩
abbrev S704x1024 : Shape := ⟨2, ![704, 1024]⟩
abbrev S352x1024 : Shape := ⟨2, ![352, 1024]⟩
abbrev S128x512 : Shape := ⟨2, ![128, 512]⟩
abbrev S128x256 : Shape := ⟨2, ![128, 256]⟩

abbrev nBuf : Space → Nat
  | .hbm => 14
  | .vmem => 0
  | .smem => 0
  | _ => 0

abbrev bufTy : (tb : Table) → Fin (tcTables nBuf tb) → BufTy
  | .hbm, ⟨0, _⟩ => ⟨S736x1024, .f32⟩
  | .hbm, ⟨1, _⟩ => ⟨S512x128, .f32⟩
  | .hbm, ⟨2, _⟩ => ⟨S256x128, .f32⟩
  | .hbm, ⟨3, _⟩ => ⟨S128x1024, .f32⟩
  | .hbm, ⟨4, _⟩ => ⟨S704x1024, .f32⟩
  | .hbm, ⟨5, _⟩ => ⟨S352x1024, .f32⟩
  | .hbm, ⟨6, _⟩ => ⟨S128x512, .f32⟩
  | .hbm, ⟨7, _⟩ => ⟨S128x256, .f32⟩
  | .hbm, ⟨8, _⟩ => ⟨S736x1024, .bf16⟩
  | .hbm, ⟨9, _⟩ => ⟨S128x512, .bf16⟩
  | .hbm, ⟨10, _⟩ => ⟨S128x256, .bf16⟩
  | .hbm, ⟨11, _⟩ => ⟨S128x1024, .bf16⟩
  | .hbm, ⟨12, _⟩ => ⟨S704x1024, .bf16⟩
  | .hbm, ⟨13, _⟩ => ⟨S352x1024, .bf16⟩
  | _, _ => ⟨S736x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== StickFwd.lean ====
abbrev S2x2048x1536 : Shape := ⟨3, ![2, 2048, 1536]⟩
abbrev S2x2048x512 : Shape := ⟨3, ![2, 2048, 512]⟩
abbrev S1x256x128 : Shape := ⟨3, ![1, 256, 128]⟩
abbrev S1x2048x128 : Shape := ⟨3, ![1, 2048, 128]⟩
abbrev S128x128 : Shape := ⟨2, ![128, 128]⟩
abbrev S256x128 : Shape := ⟨2, ![256, 128]⟩
abbrev S512x128 : Shape := ⟨2, ![512, 128]⟩
abbrev S512x1 : Shape := ⟨2, ![512, 1]⟩
abbrev S512x256 : Shape := ⟨2, ![512, 256]⟩
abbrev S1024x128 : Shape := ⟨2, ![1024, 128]⟩
abbrev S2048x128 : Shape := ⟨2, ![2048, 128]⟩
abbrev S512 : Shape := ⟨1, ![512]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 2
  | .vmem => 8
  | .smem => 0
  | _ => 0

abbrev bufTy : (tb : Table) → Fin (tcTables nBuf tb) → BufTy
  | .hbm, ⟨0, _⟩ => ⟨S2x2048x1536, .bf16⟩
  | .hbm, ⟨1, _⟩ => ⟨S2x2048x512, .bf16⟩
  | .local _ .vmem, ⟨0, _⟩ => ⟨S1x256x128, .bf16⟩
  | .local _ .vmem, ⟨1, _⟩ => ⟨S1x256x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x256x128, .bf16⟩
  | .local _ .vmem, ⟨7, _⟩ => ⟨S1x256x128, .bf16⟩
  | _, _ => ⟨S2x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_mult1 (i : grid0.Coords) : BitVec 32 :=
  let arg2 : BitVec 32 := BitVec.ofNat 32 (i 2).val
  let c256_i32_6 : BitVec 32 := 256#32
  let v27 : BitVec 32 := Scalar.muli arg2 c256_i32_6
  v27
def k0_off1 (i : grid0.Coords) : Fin 3 → Nat :=
  let c0_7 : Index := 0#32
  let arg2 : BitVec 32 := BitVec.ofNat 32 (i 2).val
  let c256_i32_6 : BitVec 32 := 256#32
  let v27 : BitVec 32 := Scalar.muli arg2 c256_i32_6
  let v28 : BitVec 32 := v27
  let v29 : Index := Scalar.indexCast v28
  let c0_8 : Index := 0#32
  ![0, v29.toNat, 0]
def k0_mult2 (i : grid0.Coords) (arg7 : BitVec 32) : BitVec 32 :=
  let arg2 : BitVec 32 := BitVec.ofNat 32 (i 2).val
  let c1_i32 : BitVec 32 := 1#32
  let v96 : BitVec 32 := Scalar.subi arg2 c1_i32
  let v97 : BitVec 32 := Scalar.subi v96 arg7
  let c256_i32_26 : BitVec 32 := 256#32
  let v98 : BitVec 32 := Scalar.muli v97 c256_i32_26
  v98

def k0_off2 (i : grid0.Coords) (arg7 : BitVec 32) : Fin 3 → Nat :=
  let c0_27 : Index := 0#32
  let arg2 : BitVec 32 := BitVec.ofNat 32 (i 2).val
  let c1_i32 : BitVec 32 := 1#32
  let v96 : BitVec 32 := Scalar.subi arg2 c1_i32
  let v97 : BitVec 32 := Scalar.subi v96 arg7
  let c256_i32_26 : BitVec 32 := 256#32
  let v98 : BitVec 32 := Scalar.muli v97 c256_i32_26
  let v99 : BitVec 32 := v98
  let v100 : Index := Scalar.indexCast v99
  let c0_28 : Index := 0#32
  ![0, v100.toNat, 0]

def k0_chk1 (i : grid0.Coords) (arg7 : BitVec 32) : Prop :=
  (256 ∣ (k0_mult2 i arg7).toNat) ∧
  (∀ a, (k0_off2 i arg7) a + S1x256x128.size a ≤ S1x2048x128.size a)
theorem k0_mult2_dvd : ∀ (i : grid0.Coords) (arg7 : BitVec 32) (k0_hw1 : k0_chk1 i arg7), 256 ∣ (k0_mult2 i arg7).toNat := fun i arg7 k0_hw1 => k0_hw1.1
theorem k0_off2_inb : ∀ (i : grid0.Coords) (arg7 : BitVec 32) (k0_hw1 : k0_chk1 i arg7), ∀ a, (k0_off2 i arg7) a + S1x256x128.size a ≤ S1x2048x128.size a := fun i arg7 k0_hw1 => k0_hw1.2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== Proof.Gate.lean ====
module

public import proofs.«01_k».proof.Proof.Gen.GateIdeal.Value
public import proofs.«01_k».proof.Proof.Gen.GateRefIdeal.Read
public import Idealize.ShloMosaic.Lib.MatmulPlain
public import Idealize.ShloMosaic.Lib.Pipeline.ValueKit.Geometry
public import Idealize.ShloMosaic.Lib.Pipeline.ValueKit.Acc
public import Idealize.ShloMosaic.Lib.Pipeline.ValueKit.Tiles

@[expose] public section

noncomputable section

namespace Cert.GateProof

open Idealize.ShloMosaic Idealize.ShloMosaic.TcCoe Idealize.SL.Sem Idealize.ShloMosaic.ValueIdx
open Cert.GateIdeal Cert.GateIdeal.Gen
open Cert.GateRefIdeal.Read
open Idealize.ShloMosaic.Pipeline (Dat)

/-! ## The mathematics, element by element -/

/-- The logistic function on the extended reals. -/
def sg (x : EReal) : EReal := Ideal.div (Ideal.ofBits .f32 0x3F800000#32) (Ideal.ofBits .f32 0x3F800000#32 + Ideal.exp (-x))

abbrev ArrDx := (⟨2, ![4096, 1024]⟩ : Shape).Idx → EReal
abbrev ArrSb := (⟨2, ![4096, 512]⟩ : Shape).Idx → EReal
abbrev ArrDl := (⟨2, ![4096, 256]⟩ : Shape).Idx → EReal
abbrev ArrGate := (⟨2, ![4096, 2048]⟩ : Shape).Idx → EReal
abbrev ArrUpSb := (⟨2, ![512, 1024]⟩ : Shape).Idx → EReal
abbrev ArrUpDl := (⟨2, ![256, 1024]⟩ : Shape).Idx → EReal
abbrev ArrOut := (⟨2, ![1024, 1024]⟩ : Shape).Idx → EReal

/-- Column `k` of the second half. -/
abbrev hi (k : Fin 1024) : Fin 2048 := ⟨1024 + k.val, by omega⟩
/-- Column `k` of the first half. -/
abbrev lo (k : Fin 1024) : Fin 2048 := ⟨k.val, by omega⟩

/-- The gradient with respect to the merged activations. -/
def dMerged (dx : ArrDx) (w : ArrOut) (i : Fin 4096) (k : Fin 1024) : EReal := ∑ j : Fin 1024, dx (ix2 i j) * w (ix2 k j)
def ySb (o : ArrSb) (w : ArrUpSb) (i : Fin 4096) (k : Fin 1024) : EReal := ∑ j : Fin 512, o (ix2 i j) * w (ix2 j k)
def yDl (o : ArrDl) (w : ArrUpDl) (i : Fin 4096) (k : Fin 1024) : EReal := ∑ j : Fin 256, o (ix2 i j) * w (ix2 j k)
def one : EReal := Ideal.ofBits .f32 0x3F800000#32
def dYsb (dx : ArrDx) (g : ArrGate) (w : ArrOut) (i : Fin 4096) (k : Fin 1024) : EReal := dMerged dx w i k * sg (g (ix2 i (lo k)))
def dYdl (dx : ArrDx) (g : ArrGate) (w : ArrOut) (i : Fin 4096) (k : Fin 1024) : EReal := dMerged dx w i k * sg (g (ix2 i (hi k)))
def dGateSb (dx : ArrDx) (o : ArrSb) (g : ArrGate) (u : ArrUpSb) (w : ArrOut) (i : Fin 4096) (k : Fin 1024) : EReal :=
  dMerged dx w i k * ySb o u i k * (sg (g (ix2 i (lo k))) * (one - sg (g (ix2 i (lo k)))))
def dGateDl (dx : ArrDx) (o : ArrDl) (g : ArrGate) (u : ArrUpDl) (w : ArrOut) (i : Fin 4096) (k : Fin 1024) : EReal :=
  dMerged dx w i k * yDl o u i k * (sg (g (ix2 i (hi k))) * (one - sg (g (ix2 i (hi k)))))
def dOsb (dx : ArrDx) (g : ArrGate) (u : ArrUpSb) (w : ArrOut) (i : Fin 4096) (k : Fin 512) : EReal :=
  ∑ j : Fin 1024, dYsb dx g w i j * u (ix2 k j)
def dOdl (dx : ArrDx) (g : ArrGate) (u : ArrUpDl) (w : ArrOut) (i : Fin 4096) (k : Fin 256) : EReal :=
  ∑ j : Fin 1024, dYdl dx g w i j * u (ix2 k j)

/-! ## The reference -/

section Reference
variable (x0 : ArrDx) (x1 : ArrSb) (x2 : ArrDl) (x3 : ArrGate) (x4 : ArrUpSb) (x5 : ArrUpDl) (x6 : ArrOut)

theorem ref_dMerged (i : Fin 4096) (k : Fin 1024) : val_main_v30 (F := Ideal) x0 x6 (ix2 i k) = dMerged x0 x6 i k := by
  rw [val_main_v30_apply]
  refine Finset.sum_congr rfl fun j _ => ?_
  rw [val_main_v3_apply]
  exact congrArg₂ (fun a b => x0 a * x6 b) (eq_ix2 _) (eq_ix2 _)

theorem ref_ySb (i : Fin 4096) (k : Fin 1024) : val_main_v4 (F := Ideal) x1 x4 (ix2 i k) = ySb x1 x4 i k := by
  rw [val_main_v4_apply]
  refine Finset.sum_congr rfl fun j _ => ?_
  rw [val_main_v0_apply, val_main_v1_apply]
  exact congrArg₂ (fun a b => x1 a * x4 b) (eq_ix2 _) (eq_ix2 _)

theorem ref_yDl (i : Fin 4096) (k : Fin 1024) : val_main_v5 (F := Ideal) x2 x5 (ix2 i k) = yDl x2 x5 i k := by
  rw [val_main_v5_apply]
  refine Finset.sum_congr rfl fun j _ => ?_
  rw [val_main_v2_apply]
  exact congrArg₂ (fun a b => x2 a * x5 b) (eq_ix2 _) (eq_ix2 _)

theorem ref_sgSb (i : Fin 4096) (k : Fin 1024) : val_main_v13 (F := Ideal) x3 (ix2 i k) = sg (x3 (ix2 i (lo k))) := by
  rw [val_main_v13_apply, val_main_v12_apply, val_main_v11_apply, val_main_v10_apply, val_main_v9_apply, val_main_v8_apply, val_main_v6_apply]
  have e : idx_main_v6 (ix2 i k) = ix2 i (lo k) := by funext a; apply Fin.ext; fin_cases a <;> simp
  rw [e]; rfl

theorem ref_sgDl (i : Fin 4096) (k : Fin 1024) : val_main_v23 (F := Ideal) x3 (ix2 i k) = sg (x3 (ix2 i (hi k))) := by
  rw [val_main_v23_apply, val_main_v22_apply, val_main_v21_apply, val_main_v20_apply, val_main_v19_apply, val_main_v18_apply, val_main_v7_apply]
  have e : idx_main_v7 (ix2 i k) = ix2 i (hi k) := by funext a; apply Fin.ext; fin_cases a <;> simp
  rw [e]; rfl

theorem ref_dYsb (i : Fin 4096) (k : Fin 1024) : val_main_v34 (F := Ideal) x0 x3 x6 (ix2 i k) = dYsb x0 x3 x6 i k := by
  rw [val_main_v34_apply, ref_sgSb, ref_dMerged]; exact mul_comm _ _

theorem ref_dYdl (i : Fin 4096) (k : Fin 1024) : val_main_v31 (F := Ideal) x0 x3 x6 (ix2 i k) = dYdl x0 x3 x6 i k := by
  rw [val_main_v31_apply, ref_sgDl, ref_dMerged]; exact mul_comm _ _

theorem ref_dGateSb (i : Fin 4096) (k : Fin 1024) : val_main_v36 (F := Ideal) x0 x1 x3 x4 x6 (ix2 i k) = dGateSb x0 x1 x3 x4 x6 i k := by
  rw [val_main_v36_apply, val_main_v35_apply, val_main_v16_apply, val_main_v15_apply, val_main_v14_apply, ref_sgSb, ref_dMerged, ref_ySb]
  rfl

theorem ref_dGateDl (i : Fin 4096) (k : Fin 1024) : val_main_v33 (F := Ideal) x0 x2 x3 x5 x6 (ix2 i k) = dGateDl x0 x2 x3 x5 x6 i k := by
  rw [val_main_v33_apply, val_main_v32_apply, val_main_v26_apply, val_main_v25_apply, val_main_v24_apply, ref_sgDl, ref_dMerged, ref_yDl]
  rfl

theorem ref_dOsb (i : Fin 4096) (k : Fin 512) : val_main_v43 (F := Ideal) x0 x3 x4 x6 (ix2 i k) = dOsb x0 x3 x4 x6 i k := by
  rw [val_main_v43_apply]
  refine (val_main_v38_apply x0 x3 x4 x6 _).trans (Finset.sum_congr rfl fun j _ => ?_)
  rw [val_main_v1_apply, ← ref_dYsb]
  exact congrArg₂ (fun a b => val_main_v34 (F := Ideal) x0 x3 x6 a * x4 b) (eq_ix2 _) (eq_ix2 _)

theorem ref_dOdl (i : Fin 4096) (k : Fin 256) : val_main_v39 (F := Ideal) x0 x3 x5 x6 (ix2 i k) = dOdl x0 x3 x5 x6 i k := by
  refine (val_main_v39_apply x0 x3 x5 x6 _).trans (Finset.sum_congr rfl fun j _ => ?_)
  rw [val_main_v2_apply, ← ref_dYdl]
  exact congrArg₂ (fun a b => val_main_v31 (F := Ideal) x0 x3 x6 a * x5 b) (eq_ix2 _) (eq_ix2 _)

theorem ref_gateLo (i : Fin 4096) (k : Fin 1024) : val_main_v40 (F := Ideal) x0 x1 x2 x3 x4 x5 x6 (ix2 i (lo k)) = dGateSb x0 x1 x3 x4 x6 i k := by
  rw [val_main_v40_apply, ← ref_dGateSb]
  unfold val_main_v37
  show concatenate GateRefIdeal.S4096x2048 1 _ _ _ = _
  exact concatenate_pair_apply_left (t := GateRefIdeal.S4096x2048) (s₁ := GateRefIdeal.S4096x1024) (s₂ := GateRefIdeal.S4096x1024) (1 : Fin 2) _ _ _ _ rfl (ix2 i k) fun b => by
    match b with
    | ⟨0, _⟩ => rfl
    | ⟨1, _⟩ => rfl

theorem ref_gateHi (i : Fin 4096) (k : Fin 1024) : val_main_v40 (F := Ideal) x0 x1 x2 x3 x4 x5 x6 (ix2 i (hi k)) = dGateDl x0 x2 x3 x5 x6 i k := by
  rw [val_main_v40_apply, ← ref_dGateDl]
  unfold val_main_v37
  show concatenate GateRefIdeal.S4096x2048 1 _ _ _ = _
  refine concatenate_pair_apply_right (t := GateRefIdeal.S4096x2048) (s₁ := GateRefIdeal.S4096x1024) (s₂ := GateRefIdeal.S4096x1024) (1 : Fin 2) _ _ _ _ rfl rfl (ix2 i k) (fun b hb => ?_) ?_
  · match b, hb with
    | ⟨0, _⟩, _ => rfl
    | ⟨1, _⟩, hb => exact absurd rfl hb
  · show k.val + 1024 = 1024 + k.val; omega

end Reference

/-! ## The kernel's payloads over blocks -/

theorem pay2_apply (x0 : Vec Ideal S512x1024 .f32) (x6 : Vec Ideal S1024x1024 .bf16) (r : Fin 512) (c : Fin 1024) :
    k0_pay2 (F := Ideal) x0 x6 (ix2 r c) = ∑ k : Fin 1024, x0 (ix2 r k) * x6 (ix2 c k) := by
  unfold k0_pay2
  refine (Ideal.matmul_transposedRhs_apply (M := 512) (K := 1024) (N := 1024) none _ _ _ r c).trans ?_
  simp only [constant_apply, Ideal.ofBits_zero_f32, zero_add, truncf_apply]

theorem pay3_apply (x2 : Vec Ideal S512x256 .f32) (x5 : Vec Ideal S1024x256 .bf16) (r : Fin 512) (c : Fin 1024) :
    k0_pay3 (F := Ideal) x2 x5 (ix2 r c) = ∑ k : Fin 256, x2 (ix2 r k) * x5 (ix2 c k) := by
  unfold k0_pay3
  refine (Ideal.matmul_transposedRhs_apply (M := 512) (K := 256) (N := 1024) none _ _ _ r c).trans ?_
  simp only [constant_apply, Ideal.ofBits_zero_f32, zero_add, truncf_apply, shapeCast_self]

theorem pay6_apply (x0 : Vec Ideal S512x1024 .f32) (x6 : Vec Ideal S1024x1024 .bf16) (x1 : Vec Ideal S512x512 .bf16) (x4 : Vec Ideal S1024x512 .bf16) (r : Fin 512) (c : Fin 1024) :
    k0_pay6 (F := Ideal) x0 x6 x1 x4 (ix2 r c) = (∑ k : Fin 1024, x0 (ix2 r k) * x6 (ix2 c k)) * ∑ k : Fin 512, x1 (ix2 r k) * x4 (ix2 c k) := by
  unfold k0_pay6
  refine congrArg₂ (· * ·) (pay2_apply _ _ _ _) ?_
  refine (Ideal.matmul_transposedRhs_apply (M := 512) (K := 512) (N := 1024) none _ _ _ r c).trans ?_
  simp only [constant_apply, Ideal.ofBits_zero_f32, zero_add, truncf_apply, shapeCast_self]

theorem pay4_apply (x : Vec Ideal S512x1024 .f32) (y : S512x1024.Idx) : k0_pay4 (F := Ideal) x y = sg (x y) := by
  show Ideal.div _ (_ + Ideal.exp (Ideal.ofBits .f32 0x00000000#32 - x y)) = _
  rw [Ideal.ofBits_zero_f32, zero_sub]; rfl

theorem pay5_apply (x : Vec Ideal S512x1024 .f32) (y : S512x1024.Idx) : k0_pay5 (F := Ideal) x y = sg (x y) := pay4_apply x y

theorem pay12_apply (a b : FVec Ideal S512x1024 .f32) (x4 : Vec Ideal S1024x512 .bf16) (r : Fin 512) (c : Fin 512) :
    k0_pay12 (F := Ideal) a b x4 (ix2 r c) = ∑ k : Fin 1024, a (ix2 r k) * b (ix2 r k) * x4 (ix2 k c) := by
  unfold k0_pay12
  refine (Ideal.matmul_plain_apply (M := 512) (K := 1024) (N := 512) none _ _ _ r c).trans ?_
  simp only [constant_apply, Ideal.ofBits_zero_f32, zero_add, shapeCast_self]
  rfl

theorem pay13_apply (a b : FVec Ideal S512x1024 .f32) (x5 : Vec Ideal S1024x256 .bf16) (r : Fin 512) (c : Fin 256) :
    k0_pay13 (F := Ideal) a b x5 (ix2 r c) = ∑ k : Fin 1024, a (ix2 r k) * b (ix2 r k) * x5 (ix2 k c) := by
  unfold k0_pay13
  refine (Ideal.matmul_plain_apply (M := 512) (K := 1024) (N := 256) none _ _ _ r c).trans ?_
  simp only [constant_apply, Ideal.ofBits_zero_f32, zero_add, shapeCast_self]
  rfl

/-! ## The blocks of the arrays -/

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)

/-- Row `r` of block `t`. -/
abbrev row (t : Fin cfg0.N) (r : Fin 512) : Fin 4096 := ⟨t.val * 512 + r.val, by have : t.val < 8 := t.isLt; omega⟩

theorem V_v0 (c : Dev nD) : V m c main_v0 = transpose S1024x512 [1, 0] (m ((c : Thread nD τ).loc main_arg4)) transposes_S512x1024_S1024x512_1_0 := by
  rfl
theorem V_v1 (c : Dev nD) : V m c main_v1 = transpose S1024x256 [1, 0] (m ((c : Thread nD τ).loc main_arg5)) transposes_S256x1024_S1024x256_1_0 := by
  rfl

theorem blk0 (c : Dev nD) (t : Fin cfg0.N) (r : Fin 512) (k : Fin 1024) :
    iblk m c 0 t (ix2 r k) = m ((c : Thread nD τ).loc main_arg0) (ix2 (row t r) k) := by
  blk_simp [iblk]
  rw [V_main_arg0]
  refine congrArg (m ((c : Thread nD τ).loc main_arg0)) ?_
  blk_ext [idx0]
theorem blk1 (c : Dev nD) (t : Fin cfg0.N) (r : Fin 512) (k : Fin 512) :
    iblk m c 1 t (ix2 r k) = m ((c : Thread nD τ).loc main_arg1) (ix2 (row t r) k) := by
  blk_simp [iblk]
  rw [V_main_arg1]
  refine congrArg (m ((c : Thread nD τ).loc main_arg1)) ?_
  blk_ext [idx1]
theorem blk2 (c : Dev nD) (t : Fin cfg0.N) (r : Fin 512) (k : Fin 256) :
    iblk m c 2 t (ix2 r k) = m ((c : Thread nD τ).loc main_arg2) (ix2 (row t r) k) := by
  blk_simp [iblk]
  rw [V_main_arg2]
  refine congrArg (m ((c : Thread nD τ).loc main_arg2)) ?_
  blk_ext [idx2]
theorem blk3 (c : Dev nD) (t : Fin cfg0.N) (r : Fin 512) (k : Fin 2048) :
    iblk m c 3 t (ix2 r k) = m ((c : Thread nD τ).loc main_arg3) (ix2 (row t r) k) := by
  blk_simp [iblk]
  rw [V_main_arg3]
  refine congrArg (m ((c : Thread nD τ).loc main_arg3)) ?_
  blk_ext [idx3]
theorem blk4 (c : Dev nD) (t : Fin cfg0.N) (r : Fin 1024) (k : Fin 512) :
    iblk m c 4 t (ix2 r k) = m ((c : Thread nD τ).loc main_arg4) (ix2 k r) := by
  blk_simp [iblk]
  rw [V_v0]
  refine congrArg (m ((c : Thread nD τ).loc main_arg4)) ?_
  funext a; apply Fin.ext; fin_cases a
  · show ((((View.whole main_v0).slice (win0_4.rect t)).emb (ix2 r k) 1 : Fin _) : ℕ) = k.val
    blk_simp [idx4]; rfl
  · show ((((View.whole main_v0).slice (win0_4.rect t)).emb (ix2 r k) 0 : Fin _) : ℕ) = r.val
    blk_simp [idx4]; rfl
theorem blk5 (c : Dev nD) (t : Fin cfg0.N) (r : Fin 1024) (k : Fin 256) :
    iblk m c 5 t (ix2 r k) = m ((c : Thread nD τ).loc main_arg5) (ix2 k r) := by
  blk_simp [iblk]
  rw [V_v1]
  refine congrArg (m ((c : Thread nD τ).loc main_arg5)) ?_
  funext a; apply Fin.ext; fin_cases a
  · show ((((View.whole main_v1).slice (win0_5.rect t)).emb (ix2 r k) 1 : Fin _) : ℕ) = k.val
    blk_simp [idx5]; rfl
  · show ((((View.whole main_v1).slice (win0_5.rect t)).emb (ix2 r k) 0 : Fin _) : ℕ) = r.val
    blk_simp [idx5]; rfl
theorem blk6 (c : Dev nD) (t : Fin cfg0.N) (r : Fin 1024) (k : Fin 1024) :
    iblk m c 6 t (ix2 r k) = m ((c : Thread nD τ).loc main_arg6) (ix2 r k) := by
  blk_simp [iblk]
  rw [V_main_arg6]
  refine congrArg (m ((c : Thread nD τ).loc main_arg6)) ?_
  blk_ext [idx6]

theorem ldLo (x : Vec Ideal S512x2048 .f32) (r : Fin 512) (k : Fin 1024) : View.ld x r0_6 (ix2 r k) = x (ix2 r (lo k)) :=
  congrArg x (by funext a; apply Fin.ext; fin_cases a
                 · show 0 + 1 * r.val = r.val; omega
                 · show 0 + 1 * k.val = k.val; omega)
theorem ldHi (x : Vec Ideal S512x2048 .f32) (r : Fin 512) (k : Fin 1024) : View.ld x r0_7 (ix2 r k) = x (ix2 r (hi k)) :=
  congrArg x (by funext a; apply Fin.ext; fin_cases a
                 · show 0 + 1 * r.val = r.val; omega
                 · show 1024 + 1 * k.val = 1024 + k.val; omega)

theorem zero2 : (![0, 0] : Fin 2 → ℕ) = fun _ => 0 := by funext a; fin_cases a <;> rfl

theorem k20 (c : Dev nD) (t : Fin cfg0.N) (r : Fin 512) (k : Fin 1024) :
    k0_pay20 (iblk m c 0 t) (iblk m c 1 t) (iblk m c 2 t) (iblk m c 3 t) (iblk m c 4 t) (iblk m c 5 t) (iblk m c 6 t) (ix2 r k)
      = dMerged (m ((c : Thread nD τ).loc main_arg0)) (m ((c : Thread nD τ).loc main_arg6)) (row t r) k := by
  unfold k0_pay20
  rw [View.ld_unit_zero zero2, View.ld_unit_zero zero2, pay2_apply]
  simp only [blk0, blk6]; rfl

theorem k21 (c : Dev nD) (t : Fin cfg0.N) (r : Fin 512) (k : Fin 1024) :
    k0_pay21 (iblk m c 0 t) (iblk m c 1 t) (iblk m c 2 t) (iblk m c 3 t) (iblk m c 4 t) (iblk m c 5 t) (iblk m c 6 t) (ix2 r k)
      = sg (m ((c : Thread nD τ).loc main_arg3) (ix2 (row t r) (lo k))) := by
  unfold k0_pay21
  rw [pay4_apply, ldLo, blk3]

theorem k22 (c : Dev nD) (t : Fin cfg0.N) (r : Fin 512) (k : Fin 1024) :
    k0_pay22 (iblk m c 0 t) (iblk m c 1 t) (iblk m c 2 t) (iblk m c 3 t) (iblk m c 4 t) (iblk m c 5 t) (iblk m c 6 t) (ix2 r k)
      = sg (m ((c : Thread nD τ).loc main_arg3) (ix2 (row t r) (hi k))) := by
  unfold k0_pay22
  rw [pay5_apply, ldHi, blk3]

theorem final8 (c : Dev nD) : (dats m 0 c).arrAt 8 cfg0.N =
    val_main_v41 (F := Ideal) (m ((c : Thread nD τ).loc main_arg0)) (m ((c : Thread nD τ).loc main_arg3)) (m ((c : Thread nD τ).loc main_arg6)) := by
  refine (dats m 0 c).arrAt_eq_of_covers 8 _ (by decide +kernel) fun t hf y => ?_
  blk_simp
  rw [after0_8]
  frame_out
  obtain ⟨r, k, rfl⟩ : ∃ (r : Fin 512) (k : Fin 1024), y = ix2 r k := ⟨_, _, eq_ix2 y⟩
  have e : (((View.whole main_v2_1).slice (win0_8.rect t)).emb (ix2 r k)) = ix2 (row t r) k := by blk_ext [idx8]
  refine Eq.trans ?_ ((congrArg _ e).trans (ref_dYsb _ _ _ _ _)).symm
  exact congrArg₂ (· * ·) (k20 m c t r k) (k21 m c t r k)

theorem final9 (c : Dev nD) : (dats m 0 c).arrAt 9 cfg0.N =
    val_main_v42 (F := Ideal) (m ((c : Thread nD τ).loc main_arg0)) (m ((c : Thread nD τ).loc main_arg3)) (m ((c : Thread nD τ).loc main_arg6)) := by
  refine (dats m 0 c).arrAt_eq_of_covers 9 _ (by decide +kernel) fun t hf y => ?_
  blk_simp
  rw [after0_9]
  frame_out
  obtain ⟨r, k, rfl⟩ : ∃ (r : Fin 512) (k : Fin 1024), y = ix2 r k := ⟨_, _, eq_ix2 y⟩
  have e : (((View.whole main_v2_2).slice (win0_9.rect t)).emb (ix2 r k)) = ix2 (row t r) k := by blk_ext [idx9]
  refine Eq.trans ?_ ((congrArg _ e).trans (ref_dYdl _ _ _ _ _)).symm
  exact congrArg₂ (· * ·) (k20 m c t r k) (k22 m c t r k)

theorem final10 (c : Dev nD) : (dats m 0 c).arrAt 10 cfg0.N =
    val_main_v43 (F := Ideal) (m ((c : Thread nD τ).loc main_arg0)) (m ((c : Thread nD τ).loc main_arg3)) (m ((c : Thread nD τ).loc main_arg4)) (m ((c : Thread nD τ).loc main_arg6)) := by
  refine (dats m 0 c).arrAt_eq_of_covers 10 _ (by decide +kernel) fun t hf y => ?_
  blk_simp
  rw [after0_10]
  frame_out
  obtain ⟨r, k, rfl⟩ : ∃ (r : Fin 512) (k : Fin 512), y = ix2 r k := ⟨_, _, eq_ix2 y⟩
  have e : (((View.whole main_v2_3).slice (win0_10.rect t)).emb (ix2 r k)) = ix2 (row t r) k := by blk_ext [idx10]
  refine Eq.trans ?_ ((congrArg _ e).trans (ref_dOsb _ _ _ _ _ _)).symm
  rw [pay12_apply]
  exact Finset.sum_congr (M := EReal) rfl fun j _ => congrArg₂ (· * ·) (congrArg₂ (· * ·) (k20 m c t r j) (k21 m c t r j)) (blk4 m c t j k)

theorem final11 (c : Dev nD) : (dats m 0 c).arrAt 11 cfg0.N =
    val_main_v39 (F := Ideal) (m ((c : Thread nD τ).loc main_arg0)) (m ((c : Thread nD τ).loc main_arg3)) (m ((c : Thread nD τ).loc main_arg5)) (m ((c : Thread nD τ).loc main_arg6)) := by
  refine (dats m 0 c).arrAt_eq_of_covers 11 _ (by decide +kernel) fun t hf y => ?_
  blk_simp
  rw [after0_11]
  frame_out
  obtain ⟨r, k, rfl⟩ : ∃ (r : Fin 512) (k : Fin 256), y = ix2 r k := ⟨_, _, eq_ix2 y⟩
  have e : (((View.whole main_v2_4).slice (win0_11.rect t)).emb (ix2 r k)) = ix2 (row t r) k := by blk_ext [idx11]
  refine Eq.trans ?_ ((congrArg _ e).trans (ref_dOdl _ _ _ _ _ _)).symm
  rw [pay13_apply]
  exact Finset.sum_congr (M := EReal) rfl fun j _ => congrArg₂ (· * ·) (congrArg₂ (· * ·) (k20 m c t r j) (k22 m c t r j)) (blk5 m c t j k)

theorem final7 (c : Dev nD) : (dats m 0 c).arrAt 7 cfg0.N =
    val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  frame_out
  canon_tiles x h using cover0_7 _ _ _
  · obtain ⟨r, k, rfl⟩ : ∃ (r : Fin 512) (k : Fin 1024), x = ix2 r k := ⟨_, _, eq_ix2 x⟩
    replace h0 : (y 0).val = r.val := h0
    replace h1 : (y 1).val = 1024 + k.val := h1
    have e : (((View.whole main_v2_0).slice (win0_7.rect t)).emb y) = ix2 (row t r) (hi k) := by blk_ext [idx7]
    refine Eq.trans ?_ ((congrArg _ e).trans (ref_gateHi _ _ _ _ _ _ _ _ _)).symm
    refine congrArg₂ (fun a b : EReal => a * b) (congrArg₂ (fun a b : EReal => a * b) (k20 m c t r k) ?_) ?_
    · rw [pay3_apply]
      exact Finset.sum_congr (M := EReal) rfl fun j _ => congrArg₂ (· * ·) (blk2 m c t r j) (blk5 m c t k j)
    · exact congrArg (fun z : EReal => z * (one - z)) (k22 m c t r k)
  · obtain ⟨r, k, rfl⟩ : ∃ (r : Fin 512) (k : Fin 1024), x = ix2 r k := ⟨_, _, eq_ix2 x⟩
    replace h0 : (y 0).val = r.val := h0
    replace h1 : (y 1).val = k.val := h1
    have e : (((View.whole main_v2_0).slice (win0_7.rect t)).emb y) = ix2 (row t r) (lo k) := by blk_ext [idx7]
    refine Eq.trans ?_ ((congrArg _ e).trans (ref_gateLo _ _ _ _ _ _ _ _ _)).symm
    refine congrArg₂ (fun a b : EReal => a * b) ?_ ?_
    · rw [pay6_apply]
      refine congrArg₂ (fun a b : EReal => a * b) (Finset.sum_congr (M := EReal) rfl fun j _ => congrArg₂ (· * ·) (blk0 m c t r j) (blk6 m c t k j)) ?_
      exact Finset.sum_congr (M := EReal) rfl fun j _ => congrArg₂ (· * ·) (blk1 m c t r j) (blk4 m c t k j)
    · have : k0_pay4 (F := Ideal) (View.ld (iblk m c 3 t) r0_6) (ix2 r k) = sg (m ((c : Thread nD τ).loc main_arg3) (ix2 (row t r) (lo k))) := by
        rw [pay4_apply, ldLo, blk3]
      exact congrArg (fun z : EReal => z * (one - z)) this

end Cert.GateProof

end
-- ==== Proof.GateClaims.lean ====
module

public import proofs.«01_k».proof.Proof.Gen.Gate.Frame
public import proofs.«01_k».proof.Proof.Gate
public import proofs.«01_k».proof.Defs

@[expose] public section

noncomputable section

namespace Cert.Proof.GateClaims

open Idealize.ShloMosaic Idealize.ShloMosaic.TcCoe Idealize.SL.Sem

theorem frame_p : Cert.quiescent_Gate := fun m ρ _ => Cert.Gate.Gen.frame m ρ
theorem frame_pi : Cert.quiescent_GateIdeal := fun m ρ _ => Cert.GateIdeal.Gen.frame m ρ
theorem frame_ri : Cert.quiescent_GateRefIdeal := fun m ρ _ =>
  (θ_run Cert.GateRefIdeal.defs _ _).mono (fun r h => ⟨fun c => (h c).2.2.2.2.2,
      Idealize.ShloMosaic.sem_eq_zero_of_no_sems (by decide) r.2⟩)
    (Cert.GateRefIdeal.Value.run (F := Ideal) m ρ)

open Cert.GateIdeal Cert.GateIdeal.Gen in
theorem algebraic : Cert.algebraic_GateIdeal_GateRefIdeal := fun m g m' g' _ hm => by
  refine ⟨fun c => (dats m 0 c).arrAt 7 cfg0.N, fun c => (dats m 0 c).arrAt 8 cfg0.N, fun c => (dats m 0 c).arrAt 9 cfg0.N,
    fun c => (dats m 0 c).arrAt 10 cfg0.N, fun c => (dats m 0 c).arrAt 11 cfg0.N, ?_, ?_⟩
  · refine (θ_run _ _ _).mono (fun r h c => ?_) (Cert.GateIdeal.Value.run_blocks (F := Ideal) m g)
    obtain ⟨h0, h1, h2, h3, h4, -, ha⟩ := h c
    exact ⟨h0, h1, h2, h3, h4, ha⟩
  · refine (θ_run _ _ _).mono (fun r h c => ?_) (Cert.GateRefIdeal.Value.run (F := Ideal) m' g')
    obtain ⟨h0, h1, h2, h3, h4, ha⟩ := h c
    obtain ⟨e0, e1, e2, e3, e4, e5, e6⟩ := hm c
    refine ⟨h0.trans ?_, h1.trans ?_, h2.trans ?_, h3.trans ?_, h4.trans ?_, ha⟩
    all_goals try rw [e0]
    all_goals try rw [e1]
    all_goals try rw [e2]
    all_goals try rw [e3]
    all_goals try rw [e4]
    all_goals try rw [e5]
    all_goals try rw [e6]
    · exact (Cert.GateProof.final7 m c).symm
    · exact (Cert.GateProof.final8 m c).symm
    · exact (Cert.GateProof.final9 m c).symm
    · exact (Cert.GateProof.final10 m c).symm
    · exact (Cert.GateProof.final11 m c).symm

end Cert.Proof.GateClaims

end
-- ==== Proof.StickIdealBody.lean ====
/-
  The body of the stick-breaking backward kernel, run once at symbolic operands.

  A block of queries walks the key chunks backward from the diagonal (the printed `while`), then forward again over the
  chunks it walked (the counted loop). The walk never passes chunk zero, so every chunk it names is inside the arrays.
-/
module

public import proofs.«01_k».proof.Proof.Gen.StickIdeal.Launch
public import proofs.«01_k».proof.Proof.Gen.StickIdeal.Skeleton
public import proofs.«01_k».proof.Proof.Gen.StickIdeal.Points
public import proofs.«01_k».proof.Proof.Gen.StickIdeal.Loops
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.StickIdealProof

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A memref's buffer on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The walk's next chunk is inside the arrays, while it has not reached chunk zero. -/
theorem chk1_lt : ∀ (t : Fin grid0.N) (b : Fin 8), b.val < ((grid0.coords t) 2).val → k0_chk1 (grid0.coords t) (BitVec.ofNat 32 b.val) := by
  decide +kernel

/-- Every chunk walked, up to the whole row of them, is inside the arrays. -/
theorem chk2_le : ∀ (t : Fin grid0.N) (b : Fin 8), b.val ≤ ((grid0.coords t) 2).val → k0_chk2 (grid0.coords t) (BitVec.ofNat 32 b.val) := by
  decide +kernel

/-- The walk's condition is false at chunk zero. -/
theorem cond_end {n k : ℕ} (h : n = k) {b : BitVec 1} : ¬ (Scalar.andi (Scalar.cmpi .slt (BitVec.ofNat 32 n) (BitVec.ofNat 32 k)) b = 1#1) := by
  subst h
  rw [show Scalar.cmpi .slt (BitVec.ofNat 32 n) (BitVec.ofNat 32 n) = 0#1 from by simp [Scalar.cmpi, IntOp.cmpi, BitVec.slt]]
  revert b; decide

/-- The walk's label is the walk. -/
theorem defs_walk (a : Cc0While1 F) : defs₀ (F := F) .tc 1 a
    = cc0_while1 a.i a.arg4 a.harg4 a.v20 a.arg12 a.harg12 a.arg13 a.harg13 a.arg14 a.arg15 a.arg16 := by
  unfold defs₀; rw [Defs.onTc_tc]

/-- The walk from chunk offset `n` on: it returns, with an offset no larger than the query block's index, the keys as they
    were and the two scratch buffers at something. By induction on the chunks left. -/
theorem while_spec (c : Dev nD) (E : Set ℕ) (tp : Fin grid0.N)
    (arg4 : Memref sig .tc .vmem S1x2048x128 .bf16) (harg4 : arg4.IsWhole) (v20 : FVec F S512x128 .bf16)
    (arg12 : Memref sig .tc .vmem S8x512x256 .f32) (harg12 : arg12.IsWhole)
    (arg13 : Memref sig .tc .vmem S8x512x256 .f32) (harg13 : arg13.IsWhole) (f4 : Bf (F := F) c arg4) :
    ∀ (k n : ℕ), n + k = ((grid0.coords tp) 2).val → ∀ (al : BitVec 32) (run : FVec F S512x1 .f32)
      (Q : BitVec 32 × BitVec 32 × FVec F S512x1 .f32 → sProp 𝕄),
      iprop(pt c arg4 f4 ∗ (∃ f, pt c arg12 f) ∗ (∃ f, pt c arg13 f)
        ∗ (∀ (n' : ℕ) (al' : BitVec 32) (run' : FVec F S512x1 .f32), ⌜n' ≤ ((grid0.coords tp) 2).val⌝ -∗
            (pt c arg4 f4 ∗ (∃ f, pt c arg12 f) ∗ (∃ f, pt c arg13 f)) -∗ Q (BitVec.ofNat 32 n', al', run')))
      ⊢ wp frame (wpE (defs₀ (F := F)) Variants.nat c (some k)) E
          (cc0_while1 (grid0.coords tp) arg4 harg4 v20 arg12 harg12 arg13 harg13 (BitVec.ofNat 32 n) al run) Q := by
  intro k
  induction k with
  | zero =>
    intro n hn al run Q
    rw [cc0_while1_eq_skeleton]; unfold cc0_while1_skel
    have h0 : ¬ (Scalar.andi (Scalar.cmpi .slt (BitVec.ofNat 32 n) (BitVec.ofNat 32 ((grid0.coords tp) 2).val)) (Scalar.cmpi .sgt al 0#32) = 1#1) :=
      cond_end (by omega)
    iintro ⟨H4, H12, H13, Hk⟩
    sl_exec
    sl_step
    iapply Hk $$ %n %al %run %(by omega)
    isplitl [H4]; · iexact H4
    isplitl [H12]; · iexact H12
    iexact H13
  | succ k ih =>
    intro n hn al run Q
    rw [cc0_while1_eq_skeleton]; unfold cc0_while1_skel
    have hlt : n < ((grid0.coords tp) 2).val := by omega
    have h8 : ((grid0.coords tp) 2).val < 8 := ((grid0.coords tp) 2).isLt
    have hchk : k0_chk1 (grid0.coords tp) (BitVec.ofNat 32 n) := chk1_lt tp ⟨n, by omega⟩ hlt
    iintro ⟨H4, ⟨%f12, H12⟩, ⟨%f13, H13⟩, Hk⟩
    by_cases h0 : Scalar.andi (Scalar.cmpi .slt (BitVec.ofNat 32 n) (BitVec.ofNat 32 ((grid0.coords tp) 2).val)) (Scalar.cmpi .sgt al 0#32) = 1#1
    · sl_exec (disch := first | exact hchk | exact h0)
      iapply (wp_call_spec Variants.nat (c : Thread nD τ) _ E (wp _ (wpE (defs₀ (F := F)) Variants.nat c (some k)) E _) k (fun u hu => by cases hu; exact Nat.lt_succ_self k) le_rfl)
      rw [defs_walk, show while_spec.sl.v216 n = BitVec.ofNat 32 (n + 1) from (BitVec.ofNat_add n 1).symm]
      iapply (ih (n+1) (by omega) _ _ _)
      isplitl [H4]; · iexact H4
      isplitl [H12]; · iexists _; iexact H12
      isplitl [H13]; · iexists _; iexact H13
      iintro %n' %al' %run' %hn' Hs
      rw [wp_ret]
      imodintro
      iapply Hk $$ %n' %al' %run' %hn'
      iexact Hs
    · sl_exec (disch := first | exact hchk | exact h0)
      sl_step
      iapply Hk $$ %n %al %run %(by omega)
      isplitl [H4]; · iexact H4
      isplitl [H12]; · iexists _; iexact H12
      iexists _; iexact H13

/-- The remainder loop makes no trip. -/
theorem trips2 (t : Fin grid0.N) (n : ℕ) (h : n ≤ ((grid0.coords t) 2).val) : (k0_t2_loop (grid0.coords t) (BitVec.ofNat 32 n)).trips = 0 :=
  (by decide +kernel : ∀ (t : Fin grid0.N) (b : Fin 8), b.val ≤ ((grid0.coords t) 2).val →
    (k0_t2_loop (grid0.coords t) (BitVec.ofNat 32 b.val)).trips = 0) t ⟨n, lt_of_le_of_lt h ((grid0.coords t) 2).isLt⟩ h

/-- Between two chunks of the forward pass: the inputs and the walked scratch as they were, the two accumulators at
    something. -/
def loopInv (c : Dev nD) (arg4 : Memref sig .tc .vmem S1x2048x128 .bf16) (arg5 : Memref sig .tc .vmem S1x2048x128 .bf16)
    (arg10 : Memref sig .tc .vmem S2048x128 .f32) (arg11 : Memref sig .tc .vmem S2048x128 .f32)
    (arg12 : Memref sig .tc .vmem S8x512x256 .f32) (arg13 : Memref sig .tc .vmem S8x512x256 .f32)
    (f4 : Bf (F := F) c arg4) (f5 : Bf (F := F) c arg5) (g12 : Bf (F := F) c arg12) (g13 : Bf (F := F) c arg13)
    (_ : ℕ) (_ : FVec F S512x128 .f32 × FVec F S512x1 .f32 × FVec F S512x1 .f32) : sProp 𝕄 :=
  iprop(pt c arg4 f4 ∗ pt c arg5 f5 ∗ (∃ f, pt c arg10 f) ∗ (∃ f, pt c arg11 f) ∗ pt c arg12 g12 ∗ pt c arg13 g13)

set_option maxHeartbeats 4000000 in
/-- The body at a grid point, from its buffers held whole: it runs to its return, the four input buffers as they were and
    the outputs' and the scratch buffers at something. -/
theorem body_run (c : Dev nD) (E : Set ℕ) (tp : Fin grid0.N)
    (arg3 : Memref sig .tc .vmem S1x256x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x256x128 .bf16) (harg6 : arg6.IsWhole)
    (arg7 : Memref sig .tc .vmem S1x256x128 .bf16) (harg7 : arg7.IsWhole)
    (arg8 : Memref sig .tc .vmem S1x2048x128 .bf16) (harg8 : arg8.IsWhole)
    (arg9 : Memref sig .tc .vmem S1x2048x128 .bf16) (harg9 : arg9.IsWhole)
    (arg10 : Memref sig .tc .vmem S2048x128 .f32) (harg10 : arg10.IsWhole)
    (arg11 : Memref sig .tc .vmem S2048x128 .f32) (harg11 : arg11.IsWhole)
    (arg12 : Memref sig .tc .vmem S8x512x256 .f32) (harg12 : arg12.IsWhole)
    (arg13 : Memref sig .tc .vmem S8x512x256 .f32) (harg13 : arg13.IsWhole)
    (f3 : Bf (F := F) c arg3) (f4 : Bf (F := F) c arg4) (f5 : Bf (F := F) c arg5) (f6 : Bf (F := F) c arg6) (Q : PUnit → sProp 𝕄) :
    iprop(pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f)
      ∗ ((pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f)) -∗ Q ⟨⟩))
    ⊢ wp frame (wpE (defs₀ (F := F)) Variants.nat c none) E
        (cc0_sb_bwd (grid0.coords tp) arg3 harg3 arg4 harg4 arg5 harg5 arg6 harg6 arg7 harg7 arg8 harg8 arg9 harg9 arg10 harg10 arg11 harg11 arg12 harg12 arg13 harg13) Q := by
  simp only [cc0_sb_bwd_eq_skeleton]; unfold cc0_sb_bwd_skel
  simp only [k0_part3_eq_skeleton, k0_part4_eq_skeleton, k0_part5_eq_skeleton, k0_part6_eq_skeleton]
  iintro ⟨H3, H4, H5, H6, ⟨%f7, H7⟩, ⟨%f8, H8⟩, ⟨%f9, H9⟩, ⟨%f10, H10⟩, ⟨%f11, H11⟩, ⟨%f12, H12⟩, ⟨%f13, H13⟩, Hk⟩
  sl_exec
  iapply (wp_call_spec Variants.nat (c : Thread nD τ) _ E (wp _ (wpE (defs₀ (F := F)) Variants.nat c (some ((grid0.coords tp) 2).val)) E _) ((grid0.coords tp) 2).val (fun u hu => by cases hu) le_rfl)
  rw [defs_walk]
  iapply (while_spec c E tp arg4 harg4 _ arg12 harg12 arg13 harg13 f4 ((grid0.coords tp) 2).val 0 (Nat.zero_add _) _ _ _)
  isplitl [H4]; · iexact H4
  isplitl [H12]; · iexists _; iexact H12
  isplitl [H13]; · iexists _; iexact H13
  iintro %n %al %run %hn ⟨H4, ⟨%g12, H12⟩, ⟨%g13, H13⟩⟩
  have hchk : k0_chk2 (grid0.coords tp) (BitVec.ofNat 32 n) :=
    chk2_le tp ⟨n, lt_of_le_of_lt hn ((grid0.coords tp) 2).isLt⟩ hn
  have htr2 := trips2 tp n hn
  by_cases h2 : k0_cond2 (grid0.coords tp) = 1#1
  all_goals
    by_cases h0 : Scalar.cmpi .ne (Scalar.extui (Scalar.cmpi .eq (BitVec.ofNat 32 ((grid0.coords tp) 2).val) 0#32)) 0#32 = 1#1
    all_goals
      sl_exec (disch := first | exact hchk | exact h0)
      sl_for (loopInv c arg4 arg5 arg10 arg11 arg12 arg13 f4 f5 g12 g13) $$ [H4 H5 H10 H11 H12 H13]
      case region =>
        intro k acc
        unfold loopInv
        iintro ⟨H4, H5, ⟨%f10, H10⟩, ⟨%f11, H11⟩, H12, H13⟩
        sl_exec
        sl_step
        isplitl [H4]; · iexact H4
        isplitl [H5]; · iexact H5
        isplitl [H10]; · iexists _; iexact H10
        isplitl [H11]; · iexists _; iexact H11
        isplitl [H12]; · iexact H12
        iexact H13
      · unfold loopInv
        isplitl [H4]; · iexact H4
        isplitl [H5]; · iexact H5
        isplitl [H10]; · iexists _; iexact H10
        isplitl [H11]; · iexists _; iexact H11
        isplitl [H12]; · iexact H12
        iexact H13
      iintro %acc HI
      obtain ⟨acc1, acc2, acc3⟩ := acc
      dsimp only
      unfold loopInv
      icases HI with ⟨H4, H5, ⟨%e10, H10⟩, ⟨%e11, H11⟩, H12, H13⟩
      sl_exec (disch := first | exact hchk | exact h0 | exact h2)
      sl_step
      iapply Hk
      isplitl [H3]; · iexact H3
      isplitl [H4]; · iexact H4
      isplitl [H5]; · iexact H5
      isplitl [H6]; · iexact H6
      isplitl [H7]; · iexists _; iexact H7
      isplitl [H8]; · iexists _; iexact H8
      isplitl [H9]; · iexists _; iexact H9
      isplitl [H10]; · iexists _; iexact H10
      isplitl [H11]; · iexists _; iexact H11
      isplitl [H12]; · iexists _; iexact H12
      iexists _; iexact H13

end Cert.StickIdealProof

end
-- ==== Proof.StickIdealFrame.lean ====
/-
  The launch of the stick-breaking backward kernel: from any memory with zero counters it runs, its argument arrays end as
  they were, and every counter is back at zero. The three outputs' contents are not named here.
-/
module

public import proofs.«01_k».proof.Proof.StickIdealBody

@[expose] public section

set_option maxRecDepth 16384

noncomputable section

namespace Cert.StickIdealProof

open Cert.StickIdeal Cert.StickIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The arrays as launched, and each window's block of its array at a point. -/
abbrev V (c : Dev nD) (b : Ref sig .tc) : Buf (Elt F) ((c : Thread nD τ).loc b) := m ((c : Thread nD τ).loc b)

def iblk (c : Dev nD) (w : Fin (cfg0 (F := F)).W) (t : Fin (cfg0 (F := F)).N) : (((cfg0 (F := F)).win w).xblock ((cfg0 (F := F)).grid.coords t)).Idx → Elt F (cfg0.win w).elt :=
  (((cfg0 (F := F)).win w).blk t).view.read (Elt F) (V m c (Pipeline.arrRef spec0 w))

/-- The proof data: inputs at their blocks after the body, outputs unnamed, the scratch buffers and the generator register
    at something between points. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, h⟩ => Dat.unnamed ⟨4, h⟩ t
    | ⟨5, h⟩ => Dat.unnamed ⟨5, h⟩ t
    | ⟨6, h⟩ => Dat.unnamed ⟨6, h⟩ t
  Φ _ := Pipeline.ΦA spec0 c
  q w := Pipeline.shareOf spec0 w
  owed _ := 0

/-- The windows whose contents the claim does not name: the three outputs. -/
def fgt : Fin (cfg0 (F := F)).W → Bool
  | ⟨0, _⟩ => false
  | ⟨1, _⟩ => false
  | ⟨2, _⟩ => false
  | ⟨3, _⟩ => false
  | ⟨4, _⟩ => true
  | ⟨5, _⟩ => true
  | ⟨6, _⟩ => true

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfg0 (F := F)).N) : (dats m 0 c).after 1 t = iblk m c 1 t := rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfg0 (F := F)).N) : (dats m 0 c).after 2 t = iblk m c 2 t := rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem after_3 (c : Dev nD) (t : Fin (cfg0 (F := F)).N) : (dats m 0 c).after 3 t = iblk m c 3 t := rfl
theorem before_3 (c : Dev nD) (t : Fin (cfg0 (F := F)).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- What the body is called with at a point, and what it returns: the windows one by one. -/
def bodyState (c : Dev nD) (t : Fin (cfg0 (F := F)).N) : sProp 𝕄 :=
  iprop(Pipeline.ΦA spec0 c ∗ (dats m 0 c).owesAt () t.castSucc
    ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t)
    ∗ (∃ X, owns (c : Thread nD τ) (st0_4 t) fullShare X) ∗ (∃ X, owns (c : Thread nD τ) (st0_5 t) fullShare X) ∗ (∃ X, owns (c : Thread nD τ) (st0_6 t) fullShare X))

/-- `body_run` over what the staging buffers read as. -/
theorem sound_kernel (c : Dev nD) (E : Set ℕ) (tp : Fin grid0.N)
    (arg3 : Memref sig .tc .vmem S1x256x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x256x128 .bf16) (harg6 : arg6.IsWhole)
    (arg7 : Memref sig .tc .vmem S1x256x128 .bf16) (harg7 : arg7.IsWhole)
    (arg8 : Memref sig .tc .vmem S1x2048x128 .bf16) (harg8 : arg8.IsWhole)
    (arg9 : Memref sig .tc .vmem S1x2048x128 .bf16) (harg9 : arg9.IsWhole)
    (arg10 : Memref sig .tc .vmem S2048x128 .f32) (harg10 : arg10.IsWhole)
    (arg11 : Memref sig .tc .vmem S2048x128 .f32) (harg11 : arg11.IsWhole)
    (arg12 : Memref sig .tc .vmem S8x512x256 .f32) (harg12 : arg12.IsWhole)
    (arg13 : Memref sig .tc .vmem S8x512x256 .f32) (harg13 : arg13.IsWhole)
    (x3 : Vec F S1x256x128 .bf16) (x4 : Vec F S1x2048x128 .bf16) (x5 : Vec F S1x2048x128 .bf16) (x6 : Vec F S1x256x128 .bf16) (Q : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ f, pt c arg10 f) ∗ (∃ f, pt c arg11 f) ∗ (∃ f, pt c arg12 f) ∗ (∃ f, pt c arg13 f) ∗ ((owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ (∃ f, pt c arg10 f) ∗ (∃ f, pt c arg11 f) ∗ (∃ f, pt c arg12 f) ∗ (∃ f, pt c arg13 f)) -∗ Q ⟨⟩))
    ⊢ wp frame (wpE (defs₀ (F := F)) Variants.nat c none) E
        (cc0_sb_bwd (grid0.coords tp) arg3 harg3 arg4 harg4 arg5 harg5 arg6 harg6 arg7 harg7 arg8 harg8 arg9 harg9 arg10 harg10 arg11 harg11 arg12 harg12 arg13 harg13) Q := by
  unfold owns
  simp only [harg3.set_eq_univ, harg4.set_eq_univ, harg5.set_eq_univ, harg6.set_eq_univ, harg7.set_eq_univ, harg8.set_eq_univ, harg9.set_eq_univ]
  iintro ⟨⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, H10, H11, H12, H13, Hk⟩
  iapply (body_run c E tp arg3 harg3 arg4 harg4 arg5 harg5 arg6 harg6 arg7 harg7 arg8 harg8 arg9 harg9 arg10 harg10 arg11 harg11 arg12 harg12 arg13 harg13 f3 f4 f5 f6 Q)
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexact H10
  isplitl [H11]; · iexact H11
  isplitl [H12]; · iexact H12
  isplitl [H13]; · iexact H13
  iintro ⟨H3, H4, H5, H6, ⟨%e7, H7⟩, ⟨%e8, H8⟩, ⟨%e9, H9⟩, H10, H11, H12, H13⟩
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; iexists _; isplitr; swap; · iexact H7
    ipureintro; rfl
  isplitl [H8]
  · iexists _; iexists _; isplitr; swap; · iexact H8
    ipureintro; rfl
  isplitl [H9]
  · iexists _; iexists _; isplitr; swap; · iexact H9
    ipureintro; rfl
  isplitl [H10]; · iexact H10
  isplitl [H11]; · iexact H11
  isplitl [H12]; · iexact H12
  iexact H13

set_option maxHeartbeats 1000000 in
theorem sound_body (c : Dev nD) (t : Fin (cfg0 (F := F)).N) :
    bodyState m c t ⊢ wp frame (wpE (defs₀ (F := F)) Variants.nat c none) Set.univ (bodyAt0 t) (fun _ => bodyState m c t) := by
  unfold bodyState bodyAt0 Pipeline.ΦA
  rw [scopedRest0_eq]
  iintro ⟨⟨⟨H10, H11, H12, H13⟩, Hg⟩, Ho, H3, H4, H5, H6, H7, H8, H9⟩
  iapply (sound_kernel c Set.univ t _ _ _ _ _ _ _ _ _ _ _ _ _ _ _ _ _ _ _ _ _ _ (iblk m c 0 t) (iblk m c 1 t) (iblk m c 2 t) (iblk m c 3 t) _)
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H3, H4, H5, H6, H7, H8, H9, H10, H11, H12, H13⟩
  isplitl [H10 H11 H12 H13 Hg]
  · isplitr [Hg]
    · isplitl [H10]; · iexact H10
      isplitl [H11]; · iexact H11
      isplitl [H12]; · iexact H12
      iexact H13
    · iexact Hg
  isplitl [Ho]; · iexact Ho
  isplitl [H3]; · iexact H3
  isplitl [H4]; · iexact H4
  isplitl [H5]; · iexact H5
  isplitl [H6]; · iexact H6
  isplitl [H7]; · iexact H7
  isplitl [H8]; · iexact H8
  iexact H9

theorem defs₀_row (t : Fin (cfg0 (F := F)).N) :
    defs₀ (F := F) .tc cfg0.body (cfg0.bodyArgs t (cfg0.slots t)) = bodyAt0 t := by
  unfold defs₀; rw [Defs.onTc_tc]

/-! An input's buffer at a point's start reads as the window's block of its array. -/

theorem entry_0 (c : Dev nD) (t : Fin (cfg0 (F := F)).N) (d) :
    (owns (c : Thread nD τ) (st0_0 t) fullShare ((dats (F := F) m 0 c).before 0 t d) : sProp 𝕄) ⊢ owns (c : Thread nD τ) (st0_0 t) fullShare (iblk m c 0 t) := by
  have e := before_0 m c t d
  exact (congrArg (fun X => (owns (c : Thread nD τ) (st0_0 t) fullShare X : sProp 𝕄)) e) ▸ .rfl
theorem entry_1 (c : Dev nD) (t : Fin (cfg0 (F := F)).N) (d) :
    (owns (c : Thread nD τ) (st0_1 t) fullShare ((dats (F := F) m 0 c).before 1 t d) : sProp 𝕄) ⊢ owns (c : Thread nD τ) (st0_1 t) fullShare (iblk m c 1 t) := by
  have e := before_1 m c t d
  exact (congrArg (fun X => (owns (c : Thread nD τ) (st0_1 t) fullShare X : sProp 𝕄)) e) ▸ .rfl
theorem entry_2 (c : Dev nD) (t : Fin (cfg0 (F := F)).N) (d) :
    (owns (c : Thread nD τ) (st0_2 t) fullShare ((dats (F := F) m 0 c).before 2 t d) : sProp 𝕄) ⊢ owns (c : Thread nD τ) (st0_2 t) fullShare (iblk m c 2 t) := by
  have e := before_2 m c t d
  exact (congrArg (fun X => (owns (c : Thread nD τ) (st0_2 t) fullShare X : sProp 𝕄)) e) ▸ .rfl
theorem entry_3 (c : Dev nD) (t : Fin (cfg0 (F := F)).N) (d) :
    (owns (c : Thread nD τ) (st0_3 t) fullShare ((dats (F := F) m 0 c).before 3 t d) : sProp 𝕄) ⊢ owns (c : Thread nD τ) (st0_3 t) fullShare (iblk m c 3 t) := by
  have e := before_3 m c t d
  exact (congrArg (fun X => (owns (c : Thread nD τ) (st0_3 t) fullShare X : sProp 𝕄)) e) ▸ .rfl

/-- The body obligation at every point. -/
theorem body_obligation (c : Dev nD) : BodyObligationLoose (dats (F := F) m 0 c) (defs₀ (F := F)) Variants.nat () Set.univ fgt := fun t => by
  rw [bigSep_W0, bigSep_W0, defs₀_row]
  refine triple_restated (sound_body m c t) rfl ?_ fun _ => ?_
  · unfold bodyState
    rw [show (dats m 0 c).Φ t.castSucc = Pipeline.ΦA spec0 c from rfl]
    simp only [fgt]
    iintro ⟨HΦ, Ho, ⟨%d0, H0⟩, ⟨%d1, H1⟩, ⟨%d2, H2⟩, ⟨%d3, H3⟩, H4, H5, H6⟩
    isplitl [HΦ]; · iexact HΦ
    isplitl [Ho]; · iexact Ho
    isplitl [H0]; · iapply (entry_0 m c t d0); iexact H0
    isplitl [H1]; · iapply (entry_1 m c t d1); iexact H1
    isplitl [H2]; · iapply (entry_2 m c t d2); iexact H2
    isplitl [H3]; · iapply (entry_3 m c t d3); iexact H3
    isplitl [H4]; · iexact H4
    isplitl [H5]; · iexact H5
    iexact H6
  · exact .rfl

set_option backward.isDefEq.respectTransparency.types false in
set_option maxHeartbeats 800000 in
/-- The frame: every argument array ends as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_frame_forget_shared cfgs (dats m) (0 : Fin 1) launch₀0 defs₀ Variants.nat fgt m ρ main
    (hbody := body_obligation m) (hq := fun _ _ _ => rfl) (howed := fun _ _ => rfl) (V := V m)
    (hmain := Pipeline.hmain_region cfgs 0 defs₀ Variants.nat m main (fun c => (main_chain c).trans rfl))
    (hA := fun _ _ => rfl) (hΦ := fun _ _ => rfl)
    (Q' := _) (hQ' := fun r h => ⟨fun c => ⟨Pipeline.RDat.FramePost.arr_in h.1 c 0 rfl, Pipeline.RDat.FramePost.arr_in h.1 c 3 rfl⟩, h.2⟩)

end Cert.StickIdealProof

end
-- ==== Proof.StickFwdIdealFrame.lean ====
/-
  The stick-breaking forward kernel, idealised: from any memory with zero counters it runs, its argument array ends as
  it was, and every counter is back at zero. The output's contents are not named here.

  A block of queries attends to the diagonal chunk of keys and walks the chunks before it backward (the printed `while`).
  The walk never passes chunk zero, so every chunk it names is inside the arrays.
-/
module

public import proofs.«01_k».proof.Proof.Gen.StickFwdIdeal.Launch
public import proofs.«01_k».proof.Proof.Gen.StickFwdIdeal.Skeleton
public import proofs.«01_k».proof.Proof.Gen.StickFwdIdeal.Points
public import Idealize.ShloMosaic.Lib.Pipeline.FrameBody
public import Idealize.ShloMosaic.Lib.Claim
public import Idealize.ShloMosaic.Lib.Ring
public import Idealize.ShloMosaic.Lib.Tactic
public import Idealize.ShloMosaic.Lib.WordCmp

@[expose] public section

set_option maxRecDepth 16384

noncomputable section

namespace Cert.StickFwdIdealProof

open Cert.StickFwdIdeal Cert.StickFwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

/-- A memref's buffer on core `c`, and that buffer held whole. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) :
    sProp (MT nD τ sig Unit (Elt F) ℕ (UR sig nD τ) ℕ) :=
  M.view.loc (c : Thread nD τ) ↦{fullShare} f

/-- The walk's next chunk is inside the arrays, while it has not reached chunk zero. -/
theorem chk1_lt : ∀ (t : Fin grid0.N) (b : Fin 8), b.val < ((grid0.coords t) 2).val → k0_chk1 (grid0.coords t) (BitVec.ofNat 32 b.val) := by
  decide +kernel

/-- The walk's condition is false at chunk zero. -/
theorem cond_end {n k : ℕ} (h : n = k) {b : BitVec 1} : ¬ (Scalar.andi (Scalar.cmpi .slt (BitVec.ofNat 32 n) (BitVec.ofNat 32 k)) b = 1#1) := by
  subst h
  rw [show Scalar.cmpi .slt (BitVec.ofNat 32 n) (BitVec.ofNat 32 n) = 0#1 from by simp [Scalar.cmpi, IntOp.cmpi, BitVec.slt]]
  revert b; decide

/-- The walk's label is the walk. -/
theorem defs_walk (a : Cc0While1 F) : defs₀ (F := F) .tc 1 a
    = cc0_while1 a.i a.arg4 a.harg4 a.v16 a.v5 a.arg5 a.harg5 a.arg7 a.arg8 a.arg9 a.arg10 := by
  unfold defs₀; rw [Defs.onTc_tc]

/-- The walk from chunk offset `n` on: it returns, with the keys and the values as they were. By induction on the chunks
    left. -/
theorem while_spec (c : Dev nD) (E : Set ℕ) (tp : Fin grid0.N)
    (arg4 : Memref sig .tc .vmem S1x2048x128 .bf16) (harg4 : arg4.IsWhole) (v16 : FVec F S512x128 .bf16) (v5 : FVec F S128x128 .bf16)
    (arg5 : Memref sig .tc .vmem S1x2048x128 .bf16) (harg5 : arg5.IsWhole) (f4 : Bf (F := F) c arg4) (f5 : Bf (F := F) c arg5) :
    ∀ (k n : ℕ), n + k = ((grid0.coords tp) 2).val → ∀ (al : BitVec 32) (acc : FVec F S512x128 .f32) (run : FVec F S512x1 .f32)
      (Q : BitVec 32 × BitVec 32 × FVec F S512x128 .f32 × FVec F S512x1 .f32 → sProp (MT nD τ sig Unit (Elt F) ℕ (UR sig nD τ) ℕ)),
      iprop(pt c arg4 f4 ∗ pt c arg5 f5
        ∗ (∀ (r : BitVec 32 × BitVec 32 × FVec F S512x128 .f32 × FVec F S512x1 .f32), (pt c arg4 f4 ∗ pt c arg5 f5) -∗ Q r))
      ⊢ wp frame (wpE (defs₀ (F := F)) Variants.nat c (some k)) E
          (cc0_while1 (grid0.coords tp) arg4 harg4 v16 v5 arg5 harg5 (BitVec.ofNat 32 n) al acc run) Q := by
  intro k
  induction k with
  | zero =>
    intro n hn al acc run Q
    rw [cc0_while1_eq_skeleton]; unfold cc0_while1_skel
    have h0 : ¬ (Scalar.andi (Scalar.cmpi .slt (BitVec.ofNat 32 n) (BitVec.ofNat 32 ((grid0.coords tp) 2).val)) (Scalar.cmpi .sgt al 0#32) = 1#1) :=
      cond_end (by omega)
    iintro ⟨H4, H5, Hk⟩
    sl_exec
    sl_step
    iapply Hk $$ %(BitVec.ofNat 32 n, al, acc, run)
    isplitl [H4]; · iexact H4
    iexact H5
  | succ k ih =>
    intro n hn al acc run Q
    rw [cc0_while1_eq_skeleton]; unfold cc0_while1_skel
    simp only [k0_part3_eq_skeleton]
    have hlt : n < ((grid0.coords tp) 2).val := by omega
    have h8 : ((grid0.coords tp) 2).val < 8 := ((grid0.coords tp) 2).isLt
    have hchk : k0_chk1 (grid0.coords tp) (BitVec.ofNat 32 n) := chk1_lt tp ⟨n, by omega⟩ hlt
    iintro ⟨H4, H5, Hk⟩
    by_cases h0 : Scalar.andi (Scalar.cmpi .slt (BitVec.ofNat 32 n) (BitVec.ofNat 32 ((grid0.coords tp) 2).val)) (Scalar.cmpi .sgt al 0#32) = 1#1
    · sl_exec (disch := first | exact hchk | exact h0)
      iapply (wp_call_spec Variants.nat (c : Thread nD τ) _ E (wp _ (wpE (defs₀ (F := F)) Variants.nat c (some k)) E _) k (fun u hu => by cases hu; exact Nat.lt_succ_self k) le_rfl)
      rw [defs_walk, show Scalar.addi (BitVec.ofNat 32 n) 1#32 = BitVec.ofNat 32 (n + 1) from (BitVec.ofNat_add n 1).symm]
      iapply (ih (n+1) (by omega) _ _ _ _)
      isplitl [H4]; · iexact H4
      isplitl [H5]; · iexact H5
      iintro %r Hs
      rw [wp_ret]
      imodintro
      iapply Hk $$ %r
      iexact Hs
    · sl_exec (disch := first | exact hchk | exact h0)
      sl_step
      iapply Hk $$ %(BitVec.ofNat 32 n, al, acc, run)
      isplitl [H4]; · iexact H4
      iexact H5

set_option maxHeartbeats 4000000 in
/-- The body at a grid point, from its buffers held whole: it runs to its return, the three input buffers as they were and
    the output's at something. -/
theorem body_run (c : Dev nD) (E : Set ℕ) (tp : Fin grid0.N)
    (arg3 : Memref sig .tc .vmem S1x256x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x256x128 .bf16) (harg6 : arg6.IsWhole)
    (f3 : Bf (F := F) c arg3) (f4 : Bf (F := F) c arg4) (f5 : Bf (F := F) c arg5) (Q : PUnit → sProp (MT nD τ sig Unit (Elt F) ℕ (UR sig nD τ) ℕ)) :
    iprop(pt c arg3 f3 ∗ pt c arg4 f4 ∗ pt c arg5 f5 ∗ (∃ f, pt c arg6 f)
      ∗ ((pt c arg3 f3 ∗ pt c arg4 f4 ∗ pt c arg5 f5 ∗ (∃ f, pt c arg6 f)) -∗ Q ⟨⟩))
    ⊢ wp frame (wpE (defs₀ (F := F)) Variants.nat c none) E
        (cc0_sb_fwd (grid0.coords tp) arg3 harg3 arg4 harg4 arg5 harg5 arg6 harg6) Q := by
  simp only [cc0_sb_fwd_eq_skeleton]; unfold cc0_sb_fwd_skel
  simp only [k0_part1_eq_skeleton, k0_part2_eq_skeleton]
  iintro ⟨H3, H4, H5, ⟨%f6, H6⟩, Hk⟩
  sl_exec
  iapply (wp_call_spec Variants.nat (c : Thread nD τ) _ E (wp _ (wpE (defs₀ (F := F)) Variants.nat c (some ((grid0.coords tp) 2).val)) E _) ((grid0.coords tp) 2).val (fun u hu => by cases hu) le_rfl)
  rw [defs_walk]
  iapply (while_spec c E tp arg4 harg4 _ _ arg5 harg5 f4 f5 ((grid0.coords tp) 2).val 0 (Nat.zero_add _) _ _ _ _)
  isplitl [H4]; · iexact H4
  isplitl [H5]; · iexact H5
  iintro %r ⟨H4, H5⟩
  obtain ⟨r1, r2, r3, r4⟩ := r
  sl_exec
  sl_step
  iapply Hk
  isplitl [H3]; · iexact H3
  isplitl [H4]; · iexact H4
  isplitl [H5]; · iexact H5
  iexists _; iexact H6

variable (m : (ℓ : Loc nD τ sig) → Buf (Elt F) ℓ) (ρ : Dev nD → PrngReg)

/-- The arrays as launched, and each window's block of its array at a point. -/
abbrev V (c : Dev nD) (b : Ref sig .tc) : Buf (Elt F) ((c : Thread nD τ).loc b) := m ((c : Thread nD τ).loc b)

def iblk (c : Dev nD) (w : Fin (cfg0 (F := F)).W) (t : Fin (cfg0 (F := F)).N) : (((cfg0 (F := F)).win w).xblock ((cfg0 (F := F)).grid.coords t)).Idx → Elt F (cfg0.win w).elt :=
  (((cfg0 (F := F)).win w).blk t).view.read (Elt F) (V m c (Pipeline.arrRef spec0 w))

/-- The proof data: inputs at their blocks after the body, the output unnamed. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed ⟨3, h⟩ t
  Φ _ := Pipeline.ΦA spec0 c
  q w := Pipeline.shareOf spec0 w
  owed _ := 0

/-- The window whose contents the claim does not name: the output. -/
def fgt : Fin (cfg0 (F := F)).W → Bool
  | ⟨0, _⟩ => false
  | ⟨1, _⟩ => false
  | ⟨2, _⟩ => false
  | ⟨3, _⟩ => true

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = iblk m c 0 t := rfl
theorem before_0 (c : Dev nD) (t : Fin (cfg0 (F := F)).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem after_1 (c : Dev nD) (t : Fin (cfg0 (F := F)).N) : (dats m 0 c).after 1 t = iblk m c 1 t := rfl
theorem before_1 (c : Dev nD) (t : Fin (cfg0 (F := F)).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem after_2 (c : Dev nD) (t : Fin (cfg0 (F := F)).N) : (dats m 0 c).after 2 t = iblk m c 2 t := rfl
theorem before_2 (c : Dev nD) (t : Fin (cfg0 (F := F)).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)

/-- What the body is called with at a point, and what it returns: the windows one by one. -/
def bodyState (c : Dev nD) (t : Fin (cfg0 (F := F)).N) : sProp (MT nD τ sig Unit (Elt F) ℕ (UR sig nD τ) ℕ) :=
  iprop(Pipeline.ΦA spec0 c ∗ (dats m 0 c).owesAt () t.castSucc
    ∗ owns (c : Thread nD τ) (st0_0 t) fullShare (iblk m c 0 t) ∗ owns (c : Thread nD τ) (st0_1 t) fullShare (iblk m c 1 t) ∗ owns (c : Thread nD τ) (st0_2 t) fullShare (iblk m c 2 t)
    ∗ (∃ X, owns (c : Thread nD τ) (st0_3 t) fullShare X))

/-- `body_run` over what the staging buffers read as. -/
theorem sound_kernel (c : Dev nD) (E : Set ℕ) (tp : Fin grid0.N)
    (arg3 : Memref sig .tc .vmem S1x256x128 .bf16) (harg3 : arg3.IsWhole)
    (arg4 : Memref sig .tc .vmem S1x2048x128 .bf16) (harg4 : arg4.IsWhole)
    (arg5 : Memref sig .tc .vmem S1x2048x128 .bf16) (harg5 : arg5.IsWhole)
    (arg6 : Memref sig .tc .vmem S1x256x128 .bf16) (harg6 : arg6.IsWhole)
    (x3 : Vec F S1x256x128 .bf16) (x4 : Vec F S1x2048x128 .bf16) (x5 : Vec F S1x2048x128 .bf16) (Q : PUnit → sProp (MT nD τ sig Unit (Elt F) ℕ (UR sig nD τ) ℕ)) :
    iprop(owns (c : Thread nD τ) arg3 fullShare x3 ∗ owns (c : Thread nD τ) arg4 fullShare x4 ∗ owns (c : Thread nD τ) arg5 fullShare x5 ∗ (∃ d, owns (c : Thread nD τ) arg6 fullShare d) ∗ ((owns (c : Thread nD τ) arg3 fullShare x3 ∗ owns (c : Thread nD τ) arg4 fullShare x4 ∗ owns (c : Thread nD τ) arg5 fullShare x5 ∗ (∃ d, owns (c : Thread nD τ) arg6 fullShare d)) -∗ Q ⟨⟩))
    ⊢ wp frame (wpE (defs₀ (F := F)) Variants.nat c none) E
        (cc0_sb_fwd (grid0.coords tp) arg3 harg3 arg4 harg4 arg5 harg5 arg6 harg6) Q := by
  unfold owns
  simp only [harg3.set_eq_univ, harg4.set_eq_univ, harg5.set_eq_univ, harg6.set_eq_univ]
  iintro ⟨⟨%f3, %hf3, H3⟩, ⟨%f4, %hf4, H4⟩, ⟨%f5, %hf5, H5⟩, ⟨%d6, %f6, -, H6⟩, Hk⟩
  iapply (body_run c E tp arg3 harg3 arg4 harg4 arg5 harg5 arg6 harg6 f3 f4 f5 Q)
  isplitl [H3]; · iexact H3
  isplitl [H4]; · iexact H4
  isplitl [H5]; · iexact H5
  isplitl [H6]; · iexists _; iexact H6
  iintro ⟨H3, H4, H5, ⟨%e6, H6⟩⟩
  iapply Hk
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  iexists _; iexists _; isplitr; swap; · iexact H6
  ipureintro; rfl

set_option maxHeartbeats 1000000 in
theorem sound_body (c : Dev nD) (t : Fin (cfg0 (F := F)).N) :
    bodyState m c t ⊢ wp frame (wpE (defs₀ (F := F)) Variants.nat c none) Set.univ (bodyAt0 t) (fun _ => bodyState m c t) := by
  unfold bodyState bodyAt0
  iintro ⟨HΦ, Ho, H3, H4, H5, H6⟩
  iapply (sound_kernel c Set.univ t _ _ _ _ _ _ _ _ (iblk m c 0 t) (iblk m c 1 t) (iblk m c 2 t) _)
  isplitl [H3]; · iexact H3
  isplitl [H4]; · iexact H4
  isplitl [H5]; · iexact H5
  isplitl [H6]; · iexact H6
  iintro ⟨H3, H4, H5, H6⟩
  isplitl [HΦ]; · iexact HΦ
  isplitl [Ho]; · iexact Ho
  isplitl [H3]; · iexact H3
  isplitl [H4]; · iexact H4
  isplitl [H5]; · iexact H5
  iexact H6

theorem defs₀_row (t : Fin (cfg0 (F := F)).N) :
    defs₀ (F := F) .tc cfg0.body (cfg0.bodyArgs t (cfg0.slots t)) = bodyAt0 t := by
  unfold defs₀; rw [Defs.onTc_tc]

/-! An input's buffer at a point's start reads as the window's block of its array. -/

theorem entry_0 (c : Dev nD) (t : Fin (cfg0 (F := F)).N) (d) :
    (owns (c : Thread nD τ) (st0_0 t) fullShare ((dats (F := F) m 0 c).before 0 t d) : sProp (MT nD τ sig Unit (Elt F) ℕ (UR sig nD τ) ℕ)) ⊢ owns (c : Thread nD τ) (st0_0 t) fullShare (iblk m c 0 t) := by
  have e := before_0 m c t d
  exact (congrArg (fun X => (owns (c : Thread nD τ) (st0_0 t) fullShare X : sProp (MT nD τ sig Unit (Elt F) ℕ (UR sig nD τ) ℕ))) e) ▸ .rfl
theorem entry_1 (c : Dev nD) (t : Fin (cfg0 (F := F)).N) (d) :
    (owns (c : Thread nD τ) (st0_1 t) fullShare ((dats (F := F) m 0 c).before 1 t d) : sProp (MT nD τ sig Unit (Elt F) ℕ (UR sig nD τ) ℕ)) ⊢ owns (c : Thread nD τ) (st0_1 t) fullShare (iblk m c 1 t) := by
  have e := before_1 m c t d
  exact (congrArg (fun X => (owns (c : Thread nD τ) (st0_1 t) fullShare X : sProp (MT nD τ sig Unit (Elt F) ℕ (UR sig nD τ) ℕ))) e) ▸ .rfl
theorem entry_2 (c : Dev nD) (t : Fin (cfg0 (F := F)).N) (d) :
    (owns (c : Thread nD τ) (st0_2 t) fullShare ((dats (F := F) m 0 c).before 2 t d) : sProp (MT nD τ sig Unit (Elt F) ℕ (UR sig nD τ) ℕ)) ⊢ owns (c : Thread nD τ) (st0_2 t) fullShare (iblk m c 2 t) := by
  have e := before_2 m c t d
  exact (congrArg (fun X => (owns (c : Thread nD τ) (st0_2 t) fullShare X : sProp (MT nD τ sig Unit (Elt F) ℕ (UR sig nD τ) ℕ))) e) ▸ .rfl

/-- The body obligation at every point. -/
theorem body_obligation (c : Dev nD) : BodyObligationLoose (dats (F := F) m 0 c) (defs₀ (F := F)) Variants.nat () Set.univ fgt := fun t => by
  rw [bigSep_W0, bigSep_W0, defs₀_row]
  refine triple_restated (sound_body m c t) rfl ?_ fun _ => ?_
  · unfold bodyState
    rw [show (dats m 0 c).Φ t.castSucc = Pipeline.ΦA spec0 c from rfl]
    simp only [fgt]
    iintro ⟨HΦ, Ho, ⟨%d0, H0⟩, ⟨%d1, H1⟩, ⟨%d2, H2⟩, H3⟩
    isplitl [HΦ]; · iexact HΦ
    isplitl [Ho]; · iexact Ho
    isplitl [H0]; · iapply (entry_0 m c t d0); iexact H0
    isplitl [H1]; · iapply (entry_1 m c t d1); iexact H1
    isplitl [H2]; · iapply (entry_2 m c t d2); iexact H2
    iexact H3
  · exact .rfl

set_option backward.isDefEq.respectTransparency.types false in
set_option maxHeartbeats 800000 in
/-- The frame: the argument array ends as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  Pipeline.θ_run_frame_forget_shared cfgs (dats m) (0 : Fin 1) launch₀0 defs₀ Variants.nat fgt m ρ main
    (hbody := body_obligation m) (hq := fun _ _ _ => rfl) (howed := fun _ _ => rfl) (V := V m)
    (hmain := Pipeline.hmain_region cfgs 0 defs₀ Variants.nat m main (fun c => (main_chain c).trans rfl))
    (hA := fun _ _ => rfl) (hΦ := fun _ _ => rfl)
    (Q' := _) (hQ' := fun r h => ⟨fun c => Pipeline.RDat.FramePost.arr_in h.1 c 0 rfl, h.2⟩)

end Cert.StickFwdIdealProof

end
-- ==== Proof.Common.lean ====
module

public import Idealize.ShloMosaic.Lib.MatmulPlain
public import Idealize.ShloMosaic.Lib.Pipeline.ValueKit.Geometry
public import Idealize.ShloMosaic.Lib.Pipeline.ValueKit.Acc
public import Idealize.ShloMosaic.Lib.Pipeline.ValueKit.Tiles
public import Idealize.ShloMosaic.Lib.Pointwise.Sums
public import Idealize.ShloMosaic.Lib.ValueLayout
public import Idealize.ShloMosaic.Lib.ValueLayoutCasts

@[expose] public section

noncomputable section

namespace Cert.Common

open Idealize.ShloMosaic hiding ix1 ix2 eq_ix2
open Idealize.ShloMosaic.ValueIdx

/-! ## A product that contracts both operands' rows -/

/-- The dimension numbers of `[K, M]ᵀ × [K, N]`, from their well-formedness. -/
def tn (M K N : ℕ) (wf : DotDims.WF ⟨2, ![K, M]⟩ ⟨2, ![K, N]⟩ ⟨2, ![M, N]⟩ [0] [0] [1] [1] [] []) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := wf

/-- Entry `(r, c)` of such a product: the accumulator's, plus the sum over the shared rows. -/
theorem matmul_tn_apply {M K N : ℕ} (wf : DotDims.WF ⟨2, ![K, M]⟩ ⟨2, ![K, N]⟩ ⟨2, ![M, N]⟩ [0] [0] [1] [1] [] []) {φ₁ φ₂ : FTy} (prec : Option ContractPrecision)
    (lhs : FVec Ideal ⟨2, ![K, M]⟩ φ₁) (rhs : FVec Ideal ⟨2, ![K, N]⟩ φ₂) (acc : FVec Ideal ⟨2, ![M, N]⟩ .f32) (r : Fin M) (c : Fin N) :
    FloatOps.matmul (tn M K N wf) prec lhs rhs acc (ix2 r c) = acc (ix2 r c) + ∑ k : Fin K, lhs (ix2 k r) * rhs (ix2 k c) := by
  rw [Ideal.matmul_apply, ← Equiv.sum_comp (contrEquiv1 (tn M K N wf) K rfl rfl).symm]
  refine congrArg (acc (ix2 r c) + ·) (Finset.sum_congr rfl fun k _ => ?_)
  have hk := contrEquiv1_symm_val (tn M K N wf) K rfl rfl k
  refine congrArg₂ (fun a b => lhs a * rhs b) ?_ ?_
  · funext a; apply Fin.ext
    match a with
    | ⟨0, _⟩ => exact hk
    | ⟨1, _⟩ => rfl
  · funext a; apply Fin.ext
    match a with
    | ⟨0, _⟩ => exact hk
    | ⟨1, _⟩ => rfl

/-! ## Rows, columns and their sums -/

/-- The sum of each row, kept as a column. -/
theorem rowSum_apply {M N : ℕ} (x : FVec Ideal ⟨2, ![M, N]⟩ .f32) (h : (⟨2, ![M, N]⟩ : Shape).Reduces [1] ⟨1, ![M]⟩)
    (hs : (⟨1, ![M]⟩ : Shape).ShapeCasts ⟨2, ![M, 1]⟩) (hφ : FKind.Formats .f32) (hacc : (0x00000000#32 : BitVec 32) = FKind.add.neutral .f32 hφ)
    (r : Fin M) (z : Fin 1) :
    shapeCast ⟨2, ![M, 1]⟩ (multiReduction .add [1] ⟨1, ![M]⟩ x 0x00000000#32 h hφ hacc) hs (ix2 r z) = ∑ k : Fin N, x (ix2 r k) := by
  refine (shapeCast_a_a1_apply _ hs r z).trans ?_
  · refine (Ideal.multiReduction_add_single x _ h hφ hacc (ix1 r)).trans (Finset.sum_congr rfl fun k _ => congrArg x ?_)
    funext a; apply Fin.ext
    match a with
    | ⟨0, _⟩ => rfl
    | ⟨1, _⟩ => rfl

/-- A column spread over the lanes. -/
theorem bcol_apply {M N : ℕ} {α : Type} (v : (⟨2, ![M, 1]⟩ : Shape).Idx → α) (h : (⟨2, ![M, 1]⟩ : Shape).Broadcasts ⟨2, ![M, N]⟩) (r : Fin M) (k : Fin N) :
    broadcastTo ⟨2, ![M, N]⟩ v h (ix2 r k) = v (ix2 r 0) := by
  refine broadcastTo_apply v h (ix2 r k) (ix2 r 0) fun ax => ?_
  match ax with
  | ⟨0, _⟩ =>
    show r.val = if M = 1 then 0 else r.val
    split
    · have := r.isLt; omega
    · rfl
  | ⟨1, _⟩ => rfl

/-! ## The row norm -/

/-- A thousand and twenty-four, and the small number under the root, as the programs spell them. -/
abbrev n1024 : EReal := Ideal.ofBits .f32 0x44800000#32
abbrev eps : EReal := Ideal.ofBits .f32 0x358637BD#32

variable {M : ℕ}

/-- One over the root of row `r`'s mean square. -/
def rs (x : (⟨2, ![M, 1024]⟩ : Shape).Idx → EReal) (r : Fin M) : EReal :=
  Ideal.rsqrt (Ideal.div (∑ k : Fin 1024, x (ix2 r k) * x (ix2 r k)) n1024 + eps)

/-- The normed row with its gain. -/
def nrm (x : (⟨2, ![M, 1024]⟩ : Shape).Idx → EReal) (g : (⟨2, ![1, 1024]⟩ : Shape).Idx → EReal) (r : Fin M) (k : Fin 1024) : EReal :=
  x (ix2 r k) * rs x r * g (ix2 0 k)

end Cert.Common

end
-- ==== Proof.NormProj.lean ====
module

public import proofs.«01_k».proof.Proof.Common
public import proofs.«01_k».proof.Proof.Gen.NormProjIdeal.Value
public import proofs.«01_k».proof.Proof.Gen.NormProjRefIdeal.Read

@[expose] public section

noncomputable section

/-! The norm and the projection of the forward pass: the kernel takes the 5888 columns in twelve pieces and splits them over
three outputs; the reference makes one product and cuts it. -/

namespace Cert.NormProjProof

open Idealize.ShloMosaic hiding ix1 ix2 eq_ix2
open Idealize.ShloMosaic.TcCoe Idealize.ShloMosaic.Tactic Idealize.SL.Sem Idealize.ShloMosaic.ValueIdx
open Cert.NormProjIdeal Cert.NormProjIdeal.Gen
open Cert.NormProjRefIdeal.Read Cert.Common
open Idealize.ShloMosaic.Pipeline (Dat)

/-- Row `r` of the projection, column `q`. -/
def proj (x : (⟨2, ![4096, 1024]⟩ : Shape).Idx → EReal) (g : (⟨2, ![1, 1024]⟩ : Shape).Idx → EReal) (w : (⟨2, ![1024, 5888]⟩ : Shape).Idx → EReal)
    (r : Fin 4096) (q : Fin 5888) : EReal := ∑ k : Fin 1024, nrm x g r k * w (ix2 k q)

theorem ref_rs (x) (r : Fin 4096) : val_main_v7 (F := Ideal) x (ix2 r 0) = rs x r := by
  refine (val_main_v7_apply x _).trans ?_
  show Ideal.rsqrt _ = _
  rw [val_main_v6_apply, val_main_v4_apply, val_main_v2_apply, val_main_v1_apply, val_main_v3_apply, val_main_v5_apply, val_main_cst_apply, val_main_cst_0_apply, val_main_cst_1_apply]
  refine congrArg Ideal.rsqrt (congrArg (fun z : EReal => Ideal.div z n1024 + eps) ?_)
  refine (congrArg (fun z : EReal => z + _) Ideal.ofBits_zero_f32).trans ((zero_add _).trans (Finset.sum_congr rfl fun k _ => ?_))
  rw [val_main_v0_apply]
  exact congrArg (fun i => x i * x i) (eq_ix2 _)

theorem ref_u (x g) (r : Fin 4096) (k : Fin 1024) : val_main_v11 (F := Ideal) x g (ix2 r k) = nrm x g r k := by
  refine (val_main_v11_apply x g _).trans ?_
  rw [val_main_v9_apply, val_main_v8_apply, val_main_v10_apply]
  refine congrArg₂ (fun a b : EReal => a * b) (congrArg (fun b : EReal => x (ix2 r k) * b) ?_) (congrArg g (eq_ix2 _))
  exact (congrArg _ (eq_ix2 _)).trans (ref_rs x r)

theorem ref_proj (x g w) (r : Fin 4096) (q : Fin 5888) : val_main_v13 (F := Ideal) x g w (ix2 r q) = proj x g w r q := by
  refine (val_main_v13_apply x g w _).trans (Finset.sum_congr rfl fun k _ => ?_)
  rw [val_main_v12_apply]
  exact congrArg₂ (fun a b : EReal => a * b) ((congrArg _ (eq_ix2 _)).trans (ref_u x g r k)) (congrArg w (eq_ix2 _))

theorem ref_u16 (x g) (r : Fin 4096) (k : Fin 1024) : val_main_v18 (F := Ideal) x g (ix2 r k) = nrm x g r k := ref_u x g r k
theorem ref_sb (x g w) (r : Fin 4096) (q : Fin 1536) : val_main_v17 (F := Ideal) x g w (ix2 r q) = proj x g w r ⟨q.val, by omega⟩ := by
  refine (val_main_v17_apply x g w _).trans ((val_main_v14_apply x g w _).trans ?_)
  exact (congrArg _ (eq_ix2 _)).trans (ref_proj x g w r _)
theorem ref_dl (x g w) (r : Fin 4096) (q : Fin 2304) : val_main_v15 (F := Ideal) x g w (ix2 r q) = proj x g w r ⟨1536 + q.val, by omega⟩ := by
  refine (val_main_v15_apply x g w _).trans ?_
  exact (congrArg _ (eq_ix2 _)).trans (ref_proj x g w r _)
theorem ref_gate (x g w) (r : Fin 4096) (q : Fin 2048) : val_main_v16 (F := Ideal) x g w (ix2 r q) = proj x g w r ⟨3840 + q.val, by omega⟩ := by
  refine (val_main_v16_apply x g w _).trans ?_
  exact (congrArg _ (eq_ix2 _)).trans (ref_proj x g w r _)

/-! ## The body's values -/

theorem pay4_apply (x : Vec Ideal S512x1024 .f32) (g : Vec Ideal S1x1024 .f32) (r : Fin 512) (k : Fin 1024) :
    k0_pay4 (F := Ideal) x g (ix2 r k) = nrm x g r k := by
  unfold k0_pay4
  show x (ix2 r k) * broadcastTo S512x1024 _ _ (ix2 r k) * broadcastTo S512x1024 g _ (ix2 r k) = _
  rw [bcol_apply, broadcastTo_1b_ab_apply]
  refine congrArg (fun b : EReal => x (ix2 r k) * b * g (ix2 0 k)) ?_
  exact congrArg (fun z : EReal => Ideal.rsqrt (Ideal.div z n1024 + eps)) (rowSum_apply (mulf x x) _ _ _ _ r 0)

theorem prod_apply (u w : FVec Ideal S512x1024 .bf16) (r : Fin 512) (q : Fin 512) :
    k0_pay1 (F := Ideal) u w (ix2 r q) = ∑ k : Fin 1024, u (ix2 r k) * w (ix2 q k) := by
  unfold k0_pay1
  refine (Ideal.matmul_transposedRhs_apply (M := 512) (K := 1024) (N := 512) none _ _ _ r q).trans ?_
  simp only [constant_apply, Ideal.ofBits_zero_f32, zero_add, shapeCast_self]

theorem prod'_apply (u : FVec Ideal S512x1024 .bf16) (w : FVec Ideal S256x1024 .bf16) (r : Fin 512) (q : Fin 256) :
    k0_pay12 (F := Ideal) u w (ix2 r q) = ∑ k : Fin 1024, u (ix2 r k) * w (ix2 q k) := by
  unfold k0_pay12
  refine (Ideal.matmul_transposedRhs_apply (M := 512) (K := 1024) (N := 256) none _ _ _ r q).trans ?_
  simp only [constant_apply, Ideal.ofBits_zero_f32, zero_add, shapeCast_self]

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)

/-- Row `r` of block `t`. -/
abbrev row (t : Fin cfg0.N) (r : Fin 512) : Fin 4096 := ⟨t.val * 512 + r.val, by have : t.val < 8 := t.isLt; omega⟩

theorem V_v0 (c : Dev nD) : V m c main_v0 = transpose S5888x1024 [1, 0] (m ((c : Thread nD τ).loc main_arg2)) transposes_S1024x5888_S5888x1024_1_0 := by
  rfl

theorem blk0 (c : Dev nD) (t : Fin cfg0.N) (r : Fin 512) (k : Fin 1024) :
    iblk m c 0 t (ix2 r k) = m ((c : Thread nD τ).loc main_arg0) (ix2 (row t r) k) := by
  blk_simp [iblk]
  rw [V_main_arg0]
  refine congrArg (m ((c : Thread nD τ).loc main_arg0)) ?_
  blk_ext [idx0]
theorem blk1 (c : Dev nD) (t : Fin cfg0.N) (r : Fin 1) (k : Fin 1024) :
    iblk m c 1 t (ix2 r k) = m ((c : Thread nD τ).loc main_arg1) (ix2 r k) := by
  blk_simp [iblk]
  rw [V_main_arg1]
  refine congrArg (m ((c : Thread nD τ).loc main_arg1)) ?_
  blk_ext [idx1]
theorem blk2 (c : Dev nD) (t : Fin cfg0.N) (r : Fin 5888) (k : Fin 1024) :
    iblk m c 2 t (ix2 r k) = m ((c : Thread nD τ).loc main_arg2) (ix2 k r) := by
  blk_simp [iblk]
  rw [V_v0]
  refine congrArg (m ((c : Thread nD τ).loc main_arg2)) ?_
  funext a; apply Fin.ext; fin_cases a
  · show ((((View.whole main_v0).slice (win0_2.rect t)).emb (ix2 r k) 1 : Fin _) : ℕ) = k.val
    blk_simp [idx2]; rfl
  · show ((((View.whole main_v0).slice (win0_2.rect t)).emb (ix2 r k) 0 : Fin _) : ℕ) = r.val
    blk_simp [idx2]; rfl

theorem zero2 : (![0, 0] : Fin 2 → ℕ) = fun _ => 0 := by funext a; fin_cases a <;> rfl

/-- The normed rows of block `t`. -/
theorem nrm_blk (c : Dev nD) (t : Fin cfg0.N) (r : Fin 512) (k : Fin 1024) :
    k0_pay4 (F := Ideal) (iblk m c 0 t) (iblk m c 1 t) (ix2 r k) = nrm (m ((c : Thread nD τ).loc main_arg0)) (m ((c : Thread nD τ).loc main_arg1)) (row t r) k := by
  rw [pay4_apply]
  unfold nrm rs
  simp only [blk0, blk1]

/-- A load of rows from row `o`. -/
theorem ld_rows {o n : ℕ} (x : Vec Ideal S5888x1024 .bf16) (h : _) (q : Fin n) (k : Fin 1024) (ho : o + n ≤ 5888) :
    View.ld x (Rect.unit (s := S5888x1024) ![o, 0] ![n, 1024] h) (ix2 q k) = x (ix2 ⟨o + q.val, by omega⟩ k) :=
  congrArg x (by funext a; apply Fin.ext; fin_cases a
                 · show o + 1 * q.val = o + q.val; omega
                 · show 0 + 1 * k.val = k.val; omega)

/-- One piece of 512 columns, from column `o`. -/
theorem piece (c : Dev nD) (t : Fin cfg0.N) {o : ℕ} (h : _) (ho : o + 512 ≤ 5888) (r : Fin 512) (q : Fin 512) :
    k0_pay1 (F := Ideal) (k0_pay4 (iblk m c 0 t) (iblk m c 1 t)) (View.ld (iblk m c 2 t) (Rect.unit (s := S5888x1024) ![o, 0] ![512, 1024] h)) (ix2 r q)
      = proj (m ((c : Thread nD τ).loc main_arg0)) (m ((c : Thread nD τ).loc main_arg1)) (m ((c : Thread nD τ).loc main_arg2)) (row t r) ⟨o + q.val, by omega⟩ := by
  refine (prod_apply _ _ r q).trans (Finset.sum_congr rfl fun k _ => ?_)
  exact congrArg₂ (fun a b : EReal => a * b) (nrm_blk m c t r k) ((ld_rows _ h q k ho).trans (blk2 m c t _ k))

theorem piece' (c : Dev nD) (t : Fin cfg0.N) {o : ℕ} (h : _) (ho : o + 256 ≤ 5888) (r : Fin 512) (q : Fin 256) :
    k0_pay12 (F := Ideal) (k0_pay4 (iblk m c 0 t) (iblk m c 1 t)) (View.ld (iblk m c 2 t) (Rect.unit (s := S5888x1024) ![o, 0] ![256, 1024] h)) (ix2 r q)
      = proj (m ((c : Thread nD τ).loc main_arg0)) (m ((c : Thread nD τ).loc main_arg1)) (m ((c : Thread nD τ).loc main_arg2)) (row t r) ⟨o + q.val, by omega⟩ := by
  refine (prod'_apply _ _ r q).trans (Finset.sum_congr rfl fun k _ => ?_)
  exact congrArg₂ (fun a b : EReal => a * b) (nrm_blk m c t r k) ((ld_rows _ h q k ho).trans (blk2 m c t _ k))

theorem final6 (c : Dev nD) : (dats m 0 c).arrAt 6 cfg0.N =
    val_main_v18 (F := Ideal) (m ((c : Thread nD τ).loc main_arg0)) (m ((c : Thread nD τ).loc main_arg1)) := by
  refine (dats m 0 c).arrAt_eq_of_covers 6 _ (by decide +kernel) fun t hf y => ?_
  blk_simp
  rw [after0_6]; unfold outsAt0
  frame_out
  obtain ⟨r, k, rfl⟩ : ∃ (r : Fin 512) (k : Fin 1024), y = ix2 r k := ⟨_, _, eq_ix2 y⟩
  have e : (((View.whole main_v1_3).slice (win0_6.rect t)).emb (ix2 r k)) = ix2 (row t r) k := by blk_ext [idx6]
  refine Eq.trans ?_ ((congrArg _ e).trans (ref_u16 _ _ _ _)).symm
  exact nrm_blk m c t r k

theorem final3 (c : Dev nD) : (dats m 0 c).arrAt 3 cfg0.N =
    val_main_v17 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]; unfold outsAt0
  frame_out
  canon_tiles x h
  · obtain ⟨r, q, rfl⟩ : ∃ (r : Fin 512) (q : Fin 512), x = ix2 r q := ⟨_, _, eq_ix2 x⟩
    replace h0 : (y 0).val = r.val := h0
    replace h1 : (y 1).val = 1024 + q.val := h1
    have e : (((View.whole main_v1_0).slice (win0_3.rect t)).emb y) = ix2 (row t r) (⟨1024 + q.val, by omega⟩ : Fin 1536) := by blk_ext [idx3]
    refine Eq.trans ?_ ((congrArg _ e).trans (ref_sb _ _ _ _ _)).symm
    exact (piece m c t _ (by omega) r q).trans (congrArg (proj _ _ _ _) (Fin.ext (by show 1024 + q.val = 1024 + q.val; omega)))
  · obtain ⟨r, q, rfl⟩ : ∃ (r : Fin 512) (q : Fin 512), x = ix2 r q := ⟨_, _, eq_ix2 x⟩
    replace h0 : (y 0).val = r.val := h0
    replace h1 : (y 1).val = 512 + q.val := h1
    have e : (((View.whole main_v1_0).slice (win0_3.rect t)).emb y) = ix2 (row t r) (⟨512 + q.val, by omega⟩ : Fin 1536) := by blk_ext [idx3]
    refine Eq.trans ?_ ((congrArg _ e).trans (ref_sb _ _ _ _ _)).symm
    exact (piece m c t _ (by omega) r q).trans (congrArg (proj _ _ _ _) (Fin.ext (by show 512 + q.val = 512 + q.val; omega)))
  · obtain ⟨r, q, rfl⟩ : ∃ (r : Fin 512) (q : Fin 512), x = ix2 r q := ⟨_, _, eq_ix2 x⟩
    replace h0 : (y 0).val = r.val := h0
    replace h1 : (y 1).val = q.val := h1
    have e : (((View.whole main_v1_0).slice (win0_3.rect t)).emb y) = ix2 (row t r) (⟨0 + q.val, by omega⟩ : Fin 1536) := by blk_ext [idx3]
    refine Eq.trans ?_ ((congrArg _ e).trans (ref_sb _ _ _ _ _)).symm
    exact (piece m c t _ (by omega) r q).trans (congrArg (proj _ _ _ _) (Fin.ext (by show 0 + q.val = 0 + q.val; omega)))

theorem final4 (c : Dev nD) : (dats m 0 c).arrAt 4 cfg0.N =
    val_main_v15 (F := Ideal) (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4]; unfold outsAt0
  frame_out
  canon_tiles x h using View.cover_of_tiledBy _ ![512, 256] (by sl_kernel_rfl) _
  · obtain ⟨r, q, rfl⟩ : ∃ (r : Fin 512) (q : Fin 256), x = ix2 r q := ⟨_, _, eq_ix2 x⟩
    replace h0 : (y 0).val = r.val := h0
    replace h1 : (y 1).val = 2048 + q.val := h1
    have e : (((View.whole main_v1_1).slice (win0_4.rect t)).emb y) = ix2 (row t r) (⟨2048 + q.val, by omega⟩ : Fin 2304) := by blk_ext [idx4]
    refine Eq.trans ?_ ((congrArg _ e).trans (ref_dl _ _ _ _ _)).symm
    exact (piece' m c t _ (by omega) r q).trans (congrArg (proj _ _ _ _) (Fin.ext (by show 3584 + q.val = 1536 + (2048 + q.val); omega)))
  · obtain ⟨r, q, rfl⟩ : ∃ (r : Fin 512) (q : Fin 512), x = ix2 r q := ⟨_, _, eq_ix2 x⟩
    replace h0 : (y 0).val = r.val := h0
    replace h1 : (y 1).val = 1536 + q.val := h1
    have e : (((View.whole main_v1_1).slice (win0_4.rect t)).emb y) = ix2 (row t r) (⟨1536 + q.val, by omega⟩ : Fin 2304) := by blk_ext [idx4]
    refine Eq.trans ?_ ((congrArg _ e).trans (ref_dl _ _ _ _ _)).symm
    exact (piece m c t _ (by omega) r q).trans (congrArg (proj _ _ _ _) (Fin.ext (by show 3072 + q.val = 1536 + (1536 + q.val); omega)))
  · obtain ⟨r, q, rfl⟩ : ∃ (r : Fin 512) (q : Fin 512), x = ix2 r q := ⟨_, _, eq_ix2 x⟩
    replace h0 : (y 0).val = r.val := h0
    replace h1 : (y 1).val = 1024 + q.val := h1
    have e : (((View.whole main_v1_1).slice (win0_4.rect t)).emb y) = ix2 (row t r) (⟨1024 + q.val, by omega⟩ : Fin 2304) := by blk_ext [idx4]
    refine Eq.trans ?_ ((congrArg _ e).trans (ref_dl _ _ _ _ _)).symm
    exact (piece m c t _ (by omega) r q).trans (congrArg (proj _ _ _ _) (Fin.ext (by show 2560 + q.val = 1536 + (1024 + q.val); omega)))
  · obtain ⟨r, q, rfl⟩ : ∃ (r : Fin 512) (q : Fin 512), x = ix2 r q := ⟨_, _, eq_ix2 x⟩
    replace h0 : (y 0).val = r.val := h0
    replace h1 : (y 1).val = 512 + q.val := h1
    have e : (((View.whole main_v1_1).slice (win0_4.rect t)).emb y) = ix2 (row t r) (⟨512 + q.val, by omega⟩ : Fin 2304) := by blk_ext [idx4]
    refine Eq.trans ?_ ((congrArg _ e).trans (ref_dl _ _ _ _ _)).symm
    exact (piece m c t _ (by omega) r q).trans (congrArg (proj _ _ _ _) (Fin.ext (by show 2048 + q.val = 1536 + (512 + q.val); omega)))
  · obtain ⟨r, q, rfl⟩ : ∃ (r : Fin 512) (q : Fin 512), x = ix2 r q := ⟨_, _, eq_ix2 x⟩
    replace h0 : (y 0).val = r.val := h0
    replace h1 : (y 1).val = q.val := h1
    have e : (((View.whole main_v1_1).slice (win0_4.rect t)).emb y) = ix2 (row t r) (⟨0 + q.val, by omega⟩ : Fin 2304) := by blk_ext [idx4]
    refine Eq.trans ?_ ((congrArg _ e).trans (ref_dl _ _ _ _ _)).symm
    exact (piece m c t _ (by omega) r q).trans (congrArg (proj _ _ _ _) (Fin.ext (by show 1536 + q.val = 1536 + (0 + q.val); omega)))

theorem final5 (c : Dev nD) : (dats m 0 c).arrAt 5 cfg0.N =
    val_main_v16 (F := Ideal) (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5]; unfold outsAt0
  frame_out
  canon_tiles x h
  · obtain ⟨r, q, rfl⟩ : ∃ (r : Fin 512) (q : Fin 512), x = ix2 r q := ⟨_, _, eq_ix2 x⟩
    replace h0 : (y 0).val = r.val := h0
    replace h1 : (y 1).val = 1536 + q.val := h1
    have e : (((View.whole main_v1_2).slice (win0_5.rect t)).emb y) = ix2 (row t r) (⟨1536 + q.val, by omega⟩ : Fin 2048) := by blk_ext [idx5]
    refine Eq.trans ?_ ((congrArg _ e).trans (ref_gate _ _ _ _ _)).symm
    exact (piece m c t _ (by omega) r q).trans (congrArg (proj _ _ _ _) (Fin.ext (by show 5376 + q.val = 3840 + (1536 + q.val); omega)))
  · obtain ⟨r, q, rfl⟩ : ∃ (r : Fin 512) (q : Fin 512), x = ix2 r q := ⟨_, _, eq_ix2 x⟩
    replace h0 : (y 0).val = r.val := h0
    replace h1 : (y 1).val = 1024 + q.val := h1
    have e : (((View.whole main_v1_2).slice (win0_5.rect t)).emb y) = ix2 (row t r) (⟨1024 + q.val, by omega⟩ : Fin 2048) := by blk_ext [idx5]
    refine Eq.trans ?_ ((congrArg _ e).trans (ref_gate _ _ _ _ _)).symm
    exact (piece m c t _ (by omega) r q).trans (congrArg (proj _ _ _ _) (Fin.ext (by show 4864 + q.val = 3840 + (1024 + q.val); omega)))
  · obtain ⟨r, q, rfl⟩ : ∃ (r : Fin 512) (q : Fin 512), x = ix2 r q := ⟨_, _, eq_ix2 x⟩
    replace h0 : (y 0).val = r.val := h0
    replace h1 : (y 1).val = 512 + q.val := h1
    have e : (((View.whole main_v1_2).slice (win0_5.rect t)).emb y) = ix2 (row t r) (⟨512 + q.val, by omega⟩ : Fin 2048) := by blk_ext [idx5]
    refine Eq.trans ?_ ((congrArg _ e).trans (ref_gate _ _ _ _ _)).symm
    exact (piece m c t _ (by omega) r q).trans (congrArg (proj _ _ _ _) (Fin.ext (by show 4352 + q.val = 3840 + (512 + q.val); omega)))
  · obtain ⟨r, q, rfl⟩ : ∃ (r : Fin 512) (q : Fin 512), x = ix2 r q := ⟨_, _, eq_ix2 x⟩
    replace h0 : (y 0).val = r.val := h0
    replace h1 : (y 1).val = q.val := h1
    have e : (((View.whole main_v1_2).slice (win0_5.rect t)).emb y) = ix2 (row t r) (⟨0 + q.val, by omega⟩ : Fin 2048) := by blk_ext [idx5]
    refine Eq.trans ?_ ((congrArg _ e).trans (ref_gate _ _ _ _ _)).symm
    exact (piece m c t _ (by omega) r q).trans (congrArg (proj _ _ _ _) (Fin.ext (by show 3840 + q.val = 3840 + (0 + q.val); omega)))

end Cert.NormProjProof

end
-- ==== Proof.NormProjClaims.lean ====
module

public import proofs.«01_k».proof.Proof.Gen.NormProj.Frame
public import proofs.«01_k».proof.Proof.NormProj
public import proofs.«01_k».proof.Defs

@[expose] public section

noncomputable section

namespace Cert.Proof.NormProjClaims

open Idealize.ShloMosaic Idealize.ShloMosaic.TcCoe Idealize.SL.Sem

theorem frame_p : Cert.quiescent_NormProj := fun m ρ _ => Cert.NormProj.Gen.frame m ρ
theorem frame_pi : Cert.quiescent_NormProjIdeal := fun m ρ _ => Cert.NormProjIdeal.Gen.frame m ρ
theorem frame_ri : Cert.quiescent_NormProjRefIdeal := fun m ρ _ =>
  (θ_run Cert.NormProjRefIdeal.defs _ _).mono (fun r h => ⟨fun c => (h c).2.2.2.2,
      Idealize.ShloMosaic.sem_eq_zero_of_no_sems (by decide) r.2⟩)
    (Cert.NormProjRefIdeal.Value.run (F := Ideal) m ρ)

open Cert.NormProjIdeal Cert.NormProjIdeal.Gen in
theorem algebraic : Cert.algebraic_NormProjIdeal_NormProjRefIdeal := fun m g m' g' _ hm => by
  refine ⟨fun c => (dats m 0 c).arrAt 3 cfg0.N, fun c => (dats m 0 c).arrAt 4 cfg0.N, fun c => (dats m 0 c).arrAt 5 cfg0.N, fun c => (dats m 0 c).arrAt 6 cfg0.N, ?_, ?_⟩
  · refine (θ_run _ _ _).mono (fun r h c => ?_) (Cert.NormProjIdeal.Value.run_blocks (F := Ideal) m g)
    obtain ⟨h0, h1, h2, h3, ha⟩ := h c
    exact ⟨h0, h1, h2, h3, ha⟩
  · refine (θ_run _ _ _).mono (fun r h c => ?_) (Cert.NormProjRefIdeal.Value.run (F := Ideal) m' g')
    obtain ⟨h0, h1, h2, h3, ha⟩ := h c
    obtain ⟨e0, e1, e2⟩ := hm c
    refine ⟨h0.trans ?_, h1.trans ?_, h2.trans ?_, h3.trans ?_, ha⟩
    all_goals try rw [e0]
    all_goals try rw [e1]
    all_goals try rw [e2]
    · exact (Cert.NormProjProof.final3 m c).symm
    · exact (Cert.NormProjProof.final4 m c).symm
    · exact (Cert.NormProjProof.final5 m c).symm
    · exact (Cert.NormProjProof.final6 m c).symm

end Cert.Proof.NormProjClaims

end
-- ==== Proof.FfnIn.lean ====
module

public import proofs.«01_k».proof.Proof.Common
public import proofs.«01_k».proof.Proof.Gen.FfnInIdeal.Value
public import proofs.«01_k».proof.Proof.Gen.FfnInRefIdeal.Read

@[expose] public section

noncomputable section

/-! The gradient of the first weight of the channel mixer: each block of 512 of its rows adds up eight products, each over
512 tokens; the reference contracts all 4096 tokens at once. -/

namespace Cert.FfnInProof

open Idealize.ShloMosaic hiding ix2 eq_ix2
open Idealize.ShloMosaic.TcCoe Idealize.SL.Sem Idealize.ShloMosaic.ValueIdx
open Cert.FfnInIdeal Cert.FfnInIdeal.Gen
open Cert.FfnInRefIdeal.Read
open Idealize.ShloMosaic.Pipeline (Dat)

/-- Row `r` of weight, column `k`: the sum over the tokens. -/
def grad (u : (⟨2, ![4096, 1024]⟩ : Shape).Idx → EReal) (d : (⟨2, ![4096, 5632]⟩ : Shape).Idx → EReal) (r : Fin 5632) (k : Fin 1024) : EReal :=
  ∑ t : Fin 4096, d (ix2 t r) * u (ix2 t k)

theorem ref_grad (u d) (r : Fin 5632) (k : Fin 1024) : val_main_v7 (F := Ideal) u d (ix2 r k) = grad u d r k := by
  refine (val_main_v7_apply u d _).trans ?_
  refine (val_main_v6_apply u d _).trans ?_
  refine (val_main_v5_apply u d _).trans ?_
  refine (val_main_v4_apply u d _).trans (Finset.sum_congr rfl fun j _ => ?_)
  rw [val_main_v1_apply, val_main_v0_apply]
  exact congrArg₂ (fun a b => d a * u b) (eq_ix2 _) (eq_ix2 _)

/-- One product of the body. -/
theorem prod_apply (a : Vec Ideal S512x512 .bf16) (b : Vec Ideal S512x1024 .bf16) (r : Fin 512) (k : Fin 1024) :
    FloatOps.matmul (φ₁ := .bf16) (φ₂ := .bf16) dot_S512x512_S512x1024_S512x1024_0_0_1_1_n_n none a b (constant (F := Ideal) S512x1024 .f32 0x00000000#32) (ix2 r k)
      = ∑ t : Fin 512, a (ix2 t r) * b (ix2 t k) := by
  refine (Common.matmul_tn_apply (M := 512) (K := 512) (N := 1024) _ none a b _ r k).trans ?_
  simp only [constant_apply, Ideal.ofBits_zero_f32, zero_add]

theorem pay_apply (a0 a1 a2 a3 a4 a5 a6 a7 : Vec Ideal S512x512 .bf16) (b0 b1 b2 b3 b4 b5 b6 b7 : Vec Ideal S512x1024 .bf16) (r : Fin 512) (k : Fin 1024) :
    k0_pay1 (F := Ideal) (k0_pay2 a0 b0 a1 b1 a2 b2 a3 b3 a4 b4 a5 b5) a6 b6 a7 b7 (ix2 r k)
      = (∑ t : Fin 512, a0 (ix2 t r) * b0 (ix2 t k)) + (∑ t : Fin 512, a1 (ix2 t r) * b1 (ix2 t k)) + (∑ t : Fin 512, a2 (ix2 t r) * b2 (ix2 t k))
        + (∑ t : Fin 512, a3 (ix2 t r) * b3 (ix2 t k)) + (∑ t : Fin 512, a4 (ix2 t r) * b4 (ix2 t k)) + (∑ t : Fin 512, a5 (ix2 t r) * b5 (ix2 t k))
        + (∑ t : Fin 512, a6 (ix2 t r) * b6 (ix2 t k)) + ∑ t : Fin 512, a7 (ix2 t r) * b7 (ix2 t k) := by
  show Ideal.ofBits .f32 0x00000000#32 + _ + _ + _ + _ + _ + _ + _ + _ = _
  rw [Ideal.ofBits_zero_f32]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ((zero_add _).trans ?_) ?_) ?_) ?_) ?_) ?_) ?_) ?_
  all_goals exact prod_apply _ _ _ _

variable (m : (ℓ : Loc nD τ sig) → Buf (Elt Ideal) ℓ)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Row `r` of block `t` of the weight. -/
abbrev row (t : Fin cfg0.N) (r : Fin 512) : Fin 5632 := ⟨t.val * 512 + r.val, by have : t.val < 11 := t.isLt; omega⟩

theorem blk0 (c : Dev nD) (t : Fin cfg0.N) (k : Fin 4096) (r : Fin 512) :
    iblk m c 0 t (ix2 k r) = m ((c : Thread nD τ).loc main_arg1) (ix2 k (row t r)) := by
  blk_simp [iblk]
  rw [V_main_arg1]
  refine congrArg (m ((c : Thread nD τ).loc main_arg1)) ?_
  blk_ext [idx0]
theorem blk1 (c : Dev nD) (t : Fin cfg0.N) (k : Fin 4096) (r : Fin 1024) :
    iblk m c 1 t (ix2 k r) = m ((c : Thread nD τ).loc main_arg0) (ix2 k r) := by
  blk_simp [iblk]
  rw [V_main_arg0]
  refine congrArg (m ((c : Thread nD τ).loc main_arg0)) ?_
  blk_ext [idx1]

/-- A load of 512 rows from row `o`. -/
theorem ld_rows {N o : ℕ} (x : Vec Ideal ⟨2, ![4096, N]⟩ .bf16) (h : _) (k : Fin 512) (r : Fin N) (ho : o + 512 ≤ 4096) :
    View.ld x (Rect.unit (s := ⟨2, ![4096, N]⟩) ![o, 0] ![512, N] h) (ix2 k r) = x (ix2 ⟨o + k.val, by omega⟩ r) :=
  congrArg x (by funext a; apply Fin.ext; fin_cases a
                 · show o + 1 * k.val = o + k.val; omega
                 · show 0 + 1 * r.val = r.val; omega)

theorem part {o : ℕ} (x : Vec Ideal S4096x512 .bf16) (y : Vec Ideal S4096x1024 .bf16) (h : _) (h' : _) (ho : o + 512 ≤ 4096) (r : Fin 512) (k : Fin 1024) :
    (∑ j : Fin 512, (View.ld x (Rect.unit (s := S4096x512) ![o, 0] ![512, 512] h) : Vec Ideal S512x512 .bf16) (ix2 j r)
        * (View.ld y (Rect.unit (s := S4096x1024) ![o, 0] ![512, 1024] h') : Vec Ideal S512x1024 .bf16) (ix2 j k))
      = ∑ j : Fin 512, x (ix2 ⟨o + j.val, by omega⟩ r) * y (ix2 ⟨o + j.val, by omega⟩ k) :=
  Finset.sum_congr rfl fun j _ => congrArg₂ (fun a b : EReal => a * b) (ld_rows x h j r ho) (ld_rows y h' j k ho)

theorem out_apply (x : Vec Ideal S4096x512 .bf16) (y : Vec Ideal S4096x1024 .bf16) (r : Fin 512) (k : Fin 1024) :
    k0_pay1 (F := Ideal) (k0_pay2 (View.ld x r0_0) (View.ld y r0_1) (View.ld x r0_2) (View.ld y r0_3) (View.ld x r0_4) (View.ld y r0_5)
        (View.ld x r0_6) (View.ld y r0_7) (View.ld x r0_8) (View.ld y r0_9) (View.ld x r0_10) (View.ld y r0_11))
      (View.ld x r0_12) (View.ld y r0_13) (View.ld x r0_14) (View.ld y r0_15) (ix2 r k) = ∑ t : Fin 4096, x (ix2 t r) * y (ix2 t k) := by
  refine (pay_apply _ _ _ _ _ _ _ _ _ _ _ _ _ _ _ _ r k).trans ?_
  rw [Fin.sum_univ_tiles 8 512 rfl, Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  all_goals exact part x y _ _ (by omega) r k

theorem final2 (c : Dev nD) : (dats m 0 c).arrAt 2 cfg0.N =
    val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, k, rfl⟩ : ∃ (r : Fin 512) (k : Fin 1024), y = ix2 r k := ⟨_, _, eq_ix2 y⟩
  have e : (((View.whole main_v0).slice (win0_2.rect t)).emb (ix2 r k)) = ix2 (row t r) k := by blk_ext [idx2]
  refine Eq.trans ?_ ((congrArg _ e).trans (ref_grad _ _ _ _)).symm
  refine (out_apply _ _ r k).trans (Finset.sum_congr rfl fun j _ => ?_)
  exact congrArg₂ (fun a b : EReal => a * b) (blk0 m c t j r) (blk1 m c t j k)

end Cert.FfnInProof

end
-- ==== Proof.FfnInClaims.lean ====
module

public import proofs.«01_k».proof.Proof.Gen.FfnIn.Frame
public import proofs.«01_k».proof.Proof.FfnIn
public import proofs.«01_k».proof.Defs

@[expose] public section

noncomputable section

namespace Cert.Proof.FfnInClaims

open Idealize.ShloMosaic Idealize.ShloMosaic.TcCoe Idealize.SL.Sem

theorem frame_p : Cert.quiescent_FfnIn := fun m ρ _ => Cert.FfnIn.Gen.frame m ρ
theorem frame_pi : Cert.quiescent_FfnInIdeal := fun m ρ _ => Cert.FfnInIdeal.Gen.frame m ρ
theorem frame_ri : Cert.quiescent_FfnInRefIdeal := fun m ρ _ =>
  (θ_run Cert.FfnInRefIdeal.defs _ _).mono (fun r h => ⟨fun c => (h c).2,
      Idealize.ShloMosaic.sem_eq_zero_of_no_sems (by decide) r.2⟩)
    (Cert.FfnInRefIdeal.Value.run (F := Ideal) m ρ)

open Cert.FfnInIdeal Cert.FfnInIdeal.Gen in
theorem algebraic : Cert.algebraic_FfnInIdeal_FfnInRefIdeal := fun m g m' g' _ hm => by
  refine ⟨fun c => (dats m 0 c).arrAt 2 cfg0.N, ?_, ?_⟩
  · refine (θ_run _ _ _).mono (fun r h c => ?_) (Cert.FfnInIdeal.Value.run_blocks (F := Ideal) m g)
    obtain ⟨h0, ha⟩ := h c
    exact ⟨h0, ha⟩
  · refine (θ_run _ _ _).mono (fun r h c => ?_) (Cert.FfnInRefIdeal.Value.run (F := Ideal) m' g')
    obtain ⟨h0, ha⟩ := h c
    obtain ⟨e0, e1⟩ := hm c
    refine ⟨h0.trans ?_, ha⟩
    all_goals try rw [e0]
    all_goals try rw [e1]
    · exact (Cert.FfnInProof.final2 m c).symm

end Cert.Proof.FfnInClaims

end
-- ==== Proof.FfnOut.lean ====
module

public import proofs.«01_k».proof.Proof.Common
public import proofs.«01_k».proof.Proof.Gen.FfnOutIdeal.Value
public import proofs.«01_k».proof.Proof.Gen.FfnOutRefIdeal.Read

@[expose] public section

noncomputable section

/-! The gradient of the second weight of the channel mixer: each block of 256 of its rows adds up eight products, each over
512 tokens; the reference contracts all 4096 tokens at once. -/

namespace Cert.FfnOutProof

open Idealize.ShloMosaic hiding ix2 eq_ix2
open Idealize.ShloMosaic.TcCoe Idealize.SL.Sem Idealize.ShloMosaic.ValueIdx
open Cert.FfnOutIdeal Cert.FfnOutIdeal.Gen
open Cert.FfnOutRefIdeal.Read
open Idealize.ShloMosaic.Pipeline (Dat)

/-- Row `r` of the weight, column `k`: the sum over the tokens. -/
def grad (a : (⟨2, ![4096, 2816]⟩ : Shape).Idx → EReal) (d : (⟨2, ![4096, 1024]⟩ : Shape).Idx → EReal) (r : Fin 2816) (k : Fin 1024) : EReal :=
  ∑ t : Fin 4096, a (ix2 t r) * d (ix2 t k)

theorem ref_grad (a d) (r : Fin 2816) (k : Fin 1024) : val_main_v6 (F := Ideal) a d (ix2 r k) = grad a d r k := by
  refine (val_main_v6_apply a d _).trans ?_
  refine (val_main_v5_apply a d _).trans ?_
  refine (val_main_v4_apply a d _).trans (Finset.sum_congr rfl fun j _ => ?_)
  rw [val_main_v1_apply, val_main_v0_apply]
  exact (congrArg₂ (fun p q => d p * a q) (eq_ix2 _) (eq_ix2 _)).trans (mul_comm _ _)

/-- One product of the body. -/
theorem prod_apply (a : Vec Ideal S512x256 .bf16) (b : Vec Ideal S512x1024 .bf16) (r : Fin 256) (k : Fin 1024) :
    FloatOps.matmul (φ₁ := .bf16) (φ₂ := .bf16) dot_S512x256_S512x1024_S256x1024_0_0_1_1_n_n none a b (constant (F := Ideal) S256x1024 .f32 0x00000000#32) (ix2 r k)
      = ∑ t : Fin 512, a (ix2 t r) * b (ix2 t k) := by
  refine (Common.matmul_tn_apply (M := 256) (K := 512) (N := 1024) _ none a b _ r k).trans ?_
  simp only [constant_apply, Ideal.ofBits_zero_f32, zero_add]

theorem pay_apply (a0 a1 a2 a3 a4 a5 a6 a7 : Vec Ideal S512x256 .bf16) (b0 b1 b2 b3 b4 b5 b6 b7 : Vec Ideal S512x1024 .bf16) (r : Fin 256) (k : Fin 1024) :
    k0_pay1 (F := Ideal) (k0_pay2 a0 b0 a1 b1 a2 b2 a3 b3 a4 b4 a5 b5) a6 b6 a7 b7 (ix2 r k)
      = (∑ t : Fin 512, a0 (ix2 t r) * b0 (ix2 t k)) + (∑ t : Fin 512, a1 (ix2 t r) * b1 (ix2 t k)) + (∑ t : Fin 512, a2 (ix2 t r) * b2 (ix2 t k))
        + (∑ t : Fin 512, a3 (ix2 t r) * b3 (ix2 t k)) + (∑ t : Fin 512, a4 (ix2 t r) * b4 (ix2 t k)) + (∑ t : Fin 512, a5 (ix2 t r) * b5 (ix2 t k))
        + (∑ t : Fin 512, a6 (ix2 t r) * b6 (ix2 t k)) + ∑ t : Fin 512, a7 (ix2 t r) * b7 (ix2 t k) := by
  show Ideal.ofBits .f32 0x00000000#32 + _ + _ + _ + _ + _ + _ + _ + _ = _
  rw [Ideal.ofBits_zero_f32]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ((zero_add _).trans ?_) ?_) ?_) ?_) ?_) ?_) ?_) ?_
  all_goals exact prod_apply _ _ _ _

variable (m : (ℓ : Loc nD τ sig) → Buf (Elt Ideal) ℓ)

theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)

/-- Row `r` of block `t` of the weight. -/
abbrev row (t : Fin cfg0.N) (r : Fin 256) : Fin 2816 := ⟨t.val * 256 + r.val, by have : t.val < 11 := t.isLt; omega⟩

theorem blk0 (c : Dev nD) (t : Fin cfg0.N) (k : Fin 4096) (r : Fin 256) :
    iblk m c 0 t (ix2 k r) = m ((c : Thread nD τ).loc main_arg0) (ix2 k (row t r)) := by
  blk_simp [iblk]
  rw [V_main_arg0]
  refine congrArg (m ((c : Thread nD τ).loc main_arg0)) ?_
  blk_ext [idx0]
theorem blk1 (c : Dev nD) (t : Fin cfg0.N) (k : Fin 4096) (r : Fin 1024) :
    iblk m c 1 t (ix2 k r) = m ((c : Thread nD τ).loc main_arg1) (ix2 k r) := by
  blk_simp [iblk]
  rw [V_main_arg1]
  refine congrArg (m ((c : Thread nD τ).loc main_arg1)) ?_
  blk_ext [idx1]

/-- A load of 512 rows from row `o`. -/
theorem ld_rows {N o : ℕ} (x : Vec Ideal ⟨2, ![4096, N]⟩ .bf16) (h : _) (k : Fin 512) (r : Fin N) (ho : o + 512 ≤ 4096) :
    View.ld x (Rect.unit (s := ⟨2, ![4096, N]⟩) ![o, 0] ![512, N] h) (ix2 k r) = x (ix2 ⟨o + k.val, by omega⟩ r) :=
  congrArg x (by funext a; apply Fin.ext; fin_cases a
                 · show o + 1 * k.val = o + k.val; omega
                 · show 0 + 1 * r.val = r.val; omega)

theorem part {o : ℕ} (x : Vec Ideal S4096x256 .bf16) (y : Vec Ideal S4096x1024 .bf16) (h : _) (h' : _) (ho : o + 512 ≤ 4096) (r : Fin 256) (k : Fin 1024) :
    (∑ j : Fin 512, (View.ld x (Rect.unit (s := S4096x256) ![o, 0] ![512, 256] h) : Vec Ideal S512x256 .bf16) (ix2 j r)
        * (View.ld y (Rect.unit (s := S4096x1024) ![o, 0] ![512, 1024] h') : Vec Ideal S512x1024 .bf16) (ix2 j k))
      = ∑ j : Fin 512, x (ix2 ⟨o + j.val, by omega⟩ r) * y (ix2 ⟨o + j.val, by omega⟩ k) :=
  Finset.sum_congr rfl fun j _ => congrArg₂ (fun a b : EReal => a * b) (ld_rows x h j r ho) (ld_rows y h' j k ho)

theorem out_apply (x : Vec Ideal S4096x256 .bf16) (y : Vec Ideal S4096x1024 .bf16) (r : Fin 256) (k : Fin 1024) :
    k0_pay1 (F := Ideal) (k0_pay2 (View.ld x r0_0) (View.ld y r0_1) (View.ld x r0_2) (View.ld y r0_3) (View.ld x r0_4) (View.ld y r0_5)
        (View.ld x r0_6) (View.ld y r0_7) (View.ld x r0_8) (View.ld y r0_9) (View.ld x r0_10) (View.ld y r0_11))
      (View.ld x r0_12) (View.ld y r0_13) (View.ld x r0_14) (View.ld y r0_15) (ix2 r k) = ∑ t : Fin 4096, x (ix2 t r) * y (ix2 t k) := by
  refine (pay_apply _ _ _ _ _ _ _ _ _ _ _ _ _ _ _ _ r k).trans ?_
  rw [Fin.sum_univ_tiles 8 512 rfl, Fin.sum_univ_eight]
  refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_
  all_goals exact part x y _ _ (by omega) r k

theorem final2 (c : Dev nD) : (dats m 0 c).arrAt 2 cfg0.N =
    val_main_v6 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  obtain ⟨r, k, rfl⟩ : ∃ (r : Fin 256) (k : Fin 1024), y = ix2 r k := ⟨_, _, eq_ix2 y⟩
  have e : (((View.whole main_v0).slice (win0_2.rect t)).emb (ix2 r k)) = ix2 (row t r) k := by blk_ext [idx2]
  refine Eq.trans ?_ ((congrArg _ e).trans (ref_grad _ _ _ _)).symm
  refine (out_apply _ _ r k).trans (Finset.sum_congr rfl fun j _ => ?_)
  exact congrArg₂ (fun a b : EReal => a * b) (blk0 m c t j r) (blk1 m c t j k)

end Cert.FfnOutProof

end
-- ==== Proof.FfnOutClaims.lean ====
module

public import proofs.«01_k».proof.Proof.Gen.FfnOut.Frame
public import proofs.«01_k».proof.Proof.FfnOut
public import proofs.«01_k».proof.Defs

@[expose] public section

noncomputable section

namespace Cert.Proof.FfnOutClaims

open Idealize.ShloMosaic Idealize.ShloMosaic.TcCoe Idealize.SL.Sem

theorem frame_p : Cert.quiescent_FfnOut := fun m ρ _ => Cert.FfnOut.Gen.frame m ρ
theorem frame_pi : Cert.quiescent_FfnOutIdeal := fun m ρ _ => Cert.FfnOutIdeal.Gen.frame m ρ
theorem frame_ri : Cert.quiescent_FfnOutRefIdeal := fun m ρ _ =>
  (θ_run Cert.FfnOutRefIdeal.defs _ _).mono (fun r h => ⟨fun c => (h c).2,
      Idealize.ShloMosaic.sem_eq_zero_of_no_sems (by decide) r.2⟩)
    (Cert.FfnOutRefIdeal.Value.run (F := Ideal) m ρ)

open Cert.FfnOutIdeal Cert.FfnOutIdeal.Gen in
theorem algebraic : Cert.algebraic_FfnOutIdeal_FfnOutRefIdeal := fun m g m' g' _ hm => by
  refine ⟨fun c => (dats m 0 c).arrAt 2 cfg0.N, ?_, ?_⟩
  · refine (θ_run _ _ _).mono (fun r h c => ?_) (Cert.FfnOutIdeal.Value.run_blocks (F := Ideal) m g)
    obtain ⟨h0, ha⟩ := h c
    exact ⟨h0, ha⟩
  · refine (θ_run _ _ _).mono (fun r h c => ?_) (Cert.FfnOutRefIdeal.Value.run (F := Ideal) m' g')
    obtain ⟨h0, ha⟩ := h c
    obtain ⟨e0, e1⟩ := hm c
    refine ⟨h0.trans ?_, ha⟩
    all_goals try rw [e0]
    all_goals try rw [e1]
    · exact (Cert.FfnOutProof.final2 m c).symm

end Cert.Proof.FfnOutClaims

end
-- ==== Proof.Reals.lean ====
module

public import proofs.«01_k».proof.Proof.Common

@[expose] public section

noncomputable section

/-! Which extended reals are real, and the backward pass of the row norm on reals. -/

namespace Cert.Common

open Idealize.ShloMosaic hiding ix1 ix2 eq_ix2
open Idealize.ShloMosaic.ValueIdx
open scoped BigOperators

/-- An extended real that is a real number. -/
def IsR (x : EReal) : Prop := ∃ r : ℝ, x = (r : EReal)

theorem isR_coe (r : ℝ) : IsR (r : EReal) := ⟨r, rfl⟩
theorem isR_zero : IsR 0 := ⟨0, rfl⟩
theorem isR_one : IsR 1 := ⟨1, rfl⟩
theorem IsR.add {x y : EReal} : IsR x → IsR y → IsR (x + y) := by
  rintro ⟨a, rfl⟩ ⟨b, rfl⟩; exact ⟨a + b, (EReal.coe_add a b).symm⟩
theorem IsR.sub {x y : EReal} : IsR x → IsR y → IsR (x - y) := by
  rintro ⟨a, rfl⟩ ⟨b, rfl⟩; exact ⟨a - b, (EReal.coe_sub a b).symm⟩
theorem IsR.mul {x y : EReal} : IsR x → IsR y → IsR (x * y) := by
  rintro ⟨a, rfl⟩ ⟨b, rfl⟩; exact ⟨a * b, (EReal.coe_mul a b).symm⟩
theorem IsR.neg {x : EReal} : IsR x → IsR (-x) := by
  rintro ⟨a, rfl⟩; exact ⟨-a, (EReal.coe_neg a).symm⟩

/-- The sum of reals, as an extended real. -/
theorem coe_sum' {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem isR_sum {ι : Type} (s : Finset ι) (f : ι → EReal) (h : ∀ i, IsR (f i)) : IsR (∑ i ∈ s, f i) := by
  choose F hF using h
  exact ⟨_, (Finset.sum_congr rfl fun i _ => hF i).trans (coe_sum' s F)⟩

theorem n1024_eq : n1024 = ((1024 : ℝ) : EReal) := by
  simp [Ideal.ofBits, Ideal.ieee, -EReal.coe_mul]; norm_num

theorem eps_eq : ∃ e : ℝ, 0 < e ∧ eps = (e : EReal) := by
  refine ⟨_, ?_, by simp [Ideal.ofBits, Ideal.ieee, -EReal.coe_mul]; rfl⟩
  norm_num

/-- Minus one half, as the programs spell it. -/
abbrev mhalf : EReal := Ideal.ofBits .f32 0xBF000000#32

theorem mhalf_eq : mhalf = ((-(1 / 2) : ℝ) : EReal) := by
  simp [Ideal.ofBits, Ideal.ieee, -EReal.coe_mul, -EReal.coe_neg]; norm_num

theorem div_n (x : ℝ) : Ideal.div (x : EReal) n1024 = ((x * (1 / 1024) : ℝ) : EReal) := by
  rw [n1024_eq, Ideal.div_coe (by norm_num), EReal.coe_mul]

theorem IsR.div_n {x : EReal} : IsR x → IsR (Ideal.div x n1024) := by
  rintro ⟨a, rfl⟩; exact ⟨_, Common.div_n a⟩

/-- The number under the root is a positive real. -/
theorem ms_pos (x : Fin 1024 → EReal) (hx : ∀ k, IsR (x k)) :
    ∃ v : ℝ, 0 < v ∧ Ideal.div (∑ k, x k * x k) n1024 + eps = (v : EReal) := by
  choose X hX using hx
  obtain ⟨e, he, hE⟩ := eps_eq
  refine ⟨(∑ k, X k * X k) * (1 / 1024) + e, ?_, ?_⟩
  · have : 0 ≤ ∑ k, X k * X k := Finset.sum_nonneg fun k _ => mul_self_nonneg _
    positivity
  · rw [EReal.coe_add, ← div_n, ← hE, ← coe_sum']
    simp only [hX, EReal.coe_mul]

theorem rsqrt_pos {v : ℝ} (hv : 0 < v) : Ideal.rsqrt (v : EReal) = (((Real.sqrt v)⁻¹ : ℝ) : EReal) := by
  rw [Ideal.rsqrt_coe, if_neg (not_lt.2 hv.le), if_neg hv.ne']

theorem isR_rs {M : ℕ} (x : (⟨2, ![M, 1024]⟩ : Shape).Idx → EReal) (r : Fin M) (hx : ∀ k, IsR (x (ix2 r k))) : IsR (rs x r) := by
  obtain ⟨v, hv, e⟩ := ms_pos (fun k => x (ix2 r k)) hx
  exact ⟨_, (congrArg Ideal.rsqrt e).trans (rsqrt_pos hv)⟩

/-- **The backward pass of the row norm, on reals**: the derivative of `x / √(mean x² + ε)` taken through the quotient
    rule, and the same written with the row's one over the root alone. -/
theorem rms_bwd (x d : Fin 1024 → EReal) (hx : ∀ k, IsR (x k)) (hd : ∀ k, IsR (d k)) (v : EReal)
    (hv : v = Ideal.div (∑ k, x k * x k) n1024 + eps) (k : Fin 1024) :
    d k * Ideal.rsqrt v + x k * Ideal.div ((∑ j, x j * d j) * (mhalf * Ideal.div (Ideal.rsqrt v) v)) n1024
        + Ideal.div ((∑ j, x j * d j) * (mhalf * Ideal.div (Ideal.rsqrt v) v)) n1024 * x k
      = Ideal.rsqrt v * (d k - x k * Ideal.rsqrt v * Ideal.div (∑ j, d j * (x j * Ideal.rsqrt v)) n1024) := by
  obtain ⟨V, hV, eV⟩ := ms_pos x hx
  rw [hv, eV, rsqrt_pos hV]
  clear hv eV
  choose X hX using hx
  choose D hD using hd
  obtain rfl : x = fun k => (X k : EReal) := funext hX
  obtain rfl : d = fun k => (D k : EReal) := funext hD
  set R : ℝ := (Real.sqrt V)⁻¹ with hR
  have hRR : R * R * V = 1 := by
    rw [hR, ← mul_inv, Real.mul_self_sqrt hV.le, inv_mul_cancel₀ hV.ne']
  rw [mhalf_eq, Ideal.div_coe hV.ne']
  simp only [← EReal.coe_mul, coe_sum', Common.div_n, ← EReal.coe_sub, ← EReal.coe_add]
  refine congrArg _ ?_
  have e : ∑ j, D j * (X j * R) = (∑ j, X j * D j) * R := by
    rw [Finset.sum_mul]; exact Finset.sum_congr rfl fun j _ => by ring
  rw [e]
  have h : 1 / V = R * R := by field_simp; linarith
  rw [h]
  ring

/-- The sum of each column, kept as a row. -/
theorem colSum_apply {M N : ℕ} (x : FVec Ideal ⟨2, ![M, N]⟩ .f32) (h : (⟨2, ![M, N]⟩ : Shape).Reduces [0] ⟨1, ![N]⟩)
    (hs : (⟨1, ![N]⟩ : Shape).ShapeCasts ⟨2, ![1, N]⟩) (hφ : FKind.Formats .f32) (hacc : (0x00000000#32 : BitVec 32) = FKind.add.neutral .f32 hφ)
    (z : Fin 1) (k : Fin N) :
    shapeCast ⟨2, ![1, N]⟩ (multiReduction .add [0] ⟨1, ![N]⟩ x 0x00000000#32 h hφ hacc) hs (ix2 z k) = ∑ r : Fin M, x (ix2 r k) := by
  refine (shapeCast_a_1a_apply _ hs z k).trans ?_
  · refine (Ideal.multiReduction_add_single x _ h hφ hacc (ix1 k)).trans (Finset.sum_congr rfl fun r _ => congrArg x ?_)
    funext a; apply Fin.ext
    match a with
    | ⟨0, _⟩ => rfl
    | ⟨1, _⟩ => rfl

/-- What the comparison with infinity says. -/
theorem isR_of_lt {x : EReal} (h : Ideal.cmp .olt (max x (-x)) (Ideal.ofBits .f32 0x7F800000#32) = 1#1) : IsR x := by
  have ht : Ideal.ofBits .f32 0x7F800000#32 = ⊤ := by simp [Ideal.ofBits, Ideal.ieee]
  rw [ht] at h
  have h' : max x (-x) < ⊤ := by
    by_contra hc
    simp [Ideal.cmp, hc] at h
  induction x with
  | bot => simp at h'
  | top => simp at h'
  | coe r => exact ⟨r, rfl⟩

end Cert.Common

end
-- ==== Proof.ProjBwd.lean ====
module

public import proofs.«01_k».proof.Proof.Reals
public import proofs.«01_k».proof.Proof.Gen.ProjBwdIdeal.Value
public import proofs.«01_k».proof.Proof.Gen.ProjBwdRefIdeal.Read

@[expose] public section

noncomputable section

/-! The gradient through the projection and the norm before it: the kernel takes the 5888 columns of the projection's
gradient in thirteen pieces, one product each, and writes the norm's backward pass with the row's one over the root; the
reference makes one product and goes through the quotient rule. -/

namespace Cert.ProjBwdProof

open Idealize.ShloMosaic hiding ix1 ix2 eq_ix1 eq_ix2
open Idealize.ShloMosaic.TcCoe Idealize.ShloMosaic.Tactic Idealize.SL.Sem Idealize.ShloMosaic.ValueIdx
open Cert.ProjBwdIdeal Cert.ProjBwdIdeal.Gen
open Cert.ProjBwdRefIdeal.Read Cert.Common
open Idealize.ShloMosaic.Pipeline (Dat)

/-- One piece's share of entry `(r, k)` of the product. -/
def seg {M n : ℕ} (x : (⟨2, ![M, n]⟩ : Shape).Idx → EReal) (w : (⟨2, ![1024, 5888]⟩ : Shape).Idx → EReal) (o : ℕ) (h : o + n ≤ 5888)
    (r : Fin M) (k : Fin 1024) : EReal := ∑ q : Fin n, x (ix2 r q) * w (ix2 k ⟨o + q.val, by omega⟩)

theorem isR_seg {M n : ℕ} (x : (⟨2, ![M, n]⟩ : Shape).Idx → EReal) (w : (⟨2, ![1024, 5888]⟩ : Shape).Idx → EReal) (o : ℕ) (h : o + n ≤ 5888)
    (r : Fin M) (k : Fin 1024) (hx : ∀ i, IsR (x i)) (hw : ∀ i, IsR (w i)) : IsR (seg x w o h r k) :=
  isR_sum _ _ fun q => (hx _).mul (hw _)

/-- A sum over the 5888 columns, piece by piece. -/
theorem split13 {β : Type} [AddCommMonoid β] (f : Fin 5888 → β) : ∑ k : Fin 5888, f k = (∑ q : Fin 512, f ⟨0 + q.val, by omega⟩) + (∑ q : Fin 512, f ⟨512 + q.val, by omega⟩) + (∑ q : Fin 512, f ⟨1024 + q.val, by omega⟩) + (∑ q : Fin 256, f ⟨1536 + q.val, by omega⟩) + (∑ q : Fin 256, f ⟨1792 + q.val, by omega⟩) + (∑ q : Fin 256, f ⟨2048 + q.val, by omega⟩) + (∑ q : Fin 256, f ⟨2304 + q.val, by omega⟩) + (∑ q : Fin 256, f ⟨2560 + q.val, by omega⟩) + (∑ q : Fin 256, f ⟨2816 + q.val, by omega⟩) + (∑ q : Fin 256, f ⟨3072 + q.val, by omega⟩) + (∑ q : Fin 256, f ⟨3328 + q.val, by omega⟩) + (∑ q : Fin 256, f ⟨3584 + q.val, by omega⟩) + (∑ q : Fin 2048, f ⟨3840 + q.val, by omega⟩) := by
  have e : (∑ q : Fin 512, f ⟨0 + q.val, by omega⟩) = ∑ q : Fin 512, f ⟨q.val, by omega⟩ :=
    Finset.sum_congr rfl fun q _ => congrArg f (Fin.ext (Nat.zero_add _))
  rw [e]
  show (∑ k : Fin (512 + 512 + 512 + 256 + 256 + 256 + 256 + 256 + 256 + 256 + 256 + 256 + 2048), f k) = _
  simp only [Fin.sum_univ_add]
  rfl

theorem cat0 (x0 x1 x2 x3 x4 x5 x6 x7 x8 x9 x10 x11 x12) (r : Fin 4096) (q : Fin 512) : val_main_v4 (F := Ideal) x0 x1 x2 x3 x4 x5 x6 x7 x8 x9 x10 x11 x12 (ix2 r ⟨0 + q.val, by omega⟩) = x0 (ix2 r q) := by
  unfold val_main_v4
  refine concatenate_apply_piece (t := ProjBwdRefIdeal.S4096x5888) (1 : Fin 2) _ _ _ 0 (by show 0 < 13; omega) ⟨2, ![4096, 512]⟩ x0 rfl rfl 0 (by sl_kernel_rfl) (ix2 r q) (fun b hb => ?_) rfl
  match b with
  | ⟨0, _⟩ => rfl
  | ⟨1, _⟩ => exact absurd rfl hb
theorem cat1 (x0 x1 x2 x3 x4 x5 x6 x7 x8 x9 x10 x11 x12) (r : Fin 4096) (q : Fin 512) : val_main_v4 (F := Ideal) x0 x1 x2 x3 x4 x5 x6 x7 x8 x9 x10 x11 x12 (ix2 r ⟨512 + q.val, by omega⟩) = x1 (ix2 r q) := by
  unfold val_main_v4
  refine concatenate_apply_piece (t := ProjBwdRefIdeal.S4096x5888) (1 : Fin 2) _ _ _ 1 (by show 1 < 13; omega) ⟨2, ![4096, 512]⟩ x1 rfl rfl 512 (by sl_kernel_rfl) (ix2 r q) (fun b hb => ?_) rfl
  match b with
  | ⟨0, _⟩ => rfl
  | ⟨1, _⟩ => exact absurd rfl hb
theorem cat2 (x0 x1 x2 x3 x4 x5 x6 x7 x8 x9 x10 x11 x12) (r : Fin 4096) (q : Fin 512) : val_main_v4 (F := Ideal) x0 x1 x2 x3 x4 x5 x6 x7 x8 x9 x10 x11 x12 (ix2 r ⟨1024 + q.val, by omega⟩) = x2 (ix2 r q) := by
  unfold val_main_v4
  refine concatenate_apply_piece (t := ProjBwdRefIdeal.S4096x5888) (1 : Fin 2) _ _ _ 2 (by show 2 < 13; omega) ⟨2, ![4096, 512]⟩ x2 rfl rfl 1024 (by sl_kernel_rfl) (ix2 r q) (fun b hb => ?_) rfl
  match b with
  | ⟨0, _⟩ => rfl
  | ⟨1, _⟩ => exact absurd rfl hb
theorem cat3 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨1536 + q.val, by omega⟩) = x3 (ix2 r q) := by
  unfold val_main_v4
  refine concatenate_apply_piece (t := ProjBwdRefIdeal.S4096x5888) (1 : Fin 2) _ _ _ 3 (by show 3 < 13; omega) ⟨2, ![4096, 256]⟩ x3 rfl rfl 1536 (by sl_kernel_rfl) (ix2 r q) (fun b hb => ?_) rfl
  match b with
  | ⟨0, _⟩ => rfl
  | ⟨1, _⟩ => exact absurd rfl hb
theorem cat4 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨1792 + q.val, by omega⟩) = x4 (ix2 r q) := by
  unfold val_main_v4
  refine concatenate_apply_piece (t := ProjBwdRefIdeal.S4096x5888) (1 : Fin 2) _ _ _ 4 (by show 4 < 13; omega) ⟨2, ![4096, 256]⟩ x4 rfl rfl 1792 (by sl_kernel_rfl) (ix2 r q) (fun b hb => ?_) rfl
  match b with
  | ⟨0, _⟩ => rfl
  | ⟨1, _⟩ => exact absurd rfl hb
theorem cat5 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨2048 + q.val, by omega⟩) = x5 (ix2 r q) := by
  unfold val_main_v4
  refine concatenate_apply_piece (t := ProjBwdRefIdeal.S4096x5888) (1 : Fin 2) _ _ _ 5 (by show 5 < 13; omega) ⟨2, ![4096, 256]⟩ x5 rfl rfl 2048 (by sl_kernel_rfl) (ix2 r q) (fun b hb => ?_) rfl
  match b with
  | ⟨0, _⟩ => rfl
  | ⟨1, _⟩ => exact absurd rfl hb
theorem cat6 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨2304 + q.val, by omega⟩) = x6 (ix2 r q) := by
  unfold val_main_v4
  refine concatenate_apply_piece (t := ProjBwdRefIdeal.S4096x5888) (1 : Fin 2) _ _ _ 6 (by show 6 < 13; omega) ⟨2, ![4096, 256]⟩ x6 rfl rfl 2304 (by sl_kernel_rfl) (ix2 r q) (fun b hb => ?_) rfl
  match b with
  | ⟨0, _⟩ => rfl
  | ⟨1, _⟩ => exact absurd rfl hb
theorem cat7 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨2560 + q.val, by omega⟩) = x7 (ix2 r q) := by
  unfold val_main_v4
  refine concatenate_apply_piece (t := ProjBwdRefIdeal.S4096x5888) (1 : Fin 2) _ _ _ 7 (by show 7 < 13; omega) ⟨2, ![4096, 256]⟩ x7 rfl rfl 2560 (by sl_kernel_rfl) (ix2 r q) (fun b hb => ?_) rfl
  match b with
  | ⟨0, _⟩ => rfl
  | ⟨1, _⟩ => exact absurd rfl hb
theorem cat8 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨2816 + q.val, by omega⟩) = x8 (ix2 r q) := by
  unfold val_main_v4
  refine concatenate_apply_piece (t := ProjBwdRefIdeal.S4096x5888) (1 : Fin 2) _ _ _ 8 (by show 8 < 13; omega) ⟨2, ![4096, 256]⟩ x8 rfl rfl 2816 (by sl_kernel_rfl) (ix2 r q) (fun b hb => ?_) rfl
  match b with
  | ⟨0, _⟩ => rfl
  | ⟨1, _⟩ => exact absurd rfl hb
theorem cat9 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨3072 + q.val, by omega⟩) = x9 (ix2 r q) := by
  unfold val_main_v4
  refine concatenate_apply_piece (t := ProjBwdRefIdeal.S4096x5888) (1 : Fin 2) _ _ _ 9 (by show 9 < 13; omega) ⟨2, ![4096, 256]⟩ x9 rfl rfl 3072 (by sl_kernel_rfl) (ix2 r q) (fun b hb => ?_) rfl
  match b with
  | ⟨0, _⟩ => rfl
  | ⟨1, _⟩ => exact absurd rfl hb
theorem cat10 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨3328 + q.val, by omega⟩) = x10 (ix2 r q) := by
  unfold val_main_v4
  refine concatenate_apply_piece (t := ProjBwdRefIdeal.S4096x5888) (1 : Fin 2) _ _ _ 10 (by show 10 < 13; omega) ⟨2, ![4096, 256]⟩ x10 rfl rfl 3328 (by sl_kernel_rfl) (ix2 r q) (fun b hb => ?_) rfl
  match b with
  | ⟨0, _⟩ => rfl
  | ⟨1, _⟩ => exact absurd rfl hb
theorem cat11 (x0 x1 x2 x3 x4 x5 x6 x7 x8 x9 x10 x11 x12) (r : Fin 4096) (q : Fin 256) : val_main_v4 (F := Ideal) x0 x1 x2 x3 x4 x5 x6 x7 x8 x9 x10 x11 x12 (ix2 r ⟨3584 + q.val, by omega⟩) = x11 (ix2 r q) := by
  unfold val_main_v4
  refine concatenate_apply_piece (t := ProjBwdRefIdeal.S4096x5888) (1 : Fin 2) _ _ _ 11 (by show 11 < 13; omega) ⟨2, ![4096, 256]⟩ x11 rfl rfl 3584 (by sl_kernel_rfl) (ix2 r q) (fun b hb => ?_) rfl
  match b with
  | ⟨0, _⟩ => rfl
  | ⟨1, _⟩ => exact absurd rfl hb
theorem cat12 (x0 x1 x2 x3 x4 x5 x6 x7 x8 x9 x10 x11 x12) (r : Fin 4096) (q : Fin 2048) : val_main_v4 (F := Ideal) x0 x1 x2 x3 x4 x5 x6 x7 x8 x9 x10 x11 x12 (ix2 r ⟨3840 + q.val, by omega⟩) = x12 (ix2 r q) := by
  unfold val_main_v4
  refine concatenate_apply_piece (t := ProjBwdRefIdeal.S4096x5888) (1 : Fin 2) _ _ _ 12 (by show 12 < 13; omega) ⟨2, ![4096, 2048]⟩ x12 rfl rfl 3840 (by sl_kernel_rfl) (ix2 r q) (fun b hb => ?_) rfl
  match b with
  | ⟨0, _⟩ => rfl
  | ⟨1, _⟩ => exact absurd rfl hb

/-- The reference's product, piece by piece. -/
theorem ref_du (x0 x1 x2 x3 x4 x5 x6 x7 x8 x9 x10 x11 x12 w) (r : Fin 4096) (k : Fin 1024) : val_main_v22 (F := Ideal) x0 x1 x2 x3 x4 x5 x6 x7 x8 x9 x10 x11 x12 w (ix2 r k)
    = seg x0 w 0 (by omega) r k + seg x1 w 512 (by omega) r k + seg x2 w 1024 (by omega) r k + seg x3 w 1536 (by omega) r k + seg x4 w 1792 (by omega) r k + seg x5 w 2048 (by omega) r k + seg x6 w 2304 (by omega) r k + seg x7 w 2560 (by omega) r k + seg x8 w 2816 (by omega) r k + seg x9 w 3072 (by omega) r k + seg x10 w 3328 (by omega) r k + seg x11 w 3584 (by omega) r k + seg x12 w 3840 (by omega) r k := by
  refine (val_main_v22_apply x0 x1 x2 x3 x4 x5 x6 x7 x8 x9 x10 x11 x12 w _).trans ?_
  rw [split13]
  simp only [val_main_v5_apply]
  refine (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (Finset.sum_congr rfl fun q _ => congrArg₂ (fun a b : EReal => a * b) ((congrArg _ (eq_ix2 _)).trans (cat0 x0 x1 x2 x3 x4 x5 x6 x7 x8 x9 x10 x11 x12 r q)) (congrArg w (eq_ix2 _)))
    (Finset.sum_congr rfl fun q _ => congrArg₂ (fun a b : EReal => a * b) ((congrArg _ (eq_ix2 _)).trans (cat1 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat2 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat3 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat4 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat5 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat6 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat7 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat8 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat9 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat10 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat11 x0 x1 x2 x3 x4 x5 x6 x7 x8 x9 x10 x11 x12 r q)) (congrArg w (eq_ix2 _))))
    (Finset.sum_congr rfl fun q _ => congrArg₂ (fun a b : EReal => a * b) ((congrArg _ (eq_ix2 _)).trans (cat12 x0 x1 x2 x3 x4 x5 x6 x7 x8 x9 x10 x11 x12 r q)) (congrArg w (eq_ix2 _))))

theorem isR_du (x0 x1 x2 x3 x4 x5 x6 x7 x8 x9 x10 x11 x12 w) (h0 : ∀ i, IsR (x0 i)) (h1 : ∀ i, IsR (x1 i)) (h2 : ∀ i, IsR (x2 i)) (h3 : ∀ i, IsR (x3 i)) (h4 : ∀ i, IsR (x4 i)) (h5 : ∀ i, IsR (x5 i)) (h6 : ∀ i, IsR (x6 i)) (h7 : ∀ i, IsR (x7 i)) (h8 : ∀ i, IsR (x8 i)) (h9 : ∀ i, IsR (x9 i)) (h10 : ∀ i, IsR (x10 i)) (h11 : ∀ i, IsR (x11 i)) (h12 : ∀ i, IsR (x12 i)) (hw : ∀ i, IsR (w i)) (r : Fin 4096) (k : Fin 1024) : IsR (val_main_v22 (F := Ideal) x0 x1 x2 x3 x4 x5 x6 x7 x8 x9 x10 x11 x12 w (ix2 r k)) := by
  rw [ref_du]
  exact (((((((((((((isR_seg _ _ _ _ r k h0 hw).add (isR_seg _ _ _ _ r k h1 hw)).add (isR_seg _ _ _ _ r k h2 hw)).add (isR_seg _ _ _ _ r k h3 hw)).add (isR_seg _ _ _ _ r k h4 hw)).add (isR_seg _ _ _ _ r k h5 hw)).add (isR_seg _ _ _ _ r k h6 hw)).add (isR_seg _ _ _ _ r k h7 hw)).add (isR_seg _ _ _ _ r k h8 hw)).add (isR_seg _ _ _ _ r k h9 hw)).add (isR_seg _ _ _ _ r k h10 hw)).add (isR_seg _ _ _ _ r k h11 hw)).add (isR_seg _ _ _ _ r k h12 hw))

theorem ref_v (x) (r : Fin 4096) : val_main_v12 (F := Ideal) x (ix2 r 0) = Ideal.div (∑ k : Fin 1024, x (ix2 r k) * x (ix2 r k)) n1024 + eps := by
  rw [val_main_v12_apply, val_main_v10_apply, val_main_v8_apply, val_main_v7_apply, val_main_v9_apply, val_main_v11_apply, val_main_cst_apply, val_main_cst_0_apply, val_main_cst_1_apply]
  refine congrArg (fun z : EReal => Ideal.div z n1024 + eps) ?_
  refine (congrArg (fun z : EReal => z + _) Ideal.ofBits_zero_f32).trans ((zero_add _).trans (Finset.sum_congr rfl fun k _ => ?_))
  rw [val_main_v6_apply]
  exact congrArg (fun i => x i * x i) (eq_ix2 _)

theorem ref_r (x) (r : Fin 4096) : val_main_v13 (F := Ideal) x (ix2 r 0) = rs x r :=
  (val_main_v13_apply x _).trans (congrArg Ideal.rsqrt (ref_v x r))

theorem ref_n (x) (r : Fin 4096) (k : Fin 1024) : val_main_v18 (F := Ideal) x (ix2 r k) = x (ix2 r k) * rs x r := by
  rw [val_main_v18_apply, val_main_v17_apply]
  exact congrArg (fun b : EReal => x (ix2 r k) * b) ((congrArg _ (eq_ix2 _)).trans (ref_r x r))

/-- The gradient of the norm's argument, added to the one that came around it, from the gradient `d` of the normed rows. -/
def dxF (y x : (⟨2, ![4096, 1024]⟩ : Shape).Idx → EReal) (g : (⟨2, ![1, 1024]⟩ : Shape).Idx → EReal) (d : Fin 4096 → Fin 1024 → EReal) (r : Fin 4096) (k : Fin 1024) : EReal :=
  y (ix2 r k) + rs x r * (d r k * g (ix2 0 k) - x (ix2 r k) * rs x r * Ideal.div (∑ j : Fin 1024, d r j * g (ix2 0 j) * (x (ix2 r j) * rs x r)) n1024)

/-- Row `r`'s share of the gain's gradient. -/
def dgF (x : (⟨2, ![4096, 1024]⟩ : Shape).Idx → EReal) (d : Fin 4096 → Fin 1024 → EReal) (k : Fin 1024) (r : Fin 4096) : EReal := d r k * (x (ix2 r k) * rs x r)

/-- The gain's gradient. -/
theorem ref_dg (x0 x1 x2 x3 x4 x5 x6 x7 x8 x9 x10 x11 x12 x w) (z : Fin 1) (k : Fin 1024) : val_main_v25 (F := Ideal) x0 x1 x2 x3 x4 x5 x6 x7 x8 x9 x10 x11 x12 x w (ix2 z k)
    = ∑ r : Fin 4096, dgF x (fun r k => val_main_v22 (F := Ideal) x0 x1 x2 x3 x4 x5 x6 x7 x8 x9 x10 x11 x12 w (ix2 r k)) k r := by
  rw [val_main_v25_apply, val_main_v24_apply, val_main_cst_3_apply]
  refine (congrArg (fun z : EReal => z + _) Ideal.ofBits_zero_f32).trans ((zero_add _).trans (Finset.sum_congr rfl fun r _ => ?_))
  rw [val_main_v23_apply]
  refine (mul_comm (G := EReal) _ _).trans ?_
  have e : idx_main_v24 (idx_main_v25 (ix2 z k)) r = ix2 r k := by
    funext a; apply Fin.ext
    match a with
    | ⟨0, _⟩ => rfl
    | ⟨1, _⟩ => show z.val * 1024 + k.val = k.val; omega
  rw [e]
  exact congrArg (fun b : EReal => _ * b) (ref_n x r k)

theorem ref_d (x0 x1 x2 x3 x4 x5 x6 x7 x8 x9 x10 x11 x12 g w) (r : Fin 4096) (k : Fin 1024) : val_main_v27 (F := Ideal) x0 x1 x2 x3 x4 x5 x6 x7 x8 x9 x10 x11 x12 g w (ix2 r k)
    = val_main_v22 (F := Ideal) x0 x1 x2 x3 x4 x5 x6 x7 x8 x9 x10 x11 x12 w (ix2 r k) * g (ix2 0 k) := by
  rw [val_main_v27_apply, val_main_v26_apply]
  exact congrArg (fun b : EReal => _ * b) (congrArg g (eq_ix2 _))

theorem ref_s (x0 x1 x2 x3 x4 x5 x6 x7 x8 x9 x10 x11 x12 x g w) (r : Fin 4096) : val_main_v36 (F := Ideal) x0 x1 x2 x3 x4 x5 x6 x7 x8 x9 x10 x11 x12 x g w (ix1 r)
    = Ideal.div ((∑ j : Fin 1024, x (ix2 r j) * (val_main_v22 (F := Ideal) x0 x1 x2 x3 x4 x5 x6 x7 x8 x9 x10 x11 x12 w (ix2 r j) * g (ix2 0 j)))
        * (mhalf * Ideal.div (rs x r) (Ideal.div (∑ k : Fin 1024, x (ix2 r k) * x (ix2 r k)) n1024 + eps))) n1024 := by
  rw [val_main_v36_apply, val_main_cst_6_apply]
  refine (congrArg (fun z : EReal => z + _) Ideal.ofBits_zero_f32).trans ((zero_add _).trans ((Fin.sum_univ_one _).trans ?_))
  have e : idx_main_v36 (ix1 r) 0 = ix2 r 0 := eq_ix2 _
  rw [e, val_main_v35_apply, val_main_v33_apply, val_main_v30_apply, val_main_v29_apply, val_main_v16_apply, val_main_v15_apply, val_main_v14_apply, val_main_v34_apply,
    ref_r, ref_v, val_main_cst_2_apply, val_main_cst_4_apply, val_main_cst_5_apply]
  refine congrArg (fun z : EReal => Ideal.div (z * _) n1024) ?_
  refine (congrArg (fun z : EReal => z + _) Ideal.ofBits_zero_f32).trans ((zero_add _).trans (Finset.sum_congr rfl fun j _ => ?_))
  have e : idx_main_v29 (idx_main_v30 (ix2 r 0)) j = ix2 r j := by
    funext a; apply Fin.ext
    match a with
    | ⟨0, _⟩ => first | rfl | (show r.val * 1 + 0 = r.val; omega)
    | ⟨1, _⟩ => rfl
  rw [e, val_main_v28_apply, ref_d]
  rfl

/-- The gradient of the norm's argument, added to the one that came around it. -/
theorem ref_dx (x0 x1 x2 x3 x4 x5 x6 x7 x8 x9 x10 x11 x12 y x g w) (hx : ∀ i, IsR (x i)) (r : Fin 4096) (hd : ∀ k, IsR (val_main_v22 (F := Ideal) x0 x1 x2 x3 x4 x5 x6 x7 x8 x9 x10 x11 x12 w (ix2 r k) * g (ix2 0 k))) (k : Fin 1024) :
    val_main_v42 (F := Ideal) x0 x1 x2 x3 x4 x5 x6 x7 x8 x9 x10 x11 x12 y x g w (ix2 r k)
    = dxF y x g (fun r k => val_main_v22 (F := Ideal) x0 x1 x2 x3 x4 x5 x6 x7 x8 x9 x10 x11 x12 w (ix2 r k)) r k := by
  unfold dxF
  rw [val_main_v42_apply, val_main_v41_apply, val_main_v39_apply, val_main_v40_apply, val_main_v38_apply, val_main_v37_apply, val_main_v32_apply, val_main_v31_apply, ref_d]
  have e1 : idx_main_v37 (ix2 r k) = ix1 r := eq_ix1 _
  have e2 : idx_main_v31 (ix2 r k) = ix2 r 0 := eq_ix2 _
  rw [e1, e2, ref_r, ref_s]
  exact congrArg (fun z : EReal => y (ix2 r k) + z) (rms_bwd (fun k => x (ix2 r k)) (fun k => val_main_v22 (F := Ideal) x0 x1 x2 x3 x4 x5 x6 x7 x8 x9 x10 x11 x12 w (ix2 r k) * g (ix2 0 k)) (fun k => hx _) hd _ rfl k)

/-! ## The body's values -/

theorem mm512 (u : FVec Ideal S256x512 .bf16) (w : FVec Ideal S512x1024 .bf16) (h : S512x1024.ShapeCasts S512x1024) (r : Fin 256) (k : Fin 1024) :
    matmul dot_S256x512_S512x1024_S256x1024_1_0_0_1_n_n none u (shapeCast S512x1024 w h) (constant S256x1024 .f32 0x00000000#32) (ix2 r k) = ∑ q : Fin 512, u (ix2 r q) * w (ix2 q k) := by
  refine (Ideal.matmul_plain_apply (M := 256) (K := 512) (N := 1024) none _ _ _ r k).trans ?_
  simp only [constant_apply, Ideal.ofBits_zero_f32, zero_add, shapeCast_self]

theorem mm256 (u : FVec Ideal S256x256 .bf16) (w : FVec Ideal S256x1024 .bf16) (h : S256x1024.ShapeCasts S256x1024) (r : Fin 256) (k : Fin 1024) :
    matmul dot_S256x256_S256x1024_S256x1024_1_0_0_1_n_n none u (shapeCast S256x1024 w h) (constant S256x1024 .f32 0x00000000#32) (ix2 r k) = ∑ q : Fin 256, u (ix2 r q) * w (ix2 q k) := by
  refine (Ideal.matmul_plain_apply (M := 256) (K := 256) (N := 1024) none _ _ _ r k).trans ?_
  simp only [constant_apply, Ideal.ofBits_zero_f32, zero_add, shapeCast_self]

theorem mm2048 (u : FVec Ideal S256x2048 .bf16) (w : FVec Ideal S2048x1024 .bf16) (h : S2048x1024.ShapeCasts S2048x1024) (r : Fin 256) (k : Fin 1024) :
    matmul dot_S256x2048_S2048x1024_S256x1024_1_0_0_1_n_n none u (shapeCast S2048x1024 w h) (constant S256x1024 .f32 0x00000000#32) (ix2 r k) = ∑ q : Fin 2048, u (ix2 r q) * w (ix2 q k) := by
  refine (Ideal.matmul_plain_apply (M := 256) (K := 2048) (N := 1024) none _ _ _ r k).trans ?_
  simp only [constant_apply, Ideal.ofBits_zero_f32, zero_add, shapeCast_self]

theorem pay4_apply (v4 v5 v9 v10 v14 v15 v19 v21) (r : Fin 256) (k : Fin 1024) : k0_pay4 (F := Ideal) v4 v5 v9 v10 v14 v15 v19 v21 (ix2 r k)
    = (∑ q : Fin 512, v4 (ix2 r q) * v5 (ix2 q k)) + (∑ q : Fin 512, v9 (ix2 r q) * v10 (ix2 q k)) + (∑ q : Fin 512, v14 (ix2 r q) * v15 (ix2 q k)) + (∑ q : Fin 256, v19 (ix2 r q) * v21 (ix2 q k)) := by
  unfold k0_pay4
  exact (congrArg₂ (fun a b : EReal => a + b) (congrArg₂ (fun a b : EReal => a + b) (congrArg₂ (fun a b : EReal => a + b) ((congrArg₂ (fun a b : EReal => a + b) Ideal.ofBits_zero_f32 (mm512 v4 v5 _ r k)).trans (zero_add _)) (mm512 v9 v10 _ r k)) (mm512 v14 v15 _ r k)) (mm256 v19 v21 _ r k))

theorem pay5_apply (v25 v27) (r : Fin 256) (k : Fin 1024) : k0_pay5 (F := Ideal) v25 v27 (ix2 r k) = ∑ q : Fin 256, v25 (ix2 r q) * v27 (ix2 q k) := by
  unfold k0_pay5
  exact mm256 v25 v27 _ r k

theorem pay6_apply (v24 v29 v31 v33 v37 v39 v43 v45 v49 v51 v55 v57) (r : Fin 256) (k : Fin 1024) : k0_pay6 (F := Ideal) v24 v29 v31 v33 v37 v39 v43 v45 v49 v51 v55 v57 (ix2 r k)
    = v24 (ix2 r k) + v29 (ix2 r k) + (∑ q : Fin 256, v31 (ix2 r q) * v33 (ix2 q k)) + (∑ q : Fin 256, v37 (ix2 r q) * v39 (ix2 q k)) + (∑ q : Fin 256, v43 (ix2 r q) * v45 (ix2 q k)) + (∑ q : Fin 256, v49 (ix2 r q) * v51 (ix2 q k)) + (∑ q : Fin 256, v55 (ix2 r q) * v57 (ix2 q k)) := by
  unfold k0_pay6
  exact (congrArg₂ (fun a b : EReal => a + b) (congrArg₂ (fun a b : EReal => a + b) (congrArg₂ (fun a b : EReal => a + b) (congrArg₂ (fun a b : EReal => a + b) (congrArg₂ (fun a b : EReal => a + b) (Eq.refl (v24 (ix2 r k) + v29 (ix2 r k) : EReal)) (mm256 v31 v33 _ r k)) (mm256 v37 v39 _ r k)) (mm256 v43 v45 _ r k)) (mm256 v49 v51 _ r k)) (mm256 v55 v57 _ r k))

theorem pay8_apply (v60 v62 v63 v67 v69 v73 v74) (r : Fin 256) (k : Fin 1024) : k0_pay8 (F := Ideal) v60 v62 v63 v67 v69 v73 v74 (ix2 r k)
    = v60 (ix2 r k) + (∑ q : Fin 256, v62 (ix2 r q) * v63 (ix2 q k)) + (∑ q : Fin 256, v67 (ix2 r q) * v69 (ix2 q k)) + (∑ q : Fin 2048, v73 (ix2 r q) * v74 (ix2 q k)) := by
  unfold k0_pay8
  exact (congrArg₂ (fun a b : EReal => a + b) (congrArg₂ (fun a b : EReal => a + b) (congrArg₂ (fun a b : EReal => a + b) (Eq.refl (v60 (ix2 r k) : EReal)) (mm256 v62 v63 _ r k)) (mm256 v67 v69 _ r k)) (mm2048 v73 v74 _ r k))

theorem pay9_apply (x : Vec Ideal S256x1024 .f32) (r : Fin 256) : k0_pay9 (F := Ideal) x (ix2 r 0) = rs x r := by
  unfold k0_pay9
  exact congrArg (fun z : EReal => Ideal.rsqrt (Ideal.div z n1024 + eps)) (rowSum_apply (mulf x x) _ _ _ _ r 0)

theorem pay10_apply (x : Vec Ideal S256x1024 .f32) (r : Fin 256) (k : Fin 1024) : k0_pay10 (F := Ideal) x (ix2 r k) = x (ix2 r k) * rs x r := by
  unfold k0_pay10
  show x (ix2 r k) * broadcastTo S256x1024 _ _ (ix2 r k) = _
  rw [bcol_apply, pay9_apply]

theorem pay11_apply (v60 v62 v63 v67 v69 v73 v74) (x : Vec Ideal S256x1024 .f32) (z : Fin 1) (k : Fin 1024) : k0_pay11 (F := Ideal) v60 v62 v63 v67 v69 v73 v74 x (ix2 z k)
    = ∑ r : Fin 256, k0_pay8 (F := Ideal) v60 v62 v63 v67 v69 v73 v74 (ix2 r k) * (x (ix2 r k) * rs x r) := by
  unfold k0_pay11
  refine (colSum_apply _ _ _ _ _ z k).trans (Finset.sum_congr rfl fun r _ => ?_)
  exact congrArg (fun b : EReal => _ * b) (pay10_apply x r k)

theorem pay12_apply (v60 v62 v63 v67 v69 v73 v74) (g : Vec Ideal S1x1024 .f32) (r : Fin 256) (k : Fin 1024) : k0_pay12 (F := Ideal) v60 v62 v63 v67 v69 v73 v74 g (ix2 r k)
    = k0_pay8 (F := Ideal) v60 v62 v63 v67 v69 v73 v74 (ix2 r k) * g (ix2 0 k) := by
  unfold k0_pay12
  exact congrArg (fun b : EReal => _ * b) (broadcastTo_1b_ab_apply _ _ _ _)

theorem pay13_apply (v60 v62 v63 v67 v69 v73 v74) (g : Vec Ideal S1x1024 .f32) (x : Vec Ideal S256x1024 .f32) (r : Fin 256) : k0_pay13 (F := Ideal) v60 v62 v63 v67 v69 v73 v74 g x (ix2 r 0)
    = Ideal.div (∑ j : Fin 1024, k0_pay8 (F := Ideal) v60 v62 v63 v67 v69 v73 v74 (ix2 r j) * g (ix2 0 j) * (x (ix2 r j) * rs x r)) n1024 := by
  unfold k0_pay13
  refine congrArg (fun z : EReal => Ideal.div z n1024) ((rowSum_apply _ _ _ _ _ r 0).trans (Finset.sum_congr rfl fun j _ => ?_))
  exact congrArg₂ (fun a b : EReal => a * b) (pay12_apply _ _ _ _ _ _ _ g r j) (pay10_apply x r j)

theorem pay2_apply (v87 v89 v94 v99 v109) (r : Fin 256) (k : Fin 1024) : k0_pay2 (F := Ideal) v87 v89 v94 v99 v109 (ix2 r k)
    = v109 (ix2 r k) + v87 (ix2 r 0) * (v94 (ix2 r k) - v89 (ix2 r k) * v99 (ix2 r 0)) := by
  unfold k0_pay2
  exact congrArg₂ (fun a b : EReal => v109 (ix2 r k) + a * (v94 (ix2 r k) - v89 (ix2 r k) * b)) (bcol_apply v87 _ r k) (bcol_apply v99 _ r k)

theorem pay1_apply (v92 : FVec Ideal S1x1024 .f32) (v105 : Vec Ideal S1x1024 .f32) (i) : k0_pay1 (F := Ideal) v92 v105 i = v105 i + v92 i := by
  unfold k0_pay1
  rw [shapeCast_self]
  rfl

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![t.val, 0] := (by decide +kernel : ∀ t : Fin grid0.N, _)
theorem idx9 : ∀ t : Fin cfg0.N, win0_9.index t = ![t.val, 0] := (by decide +kernel : ∀ t : Fin grid0.N, _)
theorem idx10 : ∀ t : Fin cfg0.N, win0_10.index t = ![t.val, 0] := (by decide +kernel : ∀ t : Fin grid0.N, _)
theorem idx11 : ∀ t : Fin cfg0.N, win0_11.index t = ![t.val, 0] := (by decide +kernel : ∀ t : Fin grid0.N, _)
theorem idx12 : ∀ t : Fin cfg0.N, win0_12.index t = ![t.val, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![0, 0] := (by decide +kernel : ∀ t : Fin grid0.N, _)

/-- Row `r` of block `t`. -/
abbrev row (t : Fin cfg0.N) (r : Fin 256) : Fin 4096 := ⟨t.val * 256 + r.val, by have : t.val < 16 := t.isLt; omega⟩

theorem V_v0 (c : Dev nD) : V m c main_v0 = transpose S5888x1024 [1, 0] (m ((c : Thread nD τ).loc main_arg16)) transposes_S1024x5888_S5888x1024_1_0 := by
  rfl

theorem blk0 (c : Dev nD) (t : Fin cfg0.N) (r : Fin 256) (k : Fin 512) :
    iblk m c 0 t (ix2 r k) = m ((c : Thread nD τ).loc main_arg0) (ix2 (row t r) k) := by
  blk_simp [iblk]
  rw [V_main_arg0]
  refine congrArg (m ((c : Thread nD τ).loc main_arg0)) ?_
  blk_ext [idx0]
theorem blk1 (c : Dev nD) (t : Fin cfg0.N) (r : Fin 256) (k : Fin 512) :
    iblk m c 1 t (ix2 r k) = m ((c : Thread nD τ).loc main_arg1) (ix2 (row t r) k) := by
  blk_simp [iblk]
  rw [V_main_arg1]
  refine congrArg (m ((c : Thread nD τ).loc main_arg1)) ?_
  blk_ext [idx1]
theorem blk2 (c : Dev nD) (t : Fin cfg0.N) (r : Fin 256) (k : Fin 512) :
    iblk m c 2 t (ix2 r k) = m ((c : Thread nD τ).loc main_arg2) (ix2 (row t r) k) := by
  blk_simp [iblk]
  rw [V_main_arg2]
  refine congrArg (m ((c : Thread nD τ).loc main_arg2)) ?_
  blk_ext [idx2]
theorem blk3 (c : Dev nD) (t : Fin cfg0.N) (r : Fin 256) (k : Fin 256) :
    iblk m c 3 t (ix2 r k) = m ((c : Thread nD τ).loc main_arg3) (ix2 (row t r) k) := by
  blk_simp [iblk]
  rw [V_main_arg3]
  refine congrArg (m ((c : Thread nD τ).loc main_arg3)) ?_
  blk_ext [idx3]
theorem blk4 (c : Dev nD) (t : Fin cfg0.N) (r : Fin 256) (k : Fin 256) :
    iblk m c 4 t (ix2 r k) = m ((c : Thread nD τ).loc main_arg4) (ix2 (row t r) k) := by
  blk_simp [iblk]
  rw [V_main_arg4]
  refine congrArg (m ((c : Thread nD τ).loc main_arg4)) ?_
  blk_ext [idx4]
theorem blk5 (c : Dev nD) (t : Fin cfg0.N) (r : Fin 256) (k : Fin 256) :
    iblk m c 5 t (ix2 r k) = m ((c : Thread nD τ).loc main_arg5) (ix2 (row t r) k) := by
  blk_simp [iblk]
  rw [V_main_arg5]
  refine congrArg (m ((c : Thread nD τ).loc main_arg5)) ?_
  blk_ext [idx5]
theorem blk6 (c : Dev nD) (t : Fin cfg0.N) (r : Fin 256) (k : Fin 256) :
    iblk m c 6 t (ix2 r k) = m ((c : Thread nD τ).loc main_arg6) (ix2 (row t r) k) := by
  blk_simp [iblk]
  rw [V_main_arg6]
  refine congrArg (m ((c : Thread nD τ).loc main_arg6)) ?_
  blk_ext [idx6]
theorem blk7 (c : Dev nD) (t : Fin cfg0.N) (r : Fin 256) (k : Fin 256) :
    iblk m c 7 t (ix2 r k) = m ((c : Thread nD τ).loc main_arg7) (ix2 (row t r) k) := by
  blk_simp [iblk]
  rw [V_main_arg7]
  refine congrArg (m ((c : Thread nD τ).loc main_arg7)) ?_
  blk_ext [idx7]
theorem blk8 (c : Dev nD) (t : Fin cfg0.N) (r : Fin 256) (k : Fin 256) :
    iblk m c 8 t (ix2 r k) = m ((c : Thread nD τ).loc main_arg8) (ix2 (row t r) k) := by
  blk_simp [iblk]
  rw [V_main_arg8]
  refine congrArg (m ((c : Thread nD τ).loc main_arg8)) ?_
  blk_ext [idx8]
theorem blk9 (c : Dev nD) (t : Fin cfg0.N) (r : Fin 256) (k : Fin 256) :
    iblk m c 9 t (ix2 r k) = m ((c : Thread nD τ).loc main_arg9) (ix2 (row t r) k) := by
  blk_simp [iblk]
  rw [V_main_arg9]
  refine congrArg (m ((c : Thread nD τ).loc main_arg9)) ?_
  blk_ext [idx9]
theorem blk10 (c : Dev nD) (t : Fin cfg0.N) (r : Fin 256) (k : Fin 256) :
    iblk m c 10 t (ix2 r k) = m ((c : Thread nD τ).loc main_arg10) (ix2 (row t r) k) := by
  blk_simp [iblk]
  rw [V_main_arg10]
  refine congrArg (m ((c : Thread nD τ).loc main_arg10)) ?_
  blk_ext [idx10]
theorem blk11 (c : Dev nD) (t : Fin cfg0.N) (r : Fin 256) (k : Fin 256) :
    iblk m c 11 t (ix2 r k) = m ((c : Thread nD τ).loc main_arg11) (ix2 (row t r) k) := by
  blk_simp [iblk]
  rw [V_main_arg11]
  refine congrArg (m ((c : Thread nD τ).loc main_arg11)) ?_
  blk_ext [idx11]
theorem blk12 (c : Dev nD) (t : Fin cfg0.N) (r : Fin 256) (k : Fin 2048) :
    iblk m c 12 t (ix2 r k) = m ((c : Thread nD τ).loc main_arg12) (ix2 (row t r) k) := by
  blk_simp [iblk]
  rw [V_main_arg12]
  refine congrArg (m ((c : Thread nD τ).loc main_arg12)) ?_
  blk_ext [idx12]
theorem blk13 (c : Dev nD) (t : Fin cfg0.N) (r : Fin 256) (k : Fin 1024) :
    iblk m c 13 t (ix2 r k) = m ((c : Thread nD τ).loc main_arg13) (ix2 (row t r) k) := by
  blk_simp [iblk]
  rw [V_main_arg13]
  refine congrArg (m ((c : Thread nD τ).loc main_arg13)) ?_
  blk_ext [idx13]
theorem blk14 (c : Dev nD) (t : Fin cfg0.N) (r : Fin 256) (k : Fin 1024) :
    iblk m c 14 t (ix2 r k) = m ((c : Thread nD τ).loc main_arg14) (ix2 (row t r) k) := by
  blk_simp [iblk]
  rw [V_main_arg14]
  refine congrArg (m ((c : Thread nD τ).loc main_arg14)) ?_
  blk_ext [idx14]
theorem blk15 (c : Dev nD) (t : Fin cfg0.N) (r : Fin 1) (k : Fin 1024) :
    iblk m c 15 t (ix2 r k) = m ((c : Thread nD τ).loc main_arg15) (ix2 r k) := by
  blk_simp [iblk]
  rw [V_main_arg15]
  refine congrArg (m ((c : Thread nD τ).loc main_arg15)) ?_
  blk_ext [idx15]
theorem blk16 (c : Dev nD) (t : Fin cfg0.N) (r : Fin 5888) (k : Fin 1024) :
    iblk m c 16 t (ix2 r k) = m ((c : Thread nD τ).loc main_arg16) (ix2 k r) := by
  blk_simp [iblk]
  rw [V_v0]
  refine congrArg (m ((c : Thread nD τ).loc main_arg16)) ?_
  funext a; apply Fin.ext; fin_cases a
  · show ((((View.whole main_v0).slice (win0_16.rect t)).emb (ix2 r k) 1 : Fin _) : ℕ) = k.val
    blk_simp [idx16]; rfl
  · show ((((View.whole main_v0).slice (win0_16.rect t)).emb (ix2 r k) 0 : Fin _) : ℕ) = r.val
    blk_simp [idx16]; rfl

/-- A load of rows from row `o`. -/
theorem ld_rows {o n : ℕ} (x : Vec Ideal S5888x1024 .bf16) (h : _) (q : Fin n) (k : Fin 1024) (ho : o + n ≤ 5888) :
    View.ld x (Rect.unit (s := S5888x1024) ![o, 0] ![n, 1024] h) (ix2 q k) = x (ix2 ⟨o + q.val, by omega⟩ k) :=
  congrArg x (by funext a; apply Fin.ext; fin_cases a
                 · show o + 1 * q.val = o + q.val; omega
                 · show 0 + 1 * k.val = k.val; omega)

/-- One piece of the block's product. -/
theorem seg_blk (c : Dev nD) (t : Fin cfg0.N) {o n : ℕ} (h : _) (ho : o + n ≤ 5888) (x : (⟨2, ![256, n]⟩ : Shape).Idx → EReal) (X : (⟨2, ![4096, n]⟩ : Shape).Idx → EReal)
    (r : Fin 256) (hx : ∀ q, x (ix2 r q) = X (ix2 (row t r) q)) (k : Fin 1024) :
    (∑ q : Fin n, x (ix2 r q) * View.ld (iblk m c 16 t) (Rect.unit (s := S5888x1024) ![o, 0] ![n, 1024] h) (ix2 q k) : EReal)
      = seg X (m ((c : Thread nD τ).loc main_arg16)) o ho (row t r) k :=
  Finset.sum_congr rfl fun q _ => congrArg₂ (fun a b : EReal => a * b) (hx q) ((ld_rows _ h q k ho).trans (blk16 m c t _ k))

/-- The whole product's gradient, as the reference has it, over the launch arguments. -/
abbrev du (c : Dev nD) (r : Fin 4096) (k : Fin 1024) : EReal := val_main_v22 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (ix2 r k)

/-- The block's product is the reference's at the block's rows. -/
theorem du_blk (c : Dev nD) (t : Fin cfg0.N) (r : Fin 256) (k : Fin 1024) :
    k0_pay8 (F := Ideal) (k0_pay6 (k0_pay4 (iblk m c 0 t) (View.ld (iblk m c 16 t) (Rect.unit ![0, 0] ![512, 1024] inb_S5888x1024_S512x1024_0_0)) (iblk m c 1 t) (View.ld (iblk m c 16 t) (Rect.unit ![512, 0] ![512, 1024] inb_S5888x1024_S512x1024_512_0)) (iblk m c 2 t) (View.ld (iblk m c 16 t) (Rect.unit ![1024, 0] ![512, 1024] inb_S5888x1024_S512x1024_1024_0)) (iblk m c 3 t) (View.ld (iblk m c 16 t) (Rect.unit ![1536, 0] ![256, 1024] inb_S5888x1024_S256x1024_1536_0))) (k0_pay5 (iblk m c 4 t) (View.ld (iblk m c 16 t) (Rect.unit ![1792, 0] ![256, 1024] inb_S5888x1024_S256x1024_1792_0))) (iblk m c 5 t) (View.ld (iblk m c 16 t) (Rect.unit ![2048, 0] ![256, 1024] inb_S5888x1024_S256x1024_2048_0)) (iblk m c 6 t) (View.ld (iblk m c 16 t) (Rect.unit ![2304, 0] ![256, 1024] inb_S5888x1024_S256x1024_2304_0)) (iblk m c 7 t) (View.ld (iblk m c 16 t) (Rect.unit ![2560, 0] ![256, 1024] inb_S5888x1024_S256x1024_2560_0)) (iblk m c 8 t) (View.ld (iblk m c 16 t) (Rect.unit ![2816, 0] ![256, 1024] inb_S5888x1024_S256x1024_2816_0)) (iblk m c 9 t) (View.ld (iblk m c 16 t) (Rect.unit ![3072, 0] ![256, 1024] inb_S5888x1024_S256x1024_3072_0))) (k0_pay7 (iblk m c 10 t)) (View.ld (iblk m c 16 t) (Rect.unit ![3328, 0] ![256, 1024] inb_S5888x1024_S256x1024_3328_0)) (iblk m c 11 t) (View.ld (iblk m c 16 t) (Rect.unit ![3584, 0] ![256, 1024] inb_S5888x1024_S256x1024_3584_0)) (iblk m c 12 t) (View.ld (iblk m c 16 t) (Rect.unit ![3840, 0] ![2048, 1024] inb_S5888x1024_S2048x1024_3840_0)) (ix2 r k) = du m c (row t r) k := by
  rw [pay8_apply, pay6_apply, pay4_apply, pay5_apply]
  refine Eq.trans ?_ (ref_du (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) (row t r) k).symm
  exact (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (seg_blk m c t _ _ _ (m ((c : Thread nD τ).loc main_arg0)) r (fun q => blk0 m c t r q) k)
    (seg_blk m c t _ _ _ (m ((c : Thread nD τ).loc main_arg1)) r (fun q => blk1 m c t r q) k))
    (seg_blk m c t _ _ _ (m ((c : Thread nD τ).loc main_arg2)) r (fun q => blk2 m c t r q) k))
    (seg_blk m c t _ _ _ (m ((c : Thread nD τ).loc main_arg3)) r (fun q => blk3 m c t r q) k))
    (seg_blk m c t _ _ _ (m ((c : Thread nD τ).loc main_arg4)) r (fun q => blk4 m c t r q) k))
    (seg_blk m c t _ _ _ (m ((c : Thread nD τ).loc main_arg5)) r (fun q => blk5 m c t r q) k))
    (seg_blk m c t _ _ _ (m ((c : Thread nD τ).loc main_arg6)) r (fun q => blk6 m c t r q) k))
    (seg_blk m c t _ _ _ (m ((c : Thread nD τ).loc main_arg7)) r (fun q => blk7 m c t r q) k))
    (seg_blk m c t _ _ _ (m ((c : Thread nD τ).loc main_arg8)) r (fun q => blk8 m c t r q) k))
    (seg_blk m c t _ _ _ (m ((c : Thread nD τ).loc main_arg9)) r (fun q => blk9 m c t r q) k))
    (seg_blk m c t _ _ _ (m ((c : Thread nD τ).loc main_arg10)) r (fun q => blk10 m c t r q) k))
    (seg_blk m c t _ _ _ (m ((c : Thread nD τ).loc main_arg11)) r (fun q => blk11 m c t r q) k))
    (seg_blk m c t _ _ _ (m ((c : Thread nD τ).loc main_arg12)) r (fun q => blk12 m c t r q) k))

theorem rs_blk (c : Dev nD) (t : Fin cfg0.N) (r : Fin 256) : rs (iblk m c 14 t) r = rs (m ((c : Thread nD τ).loc main_arg14)) (row t r) := by
  unfold rs
  simp only [blk14]

/-- What the body leaves in the gradient's block. -/
theorem dx_blk (c : Dev nD) (t : Fin cfg0.N) (r : Fin 256) (k : Fin 1024) :
    k0_pay2 (F := Ideal) (k0_pay9 (iblk m c 14 t)) (k0_pay10 (iblk m c 14 t)) (k0_pay12 (k0_pay6 (k0_pay4 (iblk m c 0 t) (View.ld (iblk m c 16 t) (Rect.unit ![0, 0] ![512, 1024] inb_S5888x1024_S512x1024_0_0)) (iblk m c 1 t) (View.ld (iblk m c 16 t) (Rect.unit ![512, 0] ![512, 1024] inb_S5888x1024_S512x1024_512_0)) (iblk m c 2 t) (View.ld (iblk m c 16 t) (Rect.unit ![1024, 0] ![512, 1024] inb_S5888x1024_S512x1024_1024_0)) (iblk m c 3 t) (View.ld (iblk m c 16 t) (Rect.unit ![1536, 0] ![256, 1024] inb_S5888x1024_S256x1024_1536_0))) (k0_pay5 (iblk m c 4 t) (View.ld (iblk m c 16 t) (Rect.unit ![1792, 0] ![256, 1024] inb_S5888x1024_S256x1024_1792_0))) (iblk m c 5 t) (View.ld (iblk m c 16 t) (Rect.unit ![2048, 0] ![256, 1024] inb_S5888x1024_S256x1024_2048_0)) (iblk m c 6 t) (View.ld (iblk m c 16 t) (Rect.unit ![2304, 0] ![256, 1024] inb_S5888x1024_S256x1024_2304_0)) (iblk m c 7 t) (View.ld (iblk m c 16 t) (Rect.unit ![2560, 0] ![256, 1024] inb_S5888x1024_S256x1024_2560_0)) (iblk m c 8 t) (View.ld (iblk m c 16 t) (Rect.unit ![2816, 0] ![256, 1024] inb_S5888x1024_S256x1024_2816_0)) (iblk m c 9 t) (View.ld (iblk m c 16 t) (Rect.unit ![3072, 0] ![256, 1024] inb_S5888x1024_S256x1024_3072_0))) (k0_pay7 (iblk m c 10 t)) (View.ld (iblk m c 16 t) (Rect.unit ![3328, 0] ![256, 1024] inb_S5888x1024_S256x1024_3328_0)) (iblk m c 11 t) (View.ld (iblk m c 16 t) (Rect.unit ![3584, 0] ![256, 1024] inb_S5888x1024_S256x1024_3584_0)) (iblk m c 12 t) (View.ld (iblk m c 16 t) (Rect.unit ![3840, 0] ![2048, 1024] inb_S5888x1024_S2048x1024_3840_0)) (iblk m c 15 t)) (k0_pay13 (k0_pay6 (k0_pay4 (iblk m c 0 t) (View.ld (iblk m c 16 t) (Rect.unit ![0, 0] ![512, 1024] inb_S5888x1024_S512x1024_0_0)) (iblk m c 1 t) (View.ld (iblk m c 16 t) (Rect.unit ![512, 0] ![512, 1024] inb_S5888x1024_S512x1024_512_0)) (iblk m c 2 t) (View.ld (iblk m c 16 t) (Rect.unit ![1024, 0] ![512, 1024] inb_S5888x1024_S512x1024_1024_0)) (iblk m c 3 t) (View.ld (iblk m c 16 t) (Rect.unit ![1536, 0] ![256, 1024] inb_S5888x1024_S256x1024_1536_0))) (k0_pay5 (iblk m c 4 t) (View.ld (iblk m c 16 t) (Rect.unit ![1792, 0] ![256, 1024] inb_S5888x1024_S256x1024_1792_0))) (iblk m c 5 t) (View.ld (iblk m c 16 t) (Rect.unit ![2048, 0] ![256, 1024] inb_S5888x1024_S256x1024_2048_0)) (iblk m c 6 t) (View.ld (iblk m c 16 t) (Rect.unit ![2304, 0] ![256, 1024] inb_S5888x1024_S256x1024_2304_0)) (iblk m c 7 t) (View.ld (iblk m c 16 t) (Rect.unit ![2560, 0] ![256, 1024] inb_S5888x1024_S256x1024_2560_0)) (iblk m c 8 t) (View.ld (iblk m c 16 t) (Rect.unit ![2816, 0] ![256, 1024] inb_S5888x1024_S256x1024_2816_0)) (iblk m c 9 t) (View.ld (iblk m c 16 t) (Rect.unit ![3072, 0] ![256, 1024] inb_S5888x1024_S256x1024_3072_0))) (k0_pay7 (iblk m c 10 t)) (View.ld (iblk m c 16 t) (Rect.unit ![3328, 0] ![256, 1024] inb_S5888x1024_S256x1024_3328_0)) (iblk m c 11 t) (View.ld (iblk m c 16 t) (Rect.unit ![3584, 0] ![256, 1024] inb_S5888x1024_S256x1024_3584_0)) (iblk m c 12 t) (View.ld (iblk m c 16 t) (Rect.unit ![3840, 0] ![2048, 1024] inb_S5888x1024_S2048x1024_3840_0)) (iblk m c 15 t) (iblk m c 14 t)) (iblk m c 13 t) (ix2 r k)
      = dxF (m ((c : Thread nD τ).loc main_arg13)) (m ((c : Thread nD τ).loc main_arg14)) (m ((c : Thread nD τ).loc main_arg15)) (du m c) (row t r) k := by
  unfold dxF
  rw [pay2_apply, pay9_apply, pay10_apply, pay12_apply, pay13_apply, rs_blk, du_blk]
  simp only [blk13, blk14, blk15, du_blk]

/-- What the body adds to the gain's gradient at point `t`. -/
theorem dg_blk (c : Dev nD) (t : Fin cfg0.N) (z : Fin 1) (k : Fin 1024) :
    k0_pay11 (F := Ideal) (k0_pay6 (k0_pay4 (iblk m c 0 t) (View.ld (iblk m c 16 t) (Rect.unit ![0, 0] ![512, 1024] inb_S5888x1024_S512x1024_0_0)) (iblk m c 1 t) (View.ld (iblk m c 16 t) (Rect.unit ![512, 0] ![512, 1024] inb_S5888x1024_S512x1024_512_0)) (iblk m c 2 t) (View.ld (iblk m c 16 t) (Rect.unit ![1024, 0] ![512, 1024] inb_S5888x1024_S512x1024_1024_0)) (iblk m c 3 t) (View.ld (iblk m c 16 t) (Rect.unit ![1536, 0] ![256, 1024] inb_S5888x1024_S256x1024_1536_0))) (k0_pay5 (iblk m c 4 t) (View.ld (iblk m c 16 t) (Rect.unit ![1792, 0] ![256, 1024] inb_S5888x1024_S256x1024_1792_0))) (iblk m c 5 t) (View.ld (iblk m c 16 t) (Rect.unit ![2048, 0] ![256, 1024] inb_S5888x1024_S256x1024_2048_0)) (iblk m c 6 t) (View.ld (iblk m c 16 t) (Rect.unit ![2304, 0] ![256, 1024] inb_S5888x1024_S256x1024_2304_0)) (iblk m c 7 t) (View.ld (iblk m c 16 t) (Rect.unit ![2560, 0] ![256, 1024] inb_S5888x1024_S256x1024_2560_0)) (iblk m c 8 t) (View.ld (iblk m c 16 t) (Rect.unit ![2816, 0] ![256, 1024] inb_S5888x1024_S256x1024_2816_0)) (iblk m c 9 t) (View.ld (iblk m c 16 t) (Rect.unit ![3072, 0] ![256, 1024] inb_S5888x1024_S256x1024_3072_0))) (k0_pay7 (iblk m c 10 t)) (View.ld (iblk m c 16 t) (Rect.unit ![3328, 0] ![256, 1024] inb_S5888x1024_S256x1024_3328_0)) (iblk m c 11 t) (View.ld (iblk m c 16 t) (Rect.unit ![3584, 0] ![256, 1024] inb_S5888x1024_S256x1024_3584_0)) (iblk m c 12 t) (View.ld (iblk m c 16 t) (Rect.unit ![3840, 0] ![2048, 1024] inb_S5888x1024_S2048x1024_3840_0)) (iblk m c 14 t) (ix2 z k)
      = ∑ r : Fin 256, dgF (m ((c : Thread nD τ).loc main_arg14)) (du m c) k (row t r) := by
  unfold dgF
  rw [pay11_apply]
  simp only [rs_blk, blk14, du_blk]

theorem out17 (c : Dev nD) (t : Fin cfg0.N) (r : Fin 256) (k : Fin 1024) : (outsAt0 m c t.val t.isLt).1 (ix2 r k)
      = dxF (m ((c : Thread nD τ).loc main_arg13)) (m ((c : Thread nD τ).loc main_arg14)) (m ((c : Thread nD τ).loc main_arg15)) (du m c) (row t r) k := by
  by_cases h : t.val % 16 = 0
  · rw [outsAt0_A m c t h]; frame_out
    exact dx_blk m c t r k
  · rw [outsAt0_B m c t h]; frame_out
    exact dx_blk m c t r k

theorem final17 (c : Dev nD) (hx : ∀ i, IsR ((m ((c : Thread nD τ).loc main_arg14)) i)) (hd : ∀ r k, IsR (du m c r k)) (hg : ∀ i, IsR ((m ((c : Thread nD τ).loc main_arg15)) i)) : (dats m 0 c).arrAt 17 cfg0.N =
    val_main_v42 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (dats m 0 c).arrAt_eq_of_covers 17 _ (by decide +kernel) fun t hf y => ?_
  blk_simp
  rw [after0_17]
  obtain ⟨r, k, rfl⟩ : ∃ (r : Fin 256) (k : Fin 1024), y = ix2 r k := ⟨_, _, eq_ix2 y⟩
  have e : (((View.whole main_v1_0).slice (win0_17.rect t)).emb (ix2 r k)) = ix2 (row t r) k := by blk_ext [idx17]
  refine Eq.trans ?_ ((congrArg _ e).trans (ref_dx (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) _ _ _ _ hx (row t r) (fun k => (hd (row t r) k).mul (hg _)) k)).symm
  exact out17 m c t r k

theorem out18 (c : Dev nD) (t : Fin cfg0.N) (ht : t.val + 1 = cfg0.N) (z : Fin 1) (k : Fin 1024) : (outsAt0 m c t.val t.isLt).2 (ix2 z k)
      = ∑ p : Fin cfg0.N, ∑ r : Fin 256, dgF (m ((c : Thread nD τ).loc main_arg14)) (du m c) k (row p r) := by
  refine (Pipeline.eq_sum_fin_of_reset_step_apply_last (fun n h => (outsAt0 m c n h).2) 16 (fun _ => (0 : EReal))
    (fun p i => ∑ r : Fin 256, dgF (m ((c : Thread nD τ).loc main_arg14)) (du m c) (i 1) (row p r))
    (fun t h i => ?_) (fun t h i => ?_) (le_of_eq N_0) t ht (ix2 z k)).trans (zero_add _)
  · rw [outsAt0_A m c t h]; frame_out
    obtain ⟨z, k, rfl⟩ : ∃ (z : Fin 1) (k : Fin 1024), i = ix2 z k := ⟨_, _, eq_ix2 i⟩
    rw [pay1_apply]
    exact congrArg₂ (fun a b : EReal => a + b) Ideal.ofBits_zero_f32 (dg_blk m c t z k)
  · rw [outsAt0_B m c t h]; frame_out
    obtain ⟨z, k, rfl⟩ : ∃ (z : Fin 1) (k : Fin 1024), i = ix2 z k := ⟨_, _, eq_ix2 i⟩
    rw [pay1_apply]
    exact congrArg (fun b : EReal => _ + b) (dg_blk m c t z k)

theorem final18 (c : Dev nD) : (dats m 0 c).arrAt 18 cfg0.N =
    val_main_v25 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg16)) := by
  refine (dats m 0 c).arrAt_eq_of_covers 18 _ (by decide +kernel) fun t hf y => ?_
  blk_simp
  rw [after0_18]
  obtain ⟨z, k, rfl⟩ : ∃ (z : Fin 1) (k : Fin 1024), y = ix2 z k := ⟨_, _, eq_ix2 y⟩
  have e : (((View.whole main_v1_1).slice (win0_18.rect t)).emb (ix2 z k)) = ix2 z k := by blk_ext [idx18]
  refine Eq.trans ?_ ((congrArg _ e).trans (ref_dg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg14)) (m ((c : Thread nD τ).loc main_arg16)) z k)).symm
  have ht : t.val % 16 = 15 := (flush0_18 t).mp hf
  have hlt : t.val < 16 := lt_of_lt_of_eq t.isLt N_0
  have h16 : t.val + 1 = 16 := by omega
  refine (out18 m c t (h16.trans N_0.symm) z k).trans ?_
  exact (Fin.sum_univ_tiles 16 256 (by rfl) (dgF (m ((c : Thread nD τ).loc main_arg14)) (du m c) k)).symm

end Cert.ProjBwdProof

end
-- ==== Proof.ProjBwdClaims.lean ====
module

public import proofs.«01_k».proof.Proof.Gen.ProjBwd.Frame
public import proofs.«01_k».proof.Proof.ProjBwd
public import proofs.«01_k».proof.Defs

@[expose] public section

noncomputable section

namespace Cert.Proof.ProjBwdClaims

open Idealize.ShloMosaic Idealize.ShloMosaic.TcCoe Idealize.SL.Sem Cert.Common

theorem frame_p : Cert.quiescent_ProjBwd := fun m ρ _ => Cert.ProjBwd.Gen.frame m ρ
theorem frame_pi : Cert.quiescent_ProjBwdIdeal := fun m ρ _ => Cert.ProjBwdIdeal.Gen.frame m ρ
theorem frame_ri : Cert.quiescent_ProjBwdRefIdeal := fun m ρ _ =>
  (θ_run Cert.ProjBwdRefIdeal.defs _ _).mono (fun r h => ⟨fun c => (h c).2.2,
      Idealize.ShloMosaic.sem_eq_zero_of_no_sems (by decide) r.2⟩)
    (Cert.ProjBwdRefIdeal.Value.run (F := Ideal) m ρ)

theorem frame_pi_pre [hPre : Cert.Pre_proj_finite.Facts] : Cert.quiescent_ProjBwdIdeal_pre_proj_finite := fun m ρ _ => Cert.ProjBwdIdeal.Gen.frame m ρ
theorem frame_ri_pre [hPre : Cert.Pre_proj_finite.Facts] : Cert.quiescent_ProjBwdRefIdeal_pre_proj_finite := fun m ρ _ => frame_ri m ρ trivial

set_option maxHeartbeats 4000000 in
open Cert.ProjBwdIdeal Cert.ProjBwdIdeal.Gen in
theorem algebraic [hPre : Cert.Pre_proj_finite.Facts] : Cert.algebraic_ProjBwdIdeal_ProjBwdRefIdeal_pre_proj_finite := fun m g m' g' hpre hm => by
  refine ⟨fun c => (dats m 0 c).arrAt 17 cfg0.N, fun c => (dats m 0 c).arrAt 18 cfg0.N, ?_, ?_⟩
  · refine (θ_run _ _ _).mono (fun r h c => ?_) (Cert.ProjBwdIdeal.Value.run_blocks (F := Ideal) m g)
    obtain ⟨h0, h1, ha⟩ := h c
    exact ⟨h0, h1, ha⟩
  · refine (θ_run _ _ _).mono (fun r h c => ?_) (Cert.ProjBwdRefIdeal.Value.run (F := Ideal) m' g')
    obtain ⟨h0, h1, ha⟩ := h c
    obtain ⟨e0, e1, e2, e3, e4, e5, e6, e7, e8, e9, e10, e11, e12, e13, e14, e15, e16⟩ := hm c
    obtain ⟨p0, p1, p2, p3, p4, p5, p6, p7, p8, p9, p10, p11, p12, p14, p15, p16⟩ := hpre c
    have hr : ∀ {s : Shape} {x : s.Idx → EReal} {q : s.Idx → BitVec 1} (_ : q = fun _ => 1#1)
        (_ : ∀ i, q i = Ideal.cmp .olt (max (x i) (-(x i))) (Ideal.ofBits .f32 0x7F800000#32)) (i : s.Idx), IsR (x i) :=
      fun hq he i => isR_of_lt ((he i).symm.trans (congrFun hq i))
    refine ⟨(h0.trans (Cert.ProjBwdRefIdeal.Read.val_main_v42_eq m' c)).trans ?_, h1.trans ?_, ha⟩
    all_goals try rw [e0]
    all_goals try rw [e1]
    all_goals try rw [e2]
    all_goals try rw [e3]
    all_goals try rw [e4]
    all_goals try rw [e5]
    all_goals try rw [e6]
    all_goals try rw [e7]
    all_goals try rw [e8]
    all_goals try rw [e9]
    all_goals try rw [e10]
    all_goals try rw [e11]
    all_goals try rw [e12]
    all_goals try rw [e13]
    all_goals try rw [e14]
    all_goals try rw [e15]
    all_goals try rw [e16]
    · have f14 : ∀ i, IsR ((m ((c : Thread nD τ).loc main_arg14)) i) := hr p14 fun _ => rfl
      have f15 : ∀ i, IsR ((m ((c : Thread nD τ).loc main_arg15)) i) := hr p15 fun _ => rfl
      have f0 : ∀ i, IsR ((m ((c : Thread nD τ).loc main_arg0)) i) := hr p0 fun _ => rfl
      have f1 : ∀ i, IsR ((m ((c : Thread nD τ).loc main_arg1)) i) := hr p1 fun _ => rfl
      have f2 : ∀ i, IsR ((m ((c : Thread nD τ).loc main_arg2)) i) := hr p2 fun _ => rfl
      have f3 : ∀ i, IsR ((m ((c : Thread nD τ).loc main_arg3)) i) := hr p3 fun _ => rfl
      have f4 : ∀ i, IsR ((m ((c : Thread nD τ).loc main_arg4)) i) := hr p4 fun _ => rfl
      have f5 : ∀ i, IsR ((m ((c : Thread nD τ).loc main_arg5)) i) := hr p5 fun _ => rfl
      have f6 : ∀ i, IsR ((m ((c : Thread nD τ).loc main_arg6)) i) := hr p6 fun _ => rfl
      have f7 : ∀ i, IsR ((m ((c : Thread nD τ).loc main_arg7)) i) := hr p7 fun _ => rfl
      have f8 : ∀ i, IsR ((m ((c : Thread nD τ).loc main_arg8)) i) := hr p8 fun _ => rfl
      have f9 : ∀ i, IsR ((m ((c : Thread nD τ).loc main_arg9)) i) := hr p9 fun _ => rfl
      have f10 : ∀ i, IsR ((m ((c : Thread nD τ).loc main_arg10)) i) := hr p10 fun _ => rfl
      have f11 : ∀ i, IsR ((m ((c : Thread nD τ).loc main_arg11)) i) := hr p11 fun _ => rfl
      have f12 : ∀ i, IsR ((m ((c : Thread nD τ).loc main_arg12)) i) := hr p12 fun _ => rfl
      have f16 : ∀ i, IsR ((m ((c : Thread nD τ).loc main_arg16)) i) := hr p16 fun _ => rfl
      exact (Cert.ProjBwdProof.final17 m c f14 (fun r k => Cert.ProjBwdProof.isR_du (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg16)) f0 f1 f2 f3 f4 f5 f6 f7 f8 f9 f10 f11 f12 f16 r k) f15).symm
    · exact (Cert.ProjBwdProof.final18 m c).symm

end Cert.Proof.ProjBwdClaims

end
-- ==== Proof.FfnSpec.lean ====
module

public import proofs.«01_k».proof.Proof.Reals

@[expose] public section

noncomputable section

/-! What the middle of the step computes for one token, forward and backward, as a function of the token's row of every
input and of the weights: the merge of the two mixers, the output projection, the feed-forward block, the last norm, the
squared error, and the gradients back to the first residual. Both programs are shown to compute these. -/

namespace Cert.FfnProof

open Idealize.ShloMosaic hiding ix1 ix2 eq_ix1 eq_ix2
open Cert.Common

/-- The weights, an entry by its row and its column. -/
structure Wts where
  wsb : Fin 512 → Fin 1024 → EReal
  wdl : Fin 256 → Fin 1024 → EReal
  wo : Fin 1024 → Fin 1024 → EReal
  gf : Fin 1024 → EReal
  gl : Fin 1024 → EReal
  wi : Fin 1024 → Fin 5632 → EReal
  wf : Fin 2816 → Fin 1024 → EReal

/-- One token's row of each input. -/
structure Row where
  x : Fin 1024 → EReal
  sb : Fin 512 → EReal
  dl : Fin 256 → EReal
  gt : Fin 2048 → EReal
  tg : Fin 1024 → EReal

/-- The numbers the programs spell: one, one half, two, 2⁻¹⁰ and 2⁻¹¹. -/
abbrev one : EReal := Ideal.ofBits .f32 0x3F800000#32
abbrev half : EReal := Ideal.ofBits .f32 0x3F000000#32
abbrev two : EReal := Ideal.ofBits .f32 0x40000000#32
abbrev c10 : EReal := Ideal.ofBits .f32 0x3A800000#32
abbrev c11 : EReal := Ideal.ofBits .f32 0x3A000000#32

theorem one_eq : one = ((1 : ℝ) : EReal) := by simp [Ideal.ofBits, Ideal.ieee, -EReal.coe_mul]; norm_num
theorem half_eq : half = ((1 / 2 : ℝ) : EReal) := by simp [Ideal.ofBits, Ideal.ieee, -EReal.coe_mul]; norm_num
theorem two_eq : two = ((2 : ℝ) : EReal) := by simp [Ideal.ofBits, Ideal.ieee, -EReal.coe_mul]; norm_num
theorem c10_eq : c10 = ((1 / 1024 : ℝ) : EReal) := by simp [Ideal.ofBits, Ideal.ieee, -EReal.coe_mul]; norm_num
theorem c11_eq : c11 = ((1 / 2048 : ℝ) : EReal) := by simp [Ideal.ofBits, Ideal.ieee, -EReal.coe_mul]; norm_num

/-- The logistic function. -/
def sg (x : EReal) : EReal := Ideal.div one (one + Ideal.exp (-x))

/-- One over the root of a row's mean square. -/
def rr (x : Fin 1024 → EReal) : EReal := Ideal.rsqrt (Ideal.div (∑ k, x k * x k) n1024 + eps)

/-- The norm's backward pass on one row, from the gradient `d` of the normed row. -/
def bw (x d : Fin 1024 → EReal) (k : Fin 1024) : EReal := rr x * (d k - x k * rr x * Ideal.div (∑ j, d j * (x j * rr x)) n1024)

abbrev glo (k : Fin 1024) : Fin 2048 := ⟨k.val, by omega⟩
abbrev ghi (k : Fin 1024) : Fin 2048 := ⟨1024 + k.val, by omega⟩
abbrev hlo (j : Fin 2816) : Fin 5632 := ⟨j.val, by omega⟩
abbrev hhi (j : Fin 2816) : Fin 5632 := ⟨2816 + j.val, by omega⟩

variable (W : Wts) (p : Row)

def mg (k : Fin 1024) : EReal := sg (p.gt (glo k)) * (∑ q, p.sb q * W.wsb q k) + sg (p.gt (ghi k)) * (∑ q, p.dl q * W.wdl q k)
def x1 (k : Fin 1024) : EReal := p.x k + ∑ q, mg W p q * W.wo q k
def n2 (k : Fin 1024) : EReal := x1 W p k * rr (x1 W p)
def u2 (k : Fin 1024) : EReal := n2 W p k * W.gf k
def hh (k : Fin 5632) : EReal := ∑ q, u2 W p q * W.wi q k
def ga (j : Fin 2816) : EReal := hh W p (hlo j)
def up (j : Fin 2816) : EReal := hh W p (hhi j)
def act (j : Fin 2816) : EReal := ga W p j * sg (ga W p j) * up W p j
def x2 (k : Fin 1024) : EReal := x1 W p k + ∑ j, act W p j * W.wf j k
def n3 (k : Fin 1024) : EReal := x2 W p k * rr (x2 W p)
def er (k : Fin 1024) : EReal := n3 W p k * W.gl k - p.tg k
def ls : EReal := ∑ k, er W p k * er W p k
def dy (k : Fin 1024) : EReal := er W p k * c10
def dx2 (k : Fin 1024) : EReal := bw (x2 W p) (fun k => dy W p k * W.gl k) k
def dact (j : Fin 2816) : EReal := ∑ k, dx2 W p k * W.wf j k
def dga (j : Fin 2816) : EReal := dact W p j * up W p j * (sg (ga W p j) * (one + ga W p j * (one - sg (ga W p j))))
def dup (j : Fin 2816) : EReal := dact W p j * (ga W p j * sg (ga W p j))
def dh (k : Fin 5632) : EReal := if h : k.val < 2816 then dga W p ⟨k.val, h⟩ else dup W p ⟨k.val - 2816, by omega⟩
def du2 (k : Fin 1024) : EReal := (∑ j, dga W p j * W.wi k (hlo j)) + ∑ j, dup W p j * W.wi k (hhi j)
def dx1 (k : Fin 1024) : EReal := dx2 W p k + bw (x1 W p) (fun k => du2 W p k * W.gf k) k

theorem dh_lo (j : Fin 2816) : dh W p (hlo j) = dga W p j := by
  unfold dh; rw [dif_pos (show (hlo j).val < 2816 from j.isLt)]
theorem dh_hi (j : Fin 2816) : dh W p (hhi j) = dup W p j := by
  unfold dh; rw [dif_neg (show ¬(hhi j).val < 2816 by show ¬(2816 + j.val < 2816); omega)]
  exact congrArg _ (Fin.ext (by show 2816 + j.val - 2816 = j.val; omega))

/-- A sum over the 5632 columns: the gate's, then the other half's. -/
theorem split2 {β : Type} [AddCommMonoid β] (f : Fin 5632 → β) : ∑ k : Fin 5632, f k = (∑ j, f (hlo j)) + ∑ j, f (hhi j) := by
  show (∑ k : Fin (2816 + 2816), f k) = _
  rw [Fin.sum_univ_add]
  rfl

/-- The gradient of the normed row as one product over all 5632 columns. -/
theorem du2_eq (k : Fin 1024) : ∑ j, dh W p j * W.wi k j = du2 W p k := by
  rw [split2]
  simp only [dh_lo, dh_hi]
  rfl

/-- A sum over the hidden width, in the chunks the kernel takes. -/
theorem split3 {β : Type} [AddCommMonoid β] (f : Fin 2816 → β) : ∑ k : Fin 2816, f k
    = (∑ q : Fin 1024, f ⟨q.val, by omega⟩) + (∑ q : Fin 1024, f ⟨1024 + q.val, by omega⟩) + ∑ q : Fin 768, f ⟨2048 + q.val, by omega⟩ := by
  show (∑ k : Fin (1024 + 1024 + 768), f k) = _
  simp only [Fin.sum_univ_add]
  rfl

/-! ## Reals stay reals -/

/-- Every weight is a real. -/
structure Wts.R (W : Wts) : Prop where
  wsb : ∀ i j, IsR (W.wsb i j)
  wdl : ∀ i j, IsR (W.wdl i j)
  wo : ∀ i j, IsR (W.wo i j)
  gf : ∀ i, IsR (W.gf i)
  gl : ∀ i, IsR (W.gl i)
  wi : ∀ i j, IsR (W.wi i j)
  wf : ∀ i j, IsR (W.wf i j)

/-- Every entry of the row is a real. -/
structure Row.R (p : Row) : Prop where
  x : ∀ i, IsR (p.x i)
  sb : ∀ i, IsR (p.sb i)
  dl : ∀ i, IsR (p.dl i)
  gt : ∀ i, IsR (p.gt i)
  tg : ∀ i, IsR (p.tg i)

theorem isR_c10 : IsR c10 := ⟨_, c10_eq⟩
theorem isR_c11 : IsR c11 := ⟨_, c11_eq⟩
theorem isR_one' : IsR one := ⟨_, one_eq⟩

theorem isR_sg {z : EReal} (h : IsR z) : IsR (sg z) := by
  obtain ⟨a, rfl⟩ := h
  unfold sg
  rw [one_eq, ← EReal.coe_neg, Ideal.exp_coe, ← EReal.coe_add, Ideal.div_coe (by positivity), ← EReal.coe_mul]
  exact isR_coe _

theorem isR_rr {x : Fin 1024 → EReal} (h : ∀ k, IsR (x k)) : IsR (rr x) := by
  obtain ⟨v, hv, e⟩ := ms_pos x h
  exact ⟨_, (congrArg Ideal.rsqrt e).trans (rsqrt_pos hv)⟩

theorem isR_bw {x d : Fin 1024 → EReal} (h : ∀ k, IsR (x k)) (hd : ∀ k, IsR (d k)) (k : Fin 1024) : IsR (bw x d k) :=
  (isR_rr h).mul ((hd k).sub (((h k).mul (isR_rr h)).mul (IsR.div_n (isR_sum _ _ fun j => (hd j).mul ((h j).mul (isR_rr h))))))

variable {W p} (hW : W.R) (hp : p.R)
include hW hp

theorem isR_mg (k : Fin 1024) : IsR (mg W p k) :=
  ((isR_sg (hp.gt _)).mul (isR_sum _ _ fun q => (hp.sb q).mul (hW.wsb q k))).add ((isR_sg (hp.gt _)).mul (isR_sum _ _ fun q => (hp.dl q).mul (hW.wdl q k)))
theorem isR_x1 (k : Fin 1024) : IsR (x1 W p k) := (hp.x k).add (isR_sum _ _ fun q => (isR_mg hW hp q).mul (hW.wo q k))
theorem isR_n2 (k : Fin 1024) : IsR (n2 W p k) := (isR_x1 hW hp k).mul (isR_rr (isR_x1 hW hp))
theorem isR_u2 (k : Fin 1024) : IsR (u2 W p k) := (isR_n2 hW hp k).mul (hW.gf k)
theorem isR_hh (k : Fin 5632) : IsR (hh W p k) := isR_sum _ _ fun q => (isR_u2 hW hp q).mul (hW.wi q k)
theorem isR_ga (j : Fin 2816) : IsR (ga W p j) := isR_hh hW hp _
theorem isR_up (j : Fin 2816) : IsR (up W p j) := isR_hh hW hp _
theorem isR_act (j : Fin 2816) : IsR (act W p j) := ((isR_ga hW hp j).mul (isR_sg (isR_ga hW hp j))).mul (isR_up hW hp j)
theorem isR_x2 (k : Fin 1024) : IsR (x2 W p k) := (isR_x1 hW hp k).add (isR_sum _ _ fun j => (isR_act hW hp j).mul (hW.wf j k))
theorem isR_n3 (k : Fin 1024) : IsR (n3 W p k) := (isR_x2 hW hp k).mul (isR_rr (isR_x2 hW hp))
theorem isR_er (k : Fin 1024) : IsR (er W p k) := ((isR_n3 hW hp k).mul (hW.gl k)).sub (hp.tg k)
theorem isR_ls : IsR (ls W p) := isR_sum _ _ fun k => (isR_er hW hp k).mul (isR_er hW hp k)
theorem isR_dy (k : Fin 1024) : IsR (dy W p k) := (isR_er hW hp k).mul isR_c10
theorem isR_dx2 (k : Fin 1024) : IsR (dx2 W p k) := isR_bw (isR_x2 hW hp) (fun k => (isR_dy hW hp k).mul (hW.gl k)) k
theorem isR_dact (j : Fin 2816) : IsR (dact W p j) := isR_sum _ _ fun k => (isR_dx2 hW hp k).mul (hW.wf j k)
theorem isR_dga (j : Fin 2816) : IsR (dga W p j) :=
  ((isR_dact hW hp j).mul (isR_up hW hp j)).mul ((isR_sg (isR_ga hW hp j)).mul (isR_one'.add ((isR_ga hW hp j).mul (isR_one'.sub (isR_sg (isR_ga hW hp j))))))
theorem isR_dup (j : Fin 2816) : IsR (dup W p j) := (isR_dact hW hp j).mul ((isR_ga hW hp j).mul (isR_sg (isR_ga hW hp j)))
theorem isR_du2 (k : Fin 1024) : IsR (du2 W p k) :=
  (isR_sum _ _ fun j => (isR_dga hW hp j).mul (hW.wi k _)).add (isR_sum _ _ fun j => (isR_dup hW hp j).mul (hW.wi k _))

omit hW hp

/-! ## Where the two programs differ -/

/-- The norm's backward pass as the quotient rule writes it. -/
theorem bw_eq (x d : Fin 1024 → EReal) (hx : ∀ k, IsR (x k)) (hd : ∀ k, IsR (d k)) (k : Fin 1024) :
    d k * rr x + x k * Ideal.div ((∑ j, x j * d j) * (mhalf * Ideal.div (rr x) (Ideal.div (∑ k, x k * x k) n1024 + eps))) n1024
        + Ideal.div ((∑ j, x j * d j) * (mhalf * Ideal.div (rr x) (Ideal.div (∑ k, x k * x k) n1024 + eps))) n1024 * x k = bw x d k :=
  rms_bwd x d hx hd _ rfl k

/-- The gradient through `g · σ(g) · u`. -/
theorem silu_eq {d u g s : EReal} (hd : IsR d) (hu : IsR u) (hg : IsR g) (hs : IsR s) :
    d * u * s + g * (d * u) * (s * (one - s)) = d * u * (s * (one + g * (one - s))) := by
  obtain ⟨d, rfl⟩ := hd; obtain ⟨u, rfl⟩ := hu; obtain ⟨g, rfl⟩ := hg; obtain ⟨s, rfl⟩ := hs
  rw [one_eq]
  simp only [← EReal.coe_mul, ← EReal.coe_sub, ← EReal.coe_add]
  exact congrArg _ (by ring)

/-- The gradient of the mean square. -/
theorem dy_eq {e : EReal} (he : IsR e) : Ideal.div (half * one) n1024 * (two * e) = e * c10 := by
  obtain ⟨e, rfl⟩ := he
  rw [half_eq, one_eq, two_eq, c10_eq, ← EReal.coe_mul, Common.div_n]
  simp only [← EReal.coe_mul]
  exact congrArg _ (by ring)

/-- The loss over all tokens, and tile by tile. -/
theorem loss_eq (f : Fin 4096 → EReal) (hf : ∀ i, IsR (f i)) (row : Fin 16 → Fin 256 → Fin 4096) (hr : ∀ g : Fin 4096 → EReal, ∑ i, g i = ∑ t, ∑ r, g (row t r)) :
    half * (∑ i, Ideal.div (f i) n1024) = ∑ t, (∑ r, f (row t r)) * c11 := by
  rw [hr]
  choose F hF using hf
  obtain rfl : f = fun k => (F k : EReal) := funext hF
  rw [half_eq, c11_eq]
  simp only [Common.div_n, coe_sum', ← EReal.coe_mul]
  refine congrArg _ ?_
  rw [Finset.mul_sum]
  refine Finset.sum_congr rfl fun t _ => ?_
  rw [Finset.mul_sum, Finset.sum_mul]
  exact Finset.sum_congr rfl fun r _ => by ring

end Cert.FfnProof

end
-- ==== Proof.FfnBody.lean ====
module

public import proofs.«01_k».proof.Proof.FfnSpec
public import proofs.«01_k».proof.Proof.Gen.FfnIdeal.Value

@[expose] public section

noncomputable section

/-! The values of the kernel's body over one block of 256 tokens: each is the function of the token's row that it stands
for, once the values it is made from are. -/

namespace Cert.FfnProof

open Idealize.ShloMosaic hiding ix1 ix2 eq_ix1 eq_ix2
open Idealize.ShloMosaic.TcCoe Idealize.ShloMosaic.Tactic Idealize.SL.Sem Idealize.ShloMosaic.ValueIdx
open Cert.FfnIdeal Cert.FfnIdeal.Gen Cert.Common

/-! ## Products -/

theorem mt512 (u : FVec Ideal ⟨2, ![256, 512]⟩ .bf16) (v : FVec Ideal ⟨2, ![1024, 512]⟩ .bf16) (r : Fin 256) (k : Fin 1024) :
    matmul dot_S256x512_S1024x512_S256x1024_1_1_0_0_n_n none u v (constant ⟨2, ![256, 1024]⟩ .f32 0x00000000#32) (ix2 r k) = ∑ q : Fin 512, u (ix2 r q) * v (ix2 k q) := by
  refine (Ideal.matmul_transposedRhs_apply (M := 256) (K := 512) (N := 1024) none _ _ _ r k).trans ?_
  exact (congrArg (fun z : EReal => z + _) Ideal.ofBits_zero_f32).trans (zero_add _)

theorem mt256 (u : FVec Ideal ⟨2, ![256, 256]⟩ .bf16) (v : FVec Ideal ⟨2, ![1024, 256]⟩ .bf16) (r : Fin 256) (k : Fin 1024) :
    matmul dot_S256x256_S1024x256_S256x1024_1_1_0_0_n_n none u v (constant ⟨2, ![256, 1024]⟩ .f32 0x00000000#32) (ix2 r k) = ∑ q : Fin 256, u (ix2 r q) * v (ix2 k q) := by
  refine (Ideal.matmul_transposedRhs_apply (M := 256) (K := 256) (N := 1024) none _ _ _ r k).trans ?_
  exact (congrArg (fun z : EReal => z + _) Ideal.ofBits_zero_f32).trans (zero_add _)

theorem mt1024 (u : FVec Ideal ⟨2, ![256, 1024]⟩ .bf16) (v : FVec Ideal ⟨2, ![1024, 1024]⟩ .bf16) (r : Fin 256) (k : Fin 1024) :
    matmul dot_S256x1024_S1024x1024_S256x1024_1_1_0_0_n_n none u v (constant ⟨2, ![256, 1024]⟩ .f32 0x00000000#32) (ix2 r k) = ∑ q : Fin 1024, u (ix2 r q) * v (ix2 k q) := by
  refine (Ideal.matmul_transposedRhs_apply (M := 256) (K := 1024) (N := 1024) none _ _ _ r k).trans ?_
  exact (congrArg (fun z : EReal => z + _) Ideal.ofBits_zero_f32).trans (zero_add _)

theorem mt768 (u : FVec Ideal ⟨2, ![256, 1024]⟩ .bf16) (v : FVec Ideal ⟨2, ![768, 1024]⟩ .bf16) (r : Fin 256) (k : Fin 768) :
    matmul dot_S256x1024_S768x1024_S256x768_1_1_0_0_n_n none u v (constant ⟨2, ![256, 768]⟩ .f32 0x00000000#32) (ix2 r k) = ∑ q : Fin 1024, u (ix2 r q) * v (ix2 k q) := by
  refine (Ideal.matmul_transposedRhs_apply (M := 256) (K := 1024) (N := 768) none _ _ _ r k).trans ?_
  exact (congrArg (fun z : EReal => z + _) Ideal.ofBits_zero_f32).trans (zero_add _)

theorem mp1024 (u : FVec Ideal ⟨2, ![256, 1024]⟩ .bf16) (v : FVec Ideal ⟨2, ![1024, 1024]⟩ .bf16) (r : Fin 256) (k : Fin 1024) :
    matmul dot_S256x1024_S1024x1024_S256x1024_1_0_0_1_n_n none u v (constant ⟨2, ![256, 1024]⟩ .f32 0x00000000#32) (ix2 r k) = ∑ q : Fin 1024, u (ix2 r q) * v (ix2 q k) := by
  refine (Ideal.matmul_plain_apply (M := 256) (K := 1024) (N := 1024) none _ _ _ r k).trans ?_
  exact (congrArg (fun z : EReal => z + _) Ideal.ofBits_zero_f32).trans (zero_add _)

theorem mp768 (u : FVec Ideal ⟨2, ![256, 768]⟩ .bf16) (v : FVec Ideal ⟨2, ![768, 1024]⟩ .bf16) (r : Fin 256) (k : Fin 1024) :
    matmul dot_S256x768_S768x1024_S256x1024_1_0_0_1_n_n none u v (constant ⟨2, ![256, 1024]⟩ .f32 0x00000000#32) (ix2 r k) = ∑ q : Fin 768, u (ix2 r q) * v (ix2 q k) := by
  refine (Ideal.matmul_plain_apply (M := 256) (K := 768) (N := 1024) none _ _ _ r k).trans ?_
  exact (congrArg (fun z : EReal => z + _) Ideal.ofBits_zero_f32).trans (zero_add _)

abbrev c0 (i : Fin 1024) : Fin 2816 := ⟨i.val, by omega⟩
abbrev c1 (i : Fin 1024) : Fin 2816 := ⟨1024 + i.val, by omega⟩
abbrev c2 (i : Fin 768) : Fin 2816 := ⟨2048 + i.val, by omega⟩

theorem sgk (z : EReal) : Ideal.div one (one + Ideal.exp (Ideal.ofBits .f32 0x00000000#32 - z)) = sg z := by
  unfold sg; rw [Ideal.ofBits_zero_f32, zero_sub]

variable {W : Wts} {P : Fin 256 → Row}

theorem p7 (v3 v4 v7 v9 v12 v21) (h3 : ∀ r q, v3 (ix2 r q) = (P r).sb q) (h4 : ∀ k q, v4 (ix2 k q) = W.wsb q k) (h7 : ∀ r q, v7 (ix2 r q) = (P r).dl q)
    (h9 : ∀ k q, v9 (ix2 k q) = W.wdl q k) (h12 : ∀ r k, v12 (ix2 r k) = (P r).gt (glo k)) (h21 : ∀ r k, v21 (ix2 r k) = (P r).gt (ghi k)) (r : Fin 256) (k : Fin 1024) :
    k0_pay7 (F := Ideal) v3 v4 v7 v9 v12 v21 (ix2 r k) = mg W (P r) k := by
  unfold k0_pay7
  rw [shapeCast_self, shapeCast_self]
  refine congrArg₂ (fun a b : EReal => a + b) (congrArg₂ (fun a b : EReal => a * b) ((sgk _).trans (congrArg sg (h12 r k))) ?_) (congrArg₂ (fun a b : EReal => a * b) ((sgk _).trans (congrArg sg (h21 r k))) ?_)
  · exact (mt512 _ _ r k).trans (Finset.sum_congr rfl fun q _ => congrArg₂ (fun a b : EReal => a * b) (h3 r q) (h4 k q))
  · exact (mt256 _ _ r k).trans (Finset.sum_congr rfl fun q _ => congrArg₂ (fun a b : EReal => a * b) (h7 r q) (h9 k q))

section X1
variable (v31 : FVec Ideal S256x1024 .bf16) (v33 : Vec Ideal S256x1024 .f32) (v34 : Vec Ideal S1024x1024 .bf16) (v37 : Vec Ideal S1x1024 .f32)
variable (h31 : ∀ r k, v31 (ix2 r k) = mg W (P r) k) (h33 : ∀ r k, v33 (ix2 r k) = (P r).x k) (h34 : ∀ q k, v34 (ix2 q k) = W.wo q k) (h37 : ∀ k, v37 (ix2 0 k) = W.gf k)
include h31 h33 h34

theorem p8 (r : Fin 256) (k : Fin 1024) : k0_pay8 (F := Ideal) v31 v33 v34 (ix2 r k) = x1 W (P r) k := by
  unfold k0_pay8
  exact congrArg₂ (fun a b : EReal => a + b) (h33 r k) ((mp1024 _ _ r k).trans (Finset.sum_congr rfl fun q _ => congrArg₂ (fun a b : EReal => a * b) (h31 r q) (h34 q k)))

theorem p9 (r : Fin 256) : k0_pay9 (F := Ideal) v31 v33 v34 (ix2 r 0) = rr (x1 W (P r)) := by
  unfold k0_pay9
  refine congrArg (fun z : EReal => Ideal.rsqrt (Ideal.div z n1024 + eps)) ((rowSum_apply _ _ _ _ _ r 0).trans (Finset.sum_congr rfl fun k _ => ?_))
  exact congrArg₂ (fun a b : EReal => a * b) (p8 v31 v33 v34 h31 h33 h34 r k) (p8 v31 v33 v34 h31 h33 h34 r k)

theorem p10 (r : Fin 256) (k : Fin 1024) : k0_pay10 (F := Ideal) v31 v33 v34 (ix2 r k) = n2 W (P r) k := by
  unfold k0_pay10
  exact congrArg₂ (fun a b : EReal => a * b) (p8 v31 v33 v34 h31 h33 h34 r k) ((bcol_apply _ _ r k).trans (p9 v31 v33 v34 h31 h33 h34 r))

include h37
theorem p11 (r : Fin 256) (k : Fin 1024) : k0_pay11 (F := Ideal) v31 v33 v34 v37 (ix2 r k) = u2 W (P r) k := by
  unfold k0_pay11
  exact congrArg₂ (fun a b : EReal => a * b) (p10 v31 v33 v34 h31 h33 h34 r k) ((broadcastTo_1b_ab_apply _ _ _ _).trans (h37 k))

theorem p12 (v53) (h53 : ∀ i q, v53 (ix2 i q) = W.wi q (hlo (c0 i))) (r : Fin 256) (i : Fin 1024) : k0_pay12 (F := Ideal) v31 v33 v34 v37 v53 (ix2 r i) = ga W (P r) (c0 i) := by
  unfold k0_pay12
  rw [shapeCast_self]
  exact (mt1024 _ _ r i).trans (Finset.sum_congr rfl fun q _ => congrArg₂ (fun a b : EReal => a * b) (p11 v31 v33 v34 v37 h31 h33 h34 h37 r q) (h53 i q))
theorem p13 (v53) (h53 : ∀ i q, v53 (ix2 i q) = W.wi q (hhi (c0 i))) (r : Fin 256) (i : Fin 1024) : k0_pay13 (F := Ideal) v31 v33 v34 v37 v53 (ix2 r i) = up W (P r) (c0 i) := by
  unfold k0_pay13
  rw [shapeCast_self]
  exact (mt1024 _ _ r i).trans (Finset.sum_congr rfl fun q _ => congrArg₂ (fun a b : EReal => a * b) (p11 v31 v33 v34 v37 h31 h33 h34 h37 r q) (h53 i q))
theorem p14 (v53) (h53 : ∀ i q, v53 (ix2 i q) = W.wi q (hlo (c0 i))) (r : Fin 256) (i : Fin 1024) : k0_pay14 (F := Ideal) v31 v33 v34 v37 v53 (ix2 r i) = ga W (P r) (c0 i) := by
  unfold k0_pay14
  rw [shapeCast_self]
  exact p12 v31 v33 v34 v37 h31 h33 h34 h37 v53 h53 r i
theorem p15 (v53) (h53 : ∀ i q, v53 (ix2 i q) = W.wi q (hhi (c0 i))) (r : Fin 256) (i : Fin 1024) : k0_pay15 (F := Ideal) v31 v33 v34 v37 v53 (ix2 r i) = up W (P r) (c0 i) := by
  unfold k0_pay15
  rw [shapeCast_self]
  exact p13 v31 v33 v34 v37 h31 h33 h34 h37 v53 h53 r i
end X1

theorem p16 (v55 v58) (h55 : ∀ r i, v55 (ix2 r i) = ga W (P r) (c0 i)) (h58 : ∀ r i, v58 (ix2 r i) = up W (P r) (c0 i)) (r : Fin 256) (i : Fin 1024) :
    k0_pay16 (F := Ideal) v55 v58 (Ideal.ofBits .f32 0x00000000#32) (ix2 r i) = act W (P r) (c0 i) := by
  unfold k0_pay16
  exact congrArg₂ (fun a b : EReal => a * b) (congrArg₂ (fun a b : EReal => a * b) (h55 r i) ((sgk _).trans (congrArg sg (h55 r i)))) (h58 r i)

theorem p17 (v36 v55 v58 v76) (h36 : ∀ r k, v36 (ix2 r k) = x1 W (P r) k) (h55 : ∀ r i, v55 (ix2 r i) = ga W (P r) (c0 i)) (h58 : ∀ r i, v58 (ix2 r i) = up W (P r) (c0 i))
    (h76 : ∀ i k, v76 (ix2 i k) = W.wf (c0 i) k) (r : Fin 256) (k : Fin 1024) :
    k0_pay17 (F := Ideal) v36 v55 v58 (Ideal.ofBits .f32 0x00000000#32) v76 (ix2 r k) = x1 W (P r) k + ∑ i, act W (P r) (c0 i) * W.wf (c0 i) k := by
  unfold k0_pay17
  exact congrArg₂ (fun a b : EReal => a + b) (h36 r k) ((mp1024 _ _ r k).trans (Finset.sum_congr rfl fun i _ => congrArg₂ (fun a b : EReal => a * b) (p16 v55 v58 h55 h58 r i) (h76 i k)))

section U2
variable (v51 : FVec Ideal S256x1024 .bf16) (h51 : ∀ r k, v51 (ix2 r k) = u2 W (P r) k)
include h51

theorem p18 (v) (hv : ∀ i q, v (ix2 i q) = W.wi q (hlo (c1 i))) (r : Fin 256) (i : Fin 1024) : k0_pay18 (F := Ideal) v51 v (ix2 r i) = ga W (P r) (c1 i) := by
  unfold k0_pay18
  rw [shapeCast_self]
  exact (mt1024 _ _ r i).trans (Finset.sum_congr rfl fun q _ => congrArg₂ (fun a b : EReal => a * b) (h51 r q) (hv i q))
theorem p19 (v) (hv : ∀ i q, v (ix2 i q) = W.wi q (hhi (c1 i))) (r : Fin 256) (i : Fin 1024) : k0_pay19 (F := Ideal) v51 v (ix2 r i) = up W (P r) (c1 i) := by
  unfold k0_pay19
  rw [shapeCast_self]
  exact (mt1024 _ _ r i).trans (Finset.sum_congr rfl fun q _ => congrArg₂ (fun a b : EReal => a * b) (h51 r q) (hv i q))
theorem p20 (v) (hv : ∀ i q, v (ix2 i q) = W.wi q (hlo (c1 i))) (r : Fin 256) (i : Fin 1024) : k0_pay20 (F := Ideal) v51 v (ix2 r i) = ga W (P r) (c1 i) := by
  unfold k0_pay20
  rw [shapeCast_self]
  exact p18 v51 h51 v hv r i
theorem p21 (v) (hv : ∀ i q, v (ix2 i q) = W.wi q (hhi (c1 i))) (r : Fin 256) (i : Fin 1024) : k0_pay21 (F := Ideal) v51 v (ix2 r i) = up W (P r) (c1 i) := by
  unfold k0_pay21
  rw [shapeCast_self]
  exact p19 v51 h51 v hv r i
theorem p22 (v v') (hv : ∀ i q, v (ix2 i q) = W.wi q (hlo (c1 i))) (hv' : ∀ i q, v' (ix2 i q) = W.wi q (hhi (c1 i))) (r : Fin 256) (i : Fin 1024) :
    k0_pay22 (F := Ideal) v51 v v' (ix2 r i) = act W (P r) (c1 i) := by
  unfold k0_pay22
  exact congrArg₂ (fun a b : EReal => a * b) (congrArg₂ (fun a b : EReal => a * b) (p18 v51 h51 v hv r i) ((sgk _).trans (congrArg sg (p18 v51 h51 v hv r i)))) (p19 v51 h51 v' hv' r i)

theorem p23 (v) (hv : ∀ i q, v (ix2 i q) = W.wi q (hlo (c2 i))) (r : Fin 256) (i : Fin 768) : k0_pay23 (F := Ideal) v51 v (ix2 r i) = ga W (P r) (c2 i) := by
  unfold k0_pay23
  rw [shapeCast_self]
  exact (mt768 _ _ r i).trans (Finset.sum_congr rfl fun q _ => congrArg₂ (fun a b : EReal => a * b) (h51 r q) (hv i q))
theorem p24 (v) (hv : ∀ i q, v (ix2 i q) = W.wi q (hhi (c2 i))) (r : Fin 256) (i : Fin 768) : k0_pay24 (F := Ideal) v51 v (ix2 r i) = up W (P r) (c2 i) := by
  unfold k0_pay24
  rw [shapeCast_self]
  exact (mt768 _ _ r i).trans (Finset.sum_congr rfl fun q _ => congrArg₂ (fun a b : EReal => a * b) (h51 r q) (hv i q))
theorem p25 (v) (hv : ∀ i q, v (ix2 i q) = W.wi q (hlo (c2 i))) (r : Fin 256) (i : Fin 768) : k0_pay25 (F := Ideal) v51 v (ix2 r i) = ga W (P r) (c2 i) := by
  unfold k0_pay25
  rw [shapeCast_self]
  exact p23 v51 h51 v hv r i
theorem p26 (v) (hv : ∀ i q, v (ix2 i q) = W.wi q (hhi (c2 i))) (r : Fin 256) (i : Fin 768) : k0_pay26 (F := Ideal) v51 v (ix2 r i) = up W (P r) (c2 i) := by
  unfold k0_pay26
  rw [shapeCast_self]
  exact p24 v51 h51 v hv r i
theorem p27 (v v') (hv : ∀ i q, v (ix2 i q) = W.wi q (hlo (c2 i))) (hv' : ∀ i q, v' (ix2 i q) = W.wi q (hhi (c2 i))) (r : Fin 256) (i : Fin 768) :
    k0_pay27 (F := Ideal) v51 v v' (ix2 r i) = act W (P r) (c2 i) := by
  unfold k0_pay27
  exact congrArg₂ (fun a b : EReal => a * b) (congrArg₂ (fun a b : EReal => a * b) (p23 v51 h51 v hv r i) ((sgk _).trans (congrArg sg (p23 v51 h51 v hv r i)))) (p24 v51 h51 v' hv' r i)

theorem p28 (v78 v100 v102 v105 v108 v128) (h78 : ∀ r k, v78 (ix2 r k) = x1 W (P r) k + ∑ i, act W (P r) (c0 i) * W.wf (c0 i) k) (h100 : ∀ r i, v100 (ix2 r i) = act W (P r) (c1 i))
    (h102 : ∀ i k, v102 (ix2 i k) = W.wf (c1 i) k) (h105 : ∀ i q, v105 (ix2 i q) = W.wi q (hlo (c2 i))) (h108 : ∀ i q, v108 (ix2 i q) = W.wi q (hhi (c2 i)))
    (h128 : ∀ i k, v128 (ix2 i k) = W.wf (c2 i) k) (r : Fin 256) (k : Fin 1024) : k0_pay28 (F := Ideal) v51 v78 v100 v102 v105 v108 v128 (ix2 r k) = x2 W (P r) k := by
  unfold k0_pay28
  refine (congrArg₂ (fun a b : EReal => a + b) (congrArg₂ (fun a b : EReal => a + b) (h78 r k) ((mp1024 _ _ r k).trans (Finset.sum_congr rfl fun i _ => congrArg₂ (fun a b : EReal => a * b) (h100 r i) (h102 i k))))
    ((mp768 _ _ r k).trans (Finset.sum_congr rfl fun i _ => congrArg₂ (fun a b : EReal => a * b) (p27 v51 h51 v105 v108 h105 h108 r i) (h128 i k)))).trans ?_
  unfold x2
  rw [split3]
  simp only [add_assoc]
end U2

theorem p29 (v51 v78 v100 v102 v105 v108 v128) (h : ∀ r k, k0_pay28 (F := Ideal) v51 v78 v100 v102 v105 v108 v128 (ix2 r k) = x2 W (P r) k) (r : Fin 256) :
    k0_pay29 (F := Ideal) v51 v78 v100 v102 v105 v108 v128 (ix2 r 0) = ∑ k, x2 W (P r) k * x2 W (P r) k := by
  unfold k0_pay29
  exact (rowSum_apply _ _ _ _ _ r 0).trans (Finset.sum_congr rfl fun k _ => congrArg₂ (fun a b : EReal => a * b) (h r k) (h r k))

theorem p30 (v133 : FVec Ideal S256x1 .f32) (h133 : ∀ r, v133 (ix2 r 0) = ∑ k, x2 W (P r) k * x2 W (P r) k) (r : Fin 256) : k0_pay30 (F := Ideal) v133 (ix2 r 0) = rr (x2 W (P r)) := by
  unfold k0_pay30
  exact congrArg (fun z : EReal => Ideal.rsqrt (Ideal.div z n1024 + eps)) (h133 r)

section Head
variable (v38 : Vec Ideal S1x1024 .f32) (v130 : FVec Ideal S256x1024 .f32) (v133 : FVec Ideal S256x1 .f32) (v143 : Vec Ideal S256x1024 .f32)
variable (h38 : ∀ k, v38 (ix2 0 k) = W.gl k) (h130 : ∀ r k, v130 (ix2 r k) = x2 W (P r) k) (h133 : ∀ r, v133 (ix2 r 0) = ∑ k, x2 W (P r) k * x2 W (P r) k)
  (h143 : ∀ r k, v143 (ix2 r k) = (P r).tg k)
include h130 h133

theorem p31 (r : Fin 256) (k : Fin 1024) : k0_pay31 (F := Ideal) v130 v133 (ix2 r k) = n3 W (P r) k := by
  unfold k0_pay31
  exact congrArg₂ (fun a b : EReal => a * b) (h130 r k) ((bcol_apply _ _ r k).trans (p30 v133 h133 r))

include h38 h143
theorem p32 (r : Fin 256) (k : Fin 1024) : k0_pay32 (F := Ideal) v38 v130 v133 v143 (ix2 r k) = er W (P r) k := by
  unfold k0_pay32
  exact congrArg₂ (fun a b : EReal => a - b) (congrArg₂ (fun a b : EReal => a * b) (p31 v130 v133 h130 h133 r k) ((broadcastTo_1b_ab_apply _ _ _ _).trans (h38 k))) (h143 r k)

theorem p33 (v150 : Vec Ideal S1x128 .f32) (z : Fin 1) (k : Fin 128) : k0_pay33 (F := Ideal) v38 v130 v133 v143 v150 (ix2 z k) = v150 (ix2 z k) + (∑ r, ls W (P r)) * c11 := by
  unfold k0_pay33
  rw [shapeCast_self]
  refine congrArg (fun b : EReal => v150 (ix2 z k) + b) ((bcol_apply _ _ z k).trans (congrArg (fun b : EReal => b * c11) ?_))
  refine (colSum_apply _ _ _ _ _ z 0).trans (Finset.sum_congr rfl fun r _ => ?_)
  refine (rowSum_apply _ _ _ _ _ r 0).trans (Finset.sum_congr rfl fun j _ => ?_)
  exact congrArg₂ (fun a b : EReal => a * b) (p32 v38 v130 v133 v143 h38 h130 h133 h143 r j) (p32 v38 v130 v133 v143 h38 h130 h133 h143 r j)

theorem p34 (r : Fin 256) (k : Fin 1024) : k0_pay34 (F := Ideal) v38 v130 v133 v143 (ix2 r k) = dy W (P r) k := by
  unfold k0_pay34
  exact congrArg (fun b : EReal => b * c10) (p32 v38 v130 v133 v143 h38 h130 h133 h143 r k)

theorem p35 (z : Fin 1) (k : Fin 1024) : k0_pay35 (F := Ideal) v38 v130 v133 v143 (ix2 z k) = ∑ r, dy W (P r) k * n3 W (P r) k := by
  unfold k0_pay35
  exact (colSum_apply _ _ _ _ _ z k).trans (Finset.sum_congr rfl fun r _ => congrArg₂ (fun a b : EReal => a * b) (p34 v38 v130 v133 v143 h38 h130 h133 h143 r k) (p31 v130 v133 h130 h133 r k))

theorem p36 (r : Fin 256) (k : Fin 1024) : k0_pay36 (F := Ideal) v38 v130 v133 v143 (ix2 r k) = dx2 W (P r) k := by
  unfold k0_pay36
  have hd : ∀ j : Fin 1024, (mulf (k0_pay34 (F := Ideal) v38 v130 v133 v143) (broadcastTo S256x1024 v38 broadcasts_S1x1024_S256x1024)) (ix2 r j) = dy W (P r) j * W.gl j := fun j =>
    congrArg₂ (fun a b : EReal => a * b) (p34 v38 v130 v133 v143 h38 h130 h133 h143 r j) ((broadcastTo_1b_ab_apply _ _ _ _).trans (h38 j))
  refine congrArg₂ (fun a b : EReal => a * b) ((bcol_apply _ _ r k).trans (p30 v133 h133 r)) (congrArg₂ (fun a b : EReal => a - b) (hd k) (congrArg₂ (fun a b : EReal => a * b) (p31 v130 v133 h130 h133 r k) ((bcol_apply _ _ r k).trans ?_)))
  refine congrArg (fun z : EReal => Ideal.div z n1024) ((rowSum_apply _ _ _ _ _ r 0).trans (Finset.sum_congr rfl fun j _ => ?_))
  exact congrArg₂ (fun a b : EReal => a * b) (hd j) (p31 v130 v133 h130 h133 r j)
end Head

theorem p38 (v161 : FVec Ideal S1x1024 .f32) (v174 : Vec Ideal S1x1024 .f32) (i) : k0_pay38 (F := Ideal) v161 (k0_pay37 (F := Ideal) v174) i = v174 i + v161 i := by
  unfold k0_pay38 k0_pay37
  rw [shapeCast_self]
  rfl

/-! ## Back through the feed-forward block -/

section Back
variable (v173 : FVec Ideal S256x1024 .f32) (h173 : ∀ r k, v173 (ix2 r k) = dx2 W (P r) k)
include h173

theorem p39 (r : Fin 256) (k : Fin 1024) : k0_pay39 (F := Ideal) v173 (ix2 r k) = dx2 W (P r) k := by
  unfold k0_pay39
  exact h173 r k
theorem p41 (v) (hv : ∀ i k, v (ix2 i k) = W.wf (c0 i) k) (r : Fin 256) (i : Fin 1024) : k0_pay41 (F := Ideal) v173 v (ix2 r i) = dact W (P r) (c0 i) := by
  unfold k0_pay41
  exact (mt1024 _ _ r i).trans (Finset.sum_congr rfl fun k _ => congrArg₂ (fun a b : EReal => a * b) (p39 v173 h173 r k) (hv i k))
end Back

theorem p42 (v) (hv : ∀ r i, v (ix2 r i) = ga W (P r) (c0 i)) (r : Fin 256) (i : Fin 1024) : k0_pay42 (F := Ideal) v (ix2 r i) = sg (ga W (P r) (c0 i)) := by
  unfold k0_pay42
  exact (sgk _).trans (congrArg sg (hv r i))
theorem p47 (v) (hv : ∀ r i, v (ix2 r i) = ga W (P r) (c1 i)) (r : Fin 256) (i : Fin 1024) : k0_pay47 (F := Ideal) v (ix2 r i) = sg (ga W (P r) (c1 i)) := by
  unfold k0_pay47
  exact (sgk _).trans (congrArg sg (hv r i))
theorem p52 (v) (hv : ∀ r i, v (ix2 r i) = ga W (P r) (c2 i)) (r : Fin 256) (i : Fin 768) : k0_pay52 (F := Ideal) v (ix2 r i) = sg (ga W (P r) (c2 i)) := by
  unfold k0_pay52
  exact (sgk _).trans (congrArg sg (hv r i))
section Back2
variable (v178 : FVec Ideal S256x1024 .bf16) (h178 : ∀ r k, v178 (ix2 r k) = dx2 W (P r) k)
include h178

theorem p46 (v) (hv : ∀ i k, v (ix2 i k) = W.wf (c1 i) k) (r : Fin 256) (i : Fin 1024) : k0_pay46 (F := Ideal) v178 v (ix2 r i) = dact W (P r) (c1 i) := by
  unfold k0_pay46
  exact (mt1024 _ _ r i).trans (Finset.sum_congr rfl fun k _ => congrArg₂ (fun a b : EReal => a * b) (h178 r k) (hv i k))
theorem p51 (v) (hv : ∀ i k, v (ix2 i k) = W.wf (c2 i) k) (r : Fin 256) (i : Fin 768) : k0_pay51 (F := Ideal) v178 v (ix2 r i) = dact W (P r) (c2 i) := by
  unfold k0_pay51
  exact (mt768 _ _ r i).trans (Finset.sum_congr rfl fun k _ => congrArg₂ (fun a b : EReal => a * b) (h178 r k) (hv i k))
end Back2

section B43
variable (v173 : FVec Ideal S256x1024 .f32) (h173 : ∀ r k, v173 (ix2 r k) = dx2 W (P r) k)
variable (vg vu : Vec Ideal S256x1024 .f32) (hg : ∀ r i, vg (ix2 r i) = ga W (P r) (c0 i)) (hu : ∀ r i, vu (ix2 r i) = up W (P r) (c0 i))
variable (v : Vec Ideal S1024x1024 .bf16) (hv : ∀ i k, v (ix2 i k) = W.wf (c0 i) k)
include h173 hg hv
theorem p44 (r : Fin 256) (i : Fin 1024) : k0_pay44 (F := Ideal) v173 vg v (ix2 r i) = dup W (P r) (c0 i) := by
  unfold k0_pay44
  exact congrArg₂ (fun a b : EReal => a * b) (p41 v173 h173 v hv r i) (congrArg₂ (fun a b : EReal => a * b) (hg r i) (p42 vg hg r i))
include hu
theorem p43 (r : Fin 256) (i : Fin 1024) : k0_pay43 (F := Ideal) v173 vg vu v (ix2 r i) = dga W (P r) (c0 i) := by
  unfold k0_pay43
  exact congrArg₂ (fun a b : EReal => a * b) (congrArg₂ (fun a b : EReal => a * b) (p41 v173 h173 v hv r i) (hu r i))
    (congrArg₂ (fun a b : EReal => a * b) (p42 vg hg r i) (congrArg (fun b : EReal => one + b) (congrArg₂ (fun a b : EReal => a * b) (hg r i) (congrArg (fun b : EReal => one - b) (p42 vg hg r i)))))
end B43

section B48
variable (v178 : FVec Ideal S256x1024 .bf16) (h178 : ∀ r k, v178 (ix2 r k) = dx2 W (P r) k)
variable (vg vu : Vec Ideal S256x1024 .f32) (hg : ∀ r i, vg (ix2 r i) = ga W (P r) (c1 i)) (hu : ∀ r i, vu (ix2 r i) = up W (P r) (c1 i))
variable (v : Vec Ideal S1024x1024 .bf16) (hv : ∀ i k, v (ix2 i k) = W.wf (c1 i) k)
include h178 hg hv
theorem p49 (r : Fin 256) (i : Fin 1024) : k0_pay49 (F := Ideal) v178 vg v (ix2 r i) = dup W (P r) (c1 i) := by
  unfold k0_pay49
  exact congrArg₂ (fun a b : EReal => a * b) (p46 v178 h178 v hv r i) (congrArg₂ (fun a b : EReal => a * b) (hg r i) (p47 vg hg r i))
include hu
theorem p48 (r : Fin 256) (i : Fin 1024) : k0_pay48 (F := Ideal) v178 vg vu v (ix2 r i) = dga W (P r) (c1 i) := by
  unfold k0_pay48
  exact congrArg₂ (fun a b : EReal => a * b) (congrArg₂ (fun a b : EReal => a * b) (p46 v178 h178 v hv r i) (hu r i))
    (congrArg₂ (fun a b : EReal => a * b) (p47 vg hg r i) (congrArg (fun b : EReal => one + b) (congrArg₂ (fun a b : EReal => a * b) (hg r i) (congrArg (fun b : EReal => one - b) (p47 vg hg r i)))))
end B48

section B53
variable (v178 : FVec Ideal S256x1024 .bf16) (h178 : ∀ r k, v178 (ix2 r k) = dx2 W (P r) k)
variable (vg vu : Vec Ideal S256x768 .f32) (hg : ∀ r i, vg (ix2 r i) = ga W (P r) (c2 i)) (hu : ∀ r i, vu (ix2 r i) = up W (P r) (c2 i))
variable (v : Vec Ideal S768x1024 .bf16) (hv : ∀ i k, v (ix2 i k) = W.wf (c2 i) k)
include h178 hg hv
theorem p54 (r : Fin 256) (i : Fin 768) : k0_pay54 (F := Ideal) v178 vg v (ix2 r i) = dup W (P r) (c2 i) := by
  unfold k0_pay54
  exact congrArg₂ (fun a b : EReal => a * b) (p51 v178 h178 v hv r i) (congrArg₂ (fun a b : EReal => a * b) (hg r i) (p52 vg hg r i))
include hu
theorem p53 (r : Fin 256) (i : Fin 768) : k0_pay53 (F := Ideal) v178 vg vu v (ix2 r i) = dga W (P r) (c2 i) := by
  unfold k0_pay53
  exact congrArg₂ (fun a b : EReal => a * b) (congrArg₂ (fun a b : EReal => a * b) (p51 v178 h178 v hv r i) (hu r i))
    (congrArg₂ (fun a b : EReal => a * b) (p52 vg hg r i) (congrArg (fun b : EReal => one + b) (congrArg₂ (fun a b : EReal => a * b) (hg r i) (congrArg (fun b : EReal => one - b) (p52 vg hg r i)))))
end B53

/-- What the gradient of the normed row is after the first three of its six products. -/
def acc3 (W : Wts) (p : Row) (k : Fin 1024) : EReal :=
  (∑ i, dga W p (c0 i) * W.wi k (hlo (c0 i))) + (∑ i, dup W p (c0 i) * W.wi k (hhi (c0 i))) + ∑ i, dga W p (c1 i) * W.wi k (hlo (c1 i))
/-- And after the fifth. -/
def acc5 (W : Wts) (p : Row) (k : Fin 1024) : EReal :=
  acc3 W p k + (∑ i, dup W p (c1 i) * W.wi k (hhi (c1 i))) + ∑ i, dga W p (c2 i) * W.wi k (hlo (c2 i))

theorem p45 (v : Vec Ideal S1024x1024 .bf16) : k0_pay45 (F := Ideal) v = v := by unfold k0_pay45; exact shapeCast_self _ _
theorem p56 (v : Vec Ideal S768x1024 .bf16) : k0_pay56 (F := Ideal) v = v := by unfold k0_pay56; exact shapeCast_self _ _

theorem p50 (v178 v200 v203 v207 v210 v214 v215 v216 v239) (h178 : ∀ r k, v178 (ix2 r k) = dx2 W (P r) k) (h200 : ∀ r i, v200 (ix2 r i) = dga W (P r) (c0 i)) (h203 : ∀ r i, v203 (ix2 r i) = dup W (P r) (c0 i))
    (h207 : ∀ i k, v207 (ix2 i k) = W.wi k (hlo (c0 i))) (h210 : ∀ i k, v210 (ix2 i k) = W.wi k (hhi (c0 i))) (h214 : ∀ r i, v214 (ix2 r i) = ga W (P r) (c1 i)) (h215 : ∀ r i, v215 (ix2 r i) = up W (P r) (c1 i))
    (h216 : ∀ i k, v216 (ix2 i k) = W.wf (c1 i) k) (h239 : ∀ i k, v239 (ix2 i k) = W.wi k (hlo (c1 i))) (r : Fin 256) (k : Fin 1024) :
    k0_pay50 (F := Ideal) v178 (k0_pay40 (F := Ideal)) v200 v203 (k0_pay45 (F := Ideal) v207) (constant S256x1024 .f32 0x00000000#32) v210 v214 v215 v216 v239 (ix2 r k) = acc3 W (P r) k := by
  unfold k0_pay50
  rw [shapeCast_self, shapeCast_self, p45]
  refine congrArg₂ (fun a b : EReal => a + b) (congrArg₂ (fun a b : EReal => a + b) ?_ ?_) ?_
  · refine (congrArg₂ (fun a b : EReal => a + b) (Ideal.ofBits_zero_f32) ((mp1024 _ _ r k).trans (Finset.sum_congr rfl fun i _ => congrArg₂ (fun a b : EReal => a * b) (h200 r i) (h207 i k)))).trans (zero_add _)
  · exact (mp1024 _ _ r k).trans (Finset.sum_congr rfl fun i _ => congrArg₂ (fun a b : EReal => a * b) (h203 r i) (h210 i k))
  · exact (mp1024 _ _ r k).trans (Finset.sum_congr rfl fun i _ => congrArg₂ (fun a b : EReal => a * b) (p48 v178 h178 v214 v215 h214 h215 v216 h216 r i) (h239 i k))

theorem p55 (v178 v236 v242 v243 v247 v248 v249 v272) (h178 : ∀ r k, v178 (ix2 r k) = dx2 W (P r) k) (h236 : ∀ r i, v236 (ix2 r i) = dup W (P r) (c1 i)) (h242 : ∀ r k, v242 (ix2 r k) = acc3 W (P r) k)
    (h243 : ∀ i k, v243 (ix2 i k) = W.wi k (hhi (c1 i))) (h247 : ∀ r i, v247 (ix2 r i) = ga W (P r) (c2 i)) (h248 : ∀ r i, v248 (ix2 r i) = up W (P r) (c2 i))
    (h249 : ∀ i k, v249 (ix2 i k) = W.wf (c2 i) k) (h272 : ∀ i k, v272 (ix2 i k) = W.wi k (hlo (c2 i))) (r : Fin 256) (k : Fin 1024) :
    k0_pay55 (F := Ideal) v178 v236 v242 v243 v247 v248 v249 v272 (ix2 r k) = acc5 W (P r) k := by
  unfold k0_pay55
  rw [shapeCast_self, shapeCast_self]
  refine congrArg₂ (fun a b : EReal => a + b) (congrArg₂ (fun a b : EReal => a + b) (h242 r k) ?_) ?_
  · exact (mp1024 _ _ r k).trans (Finset.sum_congr rfl fun i _ => congrArg₂ (fun a b : EReal => a * b) (h236 r i) (h243 i k))
  · exact (mp768 _ _ r k).trans (Finset.sum_congr rfl fun i _ => congrArg₂ (fun a b : EReal => a * b) (p53 v178 h178 v247 v248 h247 h248 v249 h249 r i) (h272 i k))

theorem six (a b c d e f : EReal) : a + d + b + e + c + f = a + b + c + (d + e + f) := by abel

theorem acc_eq (p : Row) (k : Fin 1024) : acc5 W p k + (∑ i, dup W p (c2 i) * W.wi k (hhi (c2 i))) = du2 W p k := by
  unfold acc5 acc3 du2
  rw [split3, split3]
  exact six _ _ _ _ _ _

section Du
variable (v269 : FVec Ideal S256x768 .bf16) (v275 : FVec Ideal S256x1024 .f32) (v277 : Vec Ideal S768x1024 .bf16)
variable (h269 : ∀ r i, v269 (ix2 r i) = dup W (P r) (c2 i)) (h275 : ∀ r k, v275 (ix2 r k) = acc5 W (P r) k) (h277 : ∀ i k, v277 (ix2 i k) = W.wi k (hhi (c2 i)))
include h269 h275 h277

theorem p1 (r : Fin 256) (k : Fin 1024) : k0_pay1 (F := Ideal) v269 v275 (k0_pay56 (F := Ideal) v277) (ix2 r k) = du2 W (P r) k := by
  unfold k0_pay1
  rw [p56]
  exact (congrArg₂ (fun a b : EReal => a + b) (h275 r k) ((mp768 _ _ r k).trans (Finset.sum_congr rfl fun i _ => congrArg₂ (fun a b : EReal => a * b) (h269 r i) (h277 i k)))).trans (acc_eq (P r) k)

theorem p2 (v48 : FVec Ideal S256x1024 .f32) (h48 : ∀ r k, v48 (ix2 r k) = n2 W (P r) k) (v295 : Vec Ideal S1x1024 .f32) (z : Fin 1) (k : Fin 1024) :
    k0_pay2 (F := Ideal) v48 v269 v275 (k0_pay56 (F := Ideal) v277) v295 (ix2 z k) = v295 (ix2 z k) + ∑ r, du2 W (P r) k * n2 W (P r) k := by
  unfold k0_pay2
  rw [shapeCast_self (s := S1x1024)]
  refine congrArg (fun b : EReal => v295 (ix2 z k) + b) ((colSum_apply _ _ _ _ _ z k).trans (Finset.sum_congr rfl fun r _ => ?_))
  exact congrArg₂ (fun a b : EReal => a * b) (p1 v269 v275 v277 h269 h275 h277 r k) (h48 r k)

theorem p3 (v37 v46 v48 v173) (h37 : ∀ k, v37 (ix2 0 k) = W.gf k) (h46 : ∀ r, v46 (ix2 r 0) = rr (x1 W (P r))) (h48 : ∀ r k, v48 (ix2 r k) = n2 W (P r) k)
    (h173 : ∀ r k, v173 (ix2 r k) = dx2 W (P r) k) (r : Fin 256) (k : Fin 1024) :
    k0_pay3 (F := Ideal) v37 v46 v48 v173 v269 v275 (k0_pay56 (F := Ideal) v277) (ix2 r k) = dx1 W (P r) k := by
  unfold k0_pay3
  have hd : ∀ j : Fin 1024, (mulf (k0_pay1 (F := Ideal) v269 v275 (k0_pay56 (F := Ideal) v277)) (broadcastTo S256x1024 v37 broadcasts_S1x1024_S256x1024)) (ix2 r j) = du2 W (P r) j * W.gf j := fun j =>
    congrArg₂ (fun a b : EReal => a * b) (p1 v269 v275 v277 h269 h275 h277 r j) ((broadcastTo_1b_ab_apply _ _ _ _).trans (h37 j))
  refine congrArg₂ (fun a b : EReal => a + b) (h173 r k) (congrArg₂ (fun a b : EReal => a * b) ((bcol_apply _ _ r k).trans (h46 r)) (congrArg₂ (fun a b : EReal => a - b) (hd k) (congrArg₂ (fun a b : EReal => a * b) (h48 r k) ((bcol_apply _ _ r k).trans ?_))))
  refine congrArg (fun z : EReal => Ideal.div z n1024) ((rowSum_apply _ _ _ _ _ r 0).trans (Finset.sum_congr rfl fun j _ => ?_))
  exact congrArg₂ (fun a b : EReal => a * b) (hd j) (h48 r j)
end Du

end Cert.FfnProof

end
-- ==== Proof.FfnRef.lean ====
module

public import proofs.«01_k».proof.Proof.FfnSpec
public import proofs.«01_k».proof.Proof.Gen.FfnRefIdeal.Read
public import proofs.«01_k».proof.Proof.Gen.FfnIdeal.Value

@[expose] public section

noncomputable section

/-! The reference's values: each is the function of the token's row that it stands for. -/

namespace Cert.FfnProof

open Idealize.ShloMosaic hiding ix1 ix2 eq_ix1 eq_ix2
open Idealize.ShloMosaic.TcCoe Idealize.ShloMosaic.Tactic Idealize.SL.Sem Idealize.ShloMosaic.ValueIdx
open Cert.FfnRefIdeal.Read Cert.Common

abbrev Arr (a b : ℕ) := (⟨2, ![a, b]⟩ : Shape).Idx → EReal

/-- The weights, from the arrays. -/
def WR (x4 : Arr 512 1024) (x5 : Arr 256 1024) (x6 : Arr 1024 1024) (x8 x9 : Arr 1 1024) (x10 : Arr 1024 5632) (x11 : Arr 2816 1024) : Wts where
  wsb q k := x4 (ix2 q k)
  wdl q k := x5 (ix2 q k)
  wo q k := x6 (ix2 q k)
  gf k := x8 (ix2 0 k)
  gl k := x9 (ix2 0 k)
  wi q k := x10 (ix2 q k)
  wf q k := x11 (ix2 q k)

/-- Row `r` of the inputs, from the arrays. -/
def PR (x0 : Arr 4096 1024) (x1 : Arr 4096 512) (x2 : Arr 4096 256) (x3 : Arr 4096 2048) (x7 : Arr 4096 1024) (r : Fin 4096) : Row where
  x k := x0 (ix2 r k)
  sb k := x1 (ix2 r k)
  dl k := x2 (ix2 r k)
  gt k := x3 (ix2 r k)
  tg k := x7 (ix2 r k)

/-- The entries of a column of rows are its rows. -/
def rowsEq : Fin 4096 ≃ (⟨1, ![4096]⟩ : Shape).Idx where
  toFun r := ix1 r
  invFun i := i 0
  left_inv _ := rfl
  right_inv i := (eq_ix1 i).symm

variable (x0 : Arr 4096 1024) (x1 : Arr 4096 512) (x2 : Arr 4096 256) (x3 : Arr 4096 2048) (x4 : Arr 512 1024) (x5 : Arr 256 1024) (x6 : Arr 1024 1024)
  (x7 : Arr 4096 1024) (x8 x9 : Arr 1 1024) (x10 : Arr 1024 5632) (x11 : Arr 2816 1024)

/-- A sum that starts from the zero the program spells. -/
theorem zsum {ι : Type} [Fintype ι] {f g : ι → EReal} (h : ∀ i, f i = g i) : Ideal.ofBits .f32 0x00000000#32 + ∑ i, f i = ∑ i, g i :=
  (congrArg (fun z : EReal => z + _) Ideal.ofBits_zero_f32).trans ((zero_add _).trans (Finset.sum_congr rfl fun i _ => h i))

theorem ref_sgl (r : Fin 4096) (k : Fin 1024) : val_main_v15 (F := Ideal) x3 (ix2 r k) = sg (x3 (ix2 r (glo k))) := by
  rw [val_main_v15_apply, val_main_v14_apply, val_main_v13_apply, val_main_v12_apply, val_main_v11_apply, val_main_v10_apply, val_main_v8_apply, val_main_cst_apply, val_main_cst_0_apply]
  exact congrArg (fun i => sg (x3 i)) (eq_ix2 _)

theorem ref_sgr (r : Fin 4096) (k : Fin 1024) : val_main_v22 (F := Ideal) x3 (ix2 r k) = sg (x3 (ix2 r (ghi k))) := by
  rw [val_main_v22_apply, val_main_v21_apply, val_main_v20_apply, val_main_v19_apply, val_main_v18_apply, val_main_v17_apply, val_main_v9_apply, val_main_cst_1_apply, val_main_cst_2_apply]
  exact congrArg (fun i => sg (x3 i)) (eq_ix2 _)

theorem ref_mg (r : Fin 4096) (k : Fin 1024) : val_main_v24 (F := Ideal) x1 x2 x3 x4 x5 (ix2 r k) = mg (WR x4 x5 x6 x8 x9 x10 x11) (PR x0 x1 x2 x3 x7 r) k := by
  rw [val_main_v24_apply, val_main_v16_apply, val_main_v23_apply, val_main_v6_apply, val_main_v7_apply, ref_sgl, ref_sgr]
  refine congrArg₂ (fun a b : EReal => sg (x3 (ix2 r (glo k))) * a + sg (x3 (ix2 r (ghi k))) * b) (Finset.sum_congr rfl fun q _ => ?_) (Finset.sum_congr rfl fun q _ => ?_)
  · rw [val_main_v0_apply, val_main_v1_apply]
    exact congrArg₂ (fun a b => x1 a * x4 b) (eq_ix2 _) (eq_ix2 _)
  · rw [val_main_v2_apply]
    exact congrArg₂ (fun a b => x2 a * x5 b) (eq_ix2 _) (eq_ix2 _)

theorem ref_x1 (r : Fin 4096) (k : Fin 1024) : val_main_v26 (F := Ideal) x0 x1 x2 x3 x4 x5 x6 (ix2 r k) = FfnProof.x1 (WR x4 x5 x6 x8 x9 x10 x11) (PR x0 x1 x2 x3 x7 r) k := by
  rw [val_main_v26_apply, val_main_v25_apply]
  refine congrArg (fun b : EReal => x0 (ix2 r k) + b) (Finset.sum_congr rfl fun q _ => ?_)
  rw [val_main_v3_apply]
  exact congrArg₂ (fun a b : EReal => a * b) ((congrArg _ (eq_ix2 _)).trans (ref_mg x0 x1 x2 x3 x4 x5 x6 x7 x8 x9 x10 x11 r q)) (congrArg x6 (eq_ix2 _))

theorem ref_v2 (r : Fin 4096) : val_main_v33 (F := Ideal) x0 x1 x2 x3 x4 x5 x6 (ix2 r 0) = Ideal.div (∑ k, FfnProof.x1 (WR x4 x5 x6 x8 x9 x10 x11) (PR x0 x1 x2 x3 x7 r) k * FfnProof.x1 (WR x4 x5 x6 x8 x9 x10 x11) (PR x0 x1 x2 x3 x7 r) k) n1024 + eps := by
  rw [val_main_v33_apply, val_main_v31_apply, val_main_v29_apply, val_main_v28_apply, val_main_v30_apply, val_main_v32_apply, val_main_cst_3_apply, val_main_cst_4_apply, val_main_cst_5_apply]
  refine congrArg (fun z : EReal => Ideal.div z n1024 + eps) (zsum fun k => ?_)
  have e : idx_main_v28 (idx_main_v29 (ix2 r 0)) k = ix2 r k := eq_ix2 _
  rw [e, val_main_v27_apply, ref_x1 x0 x1 x2 x3 x4 x5 x6 x7 x8 x9 x10 x11 r k]
  rfl

theorem ref_r2 (r : Fin 4096) : val_main_v34 (F := Ideal) x0 x1 x2 x3 x4 x5 x6 (ix2 r 0) = rr (FfnProof.x1 (WR x4 x5 x6 x8 x9 x10 x11) (PR x0 x1 x2 x3 x7 r)) :=
  by rw [val_main_v34_apply]; exact congrArg Ideal.rsqrt (ref_v2 x0 x1 x2 x3 x4 x5 x6 x7 x8 x9 x10 x11 r)

theorem ref_n2 (r : Fin 4096) (k : Fin 1024) : val_main_v39 (F := Ideal) x0 x1 x2 x3 x4 x5 x6 (ix2 r k) = n2 (WR x4 x5 x6 x8 x9 x10 x11) (PR x0 x1 x2 x3 x7 r) k := by
  rw [val_main_v39_apply, val_main_v38_apply]
  exact congrArg₂ (fun a b : EReal => a * b) (ref_x1 x0 x1 x2 x3 x4 x5 x6 x7 x8 x9 x10 x11 r k) ((congrArg _ (eq_ix2 _)).trans (ref_r2 x0 x1 x2 x3 x4 x5 x6 x7 x8 x9 x10 x11 r))

theorem ref_u2 (r : Fin 4096) (k : Fin 1024) : val_main_v41 (F := Ideal) x0 x1 x2 x3 x4 x5 x6 x8 (ix2 r k) = u2 (WR x4 x5 x6 x8 x9 x10 x11) (PR x0 x1 x2 x3 x7 r) k := by
  rw [val_main_v41_apply, val_main_v40_apply]
  exact congrArg₂ (fun a b : EReal => a * b) (ref_n2 x0 x1 x2 x3 x4 x5 x6 x7 x8 x9 x10 x11 r k) (congrArg x8 (eq_ix2 _))

theorem ref_hh (r : Fin 4096) (k : Fin 5632) : val_main_v42 (F := Ideal) x0 x1 x2 x3 x4 x5 x6 x8 x10 (ix2 r k) = hh (WR x4 x5 x6 x8 x9 x10 x11) (PR x0 x1 x2 x3 x7 r) k := by
  rw [val_main_v42_apply]
  refine Finset.sum_congr rfl fun q _ => ?_
  rw [val_main_v4_apply]
  exact congrArg₂ (fun a b : EReal => a * b) ((congrArg _ (eq_ix2 _)).trans (ref_u2 x0 x1 x2 x3 x4 x5 x6 x7 x8 x9 x10 x11 r q)) (congrArg x10 (eq_ix2 _))

theorem ref_ga (r : Fin 4096) (j : Fin 2816) : val_main_v43 (F := Ideal) x0 x1 x2 x3 x4 x5 x6 x8 x10 (ix2 r j) = ga (WR x4 x5 x6 x8 x9 x10 x11) (PR x0 x1 x2 x3 x7 r) j := by
  rw [val_main_v43_apply]
  exact (congrArg _ (eq_ix2 _)).trans (ref_hh x0 x1 x2 x3 x4 x5 x6 x7 x8 x9 x10 x11 r (hlo j))

theorem ref_up (r : Fin 4096) (j : Fin 2816) : val_main_v44 (F := Ideal) x0 x1 x2 x3 x4 x5 x6 x8 x10 (ix2 r j) = up (WR x4 x5 x6 x8 x9 x10 x11) (PR x0 x1 x2 x3 x7 r) j := by
  rw [val_main_v44_apply]
  exact (congrArg _ (eq_ix2 _)).trans (ref_hh x0 x1 x2 x3 x4 x5 x6 x7 x8 x9 x10 x11 r (hhi j))

theorem ref_sg (r : Fin 4096) (j : Fin 2816) : val_main_v45_2 (F := Ideal) x0 x1 x2 x3 x4 x5 x6 x8 x10 (ix2 r j) = sg (ga (WR x4 x5 x6 x8 x9 x10 x11) (PR x0 x1 x2 x3 x7 r) j) := by
  rw [val_main_v45_2_apply, val_main_call0_v4_apply, val_main_call0_v3_apply, val_main_call0_v2_apply, val_main_call0_v1_apply, val_main_call0_v0_apply, val_main_call0_cst_apply, val_main_call0_cst_0_apply]
  exact congrArg sg (ref_ga x0 x1 x2 x3 x4 x5 x6 x7 x8 x9 x10 x11 r j)

theorem ref_gs (r : Fin 4096) (j : Fin 2816) : val_main_v45_0 (F := Ideal) x0 x1 x2 x3 x4 x5 x6 x8 x10 (ix2 r j) = ga (WR x4 x5 x6 x8 x9 x10 x11) (PR x0 x1 x2 x3 x7 r) j * sg (ga (WR x4 x5 x6 x8 x9 x10 x11) (PR x0 x1 x2 x3 x7 r) j) := by
  rw [val_main_v45_0_apply]
  exact congrArg₂ (fun a b : EReal => a * b) (ref_ga x0 x1 x2 x3 x4 x5 x6 x7 x8 x9 x10 x11 r j) (ref_sg x0 x1 x2 x3 x4 x5 x6 x7 x8 x9 x10 x11 r j)

theorem ref_s1s (r : Fin 4096) (j : Fin 2816) : val_main_v45_1 (F := Ideal) x0 x1 x2 x3 x4 x5 x6 x8 x10 (ix2 r j) = sg (ga (WR x4 x5 x6 x8 x9 x10 x11) (PR x0 x1 x2 x3 x7 r) j) * (one - sg (ga (WR x4 x5 x6 x8 x9 x10 x11) (PR x0 x1 x2 x3 x7 r) j)) := by
  rw [val_main_v45_1_apply, val_main_call0_v7_apply, val_main_call0_v6_apply, val_main_call0_cst_1_apply]
  exact congrArg₂ (fun a b : EReal => a * b) (ref_sg x0 x1 x2 x3 x4 x5 x6 x7 x8 x9 x10 x11 r j) (congrArg (fun b : EReal => one - b) (ref_sg x0 x1 x2 x3 x4 x5 x6 x7 x8 x9 x10 x11 r j))

theorem ref_act (r : Fin 4096) (j : Fin 2816) : val_main_v46 (F := Ideal) x0 x1 x2 x3 x4 x5 x6 x8 x10 (ix2 r j) = act (WR x4 x5 x6 x8 x9 x10 x11) (PR x0 x1 x2 x3 x7 r) j := by
  rw [val_main_v46_apply]
  exact congrArg₂ (fun a b : EReal => a * b) (ref_gs x0 x1 x2 x3 x4 x5 x6 x7 x8 x9 x10 x11 r j) (ref_up x0 x1 x2 x3 x4 x5 x6 x7 x8 x9 x10 x11 r j)

theorem ref_x2 (r : Fin 4096) (k : Fin 1024) : val_main_v48 (F := Ideal) x0 x1 x2 x3 x4 x5 x6 x8 x10 x11 (ix2 r k) = FfnProof.x2 (WR x4 x5 x6 x8 x9 x10 x11) (PR x0 x1 x2 x3 x7 r) k := by
  rw [val_main_v48_apply, val_main_v47_apply]
  refine congrArg₂ (fun a b : EReal => a + b) (ref_x1 x0 x1 x2 x3 x4 x5 x6 x7 x8 x9 x10 x11 r k) (Finset.sum_congr rfl fun q _ => ?_)
  rw [val_main_v5_apply]
  exact congrArg₂ (fun a b : EReal => a * b) ((congrArg _ (eq_ix2 _)).trans (ref_act x0 x1 x2 x3 x4 x5 x6 x7 x8 x9 x10 x11 r q)) (congrArg x11 (eq_ix2 _))

theorem ref_v3 (r : Fin 4096) : val_main_v55 (F := Ideal) x0 x1 x2 x3 x4 x5 x6 x8 x10 x11 (ix2 r 0) = Ideal.div (∑ k, FfnProof.x2 (WR x4 x5 x6 x8 x9 x10 x11) (PR x0 x1 x2 x3 x7 r) k * FfnProof.x2 (WR x4 x5 x6 x8 x9 x10 x11) (PR x0 x1 x2 x3 x7 r) k) n1024 + eps := by
  rw [val_main_v55_apply, val_main_v53_apply, val_main_v51_apply, val_main_v50_apply, val_main_v52_apply, val_main_v54_apply, val_main_cst_7_apply, val_main_cst_8_apply, val_main_cst_9_apply]
  refine congrArg (fun z : EReal => Ideal.div z n1024 + eps) (zsum fun k => ?_)
  have e : idx_main_v50 (idx_main_v51 (ix2 r 0)) k = ix2 r k := eq_ix2 _
  rw [e, val_main_v49_apply, ref_x2 x0 x1 x2 x3 x4 x5 x6 x7 x8 x9 x10 x11 r k]
  rfl

theorem ref_r3 (r : Fin 4096) : val_main_v56 (F := Ideal) x0 x1 x2 x3 x4 x5 x6 x8 x10 x11 (ix2 r 0) = rr (FfnProof.x2 (WR x4 x5 x6 x8 x9 x10 x11) (PR x0 x1 x2 x3 x7 r)) :=
  by rw [val_main_v56_apply]; exact congrArg Ideal.rsqrt (ref_v3 x0 x1 x2 x3 x4 x5 x6 x7 x8 x9 x10 x11 r)

theorem ref_n3 (r : Fin 4096) (k : Fin 1024) : val_main_v61 (F := Ideal) x0 x1 x2 x3 x4 x5 x6 x8 x10 x11 (ix2 r k) = n3 (WR x4 x5 x6 x8 x9 x10 x11) (PR x0 x1 x2 x3 x7 r) k := by
  rw [val_main_v61_apply, val_main_v60_apply]
  exact congrArg₂ (fun a b : EReal => a * b) (ref_x2 x0 x1 x2 x3 x4 x5 x6 x7 x8 x9 x10 x11 r k) ((congrArg _ (eq_ix2 _)).trans (ref_r3 x0 x1 x2 x3 x4 x5 x6 x7 x8 x9 x10 x11 r))

theorem ref_er (r : Fin 4096) (k : Fin 1024) : val_main_v64 (F := Ideal) x0 x1 x2 x3 x4 x5 x6 x7 x8 x9 x10 x11 (ix2 r k) = er (WR x4 x5 x6 x8 x9 x10 x11) (PR x0 x1 x2 x3 x7 r) k := by
  rw [val_main_v64_apply, val_main_v63_apply, val_main_v62_apply]
  exact congrArg (fun z : EReal => z - x7 (ix2 r k)) (congrArg₂ (fun a b : EReal => a * b) (ref_n3 x0 x1 x2 x3 x4 x5 x6 x7 x8 x9 x10 x11 r k) (congrArg x9 (eq_ix2 _)))

theorem ref_ls (r : Fin 4096) : val_main_v70 (F := Ideal) x0 x1 x2 x3 x4 x5 x6 x7 x8 x9 x10 x11 (ix1 r) = Ideal.div (ls (WR x4 x5 x6 x8 x9 x10 x11) (PR x0 x1 x2 x3 x7 r)) n1024 := by
  rw [val_main_v70_apply, val_main_v69_apply, val_main_v68_apply, val_main_cst_12_apply, val_main_cst_13_apply]
  refine congrArg (fun z : EReal => Ideal.div z n1024) (zsum fun k => ?_)
  have e : idx_main_v68 (ix1 r) k = ix2 r k := eq_ix2 _
  rw [e, val_main_v65_apply, ref_er x0 x1 x2 x3 x4 x5 x6 x7 x8 x9 x10 x11 r k]
  rfl

section Fin
variable (hW : (WR x4 x5 x6 x8 x9 x10 x11).R) (hP : ∀ r, (PR x0 x1 x2 x3 x7 r).R)
include hW hP

theorem ref_dy (r : Fin 4096) (k : Fin 1024) : val_main_v78 (F := Ideal) x0 x1 x2 x3 x4 x5 x6 x7 x8 x9 x10 x11 (ix2 r k) = dy (WR x4 x5 x6 x8 x9 x10 x11) (PR x0 x1 x2 x3 x7 r) k := by
  rw [val_main_v78_apply, val_main_v77_apply, val_main_v76_apply, val_main_v75_apply, val_main_v74_apply, val_main_v73_apply, val_main_v67_apply, val_main_v66_apply, val_main_cst_11_apply, val_main_cst_16_apply, val_main_cst_17_apply, val_main_cst_18_apply, ref_er x0 x1 x2 x3 x4 x5 x6 x7 x8 x9 x10 x11 r k]
  exact dy_eq (isR_er hW (hP r) k)

theorem ref_dn3 (r : Fin 4096) (k : Fin 1024) : val_main_v83 (F := Ideal) x0 x1 x2 x3 x4 x5 x6 x7 x8 x9 x10 x11 (ix2 r k) = dy (WR x4 x5 x6 x8 x9 x10 x11) (PR x0 x1 x2 x3 x7 r) k * (WR x4 x5 x6 x8 x9 x10 x11).gl k := by
  rw [val_main_v83_apply, val_main_v82_apply]
  exact congrArg₂ (fun a b : EReal => a * b) (ref_dy x0 x1 x2 x3 x4 x5 x6 x7 x8 x9 x10 x11 hW hP r k) (congrArg x9 (eq_ix2 _))

theorem ref_s3 (r : Fin 4096) : val_main_v92 (F := Ideal) x0 x1 x2 x3 x4 x5 x6 x7 x8 x9 x10 x11 (ix1 r)
    = Ideal.div ((∑ j, FfnProof.x2 (WR x4 x5 x6 x8 x9 x10 x11) (PR x0 x1 x2 x3 x7 r) j * (dy (WR x4 x5 x6 x8 x9 x10 x11) (PR x0 x1 x2 x3 x7 r) j * (WR x4 x5 x6 x8 x9 x10 x11).gl j))
        * (mhalf * Ideal.div (rr (FfnProof.x2 (WR x4 x5 x6 x8 x9 x10 x11) (PR x0 x1 x2 x3 x7 r))) (Ideal.div (∑ k, FfnProof.x2 (WR x4 x5 x6 x8 x9 x10 x11) (PR x0 x1 x2 x3 x7 r) k * FfnProof.x2 (WR x4 x5 x6 x8 x9 x10 x11) (PR x0 x1 x2 x3 x7 r) k) n1024 + eps))) n1024 := by
  rw [val_main_v92_apply, val_main_cst_22_apply]
  refine (congrArg (fun z : EReal => z + _) Ideal.ofBits_zero_f32).trans ((zero_add _).trans ((Fin.sum_univ_one _).trans ?_))
  have e : idx_main_v92 (ix1 r) 0 = ix2 r 0 := eq_ix2 _
  rw [e, val_main_v91_apply, val_main_v89_apply, val_main_v86_apply, val_main_v85_apply, val_main_v59_apply, val_main_v58_apply, val_main_v57_apply, val_main_v90_apply, ref_r3 x0 x1 x2 x3 x4 x5 x6 x7 x8 x9 x10 x11 r, ref_v3 x0 x1 x2 x3 x4 x5 x6 x7 x8 x9 x10 x11 r, val_main_cst_10_apply, val_main_cst_20_apply, val_main_cst_21_apply]
  refine congrArg (fun z : EReal => Ideal.div (z * _) n1024) (zsum fun j => ?_)
  have e : idx_main_v85 (idx_main_v86 (ix2 r 0)) j = ix2 r j := by
    funext a; apply Fin.ext
    match a with
    | ⟨0, _⟩ => first | rfl | (show r.val * 1 + 0 = r.val; omega)
    | ⟨1, _⟩ => rfl
  rw [e, val_main_v84_apply, ref_dn3 x0 x1 x2 x3 x4 x5 x6 x7 x8 x9 x10 x11 hW hP r j, ref_x2 x0 x1 x2 x3 x4 x5 x6 x7 x8 x9 x10 x11 r j]
  rfl

theorem ref_b3 (r : Fin 4096) (k : Fin 1024) : val_main_v97 (F := Ideal) x0 x1 x2 x3 x4 x5 x6 x7 x8 x9 x10 x11 (ix2 r k) = bw (FfnProof.x2 (WR x4 x5 x6 x8 x9 x10 x11) (PR x0 x1 x2 x3 x7 r)) (fun k => dy (WR x4 x5 x6 x8 x9 x10 x11) (PR x0 x1 x2 x3 x7 r) k * (WR x4 x5 x6 x8 x9 x10 x11).gl k) k := by
  rw [val_main_v97_apply, val_main_v95_apply, val_main_v96_apply, val_main_v94_apply, val_main_v93_apply, val_main_v88_apply, val_main_v87_apply, ref_dn3 x0 x1 x2 x3 x4 x5 x6 x7 x8 x9 x10 x11 hW hP r k, ref_x2 x0 x1 x2 x3 x4 x5 x6 x7 x8 x9 x10 x11 r k]
  have e1 : idx_main_v93 (ix2 r k) = ix1 r := eq_ix1 _
  have e2 : idx_main_v87 (ix2 r k) = ix2 r 0 := eq_ix2 _
  rw [e1, e2, ref_r3 x0 x1 x2 x3 x4 x5 x6 x7 x8 x9 x10 x11 r, ref_s3 x0 x1 x2 x3 x4 x5 x6 x7 x8 x9 x10 x11 hW hP r]
  exact bw_eq (FfnProof.x2 (WR x4 x5 x6 x8 x9 x10 x11) (PR x0 x1 x2 x3 x7 r)) (fun k => dy (WR x4 x5 x6 x8 x9 x10 x11) (PR x0 x1 x2 x3 x7 r) k * (WR x4 x5 x6 x8 x9 x10 x11).gl k) (isR_x2 hW (hP r)) (fun k => (isR_dy hW (hP r) k).mul (hW.gl k)) k

theorem ref_dx2 (r : Fin 4096) (k : Fin 1024) : val_main_v97 (F := Ideal) x0 x1 x2 x3 x4 x5 x6 x7 x8 x9 x10 x11 (ix2 r k) = dx2 (WR x4 x5 x6 x8 x9 x10 x11) (PR x0 x1 x2 x3 x7 r) k := ref_b3 x0 x1 x2 x3 x4 x5 x6 x7 x8 x9 x10 x11 hW hP r k

theorem ref_dact (r : Fin 4096) (j : Fin 2816) : val_main_v98 (F := Ideal) x0 x1 x2 x3 x4 x5 x6 x7 x8 x9 x10 x11 (ix2 r j) = dact (WR x4 x5 x6 x8 x9 x10 x11) (PR x0 x1 x2 x3 x7 r) j := by
  rw [val_main_v98_apply]
  refine Finset.sum_congr rfl fun k _ => ?_
  rw [val_main_v5_apply]
  exact congrArg₂ (fun a b : EReal => a * b) ((congrArg _ (eq_ix2 _)).trans (ref_dx2 x0 x1 x2 x3 x4 x5 x6 x7 x8 x9 x10 x11 hW hP r k)) (congrArg x11 (eq_ix2 _))

theorem ref_dup (r : Fin 4096) (j : Fin 2816) : val_main_v99 (F := Ideal) x0 x1 x2 x3 x4 x5 x6 x7 x8 x9 x10 x11 (ix2 r j) = dup (WR x4 x5 x6 x8 x9 x10 x11) (PR x0 x1 x2 x3 x7 r) j := by
  rw [val_main_v99_apply]
  exact (congrArg₂ (fun a b : EReal => a * b) (ref_gs x0 x1 x2 x3 x4 x5 x6 x7 x8 x9 x10 x11 r j) (ref_dact x0 x1 x2 x3 x4 x5 x6 x7 x8 x9 x10 x11 hW hP r j)).trans (mul_comm (G := EReal) _ _)

theorem ref_dau (r : Fin 4096) (j : Fin 2816) : val_main_v100 (F := Ideal) x0 x1 x2 x3 x4 x5 x6 x7 x8 x9 x10 x11 (ix2 r j) = dact (WR x4 x5 x6 x8 x9 x10 x11) (PR x0 x1 x2 x3 x7 r) j * up (WR x4 x5 x6 x8 x9 x10 x11) (PR x0 x1 x2 x3 x7 r) j := by
  rw [val_main_v100_apply]
  exact congrArg₂ (fun a b : EReal => a * b) (ref_dact x0 x1 x2 x3 x4 x5 x6 x7 x8 x9 x10 x11 hW hP r j) (ref_up x0 x1 x2 x3 x4 x5 x6 x7 x8 x9 x10 x11 r j)

theorem ref_dga (r : Fin 4096) (j : Fin 2816) : val_main_v101 (F := Ideal) x0 x1 x2 x3 x4 x5 x6 x7 x8 x9 x10 x11 (ix2 r j) = dga (WR x4 x5 x6 x8 x9 x10 x11) (PR x0 x1 x2 x3 x7 r) j := by
  rw [val_main_v101_apply, val_main_call1_v1_apply, val_main_call1_v2_apply, val_main_call1_v0_apply, ref_dau x0 x1 x2 x3 x4 x5 x6 x7 x8 x9 x10 x11 hW hP r j, ref_sg x0 x1 x2 x3 x4 x5 x6 x7 x8 x9 x10 x11 r j, ref_s1s x0 x1 x2 x3 x4 x5 x6 x7 x8 x9 x10 x11 r j, ref_ga x0 x1 x2 x3 x4 x5 x6 x7 x8 x9 x10 x11 r j]
  exact silu_eq (isR_dact hW (hP r) j) (isR_up hW (hP r) j) (isR_ga hW (hP r) j) (isR_sg (isR_ga hW (hP r) j))

theorem ref_dhlo (r : Fin 4096) (j : Fin 2816) : val_main_v102 (F := Ideal) x0 x1 x2 x3 x4 x5 x6 x7 x8 x9 x10 x11 (ix2 r (hlo j)) = dga (WR x4 x5 x6 x8 x9 x10 x11) (PR x0 x1 x2 x3 x7 r) j := by
  unfold val_main_v102
  refine (concatenate_apply_piece (t := FfnRefIdeal.S4096x5632) (1 : Fin 2) _ _ _ 0 (by show 0 < 2; omega) ⟨2, ![4096, 2816]⟩ (val_main_v101 (F := Ideal) x0 x1 x2 x3 x4 x5 x6 x7 x8 x9 x10 x11) rfl rfl 0 (by sl_kernel_rfl) (ix2 r j) (fun b hb => ?_) (Nat.zero_add _)).trans (ref_dga x0 x1 x2 x3 x4 x5 x6 x7 x8 x9 x10 x11 hW hP r j)
  match b with
  | ⟨0, _⟩ => rfl
  | ⟨1, _⟩ => exact absurd rfl hb

theorem ref_dhhi (r : Fin 4096) (j : Fin 2816) : val_main_v102 (F := Ideal) x0 x1 x2 x3 x4 x5 x6 x7 x8 x9 x10 x11 (ix2 r (hhi j)) = dup (WR x4 x5 x6 x8 x9 x10 x11) (PR x0 x1 x2 x3 x7 r) j := by
  unfold val_main_v102
  refine (concatenate_apply_piece (t := FfnRefIdeal.S4096x5632) (1 : Fin 2) _ _ _ 1 (by show 1 < 2; omega) ⟨2, ![4096, 2816]⟩ (val_main_v99 (F := Ideal) x0 x1 x2 x3 x4 x5 x6 x7 x8 x9 x10 x11) rfl rfl 2816 (by sl_kernel_rfl) (ix2 r j) (fun b hb => ?_) rfl).trans (ref_dup x0 x1 x2 x3 x4 x5 x6 x7 x8 x9 x10 x11 hW hP r j)
  match b with
  | ⟨0, _⟩ => rfl
  | ⟨1, _⟩ => exact absurd rfl hb

theorem ref_dh (r : Fin 4096) (k : Fin 5632) : val_main_v102 (F := Ideal) x0 x1 x2 x3 x4 x5 x6 x7 x8 x9 x10 x11 (ix2 r k) = dh (WR x4 x5 x6 x8 x9 x10 x11) (PR x0 x1 x2 x3 x7 r) k := by
  by_cases h : k.val < 2816
  · obtain ⟨j, rfl⟩ : ∃ j, k = hlo j := ⟨⟨k.val, h⟩, rfl⟩
    rw [dh_lo]; exact ref_dhlo x0 x1 x2 x3 x4 x5 x6 x7 x8 x9 x10 x11 hW hP r j
  · obtain ⟨j, rfl⟩ : ∃ j, k = hhi j := ⟨⟨k.val - 2816, by omega⟩, Fin.ext (by show k.val = 2816 + (k.val - 2816); omega)⟩
    rw [dh_hi]; exact ref_dhhi x0 x1 x2 x3 x4 x5 x6 x7 x8 x9 x10 x11 hW hP r j

theorem ref_du2 (r : Fin 4096) (k : Fin 1024) : val_main_v103 (F := Ideal) x0 x1 x2 x3 x4 x5 x6 x7 x8 x9 x10 x11 (ix2 r k) = du2 (WR x4 x5 x6 x8 x9 x10 x11) (PR x0 x1 x2 x3 x7 r) k := by
  rw [val_main_v103_apply, ← du2_eq]
  refine Finset.sum_congr rfl fun q _ => ?_
  rw [val_main_v4_apply]
  exact congrArg₂ (fun a b : EReal => a * b) ((congrArg _ (eq_ix2 _)).trans (ref_dh x0 x1 x2 x3 x4 x5 x6 x7 x8 x9 x10 x11 hW hP r q)) (congrArg x10 (eq_ix2 _))

theorem ref_dn2 (r : Fin 4096) (k : Fin 1024) : val_main_v108 (F := Ideal) x0 x1 x2 x3 x4 x5 x6 x7 x8 x9 x10 x11 (ix2 r k) = du2 (WR x4 x5 x6 x8 x9 x10 x11) (PR x0 x1 x2 x3 x7 r) k * (WR x4 x5 x6 x8 x9 x10 x11).gf k := by
  rw [val_main_v108_apply, val_main_v107_apply]
  exact congrArg₂ (fun a b : EReal => a * b) (ref_du2 x0 x1 x2 x3 x4 x5 x6 x7 x8 x9 x10 x11 hW hP r k) (congrArg x8 (eq_ix2 _))

theorem ref_s2 (r : Fin 4096) : val_main_v117 (F := Ideal) x0 x1 x2 x3 x4 x5 x6 x7 x8 x9 x10 x11 (ix1 r)
    = Ideal.div ((∑ j, FfnProof.x1 (WR x4 x5 x6 x8 x9 x10 x11) (PR x0 x1 x2 x3 x7 r) j * (du2 (WR x4 x5 x6 x8 x9 x10 x11) (PR x0 x1 x2 x3 x7 r) j * (WR x4 x5 x6 x8 x9 x10 x11).gf j))
        * (mhalf * Ideal.div (rr (FfnProof.x1 (WR x4 x5 x6 x8 x9 x10 x11) (PR x0 x1 x2 x3 x7 r))) (Ideal.div (∑ k, FfnProof.x1 (WR x4 x5 x6 x8 x9 x10 x11) (PR x0 x1 x2 x3 x7 r) k * FfnProof.x1 (WR x4 x5 x6 x8 x9 x10 x11) (PR x0 x1 x2 x3 x7 r) k) n1024 + eps))) n1024 := by
  rw [val_main_v117_apply, val_main_cst_26_apply]
  refine (congrArg (fun z : EReal => z + _) Ideal.ofBits_zero_f32).trans ((zero_add _).trans ((Fin.sum_univ_one _).trans ?_))
  have e : idx_main_v117 (ix1 r) 0 = ix2 r 0 := eq_ix2 _
  rw [e, val_main_v116_apply, val_main_v114_apply, val_main_v111_apply, val_main_v110_apply, val_main_v37_apply, val_main_v36_apply, val_main_v35_apply, val_main_v115_apply, ref_r2 x0 x1 x2 x3 x4 x5 x6 x7 x8 x9 x10 x11 r, ref_v2 x0 x1 x2 x3 x4 x5 x6 x7 x8 x9 x10 x11 r, val_main_cst_6_apply, val_main_cst_24_apply, val_main_cst_25_apply]
  refine congrArg (fun z : EReal => Ideal.div (z * _) n1024) (zsum fun j => ?_)
  have e : idx_main_v110 (idx_main_v111 (ix2 r 0)) j = ix2 r j := by
    funext a; apply Fin.ext
    match a with
    | ⟨0, _⟩ => first | rfl | (show r.val * 1 + 0 = r.val; omega)
    | ⟨1, _⟩ => rfl
  rw [e, val_main_v109_apply, ref_dn2 x0 x1 x2 x3 x4 x5 x6 x7 x8 x9 x10 x11 hW hP r j, ref_x1 x0 x1 x2 x3 x4 x5 x6 x7 x8 x9 x10 x11 r j]
  rfl

theorem ref_b2 (r : Fin 4096) (k : Fin 1024) : val_main_v122 (F := Ideal) x0 x1 x2 x3 x4 x5 x6 x7 x8 x9 x10 x11 (ix2 r k) = bw (FfnProof.x1 (WR x4 x5 x6 x8 x9 x10 x11) (PR x0 x1 x2 x3 x7 r)) (fun k => du2 (WR x4 x5 x6 x8 x9 x10 x11) (PR x0 x1 x2 x3 x7 r) k * (WR x4 x5 x6 x8 x9 x10 x11).gf k) k := by
  rw [val_main_v122_apply, val_main_v120_apply, val_main_v121_apply, val_main_v119_apply, val_main_v118_apply, val_main_v113_apply, val_main_v112_apply, ref_dn2 x0 x1 x2 x3 x4 x5 x6 x7 x8 x9 x10 x11 hW hP r k, ref_x1 x0 x1 x2 x3 x4 x5 x6 x7 x8 x9 x10 x11 r k]
  have e1 : idx_main_v118 (ix2 r k) = ix1 r := eq_ix1 _
  have e2 : idx_main_v112 (ix2 r k) = ix2 r 0 := eq_ix2 _
  rw [e1, e2, ref_r2 x0 x1 x2 x3 x4 x5 x6 x7 x8 x9 x10 x11 r, ref_s2 x0 x1 x2 x3 x4 x5 x6 x7 x8 x9 x10 x11 hW hP r]
  exact bw_eq (FfnProof.x1 (WR x4 x5 x6 x8 x9 x10 x11) (PR x0 x1 x2 x3 x7 r)) (fun k => du2 (WR x4 x5 x6 x8 x9 x10 x11) (PR x0 x1 x2 x3 x7 r) k * (WR x4 x5 x6 x8 x9 x10 x11).gf k) (isR_x1 hW (hP r)) (fun k => (isR_du2 hW (hP r) k).mul (hW.gf k)) k

theorem ref_dx1 (r : Fin 4096) (k : Fin 1024) : val_main_v129 (F := Ideal) x0 x1 x2 x3 x4 x5 x6 x7 x8 x9 x10 x11 (ix2 r k) = dx1 (WR x4 x5 x6 x8 x9 x10 x11) (PR x0 x1 x2 x3 x7 r) k := by
  rw [val_main_v129_apply]
  exact congrArg₂ (fun a b : EReal => a + b) (ref_dx2 x0 x1 x2 x3 x4 x5 x6 x7 x8 x9 x10 x11 hW hP r k) (ref_b2 x0 x1 x2 x3 x4 x5 x6 x7 x8 x9 x10 x11 hW hP r k)

theorem ref_gl (z : Fin 1) (k : Fin 1024) : val_main_v81 (F := Ideal) x0 x1 x2 x3 x4 x5 x6 x7 x8 x9 x10 x11 (ix2 z k) = ∑ r, dy (WR x4 x5 x6 x8 x9 x10 x11) (PR x0 x1 x2 x3 x7 r) k * n3 (WR x4 x5 x6 x8 x9 x10 x11) (PR x0 x1 x2 x3 x7 r) k := by
  rw [val_main_v81_apply, val_main_v80_apply, val_main_cst_19_apply]
  refine zsum fun r => ?_
  have e : idx_main_v80 (idx_main_v81 (ix2 z k)) r = ix2 r k := by
    funext a; apply Fin.ext
    match a with
    | ⟨0, _⟩ => rfl
    | ⟨1, _⟩ => show z.val * 1024 + k.val = k.val; omega
  rw [e, val_main_v79_apply]
  exact (congrArg₂ (fun a b : EReal => a * b) (ref_n3 x0 x1 x2 x3 x4 x5 x6 x7 x8 x9 x10 x11 r k) (ref_dy x0 x1 x2 x3 x4 x5 x6 x7 x8 x9 x10 x11 hW hP r k)).trans (mul_comm (G := EReal) _ _)

theorem ref_gf (z : Fin 1) (k : Fin 1024) : val_main_v106 (F := Ideal) x0 x1 x2 x3 x4 x5 x6 x7 x8 x9 x10 x11 (ix2 z k) = ∑ r, du2 (WR x4 x5 x6 x8 x9 x10 x11) (PR x0 x1 x2 x3 x7 r) k * n2 (WR x4 x5 x6 x8 x9 x10 x11) (PR x0 x1 x2 x3 x7 r) k := by
  rw [val_main_v106_apply, val_main_v105_apply, val_main_cst_23_apply]
  refine zsum fun r => ?_
  have e : idx_main_v105 (idx_main_v106 (ix2 z k)) r = ix2 r k := by
    funext a; apply Fin.ext
    match a with
    | ⟨0, _⟩ => rfl
    | ⟨1, _⟩ => show z.val * 1024 + k.val = k.val; omega
  rw [e, val_main_v104_apply]
  exact (congrArg₂ (fun a b : EReal => a * b) (ref_n2 x0 x1 x2 x3 x4 x5 x6 x7 x8 x9 x10 x11 r k) (ref_du2 x0 x1 x2 x3 x4 x5 x6 x7 x8 x9 x10 x11 hW hP r k)).trans (mul_comm (G := EReal) _ _)

omit hW hP
theorem ref_loss (z : Fin 1) (k : Fin 128) : val_main_v128 (F := Ideal) x0 x1 x2 x3 x4 x5 x6 x7 x8 x9 x10 x11 (ix2 z k) = half * ∑ r, Ideal.div (ls (WR x4 x5 x6 x8 x9 x10 x11) (PR x0 x1 x2 x3 x7 r)) n1024 := by
  rw [val_main_v128_apply, val_main_v72_apply, val_main_cst_15_apply, val_main_v71_apply, val_main_cst_14_apply]
  refine congrArg (fun z : EReal => half * z) ?_
  refine (congrArg (fun z : EReal => z + _) Ideal.ofBits_zero_f32).trans ((zero_add _).trans ?_)
  exact (Fintype.sum_equiv rowsEq (fun r => Ideal.div (ls (WR x4 x5 x6 x8 x9 x10 x11) (PR x0 x1 x2 x3 x7 r)) n1024) _ fun r => (ref_ls x0 x1 x2 x3 x4 x5 x6 x7 x8 x9 x10 x11 r).symm).symm
end Fin

end Cert.FfnProof

end
-- ==== Proof.Ffn.lean ====
module

public import proofs.«01_k».proof.Proof.FfnBody
public import proofs.«01_k».proof.Proof.FfnRef
public import Idealize.ShloMosaic.Lib.Pipeline.ReadBack

@[expose] public section

noncomputable section

/-! The middle of the step: the kernel's nine results are the reference's. The kernel takes a block of 256 tokens at a time
with every weight resident, and the hidden width in three chunks; both sides are read as the functions of a token's row that
the specification names. -/

namespace Cert.FfnProof

open Idealize.ShloMosaic hiding ix1 ix2 eq_ix1 eq_ix2
open Idealize.ShloMosaic.TcCoe Idealize.ShloMosaic.Tactic Idealize.SL.Sem Idealize.ShloMosaic.ValueIdx
open Cert.FfnIdeal Cert.FfnIdeal.Gen
open Cert.FfnRefIdeal.Read Cert.Common
open Idealize.ShloMosaic.Pipeline (Dat)

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![t.val, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![t.val, 0] := (by decide +kernel : ∀ t : Fin grid0.N, _)
theorem idx14 : ∀ t : Fin cfg0.N, win0_14.index t = ![t.val, 0] := (by decide +kernel : ∀ t : Fin grid0.N, _)
theorem idx15 : ∀ t : Fin cfg0.N, win0_15.index t = ![t.val, 0] := (by decide +kernel : ∀ t : Fin grid0.N, _)
theorem idx16 : ∀ t : Fin cfg0.N, win0_16.index t = ![t.val, 0] := (by decide +kernel : ∀ t : Fin grid0.N, _)
theorem idx17 : ∀ t : Fin cfg0.N, win0_17.index t = ![t.val, 0] := (by decide +kernel : ∀ t : Fin grid0.N, _)
theorem idx18 : ∀ t : Fin cfg0.N, win0_18.index t = ![t.val, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)

/-- Row `r` of block `t`. -/
abbrev row (t : Fin cfg0.N) (r : Fin 256) : Fin 4096 := ⟨t.val * 256 + r.val, by have := lt_of_lt_of_eq t.isLt N_0; omega⟩

/-- The weights of a device, and the inputs' rows of its block `t`. -/
abbrev WM (c : Dev nD) : Wts := WR (m ((c : Thread nD τ).loc main_arg4)) (m ((c : Thread nD τ).loc main_arg5)) (m ((c : Thread nD τ).loc main_arg6)) (m ((c : Thread nD τ).loc main_arg8)) (m ((c : Thread nD τ).loc main_arg9)) (m ((c : Thread nD τ).loc main_arg10)) (m ((c : Thread nD τ).loc main_arg11))
abbrev PA (c : Dev nD) (r : Fin 4096) : Row := PR (m ((c : Thread nD τ).loc main_arg0)) (m ((c : Thread nD τ).loc main_arg1)) (m ((c : Thread nD τ).loc main_arg2)) (m ((c : Thread nD τ).loc main_arg3)) (m ((c : Thread nD τ).loc main_arg7)) r
abbrev PM (c : Dev nD) (t : Fin cfg0.N) (r : Fin 256) : Row := PA m c (row t r)

theorem V_v0 (c : Dev nD) : V m c main_v0 = transpose S1024x512 [1, 0] (m ((c : Thread nD τ).loc main_arg4)) transposes_S512x1024_S1024x512_1_0 := by rfl
theorem V_v1 (c : Dev nD) : V m c main_v1 = transpose S1024x256 [1, 0] (m ((c : Thread nD τ).loc main_arg5)) transposes_S256x1024_S1024x256_1_0 := by rfl
theorem V_v2 (c : Dev nD) : V m c main_v2 = transpose S5632x1024 [1, 0] (m ((c : Thread nD τ).loc main_arg10)) transposes_S1024x5632_S5632x1024_1_0 := by rfl

theorem blk0 (c : Dev nD) (t : Fin cfg0.N) (r : Fin 256) (k : Fin 1024) : iblk m c 0 t (ix2 r k) = (m ((c : Thread nD τ).loc main_arg0)) (ix2 (row t r) k) := by
  blk_simp [iblk]
  rw [V_main_arg0]
  refine congrArg (m ((c : Thread nD τ).loc main_arg0)) ?_
  blk_ext [idx0]

theorem blk1 (c : Dev nD) (t : Fin cfg0.N) (r : Fin 256) (k : Fin 512) : iblk m c 1 t (ix2 r k) = (m ((c : Thread nD τ).loc main_arg1)) (ix2 (row t r) k) := by
  blk_simp [iblk]
  rw [V_main_arg1]
  refine congrArg (m ((c : Thread nD τ).loc main_arg1)) ?_
  blk_ext [idx1]

theorem blk2 (c : Dev nD) (t : Fin cfg0.N) (r : Fin 256) (k : Fin 256) : iblk m c 2 t (ix2 r k) = (m ((c : Thread nD τ).loc main_arg2)) (ix2 (row t r) k) := by
  blk_simp [iblk]
  rw [V_main_arg2]
  refine congrArg (m ((c : Thread nD τ).loc main_arg2)) ?_
  blk_ext [idx2]

theorem blk3 (c : Dev nD) (t : Fin cfg0.N) (r : Fin 256) (k : Fin 2048) : iblk m c 3 t (ix2 r k) = (m ((c : Thread nD τ).loc main_arg3)) (ix2 (row t r) k) := by
  blk_simp [iblk]
  rw [V_main_arg3]
  refine congrArg (m ((c : Thread nD τ).loc main_arg3)) ?_
  blk_ext [idx3]

theorem blk7 (c : Dev nD) (t : Fin cfg0.N) (r : Fin 256) (k : Fin 1024) : iblk m c 7 t (ix2 r k) = (m ((c : Thread nD τ).loc main_arg7)) (ix2 (row t r) k) := by
  blk_simp [iblk]
  rw [V_main_arg7]
  refine congrArg (m ((c : Thread nD τ).loc main_arg7)) ?_
  blk_ext [idx7]

theorem blk6 (c : Dev nD) (t : Fin cfg0.N) (r : Fin 1024) (k : Fin 1024) : iblk m c 6 t (ix2 r k) = (m ((c : Thread nD τ).loc main_arg6)) (ix2 r k) := by
  blk_simp [iblk]
  rw [V_main_arg6]
  refine congrArg (m ((c : Thread nD τ).loc main_arg6)) ?_
  blk_ext [idx6]

theorem blk8 (c : Dev nD) (t : Fin cfg0.N) (r : Fin 1) (k : Fin 1024) : iblk m c 8 t (ix2 r k) = (m ((c : Thread nD τ).loc main_arg8)) (ix2 r k) := by
  blk_simp [iblk]
  rw [V_main_arg8]
  refine congrArg (m ((c : Thread nD τ).loc main_arg8)) ?_
  blk_ext [idx8]

theorem blk9 (c : Dev nD) (t : Fin cfg0.N) (r : Fin 1) (k : Fin 1024) : iblk m c 9 t (ix2 r k) = (m ((c : Thread nD τ).loc main_arg9)) (ix2 r k) := by
  blk_simp [iblk]
  rw [V_main_arg9]
  refine congrArg (m ((c : Thread nD τ).loc main_arg9)) ?_
  blk_ext [idx9]

theorem blk11 (c : Dev nD) (t : Fin cfg0.N) (r : Fin 2816) (k : Fin 1024) : iblk m c 11 t (ix2 r k) = (m ((c : Thread nD τ).loc main_arg11)) (ix2 r k) := by
  blk_simp [iblk]
  rw [V_main_arg11]
  refine congrArg (m ((c : Thread nD τ).loc main_arg11)) ?_
  blk_ext [idx11]

theorem blk4 (c : Dev nD) (t : Fin cfg0.N) (r : Fin 1024) (k : Fin 512) : iblk m c 4 t (ix2 r k) = (m ((c : Thread nD τ).loc main_arg4)) (ix2 k r) := by
  blk_simp [iblk]
  rw [V_v0]
  refine congrArg (m ((c : Thread nD τ).loc main_arg4)) ?_
  funext a; apply Fin.ext; fin_cases a
  · show ((((View.whole main_v0).slice (win0_4.rect t)).emb (ix2 r k) 1 : Fin _) : ℕ) = k.val
    blk_simp [idx4]; rfl
  · show ((((View.whole main_v0).slice (win0_4.rect t)).emb (ix2 r k) 0 : Fin _) : ℕ) = r.val
    blk_simp [idx4]; rfl

theorem blk5 (c : Dev nD) (t : Fin cfg0.N) (r : Fin 1024) (k : Fin 256) : iblk m c 5 t (ix2 r k) = (m ((c : Thread nD τ).loc main_arg5)) (ix2 k r) := by
  blk_simp [iblk]
  rw [V_v1]
  refine congrArg (m ((c : Thread nD τ).loc main_arg5)) ?_
  funext a; apply Fin.ext; fin_cases a
  · show ((((View.whole main_v1).slice (win0_5.rect t)).emb (ix2 r k) 1 : Fin _) : ℕ) = k.val
    blk_simp [idx5]; rfl
  · show ((((View.whole main_v1).slice (win0_5.rect t)).emb (ix2 r k) 0 : Fin _) : ℕ) = r.val
    blk_simp [idx5]; rfl

theorem blk10 (c : Dev nD) (t : Fin cfg0.N) (r : Fin 5632) (k : Fin 1024) : iblk m c 10 t (ix2 r k) = (m ((c : Thread nD τ).loc main_arg10)) (ix2 k r) := by
  blk_simp [iblk]
  rw [V_v2]
  refine congrArg (m ((c : Thread nD τ).loc main_arg10)) ?_
  funext a; apply Fin.ext; fin_cases a
  · show ((((View.whole main_v2).slice (win0_10.rect t)).emb (ix2 r k) 1 : Fin _) : ℕ) = k.val
    blk_simp [idx10]; rfl
  · show ((((View.whole main_v2).slice (win0_10.rect t)).emb (ix2 r k) 0 : Fin _) : ℕ) = r.val
    blk_simp [idx10]; rfl

/-- A load of rows from row `o`. -/
theorem ld_rows {M o n : ℕ} (x : Vec Ideal ⟨2, ![M, 1024]⟩ .bf16) (h : _) (q : Fin n) (k : Fin 1024) (ho : o + n ≤ M) :
    View.ld x (Rect.unit (s := ⟨2, ![M, 1024]⟩) ![o, 0] ![n, 1024] h) (ix2 q k) = x (ix2 ⟨o + q.val, by omega⟩ k) :=
  congrArg x (by funext a; apply Fin.ext; fin_cases a
                 · show o + 1 * q.val = o + q.val; omega
                 · show 0 + 1 * k.val = k.val; omega)

theorem in0 (c : Dev nD) (t : Fin cfg0.N) (i : Fin 1024) (q : Fin 1024) : (View.ld (iblk m c 10 t) (Rect.unit ![0, 0] ![1024, 1024] inb_S5632x1024_S1024x1024_0_0)) (ix2 i q) = (WM m c).wi q (hlo (c0 i)) :=
  (ld_rows (M := 5632) _ _ i q (by omega)).trans ((blk10 m c t _ q).trans (congrArg (fun j => (WM m c).wi q j) (Fin.ext (by show 0 + i.val = _; first | rfl | omega | (simp only []; omega)))))

theorem in1024 (c : Dev nD) (t : Fin cfg0.N) (i : Fin 1024) (q : Fin 1024) : (View.ld (iblk m c 10 t) (Rect.unit ![1024, 0] ![1024, 1024] inb_S5632x1024_S1024x1024_1024_0)) (ix2 i q) = (WM m c).wi q (hlo (c1 i)) :=
  (ld_rows (M := 5632) _ _ i q (by omega)).trans ((blk10 m c t _ q).trans (congrArg (fun j => (WM m c).wi q j) (Fin.ext (by show 1024 + i.val = _; first | rfl | omega | (simp only []; omega)))))

theorem in2048 (c : Dev nD) (t : Fin cfg0.N) (i : Fin 768) (q : Fin 1024) : (View.ld (iblk m c 10 t) (Rect.unit ![2048, 0] ![768, 1024] inb_S5632x1024_S768x1024_2048_0)) (ix2 i q) = (WM m c).wi q (hlo (c2 i)) :=
  (ld_rows (M := 5632) _ _ i q (by omega)).trans ((blk10 m c t _ q).trans (congrArg (fun j => (WM m c).wi q j) (Fin.ext (by show 2048 + i.val = _; first | rfl | omega | (simp only []; omega)))))

theorem in2816 (c : Dev nD) (t : Fin cfg0.N) (i : Fin 1024) (q : Fin 1024) : (View.ld (iblk m c 10 t) (Rect.unit ![2816, 0] ![1024, 1024] inb_S5632x1024_S1024x1024_2816_0)) (ix2 i q) = (WM m c).wi q (hhi (c0 i)) :=
  (ld_rows (M := 5632) _ _ i q (by omega)).trans ((blk10 m c t _ q).trans (congrArg (fun j => (WM m c).wi q j) (Fin.ext (by show 2816 + i.val = _; first | rfl | omega | (simp only []; omega)))))

theorem in3840 (c : Dev nD) (t : Fin cfg0.N) (i : Fin 1024) (q : Fin 1024) : (View.ld (iblk m c 10 t) (Rect.unit ![3840, 0] ![1024, 1024] inb_S5632x1024_S1024x1024_3840_0)) (ix2 i q) = (WM m c).wi q (hhi (c1 i)) :=
  (ld_rows (M := 5632) _ _ i q (by omega)).trans ((blk10 m c t _ q).trans (congrArg (fun j => (WM m c).wi q j) (Fin.ext (by show 3840 + i.val = _; first | rfl | omega | (simp only []; omega)))))

theorem in4864 (c : Dev nD) (t : Fin cfg0.N) (i : Fin 768) (q : Fin 1024) : (View.ld (iblk m c 10 t) (Rect.unit ![4864, 0] ![768, 1024] inb_S5632x1024_S768x1024_4864_0)) (ix2 i q) = (WM m c).wi q (hhi (c2 i)) :=
  (ld_rows (M := 5632) _ _ i q (by omega)).trans ((blk10 m c t _ q).trans (congrArg (fun j => (WM m c).wi q j) (Fin.ext (by show 4864 + i.val = _; first | rfl | omega | (simp only []; omega)))))

theorem out0 (c : Dev nD) (t : Fin cfg0.N) (i : Fin 1024) (k : Fin 1024) : (View.ld (iblk m c 11 t) (Rect.unit ![0, 0] ![1024, 1024] inb_S2816x1024_S1024x1024_0_0)) (ix2 i k) = (WM m c).wf (c0 i) k :=
  (ld_rows (M := 2816) _ _ i k (by omega)).trans ((blk11 m c t _ k).trans (congrArg (fun j => (WM m c).wf j k) (Fin.ext (by show 0 + i.val = _; first | rfl | omega | (simp only []; omega)))))

theorem out1024 (c : Dev nD) (t : Fin cfg0.N) (i : Fin 1024) (k : Fin 1024) : (View.ld (iblk m c 11 t) (Rect.unit ![1024, 0] ![1024, 1024] inb_S2816x1024_S1024x1024_1024_0)) (ix2 i k) = (WM m c).wf (c1 i) k :=
  (ld_rows (M := 2816) _ _ i k (by omega)).trans ((blk11 m c t _ k).trans (congrArg (fun j => (WM m c).wf j k) (Fin.ext (by show 1024 + i.val = _; first | rfl | omega | (simp only []; omega)))))

theorem out2048 (c : Dev nD) (t : Fin cfg0.N) (i : Fin 768) (k : Fin 1024) : (View.ld (iblk m c 11 t) (Rect.unit ![2048, 0] ![768, 1024] inb_S2816x1024_S768x1024_2048_0)) (ix2 i k) = (WM m c).wf (c2 i) k :=
  (ld_rows (M := 2816) _ _ i k (by omega)).trans ((blk11 m c t _ k).trans (congrArg (fun j => (WM m c).wf j k) (Fin.ext (by show 2048 + i.val = _; first | rfl | omega | (simp only []; omega)))))

theorem gate_lo (c : Dev nD) (t : Fin cfg0.N) (r : Fin 256) (k : Fin 1024) : (View.ld (iblk m c 3 t) (Rect.unit ![0, 0] ![256, 1024] inb_S256x2048_S256x1024_0_0)) (ix2 r k) = (PM m c t r).gt (glo k) := by
  refine Eq.trans (congrArg (iblk m c 3 t) (?_ : _ = ix2 r (glo k))) (blk3 m c t r (glo k))
  funext a; apply Fin.ext; fin_cases a
  · show 0 + 1 * r.val = r.val; omega
  · show 0 + 1 * k.val = _; first | rfl | omega | (simp only []; omega)

theorem gate_hi (c : Dev nD) (t : Fin cfg0.N) (r : Fin 256) (k : Fin 1024) : (View.ld (iblk m c 3 t) (Rect.unit ![0, 1024] ![256, 1024] inb_S256x2048_S256x1024_0_1024)) (ix2 r k) = (PM m c t r).gt (ghi k) := by
  refine Eq.trans (congrArg (iblk m c 3 t) (?_ : _ = ix2 r (ghi k))) (blk3 m c t r (ghi k))
  funext a; apply Fin.ext; fin_cases a
  · show 0 + 1 * r.val = r.val; omega
  · show 1024 + 1 * k.val = _; first | rfl | omega | (simp only []; omega)

/-! ## The values of the body at block `t` -/

abbrev kMG (c : Dev nD) (t : Fin cfg0.N) : FVec Ideal S256x1024 .bf16 := k0_pay7 (iblk m c 1 t) (iblk m c 4 t) (iblk m c 2 t) (iblk m c 5 t) (View.ld (iblk m c 3 t) (Rect.unit ![0, 0] ![256, 1024] inb_S256x2048_S256x1024_0_0)) (View.ld (iblk m c 3 t) (Rect.unit ![0, 1024] ![256, 1024] inb_S256x2048_S256x1024_0_1024))
theorem h_mg (c : Dev nD) (t : Fin cfg0.N) (r k) : kMG m c t (ix2 r k) = mg (WM m c) (PM m c t r) k := p7 _ _ _ _ _ _ (blk1 m c t) (blk4 m c t) (blk2 m c t) (blk5 m c t) (gate_lo m c t) (gate_hi m c t) r k
abbrev kX1 (c : Dev nD) (t : Fin cfg0.N) : FVec Ideal S256x1024 .f32 := k0_pay8 (kMG m c t) (iblk m c 0 t) (iblk m c 6 t)
theorem h_x1 (c : Dev nD) (t : Fin cfg0.N) (r k) : kX1 m c t (ix2 r k) = x1 (WM m c) (PM m c t r) k := p8 _ _ _ (h_mg m c t) (blk0 m c t) (blk6 m c t) r k

abbrev kR2 (c : Dev nD) (t : Fin cfg0.N) : FVec Ideal S256x1 .f32 := k0_pay9 (kMG m c t) (iblk m c 0 t) (iblk m c 6 t)
theorem h_r2 (c : Dev nD) (t : Fin cfg0.N) (r) : kR2 m c t (ix2 r 0) = rr (x1 (WM m c) (PM m c t r)) := p9 _ _ _ (h_mg m c t) (blk0 m c t) (blk6 m c t) r

abbrev kN2 (c : Dev nD) (t : Fin cfg0.N) : FVec Ideal S256x1024 .f32 := k0_pay10 (kMG m c t) (iblk m c 0 t) (iblk m c 6 t)
theorem h_n2 (c : Dev nD) (t : Fin cfg0.N) (r k) : kN2 m c t (ix2 r k) = n2 (WM m c) (PM m c t r) k := p10 _ _ _ (h_mg m c t) (blk0 m c t) (blk6 m c t) r k

abbrev kU2 (c : Dev nD) (t : Fin cfg0.N) : FVec Ideal S256x1024 .bf16 := k0_pay11 (kMG m c t) (iblk m c 0 t) (iblk m c 6 t) (iblk m c 8 t)
theorem h_u2 (c : Dev nD) (t : Fin cfg0.N) (r k) : kU2 m c t (ix2 r k) = u2 (WM m c) (PM m c t r) k := p11 _ _ _ _ (h_mg m c t) (blk0 m c t) (blk6 m c t) (blk8 m c t 0) r k

abbrev kG0 (c : Dev nD) (t : Fin cfg0.N) : FVec Ideal S256x1024 .f32 := k0_pay12 (kMG m c t) (iblk m c 0 t) (iblk m c 6 t) (iblk m c 8 t) (View.ld (iblk m c 10 t) (Rect.unit ![0, 0] ![1024, 1024] inb_S5632x1024_S1024x1024_0_0))
theorem h_g0 (c : Dev nD) (t : Fin cfg0.N) (r k) : kG0 m c t (ix2 r k) = ga (WM m c) (PM m c t r) (c0 k) := p12 _ _ _ _ (h_mg m c t) (blk0 m c t) (blk6 m c t) (blk8 m c t 0) _ (in0 m c t) r k

abbrev kUP0 (c : Dev nD) (t : Fin cfg0.N) : FVec Ideal S256x1024 .f32 := k0_pay13 (kMG m c t) (iblk m c 0 t) (iblk m c 6 t) (iblk m c 8 t) (View.ld (iblk m c 10 t) (Rect.unit ![2816, 0] ![1024, 1024] inb_S5632x1024_S1024x1024_2816_0))
theorem h_up0 (c : Dev nD) (t : Fin cfg0.N) (r k) : kUP0 m c t (ix2 r k) = up (WM m c) (PM m c t r) (c0 k) := p13 _ _ _ _ (h_mg m c t) (blk0 m c t) (blk6 m c t) (blk8 m c t 0) _ (in2816 m c t) r k

abbrev kA0 (c : Dev nD) (t : Fin cfg0.N) : FVec Ideal S256x1024 .bf16 := k0_pay16 (kG0 m c t) (kUP0 m c t) (FloatOps.ofBits FTy.f32 0x00000000#32)
theorem h_a0 (c : Dev nD) (t : Fin cfg0.N) (r k) : kA0 m c t (ix2 r k) = act (WM m c) (PM m c t r) (c0 k) := p16 _ _ (h_g0 m c t) (h_up0 m c t) r k

abbrev kXA (c : Dev nD) (t : Fin cfg0.N) : FVec Ideal S256x1024 .f32 := k0_pay17 (kX1 m c t) (kG0 m c t) (kUP0 m c t) (FloatOps.ofBits FTy.f32 0x00000000#32) (View.ld (iblk m c 11 t) (Rect.unit ![0, 0] ![1024, 1024] inb_S2816x1024_S1024x1024_0_0))
theorem h_xa (c : Dev nD) (t : Fin cfg0.N) (r k) : kXA m c t (ix2 r k) = x1 (WM m c) (PM m c t r) k + ∑ i, act (WM m c) (PM m c t r) (c0 i) * (WM m c).wf (c0 i) k := p17 _ _ _ _ (h_x1 m c t) (h_g0 m c t) (h_up0 m c t) (out0 m c t) r k

abbrev kA1 (c : Dev nD) (t : Fin cfg0.N) : FVec Ideal S256x1024 .bf16 := k0_pay22 (kU2 m c t) (View.ld (iblk m c 10 t) (Rect.unit ![1024, 0] ![1024, 1024] inb_S5632x1024_S1024x1024_1024_0)) (View.ld (iblk m c 10 t) (Rect.unit ![3840, 0] ![1024, 1024] inb_S5632x1024_S1024x1024_3840_0))
theorem h_a1 (c : Dev nD) (t : Fin cfg0.N) (r k) : kA1 m c t (ix2 r k) = act (WM m c) (PM m c t r) (c1 k) := p22 _ (h_u2 m c t) _ _ (in1024 m c t) (in3840 m c t) r k

abbrev kA2 (c : Dev nD) (t : Fin cfg0.N) : FVec Ideal S256x768 .bf16 := k0_pay27 (kU2 m c t) (View.ld (iblk m c 10 t) (Rect.unit ![2048, 0] ![768, 1024] inb_S5632x1024_S768x1024_2048_0)) (View.ld (iblk m c 10 t) (Rect.unit ![4864, 0] ![768, 1024] inb_S5632x1024_S768x1024_4864_0))
theorem h_a2 (c : Dev nD) (t : Fin cfg0.N) (r k) : kA2 m c t (ix2 r k) = act (WM m c) (PM m c t r) (c2 k) := p27 _ (h_u2 m c t) _ _ (in2048 m c t) (in4864 m c t) r k

abbrev kX2 (c : Dev nD) (t : Fin cfg0.N) : FVec Ideal S256x1024 .f32 := k0_pay28 (kU2 m c t) (kXA m c t) (kA1 m c t) (View.ld (iblk m c 11 t) (Rect.unit ![1024, 0] ![1024, 1024] inb_S2816x1024_S1024x1024_1024_0)) (View.ld (iblk m c 10 t) (Rect.unit ![2048, 0] ![768, 1024] inb_S5632x1024_S768x1024_2048_0)) (View.ld (iblk m c 10 t) (Rect.unit ![4864, 0] ![768, 1024] inb_S5632x1024_S768x1024_4864_0)) (View.ld (iblk m c 11 t) (Rect.unit ![2048, 0] ![768, 1024] inb_S2816x1024_S768x1024_2048_0))
theorem h_x2 (c : Dev nD) (t : Fin cfg0.N) (r k) : kX2 m c t (ix2 r k) = x2 (WM m c) (PM m c t r) k := p28 _ (h_u2 m c t) _ _ _ _ _ _ (h_xa m c t) (h_a1 m c t) (out1024 m c t) (in2048 m c t) (in4864 m c t) (out2048 m c t) r k

abbrev kQ2 (c : Dev nD) (t : Fin cfg0.N) : FVec Ideal S256x1 .f32 := k0_pay29 (kU2 m c t) (kXA m c t) (kA1 m c t) (View.ld (iblk m c 11 t) (Rect.unit ![1024, 0] ![1024, 1024] inb_S2816x1024_S1024x1024_1024_0)) (View.ld (iblk m c 10 t) (Rect.unit ![2048, 0] ![768, 1024] inb_S5632x1024_S768x1024_2048_0)) (View.ld (iblk m c 10 t) (Rect.unit ![4864, 0] ![768, 1024] inb_S5632x1024_S768x1024_4864_0)) (View.ld (iblk m c 11 t) (Rect.unit ![2048, 0] ![768, 1024] inb_S2816x1024_S768x1024_2048_0))
theorem h_q2 (c : Dev nD) (t : Fin cfg0.N) (r) : kQ2 m c t (ix2 r 0) = ∑ k, x2 (WM m c) (PM m c t r) k * x2 (WM m c) (PM m c t r) k := p29 _ _ _ _ _ _ _ (h_x2 m c t) r

abbrev kDX2 (c : Dev nD) (t : Fin cfg0.N) : FVec Ideal S256x1024 .f32 := k0_pay36 (iblk m c 9 t) (kX2 m c t) (kQ2 m c t) (iblk m c 7 t)
theorem h_dx2 (c : Dev nD) (t : Fin cfg0.N) (r k) : kDX2 m c t (ix2 r k) = dx2 (WM m c) (PM m c t r) k := p36 _ _ _ _ (blk9 m c t 0) (h_x2 m c t) (h_q2 m c t) (blk7 m c t) r k

abbrev kDB (c : Dev nD) (t : Fin cfg0.N) : FVec Ideal S256x1024 .bf16 := k0_pay39 (kDX2 m c t)
theorem h_db (c : Dev nD) (t : Fin cfg0.N) (r k) : kDB m c t (ix2 r k) = dx2 (WM m c) (PM m c t r) k := p39 _ (h_dx2 m c t) r k

abbrev kg0 (c : Dev nD) (t : Fin cfg0.N) : Vec Ideal S256x1024 .f32 := k0_pay14 (kMG m c t) (iblk m c 0 t) (iblk m c 6 t) (iblk m c 8 t) (View.ld (iblk m c 10 t) (Rect.unit ![0, 0] ![1024, 1024] inb_S5632x1024_S1024x1024_0_0))
theorem h_g0s (c : Dev nD) (t : Fin cfg0.N) (r k) : kg0 m c t (ix2 r k) = ga (WM m c) (PM m c t r) (c0 k) := p14 _ _ _ _ (h_mg m c t) (blk0 m c t) (blk6 m c t) (blk8 m c t 0) _ (in0 m c t) r k

abbrev ku0 (c : Dev nD) (t : Fin cfg0.N) : Vec Ideal S256x1024 .f32 := k0_pay15 (kMG m c t) (iblk m c 0 t) (iblk m c 6 t) (iblk m c 8 t) (View.ld (iblk m c 10 t) (Rect.unit ![2816, 0] ![1024, 1024] inb_S5632x1024_S1024x1024_2816_0))
theorem h_u0s (c : Dev nD) (t : Fin cfg0.N) (r k) : ku0 m c t (ix2 r k) = up (WM m c) (PM m c t r) (c0 k) := p15 _ _ _ _ (h_mg m c t) (blk0 m c t) (blk6 m c t) (blk8 m c t 0) _ (in2816 m c t) r k

abbrev kg1 (c : Dev nD) (t : Fin cfg0.N) : Vec Ideal S256x1024 .f32 := k0_pay20 (kU2 m c t) (View.ld (iblk m c 10 t) (Rect.unit ![1024, 0] ![1024, 1024] inb_S5632x1024_S1024x1024_1024_0))
theorem h_g1s (c : Dev nD) (t : Fin cfg0.N) (r k) : kg1 m c t (ix2 r k) = ga (WM m c) (PM m c t r) (c1 k) := p20 _ (h_u2 m c t) _ (in1024 m c t) r k

abbrev ku1 (c : Dev nD) (t : Fin cfg0.N) : Vec Ideal S256x1024 .f32 := k0_pay21 (kU2 m c t) (View.ld (iblk m c 10 t) (Rect.unit ![3840, 0] ![1024, 1024] inb_S5632x1024_S1024x1024_3840_0))
theorem h_u1s (c : Dev nD) (t : Fin cfg0.N) (r k) : ku1 m c t (ix2 r k) = up (WM m c) (PM m c t r) (c1 k) := p21 _ (h_u2 m c t) _ (in3840 m c t) r k

abbrev kg2 (c : Dev nD) (t : Fin cfg0.N) : Vec Ideal S256x768 .f32 := k0_pay25 (kU2 m c t) (View.ld (iblk m c 10 t) (Rect.unit ![2048, 0] ![768, 1024] inb_S5632x1024_S768x1024_2048_0))
theorem h_g2s (c : Dev nD) (t : Fin cfg0.N) (r k) : kg2 m c t (ix2 r k) = ga (WM m c) (PM m c t r) (c2 k) := p25 _ (h_u2 m c t) _ (in2048 m c t) r k

abbrev ku2 (c : Dev nD) (t : Fin cfg0.N) : Vec Ideal S256x768 .f32 := k0_pay26 (kU2 m c t) (View.ld (iblk m c 10 t) (Rect.unit ![4864, 0] ![768, 1024] inb_S5632x1024_S768x1024_4864_0))
theorem h_u2s (c : Dev nD) (t : Fin cfg0.N) (r k) : ku2 m c t (ix2 r k) = up (WM m c) (PM m c t r) (c2 k) := p26 _ (h_u2 m c t) _ (in4864 m c t) r k

abbrev kda0 (c : Dev nD) (t : Fin cfg0.N) : FVec Ideal S256x1024 .bf16 := k0_pay43 (kDX2 m c t) (kg0 m c t) (ku0 m c t) (View.ld (iblk m c 11 t) (Rect.unit ![0, 0] ![1024, 1024] inb_S2816x1024_S1024x1024_0_0))
theorem h_da0 (c : Dev nD) (t : Fin cfg0.N) (r k) : kda0 m c t (ix2 r k) = dga (WM m c) (PM m c t r) (c0 k) := p43 _ (h_dx2 m c t) _ _ (h_g0s m c t) (h_u0s m c t) _ (out0 m c t) r k

abbrev kdu0 (c : Dev nD) (t : Fin cfg0.N) : FVec Ideal S256x1024 .bf16 := k0_pay44 (kDX2 m c t) (kg0 m c t) (View.ld (iblk m c 11 t) (Rect.unit ![0, 0] ![1024, 1024] inb_S2816x1024_S1024x1024_0_0))
theorem h_du0 (c : Dev nD) (t : Fin cfg0.N) (r k) : kdu0 m c t (ix2 r k) = dup (WM m c) (PM m c t r) (c0 k) := p44 _ (h_dx2 m c t) _ (h_g0s m c t) _ (out0 m c t) r k

abbrev kda1 (c : Dev nD) (t : Fin cfg0.N) : FVec Ideal S256x1024 .bf16 := k0_pay48 (kDB m c t) (kg1 m c t) (ku1 m c t) (View.ld (iblk m c 11 t) (Rect.unit ![1024, 0] ![1024, 1024] inb_S2816x1024_S1024x1024_1024_0))
theorem h_da1 (c : Dev nD) (t : Fin cfg0.N) (r k) : kda1 m c t (ix2 r k) = dga (WM m c) (PM m c t r) (c1 k) := p48 _ (h_db m c t) _ _ (h_g1s m c t) (h_u1s m c t) _ (out1024 m c t) r k

abbrev kdu1 (c : Dev nD) (t : Fin cfg0.N) : FVec Ideal S256x1024 .bf16 := k0_pay49 (kDB m c t) (kg1 m c t) (View.ld (iblk m c 11 t) (Rect.unit ![1024, 0] ![1024, 1024] inb_S2816x1024_S1024x1024_1024_0))
theorem h_du1 (c : Dev nD) (t : Fin cfg0.N) (r k) : kdu1 m c t (ix2 r k) = dup (WM m c) (PM m c t r) (c1 k) := p49 _ (h_db m c t) _ (h_g1s m c t) _ (out1024 m c t) r k

abbrev kda2 (c : Dev nD) (t : Fin cfg0.N) : FVec Ideal S256x768 .bf16 := k0_pay53 (kDB m c t) (kg2 m c t) (ku2 m c t) (View.ld (iblk m c 11 t) (Rect.unit ![2048, 0] ![768, 1024] inb_S2816x1024_S768x1024_2048_0))
theorem h_da2 (c : Dev nD) (t : Fin cfg0.N) (r k) : kda2 m c t (ix2 r k) = dga (WM m c) (PM m c t r) (c2 k) := p53 _ (h_db m c t) _ _ (h_g2s m c t) (h_u2s m c t) _ (out2048 m c t) r k

abbrev kdu2 (c : Dev nD) (t : Fin cfg0.N) : FVec Ideal S256x768 .bf16 := k0_pay54 (kDB m c t) (kg2 m c t) (View.ld (iblk m c 11 t) (Rect.unit ![2048, 0] ![768, 1024] inb_S2816x1024_S768x1024_2048_0))
theorem h_du2 (c : Dev nD) (t : Fin cfg0.N) (r k) : kdu2 m c t (ix2 r k) = dup (WM m c) (PM m c t r) (c2 k) := p54 _ (h_db m c t) _ (h_g2s m c t) _ (out2048 m c t) r k

abbrev kS3 (c : Dev nD) (t : Fin cfg0.N) : FVec Ideal S256x1024 .f32 := k0_pay50 (kDB m c t) k0_pay40 (kda0 m c t) (kdu0 m c t) (k0_pay45 (View.ld (iblk m c 10 t) (Rect.unit ![0, 0] ![1024, 1024] inb_S5632x1024_S1024x1024_0_0))) (constant S256x1024 FTy.f32 0x00000000#32) (View.ld (iblk m c 10 t) (Rect.unit ![2816, 0] ![1024, 1024] inb_S5632x1024_S1024x1024_2816_0)) (kg1 m c t) (ku1 m c t) (View.ld (iblk m c 11 t) (Rect.unit ![1024, 0] ![1024, 1024] inb_S2816x1024_S1024x1024_1024_0)) (View.ld (iblk m c 10 t) (Rect.unit ![1024, 0] ![1024, 1024] inb_S5632x1024_S1024x1024_1024_0))
theorem h_s3 (c : Dev nD) (t : Fin cfg0.N) (r k) : kS3 m c t (ix2 r k) = acc3 (WM m c) (PM m c t r) k := p50 _ _ _ _ _ _ _ _ _ (h_db m c t) (h_da0 m c t) (h_du0 m c t) (in0 m c t) (in2816 m c t) (h_g1s m c t) (h_u1s m c t) (out1024 m c t) (in1024 m c t) r k

abbrev kS5 (c : Dev nD) (t : Fin cfg0.N) : FVec Ideal S256x1024 .f32 := k0_pay55 (kDB m c t) (kdu1 m c t) (kS3 m c t) (View.ld (iblk m c 10 t) (Rect.unit ![3840, 0] ![1024, 1024] inb_S5632x1024_S1024x1024_3840_0)) (kg2 m c t) (ku2 m c t) (View.ld (iblk m c 11 t) (Rect.unit ![2048, 0] ![768, 1024] inb_S2816x1024_S768x1024_2048_0)) (View.ld (iblk m c 10 t) (Rect.unit ![2048, 0] ![768, 1024] inb_S5632x1024_S768x1024_2048_0))
theorem h_s5 (c : Dev nD) (t : Fin cfg0.N) (r k) : kS5 m c t (ix2 r k) = acc5 (WM m c) (PM m c t r) k := p55 _ _ _ _ _ _ _ _ (h_db m c t) (h_du1 m c t) (h_s3 m c t) (in3840 m c t) (h_g2s m c t) (h_u2s m c t) (out2048 m c t) (in2048 m c t) r k

/-! ## What the body leaves in each result's block -/

set_option maxHeartbeats 4000000 in
theorem res13 (c : Dev nD) (t : Fin cfg0.N) (r : Fin 256) (k : Fin 1024) : (outsAt0 m c t.val t.isLt).2.1 (ix2 r k) = FfnProof.dx1 (WM m c) (PM m c t r) k := by
  by_cases h : t.val % 16 = 0
  · rw [outsAt0_A m c t h]
    frame_open
    simp (disch := decide) only [↓ View.readCov_skip, ↓ View.readCov_cons_toLoadRect, ↓ View.readCov_fill]
    frame_out
    exact p3 _ _ _ (h_du2 m c t) (h_s5 m c t) (in4864 m c t) _ _ _ _ (blk8 m c t 0) (h_r2 m c t) (h_n2 m c t) (h_dx2 m c t) r k
  · rw [outsAt0_B m c t h]
    frame_open
    simp (disch := decide) only [↓ View.readCov_skip, ↓ View.readCov_cons_toLoadRect, ↓ View.readCov_fill]
    frame_out
    exact p3 _ _ _ (h_du2 m c t) (h_s5 m c t) (in4864 m c t) _ _ _ _ (blk8 m c t 0) (h_r2 m c t) (h_n2 m c t) (h_dx2 m c t) r k

set_option maxHeartbeats 4000000 in
theorem res14 (c : Dev nD) (t : Fin cfg0.N) (r : Fin 256) (k : Fin 1024) : (outsAt0 m c t.val t.isLt).2.2.1 (ix2 r k) = FfnProof.mg (WM m c) (PM m c t r) k := by
  by_cases h : t.val % 16 = 0
  · rw [outsAt0_A m c t h]
    frame_open
    simp (disch := decide) only [↓ View.readCov_skip, ↓ View.readCov_cons_toLoadRect, ↓ View.readCov_fill]
    frame_out
    exact h_mg m c t r k
  · rw [outsAt0_B m c t h]
    frame_open
    simp (disch := decide) only [↓ View.readCov_skip, ↓ View.readCov_cons_toLoadRect, ↓ View.readCov_fill]
    frame_out
    exact h_mg m c t r k

set_option maxHeartbeats 4000000 in
theorem res15 (c : Dev nD) (t : Fin cfg0.N) (r : Fin 256) (k : Fin 1024) : (outsAt0 m c t.val t.isLt).2.2.2.1 (ix2 r k) = FfnProof.u2 (WM m c) (PM m c t r) k := by
  by_cases h : t.val % 16 = 0
  · rw [outsAt0_A m c t h]
    frame_open
    simp (disch := decide) only [↓ View.readCov_skip, ↓ View.readCov_cons_toLoadRect, ↓ View.readCov_fill]
    frame_out
    exact h_u2 m c t r k
  · rw [outsAt0_B m c t h]
    frame_open
    simp (disch := decide) only [↓ View.readCov_skip, ↓ View.readCov_cons_toLoadRect, ↓ View.readCov_fill]
    frame_out
    exact h_u2 m c t r k

set_option maxHeartbeats 4000000 in
theorem res18 (c : Dev nD) (t : Fin cfg0.N) (r : Fin 256) (k : Fin 1024) : (outsAt0 m c t.val t.isLt).2.2.2.2.2.2.1 (ix2 r k) = FfnProof.dx2 (WM m c) (PM m c t r) k := by
  by_cases h : t.val % 16 = 0
  · rw [outsAt0_A m c t h]
    frame_open
    simp (disch := decide) only [↓ View.readCov_skip, ↓ View.readCov_cons_toLoadRect, ↓ View.readCov_fill]
    frame_out
    exact h_db m c t r k
  · rw [outsAt0_B m c t h]
    frame_open
    simp (disch := decide) only [↓ View.readCov_skip, ↓ View.readCov_cons_toLoadRect, ↓ View.readCov_fill]
    frame_out
    exact h_db m c t r k

/-- Stores of column chunks of `G`. -/
theorem col_emb {N o n : ℕ} (G : (⟨2, ![256, N]⟩ : Shape).Idx → EReal) (h : _) (r : Fin 256) (q : Fin n) (j : Fin N) (e : j.val = o + q.val) :
    G ((Rect.unit (s := ⟨2, ![256, N]⟩) ![0, o] ![256, n] h).emb (ix2 r q)) = G (ix2 r j) :=
  congrArg G (by funext a; apply Fin.ext; fin_cases a
                 · show 0 + 1 * r.val = r.val; omega
                 · show o + 1 * q.val = j.val; omega)

def G16 (c : Dev nD) (t : Fin cfg0.N) : S256x2816.Idx → EReal := fun i => act (WM m c) (PM m c t (i 0)) (i 1)

def pieces16 (c : Dev nD) (t : Fin cfg0.N) : List (View.Piece (Elt Ideal) S256x2816 .bf16) :=
  [⟨Rect.unit ![0, 2048] ![256, 768] inb_S256x2816_S256x768_0_2048, kA2 m c t⟩,
   ⟨Rect.unit ![0, 1024] ![256, 1024] inb_S256x2816_S256x1024_0_1024, kA1 m c t⟩,
   ⟨Rect.unit ![0, 0] ![256, 1024] inb_S256x2816_S256x1024_0_0, kA0 m c t⟩]

theorem pieces_G16 (c : Dev nD) (t : Fin cfg0.N) : View.PiecesOf (G16 m c t) (pieces16 m c t) := by
  refine ⟨fun x => ?_, fun x => ?_, fun x => ?_, trivial⟩
  · obtain ⟨r, q, rfl⟩ : ∃ (r : Fin 256) (q : Fin 768), x = ix2 r q := ⟨_, _, eq_ix2 x⟩
    refine (h_a2 m c t r q).trans ?_
    exact (col_emb (G16 m c t) inb_S256x2816_S256x768_0_2048 r q (c2 q) (by show _ = 2048 + q.val; first | rfl | omega | (simp only []; omega))).symm
  · obtain ⟨r, q, rfl⟩ : ∃ (r : Fin 256) (q : Fin 1024), x = ix2 r q := ⟨_, _, eq_ix2 x⟩
    refine (h_a1 m c t r q).trans ?_
    exact (col_emb (G16 m c t) inb_S256x2816_S256x1024_0_1024 r q (c1 q) (by show _ = 1024 + q.val; first | rfl | omega | (simp only []; omega))).symm
  · obtain ⟨r, q, rfl⟩ : ∃ (r : Fin 256) (q : Fin 1024), x = ix2 r q := ⟨_, _, eq_ix2 x⟩
    refine (h_a0 m c t r q).trans ?_
    exact (col_emb (G16 m c t) inb_S256x2816_S256x1024_0_0 r q (c0 q) (by show _ = 0 + q.val; first | rfl | omega | (simp only []; omega))).symm

set_option maxHeartbeats 4000000 in
theorem res16 (c : Dev nD) (t : Fin cfg0.N) (r : Fin 256) (k : Fin 2816) : (outsAt0 m c t.val t.isLt).2.2.2.2.1 (ix2 r k) = act (WM m c) (PM m c t r) k := by
  have hc := View.canon_append_of_piecesOf (G16 m c t) [] (pieces16 m c t) (pieces_G16 m c t) (ix2 r k) (View.cover_of_tiledBy _ ![256, 256] (by sl_kernel_rfl) _)
  rw [List.append_nil] at hc
  by_cases h : t.val % 16 = 0
  · rw [outsAt0_A m c t h]
    frame_open
    simp (disch := decide) only [↓ View.readCov_skip, ↓ View.readCov_cons_toLoadRect, ↓ View.readCov_fill]
    frame_out
    exact hc
  · rw [outsAt0_B m c t h]
    frame_open
    simp (disch := decide) only [↓ View.readCov_skip, ↓ View.readCov_cons_toLoadRect, ↓ View.readCov_fill]
    frame_out
    exact hc

def G17 (c : Dev nD) (t : Fin cfg0.N) : S256x5632.Idx → EReal := fun i => dh (WM m c) (PM m c t (i 0)) (i 1)

def pieces17 (c : Dev nD) (t : Fin cfg0.N) : List (View.Piece (Elt Ideal) S256x5632 .bf16) :=
  [⟨Rect.unit ![0, 4864] ![256, 768] inb_S256x5632_S256x768_0_4864, kdu2 m c t⟩,
   ⟨Rect.unit ![0, 2048] ![256, 768] inb_S256x5632_S256x768_0_2048, kda2 m c t⟩,
   ⟨Rect.unit ![0, 3840] ![256, 1024] inb_S256x5632_S256x1024_0_3840, kdu1 m c t⟩,
   ⟨Rect.unit ![0, 1024] ![256, 1024] inb_S256x5632_S256x1024_0_1024, kda1 m c t⟩,
   ⟨Rect.unit ![0, 2816] ![256, 1024] inb_S256x5632_S256x1024_0_2816, kdu0 m c t⟩,
   ⟨Rect.unit ![0, 0] ![256, 1024] inb_S256x5632_S256x1024_0_0, kda0 m c t⟩]

theorem pieces_G17 (c : Dev nD) (t : Fin cfg0.N) : View.PiecesOf (G17 m c t) (pieces17 m c t) := by
  refine ⟨fun x => ?_, fun x => ?_, fun x => ?_, fun x => ?_, fun x => ?_, fun x => ?_, trivial⟩
  · obtain ⟨r, q, rfl⟩ : ∃ (r : Fin 256) (q : Fin 768), x = ix2 r q := ⟨_, _, eq_ix2 x⟩
    refine ((h_du2 m c t r q).trans (dh_hi (WM m c) (PM m c t r) (c2 q)).symm).trans ?_
    exact (col_emb (G17 m c t) inb_S256x5632_S256x768_0_4864 r q ((fun q => hhi (c2 q)) q) (by show _ = 4864 + q.val; first | rfl | omega | (simp only []; omega))).symm
  · obtain ⟨r, q, rfl⟩ : ∃ (r : Fin 256) (q : Fin 768), x = ix2 r q := ⟨_, _, eq_ix2 x⟩
    refine ((h_da2 m c t r q).trans (dh_lo (WM m c) (PM m c t r) (c2 q)).symm).trans ?_
    exact (col_emb (G17 m c t) inb_S256x5632_S256x768_0_2048 r q ((fun q => hlo (c2 q)) q) (by show _ = 2048 + q.val; first | rfl | omega | (simp only []; omega))).symm
  · obtain ⟨r, q, rfl⟩ : ∃ (r : Fin 256) (q : Fin 1024), x = ix2 r q := ⟨_, _, eq_ix2 x⟩
    refine ((h_du1 m c t r q).trans (dh_hi (WM m c) (PM m c t r) (c1 q)).symm).trans ?_
    exact (col_emb (G17 m c t) inb_S256x5632_S256x1024_0_3840 r q ((fun q => hhi (c1 q)) q) (by show _ = 3840 + q.val; first | rfl | omega | (simp only []; omega))).symm
  · obtain ⟨r, q, rfl⟩ : ∃ (r : Fin 256) (q : Fin 1024), x = ix2 r q := ⟨_, _, eq_ix2 x⟩
    refine ((h_da1 m c t r q).trans (dh_lo (WM m c) (PM m c t r) (c1 q)).symm).trans ?_
    exact (col_emb (G17 m c t) inb_S256x5632_S256x1024_0_1024 r q ((fun q => hlo (c1 q)) q) (by show _ = 1024 + q.val; first | rfl | omega | (simp only []; omega))).symm
  · obtain ⟨r, q, rfl⟩ : ∃ (r : Fin 256) (q : Fin 1024), x = ix2 r q := ⟨_, _, eq_ix2 x⟩
    refine ((h_du0 m c t r q).trans (dh_hi (WM m c) (PM m c t r) (c0 q)).symm).trans ?_
    exact (col_emb (G17 m c t) inb_S256x5632_S256x1024_0_2816 r q ((fun q => hhi (c0 q)) q) (by show _ = 2816 + q.val; first | rfl | omega | (simp only []; omega))).symm
  · obtain ⟨r, q, rfl⟩ : ∃ (r : Fin 256) (q : Fin 1024), x = ix2 r q := ⟨_, _, eq_ix2 x⟩
    refine ((h_da0 m c t r q).trans (dh_lo (WM m c) (PM m c t r) (c0 q)).symm).trans ?_
    exact (col_emb (G17 m c t) inb_S256x5632_S256x1024_0_0 r q ((fun q => hlo (c0 q)) q) (by show _ = 0 + q.val; first | rfl | omega | (simp only []; omega))).symm

set_option maxHeartbeats 4000000 in
theorem res17 (c : Dev nD) (t : Fin cfg0.N) (r : Fin 256) (k : Fin 5632) : (outsAt0 m c t.val t.isLt).2.2.2.2.2.1 (ix2 r k) = dh (WM m c) (PM m c t r) k := by
  have hc := View.canon_append_of_piecesOf (G17 m c t) [] (pieces17 m c t) (pieces_G17 m c t) (ix2 r k) (View.cover_of_tiledBy _ ![256, 256] (by sl_kernel_rfl) _)
  rw [List.append_nil] at hc
  by_cases h : t.val % 16 = 0
  · rw [outsAt0_A m c t h]
    frame_open
    simp (disch := decide) only [↓ View.readCov_skip, ↓ View.readCov_cons_toLoadRect, ↓ View.readCov_fill]
    frame_out
    exact hc
  · rw [outsAt0_B m c t h]
    frame_open
    simp (disch := decide) only [↓ View.readCov_skip, ↓ View.readCov_cons_toLoadRect, ↓ View.readCov_fill]
    frame_out
    exact hc

set_option maxHeartbeats 4000000 in
theorem res12 (c : Dev nD) (t : Fin cfg0.N) (ht : t.val + 1 = cfg0.N) (z : Fin 1) (k : Fin 128) : (outsAt0 m c t.val t.isLt).1 (ix2 z k)
      = ∑ p : Fin cfg0.N, (∑ r : Fin 256, ls (WM m c) (PM m c p r)) * c11 := by
  refine (Pipeline.eq_sum_fin_of_reset_step_apply_last (fun n h => (outsAt0 m c n h).1) 16 (fun _ => (0 : EReal))
    (fun p i => (∑ r : Fin 256, ls (WM m c) (PM m c p r)) * c11)
    (fun t h i => ?_) (fun t h i => ?_) (le_of_eq N_0) t ht (ix2 z k)).trans (zero_add _)
  · rw [outsAt0_A m c t h]
    frame_open
    simp (disch := decide) only [↓ View.readCov_skip, ↓ View.readCov_cons_toLoadRect, ↓ View.readCov_fill]
    frame_out
    obtain ⟨z, k, rfl⟩ : ∃ (z : Fin 1) (k : Fin 128), i = ix2 z k := ⟨_, _, eq_ix2 i⟩
    refine (p33 _ _ _ _ (blk9 m c t 0) (h_x2 m c t) (h_q2 m c t) (blk7 m c t) _ z k).trans ?_
    exact congrArg (fun a : EReal => a + _) Ideal.ofBits_zero_f32
  · rw [outsAt0_B m c t h]
    frame_open
    simp (disch := decide) only [↓ View.readCov_skip, ↓ View.readCov_cons_toLoadRect, ↓ View.readCov_fill]
    frame_out
    obtain ⟨z, k, rfl⟩ : ∃ (z : Fin 1) (k : Fin 128), i = ix2 z k := ⟨_, _, eq_ix2 i⟩
    exact (p33 _ _ _ _ (blk9 m c t 0) (h_x2 m c t) (h_q2 m c t) (blk7 m c t) _ z k)

set_option maxHeartbeats 4000000 in
theorem res19 (c : Dev nD) (t : Fin cfg0.N) (ht : t.val + 1 = cfg0.N) (z : Fin 1) (k : Fin 1024) : (outsAt0 m c t.val t.isLt).2.2.2.2.2.2.2.1 (ix2 z k)
      = ∑ p : Fin cfg0.N, ∑ r : Fin 256, dy (WM m c) (PM m c p r) k * n3 (WM m c) (PM m c p r) k := by
  refine (Pipeline.eq_sum_fin_of_reset_step_apply_last (fun n h => (outsAt0 m c n h).2.2.2.2.2.2.2.1) 16 (fun _ => (0 : EReal))
    (fun p i => ∑ r : Fin 256, dy (WM m c) (PM m c p r) (i 1) * n3 (WM m c) (PM m c p r) (i 1))
    (fun t h i => ?_) (fun t h i => ?_) (le_of_eq N_0) t ht (ix2 z k)).trans (zero_add _)
  · rw [outsAt0_A m c t h]
    frame_open
    simp (disch := decide) only [↓ View.readCov_skip, ↓ View.readCov_cons_toLoadRect, ↓ View.readCov_fill]
    frame_out
    obtain ⟨z, k, rfl⟩ : ∃ (z : Fin 1) (k : Fin 1024), i = ix2 z k := ⟨_, _, eq_ix2 i⟩
    refine ((p38 _ _ _).trans (congrArg (fun b : EReal => _ + b) (p35 _ _ _ _ (blk9 m c t 0) (h_x2 m c t) (h_q2 m c t) (blk7 m c t) z k))).trans ?_
    exact congrArg (fun a : EReal => a + _) Ideal.ofBits_zero_f32
  · rw [outsAt0_B m c t h]
    frame_open
    simp (disch := decide) only [↓ View.readCov_skip, ↓ View.readCov_cons_toLoadRect, ↓ View.readCov_fill]
    frame_out
    obtain ⟨z, k, rfl⟩ : ∃ (z : Fin 1) (k : Fin 1024), i = ix2 z k := ⟨_, _, eq_ix2 i⟩
    exact ((p38 _ _ _).trans (congrArg (fun b : EReal => _ + b) (p35 _ _ _ _ (blk9 m c t 0) (h_x2 m c t) (h_q2 m c t) (blk7 m c t) z k)))

set_option maxHeartbeats 4000000 in
theorem res20 (c : Dev nD) (t : Fin cfg0.N) (ht : t.val + 1 = cfg0.N) (z : Fin 1) (k : Fin 1024) : (outsAt0 m c t.val t.isLt).2.2.2.2.2.2.2.2 (ix2 z k)
      = ∑ p : Fin cfg0.N, ∑ r : Fin 256, du2 (WM m c) (PM m c p r) k * n2 (WM m c) (PM m c p r) k := by
  refine (Pipeline.eq_sum_fin_of_reset_step_apply_last (fun n h => (outsAt0 m c n h).2.2.2.2.2.2.2.2) 16 (fun _ => (0 : EReal))
    (fun p i => ∑ r : Fin 256, du2 (WM m c) (PM m c p r) (i 1) * n2 (WM m c) (PM m c p r) (i 1))
    (fun t h i => ?_) (fun t h i => ?_) (le_of_eq N_0) t ht (ix2 z k)).trans (zero_add _)
  · rw [outsAt0_A m c t h]
    frame_open
    simp (disch := decide) only [↓ View.readCov_skip, ↓ View.readCov_cons_toLoadRect, ↓ View.readCov_fill]
    frame_out
    obtain ⟨z, k, rfl⟩ : ∃ (z : Fin 1) (k : Fin 1024), i = ix2 z k := ⟨_, _, eq_ix2 i⟩
    refine (p2 _ _ _ (h_du2 m c t) (h_s5 m c t) (in4864 m c t) _ (h_n2 m c t) _ z k).trans ?_
    exact congrArg (fun a : EReal => a + _) Ideal.ofBits_zero_f32
  · rw [outsAt0_B m c t h]
    frame_open
    simp (disch := decide) only [↓ View.readCov_skip, ↓ View.readCov_cons_toLoadRect, ↓ View.readCov_fill]
    frame_out
    obtain ⟨z, k, rfl⟩ : ∃ (z : Fin 1) (k : Fin 1024), i = ix2 z k := ⟨_, _, eq_ix2 i⟩
    exact (p2 _ _ _ (h_du2 m c t) (h_s5 m c t) (in4864 m c t) _ (h_n2 m c t) _ z k)

/-! ## The results' arrays -/

variable (c : Dev nD)

theorem final13 (hW : (WM m c).R) (hP : ∀ r, (PA m c r).R) : (dats m 0 c).arrAt 13 cfg0.N = val_main_v129 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 13 _ (by decide +kernel) fun t hf y => ?_
  blk_simp
  rw [after0_13]
  obtain ⟨r, k, rfl⟩ : ∃ (r : Fin 256) (k : Fin 1024), y = ix2 r k := ⟨_, _, eq_ix2 y⟩
  have e : (((View.whole main_v3_1).slice (win0_13.rect t)).emb (ix2 r k)) = ix2 (row t r) k := by blk_ext [idx13]
  exact (res13 m c t r k).trans ((congrArg _ e).trans (ref_dx1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) hW hP (row t r) k)).symm

theorem final14 : (dats m 0 c).arrAt 14 cfg0.N = val_main_v24 (F := Ideal) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 14 _ (by decide +kernel) fun t hf y => ?_
  blk_simp
  rw [after0_14]
  obtain ⟨r, k, rfl⟩ : ∃ (r : Fin 256) (k : Fin 1024), y = ix2 r k := ⟨_, _, eq_ix2 y⟩
  have e : (((View.whole main_v3_2).slice (win0_14.rect t)).emb (ix2 r k)) = ix2 (row t r) k := by blk_ext [idx14]
  exact (res14 m c t r k).trans ((congrArg _ e).trans (ref_mg (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) k)).symm

theorem final15 : (dats m 0 c).arrAt 15 cfg0.N = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) := by
  refine (dats m 0 c).arrAt_eq_of_covers 15 _ (by decide +kernel) fun t hf y => ?_
  blk_simp
  rw [after0_15]
  obtain ⟨r, k, rfl⟩ : ∃ (r : Fin 256) (k : Fin 1024), y = ix2 r k := ⟨_, _, eq_ix2 y⟩
  have e : (((View.whole main_v3_3).slice (win0_15.rect t)).emb (ix2 r k)) = ix2 (row t r) k := by blk_ext [idx15]
  exact (res15 m c t r k).trans ((congrArg _ e).trans (ref_u2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) k)).symm

theorem final16 : (dats m 0 c).arrAt 16 cfg0.N = val_main_v46 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg8)) (m ((c : Thread nD τ).loc main_arg10)) := by
  refine (dats m 0 c).arrAt_eq_of_covers 16 _ (by decide +kernel) fun t hf y => ?_
  blk_simp
  rw [after0_16]
  obtain ⟨r, k, rfl⟩ : ∃ (r : Fin 256) (k : Fin 2816), y = ix2 r k := ⟨_, _, eq_ix2 y⟩
  have e : (((View.whole main_v3_4).slice (win0_16.rect t)).emb (ix2 r k)) = ix2 (row t r) k := by blk_ext [idx16]
  exact (res16 m c t r k).trans ((congrArg _ e).trans (ref_act (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (row t r) k)).symm

theorem final17 (hW : (WM m c).R) (hP : ∀ r, (PA m c r).R) : (dats m 0 c).arrAt 17 cfg0.N = val_main_v102 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 17 _ (by decide +kernel) fun t hf y => ?_
  blk_simp
  rw [after0_17]
  obtain ⟨r, k, rfl⟩ : ∃ (r : Fin 256) (k : Fin 5632), y = ix2 r k := ⟨_, _, eq_ix2 y⟩
  have e : (((View.whole main_v3_5).slice (win0_17.rect t)).emb (ix2 r k)) = ix2 (row t r) k := by blk_ext [idx17]
  exact (res17 m c t r k).trans ((congrArg _ e).trans (ref_dh (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) hW hP (row t r) k)).symm

theorem final18 (hW : (WM m c).R) (hP : ∀ r, (PA m c r).R) : (dats m 0 c).arrAt 18 cfg0.N = val_main_v97 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 18 _ (by decide +kernel) fun t hf y => ?_
  blk_simp
  rw [after0_18]
  obtain ⟨r, k, rfl⟩ : ∃ (r : Fin 256) (k : Fin 1024), y = ix2 r k := ⟨_, _, eq_ix2 y⟩
  have e : (((View.whole main_v3_6).slice (win0_18.rect t)).emb (ix2 r k)) = ix2 (row t r) k := by blk_ext [idx18]
  exact (res18 m c t r k).trans ((congrArg _ e).trans (ref_dx2 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) hW hP (row t r) k)).symm

theorem final12 (hW : (WM m c).R) (hP : ∀ r, (PA m c r).R) : (dats m 0 c).arrAt 12 cfg0.N = val_main_v128 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 12 _ (by decide +kernel) fun t hf y => ?_
  blk_simp
  rw [after0_12]
  obtain ⟨z, k, rfl⟩ : ∃ (z : Fin 1) (k : Fin 128), y = ix2 z k := ⟨_, _, eq_ix2 y⟩
  have e : (((View.whole main_v3_0).slice (win0_12.rect t)).emb (ix2 z k)) = ix2 z k := by blk_ext [idx12]
  refine Eq.trans ?_ ((congrArg _ e).trans (ref_loss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) z k)).symm
  have ht : t.val % 16 = 15 := (flush0_12 t).mp hf
  have hlt : t.val < 16 := lt_of_lt_of_eq t.isLt N_0
  have h16 : t.val + 1 = 16 := by omega
  refine (res12 m c t (h16.trans N_0.symm) z k).trans ?_
  exact (loss_eq (fun r => ls (WM m c) (PA m c r)) (fun r => isR_ls hW (hP r)) row (fun g => Fin.sum_univ_tiles 16 256 (by rfl) g)).symm

theorem final19 (hW : (WM m c).R) (hP : ∀ r, (PA m c r).R) : (dats m 0 c).arrAt 19 cfg0.N = val_main_v81 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 19 _ (by decide +kernel) fun t hf y => ?_
  blk_simp
  rw [after0_19]
  obtain ⟨z, k, rfl⟩ : ∃ (z : Fin 1) (k : Fin 1024), y = ix2 z k := ⟨_, _, eq_ix2 y⟩
  have e : (((View.whole main_v3_7).slice (win0_19.rect t)).emb (ix2 z k)) = ix2 z k := by blk_ext [idx19]
  refine Eq.trans ?_ ((congrArg _ e).trans (ref_gl (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) hW hP z k)).symm
  have ht : t.val % 16 = 15 := (flush0_19 t).mp hf
  have hlt : t.val < 16 := lt_of_lt_of_eq t.isLt N_0
  have h16 : t.val + 1 = 16 := by omega
  refine (res19 m c t (h16.trans N_0.symm) z k).trans ?_
  exact (Fin.sum_univ_tiles 16 256 (by rfl) (fun r => dy (WM m c) (PA m c r) k * n3 (WM m c) (PA m c r) k)).symm

theorem final20 (hW : (WM m c).R) (hP : ∀ r, (PA m c r).R) : (dats m 0 c).arrAt 20 cfg0.N = val_main_v106 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (dats m 0 c).arrAt_eq_of_covers 20 _ (by decide +kernel) fun t hf y => ?_
  blk_simp
  rw [after0_20]
  obtain ⟨z, k, rfl⟩ : ∃ (z : Fin 1) (k : Fin 1024), y = ix2 z k := ⟨_, _, eq_ix2 y⟩
  have e : (((View.whole main_v3_8).slice (win0_20.rect t)).emb (ix2 z k)) = ix2 z k := by blk_ext [idx20]
  refine Eq.trans ?_ ((congrArg _ e).trans (ref_gf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) hW hP z k)).symm
  have ht : t.val % 16 = 15 := (flush0_20 t).mp hf
  have hlt : t.val < 16 := lt_of_lt_of_eq t.isLt N_0
  have h16 : t.val + 1 = 16 := by omega
  refine (res20 m c t (h16.trans N_0.symm) z k).trans ?_
  exact (Fin.sum_univ_tiles 16 256 (by rfl) (fun r => du2 (WM m c) (PA m c r) k * n2 (WM m c) (PA m c r) k)).symm

end Cert.FfnProof

end
-- ==== Proof.FfnClaims.lean ====
module

public import proofs.«01_k».proof.Proof.Gen.Ffn.Frame
public import proofs.«01_k».proof.Proof.Ffn
public import proofs.«01_k».proof.Defs

@[expose] public section

noncomputable section

namespace Cert.Proof.FfnClaims

open Idealize.ShloMosaic Idealize.ShloMosaic.TcCoe Idealize.SL.Sem Cert.Common

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnRefIdeal := fun m ρ _ =>
  (θ_run Cert.FfnRefIdeal.defs _ _).mono (fun r h => ⟨fun c => (h c).2.2.2.2.2.2.2.2.2,
      Idealize.ShloMosaic.sem_eq_zero_of_no_sems (by decide) r.2⟩)
    (Cert.FfnRefIdeal.Value.run (F := Ideal) m ρ)

theorem frame_pi_pre [hPre : Cert.Pre_ffn_finite.Facts] : Cert.quiescent_FfnIdeal_pre_ffn_finite := fun m ρ _ => Cert.FfnIdeal.Gen.frame m ρ
theorem frame_ri_pre [hPre : Cert.Pre_ffn_finite.Facts] : Cert.quiescent_FfnRefIdeal_pre_ffn_finite := fun m ρ _ => frame_ri m ρ trivial

set_option maxHeartbeats 400000 in
open Cert.FfnIdeal Cert.FfnIdeal.Gen in
theorem algebraic [hPre : Cert.Pre_ffn_finite.Facts] : Cert.algebraic_FfnIdeal_FfnRefIdeal_pre_ffn_finite := fun m g m' g' hpre hm => by
  refine ⟨fun c => (dats m 0 c).arrAt 12 cfg0.N, fun c => (dats m 0 c).arrAt 13 cfg0.N, fun c => (dats m 0 c).arrAt 14 cfg0.N, fun c => (dats m 0 c).arrAt 15 cfg0.N, fun c => (dats m 0 c).arrAt 16 cfg0.N, fun c => (dats m 0 c).arrAt 17 cfg0.N, fun c => (dats m 0 c).arrAt 18 cfg0.N, fun c => (dats m 0 c).arrAt 19 cfg0.N, fun c => (dats m 0 c).arrAt 20 cfg0.N, ?_, ?_⟩
  · refine (θ_run _ _ _).mono (fun r h c => ?_) (Cert.FfnIdeal.Value.run_blocks (F := Ideal) m g)
    obtain ⟨h0, h1, h2, h3, h4, h5, h6, h7, h8, ha⟩ := h c
    exact ⟨h0, h1, h2, h3, h4, h5, h6, h7, h8, ha⟩
  · refine (θ_run _ _ _).mono (fun r h c => ?_) (Cert.FfnRefIdeal.Value.run (F := Ideal) m' g')
    obtain ⟨h0, h1, h2, h3, h4, h5, h6, h7, h8, ha⟩ := h c
    obtain ⟨e0, e1, e2, e3, e4, e5, e6, e7, e8, e9, e10, e11⟩ := hm c
    obtain ⟨p0, p1, p2, p3, p4, p5, p6, p7, p8, p9, p10, p11⟩ := hpre c
    have hr : ∀ {s : Shape} {x : s.Idx → EReal} {q : s.Idx → BitVec 1} (_ : q = fun _ => 1#1)
        (_ : ∀ i, q i = Ideal.cmp .olt (max (x i) (-(x i))) (Ideal.ofBits .f32 0x7F800000#32)) (i : s.Idx), IsR (x i) :=
      fun hq he i => isR_of_lt ((he i).symm.trans (congrFun hq i))
    have f0 : ∀ i, IsR ((m ((c : Thread nD τ).loc main_arg0)) i) := hr p0 fun _ => rfl
    have f1 : ∀ i, IsR ((m ((c : Thread nD τ).loc main_arg1)) i) := hr p1 fun _ => rfl
    have f2 : ∀ i, IsR ((m ((c : Thread nD τ).loc main_arg2)) i) := hr p2 fun _ => rfl
    have f3 : ∀ i, IsR ((m ((c : Thread nD τ).loc main_arg3)) i) := hr p3 fun _ => rfl
    have f4 : ∀ i, IsR ((m ((c : Thread nD τ).loc main_arg4)) i) := hr p4 fun _ => rfl
    have f5 : ∀ i, IsR ((m ((c : Thread nD τ).loc main_arg5)) i) := hr p5 fun _ => rfl
    have f6 : ∀ i, IsR ((m ((c : Thread nD τ).loc main_arg6)) i) := hr p6 fun _ => rfl
    have f7 : ∀ i, IsR ((m ((c : Thread nD τ).loc main_arg7)) i) := hr p7 fun _ => rfl
    have f8 : ∀ i, IsR ((m ((c : Thread nD τ).loc main_arg8)) i) := hr p8 fun _ => rfl
    have f9 : ∀ i, IsR ((m ((c : Thread nD τ).loc main_arg9)) i) := hr p9 fun _ => rfl
    have f10 : ∀ i, IsR ((m ((c : Thread nD τ).loc main_arg10)) i) := hr p10 fun _ => rfl
    have f11 : ∀ i, IsR ((m ((c : Thread nD τ).loc main_arg11)) i) := hr p11 fun _ => rfl
    have hW : (Cert.FfnProof.WM m c).R := ⟨fun _ _ => f4 _, fun _ _ => f5 _, fun _ _ => f6 _, fun _ => f8 _, fun _ => f9 _, fun _ _ => f10 _, fun _ _ => f11 _⟩
    have hP : ∀ r, (Cert.FfnProof.PA m c r).R := fun r => ⟨fun _ => f0 _, fun _ => f1 _, fun _ => f2 _, fun _ => f3 _, fun _ => f7 _⟩
    have k0 : _ = Cert.FfnRefIdeal.Read.val_main_v128 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9)) (m' ((c.tc : Thread Cert.FfnRefIdeal.nD Cert.FfnRefIdeal.τ).loc Cert.FfnRefIdeal.main_arg10)) (m' ((c.tc : Thread Cert.FfnRefIdeal.nD Cert.FfnRefIdeal.τ).loc Cert.FfnRefIdeal.main_arg11)) := h0.trans (Cert.FfnRefIdeal.Read.val_main_v128_eq (StableHlo.launchContents m' c))
    have k1 : _ = Cert.FfnRefIdeal.Read.val_main_v129 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9)) (m' ((c.tc : Thread Cert.FfnRefIdeal.nD Cert.FfnRefIdeal.τ).loc Cert.FfnRefIdeal.main_arg10)) (m' ((c.tc : Thread Cert.FfnRefIdeal.nD Cert.FfnRefIdeal.τ).loc Cert.FfnRefIdeal.main_arg11)) := h1.trans (Cert.FfnRefIdeal.Read.val_main_v129_eq (StableHlo.launchContents m' c))
    have k2 : _ = Cert.FfnRefIdeal.Read.val_main_v123 (F := Ideal) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) := h2.trans (Cert.FfnRefIdeal.Read.val_main_v123_eq (StableHlo.launchContents m' c))
    have k3 : _ = Cert.FfnRefIdeal.Read.val_main_v124 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg8)) := h3.trans (Cert.FfnRefIdeal.Read.val_main_v124_eq (StableHlo.launchContents m' c))
    have k4 : _ = Cert.FfnRefIdeal.Read.val_main_v125 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg10)) := h4.trans (Cert.FfnRefIdeal.Read.val_main_v125_eq (StableHlo.launchContents m' c))
    have k5 : _ = Cert.FfnRefIdeal.Read.val_main_v126 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9)) (m' ((c.tc : Thread Cert.FfnRefIdeal.nD Cert.FfnRefIdeal.τ).loc Cert.FfnRefIdeal.main_arg10)) (m' ((c.tc : Thread Cert.FfnRefIdeal.nD Cert.FfnRefIdeal.τ).loc Cert.FfnRefIdeal.main_arg11)) := h5.trans (Cert.FfnRefIdeal.Read.val_main_v126_eq (StableHlo.launchContents m' c))
    have k6 : _ = Cert.FfnRefIdeal.Read.val_main_v127 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9)) (m' ((c.tc : Thread Cert.FfnRefIdeal.nD Cert.FfnRefIdeal.τ).loc Cert.FfnRefIdeal.main_arg10)) (m' ((c.tc : Thread Cert.FfnRefIdeal.nD Cert.FfnRefIdeal.τ).loc Cert.FfnRefIdeal.main_arg11)) := h6.trans (Cert.FfnRefIdeal.Read.val_main_v127_eq (StableHlo.launchContents m' c))
    have k7 : _ = Cert.FfnRefIdeal.Read.val_main_v81 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9)) (m' ((c.tc : Thread Cert.FfnRefIdeal.nD Cert.FfnRefIdeal.τ).loc Cert.FfnRefIdeal.main_arg10)) (m' ((c.tc : Thread Cert.FfnRefIdeal.nD Cert.FfnRefIdeal.τ).loc Cert.FfnRefIdeal.main_arg11)) := h7.trans (Cert.FfnRefIdeal.Read.val_main_v81_eq (StableHlo.launchContents m' c))
    have k8 : _ = Cert.FfnRefIdeal.Read.val_main_v106 (F := Ideal) (m' ((c.tc : Thread Cert.FfnRefIdeal.nD Cert.FfnRefIdeal.τ).loc Cert.FfnRefIdeal.main_arg0)) (m' ((c.tc : Thread Cert.FfnRefIdeal.nD Cert.FfnRefIdeal.τ).loc Cert.FfnRefIdeal.main_arg1)) (m' ((c.tc : Thread Cert.FfnRefIdeal.nD Cert.FfnRefIdeal.τ).loc Cert.FfnRefIdeal.main_arg2)) (m' ((c.tc : Thread Cert.FfnRefIdeal.nD Cert.FfnRefIdeal.τ).loc Cert.FfnRefIdeal.main_arg3)) (m' ((c.tc : Thread Cert.FfnRefIdeal.nD Cert.FfnRefIdeal.τ).loc Cert.FfnRefIdeal.main_arg4)) (m' ((c.tc : Thread Cert.FfnRefIdeal.nD Cert.FfnRefIdeal.τ).loc Cert.FfnRefIdeal.main_arg5)) (m' ((c.tc : Thread Cert.FfnRefIdeal.nD Cert.FfnRefIdeal.τ).loc Cert.FfnRefIdeal.main_arg6)) (m' ((c.tc : Thread Cert.FfnRefIdeal.nD Cert.FfnRefIdeal.τ).loc Cert.FfnRefIdeal.main_arg7)) (m' ((c.tc : Thread Cert.FfnRefIdeal.nD Cert.FfnRefIdeal.τ).loc Cert.FfnRefIdeal.main_arg8)) (m' ((c.tc : Thread Cert.FfnRefIdeal.nD Cert.FfnRefIdeal.τ).loc Cert.FfnRefIdeal.main_arg9)) (m' ((c.tc : Thread Cert.FfnRefIdeal.nD Cert.FfnRefIdeal.τ).loc Cert.FfnRefIdeal.main_arg10)) (m' ((c.tc : Thread Cert.FfnRefIdeal.nD Cert.FfnRefIdeal.τ).loc Cert.FfnRefIdeal.main_arg11)) := h8.trans (Cert.FfnRefIdeal.Read.val_main_v106_eq (StableHlo.launchContents m' c))
    refine ⟨k0.trans ?_, k1.trans ?_, k2.trans ?_, k3.trans ?_, k4.trans ?_, k5.trans ?_, k6.trans ?_, k7.trans ?_, k8.trans ?_, ha⟩
    all_goals try rw [e0]
    all_goals try rw [e1]
    all_goals try rw [e2]
    all_goals try rw [e3]
    all_goals try rw [e4]
    all_goals try rw [e5]
    all_goals try rw [e6]
    all_goals try rw [e7]
    all_goals try rw [e8]
    all_goals try rw [e9]
    all_goals try rw [e10]
    all_goals try rw [e11]
    · exact (Cert.FfnProof.final12 m c hW hP).symm
    · exact (Cert.FfnProof.final13 m c hW hP).symm
    · exact (Cert.FfnProof.final14 m c).symm
    · exact (Cert.FfnProof.final15 m c).symm
    · exact (Cert.FfnProof.final16 m c).symm
    · exact (Cert.FfnProof.final17 m c hW hP).symm
    · exact (Cert.FfnProof.final18 m c hW hP).symm
    · exact (Cert.FfnProof.final19 m c hW hP).symm
    · exact (Cert.FfnProof.final20 m c hW hP).symm

end Cert.Proof.FfnClaims

end
-- ==== Proof.InGrad.lean ====
module

public import proofs.«01_k».proof.Proof.Common
public import Idealize.ShloMosaic.Lib.Pipeline.ReadBack
public import proofs.«01_k».proof.Proof.Gen.InGradIdeal.Value
public import proofs.«01_k».proof.Proof.Gen.InGradRefIdeal.Read

@[expose] public section

noncomputable section

/-! The gradient of the projection's weight: the kernel holds 512 of its rows for all 5888 columns, adds up eight blocks of
512 tokens, one product for each of the thirteen pieces the columns come in, and writes the sum's transpose; the reference
makes one product over all tokens. -/

namespace Cert.InGradProof

open Idealize.ShloMosaic hiding ix1 ix2 eq_ix1 eq_ix2
open Idealize.ShloMosaic.TcCoe Idealize.ShloMosaic.Tactic Idealize.SL.Sem Idealize.ShloMosaic.ValueIdx
open Cert.InGradIdeal Cert.InGradIdeal.Gen
open Cert.InGradRefIdeal.Read
open Idealize.ShloMosaic.Pipeline (Dat)

/-- Entry `(q, k)` of the gradient: the sum over the tokens. -/
def grad (u : (⟨2, ![4096, 1024]⟩ : Shape).Idx → EReal) (d : (⟨2, ![4096, 5888]⟩ : Shape).Idx → EReal) (q : Fin 5888) (k : Fin 1024) : EReal :=
  ∑ t : Fin 4096, u (ix2 t k) * d (ix2 t q)

/-- One product of the body, entry `(r, q)`. -/
def psum {n : ℕ} (a : (⟨2, ![512, 512]⟩ : Shape).Idx → EReal) (b : (⟨2, ![512, n]⟩ : Shape).Idx → EReal) (r : Fin 512) (q : Fin n) : EReal :=
  ∑ k : Fin 512, a (ix2 k r) * b (ix2 k q)

/-- What point `n` adds to row `r`, column `q` of the sum. -/
def term (u : (⟨2, ![4096, 1024]⟩ : Shape).Idx → EReal) (d : (⟨2, ![4096, 5888]⟩ : Shape).Idx → EReal) (n : ℕ) (r : Fin 512) (q : Fin 5888) : EReal :=
  ∑ k : Fin 512, u (ix2 ⟨n % 8 * 512 + k.val, by omega⟩ ⟨n / 8 % 2 * 512 + r.val, by omega⟩) * d (ix2 ⟨n % 8 * 512 + k.val, by omega⟩ q)

theorem sum_term (u d) (a : ℕ) (ha : a < 2) (r : Fin 512) (q : Fin 5888) :
    ∑ k ∈ Finset.range 8, term u d (8 * a + k) r q = grad u d q ⟨a * 512 + r.val, by omega⟩ := by
  unfold grad
  rw [Fin.sum_univ_tiles 8 512 rfl, ← Fin.sum_univ_eq_sum_range (fun k => term u d (8 * a + k) r q) 8]
  refine Finset.sum_congr rfl fun k _ => Finset.sum_congr rfl fun j _ => ?_
  have e1 : (8 * a + k.val) % 8 = k.val := by omega
  have e2 : (8 * a + k.val) / 8 % 2 = a := by omega
  simp only [e1, e2]

theorem cat1 (x1 x2 x3 x4 x5 x6 x7 x8 x9 x10 x11 x12 x13) (r : Fin 4096) (q : Fin 512) : val_main_v4 (F := Ideal) x1 x2 x3 x4 x5 x6 x7 x8 x9 x10 x11 x12 x13 (ix2 r ⟨0 + q.val, by omega⟩) = x1 (ix2 r q) := by
  unfold val_main_v4
  refine concatenate_apply_piece (t := InGradRefIdeal.S4096x5888) (1 : Fin 2) _ _ _ 0 (by show 0 < 13; omega) ⟨2, ![4096, 512]⟩ x1 rfl rfl 0 (by sl_kernel_rfl) (ix2 r q) (fun b hb => ?_) rfl
  match b with
  | ⟨0, _⟩ => rfl
  | ⟨1, _⟩ => exact absurd rfl hb
theorem cat2 (x1 x2 x3 x4 x5 x6 x7 x8 x9 x10 x11 x12 x13) (r : Fin 4096) (q : Fin 512) : val_main_v4 (F := Ideal) x1 x2 x3 x4 x5 x6 x7 x8 x9 x10 x11 x12 x13 (ix2 r ⟨512 + q.val, by omega⟩) = x2 (ix2 r q) := by
  unfold val_main_v4
  refine concatenate_apply_piece (t := InGradRefIdeal.S4096x5888) (1 : Fin 2) _ _ _ 1 (by show 1 < 13; omega) ⟨2, ![4096, 512]⟩ x2 rfl rfl 512 (by sl_kernel_rfl) (ix2 r q) (fun b hb => ?_) rfl
  match b with
  | ⟨0, _⟩ => rfl
  | ⟨1, _⟩ => exact absurd rfl hb
theorem cat3 (x1 x2 x3 x4 x5 x6 x7 x8 x9 x10 x11 x12 x13) (r : Fin 4096) (q : Fin 512) : val_main_v4 (F := Ideal) x1 x2 x3 x4 x5 x6 x7 x8 x9 x10 x11 x12 x13 (ix2 r ⟨1024 + q.val, by omega⟩) = x3 (ix2 r q) := by
  unfold val_main_v4
  refine concatenate_apply_piece (t := InGradRefIdeal.S4096x5888) (1 : Fin 2) _ _ _ 2 (by show 2 < 13; omega) ⟨2, ![4096, 512]⟩ x3 rfl rfl 1024 (by sl_kernel_rfl) (ix2 r q) (fun b hb => ?_) rfl
  match b with
  | ⟨0, _⟩ => rfl
  | ⟨1, _⟩ => exact absurd rfl hb
theorem cat4 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨1536 + q.val, by omega⟩) = x4 (ix2 r q) := by
  unfold val_main_v4
  refine concatenate_apply_piece (t := InGradRefIdeal.S4096x5888) (1 : Fin 2) _ _ _ 3 (by show 3 < 13; omega) ⟨2, ![4096, 256]⟩ x4 rfl rfl 1536 (by sl_kernel_rfl) (ix2 r q) (fun b hb => ?_) rfl
  match b with
  | ⟨0, _⟩ => rfl
  | ⟨1, _⟩ => exact absurd rfl hb
theorem cat5 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨1792 + q.val, by omega⟩) = x5 (ix2 r q) := by
  unfold val_main_v4
  refine concatenate_apply_piece (t := InGradRefIdeal.S4096x5888) (1 : Fin 2) _ _ _ 4 (by show 4 < 13; omega) ⟨2, ![4096, 256]⟩ x5 rfl rfl 1792 (by sl_kernel_rfl) (ix2 r q) (fun b hb => ?_) rfl
  match b with
  | ⟨0, _⟩ => rfl
  | ⟨1, _⟩ => exact absurd rfl hb
theorem cat6 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨2048 + q.val, by omega⟩) = x6 (ix2 r q) := by
  unfold val_main_v4
  refine concatenate_apply_piece (t := InGradRefIdeal.S4096x5888) (1 : Fin 2) _ _ _ 5 (by show 5 < 13; omega) ⟨2, ![4096, 256]⟩ x6 rfl rfl 2048 (by sl_kernel_rfl) (ix2 r q) (fun b hb => ?_) rfl
  match b with
  | ⟨0, _⟩ => rfl
  | ⟨1, _⟩ => exact absurd rfl hb
theorem cat7 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨2304 + q.val, by omega⟩) = x7 (ix2 r q) := by
  unfold val_main_v4
  refine concatenate_apply_piece (t := InGradRefIdeal.S4096x5888) (1 : Fin 2) _ _ _ 6 (by show 6 < 13; omega) ⟨2, ![4096, 256]⟩ x7 rfl rfl 2304 (by sl_kernel_rfl) (ix2 r q) (fun b hb => ?_) rfl
  match b with
  | ⟨0, _⟩ => rfl
  | ⟨1, _⟩ => exact absurd rfl hb
theorem cat8 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨2560 + q.val, by omega⟩) = x8 (ix2 r q) := by
  unfold val_main_v4
  refine concatenate_apply_piece (t := InGradRefIdeal.S4096x5888) (1 : Fin 2) _ _ _ 7 (by show 7 < 13; omega) ⟨2, ![4096, 256]⟩ x8 rfl rfl 2560 (by sl_kernel_rfl) (ix2 r q) (fun b hb => ?_) rfl
  match b with
  | ⟨0, _⟩ => rfl
  | ⟨1, _⟩ => exact absurd rfl hb
theorem cat9 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨2816 + q.val, by omega⟩) = x9 (ix2 r q) := by
  unfold val_main_v4
  refine concatenate_apply_piece (t := InGradRefIdeal.S4096x5888) (1 : Fin 2) _ _ _ 8 (by show 8 < 13; omega) ⟨2, ![4096, 256]⟩ x9 rfl rfl 2816 (by sl_kernel_rfl) (ix2 r q) (fun b hb => ?_) rfl
  match b with
  | ⟨0, _⟩ => rfl
  | ⟨1, _⟩ => exact absurd rfl hb
theorem cat10 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨3072 + q.val, by omega⟩) = x10 (ix2 r q) := by
  unfold val_main_v4
  refine concatenate_apply_piece (t := InGradRefIdeal.S4096x5888) (1 : Fin 2) _ _ _ 9 (by show 9 < 13; omega) ⟨2, ![4096, 256]⟩ x10 rfl rfl 3072 (by sl_kernel_rfl) (ix2 r q) (fun b hb => ?_) rfl
  match b with
  | ⟨0, _⟩ => rfl
  | ⟨1, _⟩ => exact absurd rfl hb
theorem cat11 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨3328 + q.val, by omega⟩) = x11 (ix2 r q) := by
  unfold val_main_v4
  refine concatenate_apply_piece (t := InGradRefIdeal.S4096x5888) (1 : Fin 2) _ _ _ 10 (by show 10 < 13; omega) ⟨2, ![4096, 256]⟩ x11 rfl rfl 3328 (by sl_kernel_rfl) (ix2 r q) (fun b hb => ?_) rfl
  match b with
  | ⟨0, _⟩ => rfl
  | ⟨1, _⟩ => exact absurd rfl hb
theorem cat12 (x1 x2 x3 x4 x5 x6 x7 x8 x9 x10 x11 x12 x13) (r : Fin 4096) (q : Fin 256) : val_main_v4 (F := Ideal) x1 x2 x3 x4 x5 x6 x7 x8 x9 x10 x11 x12 x13 (ix2 r ⟨3584 + q.val, by omega⟩) = x12 (ix2 r q) := by
  unfold val_main_v4
  refine concatenate_apply_piece (t := InGradRefIdeal.S4096x5888) (1 : Fin 2) _ _ _ 11 (by show 11 < 13; omega) ⟨2, ![4096, 256]⟩ x12 rfl rfl 3584 (by sl_kernel_rfl) (ix2 r q) (fun b hb => ?_) rfl
  match b with
  | ⟨0, _⟩ => rfl
  | ⟨1, _⟩ => exact absurd rfl hb
theorem cat13 (x1 x2 x3 x4 x5 x6 x7 x8 x9 x10 x11 x12 x13) (r : Fin 4096) (q : Fin 2048) : val_main_v4 (F := Ideal) x1 x2 x3 x4 x5 x6 x7 x8 x9 x10 x11 x12 x13 (ix2 r ⟨3840 + q.val, by omega⟩) = x13 (ix2 r q) := by
  unfold val_main_v4
  refine concatenate_apply_piece (t := InGradRefIdeal.S4096x5888) (1 : Fin 2) _ _ _ 12 (by show 12 < 13; omega) ⟨2, ![4096, 2048]⟩ x13 rfl rfl 3840 (by sl_kernel_rfl) (ix2 r q) (fun b hb => ?_) rfl
  match b with
  | ⟨0, _⟩ => rfl
  | ⟨1, _⟩ => exact absurd rfl hb

theorem ref_grad (x0 x1 x2 x3 x4 x5 x6 x7 x8 x9 x10 x11 x12 x13) (q : Fin 5888) (k : Fin 1024) : val_main_v11 (F := Ideal) x0 x1 x2 x3 x4 x5 x6 x7 x8 x9 x10 x11 x12 x13 (ix2 q k) = grad x0 (val_main_v4 (F := Ideal) x1 x2 x3 x4 x5 x6 x7 x8 x9 x10 x11 x12 x13) q k := by
  refine (val_main_v11_apply x0 x1 x2 x3 x4 x5 x6 x7 x8 x9 x10 x11 x12 x13 _).trans ?_
  refine (val_main_v10_apply x0 x1 x2 x3 x4 x5 x6 x7 x8 x9 x10 x11 x12 x13 _).trans ?_
  refine (val_main_v9_apply x0 x1 x2 x3 x4 x5 x6 x7 x8 x9 x10 x11 x12 x13 _).trans ?_
  refine (val_main_v8_apply x0 x1 x2 x3 x4 x5 x6 x7 x8 x9 x10 x11 x12 x13 _).trans (Finset.sum_congr rfl fun j _ => ?_)
  rw [val_main_v5_apply, mul_comm]
  exact congrArg₂ (fun a b : EReal => a * b) (congrArg x0 (eq_ix2 _)) (congrArg _ (eq_ix2 _))

/-- A load of the columns from `o`. -/
theorem ld_cols {n o : ℕ} (x : Vec Ideal S512x5888 .f32) (h : _) (r : Fin 512) (q : Fin n) (ho : o + n ≤ 5888) :
    View.ld x (Rect.unit (s := S512x5888) ![0, o] ![512, n] h) (ix2 r q) = x (ix2 r ⟨o + q.val, by omega⟩) :=
  congrArg x (by funext a; apply Fin.ext; fin_cases a
                 · show 0 + 1 * r.val = r.val; omega
                 · show o + 1 * q.val = o + q.val; omega)

theorem pay0 (a : Vec Ideal S512x512 .bf16) (v : Vec Ideal S512x512 .f32) (b : Vec Ideal S512x512 .bf16) (r : Fin 512) (q : Fin 512) :
    k0_pay17 (F := Ideal) a v b (ix2 r q) = v (ix2 r q) + psum a b r q := by
  unfold k0_pay17
  simp only [shapeCast_self]
  refine congrArg (fun z : EReal => v (ix2 r q) + z) ?_
  refine (Common.matmul_tn_apply (M := 512) (K := 512) (N := 512) _ none a b _ r q).trans ?_
  simp only [constant_apply, Ideal.ofBits_zero_f32, zero_add, psum]

theorem pay1 (a : Vec Ideal S512x512 .bf16) (v : Vec Ideal S512x512 .f32) (b : Vec Ideal S512x512 .bf16) (r : Fin 512) (q : Fin 512) :
    k0_pay18 (F := Ideal) a v b (ix2 r q) = v (ix2 r q) + psum a b r q := by
  unfold k0_pay18
  simp only [shapeCast_self]
  refine congrArg (fun z : EReal => v (ix2 r q) + z) ?_
  refine (Common.matmul_tn_apply (M := 512) (K := 512) (N := 512) _ none a b _ r q).trans ?_
  simp only [constant_apply, Ideal.ofBits_zero_f32, zero_add, psum]

theorem pay2 (a : Vec Ideal S512x512 .bf16) (v : Vec Ideal S512x512 .f32) (b : Vec Ideal S512x512 .bf16) (r : Fin 512) (q : Fin 512) :
    k0_pay19 (F := Ideal) a v b (ix2 r q) = v (ix2 r q) + psum a b r q := by
  unfold k0_pay19
  simp only [shapeCast_self]
  refine congrArg (fun z : EReal => v (ix2 r q) + z) ?_
  refine (Common.matmul_tn_apply (M := 512) (K := 512) (N := 512) _ none a b _ r q).trans ?_
  simp only [constant_apply, Ideal.ofBits_zero_f32, zero_add, psum]

theorem pay3 (a : Vec Ideal S512x512 .bf16) (v : Vec Ideal S512x256 .f32) (b : Vec Ideal S512x256 .f32) (r : Fin 512) (q : Fin 256) :
    k0_pay20 (F := Ideal) a v b (ix2 r q) = v (ix2 r q) + psum a b r q := by
  unfold k0_pay20
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay4 (a : Vec Ideal S512x512 .bf16) (v : Vec Ideal S512x256 .f32) (b : Vec Ideal S512x256 .f32) (r : Fin 512) (q : Fin 256) :
    k0_pay21 (F := Ideal) a v b (ix2 r q) = v (ix2 r q) + psum a b r q := by
  unfold k0_pay21
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay5 (a : Vec Ideal S512x512 .bf16) (v : Vec Ideal S512x256 .f32) (b : Vec Ideal S512x256 .f32) (r : Fin 512) (q : Fin 256) :
    k0_pay22 (F := Ideal) a v b (ix2 r q) = v (ix2 r q) + psum a b r q := by
  unfold k0_pay22
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay6 (a : Vec Ideal S512x512 .bf16) (v : Vec Ideal S512x256 .f32) (b : Vec Ideal S512x256 .f32) (r : Fin 512) (q : Fin 256) :
    k0_pay23 (F := Ideal) a v b (ix2 r q) = v (ix2 r q) + psum a b r q := by
  unfold k0_pay23
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay7 (a : Vec Ideal S512x512 .bf16) (v : Vec Ideal S512x256 .f32) (b : Vec Ideal S512x256 .f32) (r : Fin 512) (q : Fin 256) :
    k0_pay24 (F := Ideal) a v b (ix2 r q) = v (ix2 r q) + psum a b r q := by
  unfold k0_pay24
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay8 (a : Vec Ideal S512x512 .bf16) (v : Vec Ideal S512x256 .f32) (b : Vec Ideal S512x256 .f32) (r : Fin 512) (q : Fin 256) :
    k0_pay25 (F := Ideal) a v b (ix2 r q) = v (ix2 r q) + psum a b r q := by
  unfold k0_pay25
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay9 (a : Vec Ideal S512x512 .bf16) (v : Vec Ideal S512x256 .f32) (b : Vec Ideal S512x256 .f32) (r : Fin 512) (q : Fin 256) :
    k0_pay26 (F := Ideal) a v b (ix2 r q) = v (ix2 r q) + psum a b r q := by
  unfold k0_pay26
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay10 (a : Vec Ideal S512x512 .bf16) (v : Vec Ideal S512x256 .f32) (b : Vec Ideal S512x256 .f32) (r : Fin 512) (q : Fin 256) :
    k0_pay1 (F := Ideal) (k0_pay27 a v b) (ix2 r q) = v (ix2 r q) + psum a b r q := by
  unfold k0_pay1 k0_pay27
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay11 (a : Vec Ideal S512x512 .bf16) (v : Vec Ideal S512x256 .f32) (b : Vec Ideal S512x256 .f32) (r : Fin 512) (q : Fin 256) :
    k0_pay2 (F := Ideal) a v b (ix2 r q) = v (ix2 r q) + psum a b r q := by
  unfold k0_pay2
  simp only [shapeCast_self]
  refine congrArg (fun z : EReal => v (ix2 r q) + z) ?_
  refine (Common.matmul_tn_apply (M := 512) (K := 512) (N := 256) _ none a b _ r q).trans ?_
  simp only [constant_apply, Ideal.ofBits_zero_f32, zero_add, psum]

theorem pay12 (a : Vec Ideal S512x512 .bf16) (v : Vec Ideal S512x2048 .f32) (b : Vec Ideal S512x2048 .bf16) (r : Fin 512) (q : Fin 2048) :
    k0_pay3 (F := Ideal) a v b (ix2 r q) = v (ix2 r q) + psum a b r q := by
  unfold k0_pay3
  simp only [shapeCast_self]
  refine congrArg (fun z : EReal => v (ix2 r q) + z) ?_
  refine (Common.matmul_tn_apply (M := 512) (K := 512) (N := 2048) _ none a b _ r q).trans ?_
  simp only [constant_apply, Ideal.ofBits_zero_f32, zero_add, psum]

theorem pay_t4 (v : Vec Ideal S512x512 .f32) (q : Fin 512) (r : Fin 512) : k0_pay4 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t5 (v : Vec Ideal S512x512 .f32) (q : Fin 512) (r : Fin 512) : k0_pay5 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t6 (v : Vec Ideal S512x512 .f32) (q : Fin 512) (r : Fin 512) : k0_pay6 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t7 (v : Vec Ideal S512x512 .f32) (q : Fin 512) (r : Fin 512) : k0_pay7 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t8 (v : Vec Ideal S512x256 .f32) (q : Fin 256) (r : Fin 512) : k0_pay8 (F := Ideal) v (ix2 q r) = v (ix2 r q) :=
  transpose_apply [1, 0] v transposes_S512x256_p1_0_S256x512 (ix2 q r) (ix2 r q) (fun b => match b with
    | ⟨0, _⟩ => rfl
    | ⟨1, _⟩ => rfl)

theorem pay_t9 (v : Vec Ideal S512x512 .f32) (q : Fin 512) (r : Fin 512) : k0_pay9 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t10 (v : Vec Ideal S512x512 .f32) (q : Fin 512) (r : Fin 512) : k0_pay10 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t11 (v : Vec Ideal S512x512 .f32) (q : Fin 512) (r : Fin 512) : k0_pay11 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t12 (v : Vec Ideal S512x512 .f32) (q : Fin 512) (r : Fin 512) : k0_pay12 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t13 (v : Vec Ideal S512x512 .f32) (q : Fin 512) (r : Fin 512) : k0_pay13 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t14 (v : Vec Ideal S512x512 .f32) (q : Fin 512) (r : Fin 512) : k0_pay14 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

theorem pay_t15 (v : Vec Ideal S512x512 .f32) (q : Fin 512) (r : Fin 512) : k0_pay15 (F := Ideal) v (ix2 q r) = v (ix2 r q) :=
  transpose_apply [1, 0] v transposes_S512x512_p1_0_S512x512 (ix2 q r) (ix2 r q) (fun b => match b with
    | ⟨0, _⟩ => rfl
    | ⟨1, _⟩ => rfl)

variable (m : (ℓ : Loc nD τ sig) → Buf (Elt Ideal) ℓ)

theorem idx0 : ∀ t : Fin cfg0.N, win0_0.index t = ![t.val % 8, t.val / 8] := (by decide +kernel : ∀ t : Fin grid0.N, _)
theorem idx1 : ∀ t : Fin cfg0.N, win0_1.index t = ![t.val % 8, 0] := (by decide +kernel : ∀ t : Fin grid0.N, _)
theorem idx2 : ∀ t : Fin cfg0.N, win0_2.index t = ![t.val % 8, 0] := (by decide +kernel : ∀ t : Fin grid0.N, _)
theorem idx3 : ∀ t : Fin cfg0.N, win0_3.index t = ![t.val % 8, 0] := (by decide +kernel : ∀ t : Fin grid0.N, _)
theorem idx4 : ∀ t : Fin cfg0.N, win0_4.index t = ![t.val % 8, 0] := (by decide +kernel : ∀ t : Fin grid0.N, _)
theorem idx5 : ∀ t : Fin cfg0.N, win0_5.index t = ![t.val % 8, 0] := (by decide +kernel : ∀ t : Fin grid0.N, _)
theorem idx6 : ∀ t : Fin cfg0.N, win0_6.index t = ![t.val % 8, 0] := (by decide +kernel : ∀ t : Fin grid0.N, _)
theorem idx7 : ∀ t : Fin cfg0.N, win0_7.index t = ![t.val % 8, 0] := (by decide +kernel : ∀ t : Fin grid0.N, _)
theorem idx8 : ∀ t : Fin cfg0.N, win0_8.index t = ![t.val % 8, 0] := (by decide +kernel : ∀ t : Fin grid0.N, _)
theorem idx9 : ∀ t : Fin cfg0.N, win0_9.index t = ![t.val % 8, 0] := (by decide +kernel : ∀ t : Fin grid0.N, _)
theorem idx10 : ∀ t : Fin cfg0.N, win0_10.index t = ![t.val % 8, 0] := (by decide +kernel : ∀ t : Fin grid0.N, _)
theorem idx11 : ∀ t : Fin cfg0.N, win0_11.index t = ![t.val % 8, 0] := (by decide +kernel : ∀ t : Fin grid0.N, _)
theorem idx12 : ∀ t : Fin cfg0.N, win0_12.index t = ![t.val % 8, 0] := (by decide +kernel : ∀ t : Fin grid0.N, _)
theorem idx13 : ∀ t : Fin cfg0.N, win0_13.index t = ![t.val % 8, 0] := (by decide +kernel : ∀ t : Fin grid0.N, _)
theorem idx14 : ∀ t : Fin cfg0.N, win0_14.index t = ![0, t.val / 8] := (by decide +kernel : ∀ t : Fin grid0.N, _)

theorem lt16 (t : Fin cfg0.N) : t.val < 16 := lt_of_lt_of_eq t.isLt N_0
/-- Token `k` of block `t`. -/
abbrev row (t : Fin cfg0.N) (k : Fin 512) : Fin 4096 := ⟨t.val % 8 * 512 + k.val, by omega⟩
/-- Row `r` of block `t` of the gradient. -/
abbrev col (t : Fin cfg0.N) (r : Fin 512) : Fin 1024 := ⟨t.val / 8 % 2 * 512 + r.val, by omega⟩

theorem blk0 (c : Dev nD) (t : Fin cfg0.N) (k r : Fin 512) : iblk m c 0 t (ix2 k r) = m ((c : Thread nD τ).loc main_arg0) (ix2 (row t k) (col t r)) := by
  have := lt16 t
  blk_simp [iblk]
  rw [V_main_arg0]
  refine congrArg (m ((c : Thread nD τ).loc main_arg0)) ?_
  blk_ext [idx0]
  show t.val / 8 * 512 + r.val = t.val / 8 % 2 * 512 + r.val
  omega
theorem blk1 (c : Dev nD) (t : Fin cfg0.N) (k : Fin 512) (q : Fin 512) : iblk m c 1 t (ix2 k q) = m ((c : Thread nD τ).loc main_arg1) (ix2 (row t k) q) := by
  blk_simp [iblk]
  rw [V_main_arg1]
  refine congrArg (m ((c : Thread nD τ).loc main_arg1)) ?_
  blk_ext [idx1]
theorem blk2 (c : Dev nD) (t : Fin cfg0.N) (k : Fin 512) (q : Fin 512) : iblk m c 2 t (ix2 k q) = m ((c : Thread nD τ).loc main_arg2) (ix2 (row t k) q) := by
  blk_simp [iblk]
  rw [V_main_arg2]
  refine congrArg (m ((c : Thread nD τ).loc main_arg2)) ?_
  blk_ext [idx2]
theorem blk3 (c : Dev nD) (t : Fin cfg0.N) (k : Fin 512) (q : Fin 512) : iblk m c 3 t (ix2 k q) = m ((c : Thread nD τ).loc main_arg3) (ix2 (row t k) q) := by
  blk_simp [iblk]
  rw [V_main_arg3]
  refine congrArg (m ((c : Thread nD τ).loc main_arg3)) ?_
  blk_ext [idx3]
theorem blk4 (c : Dev nD) (t : Fin cfg0.N) (k : Fin 512) (q : Fin 256) : iblk m c 4 t (ix2 k q) = m ((c : Thread nD τ).loc main_arg4) (ix2 (row t k) q) := by
  blk_simp [iblk]
  rw [V_main_arg4]
  refine congrArg (m ((c : Thread nD τ).loc main_arg4)) ?_
  blk_ext [idx4]
theorem blk5 (c : Dev nD) (t : Fin cfg0.N) (k : Fin 512) (q : Fin 256) : iblk m c 5 t (ix2 k q) = m ((c : Thread nD τ).loc main_arg5) (ix2 (row t k) q) := by
  blk_simp [iblk]
  rw [V_main_arg5]
  refine congrArg (m ((c : Thread nD τ).loc main_arg5)) ?_
  blk_ext [idx5]
theorem blk6 (c : Dev nD) (t : Fin cfg0.N) (k : Fin 512) (q : Fin 256) : iblk m c 6 t (ix2 k q) = m ((c : Thread nD τ).loc main_arg6) (ix2 (row t k) q) := by
  blk_simp [iblk]
  rw [V_main_arg6]
  refine congrArg (m ((c : Thread nD τ).loc main_arg6)) ?_
  blk_ext [idx6]
theorem blk7 (c : Dev nD) (t : Fin cfg0.N) (k : Fin 512) (q : Fin 256) : iblk m c 7 t (ix2 k q) = m ((c : Thread nD τ).loc main_arg7) (ix2 (row t k) q) := by
  blk_simp [iblk]
  rw [V_main_arg7]
  refine congrArg (m ((c : Thread nD τ).loc main_arg7)) ?_
  blk_ext [idx7]
theorem blk8 (c : Dev nD) (t : Fin cfg0.N) (k : Fin 512) (q : Fin 256) : iblk m c 8 t (ix2 k q) = m ((c : Thread nD τ).loc main_arg8) (ix2 (row t k) q) := by
  blk_simp [iblk]
  rw [V_main_arg8]
  refine congrArg (m ((c : Thread nD τ).loc main_arg8)) ?_
  blk_ext [idx8]
theorem blk9 (c : Dev nD) (t : Fin cfg0.N) (k : Fin 512) (q : Fin 256) : iblk m c 9 t (ix2 k q) = m ((c : Thread nD τ).loc main_arg9) (ix2 (row t k) q) := by
  blk_simp [iblk]
  rw [V_main_arg9]
  refine congrArg (m ((c : Thread nD τ).loc main_arg9)) ?_
  blk_ext [idx9]
theorem blk10 (c : Dev nD) (t : Fin cfg0.N) (k : Fin 512) (q : Fin 256) : iblk m c 10 t (ix2 k q) = m ((c : Thread nD τ).loc main_arg10) (ix2 (row t k) q) := by
  blk_simp [iblk]
  rw [V_main_arg10]
  refine congrArg (m ((c : Thread nD τ).loc main_arg10)) ?_
  blk_ext [idx10]
theorem blk11 (c : Dev nD) (t : Fin cfg0.N) (k : Fin 512) (q : Fin 256) : iblk m c 11 t (ix2 k q) = m ((c : Thread nD τ).loc main_arg11) (ix2 (row t k) q) := by
  blk_simp [iblk]
  rw [V_main_arg11]
  refine congrArg (m ((c : Thread nD τ).loc main_arg11)) ?_
  blk_ext [idx11]
theorem blk12 (c : Dev nD) (t : Fin cfg0.N) (k : Fin 512) (q : Fin 256) : iblk m c 12 t (ix2 k q) = m ((c : Thread nD τ).loc main_arg12) (ix2 (row t k) q) := by
  blk_simp [iblk]
  rw [V_main_arg12]
  refine congrArg (m ((c : Thread nD τ).loc main_arg12)) ?_
  blk_ext [idx12]
theorem blk13 (c : Dev nD) (t : Fin cfg0.N) (k : Fin 512) (q : Fin 2048) : iblk m c 13 t (ix2 k q) = m ((c : Thread nD τ).loc main_arg13) (ix2 (row t k) q) := by
  blk_simp [iblk]
  rw [V_main_arg13]
  refine congrArg (m ((c : Thread nD τ).loc main_arg13)) ?_
  blk_ext [idx13]

/-- The thirteen pieces' gradients side by side. -/
abbrev dproj (c : Dev nD) : (⟨2, ![4096, 5888]⟩ : Shape).Idx → EReal := (val_main_v4 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)))

/-- The running sum after point `t`, over what it held before. -/
def G (acc : Vec Ideal S512x5888 .f32) (c : Dev nD) (t : Fin cfg0.N) : S512x5888.Idx → EReal :=
  fun i => acc i + term (m ((c : Thread nD τ).loc main_arg0)) (dproj m c) t.val (i 0) (i 1)

theorem G_at {n o : ℕ} (acc : Vec Ideal S512x5888 .f32) (c : Dev nD) (t : Fin cfg0.N) (x : (⟨2, ![4096, n]⟩ : Shape).Idx → EReal) (b : (⟨2, ![512, n]⟩ : Shape).Idx → EReal)
    (ho : o + n ≤ 5888) (hb : ∀ (k : Fin 512) (q : Fin n), b (ix2 k q) = x (ix2 (row t k) q))
    (hc : ∀ (r : Fin 4096) (q : Fin n), dproj m c (ix2 r ⟨o + q.val, by omega⟩) = x (ix2 r q)) (inb : _) (r : Fin 512) (q : Fin n) :
    acc (ix2 r ⟨o + q.val, by omega⟩) + psum (iblk m c 0 t) b r q
      = G m acc c t ((Rect.unit (s := S512x5888) ![0, o] ![512, n] inb).emb (ix2 r q)) := by
  have e : (Rect.unit (s := S512x5888) ![0, o] ![512, n] inb).emb (ix2 r q) = (ix2 r ⟨o + q.val, by omega⟩ : S512x5888.Idx) := by
    funext a; apply Fin.ext; fin_cases a
    · show 0 + 1 * r.val = r.val; omega
    · show o + 1 * q.val = o + q.val; omega
  rw [e]
  refine congrArg (fun z : EReal => acc (ix2 r ⟨o + q.val, by omega⟩) + z) (Finset.sum_congr rfl fun k _ => ?_)
  exact congrArg₂ (fun a b : EReal => a * b) (blk0 m c t k r) ((hb k q).trans (hc _ _).symm)

/-- The thirteen stores of a point. -/
def pieces (acc : Vec Ideal S512x5888 .f32) (c : Dev nD) (t : Fin cfg0.N) : List (View.Piece (Elt Ideal) S512x5888 .f32) :=
  [⟨Rect.unit ![0, 3840] ![512, 2048] inb_S512x5888_S512x2048_0_3840, k0_pay3 (iblk m c 0 t) (View.ld acc (Rect.unit ![0, 3840] ![512, 2048] inb_S512x5888_S512x2048_0_3840)) (iblk m c 13 t)⟩,
   ⟨Rect.unit ![0, 3584] ![512, 256] inb_S512x5888_S512x256_0_3584, k0_pay2 (iblk m c 0 t) (View.ld acc (Rect.unit ![0, 3584] ![512, 256] inb_S512x5888_S512x256_0_3584)) (iblk m c 12 t)⟩,
   ⟨Rect.unit ![0, 3328] ![512, 256] inb_S512x5888_S512x256_0_3328, k0_pay1 (k0_pay27 (iblk m c 0 t) (View.ld acc (Rect.unit ![0, 3328] ![512, 256] inb_S512x5888_S512x256_0_3328)) (iblk m c 11 t))⟩,
   ⟨Rect.unit ![0, 3072] ![512, 256] inb_S512x5888_S512x256_0_3072, k0_pay26 (iblk m c 0 t) (View.ld acc (Rect.unit ![0, 3072] ![512, 256] inb_S512x5888_S512x256_0_3072)) (iblk m c 10 t)⟩,
   ⟨Rect.unit ![0, 2816] ![512, 256] inb_S512x5888_S512x256_0_2816, k0_pay25 (iblk m c 0 t) (View.ld acc (Rect.unit ![0, 2816] ![512, 256] inb_S512x5888_S512x256_0_2816)) (iblk m c 9 t)⟩,
   ⟨Rect.unit ![0, 2560] ![512, 256] inb_S512x5888_S512x256_0_2560, k0_pay24 (iblk m c 0 t) (View.ld acc (Rect.unit ![0, 2560] ![512, 256] inb_S512x5888_S512x256_0_2560)) (iblk m c 8 t)⟩,
   ⟨Rect.unit ![0, 2304] ![512, 256] inb_S512x5888_S512x256_0_2304, k0_pay23 (iblk m c 0 t) (View.ld acc (Rect.unit ![0, 2304] ![512, 256] inb_S512x5888_S512x256_0_2304)) (iblk m c 7 t)⟩,
   ⟨Rect.unit ![0, 2048] ![512, 256] inb_S512x5888_S512x256_0_2048, k0_pay22 (iblk m c 0 t) (View.ld acc (Rect.unit ![0, 2048] ![512, 256] inb_S512x5888_S512x256_0_2048)) (iblk m c 6 t)⟩,
   ⟨Rect.unit ![0, 1792] ![512, 256] inb_S512x5888_S512x256_0_1792, k0_pay21 (iblk m c 0 t) (View.ld acc (Rect.unit ![0, 1792] ![512, 256] inb_S512x5888_S512x256_0_1792)) (iblk m c 5 t)⟩,
   ⟨Rect.unit ![0, 1536] ![512, 256] inb_S512x5888_S512x256_0_1536, k0_pay20 (iblk m c 0 t) (View.ld acc (Rect.unit ![0, 1536] ![512, 256] inb_S512x5888_S512x256_0_1536)) (iblk m c 4 t)⟩,
   ⟨Rect.unit ![0, 1024] ![512, 512] inb_S512x5888_S512x512_0_1024, k0_pay19 (iblk m c 0 t) (View.ld acc (Rect.unit ![0, 1024] ![512, 512] inb_S512x5888_S512x512_0_1024)) (iblk m c 3 t)⟩,
   ⟨Rect.unit ![0, 512] ![512, 512] inb_S512x5888_S512x512_0_512, k0_pay18 (iblk m c 0 t) (View.ld acc (Rect.unit ![0, 512] ![512, 512] inb_S512x5888_S512x512_0_512)) (iblk m c 2 t)⟩,
   ⟨Rect.unit ![0, 0] ![512, 512] inb_S512x5888_S512x512_0_0, k0_pay17 (iblk m c 0 t) (View.ld acc (Rect.unit ![0, 0] ![512, 512] inb_S512x5888_S512x512_0_0)) (iblk m c 1 t)⟩]

theorem pieces_G (acc : Vec Ideal S512x5888 .f32) (c : Dev nD) (t : Fin cfg0.N) : View.PiecesOf (G m acc c t) (pieces m acc c t) := by
  refine ⟨fun x => ?_, fun x => ?_, fun x => ?_, fun x => ?_, fun x => ?_, fun x => ?_, fun x => ?_, fun x => ?_, fun x => ?_, fun x => ?_, fun x => ?_, fun x => ?_, fun x => ?_, trivial⟩
  · obtain ⟨r, q, rfl⟩ : ∃ (r : Fin 512) (q : Fin 2048), x = ix2 r q := ⟨_, _, eq_ix2 x⟩
    refine (pay12 _ _ _ r q).trans ((congrArg (fun z : EReal => z + _) (ld_cols acc _ r q (by omega))).trans ?_)
    exact (G_at m acc c t (m ((c : Thread nD τ).loc main_arg13)) (iblk m c 13 t) (by omega) (blk13 m c t) (cat13 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x2048_0_3840 r q)
  · obtain ⟨r, q, rfl⟩ : ∃ (r : Fin 512) (q : Fin 256), x = ix2 r q := ⟨_, _, eq_ix2 x⟩
    refine (pay11 _ _ _ r q).trans ((congrArg (fun z : EReal => z + _) (ld_cols acc _ r q (by omega))).trans ?_)
    exact (G_at m acc c t (m ((c : Thread nD τ).loc main_arg12)) (iblk m c 12 t) (by omega) (blk12 m c t) (cat12 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_3584 r q)
  · obtain ⟨r, q, rfl⟩ : ∃ (r : Fin 512) (q : Fin 256), x = ix2 r q := ⟨_, _, eq_ix2 x⟩
    refine (pay10 _ _ _ r q).trans ((congrArg (fun z : EReal => z + _) (ld_cols acc _ r q (by omega))).trans ?_)
    exact (G_at m acc c t (m ((c : Thread nD τ).loc main_arg11)) (iblk m c 11 t) (by omega) (blk11 m c t) (cat11 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_3328 r q)
  · obtain ⟨r, q, rfl⟩ : ∃ (r : Fin 512) (q : Fin 256), x = ix2 r q := ⟨_, _, eq_ix2 x⟩
    refine (pay9 _ _ _ r q).trans ((congrArg (fun z : EReal => z + _) (ld_cols acc _ r q (by omega))).trans ?_)
    exact (G_at m acc c t (m ((c : Thread nD τ).loc main_arg10)) (iblk m c 10 t) (by omega) (blk10 m c t) (cat10 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_3072 r q)
  · obtain ⟨r, q, rfl⟩ : ∃ (r : Fin 512) (q : Fin 256), x = ix2 r q := ⟨_, _, eq_ix2 x⟩
    refine (pay8 _ _ _ r q).trans ((congrArg (fun z : EReal => z + _) (ld_cols acc _ r q (by omega))).trans ?_)
    exact (G_at m acc c t (m ((c : Thread nD τ).loc main_arg9)) (iblk m c 9 t) (by omega) (blk9 m c t) (cat9 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_2816 r q)
  · obtain ⟨r, q, rfl⟩ : ∃ (r : Fin 512) (q : Fin 256), x = ix2 r q := ⟨_, _, eq_ix2 x⟩
    refine (pay7 _ _ _ r q).trans ((congrArg (fun z : EReal => z + _) (ld_cols acc _ r q (by omega))).trans ?_)
    exact (G_at m acc c t (m ((c : Thread nD τ).loc main_arg8)) (iblk m c 8 t) (by omega) (blk8 m c t) (cat8 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_2560 r q)
  · obtain ⟨r, q, rfl⟩ : ∃ (r : Fin 512) (q : Fin 256), x = ix2 r q := ⟨_, _, eq_ix2 x⟩
    refine (pay6 _ _ _ r q).trans ((congrArg (fun z : EReal => z + _) (ld_cols acc _ r q (by omega))).trans ?_)
    exact (G_at m acc c t (m ((c : Thread nD τ).loc main_arg7)) (iblk m c 7 t) (by omega) (blk7 m c t) (cat7 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_2304 r q)
  · obtain ⟨r, q, rfl⟩ : ∃ (r : Fin 512) (q : Fin 256), x = ix2 r q := ⟨_, _, eq_ix2 x⟩
    refine (pay5 _ _ _ r q).trans ((congrArg (fun z : EReal => z + _) (ld_cols acc _ r q (by omega))).trans ?_)
    exact (G_at m acc c t (m ((c : Thread nD τ).loc main_arg6)) (iblk m c 6 t) (by omega) (blk6 m c t) (cat6 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_2048 r q)
  · obtain ⟨r, q, rfl⟩ : ∃ (r : Fin 512) (q : Fin 256), x = ix2 r q := ⟨_, _, eq_ix2 x⟩
    refine (pay4 _ _ _ r q).trans ((congrArg (fun z : EReal => z + _) (ld_cols acc _ r q (by omega))).trans ?_)
    exact (G_at m acc c t (m ((c : Thread nD τ).loc main_arg5)) (iblk m c 5 t) (by omega) (blk5 m c t) (cat5 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_1792 r q)
  · obtain ⟨r, q, rfl⟩ : ∃ (r : Fin 512) (q : Fin 256), x = ix2 r q := ⟨_, _, eq_ix2 x⟩
    refine (pay3 _ _ _ r q).trans ((congrArg (fun z : EReal => z + _) (ld_cols acc _ r q (by omega))).trans ?_)
    exact (G_at m acc c t (m ((c : Thread nD τ).loc main_arg4)) (iblk m c 4 t) (by omega) (blk4 m c t) (cat4 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x256_0_1536 r q)
  · obtain ⟨r, q, rfl⟩ : ∃ (r : Fin 512) (q : Fin 512), x = ix2 r q := ⟨_, _, eq_ix2 x⟩
    refine (pay2 _ _ _ r q).trans ((congrArg (fun z : EReal => z + _) (ld_cols acc _ r q (by omega))).trans ?_)
    exact (G_at m acc c t (m ((c : Thread nD τ).loc main_arg3)) (iblk m c 3 t) (by omega) (blk3 m c t) (cat3 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x512_0_1024 r q)
  · obtain ⟨r, q, rfl⟩ : ∃ (r : Fin 512) (q : Fin 512), x = ix2 r q := ⟨_, _, eq_ix2 x⟩
    refine (pay1 _ _ _ r q).trans ((congrArg (fun z : EReal => z + _) (ld_cols acc _ r q (by omega))).trans ?_)
    exact (G_at m acc c t (m ((c : Thread nD τ).loc main_arg2)) (iblk m c 2 t) (by omega) (blk2 m c t) (cat2 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x512_0_512 r q)
  · obtain ⟨r, q, rfl⟩ : ∃ (r : Fin 512) (q : Fin 512), x = ix2 r q := ⟨_, _, eq_ix2 x⟩
    refine (pay0 _ _ _ r q).trans ((congrArg (fun z : EReal => z + _) (ld_cols acc _ r q (by omega))).trans ?_)
    exact (G_at m acc c t (m ((c : Thread nD τ).loc main_arg1)) (iblk m c 1 t) (by omega) (blk1 m c t) (cat1 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13))) inb_S512x5888_S512x512_0_0 r q)

theorem canon_G (acc : Vec Ideal S512x5888 .f32) (c : Dev nD) (t : Fin cfg0.N) (L' : List (View.Piece (Elt Ideal) S512x5888 .f32)) (y : S512x5888.Idx) :
    View.canon (pieces m acc c t ++ L') y = G m acc c t y :=
  View.canon_append_of_piecesOf _ _ _ (pieces_G m acc c t) _ (View.cover_of_tiledBy _ ![512, 256] (by sl_kernel_rfl) y)

theorem scA (c : Dev nD) (t : Fin cfg0.N) (h : t.val % 8 = 0) (h' : ¬t.val % 8 = 7) (i : S512x5888.Idx) : (outsAt0 m c t.val t.isLt).2 i
    = 0 + term (m ((c : Thread nD τ).loc main_arg0)) (dproj m c) t.val (i 0) (i 1) := by
  rw [outsAt0_A m c t h h']
  frame_open
  simp (disch := decide) only [↓ View.readCov_skip, ↓ View.readCov_cons_toLoadRect, ↓ View.readCov_fill]
  frame_out
  have hc := canon_G m (k0_pay16 (F := Ideal)) c t [⟨Rect.unit ![0, 0] ![512, 5888] inb_S512x5888_S512x5888_0_0, k0_pay16 (F := Ideal)⟩] i
  dsimp only [pieces, List.cons_append, List.nil_append] at hc
  refine hc.trans (congrArg (fun z : EReal => z + _) ?_)
  unfold k0_pay16
  simp only [shapeCast_self]
  exact Ideal.ofBits_zero_f32

theorem scB (c : Dev nD) (t : Fin cfg0.N) (h : ¬t.val % 8 = 0) (h' : ¬t.val % 8 = 7) (i : S512x5888.Idx) : (outsAt0 m c t.val t.isLt).2 i
    = G m (outsAt0 m c (t.val - 1) (Nat.lt_of_le_of_lt (Nat.sub_le _ _) t.isLt)).2 c t i := by
  rw [outsAt0_B m c t h h']
  frame_open
  simp (disch := decide) only [↓ View.readCov_skip, ↓ View.readCov_cons_toLoadRect, ↓ View.readCov_fill]
  frame_out
  simp only [read_unread_whole]
  have hc := canon_G m (outsAt0 m c (t.val - 1) (Nat.lt_of_le_of_lt (Nat.sub_le _ _) t.isLt)).2 c t [] i
  dsimp only [pieces, List.cons_append, List.nil_append] at hc
  exact hc

theorem scC (c : Dev nD) (t : Fin cfg0.N) (h : ¬t.val % 8 = 0) (h' : t.val % 8 = 7) (i : S512x5888.Idx) : (outsAt0 m c t.val t.isLt).2 i
    = G m (outsAt0 m c (t.val - 1) (Nat.lt_of_le_of_lt (Nat.sub_le _ _) t.isLt)).2 c t i := by
  rw [outsAt0_C m c t h h']
  frame_open
  simp (disch := decide) only [↓ View.readCov_skip, ↓ View.readCov_cons_toLoadRect, ↓ View.readCov_fill]
  frame_out
  simp only [read_unread_whole]
  have hc := canon_G m (outsAt0 m c (t.val - 1) (Nat.lt_of_le_of_lt (Nat.sub_le _ _) t.isLt)).2 c t [] i
  dsimp only [pieces, List.cons_append, List.nil_append] at hc
  exact hc

theorem sc_sum (c : Dev nD) (t : Fin cfg0.N) (ht : t.val % 8 = 7) (i : S512x5888.Idx) : (outsAt0 m c t.val t.isLt).2 i
    = grad (m ((c : Thread nD τ).loc main_arg0)) (dproj m c) (i 1) (col t (i 0)) := by
  refine (Pipeline.eq_sum_of_reset_step_apply_of_mod (fun n h => (outsAt0 m c n h).2) 8 (fun _ => (0 : EReal))
    (fun n i => term (m ((c : Thread nD τ).loc main_arg0)) (dproj m c) n (i 0) (i 1)) (fun t h i => ?_) (fun t h i => ?_) t ht i).trans ?_
  · exact scA m c t h (by omega) i
  · by_cases h' : t.val % 8 = 7
    · exact scC m c t h h' i
    · exact scB m c t h h' i
  · have hl := lt16 t
    have e : t.val / 8 % 2 = t.val / 8 := by omega
    refine (zero_add _).trans ((sum_term _ _ (t.val / 8) (by omega) (i 0) (i 1)).trans (congrArg (grad _ _ _) (Fin.ext ?_)))
    show t.val / 8 * 512 + (i 0).val = t.val / 8 % 2 * 512 + (i 0).val
    rw [e]

/-- A load of columns the point has stored. -/
theorem read_G (acc : Vec Ideal S512x5888 .f32) (c : Dev nD) (t : Fin cfg0.N) (v : View sig .tc .vmem S512x5888 .f32) (L : List (View.Piece (Elt Ideal) S512x5888 .f32))
    (hL : View.PiecesOf (G m acc c t) L) (B : LoadRect S512x5888) (j : B.shape.Idx) (y : S512x5888.Idx) (e : B.idx j = y) (hc : ∃ p ∈ L, y ∈ p.1.set) :
    v.readCov L B j = G m acc c t y := by
  rw [View.readCov_eq_canon']
  show View.canon L (B.idx j) = _
  rw [e]
  have := View.canon_append_of_piecesOf (G m acc c t) [] L hL y hc
  rwa [List.append_nil] at this

theorem outC (c : Dev nD) (t : Fin cfg0.N) (h : ¬t.val % 8 = 0) (h' : t.val % 8 = 7) (y : S5888x512.Idx) : (outsAt0 m c t.val t.isLt).1 y
    = G m (outsAt0 m c (t.val - 1) (Nat.lt_of_le_of_lt (Nat.sub_le _ _) t.isLt)).2 c t (ix2 (y 1) (y 0)) := by
  have hP := pieces_G m (outsAt0 m c (t.val - 1) (Nat.lt_of_le_of_lt (Nat.sub_le _ _) t.isLt)).2 c t
  rw [outsAt0_C m c t h h']
  frame_open
  simp (disch := decide) only [↓ View.readCov_skip, ↓ View.readCov_cons_toLoadRect, ↓ View.readCov_fill]
  frame_out
  simp only [read_unread_whole]
  canon_tiles x h using View.cover_of_tiledBy _ ![256, 512] (by sl_kernel_rfl) _
  · obtain ⟨q, r, rfl⟩ : ∃ (q : Fin 256) (r : Fin 512), x = ix2 q r := ⟨_, _, eq_ix2 x⟩
    replace h0 : (y 0).val = 5632 + q.val := h0
    replace h1 : (y 1).val = r.val := h1
    refine (pay_t8 _ q r).trans ?_
    refine read_G m _ c t _ _ hP _ _ (ix2 (y 1) (y 0)) (by
      funext a; apply Fin.ext; fin_cases a
      · show 0 + 1 * r.val = (y 1).val; omega
      · show 5632 + 1 * q.val = (y 0).val; omega) ?_
    · refine ⟨_, .head _, ?_⟩
      refine (Rect.mem_set_unit (inb := inb_S512x5888_S512x2048_0_3840)).mpr fun a => ?_
      fin_cases a
      · show 0 ≤ (y 1).val ∧ (y 1).val < 0 + 512; omega
      · show 3840 ≤ (y 0).val ∧ (y 0).val < 3840 + 2048; omega
  · obtain ⟨q, r, rfl⟩ : ∃ (q : Fin 512) (r : Fin 512), x = ix2 q r := ⟨_, _, eq_ix2 x⟩
    replace h0 : (y 0).val = 5120 + q.val := h0
    replace h1 : (y 1).val = r.val := h1
    refine (pay_t7 _ q r).trans ?_
    refine read_G m _ c t _ _ hP _ _ (ix2 (y 1) (y 0)) (by
      funext a; apply Fin.ext; fin_cases a
      · show 0 + 1 * r.val = (y 1).val; omega
      · show 5120 + 1 * q.val = (y 0).val; omega) ?_
    · refine ⟨_, .head _, ?_⟩
      refine (Rect.mem_set_unit (inb := inb_S512x5888_S512x2048_0_3840)).mpr fun a => ?_
      fin_cases a
      · show 0 ≤ (y 1).val ∧ (y 1).val < 0 + 512; omega
      · show 3840 ≤ (y 0).val ∧ (y 0).val < 3840 + 2048; omega
  · obtain ⟨q, r, rfl⟩ : ∃ (q : Fin 512) (r : Fin 512), x = ix2 q r := ⟨_, _, eq_ix2 x⟩
    replace h0 : (y 0).val = 4608 + q.val := h0
    replace h1 : (y 1).val = r.val := h1
    refine (pay_t6 _ q r).trans ?_
    refine read_G m _ c t _ _ hP _ _ (ix2 (y 1) (y 0)) (by
      funext a; apply Fin.ext; fin_cases a
      · show 0 + 1 * r.val = (y 1).val; omega
      · show 4608 + 1 * q.val = (y 0).val; omega) ?_
    · refine ⟨_, .head _, ?_⟩
      refine (Rect.mem_set_unit (inb := inb_S512x5888_S512x2048_0_3840)).mpr fun a => ?_
      fin_cases a
      · show 0 ≤ (y 1).val ∧ (y 1).val < 0 + 512; omega
      · show 3840 ≤ (y 0).val ∧ (y 0).val < 3840 + 2048; omega
  · obtain ⟨q, r, rfl⟩ : ∃ (q : Fin 512) (r : Fin 512), x = ix2 q r := ⟨_, _, eq_ix2 x⟩
    replace h0 : (y 0).val = 4096 + q.val := h0
    replace h1 : (y 1).val = r.val := h1
    refine (pay_t5 _ q r).trans ?_
    refine read_G m _ c t _ _ hP _ _ (ix2 (y 1) (y 0)) (by
      funext a; apply Fin.ext; fin_cases a
      · show 0 + 1 * r.val = (y 1).val; omega
      · show 4096 + 1 * q.val = (y 0).val; omega) ?_
    · refine ⟨_, .head _, ?_⟩
      refine (Rect.mem_set_unit (inb := inb_S512x5888_S512x2048_0_3840)).mpr fun a => ?_
      fin_cases a
      · show 0 ≤ (y 1).val ∧ (y 1).val < 0 + 512; omega
      · show 3840 ≤ (y 0).val ∧ (y 0).val < 3840 + 2048; omega
  · obtain ⟨q, r, rfl⟩ : ∃ (q : Fin 512) (r : Fin 512), x = ix2 q r := ⟨_, _, eq_ix2 x⟩
    replace h0 : (y 0).val = 3584 + q.val := h0
    replace h1 : (y 1).val = r.val := h1
    refine (pay_t4 _ q r).trans ?_
    refine read_G m _ c t _ _ hP _ _ (ix2 (y 1) (y 0)) (by
      funext a; apply Fin.ext; fin_cases a
      · show 0 + 1 * r.val = (y 1).val; omega
      · show 3584 + 1 * q.val = (y 0).val; omega) ?_
    by_cases hq : (y 0).val < 3840
    · refine ⟨_, .tail _ (.head _), ?_⟩
      refine (Rect.mem_set_unit (inb := inb_S512x5888_S512x256_0_3584)).mpr fun a => ?_
      fin_cases a
      · show 0 ≤ (y 1).val ∧ (y 1).val < 0 + 512; omega
      · show 3584 ≤ (y 0).val ∧ (y 0).val < 3584 + 256; omega
    · refine ⟨_, .head _, ?_⟩
      refine (Rect.mem_set_unit (inb := inb_S512x5888_S512x2048_0_3840)).mpr fun a => ?_
      fin_cases a
      · show 0 ≤ (y 1).val ∧ (y 1).val < 0 + 512; omega
      · show 3840 ≤ (y 0).val ∧ (y 0).val < 3840 + 2048; omega
  · obtain ⟨q, r, rfl⟩ : ∃ (q : Fin 512) (r : Fin 512), x = ix2 q r := ⟨_, _, eq_ix2 x⟩
    replace h0 : (y 0).val = 3072 + q.val := h0
    replace h1 : (y 1).val = r.val := h1
    refine (pay_t15 _ q r).trans ?_
    refine read_G m _ c t _ _ hP.2.2 _ _ (ix2 (y 1) (y 0)) (by
      funext a; apply Fin.ext; fin_cases a
      · show 0 + 1 * r.val = (y 1).val; omega
      · show 3072 + 1 * q.val = (y 0).val; omega) ?_
    by_cases hq : (y 0).val < 3328
    · refine ⟨_, .tail _ (.head _), ?_⟩
      refine (Rect.mem_set_unit (inb := inb_S512x5888_S512x256_0_3072)).mpr fun a => ?_
      fin_cases a
      · show 0 ≤ (y 1).val ∧ (y 1).val < 0 + 512; omega
      · show 3072 ≤ (y 0).val ∧ (y 0).val < 3072 + 256; omega
    · refine ⟨_, .head _, ?_⟩
      refine (Rect.mem_set_unit (inb := inb_S512x5888_S512x256_0_3328)).mpr fun a => ?_
      fin_cases a
      · show 0 ≤ (y 1).val ∧ (y 1).val < 0 + 512; omega
      · show 3328 ≤ (y 0).val ∧ (y 0).val < 3328 + 256; omega
  · obtain ⟨q, r, rfl⟩ : ∃ (q : Fin 512) (r : Fin 512), x = ix2 q r := ⟨_, _, eq_ix2 x⟩
    replace h0 : (y 0).val = 2560 + q.val := h0
    replace h1 : (y 1).val = r.val := h1
    refine (pay_t14 _ q r).trans ?_
    refine read_G m _ c t _ _ hP.2.2.2.2 _ _ (ix2 (y 1) (y 0)) (by
      funext a; apply Fin.ext; fin_cases a
      · show 0 + 1 * r.val = (y 1).val; omega
      · show 2560 + 1 * q.val = (y 0).val; omega) ?_
    by_cases hq : (y 0).val < 2816
    · refine ⟨_, .tail _ (.head _), ?_⟩
      refine (Rect.mem_set_unit (inb := inb_S512x5888_S512x256_0_2560)).mpr fun a => ?_
      fin_cases a
      · show 0 ≤ (y 1).val ∧ (y 1).val < 0 + 512; omega
      · show 2560 ≤ (y 0).val ∧ (y 0).val < 2560 + 256; omega
    · refine ⟨_, .head _, ?_⟩
      refine (Rect.mem_set_unit (inb := inb_S512x5888_S512x256_0_2816)).mpr fun a => ?_
      fin_cases a
      · show 0 ≤ (y 1).val ∧ (y 1).val < 0 + 512; omega
      · show 2816 ≤ (y 0).val ∧ (y 0).val < 2816 + 256; omega
  · obtain ⟨q, r, rfl⟩ : ∃ (q : Fin 512) (r : Fin 512), x = ix2 q r := ⟨_, _, eq_ix2 x⟩
    replace h0 : (y 0).val = 2048 + q.val := h0
    replace h1 : (y 1).val = r.val := h1
    refine (pay_t13 _ q r).trans ?_
    refine read_G m _ c t _ _ hP.2.2.2.2.2.2 _ _ (ix2 (y 1) (y 0)) (by
      funext a; apply Fin.ext; fin_cases a
      · show 0 + 1 * r.val = (y 1).val; omega
      · show 2048 + 1 * q.val = (y 0).val; omega) ?_
    by_cases hq : (y 0).val < 2304
    · refine ⟨_, .tail _ (.head _), ?_⟩
      refine (Rect.mem_set_unit (inb := inb_S512x5888_S512x256_0_2048)).mpr fun a => ?_
      fin_cases a
      · show 0 ≤ (y 1).val ∧ (y 1).val < 0 + 512; omega
      · show 2048 ≤ (y 0).val ∧ (y 0).val < 2048 + 256; omega
    · refine ⟨_, .head _, ?_⟩
      refine (Rect.mem_set_unit (inb := inb_S512x5888_S512x256_0_2304)).mpr fun a => ?_
      fin_cases a
      · show 0 ≤ (y 1).val ∧ (y 1).val < 0 + 512; omega
      · show 2304 ≤ (y 0).val ∧ (y 0).val < 2304 + 256; omega
  · obtain ⟨q, r, rfl⟩ : ∃ (q : Fin 512) (r : Fin 512), x = ix2 q r := ⟨_, _, eq_ix2 x⟩
    replace h0 : (y 0).val = 1536 + q.val := h0
    replace h1 : (y 1).val = r.val := h1
    refine (pay_t12 _ q r).trans ?_
    refine read_G m _ c t _ _ hP.2.2.2.2.2.2.2.2 _ _ (ix2 (y 1) (y 0)) (by
      funext a; apply Fin.ext; fin_cases a
      · show 0 + 1 * r.val = (y 1).val; omega
      · show 1536 + 1 * q.val = (y 0).val; omega) ?_
    by_cases hq : (y 0).val < 1792
    · refine ⟨_, .tail _ (.head _), ?_⟩
      refine (Rect.mem_set_unit (inb := inb_S512x5888_S512x256_0_1536)).mpr fun a => ?_
      fin_cases a
      · show 0 ≤ (y 1).val ∧ (y 1).val < 0 + 512; omega
      · show 1536 ≤ (y 0).val ∧ (y 0).val < 1536 + 256; omega
    · refine ⟨_, .head _, ?_⟩
      refine (Rect.mem_set_unit (inb := inb_S512x5888_S512x256_0_1792)).mpr fun a => ?_
      fin_cases a
      · show 0 ≤ (y 1).val ∧ (y 1).val < 0 + 512; omega
      · show 1792 ≤ (y 0).val ∧ (y 0).val < 1792 + 256; omega
  · obtain ⟨q, r, rfl⟩ : ∃ (q : Fin 512) (r : Fin 512), x = ix2 q r := ⟨_, _, eq_ix2 x⟩
    replace h0 : (y 0).val = 1024 + q.val := h0
    replace h1 : (y 1).val = r.val := h1
    refine (pay_t11 _ q r).trans ?_
    exact (hP.2.2.2.2.2.2.2.2.2.2.1 (ix2 r q)).trans (congrArg (G m _ c t) (by
      funext a; apply Fin.ext; fin_cases a
      · show 0 + 1 * r.val = (y 1).val; omega
      · show 1024 + 1 * q.val = (y 0).val; omega))
  · obtain ⟨q, r, rfl⟩ : ∃ (q : Fin 512) (r : Fin 512), x = ix2 q r := ⟨_, _, eq_ix2 x⟩
    replace h0 : (y 0).val = 512 + q.val := h0
    replace h1 : (y 1).val = r.val := h1
    refine (pay_t10 _ q r).trans ?_
    exact (hP.2.2.2.2.2.2.2.2.2.2.2.1 (ix2 r q)).trans (congrArg (G m _ c t) (by
      funext a; apply Fin.ext; fin_cases a
      · show 0 + 1 * r.val = (y 1).val; omega
      · show 512 + 1 * q.val = (y 0).val; omega))
  · obtain ⟨q, r, rfl⟩ : ∃ (q : Fin 512) (r : Fin 512), x = ix2 q r := ⟨_, _, eq_ix2 x⟩
    replace h0 : (y 0).val = q.val := h0
    replace h1 : (y 1).val = r.val := h1
    refine (pay_t9 _ q r).trans ?_
    exact (hP.2.2.2.2.2.2.2.2.2.2.2.2.1 (ix2 r q)).trans (congrArg (G m _ c t) (by
      funext a; apply Fin.ext; fin_cases a
      · show 0 + 1 * r.val = (y 1).val; omega
      · show 0 + 1 * q.val = (y 0).val; omega))

theorem final14 (c : Dev nD) : (dats m 0 c).arrAt 14 cfg0.N =
    val_main_v11 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) := by
  refine (dats m 0 c).arrAt_eq_of_covers 14 _ (by decide +kernel) fun t hf y => ?_
  blk_simp
  rw [after0_14]
  have ht : t.val % 8 = 7 := (flush0_14 t).mp hf
  have hl := lt16 t
  obtain ⟨q, r, rfl⟩ : ∃ (q : Fin 5888) (r : Fin 512), y = ix2 q r := ⟨_, _, eq_ix2 y⟩
  have e : (((View.whole main_v0).slice (win0_14.rect t)).emb (ix2 q r)) = ix2 q (col t r) := by
    blk_ext [idx14]
    show t.val / 8 * 512 + r.val = t.val / 8 % 2 * 512 + r.val
    omega
  refine Eq.trans ?_ ((congrArg _ e).trans (ref_grad (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) q (col t r))).symm
  refine (outC m c t (by omega) ht _).trans ?_
  exact (scC m c t (by omega) ht (ix2 r q)).symm.trans (sc_sum m c t ht (ix2 r q))

end Cert.InGradProof

end
-- ==== Proof.InGradClaims.lean ====
module

public import proofs.«01_k».proof.Proof.Gen.InGrad.Frame
public import proofs.«01_k».proof.Proof.InGrad
public import proofs.«01_k».proof.Defs

@[expose] public section

noncomputable section

namespace Cert.Proof.InGradClaims

open Idealize.ShloMosaic Idealize.ShloMosaic.TcCoe Idealize.SL.Sem

theorem frame_p : Cert.quiescent_InGrad := fun m ρ _ => Cert.InGrad.Gen.frame m ρ
theorem frame_pi : Cert.quiescent_InGradIdeal := fun m ρ _ => Cert.InGradIdeal.Gen.frame m ρ
theorem frame_ri : Cert.quiescent_InGradRefIdeal := fun m ρ _ =>
  (θ_run Cert.InGradRefIdeal.defs _ _).mono (fun r h => ⟨fun c => (h c).2,
      Idealize.ShloMosaic.sem_eq_zero_of_no_sems (by decide) r.2⟩)
    (Cert.InGradRefIdeal.Value.run (F := Ideal) m ρ)

open Cert.InGradIdeal Cert.InGradIdeal.Gen in
theorem algebraic : Cert.algebraic_InGradIdeal_InGradRefIdeal := fun m g m' g' _ hm => by
  refine ⟨fun c => (dats m 0 c).arrAt 14 cfg0.N, ?_, ?_⟩
  · refine (θ_run _ _ _).mono (fun r h c => ?_) (Cert.InGradIdeal.Value.run_blocks (F := Ideal) m g)
    obtain ⟨h0, ha⟩ := h c
    exact ⟨h0, ha⟩
  · refine (θ_run _ _ _).mono (fun r h c => ?_) (Cert.InGradRefIdeal.Value.run (F := Ideal) m' g')
    obtain ⟨h0, ha⟩ := h c
    obtain ⟨e0, e1, e2, e3, e4, e5, e6, e7, e8, e9, e10, e11, e12, e13⟩ := hm c
    refine ⟨h0.trans ?_, ha⟩
    all_goals try rw [e0]
    all_goals try rw [e1]
    all_goals try rw [e2]
    all_goals try rw [e3]
    all_goals try rw [e4]
    all_goals try rw [e5]
    all_goals try rw [e6]
    all_goals try rw [e7]
    all_goals try rw [e8]
    all_goals try rw [e9]
    all_goals try rw [e10]
    all_goals try rw [e11]
    all_goals try rw [e12]
    all_goals try rw [e13]
    · exact (Cert.InGradProof.final14 m c).symm

end Cert.Proof.InGradClaims

end
-- ==== Proof.SbUp.lean ====
module

public import proofs.«01_k».proof.Proof.Common
public import proofs.«01_k».proof.Proof.Gen.SbUpIdeal.Value
public import proofs.«01_k».proof.Proof.Gen.SbUpRefIdeal.Read
public import Idealize.ShloMosaic.Lib.Pipeline.ReadBack

@[expose] public section

noncomputable section

/-! The gradient of one of the two up-projections of the merge: one accumulator adds up two products, each over 2048 tokens,
and goes out in eight blocks of 128 columns; the reference contracts all 4096 tokens at once and cuts the blocks last. -/

namespace Cert.SbUpProof

open Idealize.ShloMosaic hiding ix2 ix3 eq_ix2 eq_ix3
open Idealize.ShloMosaic.TcCoe Idealize.ShloMosaic.Tactic Idealize.SL.Sem Idealize.ShloMosaic.ValueIdx
open Cert.SbUpIdeal Cert.SbUpIdeal.Gen
open Cert.SbUpRefIdeal.Read
open Idealize.ShloMosaic.Pipeline (Dat)

/-- Entry `(r, k)` of the gradient: the sum over the tokens. -/
def grad (a : (⟨2, ![4096, 512]⟩ : Shape).Idx → EReal) (d : (⟨2, ![4096, 1024]⟩ : Shape).Idx → EReal) (r : Fin 512) (k : Fin 1024) : EReal :=
  ∑ t : Fin 4096, a (ix2 t r) * d (ix2 t k)

theorem ref_grad (a d) (q : Fin 8) (r : Fin 512) (k : Fin 128) : val_main_v8 (F := Ideal) a d (ix3 q r k) = grad a d r ⟨q.val * 128 + k.val, by omega⟩ := by
  refine (val_main_v8_apply a d _).trans ?_
  refine (val_main_v7_apply a d _).trans ?_
  refine (val_main_v6_apply a d _).trans ?_
  refine (val_main_v5_apply a d _).trans ?_
  refine (val_main_v4_apply a d _).trans (Finset.sum_congr rfl fun j _ => ?_)
  rw [val_main_v1_apply, val_main_v0_apply]
  refine (congrArg₂ (fun p q => d p * a q) ((eq_ix2 _).trans (congrArg₂ ix2 rfl (Fin.ext ?_))) ((eq_ix2 _).trans (congrArg₂ ix2 rfl (Fin.ext ?_)))).trans (mul_comm _ _)
  · show ((r.val * 8 + q.val) * 128 + k.val) % 1024 = q.val * 128 + k.val
    omega
  · show ((r.val * 8 + q.val) * 128 + k.val) / 1024 = r.val
    omega

/-- The half of the sum over the 2048 tokens from `o` on. -/
def half (a : (⟨2, ![4096, 512]⟩ : Shape).Idx → EReal) (d : (⟨2, ![4096, 1024]⟩ : Shape).Idx → EReal) (o : Fin 2) (r : Fin 512) (k : Fin 1024) : EReal :=
  ∑ j : Fin 2048, a (ix2 ⟨o.val * 2048 + j.val, by omega⟩ r) * d (ix2 ⟨o.val * 2048 + j.val, by omega⟩ k)

theorem halves (a d) (r : Fin 512) (k : Fin 1024) : half a d 0 r k + half a d 1 r k = grad a d r k := by
  unfold grad half
  rw [Fin.sum_univ_tiles 2 2048 rfl, Fin.sum_univ_two]

theorem pay_apply (v : Vec Ideal S512x1024 .f32) (a : Vec Ideal S2048x512 .bf16) (b : Vec Ideal S2048x1024 .bf16) (r : Fin 512) (k : Fin 1024) :
    k0_pay2 (F := Ideal) v a b (ix2 r k) = v (ix2 r k) + ∑ j : Fin 2048, a (ix2 j r) * b (ix2 j k) := by
  unfold k0_pay2
  simp only [shapeCast_self]
  refine congrArg (fun z : EReal => v (ix2 r k) + z) ?_
  refine (Common.matmul_tn_apply (M := 512) (K := 2048) (N := 1024) _ none _ _ _ r k).trans ?_
  simp only [constant_apply, Ideal.ofBits_zero_f32, zero_add]

theorem zero_pay (r : Fin 512) (k : Fin 1024) : k0_pay1 (F := Ideal) (ix2 r k) = (0 : EReal) := by
  unfold k0_pay1
  simp only [shapeCast_self]
  exact Ideal.ofBits_zero_f32

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)

theorem lt2 (t : Fin cfg0.N) : t.val < 2 := lt_of_lt_of_eq t.isLt N_0

abbrev row (t : Fin cfg0.N) (k : Fin 2048) : Fin 4096 := ⟨t.val * 2048 + k.val, by have := lt2 t; omega⟩

theorem blk0 (c : Dev nD) (t : Fin cfg0.N) (k : Fin 2048) (r : Fin 512) :
    iblk m c 0 t (ix2 k r) = m ((c : Thread nD τ).loc main_arg0) (ix2 (row t k) r) := by
  blk_simp [iblk]
  rw [V_main_arg0]
  refine congrArg (m ((c : Thread nD τ).loc main_arg0)) ?_
  blk_ext [idx0]
theorem blk1 (c : Dev nD) (t : Fin cfg0.N) (k : Fin 2048) (r : Fin 1024) :
    iblk m c 1 t (ix2 k r) = m ((c : Thread nD τ).loc main_arg1) (ix2 (row t k) r) := by
  blk_simp [iblk]
  rw [V_main_arg1]
  refine congrArg (m ((c : Thread nD τ).loc main_arg1)) ?_
  blk_ext [idx1]

theorem step (c : Dev nD) (t : Fin cfg0.N) (v : Vec Ideal S512x1024 .f32) (r : Fin 512) (k : Fin 1024) :
    k0_pay2 (F := Ideal) v (iblk m c 0 t) (iblk m c 1 t) (ix2 r k)
      = v (ix2 r k) + half (m ((c : Thread nD τ).loc main_arg0)) (m ((c : Thread nD τ).loc main_arg1)) ⟨t.val, lt2 t⟩ r k :=
  (pay_apply _ _ _ r k).trans (congrArg (fun z : EReal => v (ix2 r k) + z)
    (Finset.sum_congr rfl fun j _ => congrArg₂ (fun a b : EReal => a * b) (blk0 m c t j r) (blk1 m c t j k)))

theorem scA (c : Dev nD) (t : Fin cfg0.N) (h : t.val % 2 = 0) (h' : ¬t.val % 2 = 1) :
    (outsAt0 m c t.val t.isLt).2 = k0_pay2 (F := Ideal) (k0_pay1 (F := Ideal)) (iblk m c 0 t) (iblk m c 1 t) := by
  rw [outsAt0_A m c t h h']
  frame_open
  simp (disch := decide) only [↓ View.readCov_skip, ↓ View.readCov_cons_toLoadRect, ↓ View.readCov_fill]
  frame_out

/-- Eight blocks of 128 columns of `X`. -/
def cut (X : Vec Ideal S512x1024 .f32) : S8x512x128.Idx → EReal := fun y =>
  X (ix2 (n0 := 512) (n1 := 1024) (y 1) ⟨(y 0).val * 128 + (y 2).val, by have h0 : (y 0).val < 8 := (y 0).isLt; have h2 : (y 2).val < 128 := (y 2).isLt; omega⟩)

theorem piece (X : Vec Ideal S512x1024 .f32) (q o : ℕ) (h : _) (h' : _) (hs : S512x128.ShapeCasts S1x512x128) (ho : o = q * 128) (x : S1x512x128.Idx) :
    shapeCast S1x512x128 (View.ld X (Rect.unit (s := S512x1024) ![0, o] ![512, 128] h) : Vec Ideal S512x128 .f32) hs x
      = cut X ((Rect.unit (s := S8x512x128) ![q, 0, 0] ![1, 512, 128] h').emb x) := by
  obtain ⟨z, r, k, rfl⟩ : ∃ (z : Fin 1) (r : Fin 512) (k : Fin 128), x = ix3 z r k := ⟨_, _, _, eq_ix3 x⟩
  refine (shapeCast_ab_1ab_apply _ hs z r k).trans (congrArg X ?_)
  have hz := z.isLt
  funext a; apply Fin.ext; fin_cases a
  · show 0 + 1 * r.val = 0 + 1 * r.val; rfl
  · show o + 1 * k.val = (q + 1 * z.val) * 128 + (0 + 1 * k.val); omega

/-- The eight stores of the last point, the last first. -/
def pieces (X : Vec Ideal S512x1024 .f32) : List (View.Piece (Elt Ideal) S8x512x128 .bf16) :=
  [⟨Rect.unit ![7, 0, 0] ![1, 512, 128] inb_S8x512x128_S1x512x128_7_0_0, k0_pay5 (View.ld X (Rect.unit ![0, 896] ![512, 128] inb_S512x1024_S512x128_0_896))⟩,
   ⟨Rect.unit ![6, 0, 0] ![1, 512, 128] inb_S8x512x128_S1x512x128_6_0_0, k0_pay4 (View.ld X (Rect.unit ![0, 768] ![512, 128] inb_S512x1024_S512x128_0_768))⟩,
   ⟨Rect.unit ![5, 0, 0] ![1, 512, 128] inb_S8x512x128_S1x512x128_5_0_0, k0_pay3 (k0_pay11 (View.ld X (Rect.unit ![0, 640] ![512, 128] inb_S512x1024_S512x128_0_640)))⟩,
   ⟨Rect.unit ![4, 0, 0] ![1, 512, 128] inb_S8x512x128_S1x512x128_4_0_0, k0_pay10 (View.ld X (Rect.unit ![0, 512] ![512, 128] inb_S512x1024_S512x128_0_512))⟩,
   ⟨Rect.unit ![3, 0, 0] ![1, 512, 128] inb_S8x512x128_S1x512x128_3_0_0, k0_pay9 (View.ld X (Rect.unit ![0, 384] ![512, 128] inb_S512x1024_S512x128_0_384))⟩,
   ⟨Rect.unit ![2, 0, 0] ![1, 512, 128] inb_S8x512x128_S1x512x128_2_0_0, k0_pay8 (View.ld X (Rect.unit ![0, 256] ![512, 128] inb_S512x1024_S512x128_0_256))⟩,
   ⟨Rect.unit ![1, 0, 0] ![1, 512, 128] inb_S8x512x128_S1x512x128_1_0_0, k0_pay7 (View.ld X (Rect.unit ![0, 128] ![512, 128] inb_S512x1024_S512x128_0_128))⟩,
   ⟨Rect.unit ![0, 0, 0] ![1, 512, 128] inb_S8x512x128_S1x512x128_0_0_0, k0_pay6 (View.ld X (Rect.unit ![0, 0] ![512, 128] inb_S512x1024_S512x128_0_0))⟩]

theorem canon_cut (X : Vec Ideal S512x1024 .f32) (y : S8x512x128.Idx) : View.canon (pieces X ++ []) y = cut X y := by
  refine View.canon_append_of_piecesOf (Val := Elt Ideal) (e := .bf16) (cut X) _ _ ?_ _ (View.cover_of_tiledBy _ ![1, 512, 128] (by sl_kernel_rfl) y)
  refine ⟨fun x => ?_, fun x => ?_, fun x => ?_, fun x => ?_, fun x => ?_, fun x => ?_, fun x => ?_, fun x => ?_, trivial⟩
  · exact piece X 7 896 inb_S512x1024_S512x128_0_896 inb_S8x512x128_S1x512x128_7_0_0 shapeCasts_S512x128_S1x512x128 (by norm_num) x
  · exact piece X 6 768 inb_S512x1024_S512x128_0_768 inb_S8x512x128_S1x512x128_6_0_0 shapeCasts_S512x128_S1x512x128 (by norm_num) x
  · exact piece X 5 640 inb_S512x1024_S512x128_0_640 inb_S8x512x128_S1x512x128_5_0_0 shapeCasts_S512x128_S1x512x128 (by norm_num) x
  · exact piece X 4 512 inb_S512x1024_S512x128_0_512 inb_S8x512x128_S1x512x128_4_0_0 shapeCasts_S512x128_S1x512x128 (by norm_num) x
  · exact piece X 3 384 inb_S512x1024_S512x128_0_384 inb_S8x512x128_S1x512x128_3_0_0 shapeCasts_S512x128_S1x512x128 (by norm_num) x
  · exact piece X 2 256 inb_S512x1024_S512x128_0_256 inb_S8x512x128_S1x512x128_2_0_0 shapeCasts_S512x128_S1x512x128 (by norm_num) x
  · exact piece X 1 128 inb_S512x1024_S512x128_0_128 inb_S8x512x128_S1x512x128_1_0_0 shapeCasts_S512x128_S1x512x128 (by norm_num) x
  · exact piece X 0 0 inb_S512x1024_S512x128_0_0 inb_S8x512x128_S1x512x128_0_0_0 shapeCasts_S512x128_S1x512x128 (by norm_num) x

theorem outB (c : Dev nD) (t : Fin cfg0.N) (h : ¬t.val % 2 = 0) (h' : t.val % 2 = 1) (q : Fin 8) (r : Fin 512) (k : Fin 128) : (outsAt0 m c t.val t.isLt).1 (ix3 q r k)
    = k0_pay2 (F := Ideal) (outsAt0 m c (t.val - 1) (Nat.lt_of_le_of_lt (Nat.sub_le _ _) t.isLt)).2 (iblk m c 0 t) (iblk m c 1 t) (ix2 r ⟨q.val * 128 + k.val, by omega⟩) := by
  rw [outsAt0_B m c t h h']
  frame_open
  simp (disch := decide) only [↓ View.readCov_skip, ↓ View.readCov_cons_toLoadRect, ↓ View.readCov_fill]
  frame_out
  simp only [read_unread_whole]
  have hc := canon_cut (k0_pay2 (F := Ideal) (outsAt0 m c (t.val - 1) (Nat.lt_of_le_of_lt (Nat.sub_le _ _) t.isLt)).2 (iblk m c 0 t) (iblk m c 1 t)) (ix3 q r k)
  dsimp only [pieces, List.cons_append, List.nil_append] at hc
  exact hc.trans rfl

theorem final2 (c : Dev nD) : (dats m 0 c).arrAt 2 cfg0.N =
    val_main_v8 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 2 = 1 := (flush0_2 t).mp hf
  have hl := lt2 t
  have h1 : t.val = 1 := by omega
  obtain ⟨q, r, k, rfl⟩ : ∃ (q : Fin 8) (r : Fin 512) (k : Fin 128), y = ix3 q r k := ⟨_, _, _, eq_ix3 y⟩
  have e : (((View.whole main_v0).slice (win0_2.rect t)).emb (ix3 q r k)) = ix3 q r k := by blk_ext [idx2]
  refine Eq.trans ?_ ((congrArg _ e).trans (ref_grad _ _ _ _ _)).symm
  refine (outB m c t (by omega) ht q r k).trans ((step m c t _ r ⟨q.val * 128 + k.val, by omega⟩).trans ?_)
  have h0 := congrFun (scA m c ⟨t.val - 1, Nat.lt_of_le_of_lt (Nat.sub_le _ _) t.isLt⟩ (by show (t.val - 1) % 2 = 0; omega) (by show ¬(t.val - 1) % 2 = 1; omega)) (ix2 r ⟨q.val * 128 + k.val, by omega⟩)
  refine (congrArg₂ (fun a b : EReal => a + b) ((h0.trans (step m c _ _ r ⟨q.val * 128 + k.val, by omega⟩)).trans
    (congrArg (fun z : EReal => z + _) (zero_pay r ⟨q.val * 128 + k.val, by omega⟩))) rfl).trans ?_
  rw [zero_add]
  refine Eq.trans ?_ (halves _ _ r ⟨q.val * 128 + k.val, by omega⟩)
  exact congrArg₂ (fun a b : EReal => a + b) (congrArg (fun o => half _ _ o r ⟨q.val * 128 + k.val, by omega⟩) (Fin.ext (by show t.val - 1 = 0; omega)))
    (congrArg (fun o => half _ _ o r ⟨q.val * 128 + k.val, by omega⟩) (Fin.ext (by show t.val = 1; omega)))

end Cert.SbUpProof

end
-- ==== Proof.SbUpClaims.lean ====
module

public import proofs.«01_k».proof.Proof.Gen.SbUp.Frame
public import proofs.«01_k».proof.Proof.SbUp
public import proofs.«01_k».proof.Defs

@[expose] public section

noncomputable section

namespace Cert.Proof.SbUpClaims

open Idealize.ShloMosaic Idealize.ShloMosaic.TcCoe Idealize.SL.Sem

theorem frame_p : Cert.quiescent_SbUp := fun m ρ _ => Cert.SbUp.Gen.frame m ρ
theorem frame_pi : Cert.quiescent_SbUpIdeal := fun m ρ _ => Cert.SbUpIdeal.Gen.frame m ρ
theorem frame_ri : Cert.quiescent_SbUpRefIdeal := fun m ρ _ =>
  (θ_run Cert.SbUpRefIdeal.defs _ _).mono (fun r h => ⟨fun c => (h c).2,
      Idealize.ShloMosaic.sem_eq_zero_of_no_sems (by decide) r.2⟩)
    (Cert.SbUpRefIdeal.Value.run (F := Ideal) m ρ)

open Cert.SbUpIdeal Cert.SbUpIdeal.Gen in
theorem algebraic : Cert.algebraic_SbUpIdeal_SbUpRefIdeal := fun m g m' g' _ hm => by
  refine ⟨fun c => (dats m 0 c).arrAt 2 cfg0.N, ?_, ?_⟩
  · refine (θ_run _ _ _).mono (fun r h c => ?_) (Cert.SbUpIdeal.Value.run_blocks (F := Ideal) m g)
    obtain ⟨h0, ha⟩ := h c
    exact ⟨h0, ha⟩
  · refine (θ_run _ _ _).mono (fun r h c => ?_) (Cert.SbUpRefIdeal.Value.run (F := Ideal) m' g')
    obtain ⟨h0, ha⟩ := h c
    obtain ⟨e0, e1⟩ := hm c
    refine ⟨h0.trans ?_, ha⟩
    all_goals try rw [e0]
    all_goals try rw [e1]
    · exact (Cert.SbUpProof.final2 m c).symm

end Cert.Proof.SbUpClaims

end
-- ==== Proof.DilUp.lean ====
module

public import proofs.«01_k».proof.Proof.Common
public import proofs.«01_k».proof.Proof.Gen.DilUpIdeal.Value
public import proofs.«01_k».proof.Proof.Gen.DilUpRefIdeal.Read
public import Idealize.ShloMosaic.Lib.Pipeline.ReadBack

@[expose] public section

noncomputable section

/-! The gradient of one of the two up-projections of the merge: one accumulator adds up two products, each over 2048 tokens,
and goes out in eight blocks of 128 columns; the reference contracts all 4096 tokens at once and cuts the blocks last. -/

namespace Cert.DilUpProof

open Idealize.ShloMosaic hiding ix2 ix3 eq_ix2 eq_ix3
open Idealize.ShloMosaic.TcCoe Idealize.ShloMosaic.Tactic Idealize.SL.Sem Idealize.ShloMosaic.ValueIdx
open Cert.DilUpIdeal Cert.DilUpIdeal.Gen
open Cert.DilUpRefIdeal.Read
open Idealize.ShloMosaic.Pipeline (Dat)

/-- Entry `(r, k)` of the gradient: the sum over the tokens. -/
def grad (a : (⟨2, ![4096, 256]⟩ : Shape).Idx → EReal) (d : (⟨2, ![4096, 1024]⟩ : Shape).Idx → EReal) (r : Fin 256) (k : Fin 1024) : EReal :=
  ∑ t : Fin 4096, a (ix2 t r) * d (ix2 t k)

theorem ref_grad (a d) (q : Fin 8) (r : Fin 256) (k : Fin 128) : val_main_v7 (F := Ideal) a d (ix3 q r k) = grad a d r ⟨q.val * 128 + k.val, by omega⟩ := by
  refine (val_main_v7_apply a d _).trans ?_
  refine (val_main_v6_apply a d _).trans ?_
  refine (val_main_v5_apply a d _).trans ?_
  refine (val_main_v4_apply a d _).trans ?_
  refine (val_main_v3_apply a d _).trans (Finset.sum_congr rfl fun j _ => ?_)
  rw [val_main_v0_apply]
  refine (congrArg₂ (fun p q => d p * a q) ((eq_ix2 _).trans (congrArg₂ ix2 rfl (Fin.ext ?_))) ((eq_ix2 _).trans (congrArg₂ ix2 rfl (Fin.ext ?_)))).trans (mul_comm _ _)
  · show ((r.val * 8 + q.val) * 128 + k.val) % 1024 = q.val * 128 + k.val
    omega
  · show ((r.val * 8 + q.val) * 128 + k.val) / 1024 = r.val
    omega

/-- The half of the sum over the 2048 tokens from `o` on. -/
def half (a : (⟨2, ![4096, 256]⟩ : Shape).Idx → EReal) (d : (⟨2, ![4096, 1024]⟩ : Shape).Idx → EReal) (o : Fin 2) (r : Fin 256) (k : Fin 1024) : EReal :=
  ∑ j : Fin 2048, a (ix2 ⟨o.val * 2048 + j.val, by omega⟩ r) * d (ix2 ⟨o.val * 2048 + j.val, by omega⟩ k)

theorem halves (a d) (r : Fin 256) (k : Fin 1024) : half a d 0 r k + half a d 1 r k = grad a d r k := by
  unfold grad half
  rw [Fin.sum_univ_tiles 2 2048 rfl, Fin.sum_univ_two]

theorem pay_apply (v : Vec Ideal S256x1024 .f32) (a : Vec Ideal S2048x256 .f32) (b : Vec Ideal S2048x1024 .bf16) (r : Fin 256) (k : Fin 1024) :
    k0_pay2 (F := Ideal) v a b (ix2 r k) = v (ix2 r k) + ∑ j : Fin 2048, a (ix2 j r) * b (ix2 j k) := by
  unfold k0_pay2
  simp only [shapeCast_self]
  refine congrArg (fun z : EReal => v (ix2 r k) + z) ?_
  refine (Common.matmul_tn_apply (M := 256) (K := 2048) (N := 1024) _ none _ _ _ r k).trans ?_
  simp only [constant_apply, Ideal.ofBits_zero_f32, zero_add]
  rfl

theorem zero_pay (r : Fin 256) (k : Fin 1024) : k0_pay1 (F := Ideal) (ix2 r k) = (0 : EReal) := by
  unfold k0_pay1
  simp only [shapeCast_self]
  exact Ideal.ofBits_zero_f32

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0, 0] := (by decide +kernel : ∀ t : Fin grid0.N, _)

theorem lt2 (t : Fin cfg0.N) : t.val < 2 := lt_of_lt_of_eq t.isLt N_0

abbrev row (t : Fin cfg0.N) (k : Fin 2048) : Fin 4096 := ⟨t.val * 2048 + k.val, by have := lt2 t; omega⟩

theorem blk0 (c : Dev nD) (t : Fin cfg0.N) (k : Fin 2048) (r : Fin 256) :
    iblk m c 0 t (ix2 k r) = m ((c : Thread nD τ).loc main_arg0) (ix2 (row t k) r) := by
  blk_simp [iblk]
  rw [V_main_arg0]
  refine congrArg (m ((c : Thread nD τ).loc main_arg0)) ?_
  blk_ext [idx0]
theorem blk1 (c : Dev nD) (t : Fin cfg0.N) (k : Fin 2048) (r : Fin 1024) :
    iblk m c 1 t (ix2 k r) = m ((c : Thread nD τ).loc main_arg1) (ix2 (row t k) r) := by
  blk_simp [iblk]
  rw [V_main_arg1]
  refine congrArg (m ((c : Thread nD τ).loc main_arg1)) ?_
  blk_ext [idx1]

theorem step (c : Dev nD) (t : Fin cfg0.N) (v : Vec Ideal S256x1024 .f32) (r : Fin 256) (k : Fin 1024) :
    k0_pay2 (F := Ideal) v (iblk m c 0 t) (iblk m c 1 t) (ix2 r k)
      = v (ix2 r k) + half (m ((c : Thread nD τ).loc main_arg0)) (m ((c : Thread nD τ).loc main_arg1)) ⟨t.val, lt2 t⟩ r k :=
  (pay_apply _ _ _ r k).trans (congrArg (fun z : EReal => v (ix2 r k) + z)
    (Finset.sum_congr rfl fun j _ => congrArg₂ (fun a b : EReal => a * b) (blk0 m c t j r) (blk1 m c t j k)))

theorem scA (c : Dev nD) (t : Fin cfg0.N) (h : t.val % 2 = 0) (h' : ¬t.val % 2 = 1) :
    (outsAt0 m c t.val t.isLt).2 = k0_pay2 (F := Ideal) (k0_pay1 (F := Ideal)) (iblk m c 0 t) (iblk m c 1 t) := by
  rw [outsAt0_A m c t h h']
  frame_open
  simp (disch := decide) only [↓ View.readCov_skip, ↓ View.readCov_cons_toLoadRect, ↓ View.readCov_fill]
  frame_out

/-- Eight blocks of 128 columns of `X`. -/
def cut (X : Vec Ideal S256x1024 .f32) : S8x256x128.Idx → EReal := fun y =>
  X (ix2 (n0 := 256) (n1 := 1024) (y 1) ⟨(y 0).val * 128 + (y 2).val, by have h0 : (y 0).val < 8 := (y 0).isLt; have h2 : (y 2).val < 128 := (y 2).isLt; omega⟩)

theorem piece (X : Vec Ideal S256x1024 .f32) (q o : ℕ) (h : _) (h' : _) (hs : S256x128.ShapeCasts S1x256x128) (ho : o = q * 128) (x : S1x256x128.Idx) :
    shapeCast S1x256x128 (View.ld X (Rect.unit (s := S256x1024) ![0, o] ![256, 128] h) : Vec Ideal S256x128 .f32) hs x
      = cut X ((Rect.unit (s := S8x256x128) ![q, 0, 0] ![1, 256, 128] h').emb x) := by
  obtain ⟨z, r, k, rfl⟩ : ∃ (z : Fin 1) (r : Fin 256) (k : Fin 128), x = ix3 z r k := ⟨_, _, _, eq_ix3 x⟩
  refine (shapeCast_ab_1ab_apply _ hs z r k).trans (congrArg X ?_)
  have hz := z.isLt
  funext a; apply Fin.ext; fin_cases a
  · show 0 + 1 * r.val = 0 + 1 * r.val; rfl
  · show o + 1 * k.val = (q + 1 * z.val) * 128 + (0 + 1 * k.val); omega

/-- The eight stores of the last point, the last first. -/
def pieces (X : Vec Ideal S256x1024 .f32) : List (View.Piece (Elt Ideal) S8x256x128 .bf16) :=
  [⟨Rect.unit ![7, 0, 0] ![1, 256, 128] inb_S8x256x128_S1x256x128_7_0_0, k0_pay5 (View.ld X (Rect.unit ![0, 896] ![256, 128] inb_S256x1024_S256x128_0_896))⟩,
   ⟨Rect.unit ![6, 0, 0] ![1, 256, 128] inb_S8x256x128_S1x256x128_6_0_0, k0_pay4 (View.ld X (Rect.unit ![0, 768] ![256, 128] inb_S256x1024_S256x128_0_768))⟩,
   ⟨Rect.unit ![5, 0, 0] ![1, 256, 128] inb_S8x256x128_S1x256x128_5_0_0, k0_pay3 (k0_pay11 (View.ld X (Rect.unit ![0, 640] ![256, 128] inb_S256x1024_S256x128_0_640)))⟩,
   ⟨Rect.unit ![4, 0, 0] ![1, 256, 128] inb_S8x256x128_S1x256x128_4_0_0, k0_pay10 (View.ld X (Rect.unit ![0, 512] ![256, 128] inb_S256x1024_S256x128_0_512))⟩,
   ⟨Rect.unit ![3, 0, 0] ![1, 256, 128] inb_S8x256x128_S1x256x128_3_0_0, k0_pay9 (View.ld X (Rect.unit ![0, 384] ![256, 128] inb_S256x1024_S256x128_0_384))⟩,
   ⟨Rect.unit ![2, 0, 0] ![1, 256, 128] inb_S8x256x128_S1x256x128_2_0_0, k0_pay8 (View.ld X (Rect.unit ![0, 256] ![256, 128] inb_S256x1024_S256x128_0_256))⟩,
   ⟨Rect.unit ![1, 0, 0] ![1, 256, 128] inb_S8x256x128_S1x256x128_1_0_0, k0_pay7 (View.ld X (Rect.unit ![0, 128] ![256, 128] inb_S256x1024_S256x128_0_128))⟩,
   ⟨Rect.unit ![0, 0, 0] ![1, 256, 128] inb_S8x256x128_S1x256x128_0_0_0, k0_pay6 (View.ld X (Rect.unit ![0, 0] ![256, 128] inb_S256x1024_S256x128_0_0))⟩]

theorem canon_cut (X : Vec Ideal S256x1024 .f32) (y : S8x256x128.Idx) : View.canon (pieces X ++ []) y = cut X y := by
  refine View.canon_append_of_piecesOf (Val := Elt Ideal) (e := .bf16) (cut X) _ _ ?_ _ (View.cover_of_tiledBy _ ![1, 256, 128] (by sl_kernel_rfl) y)
  refine ⟨fun x => ?_, fun x => ?_, fun x => ?_, fun x => ?_, fun x => ?_, fun x => ?_, fun x => ?_, fun x => ?_, trivial⟩
  · exact piece X 7 896 inb_S256x1024_S256x128_0_896 inb_S8x256x128_S1x256x128_7_0_0 shapeCasts_S256x128_S1x256x128 (by norm_num) x
  · exact piece X 6 768 inb_S256x1024_S256x128_0_768 inb_S8x256x128_S1x256x128_6_0_0 shapeCasts_S256x128_S1x256x128 (by norm_num) x
  · exact piece X 5 640 inb_S256x1024_S256x128_0_640 inb_S8x256x128_S1x256x128_5_0_0 shapeCasts_S256x128_S1x256x128 (by norm_num) x
  · exact piece X 4 512 inb_S256x1024_S256x128_0_512 inb_S8x256x128_S1x256x128_4_0_0 shapeCasts_S256x128_S1x256x128 (by norm_num) x
  · exact piece X 3 384 inb_S256x1024_S256x128_0_384 inb_S8x256x128_S1x256x128_3_0_0 shapeCasts_S256x128_S1x256x128 (by norm_num) x
  · exact piece X 2 256 inb_S256x1024_S256x128_0_256 inb_S8x256x128_S1x256x128_2_0_0 shapeCasts_S256x128_S1x256x128 (by norm_num) x
  · exact piece X 1 128 inb_S256x1024_S256x128_0_128 inb_S8x256x128_S1x256x128_1_0_0 shapeCasts_S256x128_S1x256x128 (by norm_num) x
  · exact piece X 0 0 inb_S256x1024_S256x128_0_0 inb_S8x256x128_S1x256x128_0_0_0 shapeCasts_S256x128_S1x256x128 (by norm_num) x

theorem outB (c : Dev nD) (t : Fin cfg0.N) (h : ¬t.val % 2 = 0) (h' : t.val % 2 = 1) (q : Fin 8) (r : Fin 256) (k : Fin 128) : (outsAt0 m c t.val t.isLt).1 (ix3 q r k)
    = k0_pay2 (F := Ideal) (outsAt0 m c (t.val - 1) (Nat.lt_of_le_of_lt (Nat.sub_le _ _) t.isLt)).2 (iblk m c 0 t) (iblk m c 1 t) (ix2 r ⟨q.val * 128 + k.val, by omega⟩) := by
  rw [outsAt0_B m c t h h']
  frame_open
  simp (disch := decide) only [↓ View.readCov_skip, ↓ View.readCov_cons_toLoadRect, ↓ View.readCov_fill]
  frame_out
  simp only [read_unread_whole]
  have hc := canon_cut (k0_pay2 (F := Ideal) (outsAt0 m c (t.val - 1) (Nat.lt_of_le_of_lt (Nat.sub_le _ _) t.isLt)).2 (iblk m c 0 t) (iblk m c 1 t)) (ix3 q r k)
  dsimp only [pieces, List.cons_append, List.nil_append] at hc
  exact hc.trans rfl

theorem final2 (c : Dev nD) : (dats m 0 c).arrAt 2 cfg0.N =
    val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 2 = 1 := (flush0_2 t).mp hf
  have hl := lt2 t
  have h1 : t.val = 1 := by omega
  obtain ⟨q, r, k, rfl⟩ : ∃ (q : Fin 8) (r : Fin 256) (k : Fin 128), y = ix3 q r k := ⟨_, _, _, eq_ix3 y⟩
  have e : (((View.whole main_v0).slice (win0_2.rect t)).emb (ix3 q r k)) = ix3 q r k := by blk_ext [idx2]
  refine Eq.trans ?_ ((congrArg _ e).trans (ref_grad _ _ _ _ _)).symm
  refine (outB m c t (by omega) ht q r k).trans ((step m c t _ r ⟨q.val * 128 + k.val, by omega⟩).trans ?_)
  have h0 := congrFun (scA m c ⟨t.val - 1, Nat.lt_of_le_of_lt (Nat.sub_le _ _) t.isLt⟩ (by show (t.val - 1) % 2 = 0; omega) (by show ¬(t.val - 1) % 2 = 1; omega)) (ix2 r ⟨q.val * 128 + k.val, by omega⟩)
  refine (congrArg₂ (fun a b : EReal => a + b) ((h0.trans (step m c _ _ r ⟨q.val * 128 + k.val, by omega⟩)).trans
    (congrArg (fun z : EReal => z + _) (zero_pay r ⟨q.val * 128 + k.val, by omega⟩))) rfl).trans ?_
  rw [zero_add]
  refine Eq.trans ?_ (halves _ _ r ⟨q.val * 128 + k.val, by omega⟩)
  exact congrArg₂ (fun a b : EReal => a + b) (congrArg (fun o => half _ _ o r ⟨q.val * 128 + k.val, by omega⟩) (Fin.ext (by show t.val - 1 = 0; omega)))
    (congrArg (fun o => half _ _ o r ⟨q.val * 128 + k.val, by omega⟩) (Fin.ext (by show t.val = 1; omega)))

end Cert.DilUpProof

end
-- ==== Proof.DilUpClaims.lean ====
module

public import proofs.«01_k».proof.Proof.Gen.DilUp.Frame
public import proofs.«01_k».proof.Proof.DilUp
public import proofs.«01_k».proof.Defs

@[expose] public section

noncomputable section

namespace Cert.Proof.DilUpClaims

open Idealize.ShloMosaic Idealize.ShloMosaic.TcCoe Idealize.SL.Sem

theorem frame_p : Cert.quiescent_DilUp := fun m ρ _ => Cert.DilUp.Gen.frame m ρ
theorem frame_pi : Cert.quiescent_DilUpIdeal := fun m ρ _ => Cert.DilUpIdeal.Gen.frame m ρ
theorem frame_ri : Cert.quiescent_DilUpRefIdeal := fun m ρ _ =>
  (θ_run Cert.DilUpRefIdeal.defs _ _).mono (fun r h => ⟨fun c => (h c).2,
      Idealize.ShloMosaic.sem_eq_zero_of_no_sems (by decide) r.2⟩)
    (Cert.DilUpRefIdeal.Value.run (F := Ideal) m ρ)

open Cert.DilUpIdeal Cert.DilUpIdeal.Gen in
theorem algebraic : Cert.algebraic_DilUpIdeal_DilUpRefIdeal := fun m g m' g' _ hm => by
  refine ⟨fun c => (dats m 0 c).arrAt 2 cfg0.N, ?_, ?_⟩
  · refine (θ_run _ _ _).mono (fun r h c => ?_) (Cert.DilUpIdeal.Value.run_blocks (F := Ideal) m g)
    obtain ⟨h0, ha⟩ := h c
    exact ⟨h0, ha⟩
  · refine (θ_run _ _ _).mono (fun r h c => ?_) (Cert.DilUpRefIdeal.Value.run (F := Ideal) m' g')
    obtain ⟨h0, ha⟩ := h c
    obtain ⟨e0, e1⟩ := hm c
    refine ⟨h0.trans ?_, ha⟩
    all_goals try rw [e0]
    all_goals try rw [e1]
    · exact (Cert.DilUpProof.final2 m c).symm

end Cert.Proof.DilUpClaims

end
-- ==== Proof.Adam.lean ====
module

public import Idealize.ShloMosaic.Lib.MatmulPlain
public import Idealize.ShloMosaic.Lib.Pipeline.ValueKit.Geometry

@[expose] public section

noncomputable section

/-! One step of the optimiser on one entry: the two moments and the change of the weight, from the entry of the weight, the
gradient and the moments. -/

namespace Cert.Adam

open Idealize.ShloMosaic

/-- A constant, as the number its word holds. -/
abbrev lit (b : BitVec 32) : EReal := Ideal.ofBits .f32 b

/-- The first moment after the step. -/
def mom (g m : EReal) : EReal := lit 0x3F666666#32 * m + lit 0x3DCCCCCD#32 * g

/-- The second moment after the step. -/
def sec (g v : EReal) : EReal := lit 0x3F7FBE77#32 * v + lit 0x3A83126F#32 * (g * g)

/-- The change of the weight. -/
def delta (w g m v : EReal) : EReal :=
  lit 0xBA83126F#32 * (Ideal.div (Ideal.div (mom g m) (lit 0x3F26BD02#32))
    (Ideal.sqrt (Ideal.div (sec g v) (lit 0x3C231ACC#32)) + lit 0x322BCC77#32) + lit 0x3C23D70A#32 * w)

end Cert.Adam

end
-- ==== Proof.UpIn.lean ====
module

public import proofs.«01_k».proof.Proof.Adam
public import proofs.«01_k».proof.Proof.Common
public import proofs.«01_k».proof.Proof.Gen.UpInIdeal.Value
public import proofs.«01_k».proof.Proof.Gen.UpInRefIdeal.Read

@[expose] public section

noncomputable section

/-! The optimiser's step on the rows of the input projection: the gradient is the sum of the 4 shards in the order of their senders, and the
step is taken entry by entry. The reference sums the shards at once. -/

namespace Cert.UpInProof

open Idealize.ShloMosaic hiding ix2 eq_ix2 ix3 eq_ix3
open Idealize.ShloMosaic.TcCoe Idealize.ShloMosaic.Tactic Idealize.SL.Sem Idealize.ShloMosaic.ValueIdx
open Cert.UpInIdeal Cert.UpInIdeal.Gen Cert.UpInIdeal.Value
open Cert.UpInRefIdeal.Read Cert.Adam
open Idealize.ShloMosaic.Pipeline (Dat)

abbrev ArrG := (⟨3, ![4, 736, 1024]⟩ : Shape).Idx → EReal
abbrev ArrW := (⟨3, ![1, 736, 1024]⟩ : Shape).Idx → EReal

/-- The gradient's entry: the sum over the senders. -/
def grad (x : ArrG) (r : Fin 736) (k : Fin 1024) : EReal := ∑ j : Fin 4, x (ix3 j r k)

section Reference
variable (x0 : ArrG) (x1 x2 x3 : ArrW) (z : Fin 1) (r : Fin 736) (k : Fin 1024)

theorem ref_grad : val_main_v2 (F := Ideal) x0 (ix3 z r k) = grad x0 r k := by
  rw [val_main_v2_apply, val_main_v1_apply, val_main_cst_apply]
  refine (congrArg (fun a : EReal => a + _) Ideal.ofBits_zero_f32).trans ?_
  rw [zero_add]
  refine Finset.sum_congr rfl fun j _ => ?_
  rw [val_main_v0_apply]
  exact congrArg x0 (eq_ix3 _)

theorem ref_mom : val_main_v7 (F := Ideal) x0 x2 (ix3 z r k) = mom (grad x0 r k) (x2 (ix3 z r k)) := by
  rw [val_main_v7_apply, val_main_v4_apply, val_main_v6_apply, ref_grad, val_main_v3_apply, val_main_v5_apply]
  rfl

theorem ref_sec : val_main_v13 (F := Ideal) x0 x3 (ix3 z r k) = sec (grad x0 r k) (x3 (ix3 z r k)) := by
  rw [val_main_v13_apply, val_main_v9_apply, val_main_v12_apply, val_main_v10_apply, ref_grad, val_main_v8_apply, val_main_v11_apply]
  rfl

theorem ref_delta : val_main_v26 (F := Ideal) x0 x1 x2 x3 (ix3 z r k)
    = delta (x1 (ix3 z r k)) (grad x0 r k) (x2 (ix3 z r k)) (x3 (ix3 z r k)) := by
  rw [val_main_v26_apply, val_main_v24_apply, val_main_v21_apply, val_main_v23_apply, val_main_v15_apply, val_main_v20_apply,
    val_main_v18_apply, val_main_v17_apply, ref_mom, ref_sec, val_main_v25_apply, val_main_v22_apply, val_main_v19_apply,
    val_main_v16_apply, val_main_v14_apply]
  rfl

end Reference

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem ltN (t : Fin cfg0.N) : t.val < 2 := lt_of_lt_of_eq t.isLt N_0

abbrev row (t : Fin cfg0.N) (r : Fin 368) : Fin 736 := ⟨t.val * 368 + r.val, by have := ltN t; omega⟩

abbrev A0 (c : Dev nD) : ArrG := m ((c : Thread nD τ).loc main_arg0)
abbrev A1 (c : Dev nD) : ArrW := m ((c : Thread nD τ).loc main_arg1)
abbrev A2 (c : Dev nD) : ArrW := m ((c : Thread nD τ).loc main_arg2)
abbrev A3 (c : Dev nD) : ArrW := m ((c : Thread nD τ).loc main_arg3)

theorem blk0 (c : Dev nD) (t : Fin cfg0.N) (j : Fin 4) (r : Fin 368) (k : Fin 1024) :
    iblk m c 0 t (ix3 j r k) = A0 m c (ix3 j (row t r) k) := by
  blk_simp [iblk]
  rw [V_main_arg0]
  refine congrArg (m ((c : Thread nD τ).loc main_arg0)) ?_
  blk_ext [idx0]
theorem blk1 (c : Dev nD) (t : Fin cfg0.N) (j : Fin 1) (r : Fin 368) (k : Fin 1024) :
    iblk m c 1 t (ix3 j r k) = A1 m c (ix3 j (row t r) k) := by
  blk_simp [iblk]
  rw [V_main_arg1]
  refine congrArg (m ((c : Thread nD τ).loc main_arg1)) ?_
  blk_ext [idx1]
theorem blk2 (c : Dev nD) (t : Fin cfg0.N) (j : Fin 1) (r : Fin 368) (k : Fin 1024) :
    iblk m c 2 t (ix3 j r k) = A2 m c (ix3 j (row t r) k) := by
  blk_simp [iblk]
  rw [V_main_arg2]
  refine congrArg (m ((c : Thread nD τ).loc main_arg2)) ?_
  blk_ext [idx2]
theorem blk3 (c : Dev nD) (t : Fin cfg0.N) (j : Fin 1) (r : Fin 368) (k : Fin 1024) :
    iblk m c 3 t (ix3 j r k) = A3 m c (ix3 j (row t r) k) := by
  blk_simp [iblk]
  rw [V_main_arg3]
  refine congrArg (m ((c : Thread nD τ).loc main_arg3)) ?_
  blk_ext [idx3]

theorem ld0_0 (c : Dev nD) (t : Fin cfg0.N) (y : S1x368x1024.Idx) :
    View.ld (iblk m c 0 t) r0_0 y = A0 m c (ix3 0 (row t (y 1)) (y 2)) := by
  refine Eq.trans ?_ (blk0 m c t 0 (y 1) (y 2))
  refine congrArg (iblk m c 0 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld0_1 (c : Dev nD) (t : Fin cfg0.N) (y : S1x368x1024.Idx) :
    View.ld (iblk m c 0 t) r0_1 y = A0 m c (ix3 1 (row t (y 1)) (y 2)) := by
  refine Eq.trans ?_ (blk0 m c t 1 (y 1) (y 2))
  refine congrArg (iblk m c 0 t) (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld0_2 (c : Dev nD) (t : Fin cfg0.N) (y : S1x368x1024.Idx) :
    View.ld (iblk m c 0 t) r0_2 y = A0 m c (ix3 2 (row t (y 1)) (y 2)) := by
  refine Eq.trans ?_ (blk0 m c t 2 (y 1) (y 2))
  refine congrArg (iblk m c 0 t) (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld0_3 (c : Dev nD) (t : Fin cfg0.N) (y : S1x368x1024.Idx) :
    View.ld (iblk m c 0 t) r0_3 y = A0 m c (ix3 3 (row t (y 1)) (y 2)) := by
  refine Eq.trans ?_ (blk0 m c t 3 (y 1) (y 2))
  refine congrArg (iblk m c 0 t) (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld_1 (c : Dev nD) (t : Fin cfg0.N) (y : S1x368x1024.Idx) :
    View.ld (iblk m c 1 t) r0_4 y = A1 m c (ix3 0 (row t (y 1)) (y 2)) := by
  refine Eq.trans ?_ (blk1 m c t 0 (y 1) (y 2))
  refine congrArg (iblk m c 1 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_2 (c : Dev nD) (t : Fin cfg0.N) (y : S1x368x1024.Idx) :
    View.ld (iblk m c 2 t) r0_4 y = A2 m c (ix3 0 (row t (y 1)) (y 2)) := by
  refine Eq.trans ?_ (blk2 m c t 0 (y 1) (y 2))
  refine congrArg (iblk m c 2 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_3 (c : Dev nD) (t : Fin cfg0.N) (y : S1x368x1024.Idx) :
    View.ld (iblk m c 3 t) r0_4 y = A3 m c (ix3 0 (row t (y 1)) (y 2)) := by
  refine Eq.trans ?_ (blk3 m c t 0 (y 1) (y 2))
  refine congrArg (iblk m c 3 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

section Entries
variable (c : Dev nD) (t : Fin cfg0.N) (z : Fin 1) (r : Fin 368) (k : Fin 1024)

theorem chain : grad (A0 m c) (row t r) k = A0 m c (ix3 0 (row t r) k) + A0 m c (ix3 1 (row t r) k) + A0 m c (ix3 2 (row t r) k) + A0 m c (ix3 3 (row t r) k) :=
  Fin.sum_univ_four _

theorem new_grad : out0_4 (iblk m c 0 t) (iblk m c 1 t) (iblk m c 2 t) (iblk m c 3 t) (ix3 z r k) = grad (A0 m c) (row t r) k := by
  unfold_out out0_4
  refine (canon4_eq _ _ _ _ (ix3 z r k)).trans ?_
  rw [chain]
  simp only [E4, ld0_0, ld0_1, ld0_2, ld0_3]
  rfl

theorem new_delta : out0_5 (iblk m c 0 t) (iblk m c 1 t) (iblk m c 2 t) (iblk m c 3 t) (ix3 z r k)
    = delta (A1 m c (ix3 z (row t r) k)) (grad (A0 m c) (row t r) k) (A2 m c (ix3 z (row t r) k)) (A3 m c (ix3 z (row t r) k)) := by
  obtain rfl : z = 0 := Subsingleton.elim _ _
  unfold_out out0_5
  refine (canon5_eq _ _ _ _ _ _ _ (ix3 0 r k)).trans ?_
  rw [chain]
  simp only [E5, ld0_0, ld0_1, ld0_2, ld0_3, ld_1, ld_2, ld_3]
  rfl

theorem new_mom : out0_6 (iblk m c 0 t) (iblk m c 1 t) (iblk m c 2 t) (iblk m c 3 t) (ix3 z r k)
    = mom (grad (A0 m c) (row t r) k) (A2 m c (ix3 z (row t r) k)) := by
  obtain rfl : z = 0 := Subsingleton.elim _ _
  unfold_out out0_6
  refine (canon6_eq _ _ _ _ _ (ix3 0 r k)).trans ?_
  rw [chain]
  simp only [E6, ld0_0, ld0_1, ld0_2, ld0_3, ld_2]
  rfl

theorem new_sec : out0_7 (iblk m c 0 t) (iblk m c 1 t) (iblk m c 2 t) (iblk m c 3 t) (ix3 z r k)
    = sec (grad (A0 m c) (row t r) k) (A3 m c (ix3 z (row t r) k)) := by
  obtain rfl : z = 0 := Subsingleton.elim _ _
  unfold_out out0_7
  refine (canon7_eq _ _ _ _ _ (ix3 0 r k)).trans ?_
  rw [chain]
  simp only [E7, ld0_0, ld0_1, ld0_2, ld0_3, ld_3]
  rfl

end Entries

theorem final4 (c : Dev nD) : (dats m 0 c).arrAt 4 cfg0.N = val_main_v2 (F := Ideal) (A0 m c) := by
  refine (dats m 0 c).arrAt_eq_of_covers 4 _ (by decide +kernel) fun t hf y => ?_
  blk_simp
  rw [after0_4]
  obtain ⟨z, r, k, rfl⟩ : ∃ (z : Fin 1) (r : Fin 368) (k : Fin 1024), y = ix3 z r k := ⟨_, _, _, eq_ix3 y⟩
  have e : (((View.whole main_v0_0).slice (win0_4.rect t)).emb (ix3 z r k)) = ix3 z (row t r) k := by blk_ext [idx4]
  refine Eq.trans ?_ ((congrArg _ e).trans (ref_grad (A0 m c) z (row t r) k)).symm
  exact new_grad m c t z r k

theorem final5 (c : Dev nD) : (dats m 0 c).arrAt 5 cfg0.N = val_main_v26 (F := Ideal) (A0 m c) (A1 m c) (A2 m c) (A3 m c) := by
  refine (dats m 0 c).arrAt_eq_of_covers 5 _ (by decide +kernel) fun t hf y => ?_
  blk_simp
  rw [after0_5]
  obtain ⟨z, r, k, rfl⟩ : ∃ (z : Fin 1) (r : Fin 368) (k : Fin 1024), y = ix3 z r k := ⟨_, _, _, eq_ix3 y⟩
  have e : (((View.whole main_v0_1).slice (win0_5.rect t)).emb (ix3 z r k)) = ix3 z (row t r) k := by blk_ext [idx5]
  refine Eq.trans ?_ ((congrArg _ e).trans (ref_delta (A0 m c) (A1 m c) (A2 m c) (A3 m c) z (row t r) k)).symm
  exact new_delta m c t z r k

theorem final6 (c : Dev nD) : (dats m 0 c).arrAt 6 cfg0.N = val_main_v7 (F := Ideal) (A0 m c) (A2 m c) := by
  refine (dats m 0 c).arrAt_eq_of_covers 6 _ (by decide +kernel) fun t hf y => ?_
  blk_simp
  rw [after0_6]
  obtain ⟨z, r, k, rfl⟩ : ∃ (z : Fin 1) (r : Fin 368) (k : Fin 1024), y = ix3 z r k := ⟨_, _, _, eq_ix3 y⟩
  have e : (((View.whole main_v0_2).slice (win0_6.rect t)).emb (ix3 z r k)) = ix3 z (row t r) k := by blk_ext [idx6]
  refine Eq.trans ?_ ((congrArg _ e).trans (ref_mom (A0 m c) (A2 m c) z (row t r) k)).symm
  exact new_mom m c t z r k

theorem final7 (c : Dev nD) : (dats m 0 c).arrAt 7 cfg0.N = val_main_v13 (F := Ideal) (A0 m c) (A3 m c) := by
  refine (dats m 0 c).arrAt_eq_of_covers 7 _ (by decide +kernel) fun t hf y => ?_
  blk_simp
  rw [after0_7]
  obtain ⟨z, r, k, rfl⟩ : ∃ (z : Fin 1) (r : Fin 368) (k : Fin 1024), y = ix3 z r k := ⟨_, _, _, eq_ix3 y⟩
  have e : (((View.whole main_v0_3).slice (win0_7.rect t)).emb (ix3 z r k)) = ix3 z (row t r) k := by blk_ext [idx7]
  refine Eq.trans ?_ ((congrArg _ e).trans (ref_sec (A0 m c) (A3 m c) z (row t r) k)).symm
  exact new_sec m c t z r k

end Cert.UpInProof

end
-- ==== Proof.UpInClaims.lean ====
module

public import proofs.«01_k».proof.Proof.Gen.UpIn.Frame
public import proofs.«01_k».proof.Proof.UpIn
public import proofs.«01_k».proof.Defs

@[expose] public section

noncomputable section

namespace Cert.Proof.UpInClaims

open Idealize.ShloMosaic Idealize.ShloMosaic.TcCoe Idealize.SL.Sem

theorem frame_p : Cert.quiescent_UpIn := fun m ρ _ => Cert.UpIn.Gen.frame m ρ
theorem frame_pi : Cert.quiescent_UpInIdeal := fun m ρ _ => Cert.UpInIdeal.Gen.frame m ρ
theorem frame_ri : Cert.quiescent_UpInRefIdeal := fun m ρ _ =>
  (θ_run Cert.UpInRefIdeal.defs _ _).mono (fun r h => ⟨fun c => (h c).2.2.2.2,
      Idealize.ShloMosaic.sem_eq_zero_of_no_sems (by decide) r.2⟩)
    (Cert.UpInRefIdeal.Value.run (F := Ideal) m ρ)

open Cert.UpInIdeal Cert.UpInIdeal.Gen in
theorem algebraic : Cert.algebraic_UpInIdeal_UpInRefIdeal := fun m g m' g' _ hm => by
  refine ⟨fun c => (dats m 0 c).arrAt 4 cfg0.N, fun c => (dats m 0 c).arrAt 5 cfg0.N,
    fun c => (dats m 0 c).arrAt 6 cfg0.N, fun c => (dats m 0 c).arrAt 7 cfg0.N, ?_, ?_⟩
  · refine (θ_run _ _ _).mono (fun r h c => ?_) (Cert.UpInIdeal.Value.run_blocks (F := Ideal) m g)
    exact h c
  · refine (θ_run _ _ _).mono (fun r h c => ?_) (Cert.UpInRefIdeal.Value.run (F := Ideal) m' g')
    obtain ⟨h0, h1, h2, h3, ha⟩ := h c
    obtain ⟨e0, e1, e2, e3⟩ := hm c
    refine ⟨h0.trans ?_, h1.trans ?_, h2.trans ?_, h3.trans ?_, ha⟩
    all_goals try rw [e0]
    all_goals try rw [e1]
    all_goals try rw [e2]
    all_goals try rw [e3]
    · exact (Cert.UpInProof.final4 m c).symm
    · exact (Cert.UpInProof.final5 m c).symm
    · exact (Cert.UpInProof.final6 m c).symm
    · exact (Cert.UpInProof.final7 m c).symm

end Cert.Proof.UpInClaims

end
-- ==== Proof.UpSb.lean ====
module

public import proofs.«01_k».proof.Proof.Adam
public import proofs.«01_k».proof.Proof.Common
public import proofs.«01_k».proof.Proof.Gen.UpSbIdeal.Value
public import proofs.«01_k».proof.Proof.Gen.UpSbRefIdeal.Read

@[expose] public section

noncomputable section

/-! The optimiser's step on the first of the two up projections: the gradient is the sum of the 8 shards in the order of their senders, and the
step is taken entry by entry. The reference sums the shards at once. -/

namespace Cert.UpSbProof

open Idealize.ShloMosaic hiding ix2 eq_ix2 ix3 eq_ix3
open Idealize.ShloMosaic.TcCoe Idealize.ShloMosaic.Tactic Idealize.SL.Sem Idealize.ShloMosaic.ValueIdx
open Cert.UpSbIdeal Cert.UpSbIdeal.Gen Cert.UpSbIdeal.Value
open Cert.UpSbRefIdeal.Read Cert.Adam
open Idealize.ShloMosaic.Pipeline (Dat)

abbrev ArrG := (⟨3, ![8, 512, 128]⟩ : Shape).Idx → EReal
abbrev ArrW := (⟨3, ![1, 512, 128]⟩ : Shape).Idx → EReal

/-- The gradient's entry: the sum over the senders. -/
def grad (x : ArrG) (r : Fin 512) (k : Fin 128) : EReal := ∑ j : Fin 8, x (ix3 j r k)

section Reference
variable (x0 : ArrG) (x1 x2 x3 : ArrW) (z : Fin 1) (r : Fin 512) (k : Fin 128)

theorem ref_grad : val_main_v2 (F := Ideal) x0 (ix3 z r k) = grad x0 r k := by
  rw [val_main_v2_apply, val_main_v1_apply, val_main_cst_apply]
  refine (congrArg (fun a : EReal => a + _) Ideal.ofBits_zero_f32).trans ?_
  rw [zero_add]
  refine Finset.sum_congr rfl fun j _ => ?_
  rw [val_main_v0_apply]
  exact congrArg x0 (eq_ix3 _)

theorem ref_mom : val_main_v7 (F := Ideal) x0 x2 (ix3 z r k) = mom (grad x0 r k) (x2 (ix3 z r k)) := by
  rw [val_main_v7_apply, val_main_v4_apply, val_main_v6_apply, ref_grad, val_main_v3_apply, val_main_v5_apply]
  rfl

theorem ref_sec : val_main_v13 (F := Ideal) x0 x3 (ix3 z r k) = sec (grad x0 r k) (x3 (ix3 z r k)) := by
  rw [val_main_v13_apply, val_main_v9_apply, val_main_v12_apply, val_main_v10_apply, ref_grad, val_main_v8_apply, val_main_v11_apply]
  rfl

theorem ref_delta : val_main_v26 (F := Ideal) x0 x1 x2 x3 (ix3 z r k)
    = delta (x1 (ix3 z r k)) (grad x0 r k) (x2 (ix3 z r k)) (x3 (ix3 z r k)) := by
  rw [val_main_v26_apply, val_main_v24_apply, val_main_v21_apply, val_main_v23_apply, val_main_v15_apply, val_main_v20_apply,
    val_main_v18_apply, val_main_v17_apply, ref_mom, ref_sec, val_main_v25_apply, val_main_v22_apply, val_main_v19_apply,
    val_main_v16_apply, val_main_v14_apply]
  rfl

end Reference

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem ltN (t : Fin cfg0.N) : t.val < 2 := lt_of_lt_of_eq t.isLt N_0

abbrev row (t : Fin cfg0.N) (r : Fin 256) : Fin 512 := ⟨t.val * 256 + r.val, by have := ltN t; omega⟩

abbrev A0 (c : Dev nD) : ArrG := m ((c : Thread nD τ).loc main_arg0)
abbrev A1 (c : Dev nD) : ArrW := m ((c : Thread nD τ).loc main_arg1)
abbrev A2 (c : Dev nD) : ArrW := m ((c : Thread nD τ).loc main_arg2)
abbrev A3 (c : Dev nD) : ArrW := m ((c : Thread nD τ).loc main_arg3)

theorem blk0 (c : Dev nD) (t : Fin cfg0.N) (j : Fin 8) (r : Fin 256) (k : Fin 128) :
    iblk m c 0 t (ix3 j r k) = A0 m c (ix3 j (row t r) k) := by
  blk_simp [iblk]
  rw [V_main_arg0]
  refine congrArg (m ((c : Thread nD τ).loc main_arg0)) ?_
  blk_ext [idx0]
theorem blk1 (c : Dev nD) (t : Fin cfg0.N) (j : Fin 1) (r : Fin 256) (k : Fin 128) :
    iblk m c 1 t (ix3 j r k) = A1 m c (ix3 j (row t r) k) := by
  blk_simp [iblk]
  rw [V_main_arg1]
  refine congrArg (m ((c : Thread nD τ).loc main_arg1)) ?_
  blk_ext [idx1]
theorem blk2 (c : Dev nD) (t : Fin cfg0.N) (j : Fin 1) (r : Fin 256) (k : Fin 128) :
    iblk m c 2 t (ix3 j r k) = A2 m c (ix3 j (row t r) k) := by
  blk_simp [iblk]
  rw [V_main_arg2]
  refine congrArg (m ((c : Thread nD τ).loc main_arg2)) ?_
  blk_ext [idx2]
theorem blk3 (c : Dev nD) (t : Fin cfg0.N) (j : Fin 1) (r : Fin 256) (k : Fin 128) :
    iblk m c 3 t (ix3 j r k) = A3 m c (ix3 j (row t r) k) := by
  blk_simp [iblk]
  rw [V_main_arg3]
  refine congrArg (m ((c : Thread nD τ).loc main_arg3)) ?_
  blk_ext [idx3]

theorem ld0_0 (c : Dev nD) (t : Fin cfg0.N) (y : S1x256x128.Idx) :
    View.ld (iblk m c 0 t) r0_0 y = A0 m c (ix3 0 (row t (y 1)) (y 2)) := by
  refine Eq.trans ?_ (blk0 m c t 0 (y 1) (y 2))
  refine congrArg (iblk m c 0 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld0_1 (c : Dev nD) (t : Fin cfg0.N) (y : S1x256x128.Idx) :
    View.ld (iblk m c 0 t) r0_1 y = A0 m c (ix3 1 (row t (y 1)) (y 2)) := by
  refine Eq.trans ?_ (blk0 m c t 1 (y 1) (y 2))
  refine congrArg (iblk m c 0 t) (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld0_2 (c : Dev nD) (t : Fin cfg0.N) (y : S1x256x128.Idx) :
    View.ld (iblk m c 0 t) r0_2 y = A0 m c (ix3 2 (row t (y 1)) (y 2)) := by
  refine Eq.trans ?_ (blk0 m c t 2 (y 1) (y 2))
  refine congrArg (iblk m c 0 t) (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld0_3 (c : Dev nD) (t : Fin cfg0.N) (y : S1x256x128.Idx) :
    View.ld (iblk m c 0 t) r0_3 y = A0 m c (ix3 3 (row t (y 1)) (y 2)) := by
  refine Eq.trans ?_ (blk0 m c t 3 (y 1) (y 2))
  refine congrArg (iblk m c 0 t) (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld0_4 (c : Dev nD) (t : Fin cfg0.N) (y : S1x256x128.Idx) :
    View.ld (iblk m c 0 t) r0_4 y = A0 m c (ix3 4 (row t (y 1)) (y 2)) := by
  refine Eq.trans ?_ (blk0 m c t 4 (y 1) (y 2))
  refine congrArg (iblk m c 0 t) (funext fun a => Fin.ext ?_)
  have h0 : (y 0).val < 1 := (y 0).isLt
  match a with
  | ⟨0, _⟩ => show 4 + 1 * (y 0).val = 4; omega
  | ⟨1, _⟩ => show 0 + 1 * (y 1).val = (y 1).val; omega
  | ⟨2, _⟩ => show 0 + 1 * (y 2).val = (y 2).val; omega
theorem ld0_5 (c : Dev nD) (t : Fin cfg0.N) (y : S1x256x128.Idx) :
    View.ld (iblk m c 0 t) r0_5 y = A0 m c (ix3 5 (row t (y 1)) (y 2)) := by
  refine Eq.trans ?_ (blk0 m c t 5 (y 1) (y 2))
  refine congrArg (iblk m c 0 t) (funext fun a => Fin.ext ?_)
  have h0 : (y 0).val < 1 := (y 0).isLt
  match a with
  | ⟨0, _⟩ => show 5 + 1 * (y 0).val = 5; omega
  | ⟨1, _⟩ => show 0 + 1 * (y 1).val = (y 1).val; omega
  | ⟨2, _⟩ => show 0 + 1 * (y 2).val = (y 2).val; omega
theorem ld0_6 (c : Dev nD) (t : Fin cfg0.N) (y : S1x256x128.Idx) :
    View.ld (iblk m c 0 t) r0_6 y = A0 m c (ix3 6 (row t (y 1)) (y 2)) := by
  refine Eq.trans ?_ (blk0 m c t 6 (y 1) (y 2))
  refine congrArg (iblk m c 0 t) (funext fun a => Fin.ext ?_)
  have h0 : (y 0).val < 1 := (y 0).isLt
  match a with
  | ⟨0, _⟩ => show 6 + 1 * (y 0).val = 6; omega
  | ⟨1, _⟩ => show 0 + 1 * (y 1).val = (y 1).val; omega
  | ⟨2, _⟩ => show 0 + 1 * (y 2).val = (y 2).val; omega
theorem ld0_7 (c : Dev nD) (t : Fin cfg0.N) (y : S1x256x128.Idx) :
    View.ld (iblk m c 0 t) r0_7 y = A0 m c (ix3 7 (row t (y 1)) (y 2)) := by
  refine Eq.trans ?_ (blk0 m c t 7 (y 1) (y 2))
  refine congrArg (iblk m c 0 t) (funext fun a => Fin.ext ?_)
  have h0 : (y 0).val < 1 := (y 0).isLt
  match a with
  | ⟨0, _⟩ => show 7 + 1 * (y 0).val = 7; omega
  | ⟨1, _⟩ => show 0 + 1 * (y 1).val = (y 1).val; omega
  | ⟨2, _⟩ => show 0 + 1 * (y 2).val = (y 2).val; omega
theorem ld_1 (c : Dev nD) (t : Fin cfg0.N) (y : S1x256x128.Idx) :
    View.ld (iblk m c 1 t) r0_8 y = A1 m c (ix3 0 (row t (y 1)) (y 2)) := by
  refine Eq.trans ?_ (blk1 m c t 0 (y 1) (y 2))
  refine congrArg (iblk m c 1 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_2 (c : Dev nD) (t : Fin cfg0.N) (y : S1x256x128.Idx) :
    View.ld (iblk m c 2 t) r0_8 y = A2 m c (ix3 0 (row t (y 1)) (y 2)) := by
  refine Eq.trans ?_ (blk2 m c t 0 (y 1) (y 2))
  refine congrArg (iblk m c 2 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_3 (c : Dev nD) (t : Fin cfg0.N) (y : S1x256x128.Idx) :
    View.ld (iblk m c 3 t) r0_8 y = A3 m c (ix3 0 (row t (y 1)) (y 2)) := by
  refine Eq.trans ?_ (blk3 m c t 0 (y 1) (y 2))
  refine congrArg (iblk m c 3 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

section Entries
variable (c : Dev nD) (t : Fin cfg0.N) (z : Fin 1) (r : Fin 256) (k : Fin 128)

theorem chain : grad (A0 m c) (row t r) k = A0 m c (ix3 0 (row t r) k) + A0 m c (ix3 1 (row t r) k) + A0 m c (ix3 2 (row t r) k) + A0 m c (ix3 3 (row t r) k) + A0 m c (ix3 4 (row t r) k) + A0 m c (ix3 5 (row t r) k) + A0 m c (ix3 6 (row t r) k) + A0 m c (ix3 7 (row t r) k) :=
  Fin.sum_univ_eight _

theorem new_grad : out0_4 (iblk m c 0 t) (iblk m c 1 t) (iblk m c 2 t) (iblk m c 3 t) (ix3 z r k) = grad (A0 m c) (row t r) k := by
  unfold_out out0_4
  refine (canon4_eq _ _ _ _ _ _ _ _ (ix3 z r k)).trans ?_
  rw [chain]
  simp only [E4, ld0_0, ld0_1, ld0_2, ld0_3, ld0_4, ld0_5, ld0_6, ld0_7]
  rfl

theorem new_delta : out0_5 (iblk m c 0 t) (iblk m c 1 t) (iblk m c 2 t) (iblk m c 3 t) (ix3 z r k)
    = delta (A1 m c (ix3 z (row t r) k)) (grad (A0 m c) (row t r) k) (A2 m c (ix3 z (row t r) k)) (A3 m c (ix3 z (row t r) k)) := by
  obtain rfl : z = 0 := Subsingleton.elim _ _
  unfold_out out0_5
  refine (canon5_eq _ _ _ _ _ _ _ _ _ _ _ (ix3 0 r k)).trans ?_
  rw [chain]
  simp only [E5, ld0_0, ld0_1, ld0_2, ld0_3, ld0_4, ld0_5, ld0_6, ld0_7, ld_1, ld_2, ld_3]
  rfl

theorem new_mom : out0_6 (iblk m c 0 t) (iblk m c 1 t) (iblk m c 2 t) (iblk m c 3 t) (ix3 z r k)
    = mom (grad (A0 m c) (row t r) k) (A2 m c (ix3 z (row t r) k)) := by
  obtain rfl : z = 0 := Subsingleton.elim _ _
  unfold_out out0_6
  refine (canon6_eq _ _ _ _ _ _ _ _ _ (ix3 0 r k)).trans ?_
  rw [chain]
  simp only [E6, ld0_0, ld0_1, ld0_2, ld0_3, ld0_4, ld0_5, ld0_6, ld0_7, ld_2]
  rfl

theorem new_sec : out0_7 (iblk m c 0 t) (iblk m c 1 t) (iblk m c 2 t) (iblk m c 3 t) (ix3 z r k)
    = sec (grad (A0 m c) (row t r) k) (A3 m c (ix3 z (row t r) k)) := by
  obtain rfl : z = 0 := Subsingleton.elim _ _
  unfold_out out0_7
  refine (canon7_eq _ _ _ _ _ _ _ _ _ (ix3 0 r k)).trans ?_
  rw [chain]
  simp only [E7, ld0_0, ld0_1, ld0_2, ld0_3, ld0_4, ld0_5, ld0_6, ld0_7, ld_3]
  rfl

end Entries

theorem final4 (c : Dev nD) : (dats m 0 c).arrAt 4 cfg0.N = val_main_v2 (F := Ideal) (A0 m c) := by
  refine (dats m 0 c).arrAt_eq_of_covers 4 _ (by decide +kernel) fun t hf y => ?_
  blk_simp
  rw [after0_4]
  obtain ⟨z, r, k, rfl⟩ : ∃ (z : Fin 1) (r : Fin 256) (k : Fin 128), y = ix3 z r k := ⟨_, _, _, eq_ix3 y⟩
  have e : (((View.whole main_v0_0).slice (win0_4.rect t)).emb (ix3 z r k)) = ix3 z (row t r) k := by blk_ext [idx4]
  refine Eq.trans ?_ ((congrArg _ e).trans (ref_grad (A0 m c) z (row t r) k)).symm
  exact new_grad m c t z r k

theorem final5 (c : Dev nD) : (dats m 0 c).arrAt 5 cfg0.N = val_main_v26 (F := Ideal) (A0 m c) (A1 m c) (A2 m c) (A3 m c) := by
  refine (dats m 0 c).arrAt_eq_of_covers 5 _ (by decide +kernel) fun t hf y => ?_
  blk_simp
  rw [after0_5]
  obtain ⟨z, r, k, rfl⟩ : ∃ (z : Fin 1) (r : Fin 256) (k : Fin 128), y = ix3 z r k := ⟨_, _, _, eq_ix3 y⟩
  have e : (((View.whole main_v0_1).slice (win0_5.rect t)).emb (ix3 z r k)) = ix3 z (row t r) k := by blk_ext [idx5]
  refine Eq.trans ?_ ((congrArg _ e).trans (ref_delta (A0 m c) (A1 m c) (A2 m c) (A3 m c) z (row t r) k)).symm
  exact new_delta m c t z r k

theorem final6 (c : Dev nD) : (dats m 0 c).arrAt 6 cfg0.N = val_main_v7 (F := Ideal) (A0 m c) (A2 m c) := by
  refine (dats m 0 c).arrAt_eq_of_covers 6 _ (by decide +kernel) fun t hf y => ?_
  blk_simp
  rw [after0_6]
  obtain ⟨z, r, k, rfl⟩ : ∃ (z : Fin 1) (r : Fin 256) (k : Fin 128), y = ix3 z r k := ⟨_, _, _, eq_ix3 y⟩
  have e : (((View.whole main_v0_2).slice (win0_6.rect t)).emb (ix3 z r k)) = ix3 z (row t r) k := by blk_ext [idx6]
  refine Eq.trans ?_ ((congrArg _ e).trans (ref_mom (A0 m c) (A2 m c) z (row t r) k)).symm
  exact new_mom m c t z r k

theorem final7 (c : Dev nD) : (dats m 0 c).arrAt 7 cfg0.N = val_main_v13 (F := Ideal) (A0 m c) (A3 m c) := by
  refine (dats m 0 c).arrAt_eq_of_covers 7 _ (by decide +kernel) fun t hf y => ?_
  blk_simp
  rw [after0_7]
  obtain ⟨z, r, k, rfl⟩ : ∃ (z : Fin 1) (r : Fin 256) (k : Fin 128), y = ix3 z r k := ⟨_, _, _, eq_ix3 y⟩
  have e : (((View.whole main_v0_3).slice (win0_7.rect t)).emb (ix3 z r k)) = ix3 z (row t r) k := by blk_ext [idx7]
  refine Eq.trans ?_ ((congrArg _ e).trans (ref_sec (A0 m c) (A3 m c) z (row t r) k)).symm
  exact new_sec m c t z r k

end Cert.UpSbProof

end
-- ==== Proof.UpSbClaims.lean ====
module

public import proofs.«01_k».proof.Proof.Gen.UpSb.Frame
public import proofs.«01_k».proof.Proof.UpSb
public import proofs.«01_k».proof.Defs

@[expose] public section

noncomputable section

namespace Cert.Proof.UpSbClaims

open Idealize.ShloMosaic Idealize.ShloMosaic.TcCoe Idealize.SL.Sem

theorem frame_p : Cert.quiescent_UpSb := fun m ρ _ => Cert.UpSb.Gen.frame m ρ
theorem frame_pi : Cert.quiescent_UpSbIdeal := fun m ρ _ => Cert.UpSbIdeal.Gen.frame m ρ
theorem frame_ri : Cert.quiescent_UpSbRefIdeal := fun m ρ _ =>
  (θ_run Cert.UpSbRefIdeal.defs _ _).mono (fun r h => ⟨fun c => (h c).2.2.2.2,
      Idealize.ShloMosaic.sem_eq_zero_of_no_sems (by decide) r.2⟩)
    (Cert.UpSbRefIdeal.Value.run (F := Ideal) m ρ)

open Cert.UpSbIdeal Cert.UpSbIdeal.Gen in
theorem algebraic : Cert.algebraic_UpSbIdeal_UpSbRefIdeal := fun m g m' g' _ hm => by
  refine ⟨fun c => (dats m 0 c).arrAt 4 cfg0.N, fun c => (dats m 0 c).arrAt 5 cfg0.N,
    fun c => (dats m 0 c).arrAt 6 cfg0.N, fun c => (dats m 0 c).arrAt 7 cfg0.N, ?_, ?_⟩
  · refine (θ_run _ _ _).mono (fun r h c => ?_) (Cert.UpSbIdeal.Value.run_blocks (F := Ideal) m g)
    exact h c
  · refine (θ_run _ _ _).mono (fun r h c => ?_) (Cert.UpSbRefIdeal.Value.run (F := Ideal) m' g')
    obtain ⟨h0, h1, h2, h3, ha⟩ := h c
    obtain ⟨e0, e1, e2, e3⟩ := hm c
    refine ⟨h0.trans ?_, h1.trans ?_, h2.trans ?_, h3.trans ?_, ha⟩
    all_goals try rw [e0]
    all_goals try rw [e1]
    all_goals try rw [e2]
    all_goals try rw [e3]
    · exact (Cert.UpSbProof.final4 m c).symm
    · exact (Cert.UpSbProof.final5 m c).symm
    · exact (Cert.UpSbProof.final6 m c).symm
    · exact (Cert.UpSbProof.final7 m c).symm

end Cert.Proof.UpSbClaims

end
-- ==== Proof.UpDil.lean ====
module

public import proofs.«01_k».proof.Proof.Adam
public import proofs.«01_k».proof.Proof.Common
public import proofs.«01_k».proof.Proof.Gen.UpDilIdeal.Value
public import proofs.«01_k».proof.Proof.Gen.UpDilRefIdeal.Read

@[expose] public section

noncomputable section

/-! The optimiser's step on the second of the two up projections: the gradient is the sum of the 8 shards in the order of their senders, and the
step is taken entry by entry. The reference sums the shards at once. -/

namespace Cert.UpDilProof

open Idealize.ShloMosaic hiding ix2 eq_ix2 ix3 eq_ix3
open Idealize.ShloMosaic.TcCoe Idealize.ShloMosaic.Tactic Idealize.SL.Sem Idealize.ShloMosaic.ValueIdx
open Cert.UpDilIdeal Cert.UpDilIdeal.Gen Cert.UpDilIdeal.Value
open Cert.UpDilRefIdeal.Read Cert.Adam
open Idealize.ShloMosaic.Pipeline (Dat)

abbrev ArrG := (⟨3, ![8, 256, 128]⟩ : Shape).Idx → EReal
abbrev ArrW := (⟨3, ![1, 256, 128]⟩ : Shape).Idx → EReal

/-- The gradient's entry: the sum over the senders. -/
def grad (x : ArrG) (r : Fin 256) (k : Fin 128) : EReal := ∑ j : Fin 8, x (ix3 j r k)

section Reference
variable (x0 : ArrG) (x1 x2 x3 : ArrW) (z : Fin 1) (r : Fin 256) (k : Fin 128)

theorem ref_grad : val_main_v2 (F := Ideal) x0 (ix3 z r k) = grad x0 r k := by
  rw [val_main_v2_apply, val_main_v1_apply, val_main_cst_apply]
  refine (congrArg (fun a : EReal => a + _) Ideal.ofBits_zero_f32).trans ?_
  rw [zero_add]
  refine Finset.sum_congr rfl fun j _ => ?_
  rw [val_main_v0_apply]
  exact congrArg x0 (eq_ix3 _)

theorem ref_mom : val_main_v7 (F := Ideal) x0 x2 (ix3 z r k) = mom (grad x0 r k) (x2 (ix3 z r k)) := by
  rw [val_main_v7_apply, val_main_v4_apply, val_main_v6_apply, ref_grad, val_main_v3_apply, val_main_v5_apply]
  rfl

theorem ref_sec : val_main_v13 (F := Ideal) x0 x3 (ix3 z r k) = sec (grad x0 r k) (x3 (ix3 z r k)) := by
  rw [val_main_v13_apply, val_main_v9_apply, val_main_v12_apply, val_main_v10_apply, ref_grad, val_main_v8_apply, val_main_v11_apply]
  rfl

theorem ref_delta : val_main_v26 (F := Ideal) x0 x1 x2 x3 (ix3 z r k)
    = delta (x1 (ix3 z r k)) (grad x0 r k) (x2 (ix3 z r k)) (x3 (ix3 z r k)) := by
  rw [val_main_v26_apply, val_main_v24_apply, val_main_v21_apply, val_main_v23_apply, val_main_v15_apply, val_main_v20_apply,
    val_main_v18_apply, val_main_v17_apply, ref_mom, ref_sec, val_main_v25_apply, val_main_v22_apply, val_main_v19_apply,
    val_main_v16_apply, val_main_v14_apply]
  rfl

end Reference

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem ltN (t : Fin cfg0.N) : t.val < 1 := lt_of_lt_of_eq t.isLt N_0

abbrev row (t : Fin cfg0.N) (r : Fin 256) : Fin 256 := ⟨t.val * 256 + r.val, by have := ltN t; omega⟩

abbrev A0 (c : Dev nD) : ArrG := m ((c : Thread nD τ).loc main_arg0)
abbrev A1 (c : Dev nD) : ArrW := m ((c : Thread nD τ).loc main_arg1)
abbrev A2 (c : Dev nD) : ArrW := m ((c : Thread nD τ).loc main_arg2)
abbrev A3 (c : Dev nD) : ArrW := m ((c : Thread nD τ).loc main_arg3)

theorem blk0 (c : Dev nD) (t : Fin cfg0.N) (j : Fin 8) (r : Fin 256) (k : Fin 128) :
    iblk m c 0 t (ix3 j r k) = A0 m c (ix3 j (row t r) k) := by
  blk_simp [iblk]
  rw [V_main_arg0]
  refine congrArg (m ((c : Thread nD τ).loc main_arg0)) ?_
  blk_ext [idx0]
theorem blk1 (c : Dev nD) (t : Fin cfg0.N) (j : Fin 1) (r : Fin 256) (k : Fin 128) :
    iblk m c 1 t (ix3 j r k) = A1 m c (ix3 j (row t r) k) := by
  blk_simp [iblk]
  rw [V_main_arg1]
  refine congrArg (m ((c : Thread nD τ).loc main_arg1)) ?_
  blk_ext [idx1]
theorem blk2 (c : Dev nD) (t : Fin cfg0.N) (j : Fin 1) (r : Fin 256) (k : Fin 128) :
    iblk m c 2 t (ix3 j r k) = A2 m c (ix3 j (row t r) k) := by
  blk_simp [iblk]
  rw [V_main_arg2]
  refine congrArg (m ((c : Thread nD τ).loc main_arg2)) ?_
  blk_ext [idx2]
theorem blk3 (c : Dev nD) (t : Fin cfg0.N) (j : Fin 1) (r : Fin 256) (k : Fin 128) :
    iblk m c 3 t (ix3 j r k) = A3 m c (ix3 j (row t r) k) := by
  blk_simp [iblk]
  rw [V_main_arg3]
  refine congrArg (m ((c : Thread nD τ).loc main_arg3)) ?_
  blk_ext [idx3]

theorem ld0_0 (c : Dev nD) (t : Fin cfg0.N) (y : S1x256x128.Idx) :
    View.ld (iblk m c 0 t) r0_0 y = A0 m c (ix3 0 (row t (y 1)) (y 2)) := by
  refine Eq.trans ?_ (blk0 m c t 0 (y 1) (y 2))
  refine congrArg (iblk m c 0 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld0_1 (c : Dev nD) (t : Fin cfg0.N) (y : S1x256x128.Idx) :
    View.ld (iblk m c 0 t) r0_1 y = A0 m c (ix3 1 (row t (y 1)) (y 2)) := by
  refine Eq.trans ?_ (blk0 m c t 1 (y 1) (y 2))
  refine congrArg (iblk m c 0 t) (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld0_2 (c : Dev nD) (t : Fin cfg0.N) (y : S1x256x128.Idx) :
    View.ld (iblk m c 0 t) r0_2 y = A0 m c (ix3 2 (row t (y 1)) (y 2)) := by
  refine Eq.trans ?_ (blk0 m c t 2 (y 1) (y 2))
  refine congrArg (iblk m c 0 t) (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld0_3 (c : Dev nD) (t : Fin cfg0.N) (y : S1x256x128.Idx) :
    View.ld (iblk m c 0 t) r0_3 y = A0 m c (ix3 3 (row t (y 1)) (y 2)) := by
  refine Eq.trans ?_ (blk0 m c t 3 (y 1) (y 2))
  refine congrArg (iblk m c 0 t) (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld0_4 (c : Dev nD) (t : Fin cfg0.N) (y : S1x256x128.Idx) :
    View.ld (iblk m c 0 t) r0_4 y = A0 m c (ix3 4 (row t (y 1)) (y 2)) := by
  refine Eq.trans ?_ (blk0 m c t 4 (y 1) (y 2))
  refine congrArg (iblk m c 0 t) (funext fun a => Fin.ext ?_)
  have h0 : (y 0).val < 1 := (y 0).isLt
  match a with
  | ⟨0, _⟩ => show 4 + 1 * (y 0).val = 4; omega
  | ⟨1, _⟩ => show 0 + 1 * (y 1).val = (y 1).val; omega
  | ⟨2, _⟩ => show 0 + 1 * (y 2).val = (y 2).val; omega
theorem ld0_5 (c : Dev nD) (t : Fin cfg0.N) (y : S1x256x128.Idx) :
    View.ld (iblk m c 0 t) r0_5 y = A0 m c (ix3 5 (row t (y 1)) (y 2)) := by
  refine Eq.trans ?_ (blk0 m c t 5 (y 1) (y 2))
  refine congrArg (iblk m c 0 t) (funext fun a => Fin.ext ?_)
  have h0 : (y 0).val < 1 := (y 0).isLt
  match a with
  | ⟨0, _⟩ => show 5 + 1 * (y 0).val = 5; omega
  | ⟨1, _⟩ => show 0 + 1 * (y 1).val = (y 1).val; omega
  | ⟨2, _⟩ => show 0 + 1 * (y 2).val = (y 2).val; omega
theorem ld0_6 (c : Dev nD) (t : Fin cfg0.N) (y : S1x256x128.Idx) :
    View.ld (iblk m c 0 t) r0_6 y = A0 m c (ix3 6 (row t (y 1)) (y 2)) := by
  refine Eq.trans ?_ (blk0 m c t 6 (y 1) (y 2))
  refine congrArg (iblk m c 0 t) (funext fun a => Fin.ext ?_)
  have h0 : (y 0).val < 1 := (y 0).isLt
  match a with
  | ⟨0, _⟩ => show 6 + 1 * (y 0).val = 6; omega
  | ⟨1, _⟩ => show 0 + 1 * (y 1).val = (y 1).val; omega
  | ⟨2, _⟩ => show 0 + 1 * (y 2).val = (y 2).val; omega
theorem ld0_7 (c : Dev nD) (t : Fin cfg0.N) (y : S1x256x128.Idx) :
    View.ld (iblk m c 0 t) r0_7 y = A0 m c (ix3 7 (row t (y 1)) (y 2)) := by
  refine Eq.trans ?_ (blk0 m c t 7 (y 1) (y 2))
  refine congrArg (iblk m c 0 t) (funext fun a => Fin.ext ?_)
  have h0 : (y 0).val < 1 := (y 0).isLt
  match a with
  | ⟨0, _⟩ => show 7 + 1 * (y 0).val = 7; omega
  | ⟨1, _⟩ => show 0 + 1 * (y 1).val = (y 1).val; omega
  | ⟨2, _⟩ => show 0 + 1 * (y 2).val = (y 2).val; omega
theorem ld_1 (c : Dev nD) (t : Fin cfg0.N) (y : S1x256x128.Idx) :
    View.ld (iblk m c 1 t) r0_8 y = A1 m c (ix3 0 (row t (y 1)) (y 2)) := by
  refine Eq.trans ?_ (blk1 m c t 0 (y 1) (y 2))
  refine congrArg (iblk m c 1 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_2 (c : Dev nD) (t : Fin cfg0.N) (y : S1x256x128.Idx) :
    View.ld (iblk m c 2 t) r0_8 y = A2 m c (ix3 0 (row t (y 1)) (y 2)) := by
  refine Eq.trans ?_ (blk2 m c t 0 (y 1) (y 2))
  refine congrArg (iblk m c 2 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_3 (c : Dev nD) (t : Fin cfg0.N) (y : S1x256x128.Idx) :
    View.ld (iblk m c 3 t) r0_8 y = A3 m c (ix3 0 (row t (y 1)) (y 2)) := by
  refine Eq.trans ?_ (blk3 m c t 0 (y 1) (y 2))
  refine congrArg (iblk m c 3 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

section Entries
variable (c : Dev nD) (t : Fin cfg0.N) (z : Fin 1) (r : Fin 256) (k : Fin 128)

theorem chain : grad (A0 m c) (row t r) k = A0 m c (ix3 0 (row t r) k) + A0 m c (ix3 1 (row t r) k) + A0 m c (ix3 2 (row t r) k) + A0 m c (ix3 3 (row t r) k) + A0 m c (ix3 4 (row t r) k) + A0 m c (ix3 5 (row t r) k) + A0 m c (ix3 6 (row t r) k) + A0 m c (ix3 7 (row t r) k) :=
  Fin.sum_univ_eight _

theorem new_grad : out0_4 (iblk m c 0 t) (iblk m c 1 t) (iblk m c 2 t) (iblk m c 3 t) (ix3 z r k) = grad (A0 m c) (row t r) k := by
  unfold_out out0_4
  refine (canon4_eq _ _ _ _ _ _ _ _ (ix3 z r k)).trans ?_
  rw [chain]
  simp only [E4, ld0_0, ld0_1, ld0_2, ld0_3, ld0_4, ld0_5, ld0_6, ld0_7]
  rfl

theorem new_delta : out0_5 (iblk m c 0 t) (iblk m c 1 t) (iblk m c 2 t) (iblk m c 3 t) (ix3 z r k)
    = delta (A1 m c (ix3 z (row t r) k)) (grad (A0 m c) (row t r) k) (A2 m c (ix3 z (row t r) k)) (A3 m c (ix3 z (row t r) k)) := by
  obtain rfl : z = 0 := Subsingleton.elim _ _
  unfold_out out0_5
  refine (canon5_eq _ _ _ _ _ _ _ _ _ _ _ (ix3 0 r k)).trans ?_
  rw [chain]
  simp only [E5, ld0_0, ld0_1, ld0_2, ld0_3, ld0_4, ld0_5, ld0_6, ld0_7, ld_1, ld_2, ld_3]
  rfl

theorem new_mom : out0_6 (iblk m c 0 t) (iblk m c 1 t) (iblk m c 2 t) (iblk m c 3 t) (ix3 z r k)
    = mom (grad (A0 m c) (row t r) k) (A2 m c (ix3 z (row t r) k)) := by
  obtain rfl : z = 0 := Subsingleton.elim _ _
  unfold_out out0_6
  refine (canon6_eq _ _ _ _ _ _ _ _ _ (ix3 0 r k)).trans ?_
  rw [chain]
  simp only [E6, ld0_0, ld0_1, ld0_2, ld0_3, ld0_4, ld0_5, ld0_6, ld0_7, ld_2]
  rfl

theorem new_sec : out0_7 (iblk m c 0 t) (iblk m c 1 t) (iblk m c 2 t) (iblk m c 3 t) (ix3 z r k)
    = sec (grad (A0 m c) (row t r) k) (A3 m c (ix3 z (row t r) k)) := by
  obtain rfl : z = 0 := Subsingleton.elim _ _
  unfold_out out0_7
  refine (canon7_eq _ _ _ _ _ _ _ _ _ (ix3 0 r k)).trans ?_
  rw [chain]
  simp only [E7, ld0_0, ld0_1, ld0_2, ld0_3, ld0_4, ld0_5, ld0_6, ld0_7, ld_3]
  rfl

end Entries

theorem final4 (c : Dev nD) : (dats m 0 c).arrAt 4 cfg0.N = val_main_v2 (F := Ideal) (A0 m c) := by
  refine (dats m 0 c).arrAt_eq_of_covers 4 _ (by decide +kernel) fun t hf y => ?_
  blk_simp
  rw [after0_4]
  obtain ⟨z, r, k, rfl⟩ : ∃ (z : Fin 1) (r : Fin 256) (k : Fin 128), y = ix3 z r k := ⟨_, _, _, eq_ix3 y⟩
  have e : (((View.whole main_v0_0).slice (win0_4.rect t)).emb (ix3 z r k)) = ix3 z (row t r) k := by blk_ext [idx4]
  refine Eq.trans ?_ ((congrArg _ e).trans (ref_grad (A0 m c) z (row t r) k)).symm
  exact new_grad m c t z r k

theorem final5 (c : Dev nD) : (dats m 0 c).arrAt 5 cfg0.N = val_main_v26 (F := Ideal) (A0 m c) (A1 m c) (A2 m c) (A3 m c) := by
  refine (dats m 0 c).arrAt_eq_of_covers 5 _ (by decide +kernel) fun t hf y => ?_
  blk_simp
  rw [after0_5]
  obtain ⟨z, r, k, rfl⟩ : ∃ (z : Fin 1) (r : Fin 256) (k : Fin 128), y = ix3 z r k := ⟨_, _, _, eq_ix3 y⟩
  have e : (((View.whole main_v0_1).slice (win0_5.rect t)).emb (ix3 z r k)) = ix3 z (row t r) k := by blk_ext [idx5]
  refine Eq.trans ?_ ((congrArg _ e).trans (ref_delta (A0 m c) (A1 m c) (A2 m c) (A3 m c) z (row t r) k)).symm
  exact new_delta m c t z r k

theorem final6 (c : Dev nD) : (dats m 0 c).arrAt 6 cfg0.N = val_main_v7 (F := Ideal) (A0 m c) (A2 m c) := by
  refine (dats m 0 c).arrAt_eq_of_covers 6 _ (by decide +kernel) fun t hf y => ?_
  blk_simp
  rw [after0_6]
  obtain ⟨z, r, k, rfl⟩ : ∃ (z : Fin 1) (r : Fin 256) (k : Fin 128), y = ix3 z r k := ⟨_, _, _, eq_ix3 y⟩
  have e : (((View.whole main_v0_2).slice (win0_6.rect t)).emb (ix3 z r k)) = ix3 z (row t r) k := by blk_ext [idx6]
  refine Eq.trans ?_ ((congrArg _ e).trans (ref_mom (A0 m c) (A2 m c) z (row t r) k)).symm
  exact new_mom m c t z r k

theorem final7 (c : Dev nD) : (dats m 0 c).arrAt 7 cfg0.N = val_main_v13 (F := Ideal) (A0 m c) (A3 m c) := by
  refine (dats m 0 c).arrAt_eq_of_covers 7 _ (by decide +kernel) fun t hf y => ?_
  blk_simp
  rw [after0_7]
  obtain ⟨z, r, k, rfl⟩ : ∃ (z : Fin 1) (r : Fin 256) (k : Fin 128), y = ix3 z r k := ⟨_, _, _, eq_ix3 y⟩
  have e : (((View.whole main_v0_3).slice (win0_7.rect t)).emb (ix3 z r k)) = ix3 z (row t r) k := by blk_ext [idx7]
  refine Eq.trans ?_ ((congrArg _ e).trans (ref_sec (A0 m c) (A3 m c) z (row t r) k)).symm
  exact new_sec m c t z r k

end Cert.UpDilProof

end
-- ==== Proof.UpDilClaims.lean ====
module

public import proofs.«01_k».proof.Proof.Gen.UpDil.Frame
public import proofs.«01_k».proof.Proof.UpDil
public import proofs.«01_k».proof.Defs

@[expose] public section

noncomputable section

namespace Cert.Proof.UpDilClaims

open Idealize.ShloMosaic Idealize.ShloMosaic.TcCoe Idealize.SL.Sem

theorem frame_p : Cert.quiescent_UpDil := fun m ρ _ => Cert.UpDil.Gen.frame m ρ
theorem frame_pi : Cert.quiescent_UpDilIdeal := fun m ρ _ => Cert.UpDilIdeal.Gen.frame m ρ
theorem frame_ri : Cert.quiescent_UpDilRefIdeal := fun m ρ _ =>
  (θ_run Cert.UpDilRefIdeal.defs _ _).mono (fun r h => ⟨fun c => (h c).2.2.2.2,
      Idealize.ShloMosaic.sem_eq_zero_of_no_sems (by decide) r.2⟩)
    (Cert.UpDilRefIdeal.Value.run (F := Ideal) m ρ)

open Cert.UpDilIdeal Cert.UpDilIdeal.Gen in
theorem algebraic : Cert.algebraic_UpDilIdeal_UpDilRefIdeal := fun m g m' g' _ hm => by
  refine ⟨fun c => (dats m 0 c).arrAt 4 cfg0.N, fun c => (dats m 0 c).arrAt 5 cfg0.N,
    fun c => (dats m 0 c).arrAt 6 cfg0.N, fun c => (dats m 0 c).arrAt 7 cfg0.N, ?_, ?_⟩
  · refine (θ_run _ _ _).mono (fun r h c => ?_) (Cert.UpDilIdeal.Value.run_blocks (F := Ideal) m g)
    exact h c
  · refine (θ_run _ _ _).mono (fun r h c => ?_) (Cert.UpDilRefIdeal.Value.run (F := Ideal) m' g')
    obtain ⟨h0, h1, h2, h3, ha⟩ := h c
    obtain ⟨e0, e1, e2, e3⟩ := hm c
    refine ⟨h0.trans ?_, h1.trans ?_, h2.trans ?_, h3.trans ?_, ha⟩
    all_goals try rw [e0]
    all_goals try rw [e1]
    all_goals try rw [e2]
    all_goals try rw [e3]
    · exact (Cert.UpDilProof.final4 m c).symm
    · exact (Cert.UpDilProof.final5 m c).symm
    · exact (Cert.UpDilProof.final6 m c).symm
    · exact (Cert.UpDilProof.final7 m c).symm

end Cert.Proof.UpDilClaims

end
-- ==== Proof.UpOut.lean ====
module

public import proofs.«01_k».proof.Proof.Adam
public import proofs.«01_k».proof.Proof.Common
public import proofs.«01_k».proof.Proof.Gen.UpOutIdeal.Value
public import proofs.«01_k».proof.Proof.Gen.UpOutRefIdeal.Read

@[expose] public section

noncomputable section

/-! The optimiser's step on the output projection of the merge: the gradient is the sum of the 8 shards in the order of their senders, and the
step is taken entry by entry. The reference sums the shards at once. -/

namespace Cert.UpOutProof

open Idealize.ShloMosaic hiding ix2 eq_ix2 ix3 eq_ix3
open Idealize.ShloMosaic.TcCoe Idealize.ShloMosaic.Tactic Idealize.SL.Sem Idealize.ShloMosaic.ValueIdx
open Cert.UpOutIdeal Cert.UpOutIdeal.Gen Cert.UpOutIdeal.Value
open Cert.UpOutRefIdeal.Read Cert.Adam
open Idealize.ShloMosaic.Pipeline (Dat)

abbrev ArrG := (⟨3, ![8, 128, 1024]⟩ : Shape).Idx → EReal
abbrev ArrW := (⟨3, ![1, 128, 1024]⟩ : Shape).Idx → EReal

/-- The gradient's entry: the sum over the senders. -/
def grad (x : ArrG) (r : Fin 128) (k : Fin 1024) : EReal := ∑ j : Fin 8, x (ix3 j r k)

section Reference
variable (x0 : ArrG) (x1 x2 x3 : ArrW) (z : Fin 1) (r : Fin 128) (k : Fin 1024)

theorem ref_grad : val_main_v2 (F := Ideal) x0 (ix3 z r k) = grad x0 r k := by
  rw [val_main_v2_apply, val_main_v1_apply, val_main_cst_apply]
  refine (congrArg (fun a : EReal => a + _) Ideal.ofBits_zero_f32).trans ?_
  rw [zero_add]
  refine Finset.sum_congr rfl fun j _ => ?_
  rw [val_main_v0_apply]
  exact congrArg x0 (eq_ix3 _)

theorem ref_mom : val_main_v7 (F := Ideal) x0 x2 (ix3 z r k) = mom (grad x0 r k) (x2 (ix3 z r k)) := by
  rw [val_main_v7_apply, val_main_v4_apply, val_main_v6_apply, ref_grad, val_main_v3_apply, val_main_v5_apply]
  rfl

theorem ref_sec : val_main_v13 (F := Ideal) x0 x3 (ix3 z r k) = sec (grad x0 r k) (x3 (ix3 z r k)) := by
  rw [val_main_v13_apply, val_main_v9_apply, val_main_v12_apply, val_main_v10_apply, ref_grad, val_main_v8_apply, val_main_v11_apply]
  rfl

theorem ref_delta : val_main_v26 (F := Ideal) x0 x1 x2 x3 (ix3 z r k)
    = delta (x1 (ix3 z r k)) (grad x0 r k) (x2 (ix3 z r k)) (x3 (ix3 z r k)) := by
  rw [val_main_v26_apply, val_main_v24_apply, val_main_v21_apply, val_main_v23_apply, val_main_v15_apply, val_main_v20_apply,
    val_main_v18_apply, val_main_v17_apply, ref_mom, ref_sec, val_main_v25_apply, val_main_v22_apply, val_main_v19_apply,
    val_main_v16_apply, val_main_v14_apply]
  rfl

end Reference

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem ltN (t : Fin cfg0.N) : t.val < 1 := lt_of_lt_of_eq t.isLt N_0

abbrev row (t : Fin cfg0.N) (r : Fin 128) : Fin 128 := ⟨t.val * 128 + r.val, by have := ltN t; omega⟩

abbrev A0 (c : Dev nD) : ArrG := m ((c : Thread nD τ).loc main_arg0)
abbrev A1 (c : Dev nD) : ArrW := m ((c : Thread nD τ).loc main_arg1)
abbrev A2 (c : Dev nD) : ArrW := m ((c : Thread nD τ).loc main_arg2)
abbrev A3 (c : Dev nD) : ArrW := m ((c : Thread nD τ).loc main_arg3)

theorem blk0 (c : Dev nD) (t : Fin cfg0.N) (j : Fin 8) (r : Fin 128) (k : Fin 1024) :
    iblk m c 0 t (ix3 j r k) = A0 m c (ix3 j (row t r) k) := by
  blk_simp [iblk]
  rw [V_main_arg0]
  refine congrArg (m ((c : Thread nD τ).loc main_arg0)) ?_
  blk_ext [idx0]
theorem blk1 (c : Dev nD) (t : Fin cfg0.N) (j : Fin 1) (r : Fin 128) (k : Fin 1024) :
    iblk m c 1 t (ix3 j r k) = A1 m c (ix3 j (row t r) k) := by
  blk_simp [iblk]
  rw [V_main_arg1]
  refine congrArg (m ((c : Thread nD τ).loc main_arg1)) ?_
  blk_ext [idx1]
theorem blk2 (c : Dev nD) (t : Fin cfg0.N) (j : Fin 1) (r : Fin 128) (k : Fin 1024) :
    iblk m c 2 t (ix3 j r k) = A2 m c (ix3 j (row t r) k) := by
  blk_simp [iblk]
  rw [V_main_arg2]
  refine congrArg (m ((c : Thread nD τ).loc main_arg2)) ?_
  blk_ext [idx2]
theorem blk3 (c : Dev nD) (t : Fin cfg0.N) (j : Fin 1) (r : Fin 128) (k : Fin 1024) :
    iblk m c 3 t (ix3 j r k) = A3 m c (ix3 j (row t r) k) := by
  blk_simp [iblk]
  rw [V_main_arg3]
  refine congrArg (m ((c : Thread nD τ).loc main_arg3)) ?_
  blk_ext [idx3]

theorem ld0_0 (c : Dev nD) (t : Fin cfg0.N) (y : S1x128x1024.Idx) :
    View.ld (iblk m c 0 t) r0_0 y = A0 m c (ix3 0 (row t (y 1)) (y 2)) := by
  refine Eq.trans ?_ (blk0 m c t 0 (y 1) (y 2))
  refine congrArg (iblk m c 0 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld0_1 (c : Dev nD) (t : Fin cfg0.N) (y : S1x128x1024.Idx) :
    View.ld (iblk m c 0 t) r0_1 y = A0 m c (ix3 1 (row t (y 1)) (y 2)) := by
  refine Eq.trans ?_ (blk0 m c t 1 (y 1) (y 2))
  refine congrArg (iblk m c 0 t) (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld0_2 (c : Dev nD) (t : Fin cfg0.N) (y : S1x128x1024.Idx) :
    View.ld (iblk m c 0 t) r0_2 y = A0 m c (ix3 2 (row t (y 1)) (y 2)) := by
  refine Eq.trans ?_ (blk0 m c t 2 (y 1) (y 2))
  refine congrArg (iblk m c 0 t) (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld0_3 (c : Dev nD) (t : Fin cfg0.N) (y : S1x128x1024.Idx) :
    View.ld (iblk m c 0 t) r0_3 y = A0 m c (ix3 3 (row t (y 1)) (y 2)) := by
  refine Eq.trans ?_ (blk0 m c t 3 (y 1) (y 2))
  refine congrArg (iblk m c 0 t) (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld0_4 (c : Dev nD) (t : Fin cfg0.N) (y : S1x128x1024.Idx) :
    View.ld (iblk m c 0 t) r0_4 y = A0 m c (ix3 4 (row t (y 1)) (y 2)) := by
  refine Eq.trans ?_ (blk0 m c t 4 (y 1) (y 2))
  refine congrArg (iblk m c 0 t) (funext fun a => Fin.ext ?_)
  have h0 : (y 0).val < 1 := (y 0).isLt
  match a with
  | ⟨0, _⟩ => show 4 + 1 * (y 0).val = 4; omega
  | ⟨1, _⟩ => show 0 + 1 * (y 1).val = (y 1).val; omega
  | ⟨2, _⟩ => show 0 + 1 * (y 2).val = (y 2).val; omega
theorem ld0_5 (c : Dev nD) (t : Fin cfg0.N) (y : S1x128x1024.Idx) :
    View.ld (iblk m c 0 t) r0_5 y = A0 m c (ix3 5 (row t (y 1)) (y 2)) := by
  refine Eq.trans ?_ (blk0 m c t 5 (y 1) (y 2))
  refine congrArg (iblk m c 0 t) (funext fun a => Fin.ext ?_)
  have h0 : (y 0).val < 1 := (y 0).isLt
  match a with
  | ⟨0, _⟩ => show 5 + 1 * (y 0).val = 5; omega
  | ⟨1, _⟩ => show 0 + 1 * (y 1).val = (y 1).val; omega
  | ⟨2, _⟩ => show 0 + 1 * (y 2).val = (y 2).val; omega
theorem ld0_6 (c : Dev nD) (t : Fin cfg0.N) (y : S1x128x1024.Idx) :
    View.ld (iblk m c 0 t) r0_6 y = A0 m c (ix3 6 (row t (y 1)) (y 2)) := by
  refine Eq.trans ?_ (blk0 m c t 6 (y 1) (y 2))
  refine congrArg (iblk m c 0 t) (funext fun a => Fin.ext ?_)
  have h0 : (y 0).val < 1 := (y 0).isLt
  match a with
  | ⟨0, _⟩ => show 6 + 1 * (y 0).val = 6; omega
  | ⟨1, _⟩ => show 0 + 1 * (y 1).val = (y 1).val; omega
  | ⟨2, _⟩ => show 0 + 1 * (y 2).val = (y 2).val; omega
theorem ld0_7 (c : Dev nD) (t : Fin cfg0.N) (y : S1x128x1024.Idx) :
    View.ld (iblk m c 0 t) r0_7 y = A0 m c (ix3 7 (row t (y 1)) (y 2)) := by
  refine Eq.trans ?_ (blk0 m c t 7 (y 1) (y 2))
  refine congrArg (iblk m c 0 t) (funext fun a => Fin.ext ?_)
  have h0 : (y 0).val < 1 := (y 0).isLt
  match a with
  | ⟨0, _⟩ => show 7 + 1 * (y 0).val = 7; omega
  | ⟨1, _⟩ => show 0 + 1 * (y 1).val = (y 1).val; omega
  | ⟨2, _⟩ => show 0 + 1 * (y 2).val = (y 2).val; omega
theorem ld_1 (c : Dev nD) (t : Fin cfg0.N) (y : S1x128x1024.Idx) :
    View.ld (iblk m c 1 t) r0_8 y = A1 m c (ix3 0 (row t (y 1)) (y 2)) := by
  refine Eq.trans ?_ (blk1 m c t 0 (y 1) (y 2))
  refine congrArg (iblk m c 1 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_2 (c : Dev nD) (t : Fin cfg0.N) (y : S1x128x1024.Idx) :
    View.ld (iblk m c 2 t) r0_8 y = A2 m c (ix3 0 (row t (y 1)) (y 2)) := by
  refine Eq.trans ?_ (blk2 m c t 0 (y 1) (y 2))
  refine congrArg (iblk m c 2 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_3 (c : Dev nD) (t : Fin cfg0.N) (y : S1x128x1024.Idx) :
    View.ld (iblk m c 3 t) r0_8 y = A3 m c (ix3 0 (row t (y 1)) (y 2)) := by
  refine Eq.trans ?_ (blk3 m c t 0 (y 1) (y 2))
  refine congrArg (iblk m c 3 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

section Entries
variable (c : Dev nD) (t : Fin cfg0.N) (z : Fin 1) (r : Fin 128) (k : Fin 1024)

theorem chain : grad (A0 m c) (row t r) k = A0 m c (ix3 0 (row t r) k) + A0 m c (ix3 1 (row t r) k) + A0 m c (ix3 2 (row t r) k) + A0 m c (ix3 3 (row t r) k) + A0 m c (ix3 4 (row t r) k) + A0 m c (ix3 5 (row t r) k) + A0 m c (ix3 6 (row t r) k) + A0 m c (ix3 7 (row t r) k) :=
  Fin.sum_univ_eight _

theorem new_grad : out0_4 (iblk m c 0 t) (iblk m c 1 t) (iblk m c 2 t) (iblk m c 3 t) (ix3 z r k) = grad (A0 m c) (row t r) k := by
  unfold_out out0_4
  refine (canon4_eq _ _ _ _ _ _ _ _ (ix3 z r k)).trans ?_
  rw [chain]
  simp only [E4, ld0_0, ld0_1, ld0_2, ld0_3, ld0_4, ld0_5, ld0_6, ld0_7]
  rfl

theorem new_delta : out0_5 (iblk m c 0 t) (iblk m c 1 t) (iblk m c 2 t) (iblk m c 3 t) (ix3 z r k)
    = delta (A1 m c (ix3 z (row t r) k)) (grad (A0 m c) (row t r) k) (A2 m c (ix3 z (row t r) k)) (A3 m c (ix3 z (row t r) k)) := by
  obtain rfl : z = 0 := Subsingleton.elim _ _
  unfold_out out0_5
  refine (canon5_eq _ _ _ _ _ _ _ _ _ _ _ (ix3 0 r k)).trans ?_
  rw [chain]
  simp only [E5, ld0_0, ld0_1, ld0_2, ld0_3, ld0_4, ld0_5, ld0_6, ld0_7, ld_1, ld_2, ld_3]
  rfl

theorem new_mom : out0_6 (iblk m c 0 t) (iblk m c 1 t) (iblk m c 2 t) (iblk m c 3 t) (ix3 z r k)
    = mom (grad (A0 m c) (row t r) k) (A2 m c (ix3 z (row t r) k)) := by
  obtain rfl : z = 0 := Subsingleton.elim _ _
  unfold_out out0_6
  refine (canon6_eq _ _ _ _ _ _ _ _ _ (ix3 0 r k)).trans ?_
  rw [chain]
  simp only [E6, ld0_0, ld0_1, ld0_2, ld0_3, ld0_4, ld0_5, ld0_6, ld0_7, ld_2]
  rfl

theorem new_sec : out0_7 (iblk m c 0 t) (iblk m c 1 t) (iblk m c 2 t) (iblk m c 3 t) (ix3 z r k)
    = sec (grad (A0 m c) (row t r) k) (A3 m c (ix3 z (row t r) k)) := by
  obtain rfl : z = 0 := Subsingleton.elim _ _
  unfold_out out0_7
  refine (canon7_eq _ _ _ _ _ _ _ _ _ (ix3 0 r k)).trans ?_
  rw [chain]
  simp only [E7, ld0_0, ld0_1, ld0_2, ld0_3, ld0_4, ld0_5, ld0_6, ld0_7, ld_3]
  rfl

end Entries

theorem final4 (c : Dev nD) : (dats m 0 c).arrAt 4 cfg0.N = val_main_v2 (F := Ideal) (A0 m c) := by
  refine (dats m 0 c).arrAt_eq_of_covers 4 _ (by decide +kernel) fun t hf y => ?_
  blk_simp
  rw [after0_4]
  obtain ⟨z, r, k, rfl⟩ : ∃ (z : Fin 1) (r : Fin 128) (k : Fin 1024), y = ix3 z r k := ⟨_, _, _, eq_ix3 y⟩
  have e : (((View.whole main_v0_0).slice (win0_4.rect t)).emb (ix3 z r k)) = ix3 z (row t r) k := by blk_ext [idx4]
  refine Eq.trans ?_ ((congrArg _ e).trans (ref_grad (A0 m c) z (row t r) k)).symm
  exact new_grad m c t z r k

theorem final5 (c : Dev nD) : (dats m 0 c).arrAt 5 cfg0.N = val_main_v26 (F := Ideal) (A0 m c) (A1 m c) (A2 m c) (A3 m c) := by
  refine (dats m 0 c).arrAt_eq_of_covers 5 _ (by decide +kernel) fun t hf y => ?_
  blk_simp
  rw [after0_5]
  obtain ⟨z, r, k, rfl⟩ : ∃ (z : Fin 1) (r : Fin 128) (k : Fin 1024), y = ix3 z r k := ⟨_, _, _, eq_ix3 y⟩
  have e : (((View.whole main_v0_1).slice (win0_5.rect t)).emb (ix3 z r k)) = ix3 z (row t r) k := by blk_ext [idx5]
  refine Eq.trans ?_ ((congrArg _ e).trans (ref_delta (A0 m c) (A1 m c) (A2 m c) (A3 m c) z (row t r) k)).symm
  exact new_delta m c t z r k

theorem final6 (c : Dev nD) : (dats m 0 c).arrAt 6 cfg0.N = val_main_v7 (F := Ideal) (A0 m c) (A2 m c) := by
  refine (dats m 0 c).arrAt_eq_of_covers 6 _ (by decide +kernel) fun t hf y => ?_
  blk_simp
  rw [after0_6]
  obtain ⟨z, r, k, rfl⟩ : ∃ (z : Fin 1) (r : Fin 128) (k : Fin 1024), y = ix3 z r k := ⟨_, _, _, eq_ix3 y⟩
  have e : (((View.whole main_v0_2).slice (win0_6.rect t)).emb (ix3 z r k)) = ix3 z (row t r) k := by blk_ext [idx6]
  refine Eq.trans ?_ ((congrArg _ e).trans (ref_mom (A0 m c) (A2 m c) z (row t r) k)).symm
  exact new_mom m c t z r k

theorem final7 (c : Dev nD) : (dats m 0 c).arrAt 7 cfg0.N = val_main_v13 (F := Ideal) (A0 m c) (A3 m c) := by
  refine (dats m 0 c).arrAt_eq_of_covers 7 _ (by decide +kernel) fun t hf y => ?_
  blk_simp
  rw [after0_7]
  obtain ⟨z, r, k, rfl⟩ : ∃ (z : Fin 1) (r : Fin 128) (k : Fin 1024), y = ix3 z r k := ⟨_, _, _, eq_ix3 y⟩
  have e : (((View.whole main_v0_3).slice (win0_7.rect t)).emb (ix3 z r k)) = ix3 z (row t r) k := by blk_ext [idx7]
  refine Eq.trans ?_ ((congrArg _ e).trans (ref_sec (A0 m c) (A3 m c) z (row t r) k)).symm
  exact new_sec m c t z r k

end Cert.UpOutProof

end
-- ==== Proof.UpOutClaims.lean ====
module

public import proofs.«01_k».proof.Proof.Gen.UpOut.Frame
public import proofs.«01_k».proof.Proof.UpOut
public import proofs.«01_k».proof.Defs

@[expose] public section

noncomputable section

namespace Cert.Proof.UpOutClaims

open Idealize.ShloMosaic Idealize.ShloMosaic.TcCoe Idealize.SL.Sem

theorem frame_p : Cert.quiescent_UpOut := fun m ρ _ => Cert.UpOut.Gen.frame m ρ
theorem frame_pi : Cert.quiescent_UpOutIdeal := fun m ρ _ => Cert.UpOutIdeal.Gen.frame m ρ
theorem frame_ri : Cert.quiescent_UpOutRefIdeal := fun m ρ _ =>
  (θ_run Cert.UpOutRefIdeal.defs _ _).mono (fun r h => ⟨fun c => (h c).2.2.2.2,
      Idealize.ShloMosaic.sem_eq_zero_of_no_sems (by decide) r.2⟩)
    (Cert.UpOutRefIdeal.Value.run (F := Ideal) m ρ)

open Cert.UpOutIdeal Cert.UpOutIdeal.Gen in
theorem algebraic : Cert.algebraic_UpOutIdeal_UpOutRefIdeal := fun m g m' g' _ hm => by
  refine ⟨fun c => (dats m 0 c).arrAt 4 cfg0.N, fun c => (dats m 0 c).arrAt 5 cfg0.N,
    fun c => (dats m 0 c).arrAt 6 cfg0.N, fun c => (dats m 0 c).arrAt 7 cfg0.N, ?_, ?_⟩
  · refine (θ_run _ _ _).mono (fun r h c => ?_) (Cert.UpOutIdeal.Value.run_blocks (F := Ideal) m g)
    exact h c
  · refine (θ_run _ _ _).mono (fun r h c => ?_) (Cert.UpOutRefIdeal.Value.run (F := Ideal) m' g')
    obtain ⟨h0, h1, h2, h3, ha⟩ := h c
    obtain ⟨e0, e1, e2, e3⟩ := hm c
    refine ⟨h0.trans ?_, h1.trans ?_, h2.trans ?_, h3.trans ?_, ha⟩
    all_goals try rw [e0]
    all_goals try rw [e1]
    all_goals try rw [e2]
    all_goals try rw [e3]
    · exact (Cert.UpOutProof.final4 m c).symm
    · exact (Cert.UpOutProof.final5 m c).symm
    · exact (Cert.UpOutProof.final6 m c).symm
    · exact (Cert.UpOutProof.final7 m c).symm

end Cert.Proof.UpOutClaims

end
-- ==== Proof.UpFfnIn.lean ====
module

public import proofs.«01_k».proof.Proof.Adam
public import proofs.«01_k».proof.Proof.Common
public import proofs.«01_k».proof.Proof.Gen.UpFfnInIdeal.Value
public import proofs.«01_k».proof.Proof.Gen.UpFfnInRefIdeal.Read

@[expose] public section

noncomputable section

/-! The optimiser's step on the first layer of the feed-forward block: the gradient is the sum of the 8 shards in the order of their senders, and the
step is taken entry by entry. The reference sums the shards at once. -/

namespace Cert.UpFfnInProof

open Idealize.ShloMosaic hiding ix2 eq_ix2 ix3 eq_ix3
open Idealize.ShloMosaic.TcCoe Idealize.ShloMosaic.Tactic Idealize.SL.Sem Idealize.ShloMosaic.ValueIdx
open Cert.UpFfnInIdeal Cert.UpFfnInIdeal.Gen Cert.UpFfnInIdeal.Value
open Cert.UpFfnInRefIdeal.Read Cert.Adam
open Idealize.ShloMosaic.Pipeline (Dat)

abbrev ArrG := (⟨3, ![8, 704, 1024]⟩ : Shape).Idx → EReal
abbrev ArrW := (⟨3, ![1, 704, 1024]⟩ : Shape).Idx → EReal

/-- The gradient's entry: the sum over the senders. -/
def grad (x : ArrG) (r : Fin 704) (k : Fin 1024) : EReal := ∑ j : Fin 8, x (ix3 j r k)

section Reference
variable (x0 : ArrG) (x1 x2 x3 : ArrW) (z : Fin 1) (r : Fin 704) (k : Fin 1024)

theorem ref_grad : val_main_v2 (F := Ideal) x0 (ix3 z r k) = grad x0 r k := by
  rw [val_main_v2_apply, val_main_v1_apply, val_main_cst_apply]
  refine (congrArg (fun a : EReal => a + _) Ideal.ofBits_zero_f32).trans ?_
  rw [zero_add]
  refine Finset.sum_congr rfl fun j _ => ?_
  rw [val_main_v0_apply]
  exact congrArg x0 (eq_ix3 _)

theorem ref_mom : val_main_v7 (F := Ideal) x0 x2 (ix3 z r k) = mom (grad x0 r k) (x2 (ix3 z r k)) := by
  rw [val_main_v7_apply, val_main_v4_apply, val_main_v6_apply, ref_grad, val_main_v3_apply, val_main_v5_apply]
  rfl

theorem ref_sec : val_main_v13 (F := Ideal) x0 x3 (ix3 z r k) = sec (grad x0 r k) (x3 (ix3 z r k)) := by
  rw [val_main_v13_apply, val_main_v9_apply, val_main_v12_apply, val_main_v10_apply, ref_grad, val_main_v8_apply, val_main_v11_apply]
  rfl

theorem ref_delta : val_main_v26 (F := Ideal) x0 x1 x2 x3 (ix3 z r k)
    = delta (x1 (ix3 z r k)) (grad x0 r k) (x2 (ix3 z r k)) (x3 (ix3 z r k)) := by
  rw [val_main_v26_apply, val_main_v24_apply, val_main_v21_apply, val_main_v23_apply, val_main_v15_apply, val_main_v20_apply,
    val_main_v18_apply, val_main_v17_apply, ref_mom, ref_sec, val_main_v25_apply, val_main_v22_apply, val_main_v19_apply,
    val_main_v16_apply, val_main_v14_apply]
  rfl

end Reference

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem ltN (t : Fin cfg0.N) : t.val < 2 := lt_of_lt_of_eq t.isLt N_0

abbrev row (t : Fin cfg0.N) (r : Fin 352) : Fin 704 := ⟨t.val * 352 + r.val, by have := ltN t; omega⟩

abbrev A0 (c : Dev nD) : ArrG := m ((c : Thread nD τ).loc main_arg0)
abbrev A1 (c : Dev nD) : ArrW := m ((c : Thread nD τ).loc main_arg1)
abbrev A2 (c : Dev nD) : ArrW := m ((c : Thread nD τ).loc main_arg2)
abbrev A3 (c : Dev nD) : ArrW := m ((c : Thread nD τ).loc main_arg3)

theorem blk0 (c : Dev nD) (t : Fin cfg0.N) (j : Fin 8) (r : Fin 352) (k : Fin 1024) :
    iblk m c 0 t (ix3 j r k) = A0 m c (ix3 j (row t r) k) := by
  blk_simp [iblk]
  rw [V_main_arg0]
  refine congrArg (m ((c : Thread nD τ).loc main_arg0)) ?_
  blk_ext [idx0]
theorem blk1 (c : Dev nD) (t : Fin cfg0.N) (j : Fin 1) (r : Fin 352) (k : Fin 1024) :
    iblk m c 1 t (ix3 j r k) = A1 m c (ix3 j (row t r) k) := by
  blk_simp [iblk]
  rw [V_main_arg1]
  refine congrArg (m ((c : Thread nD τ).loc main_arg1)) ?_
  blk_ext [idx1]
theorem blk2 (c : Dev nD) (t : Fin cfg0.N) (j : Fin 1) (r : Fin 352) (k : Fin 1024) :
    iblk m c 2 t (ix3 j r k) = A2 m c (ix3 j (row t r) k) := by
  blk_simp [iblk]
  rw [V_main_arg2]
  refine congrArg (m ((c : Thread nD τ).loc main_arg2)) ?_
  blk_ext [idx2]
theorem blk3 (c : Dev nD) (t : Fin cfg0.N) (j : Fin 1) (r : Fin 352) (k : Fin 1024) :
    iblk m c 3 t (ix3 j r k) = A3 m c (ix3 j (row t r) k) := by
  blk_simp [iblk]
  rw [V_main_arg3]
  refine congrArg (m ((c : Thread nD τ).loc main_arg3)) ?_
  blk_ext [idx3]

theorem ld0_0 (c : Dev nD) (t : Fin cfg0.N) (y : S1x352x1024.Idx) :
    View.ld (iblk m c 0 t) r0_0 y = A0 m c (ix3 0 (row t (y 1)) (y 2)) := by
  refine Eq.trans ?_ (blk0 m c t 0 (y 1) (y 2))
  refine congrArg (iblk m c 0 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld0_1 (c : Dev nD) (t : Fin cfg0.N) (y : S1x352x1024.Idx) :
    View.ld (iblk m c 0 t) r0_1 y = A0 m c (ix3 1 (row t (y 1)) (y 2)) := by
  refine Eq.trans ?_ (blk0 m c t 1 (y 1) (y 2))
  refine congrArg (iblk m c 0 t) (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld0_2 (c : Dev nD) (t : Fin cfg0.N) (y : S1x352x1024.Idx) :
    View.ld (iblk m c 0 t) r0_2 y = A0 m c (ix3 2 (row t (y 1)) (y 2)) := by
  refine Eq.trans ?_ (blk0 m c t 2 (y 1) (y 2))
  refine congrArg (iblk m c 0 t) (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld0_3 (c : Dev nD) (t : Fin cfg0.N) (y : S1x352x1024.Idx) :
    View.ld (iblk m c 0 t) r0_3 y = A0 m c (ix3 3 (row t (y 1)) (y 2)) := by
  refine Eq.trans ?_ (blk0 m c t 3 (y 1) (y 2))
  refine congrArg (iblk m c 0 t) (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld0_4 (c : Dev nD) (t : Fin cfg0.N) (y : S1x352x1024.Idx) :
    View.ld (iblk m c 0 t) r0_4 y = A0 m c (ix3 4 (row t (y 1)) (y 2)) := by
  refine Eq.trans ?_ (blk0 m c t 4 (y 1) (y 2))
  refine congrArg (iblk m c 0 t) (funext fun a => Fin.ext ?_)
  have h0 : (y 0).val < 1 := (y 0).isLt
  match a with
  | ⟨0, _⟩ => show 4 + 1 * (y 0).val = 4; omega
  | ⟨1, _⟩ => show 0 + 1 * (y 1).val = (y 1).val; omega
  | ⟨2, _⟩ => show 0 + 1 * (y 2).val = (y 2).val; omega
theorem ld0_5 (c : Dev nD) (t : Fin cfg0.N) (y : S1x352x1024.Idx) :
    View.ld (iblk m c 0 t) r0_5 y = A0 m c (ix3 5 (row t (y 1)) (y 2)) := by
  refine Eq.trans ?_ (blk0 m c t 5 (y 1) (y 2))
  refine congrArg (iblk m c 0 t) (funext fun a => Fin.ext ?_)
  have h0 : (y 0).val < 1 := (y 0).isLt
  match a with
  | ⟨0, _⟩ => show 5 + 1 * (y 0).val = 5; omega
  | ⟨1, _⟩ => show 0 + 1 * (y 1).val = (y 1).val; omega
  | ⟨2, _⟩ => show 0 + 1 * (y 2).val = (y 2).val; omega
theorem ld0_6 (c : Dev nD) (t : Fin cfg0.N) (y : S1x352x1024.Idx) :
    View.ld (iblk m c 0 t) r0_6 y = A0 m c (ix3 6 (row t (y 1)) (y 2)) := by
  refine Eq.trans ?_ (blk0 m c t 6 (y 1) (y 2))
  refine congrArg (iblk m c 0 t) (funext fun a => Fin.ext ?_)
  have h0 : (y 0).val < 1 := (y 0).isLt
  match a with
  | ⟨0, _⟩ => show 6 + 1 * (y 0).val = 6; omega
  | ⟨1, _⟩ => show 0 + 1 * (y 1).val = (y 1).val; omega
  | ⟨2, _⟩ => show 0 + 1 * (y 2).val = (y 2).val; omega
theorem ld0_7 (c : Dev nD) (t : Fin cfg0.N) (y : S1x352x1024.Idx) :
    View.ld (iblk m c 0 t) r0_7 y = A0 m c (ix3 7 (row t (y 1)) (y 2)) := by
  refine Eq.trans ?_ (blk0 m c t 7 (y 1) (y 2))
  refine congrArg (iblk m c 0 t) (funext fun a => Fin.ext ?_)
  have h0 : (y 0).val < 1 := (y 0).isLt
  match a with
  | ⟨0, _⟩ => show 7 + 1 * (y 0).val = 7; omega
  | ⟨1, _⟩ => show 0 + 1 * (y 1).val = (y 1).val; omega
  | ⟨2, _⟩ => show 0 + 1 * (y 2).val = (y 2).val; omega
theorem ld_1 (c : Dev nD) (t : Fin cfg0.N) (y : S1x352x1024.Idx) :
    View.ld (iblk m c 1 t) r0_8 y = A1 m c (ix3 0 (row t (y 1)) (y 2)) := by
  refine Eq.trans ?_ (blk1 m c t 0 (y 1) (y 2))
  refine congrArg (iblk m c 1 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_2 (c : Dev nD) (t : Fin cfg0.N) (y : S1x352x1024.Idx) :
    View.ld (iblk m c 2 t) r0_8 y = A2 m c (ix3 0 (row t (y 1)) (y 2)) := by
  refine Eq.trans ?_ (blk2 m c t 0 (y 1) (y 2))
  refine congrArg (iblk m c 2 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_3 (c : Dev nD) (t : Fin cfg0.N) (y : S1x352x1024.Idx) :
    View.ld (iblk m c 3 t) r0_8 y = A3 m c (ix3 0 (row t (y 1)) (y 2)) := by
  refine Eq.trans ?_ (blk3 m c t 0 (y 1) (y 2))
  refine congrArg (iblk m c 3 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

section Entries
variable (c : Dev nD) (t : Fin cfg0.N) (z : Fin 1) (r : Fin 352) (k : Fin 1024)

theorem chain : grad (A0 m c) (row t r) k = A0 m c (ix3 0 (row t r) k) + A0 m c (ix3 1 (row t r) k) + A0 m c (ix3 2 (row t r) k) + A0 m c (ix3 3 (row t r) k) + A0 m c (ix3 4 (row t r) k) + A0 m c (ix3 5 (row t r) k) + A0 m c (ix3 6 (row t r) k) + A0 m c (ix3 7 (row t r) k) :=
  Fin.sum_univ_eight _

theorem new_grad : out0_4 (iblk m c 0 t) (iblk m c 1 t) (iblk m c 2 t) (iblk m c 3 t) (ix3 z r k) = grad (A0 m c) (row t r) k := by
  unfold_out out0_4
  refine (canon4_eq _ _ _ _ _ _ _ _ (ix3 z r k)).trans ?_
  rw [chain]
  simp only [E4, ld0_0, ld0_1, ld0_2, ld0_3, ld0_4, ld0_5, ld0_6, ld0_7]
  rfl

theorem new_delta : out0_5 (iblk m c 0 t) (iblk m c 1 t) (iblk m c 2 t) (iblk m c 3 t) (ix3 z r k)
    = delta (A1 m c (ix3 z (row t r) k)) (grad (A0 m c) (row t r) k) (A2 m c (ix3 z (row t r) k)) (A3 m c (ix3 z (row t r) k)) := by
  obtain rfl : z = 0 := Subsingleton.elim _ _
  unfold_out out0_5
  refine (canon5_eq _ _ _ _ _ _ _ _ _ _ _ (ix3 0 r k)).trans ?_
  rw [chain]
  simp only [E5, ld0_0, ld0_1, ld0_2, ld0_3, ld0_4, ld0_5, ld0_6, ld0_7, ld_1, ld_2, ld_3]
  rfl

theorem new_mom : out0_6 (iblk m c 0 t) (iblk m c 1 t) (iblk m c 2 t) (iblk m c 3 t) (ix3 z r k)
    = mom (grad (A0 m c) (row t r) k) (A2 m c (ix3 z (row t r) k)) := by
  obtain rfl : z = 0 := Subsingleton.elim _ _
  unfold_out out0_6
  refine (canon6_eq _ _ _ _ _ _ _ _ _ (ix3 0 r k)).trans ?_
  rw [chain]
  simp only [E6, ld0_0, ld0_1, ld0_2, ld0_3, ld0_4, ld0_5, ld0_6, ld0_7, ld_2]
  rfl

theorem new_sec : out0_7 (iblk m c 0 t) (iblk m c 1 t) (iblk m c 2 t) (iblk m c 3 t) (ix3 z r k)
    = sec (grad (A0 m c) (row t r) k) (A3 m c (ix3 z (row t r) k)) := by
  obtain rfl : z = 0 := Subsingleton.elim _ _
  unfold_out out0_7
  refine (canon7_eq _ _ _ _ _ _ _ _ _ (ix3 0 r k)).trans ?_
  rw [chain]
  simp only [E7, ld0_0, ld0_1, ld0_2, ld0_3, ld0_4, ld0_5, ld0_6, ld0_7, ld_3]
  rfl

end Entries

theorem final4 (c : Dev nD) : (dats m 0 c).arrAt 4 cfg0.N = val_main_v2 (F := Ideal) (A0 m c) := by
  refine (dats m 0 c).arrAt_eq_of_covers 4 _ (by decide +kernel) fun t hf y => ?_
  blk_simp
  rw [after0_4]
  obtain ⟨z, r, k, rfl⟩ : ∃ (z : Fin 1) (r : Fin 352) (k : Fin 1024), y = ix3 z r k := ⟨_, _, _, eq_ix3 y⟩
  have e : (((View.whole main_v0_0).slice (win0_4.rect t)).emb (ix3 z r k)) = ix3 z (row t r) k := by blk_ext [idx4]
  refine Eq.trans ?_ ((congrArg _ e).trans (ref_grad (A0 m c) z (row t r) k)).symm
  exact new_grad m c t z r k

theorem final5 (c : Dev nD) : (dats m 0 c).arrAt 5 cfg0.N = val_main_v26 (F := Ideal) (A0 m c) (A1 m c) (A2 m c) (A3 m c) := by
  refine (dats m 0 c).arrAt_eq_of_covers 5 _ (by decide +kernel) fun t hf y => ?_
  blk_simp
  rw [after0_5]
  obtain ⟨z, r, k, rfl⟩ : ∃ (z : Fin 1) (r : Fin 352) (k : Fin 1024), y = ix3 z r k := ⟨_, _, _, eq_ix3 y⟩
  have e : (((View.whole main_v0_1).slice (win0_5.rect t)).emb (ix3 z r k)) = ix3 z (row t r) k := by blk_ext [idx5]
  refine Eq.trans ?_ ((congrArg _ e).trans (ref_delta (A0 m c) (A1 m c) (A2 m c) (A3 m c) z (row t r) k)).symm
  exact new_delta m c t z r k

theorem final6 (c : Dev nD) : (dats m 0 c).arrAt 6 cfg0.N = val_main_v7 (F := Ideal) (A0 m c) (A2 m c) := by
  refine (dats m 0 c).arrAt_eq_of_covers 6 _ (by decide +kernel) fun t hf y => ?_
  blk_simp
  rw [after0_6]
  obtain ⟨z, r, k, rfl⟩ : ∃ (z : Fin 1) (r : Fin 352) (k : Fin 1024), y = ix3 z r k := ⟨_, _, _, eq_ix3 y⟩
  have e : (((View.whole main_v0_2).slice (win0_6.rect t)).emb (ix3 z r k)) = ix3 z (row t r) k := by blk_ext [idx6]
  refine Eq.trans ?_ ((congrArg _ e).trans (ref_mom (A0 m c) (A2 m c) z (row t r) k)).symm
  exact new_mom m c t z r k

theorem final7 (c : Dev nD) : (dats m 0 c).arrAt 7 cfg0.N = val_main_v13 (F := Ideal) (A0 m c) (A3 m c) := by
  refine (dats m 0 c).arrAt_eq_of_covers 7 _ (by decide +kernel) fun t hf y => ?_
  blk_simp
  rw [after0_7]
  obtain ⟨z, r, k, rfl⟩ : ∃ (z : Fin 1) (r : Fin 352) (k : Fin 1024), y = ix3 z r k := ⟨_, _, _, eq_ix3 y⟩
  have e : (((View.whole main_v0_3).slice (win0_7.rect t)).emb (ix3 z r k)) = ix3 z (row t r) k := by blk_ext [idx7]
  refine Eq.trans ?_ ((congrArg _ e).trans (ref_sec (A0 m c) (A3 m c) z (row t r) k)).symm
  exact new_sec m c t z r k

end Cert.UpFfnInProof

end
-- ==== Proof.UpFfnInClaims.lean ====
module

public import proofs.«01_k».proof.Proof.Gen.UpFfnIn.Frame
public import proofs.«01_k».proof.Proof.UpFfnIn
public import proofs.«01_k».proof.Defs

@[expose] public section

noncomputable section

namespace Cert.Proof.UpFfnInClaims

open Idealize.ShloMosaic Idealize.ShloMosaic.TcCoe Idealize.SL.Sem

theorem frame_p : Cert.quiescent_UpFfnIn := fun m ρ _ => Cert.UpFfnIn.Gen.frame m ρ
theorem frame_pi : Cert.quiescent_UpFfnInIdeal := fun m ρ _ => Cert.UpFfnInIdeal.Gen.frame m ρ
theorem frame_ri : Cert.quiescent_UpFfnInRefIdeal := fun m ρ _ =>
  (θ_run Cert.UpFfnInRefIdeal.defs _ _).mono (fun r h => ⟨fun c => (h c).2.2.2.2,
      Idealize.ShloMosaic.sem_eq_zero_of_no_sems (by decide) r.2⟩)
    (Cert.UpFfnInRefIdeal.Value.run (F := Ideal) m ρ)

open Cert.UpFfnInIdeal Cert.UpFfnInIdeal.Gen in
theorem algebraic : Cert.algebraic_UpFfnInIdeal_UpFfnInRefIdeal := fun m g m' g' _ hm => by
  refine ⟨fun c => (dats m 0 c).arrAt 4 cfg0.N, fun c => (dats m 0 c).arrAt 5 cfg0.N,
    fun c => (dats m 0 c).arrAt 6 cfg0.N, fun c => (dats m 0 c).arrAt 7 cfg0.N, ?_, ?_⟩
  · refine (θ_run _ _ _).mono (fun r h c => ?_) (Cert.UpFfnInIdeal.Value.run_blocks (F := Ideal) m g)
    exact h c
  · refine (θ_run _ _ _).mono (fun r h c => ?_) (Cert.UpFfnInRefIdeal.Value.run (F := Ideal) m' g')
    obtain ⟨h0, h1, h2, h3, ha⟩ := h c
    obtain ⟨e0, e1, e2, e3⟩ := hm c
    refine ⟨h0.trans ?_, h1.trans ?_, h2.trans ?_, h3.trans ?_, ha⟩
    all_goals try rw [e0]
    all_goals try rw [e1]
    all_goals try rw [e2]
    all_goals try rw [e3]
    · exact (Cert.UpFfnInProof.final4 m c).symm
    · exact (Cert.UpFfnInProof.final5 m c).symm
    · exact (Cert.UpFfnInProof.final6 m c).symm
    · exact (Cert.UpFfnInProof.final7 m c).symm

end Cert.Proof.UpFfnInClaims

end
-- ==== Proof.UpFfnOut.lean ====
module

public import proofs.«01_k».proof.Proof.Adam
public import proofs.«01_k».proof.Proof.Common
public import proofs.«01_k».proof.Proof.Gen.UpFfnOutIdeal.Value
public import proofs.«01_k».proof.Proof.Gen.UpFfnOutRefIdeal.Read

@[expose] public section

noncomputable section

/-! The optimiser's step on the second layer of the feed-forward block: the gradient is the sum of the 8 shards in the order of their senders, and the
step is taken entry by entry. The reference sums the shards at once. -/

namespace Cert.UpFfnOutProof

open Idealize.ShloMosaic hiding ix2 eq_ix2 ix3 eq_ix3
open Idealize.ShloMosaic.TcCoe Idealize.ShloMosaic.Tactic Idealize.SL.Sem Idealize.ShloMosaic.ValueIdx
open Cert.UpFfnOutIdeal Cert.UpFfnOutIdeal.Gen Cert.UpFfnOutIdeal.Value
open Cert.UpFfnOutRefIdeal.Read Cert.Adam
open Idealize.ShloMosaic.Pipeline (Dat)

abbrev ArrG := (⟨3, ![8, 352, 1024]⟩ : Shape).Idx → EReal
abbrev ArrW := (⟨3, ![1, 352, 1024]⟩ : Shape).Idx → EReal

/-- The gradient's entry: the sum over the senders. -/
def grad (x : ArrG) (r : Fin 352) (k : Fin 1024) : EReal := ∑ j : Fin 8, x (ix3 j r k)

section Reference
variable (x0 : ArrG) (x1 x2 x3 : ArrW) (z : Fin 1) (r : Fin 352) (k : Fin 1024)

theorem ref_grad : val_main_v2 (F := Ideal) x0 (ix3 z r k) = grad x0 r k := by
  rw [val_main_v2_apply, val_main_v1_apply, val_main_cst_apply]
  refine (congrArg (fun a : EReal => a + _) Ideal.ofBits_zero_f32).trans ?_
  rw [zero_add]
  refine Finset.sum_congr rfl fun j _ => ?_
  rw [val_main_v0_apply]
  exact congrArg x0 (eq_ix3 _)

theorem ref_mom : val_main_v7 (F := Ideal) x0 x2 (ix3 z r k) = mom (grad x0 r k) (x2 (ix3 z r k)) := by
  rw [val_main_v7_apply, val_main_v4_apply, val_main_v6_apply, ref_grad, val_main_v3_apply, val_main_v5_apply]
  rfl

theorem ref_sec : val_main_v13 (F := Ideal) x0 x3 (ix3 z r k) = sec (grad x0 r k) (x3 (ix3 z r k)) := by
  rw [val_main_v13_apply, val_main_v9_apply, val_main_v12_apply, val_main_v10_apply, ref_grad, val_main_v8_apply, val_main_v11_apply]
  rfl

theorem ref_delta : val_main_v26 (F := Ideal) x0 x1 x2 x3 (ix3 z r k)
    = delta (x1 (ix3 z r k)) (grad x0 r k) (x2 (ix3 z r k)) (x3 (ix3 z r k)) := by
  rw [val_main_v26_apply, val_main_v24_apply, val_main_v21_apply, val_main_v23_apply, val_main_v15_apply, val_main_v20_apply,
    val_main_v18_apply, val_main_v17_apply, ref_mom, ref_sec, val_main_v25_apply, val_main_v22_apply, val_main_v19_apply,
    val_main_v16_apply, val_main_v14_apply]
  rfl

end Reference

variable (m : (ℓ : Loc nD τ sig) → Buf (Elt Ideal) ℓ)

theorem idx0 : ∀ t : Fin cfg0.N, win0_0.index t = ![0, t.val, 0] := (by decide +kernel : ∀ t : Fin grid0.N, _)
theorem idx1 : ∀ t : Fin cfg0.N, win0_1.index t = ![0, t.val, 0] := (by decide +kernel : ∀ t : Fin grid0.N, _)
theorem idx2 : ∀ t : Fin cfg0.N, win0_2.index t = ![0, t.val, 0] := (by decide +kernel : ∀ t : Fin grid0.N, _)
theorem idx3 : ∀ t : Fin cfg0.N, win0_3.index t = ![0, t.val, 0] := (by decide +kernel : ∀ t : Fin grid0.N, _)
theorem idx4 : ∀ t : Fin cfg0.N, win0_4.index t = ![0, t.val, 0] := (by decide +kernel : ∀ t : Fin grid0.N, _)
theorem idx5 : ∀ t : Fin cfg0.N, win0_5.index t = ![0, t.val, 0] := (by decide +kernel : ∀ t : Fin grid0.N, _)
theorem idx6 : ∀ t : Fin cfg0.N, win0_6.index t = ![0, t.val, 0] := (by decide +kernel : ∀ t : Fin grid0.N, _)
theorem idx7 : ∀ t : Fin cfg0.N, win0_7.index t = ![0, t.val, 0] := (by decide +kernel : ∀ t : Fin grid0.N, _)

theorem ltN (t : Fin cfg0.N) : t.val < 1 := lt_of_lt_of_eq t.isLt N_0

abbrev row (t : Fin cfg0.N) (r : Fin 352) : Fin 352 := ⟨t.val * 352 + r.val, by have := ltN t; omega⟩

abbrev A0 (c : Dev nD) : ArrG := m ((c : Thread nD τ).loc main_arg0)
abbrev A1 (c : Dev nD) : ArrW := m ((c : Thread nD τ).loc main_arg1)
abbrev A2 (c : Dev nD) : ArrW := m ((c : Thread nD τ).loc main_arg2)
abbrev A3 (c : Dev nD) : ArrW := m ((c : Thread nD τ).loc main_arg3)

theorem blk0 (c : Dev nD) (t : Fin cfg0.N) (j : Fin 8) (r : Fin 352) (k : Fin 1024) :
    iblk m c 0 t (ix3 j r k) = A0 m c (ix3 j (row t r) k) := by
  blk_simp [iblk]
  rw [V_main_arg0]
  refine congrArg (m ((c : Thread nD τ).loc main_arg0)) ?_
  blk_ext [idx0]
theorem blk1 (c : Dev nD) (t : Fin cfg0.N) (j : Fin 1) (r : Fin 352) (k : Fin 1024) :
    iblk m c 1 t (ix3 j r k) = A1 m c (ix3 j (row t r) k) := by
  blk_simp [iblk]
  rw [V_main_arg1]
  refine congrArg (m ((c : Thread nD τ).loc main_arg1)) ?_
  blk_ext [idx1]
theorem blk2 (c : Dev nD) (t : Fin cfg0.N) (j : Fin 1) (r : Fin 352) (k : Fin 1024) :
    iblk m c 2 t (ix3 j r k) = A2 m c (ix3 j (row t r) k) := by
  blk_simp [iblk]
  rw [V_main_arg2]
  refine congrArg (m ((c : Thread nD τ).loc main_arg2)) ?_
  blk_ext [idx2]
theorem blk3 (c : Dev nD) (t : Fin cfg0.N) (j : Fin 1) (r : Fin 352) (k : Fin 1024) :
    iblk m c 3 t (ix3 j r k) = A3 m c (ix3 j (row t r) k) := by
  blk_simp [iblk]
  rw [V_main_arg3]
  refine congrArg (m ((c : Thread nD τ).loc main_arg3)) ?_
  blk_ext [idx3]

theorem ld0_0 (c : Dev nD) (t : Fin cfg0.N) (y : S1x352x1024.Idx) :
    View.ld (iblk m c 0 t) r0_0 y = A0 m c (ix3 0 (row t (y 1)) (y 2)) := by
  refine Eq.trans ?_ (blk0 m c t 0 (y 1) (y 2))
  refine congrArg (iblk m c 0 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld0_1 (c : Dev nD) (t : Fin cfg0.N) (y : S1x352x1024.Idx) :
    View.ld (iblk m c 0 t) r0_1 y = A0 m c (ix3 1 (row t (y 1)) (y 2)) := by
  refine Eq.trans ?_ (blk0 m c t 1 (y 1) (y 2))
  refine congrArg (iblk m c 0 t) (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld0_2 (c : Dev nD) (t : Fin cfg0.N) (y : S1x352x1024.Idx) :
    View.ld (iblk m c 0 t) r0_2 y = A0 m c (ix3 2 (row t (y 1)) (y 2)) := by
  refine Eq.trans ?_ (blk0 m c t 2 (y 1) (y 2))
  refine congrArg (iblk m c 0 t) (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld0_3 (c : Dev nD) (t : Fin cfg0.N) (y : S1x352x1024.Idx) :
    View.ld (iblk m c 0 t) r0_3 y = A0 m c (ix3 3 (row t (y 1)) (y 2)) := by
  refine Eq.trans ?_ (blk0 m c t 3 (y 1) (y 2))
  refine congrArg (iblk m c 0 t) (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld0_4 (c : Dev nD) (t : Fin cfg0.N) (y : S1x352x1024.Idx) :
    View.ld (iblk m c 0 t) r0_4 y = A0 m c (ix3 4 (row t (y 1)) (y 2)) := by
  refine Eq.trans ?_ (blk0 m c t 4 (y 1) (y 2))
  refine congrArg (iblk m c 0 t) (funext fun a => Fin.ext ?_)
  have h0 : (y 0).val < 1 := (y 0).isLt
  match a with
  | ⟨0, _⟩ => show 4 + 1 * (y 0).val = 4; omega
  | ⟨1, _⟩ => show 0 + 1 * (y 1).val = (y 1).val; omega
  | ⟨2, _⟩ => show 0 + 1 * (y 2).val = (y 2).val; omega
theorem ld0_5 (c : Dev nD) (t : Fin cfg0.N) (y : S1x352x1024.Idx) :
    View.ld (iblk m c 0 t) r0_5 y = A0 m c (ix3 5 (row t (y 1)) (y 2)) := by
  refine Eq.trans ?_ (blk0 m c t 5 (y 1) (y 2))
  refine congrArg (iblk m c 0 t) (funext fun a => Fin.ext ?_)
  have h0 : (y 0).val < 1 := (y 0).isLt
  match a with
  | ⟨0, _⟩ => show 5 + 1 * (y 0).val = 5; omega
  | ⟨1, _⟩ => show 0 + 1 * (y 1).val = (y 1).val; omega
  | ⟨2, _⟩ => show 0 + 1 * (y 2).val = (y 2).val; omega
theorem ld0_6 (c : Dev nD) (t : Fin cfg0.N) (y : S1x352x1024.Idx) :
    View.ld (iblk m c 0 t) r0_6 y = A0 m c (ix3 6 (row t (y 1)) (y 2)) := by
  refine Eq.trans ?_ (blk0 m c t 6 (y 1) (y 2))
  refine congrArg (iblk m c 0 t) (funext fun a => Fin.ext ?_)
  have h0 : (y 0).val < 1 := (y 0).isLt
  match a with
  | ⟨0, _⟩ => show 6 + 1 * (y 0).val = 6; omega
  | ⟨1, _⟩ => show 0 + 1 * (y 1).val = (y 1).val; omega
  | ⟨2, _⟩ => show 0 + 1 * (y 2).val = (y 2).val; omega
theorem ld0_7 (c : Dev nD) (t : Fin cfg0.N) (y : S1x352x1024.Idx) :
    View.ld (iblk m c 0 t) r0_7 y = A0 m c (ix3 7 (row t (y 1)) (y 2)) := by
  refine Eq.trans ?_ (blk0 m c t 7 (y 1) (y 2))
  refine congrArg (iblk m c 0 t) (funext fun a => Fin.ext ?_)
  have h0 : (y 0).val < 1 := (y 0).isLt
  match a with
  | ⟨0, _⟩ => show 7 + 1 * (y 0).val = 7; omega
  | ⟨1, _⟩ => show 0 + 1 * (y 1).val = (y 1).val; omega
  | ⟨2, _⟩ => show 0 + 1 * (y 2).val = (y 2).val; omega
theorem ld_1 (c : Dev nD) (t : Fin cfg0.N) (y : S1x352x1024.Idx) :
    View.ld (iblk m c 1 t) r0_8 y = A1 m c (ix3 0 (row t (y 1)) (y 2)) := by
  refine Eq.trans ?_ (blk1 m c t 0 (y 1) (y 2))
  refine congrArg (iblk m c 1 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_2 (c : Dev nD) (t : Fin cfg0.N) (y : S1x352x1024.Idx) :
    View.ld (iblk m c 2 t) r0_8 y = A2 m c (ix3 0 (row t (y 1)) (y 2)) := by
  refine Eq.trans ?_ (blk2 m c t 0 (y 1) (y 2))
  refine congrArg (iblk m c 2 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld_3 (c : Dev nD) (t : Fin cfg0.N) (y : S1x352x1024.Idx) :
    View.ld (iblk m c 3 t) r0_8 y = A3 m c (ix3 0 (row t (y 1)) (y 2)) := by
  refine Eq.trans ?_ (blk3 m c t 0 (y 1) (y 2))
  refine congrArg (iblk m c 3 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega

section Entries
variable (c : Dev nD) (t : Fin cfg0.N) (z : Fin 1) (r : Fin 352) (k : Fin 1024)

theorem chain : grad (A0 m c) (row t r) k = A0 m c (ix3 0 (row t r) k) + A0 m c (ix3 1 (row t r) k) + A0 m c (ix3 2 (row t r) k) + A0 m c (ix3 3 (row t r) k) + A0 m c (ix3 4 (row t r) k) + A0 m c (ix3 5 (row t r) k) + A0 m c (ix3 6 (row t r) k) + A0 m c (ix3 7 (row t r) k) :=
  Fin.sum_univ_eight _

theorem new_grad : out0_4 (iblk m c 0 t) (iblk m c 1 t) (iblk m c 2 t) (iblk m c 3 t) (ix3 z r k) = grad (A0 m c) (row t r) k := by
  unfold_out out0_4
  refine (canon4_eq _ _ _ _ _ _ _ _ (ix3 z r k)).trans ?_
  rw [chain]
  simp only [E4, ld0_0, ld0_1, ld0_2, ld0_3, ld0_4, ld0_5, ld0_6, ld0_7]
  rfl

theorem new_delta : out0_5 (iblk m c 0 t) (iblk m c 1 t) (iblk m c 2 t) (iblk m c 3 t) (ix3 z r k)
    = delta (A1 m c (ix3 z (row t r) k)) (grad (A0 m c) (row t r) k) (A2 m c (ix3 z (row t r) k)) (A3 m c (ix3 z (row t r) k)) := by
  obtain rfl : z = 0 := Subsingleton.elim _ _
  unfold_out out0_5
  refine (canon5_eq _ _ _ _ _ _ _ _ _ _ _ (ix3 0 r k)).trans ?_
  rw [chain]
  simp only [E5, ld0_0, ld0_1, ld0_2, ld0_3, ld0_4, ld0_5, ld0_6, ld0_7, ld_1, ld_2, ld_3]
  rfl

theorem new_mom : out0_6 (iblk m c 0 t) (iblk m c 1 t) (iblk m c 2 t) (iblk m c 3 t) (ix3 z r k)
    = mom (grad (A0 m c) (row t r) k) (A2 m c (ix3 z (row t r) k)) := by
  obtain rfl : z = 0 := Subsingleton.elim _ _
  unfold_out out0_6
  refine (canon6_eq _ _ _ _ _ _ _ _ _ (ix3 0 r k)).trans ?_
  rw [chain]
  simp only [E6, ld0_0, ld0_1, ld0_2, ld0_3, ld0_4, ld0_5, ld0_6, ld0_7, ld_2]
  rfl

theorem new_sec : out0_7 (iblk m c 0 t) (iblk m c 1 t) (iblk m c 2 t) (iblk m c 3 t) (ix3 z r k)
    = sec (grad (A0 m c) (row t r) k) (A3 m c (ix3 z (row t r) k)) := by
  obtain rfl : z = 0 := Subsingleton.elim _ _
  unfold_out out0_7
  refine (canon7_eq _ _ _ _ _ _ _ _ _ (ix3 0 r k)).trans ?_
  rw [chain]
  simp only [E7, ld0_0, ld0_1, ld0_2, ld0_3, ld0_4, ld0_5, ld0_6, ld0_7, ld_3]
  rfl

end Entries

theorem final4 (c : Dev nD) : (dats m 0 c).arrAt 4 cfg0.N = val_main_v2 (F := Ideal) (A0 m c) := by
  refine (dats m 0 c).arrAt_eq_of_covers 4 _ (by decide +kernel) fun t hf y => ?_
  blk_simp
  rw [after0_4]
  obtain ⟨z, r, k, rfl⟩ : ∃ (z : Fin 1) (r : Fin 352) (k : Fin 1024), y = ix3 z r k := ⟨_, _, _, eq_ix3 y⟩
  have e : (((View.whole main_v0_0).slice (win0_4.rect t)).emb (ix3 z r k)) = ix3 z (row t r) k := by blk_ext [idx4]
  refine Eq.trans ?_ ((congrArg _ e).trans (ref_grad (A0 m c) z (row t r) k)).symm
  exact new_grad m c t z r k

theorem final5 (c : Dev nD) : (dats m 0 c).arrAt 5 cfg0.N = val_main_v26 (F := Ideal) (A0 m c) (A1 m c) (A2 m c) (A3 m c) := by
  refine (dats m 0 c).arrAt_eq_of_covers 5 _ (by decide +kernel) fun t hf y => ?_
  blk_simp
  rw [after0_5]
  obtain ⟨z, r, k, rfl⟩ : ∃ (z : Fin 1) (r : Fin 352) (k : Fin 1024), y = ix3 z r k := ⟨_, _, _, eq_ix3 y⟩
  have e : (((View.whole main_v0_1).slice (win0_5.rect t)).emb (ix3 z r k)) = ix3 z (row t r) k := by blk_ext [idx5]
  refine Eq.trans ?_ ((congrArg _ e).trans (ref_delta (A0 m c) (A1 m c) (A2 m c) (A3 m c) z (row t r) k)).symm
  exact new_delta m c t z r k

theorem final6 (c : Dev nD) : (dats m 0 c).arrAt 6 cfg0.N = val_main_v7 (F := Ideal) (A0 m c) (A2 m c) := by
  refine (dats m 0 c).arrAt_eq_of_covers 6 _ (by decide +kernel) fun t hf y => ?_
  blk_simp
  rw [after0_6]
  obtain ⟨z, r, k, rfl⟩ : ∃ (z : Fin 1) (r : Fin 352) (k : Fin 1024), y = ix3 z r k := ⟨_, _, _, eq_ix3 y⟩
  have e : (((View.whole main_v0_2).slice (win0_6.rect t)).emb (ix3 z r k)) = ix3 z (row t r) k := by blk_ext [idx6]
  refine Eq.trans ?_ ((congrArg _ e).trans (ref_mom (A0 m c) (A2 m c) z (row t r) k)).symm
  exact new_mom m c t z r k

theorem final7 (c : Dev nD) : (dats m 0 c).arrAt 7 cfg0.N = val_main_v13 (F := Ideal) (A0 m c) (A3 m c) := by
  refine (dats m 0 c).arrAt_eq_of_covers 7 _ (by decide +kernel) fun t hf y => ?_
  blk_simp
  rw [after0_7]
  obtain ⟨z, r, k, rfl⟩ : ∃ (z : Fin 1) (r : Fin 352) (k : Fin 1024), y = ix3 z r k := ⟨_, _, _, eq_ix3 y⟩
  have e : (((View.whole main_v0_3).slice (win0_7.rect t)).emb (ix3 z r k)) = ix3 z (row t r) k := by blk_ext [idx7]
  refine Eq.trans ?_ ((congrArg _ e).trans (ref_sec (A0 m c) (A3 m c) z (row t r) k)).symm
  exact new_sec m c t z r k

end Cert.UpFfnOutProof

end
-- ==== Proof.UpFfnOutClaims.lean ====
module

public import proofs.«01_k».proof.Proof.Gen.UpFfnOut.Frame
public import proofs.«01_k».proof.Proof.UpFfnOut
public import proofs.«01_k».proof.Defs

@[expose] public section

noncomputable section

namespace Cert.Proof.UpFfnOutClaims

open Idealize.ShloMosaic Idealize.ShloMosaic.TcCoe Idealize.SL.Sem

theorem frame_p : Cert.quiescent_UpFfnOut := fun m ρ _ => Cert.UpFfnOut.Gen.frame m ρ
theorem frame_pi : Cert.quiescent_UpFfnOutIdeal := fun m ρ _ => Cert.UpFfnOutIdeal.Gen.frame m ρ
theorem frame_ri : Cert.quiescent_UpFfnOutRefIdeal := fun m ρ _ =>
  (θ_run Cert.UpFfnOutRefIdeal.defs _ _).mono (fun r h => ⟨fun c => (h c).2.2.2.2,
      Idealize.ShloMosaic.sem_eq_zero_of_no_sems (by decide) r.2⟩)
    (Cert.UpFfnOutRefIdeal.Value.run (F := Ideal) m ρ)

open Cert.UpFfnOutIdeal Cert.UpFfnOutIdeal.Gen in
theorem algebraic : Cert.algebraic_UpFfnOutIdeal_UpFfnOutRefIdeal := fun m g m' g' _ hm => by
  refine ⟨fun c => (dats m 0 c).arrAt 4 cfg0.N, fun c => (dats m 0 c).arrAt 5 cfg0.N,
    fun c => (dats m 0 c).arrAt 6 cfg0.N, fun c => (dats m 0 c).arrAt 7 cfg0.N, ?_, ?_⟩
  · refine (θ_run _ _ _).mono (fun r h c => ?_) (Cert.UpFfnOutIdeal.Value.run_blocks (F := Ideal) m g)
    exact h c
  · refine (θ_run _ _ _).mono (fun r h c => ?_) (Cert.UpFfnOutRefIdeal.Value.run (F := Ideal) m' g')
    obtain ⟨h0, h1, h2, h3, ha⟩ := h c
    obtain ⟨e0, e1, e2, e3⟩ := hm c
    refine ⟨h0.trans ?_, h1.trans ?_, h2.trans ?_, h3.trans ?_, ha⟩
    all_goals try rw [e0]
    all_goals try rw [e1]
    all_goals try rw [e2]
    all_goals try rw [e3]
    · exact (Cert.UpFfnOutProof.final4 m c).symm
    · exact (Cert.UpFfnOutProof.final5 m c).symm
    · exact (Cert.UpFfnOutProof.final6 m c).symm
    · exact (Cert.UpFfnOutProof.final7 m c).symm

end Cert.Proof.UpFfnOutClaims

end
-- ==== Proof.UpGains.lean ====
module

public import proofs.«01_k».proof.Proof.Adam
public import proofs.«01_k».proof.Proof.Common
public import proofs.«01_k».proof.Proof.Gen.UpGainsIdeal.Value
public import proofs.«01_k».proof.Proof.Gen.UpGainsRefIdeal.Read

@[expose] public section

noncomputable section

/-! The optimiser's step on the three gains, and the sum of the losses: every device sent eight rows, of which the first
three are the gradients of the gains and the fourth its loss. -/

namespace Cert.UpGainsProof

open Idealize.ShloMosaic hiding ix2 eq_ix2 ix3 eq_ix3
open Idealize.ShloMosaic.TcCoe Idealize.ShloMosaic.Tactic Idealize.SL.Sem Idealize.ShloMosaic.ValueIdx
open Cert.UpGainsIdeal Cert.UpGainsIdeal.Gen Cert.UpGainsIdeal.Value
open Cert.UpGainsRefIdeal.Read Cert.Adam
open Idealize.ShloMosaic.Pipeline (Dat)

abbrev ArrG := (⟨3, ![8, 8, 1024]⟩ : Shape).Idx → EReal
abbrev ArrW := (⟨2, ![1, 1024]⟩ : Shape).Idx → EReal

/-- Row `q` summed over the senders. -/
def total (x : ArrG) (q : Fin 8) (k : Fin 1024) : EReal := ∑ j : Fin 8, x (ix3 j q k)

section Reference
variable (x0 : ArrG) (w m v : ArrW) (z : Fin 1) (k : Fin 1024)

theorem ref_total0 : val_main_v3 (F := Ideal) x0 (ix2 z k) = total x0 0 k := by
  rw [val_main_v3_apply, val_main_v2_apply, val_main_cst_apply]
  refine (congrArg (fun a : EReal => a + _) Ideal.ofBits_zero_f32).trans ?_
  rw [zero_add]
  refine Finset.sum_congr rfl fun j _ => ?_
  rw [val_main_v1_apply, val_main_v0_apply]
  refine congrArg x0 (funext fun a => Fin.ext ?_)
  match a with
  | ⟨0, _⟩ => show (j.val * 1024 + k.val) / 1024 = j.val; omega
  | ⟨1, _⟩ => rfl
  | ⟨2, _⟩ => show (j.val * 1024 + k.val) % 1024 = k.val; omega

theorem ref_total1 : val_main_v7 (F := Ideal) x0 (ix2 z k) = total x0 1 k := by
  rw [val_main_v7_apply, val_main_v6_apply, val_main_cst_0_apply]
  refine (congrArg (fun a : EReal => a + _) Ideal.ofBits_zero_f32).trans ?_
  rw [zero_add]
  refine Finset.sum_congr rfl fun j _ => ?_
  rw [val_main_v5_apply, val_main_v4_apply]
  refine congrArg x0 (funext fun a => Fin.ext ?_)
  match a with
  | ⟨0, _⟩ => show (j.val * 1024 + k.val) / 1024 = j.val; omega
  | ⟨1, _⟩ => rfl
  | ⟨2, _⟩ => show (j.val * 1024 + k.val) % 1024 = k.val; omega

theorem ref_total2 : val_main_v11 (F := Ideal) x0 (ix2 z k) = total x0 2 k := by
  rw [val_main_v11_apply, val_main_v10_apply, val_main_cst_1_apply]
  refine (congrArg (fun a : EReal => a + _) Ideal.ofBits_zero_f32).trans ?_
  rw [zero_add]
  refine Finset.sum_congr rfl fun j _ => ?_
  rw [val_main_v9_apply, val_main_v8_apply]
  refine congrArg x0 (funext fun a => Fin.ext ?_)
  match a with
  | ⟨0, _⟩ => show (j.val * 1024 + k.val) / 1024 = j.val; omega
  | ⟨1, _⟩ => rfl
  | ⟨2, _⟩ => show (j.val * 1024 + k.val) % 1024 = k.val; omega

theorem ref_total3 : val_main_v15 (F := Ideal) x0 (ix2 z k) = total x0 3 k := by
  rw [val_main_v15_apply, val_main_v14_apply, val_main_cst_2_apply]
  refine (congrArg (fun a : EReal => a + _) Ideal.ofBits_zero_f32).trans ?_
  rw [zero_add]
  refine Finset.sum_congr rfl fun j _ => ?_
  rw [val_main_v13_apply, val_main_v12_apply]
  refine congrArg x0 (funext fun a => Fin.ext ?_)
  match a with
  | ⟨0, _⟩ => show (j.val * 1024 + k.val) / 1024 = j.val; omega
  | ⟨1, _⟩ => rfl
  | ⟨2, _⟩ => show (j.val * 1024 + k.val) % 1024 = k.val; omega

theorem ref_mom0 : val_main_v20 (F := Ideal) x0 m (ix2 z k) = mom (total x0 0 k) (m (ix2 z k)) := by
  rw [val_main_v20_apply, val_main_v17_apply, val_main_v19_apply, ref_total0, val_main_v16_apply, val_main_v18_apply]
  rfl

theorem ref_sec0 : val_main_v26 (F := Ideal) x0 v (ix2 z k) = sec (total x0 0 k) (v (ix2 z k)) := by
  rw [val_main_v26_apply, val_main_v22_apply, val_main_v25_apply, val_main_v23_apply, ref_total0, val_main_v21_apply, val_main_v24_apply]
  rfl

theorem ref_delta0 : val_main_v39 (F := Ideal) x0 w m v (ix2 z k)
    = delta (w (ix2 z k)) (total x0 0 k) (m (ix2 z k)) (v (ix2 z k)) := by
  rw [val_main_v39_apply, val_main_v37_apply, val_main_v34_apply, val_main_v36_apply, val_main_v28_apply, val_main_v33_apply, val_main_v31_apply, val_main_v30_apply, ref_mom0, ref_sec0,
    val_main_v38_apply, val_main_v35_apply, val_main_v32_apply, val_main_v29_apply, val_main_v27_apply]
  rfl

theorem ref_mom1 : val_main_v44 (F := Ideal) x0 m (ix2 z k) = mom (total x0 1 k) (m (ix2 z k)) := by
  rw [val_main_v44_apply, val_main_v41_apply, val_main_v43_apply, ref_total1, val_main_v40_apply, val_main_v42_apply]
  rfl

theorem ref_sec1 : val_main_v50 (F := Ideal) x0 v (ix2 z k) = sec (total x0 1 k) (v (ix2 z k)) := by
  rw [val_main_v50_apply, val_main_v46_apply, val_main_v49_apply, val_main_v47_apply, ref_total1, val_main_v45_apply, val_main_v48_apply]
  rfl

theorem ref_delta1 : val_main_v63 (F := Ideal) x0 w m v (ix2 z k)
    = delta (w (ix2 z k)) (total x0 1 k) (m (ix2 z k)) (v (ix2 z k)) := by
  rw [val_main_v63_apply, val_main_v61_apply, val_main_v58_apply, val_main_v60_apply, val_main_v52_apply, val_main_v57_apply, val_main_v55_apply, val_main_v54_apply, ref_mom1, ref_sec1,
    val_main_v62_apply, val_main_v59_apply, val_main_v56_apply, val_main_v53_apply, val_main_v51_apply]
  rfl

theorem ref_mom2 : val_main_v68 (F := Ideal) x0 m (ix2 z k) = mom (total x0 2 k) (m (ix2 z k)) := by
  rw [val_main_v68_apply, val_main_v65_apply, val_main_v67_apply, ref_total2, val_main_v64_apply, val_main_v66_apply]
  rfl

theorem ref_sec2 : val_main_v74 (F := Ideal) x0 v (ix2 z k) = sec (total x0 2 k) (v (ix2 z k)) := by
  rw [val_main_v74_apply, val_main_v70_apply, val_main_v73_apply, val_main_v71_apply, ref_total2, val_main_v69_apply, val_main_v72_apply]
  rfl

theorem ref_delta2 : val_main_v87 (F := Ideal) x0 w m v (ix2 z k)
    = delta (w (ix2 z k)) (total x0 2 k) (m (ix2 z k)) (v (ix2 z k)) := by
  rw [val_main_v87_apply, val_main_v85_apply, val_main_v82_apply, val_main_v84_apply, val_main_v76_apply, val_main_v81_apply, val_main_v79_apply, val_main_v78_apply, ref_mom2, ref_sec2,
    val_main_v86_apply, val_main_v83_apply, val_main_v80_apply, val_main_v77_apply, val_main_v75_apply]
  rfl

end Reference

variable (m : (ℓ : Loc nD τ sig) → Buf (Elt Ideal) ℓ)

theorem idx0 : ∀ t : Fin cfg0.N, win0_0.index t = ![0, 0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![0, 0] := (by decide +kernel : ∀ t : Fin grid0.N, _)
theorem idx7 : ∀ t : Fin cfg0.N, win0_7.index t = ![0, 0] := (by decide +kernel : ∀ t : Fin grid0.N, _)
theorem idx8 : ∀ t : Fin cfg0.N, win0_8.index t = ![0, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![0, 0] := (by decide +kernel : ∀ t : Fin grid0.N, _)
theorem idx12 : ∀ t : Fin cfg0.N, win0_12.index t = ![0, 0] := (by decide +kernel : ∀ t : Fin grid0.N, _)
theorem idx13 : ∀ t : Fin cfg0.N, win0_13.index t = ![0, 0] := (by decide +kernel : ∀ t : Fin grid0.N, _)
theorem idx14 : ∀ t : Fin cfg0.N, win0_14.index t = ![0, 0] := (by decide +kernel : ∀ t : Fin grid0.N, _)
theorem idx15 : ∀ t : Fin cfg0.N, win0_15.index t = ![0, 0] := (by decide +kernel : ∀ t : Fin grid0.N, _)
theorem idx16 : ∀ t : Fin cfg0.N, win0_16.index t = ![0, 0] := (by decide +kernel : ∀ t : Fin grid0.N, _)
theorem idx17 : ∀ t : Fin cfg0.N, win0_17.index t = ![0, 0] := (by decide +kernel : ∀ t : Fin grid0.N, _)
theorem idx18 : ∀ t : Fin cfg0.N, win0_18.index t = ![0, 0] := (by decide +kernel : ∀ t : Fin grid0.N, _)
theorem idx19 : ∀ t : Fin cfg0.N, win0_19.index t = ![0, 0] := (by decide +kernel : ∀ t : Fin grid0.N, _)
theorem idx20 : ∀ t : Fin cfg0.N, win0_20.index t = ![0, 0] := (by decide +kernel : ∀ t : Fin grid0.N, _)
theorem idx21 : ∀ t : Fin cfg0.N, win0_21.index t = ![0, 0] := (by decide +kernel : ∀ t : Fin grid0.N, _)
theorem idx22 : ∀ t : Fin cfg0.N, win0_22.index t = ![0, 0] := (by decide +kernel : ∀ t : Fin grid0.N, _)

abbrev A0 (c : Dev nD) : ArrG := m ((c : Thread nD τ).loc main_arg0)
abbrev A1 (c : Dev nD) : ArrW := m ((c : Thread nD τ).loc main_arg1)
abbrev A2 (c : Dev nD) : ArrW := m ((c : Thread nD τ).loc main_arg2)
abbrev A3 (c : Dev nD) : ArrW := m ((c : Thread nD τ).loc main_arg3)
abbrev A4 (c : Dev nD) : ArrW := m ((c : Thread nD τ).loc main_arg4)
abbrev A5 (c : Dev nD) : ArrW := m ((c : Thread nD τ).loc main_arg5)
abbrev A6 (c : Dev nD) : ArrW := m ((c : Thread nD τ).loc main_arg6)
abbrev A7 (c : Dev nD) : ArrW := m ((c : Thread nD τ).loc main_arg7)
abbrev A8 (c : Dev nD) : ArrW := m ((c : Thread nD τ).loc main_arg8)
abbrev A9 (c : Dev nD) : ArrW := m ((c : Thread nD τ).loc main_arg9)

theorem blk0 (c : Dev nD) (t : Fin cfg0.N) (j q : Fin 8) (k : Fin 1024) : iblk m c 0 t (ix3 j q k) = A0 m c (ix3 j q k) := by
  blk_simp [iblk]
  rw [V_main_arg0]
  refine congrArg (m ((c : Thread nD τ).loc main_arg0)) ?_
  blk_ext [idx0]
theorem blk1 (c : Dev nD) (t : Fin cfg0.N) (z : Fin 1) (k : Fin 1024) : iblk m c 1 t (ix2 z k) = A1 m c (ix2 z k) := by
  blk_simp [iblk]
  rw [V_main_arg1]
  refine congrArg (m ((c : Thread nD τ).loc main_arg1)) ?_
  blk_ext [idx1]
theorem blk2 (c : Dev nD) (t : Fin cfg0.N) (z : Fin 1) (k : Fin 1024) : iblk m c 2 t (ix2 z k) = A2 m c (ix2 z k) := by
  blk_simp [iblk]
  rw [V_main_arg2]
  refine congrArg (m ((c : Thread nD τ).loc main_arg2)) ?_
  blk_ext [idx2]
theorem blk3 (c : Dev nD) (t : Fin cfg0.N) (z : Fin 1) (k : Fin 1024) : iblk m c 3 t (ix2 z k) = A3 m c (ix2 z k) := by
  blk_simp [iblk]
  rw [V_main_arg3]
  refine congrArg (m ((c : Thread nD τ).loc main_arg3)) ?_
  blk_ext [idx3]
theorem blk4 (c : Dev nD) (t : Fin cfg0.N) (z : Fin 1) (k : Fin 1024) : iblk m c 4 t (ix2 z k) = A4 m c (ix2 z k) := by
  blk_simp [iblk]
  rw [V_main_arg4]
  refine congrArg (m ((c : Thread nD τ).loc main_arg4)) ?_
  blk_ext [idx4]
theorem blk5 (c : Dev nD) (t : Fin cfg0.N) (z : Fin 1) (k : Fin 1024) : iblk m c 5 t (ix2 z k) = A5 m c (ix2 z k) := by
  blk_simp [iblk]
  rw [V_main_arg5]
  refine congrArg (m ((c : Thread nD τ).loc main_arg5)) ?_
  blk_ext [idx5]
theorem blk6 (c : Dev nD) (t : Fin cfg0.N) (z : Fin 1) (k : Fin 1024) : iblk m c 6 t (ix2 z k) = A6 m c (ix2 z k) := by
  blk_simp [iblk]
  rw [V_main_arg6]
  refine congrArg (m ((c : Thread nD τ).loc main_arg6)) ?_
  blk_ext [idx6]
theorem blk7 (c : Dev nD) (t : Fin cfg0.N) (z : Fin 1) (k : Fin 1024) : iblk m c 7 t (ix2 z k) = A7 m c (ix2 z k) := by
  blk_simp [iblk]
  rw [V_main_arg7]
  refine congrArg (m ((c : Thread nD τ).loc main_arg7)) ?_
  blk_ext [idx7]
theorem blk8 (c : Dev nD) (t : Fin cfg0.N) (z : Fin 1) (k : Fin 1024) : iblk m c 8 t (ix2 z k) = A8 m c (ix2 z k) := by
  blk_simp [iblk]
  rw [V_main_arg8]
  refine congrArg (m ((c : Thread nD τ).loc main_arg8)) ?_
  blk_ext [idx8]
theorem blk9 (c : Dev nD) (t : Fin cfg0.N) (z : Fin 1) (k : Fin 1024) : iblk m c 9 t (ix2 z k) = A9 m c (ix2 z k) := by
  blk_simp [iblk]
  rw [V_main_arg9]
  refine congrArg (m ((c : Thread nD τ).loc main_arg9)) ?_
  blk_ext [idx9]

theorem ld0_0 (c : Dev nD) (t : Fin cfg0.N) (y : S1x8x1024.Idx) :
    View.ld (iblk m c 0 t) r0_0 y = A0 m c (ix3 0 (y 1) (y 2)) := by
  refine Eq.trans ?_ (blk0 m c t 0 (y 1) (y 2))
  refine congrArg (iblk m c 0 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
  | ⟨2, _⟩ => show 0 + 1 * (y 2).val = (y 2).val; omega
theorem ld0_1 (c : Dev nD) (t : Fin cfg0.N) (y : S1x8x1024.Idx) :
    View.ld (iblk m c 0 t) r0_1 y = A0 m c (ix3 1 (y 1) (y 2)) := by
  refine Eq.trans ?_ (blk0 m c t 1 (y 1) (y 2))
  refine congrArg (iblk m c 0 t) (funext fun a => Fin.ext ?_)
  have h0 : (y 0).val < 1 := (y 0).isLt
  match a with
  | ⟨0, _⟩ => show 1 + 1 * (y 0).val = 1; omega
  | ⟨1, _⟩ => show 0 + 1 * (y 1).val = (y 1).val; omega
  | ⟨2, _⟩ => show 0 + 1 * (y 2).val = (y 2).val; omega
theorem ld0_2 (c : Dev nD) (t : Fin cfg0.N) (y : S1x8x1024.Idx) :
    View.ld (iblk m c 0 t) r0_2 y = A0 m c (ix3 2 (y 1) (y 2)) := by
  refine Eq.trans ?_ (blk0 m c t 2 (y 1) (y 2))
  refine congrArg (iblk m c 0 t) (funext fun a => Fin.ext ?_)
  have h0 : (y 0).val < 1 := (y 0).isLt
  match a with
  | ⟨0, _⟩ => show 2 + 1 * (y 0).val = 2; omega
  | ⟨1, _⟩ => show 0 + 1 * (y 1).val = (y 1).val; omega
  | ⟨2, _⟩ => show 0 + 1 * (y 2).val = (y 2).val; omega
theorem ld0_3 (c : Dev nD) (t : Fin cfg0.N) (y : S1x8x1024.Idx) :
    View.ld (iblk m c 0 t) r0_3 y = A0 m c (ix3 3 (y 1) (y 2)) := by
  refine Eq.trans ?_ (blk0 m c t 3 (y 1) (y 2))
  refine congrArg (iblk m c 0 t) (funext fun a => Fin.ext ?_)
  have h0 : (y 0).val < 1 := (y 0).isLt
  match a with
  | ⟨0, _⟩ => show 3 + 1 * (y 0).val = 3; omega
  | ⟨1, _⟩ => show 0 + 1 * (y 1).val = (y 1).val; omega
  | ⟨2, _⟩ => show 0 + 1 * (y 2).val = (y 2).val; omega
theorem ld0_4 (c : Dev nD) (t : Fin cfg0.N) (y : S1x8x1024.Idx) :
    View.ld (iblk m c 0 t) r0_4 y = A0 m c (ix3 4 (y 1) (y 2)) := by
  refine Eq.trans ?_ (blk0 m c t 4 (y 1) (y 2))
  refine congrArg (iblk m c 0 t) (funext fun a => Fin.ext ?_)
  have h0 : (y 0).val < 1 := (y 0).isLt
  match a with
  | ⟨0, _⟩ => show 4 + 1 * (y 0).val = 4; omega
  | ⟨1, _⟩ => show 0 + 1 * (y 1).val = (y 1).val; omega
  | ⟨2, _⟩ => show 0 + 1 * (y 2).val = (y 2).val; omega
theorem ld0_5 (c : Dev nD) (t : Fin cfg0.N) (y : S1x8x1024.Idx) :
    View.ld (iblk m c 0 t) r0_5 y = A0 m c (ix3 5 (y 1) (y 2)) := by
  refine Eq.trans ?_ (blk0 m c t 5 (y 1) (y 2))
  refine congrArg (iblk m c 0 t) (funext fun a => Fin.ext ?_)
  have h0 : (y 0).val < 1 := (y 0).isLt
  match a with
  | ⟨0, _⟩ => show 5 + 1 * (y 0).val = 5; omega
  | ⟨1, _⟩ => show 0 + 1 * (y 1).val = (y 1).val; omega
  | ⟨2, _⟩ => show 0 + 1 * (y 2).val = (y 2).val; omega
theorem ld0_6 (c : Dev nD) (t : Fin cfg0.N) (y : S1x8x1024.Idx) :
    View.ld (iblk m c 0 t) r0_6 y = A0 m c (ix3 6 (y 1) (y 2)) := by
  refine Eq.trans ?_ (blk0 m c t 6 (y 1) (y 2))
  refine congrArg (iblk m c 0 t) (funext fun a => Fin.ext ?_)
  have h0 : (y 0).val < 1 := (y 0).isLt
  match a with
  | ⟨0, _⟩ => show 6 + 1 * (y 0).val = 6; omega
  | ⟨1, _⟩ => show 0 + 1 * (y 1).val = (y 1).val; omega
  | ⟨2, _⟩ => show 0 + 1 * (y 2).val = (y 2).val; omega
theorem ld0_7 (c : Dev nD) (t : Fin cfg0.N) (y : S1x8x1024.Idx) :
    View.ld (iblk m c 0 t) r0_7 y = A0 m c (ix3 7 (y 1) (y 2)) := by
  refine Eq.trans ?_ (blk0 m c t 7 (y 1) (y 2))
  refine congrArg (iblk m c 0 t) (funext fun a => Fin.ext ?_)
  have h0 : (y 0).val < 1 := (y 0).isLt
  match a with
  | ⟨0, _⟩ => show 7 + 1 * (y 0).val = 7; omega
  | ⟨1, _⟩ => show 0 + 1 * (y 1).val = (y 1).val; omega
  | ⟨2, _⟩ => show 0 + 1 * (y 2).val = (y 2).val; omega
theorem ld_1 (c : Dev nD) (t : Fin cfg0.N) (y : S1x1024.Idx) :
    View.ld (iblk m c 1 t) r0_8 y = A1 m c (ix2 0 (y 1)) := by
  refine Eq.trans ?_ (blk1 m c t 0 (y 1))
  refine congrArg (iblk m c 1 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_2 (c : Dev nD) (t : Fin cfg0.N) (y : S1x1024.Idx) :
    View.ld (iblk m c 2 t) r0_8 y = A2 m c (ix2 0 (y 1)) := by
  refine Eq.trans ?_ (blk2 m c t 0 (y 1))
  refine congrArg (iblk m c 2 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_3 (c : Dev nD) (t : Fin cfg0.N) (y : S1x1024.Idx) :
    View.ld (iblk m c 3 t) r0_8 y = A3 m c (ix2 0 (y 1)) := by
  refine Eq.trans ?_ (blk3 m c t 0 (y 1))
  refine congrArg (iblk m c 3 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_4 (c : Dev nD) (t : Fin cfg0.N) (y : S1x1024.Idx) :
    View.ld (iblk m c 4 t) r0_8 y = A4 m c (ix2 0 (y 1)) := by
  refine Eq.trans ?_ (blk4 m c t 0 (y 1))
  refine congrArg (iblk m c 4 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_5 (c : Dev nD) (t : Fin cfg0.N) (y : S1x1024.Idx) :
    View.ld (iblk m c 5 t) r0_8 y = A5 m c (ix2 0 (y 1)) := by
  refine Eq.trans ?_ (blk5 m c t 0 (y 1))
  refine congrArg (iblk m c 5 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_6 (c : Dev nD) (t : Fin cfg0.N) (y : S1x1024.Idx) :
    View.ld (iblk m c 6 t) r0_8 y = A6 m c (ix2 0 (y 1)) := by
  refine Eq.trans ?_ (blk6 m c t 0 (y 1))
  refine congrArg (iblk m c 6 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_7 (c : Dev nD) (t : Fin cfg0.N) (y : S1x1024.Idx) :
    View.ld (iblk m c 7 t) r0_8 y = A7 m c (ix2 0 (y 1)) := by
  refine Eq.trans ?_ (blk7 m c t 0 (y 1))
  refine congrArg (iblk m c 7 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_8 (c : Dev nD) (t : Fin cfg0.N) (y : S1x1024.Idx) :
    View.ld (iblk m c 8 t) r0_8 y = A8 m c (ix2 0 (y 1)) := by
  refine Eq.trans ?_ (blk8 m c t 0 (y 1))
  refine congrArg (iblk m c 8 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega
theorem ld_9 (c : Dev nD) (t : Fin cfg0.N) (y : S1x1024.Idx) :
    View.ld (iblk m c 9 t) r0_8 y = A9 m c (ix2 0 (y 1)) := by
  refine Eq.trans ?_ (blk9 m c t 0 (y 1))
  refine congrArg (iblk m c 9 t) (funext fun a => Fin.ext ?_)
  have h0 : (y 0).val < 1 := (y 0).isLt
  match a with
  | ⟨0, _⟩ => show 0 + 1 * (y 0).val = 0; omega
  | ⟨1, _⟩ => show 0 + 1 * (y 1).val = (y 1).val; omega

section Entries
variable (c : Dev nD) (t : Fin cfg0.N) (k : Fin 1024)

theorem chain (q : Fin 8) : total (A0 m c) q k = A0 m c (ix3 0 q k) + A0 m c (ix3 1 q k) + A0 m c (ix3 2 q k) + A0 m c (ix3 3 q k) + A0 m c (ix3 4 q k) + A0 m c (ix3 5 q k) + A0 m c (ix3 6 q k) + A0 m c (ix3 7 q k) :=
  Fin.sum_univ_eight _

theorem new10 : out0_10 (iblk m c 0 t) (iblk m c 1 t) (iblk m c 2 t) (iblk m c 3 t) (iblk m c 4 t) (iblk m c 5 t) (iblk m c 6 t) (iblk m c 7 t) (iblk m c 8 t) (iblk m c 9 t) (ix2 0 k)
    = total (A0 m c) 3 k := by
  unfold_out out0_10
  refine (canon10_eq _ _ _ _ _ _ _ _ (ix2 0 k)).trans ?_
  rw [chain]
  simp only [E10, ld0_0, ld0_1, ld0_2, ld0_3, ld0_4, ld0_5, ld0_6, ld0_7]
  rfl

theorem new11 : out0_11 (iblk m c 0 t) (iblk m c 1 t) (iblk m c 2 t) (iblk m c 3 t) (iblk m c 4 t) (iblk m c 5 t) (iblk m c 6 t) (iblk m c 7 t) (iblk m c 8 t) (iblk m c 9 t) (ix2 0 k)
    = total (A0 m c) 0 k := by
  unfold_out out0_11
  refine (canon11_eq _ _ _ _ _ _ _ _ (ix2 0 k)).trans ?_
  rw [chain]
  simp only [E11, ld0_0, ld0_1, ld0_2, ld0_3, ld0_4, ld0_5, ld0_6, ld0_7]
  rfl

theorem new12 : out0_12 (iblk m c 0 t) (iblk m c 1 t) (iblk m c 2 t) (iblk m c 3 t) (iblk m c 4 t) (iblk m c 5 t) (iblk m c 6 t) (iblk m c 7 t) (iblk m c 8 t) (iblk m c 9 t) (ix2 0 k)
    = delta (A1 m c (ix2 0 k)) (total (A0 m c) 0 k) (A4 m c (ix2 0 k)) (A7 m c (ix2 0 k)) := by
  unfold_out out0_12
  refine (canon12_eq _ _ _ _ _ _ _ _ _ _ _ (ix2 0 k)).trans ?_
  rw [chain]
  simp only [E12, ld0_0, ld0_1, ld0_2, ld0_3, ld0_4, ld0_5, ld0_6, ld0_7, ld_1, ld_4, ld_7]
  rfl

theorem new13 : out0_13 (iblk m c 0 t) (iblk m c 1 t) (iblk m c 2 t) (iblk m c 3 t) (iblk m c 4 t) (iblk m c 5 t) (iblk m c 6 t) (iblk m c 7 t) (iblk m c 8 t) (iblk m c 9 t) (ix2 0 k)
    = mom (total (A0 m c) 0 k) (A4 m c (ix2 0 k)) := by
  unfold_out out0_13
  refine (canon13_eq _ _ _ _ _ _ _ _ _ (ix2 0 k)).trans ?_
  rw [chain]
  simp only [E13, ld0_0, ld0_1, ld0_2, ld0_3, ld0_4, ld0_5, ld0_6, ld0_7, ld_4]
  rfl

theorem new14 : out0_14 (iblk m c 0 t) (iblk m c 1 t) (iblk m c 2 t) (iblk m c 3 t) (iblk m c 4 t) (iblk m c 5 t) (iblk m c 6 t) (iblk m c 7 t) (iblk m c 8 t) (iblk m c 9 t) (ix2 0 k)
    = sec (total (A0 m c) 0 k) (A7 m c (ix2 0 k)) := by
  unfold_out out0_14
  refine (canon14_eq _ _ _ _ _ _ _ _ _ (ix2 0 k)).trans ?_
  rw [chain]
  simp only [E14, ld0_0, ld0_1, ld0_2, ld0_3, ld0_4, ld0_5, ld0_6, ld0_7, ld_7]
  rfl

theorem new15 : out0_15 (iblk m c 0 t) (iblk m c 1 t) (iblk m c 2 t) (iblk m c 3 t) (iblk m c 4 t) (iblk m c 5 t) (iblk m c 6 t) (iblk m c 7 t) (iblk m c 8 t) (iblk m c 9 t) (ix2 0 k)
    = total (A0 m c) 1 k := by
  unfold_out out0_15
  refine (canon15_eq _ _ _ _ _ _ _ _ (ix2 0 k)).trans ?_
  rw [chain]
  simp only [E15, ld0_0, ld0_1, ld0_2, ld0_3, ld0_4, ld0_5, ld0_6, ld0_7]
  rfl

theorem new16 : out0_16 (iblk m c 0 t) (iblk m c 1 t) (iblk m c 2 t) (iblk m c 3 t) (iblk m c 4 t) (iblk m c 5 t) (iblk m c 6 t) (iblk m c 7 t) (iblk m c 8 t) (iblk m c 9 t) (ix2 0 k)
    = delta (A2 m c (ix2 0 k)) (total (A0 m c) 1 k) (A5 m c (ix2 0 k)) (A8 m c (ix2 0 k)) := by
  unfold_out out0_16
  refine (canon16_eq _ _ _ _ _ _ _ _ _ _ _ (ix2 0 k)).trans ?_
  rw [chain]
  simp only [E16, ld0_0, ld0_1, ld0_2, ld0_3, ld0_4, ld0_5, ld0_6, ld0_7, ld_2, ld_5, ld_8]
  rfl

theorem new17 : out0_17 (iblk m c 0 t) (iblk m c 1 t) (iblk m c 2 t) (iblk m c 3 t) (iblk m c 4 t) (iblk m c 5 t) (iblk m c 6 t) (iblk m c 7 t) (iblk m c 8 t) (iblk m c 9 t) (ix2 0 k)
    = mom (total (A0 m c) 1 k) (A5 m c (ix2 0 k)) := by
  unfold_out out0_17
  refine (canon17_eq _ _ _ _ _ _ _ _ _ (ix2 0 k)).trans ?_
  rw [chain]
  simp only [E17, ld0_0, ld0_1, ld0_2, ld0_3, ld0_4, ld0_5, ld0_6, ld0_7, ld_5]
  rfl

theorem new18 : out0_18 (iblk m c 0 t) (iblk m c 1 t) (iblk m c 2 t) (iblk m c 3 t) (iblk m c 4 t) (iblk m c 5 t) (iblk m c 6 t) (iblk m c 7 t) (iblk m c 8 t) (iblk m c 9 t) (ix2 0 k)
    = sec (total (A0 m c) 1 k) (A8 m c (ix2 0 k)) := by
  unfold_out out0_18
  refine (canon18_eq _ _ _ _ _ _ _ _ _ (ix2 0 k)).trans ?_
  rw [chain]
  simp only [E18, ld0_0, ld0_1, ld0_2, ld0_3, ld0_4, ld0_5, ld0_6, ld0_7, ld_8]
  rfl

theorem new19 : out0_19 (iblk m c 0 t) (iblk m c 1 t) (iblk m c 2 t) (iblk m c 3 t) (iblk m c 4 t) (iblk m c 5 t) (iblk m c 6 t) (iblk m c 7 t) (iblk m c 8 t) (iblk m c 9 t) (ix2 0 k)
    = total (A0 m c) 2 k := by
  unfold_out out0_19
  refine (canon19_eq _ _ _ _ _ _ _ _ (ix2 0 k)).trans ?_
  rw [chain]
  simp only [E19, ld0_0, ld0_1, ld0_2, ld0_3, ld0_4, ld0_5, ld0_6, ld0_7]
  rfl

theorem new20 : out0_20 (iblk m c 0 t) (iblk m c 1 t) (iblk m c 2 t) (iblk m c 3 t) (iblk m c 4 t) (iblk m c 5 t) (iblk m c 6 t) (iblk m c 7 t) (iblk m c 8 t) (iblk m c 9 t) (ix2 0 k)
    = delta (A3 m c (ix2 0 k)) (total (A0 m c) 2 k) (A6 m c (ix2 0 k)) (A9 m c (ix2 0 k)) := by
  unfold_out out0_20
  refine (canon20_eq _ _ _ _ _ _ _ _ _ _ _ (ix2 0 k)).trans ?_
  rw [chain]
  simp only [E20, ld0_0, ld0_1, ld0_2, ld0_3, ld0_4, ld0_5, ld0_6, ld0_7, ld_3, ld_6, ld_9]
  rfl

theorem new21 : out0_21 (iblk m c 0 t) (iblk m c 1 t) (iblk m c 2 t) (iblk m c 3 t) (iblk m c 4 t) (iblk m c 5 t) (iblk m c 6 t) (iblk m c 7 t) (iblk m c 8 t) (iblk m c 9 t) (ix2 0 k)
    = mom (total (A0 m c) 2 k) (A6 m c (ix2 0 k)) := by
  unfold_out out0_21
  refine (canon21_eq _ _ _ _ _ _ _ _ _ (ix2 0 k)).trans ?_
  rw [chain]
  simp only [E21, ld0_0, ld0_1, ld0_2, ld0_3, ld0_4, ld0_5, ld0_6, ld0_7, ld_6]
  rfl

theorem new22 : out0_22 (iblk m c 0 t) (iblk m c 1 t) (iblk m c 2 t) (iblk m c 3 t) (iblk m c 4 t) (iblk m c 5 t) (iblk m c 6 t) (iblk m c 7 t) (iblk m c 8 t) (iblk m c 9 t) (ix2 0 k)
    = sec (total (A0 m c) 2 k) (A9 m c (ix2 0 k)) := by
  unfold_out out0_22
  refine (canon22_eq _ _ _ _ _ _ _ _ _ (ix2 0 k)).trans ?_
  rw [chain]
  simp only [E22, ld0_0, ld0_1, ld0_2, ld0_3, ld0_4, ld0_5, ld0_6, ld0_7, ld_9]
  rfl

end Entries

theorem final10 (c : Dev nD) : (dats m 0 c).arrAt 10 cfg0.N = val_main_v15 (F := Ideal) (A0 m c) := by
  refine (dats m 0 c).arrAt_eq_of_covers 10 _ (by decide +kernel) fun t hf y => ?_
  blk_simp
  rw [after0_10]
  obtain ⟨z, k, rfl⟩ : ∃ (z : Fin 1) (k : Fin 1024), y = ix2 z k := ⟨_, _, eq_ix2 y⟩
  obtain rfl : z = 0 := Subsingleton.elim _ _
  have e : (((View.whole main_v0_0).slice (win0_10.rect t)).emb (ix2 0 k)) = ix2 0 k := by blk_ext [idx10]
  refine Eq.trans ?_ ((congrArg _ e).trans (ref_total3 (A0 m c) 0 k)).symm
  exact new10 m c t k

theorem final11 (c : Dev nD) : (dats m 0 c).arrAt 11 cfg0.N = val_main_v3 (F := Ideal) (A0 m c) := by
  refine (dats m 0 c).arrAt_eq_of_covers 11 _ (by decide +kernel) fun t hf y => ?_
  blk_simp
  rw [after0_11]
  obtain ⟨z, k, rfl⟩ : ∃ (z : Fin 1) (k : Fin 1024), y = ix2 z k := ⟨_, _, eq_ix2 y⟩
  obtain rfl : z = 0 := Subsingleton.elim _ _
  have e : (((View.whole main_v0_1).slice (win0_11.rect t)).emb (ix2 0 k)) = ix2 0 k := by blk_ext [idx11]
  refine Eq.trans ?_ ((congrArg _ e).trans (ref_total0 (A0 m c) 0 k)).symm
  exact new11 m c t k

theorem final12 (c : Dev nD) : (dats m 0 c).arrAt 12 cfg0.N = val_main_v39 (F := Ideal) (A0 m c) (A1 m c) (A4 m c) (A7 m c) := by
  refine (dats m 0 c).arrAt_eq_of_covers 12 _ (by decide +kernel) fun t hf y => ?_
  blk_simp
  rw [after0_12]
  obtain ⟨z, k, rfl⟩ : ∃ (z : Fin 1) (k : Fin 1024), y = ix2 z k := ⟨_, _, eq_ix2 y⟩
  obtain rfl : z = 0 := Subsingleton.elim _ _
  have e : (((View.whole main_v0_2).slice (win0_12.rect t)).emb (ix2 0 k)) = ix2 0 k := by blk_ext [idx12]
  refine Eq.trans ?_ ((congrArg _ e).trans (ref_delta0 (A0 m c) (A1 m c) (A4 m c) (A7 m c) 0 k)).symm
  exact new12 m c t k

theorem final13 (c : Dev nD) : (dats m 0 c).arrAt 13 cfg0.N = val_main_v20 (F := Ideal) (A0 m c) (A4 m c) := by
  refine (dats m 0 c).arrAt_eq_of_covers 13 _ (by decide +kernel) fun t hf y => ?_
  blk_simp
  rw [after0_13]
  obtain ⟨z, k, rfl⟩ : ∃ (z : Fin 1) (k : Fin 1024), y = ix2 z k := ⟨_, _, eq_ix2 y⟩
  obtain rfl : z = 0 := Subsingleton.elim _ _
  have e : (((View.whole main_v0_3).slice (win0_13.rect t)).emb (ix2 0 k)) = ix2 0 k := by blk_ext [idx13]
  refine Eq.trans ?_ ((congrArg _ e).trans (ref_mom0 (A0 m c) (A4 m c) 0 k)).symm
  exact new13 m c t k

theorem final14 (c : Dev nD) : (dats m 0 c).arrAt 14 cfg0.N = val_main_v26 (F := Ideal) (A0 m c) (A7 m c) := by
  refine (dats m 0 c).arrAt_eq_of_covers 14 _ (by decide +kernel) fun t hf y => ?_
  blk_simp
  rw [after0_14]
  obtain ⟨z, k, rfl⟩ : ∃ (z : Fin 1) (k : Fin 1024), y = ix2 z k := ⟨_, _, eq_ix2 y⟩
  obtain rfl : z = 0 := Subsingleton.elim _ _
  have e : (((View.whole main_v0_4).slice (win0_14.rect t)).emb (ix2 0 k)) = ix2 0 k := by blk_ext [idx14]
  refine Eq.trans ?_ ((congrArg _ e).trans (ref_sec0 (A0 m c) (A7 m c) 0 k)).symm
  exact new14 m c t k

theorem final15 (c : Dev nD) : (dats m 0 c).arrAt 15 cfg0.N = val_main_v7 (F := Ideal) (A0 m c) := by
  refine (dats m 0 c).arrAt_eq_of_covers 15 _ (by decide +kernel) fun t hf y => ?_
  blk_simp
  rw [after0_15]
  obtain ⟨z, k, rfl⟩ : ∃ (z : Fin 1) (k : Fin 1024), y = ix2 z k := ⟨_, _, eq_ix2 y⟩
  obtain rfl : z = 0 := Subsingleton.elim _ _
  have e : (((View.whole main_v0_5).slice (win0_15.rect t)).emb (ix2 0 k)) = ix2 0 k := by blk_ext [idx15]
  refine Eq.trans ?_ ((congrArg _ e).trans (ref_total1 (A0 m c) 0 k)).symm
  exact new15 m c t k

theorem final16 (c : Dev nD) : (dats m 0 c).arrAt 16 cfg0.N = val_main_v63 (F := Ideal) (A0 m c) (A2 m c) (A5 m c) (A8 m c) := by
  refine (dats m 0 c).arrAt_eq_of_covers 16 _ (by decide +kernel) fun t hf y => ?_
  blk_simp
  rw [after0_16]
  obtain ⟨z, k, rfl⟩ : ∃ (z : Fin 1) (k : Fin 1024), y = ix2 z k := ⟨_, _, eq_ix2 y⟩
  obtain rfl : z = 0 := Subsingleton.elim _ _
  have e : (((View.whole main_v0_6).slice (win0_16.rect t)).emb (ix2 0 k)) = ix2 0 k := by blk_ext [idx16]
  refine Eq.trans ?_ ((congrArg _ e).trans (ref_delta1 (A0 m c) (A2 m c) (A5 m c) (A8 m c) 0 k)).symm
  exact new16 m c t k

theorem final17 (c : Dev nD) : (dats m 0 c).arrAt 17 cfg0.N = val_main_v44 (F := Ideal) (A0 m c) (A5 m c) := by
  refine (dats m 0 c).arrAt_eq_of_covers 17 _ (by decide +kernel) fun t hf y => ?_
  blk_simp
  rw [after0_17]
  obtain ⟨z, k, rfl⟩ : ∃ (z : Fin 1) (k : Fin 1024), y = ix2 z k := ⟨_, _, eq_ix2 y⟩
  obtain rfl : z = 0 := Subsingleton.elim _ _
  have e : (((View.whole main_v0_7).slice (win0_17.rect t)).emb (ix2 0 k)) = ix2 0 k := by blk_ext [idx17]
  refine Eq.trans ?_ ((congrArg _ e).trans (ref_mom1 (A0 m c) (A5 m c) 0 k)).symm
  exact new17 m c t k

theorem final18 (c : Dev nD) : (dats m 0 c).arrAt 18 cfg0.N = val_main_v50 (F := Ideal) (A0 m c) (A8 m c) := by
  refine (dats m 0 c).arrAt_eq_of_covers 18 _ (by decide +kernel) fun t hf y => ?_
  blk_simp
  rw [after0_18]
  obtain ⟨z, k, rfl⟩ : ∃ (z : Fin 1) (k : Fin 1024), y = ix2 z k := ⟨_, _, eq_ix2 y⟩
  obtain rfl : z = 0 := Subsingleton.elim _ _
  have e : (((View.whole main_v0_8).slice (win0_18.rect t)).emb (ix2 0 k)) = ix2 0 k := by blk_ext [idx18]
  refine Eq.trans ?_ ((congrArg _ e).trans (ref_sec1 (A0 m c) (A8 m c) 0 k)).symm
  exact new18 m c t k

theorem final19 (c : Dev nD) : (dats m 0 c).arrAt 19 cfg0.N = val_main_v11 (F := Ideal) (A0 m c) := by
  refine (dats m 0 c).arrAt_eq_of_covers 19 _ (by decide +kernel) fun t hf y => ?_
  blk_simp
  rw [after0_19]
  obtain ⟨z, k, rfl⟩ : ∃ (z : Fin 1) (k : Fin 1024), y = ix2 z k := ⟨_, _, eq_ix2 y⟩
  obtain rfl : z = 0 := Subsingleton.elim _ _
  have e : (((View.whole main_v0_9).slice (win0_19.rect t)).emb (ix2 0 k)) = ix2 0 k := by blk_ext [idx19]
  refine Eq.trans ?_ ((congrArg _ e).trans (ref_total2 (A0 m c) 0 k)).symm
  exact new19 m c t k

theorem final20 (c : Dev nD) : (dats m 0 c).arrAt 20 cfg0.N = val_main_v87 (F := Ideal) (A0 m c) (A3 m c) (A6 m c) (A9 m c) := by
  refine (dats m 0 c).arrAt_eq_of_covers 20 _ (by decide +kernel) fun t hf y => ?_
  blk_simp
  rw [after0_20]
  obtain ⟨z, k, rfl⟩ : ∃ (z : Fin 1) (k : Fin 1024), y = ix2 z k := ⟨_, _, eq_ix2 y⟩
  obtain rfl : z = 0 := Subsingleton.elim _ _
  have e : (((View.whole main_v0_10).slice (win0_20.rect t)).emb (ix2 0 k)) = ix2 0 k := by blk_ext [idx20]
  refine Eq.trans ?_ ((congrArg _ e).trans (ref_delta2 (A0 m c) (A3 m c) (A6 m c) (A9 m c) 0 k)).symm
  exact new20 m c t k

theorem final21 (c : Dev nD) : (dats m 0 c).arrAt 21 cfg0.N = val_main_v68 (F := Ideal) (A0 m c) (A6 m c) := by
  refine (dats m 0 c).arrAt_eq_of_covers 21 _ (by decide +kernel) fun t hf y => ?_
  blk_simp
  rw [after0_21]
  obtain ⟨z, k, rfl⟩ : ∃ (z : Fin 1) (k : Fin 1024), y = ix2 z k := ⟨_, _, eq_ix2 y⟩
  obtain rfl : z = 0 := Subsingleton.elim _ _
  have e : (((View.whole main_v0_11).slice (win0_21.rect t)).emb (ix2 0 k)) = ix2 0 k := by blk_ext [idx21]
  refine Eq.trans ?_ ((congrArg _ e).trans (ref_mom2 (A0 m c) (A6 m c) 0 k)).symm
  exact new21 m c t k

theorem final22 (c : Dev nD) : (dats m 0 c).arrAt 22 cfg0.N = val_main_v74 (F := Ideal) (A0 m c) (A9 m c) := by
  refine (dats m 0 c).arrAt_eq_of_covers 22 _ (by decide +kernel) fun t hf y => ?_
  blk_simp
  rw [after0_22]
  obtain ⟨z, k, rfl⟩ : ∃ (z : Fin 1) (k : Fin 1024), y = ix2 z k := ⟨_, _, eq_ix2 y⟩
  obtain rfl : z = 0 := Subsingleton.elim _ _
  have e : (((View.whole main_v0_12).slice (win0_22.rect t)).emb (ix2 0 k)) = ix2 0 k := by blk_ext [idx22]
  refine Eq.trans ?_ ((congrArg _ e).trans (ref_sec2 (A0 m c) (A9 m c) 0 k)).symm
  exact new22 m c t k

end Cert.UpGainsProof

end
-- ==== Proof.UpGainsClaims.lean ====
module

public import proofs.«01_k».proof.Proof.Gen.UpGains.Frame
public import proofs.«01_k».proof.Proof.UpGains
public import proofs.«01_k».proof.Defs

@[expose] public section

noncomputable section

namespace Cert.Proof.UpGainsClaims

open Idealize.ShloMosaic Idealize.ShloMosaic.TcCoe Idealize.SL.Sem

theorem frame_p : Cert.quiescent_UpGains := fun m ρ _ => Cert.UpGains.Gen.frame m ρ
theorem frame_pi : Cert.quiescent_UpGainsIdeal := fun m ρ _ => Cert.UpGainsIdeal.Gen.frame m ρ
theorem frame_ri : Cert.quiescent_UpGainsRefIdeal := fun m ρ _ =>
  (θ_run Cert.UpGainsRefIdeal.defs _ _).mono (fun r h => ⟨fun c => (h c).2.2.2.2.2.2.2.2.2.2.2.2.2,
      Idealize.ShloMosaic.sem_eq_zero_of_no_sems (by decide) r.2⟩)
    (Cert.UpGainsRefIdeal.Value.run (F := Ideal) m ρ)

open Cert.UpGainsIdeal Cert.UpGainsIdeal.Gen in
theorem algebraic : Cert.algebraic_UpGainsIdeal_UpGainsRefIdeal := fun m g m' g' _ hm => by
  refine ⟨fun c => (dats m 0 c).arrAt 10 cfg0.N,
    fun c => (dats m 0 c).arrAt 11 cfg0.N,
    fun c => (dats m 0 c).arrAt 12 cfg0.N,
    fun c => (dats m 0 c).arrAt 13 cfg0.N,
    fun c => (dats m 0 c).arrAt 14 cfg0.N,
    fun c => (dats m 0 c).arrAt 15 cfg0.N,
    fun c => (dats m 0 c).arrAt 16 cfg0.N,
    fun c => (dats m 0 c).arrAt 17 cfg0.N,
    fun c => (dats m 0 c).arrAt 18 cfg0.N,
    fun c => (dats m 0 c).arrAt 19 cfg0.N,
    fun c => (dats m 0 c).arrAt 20 cfg0.N,
    fun c => (dats m 0 c).arrAt 21 cfg0.N,
    fun c => (dats m 0 c).arrAt 22 cfg0.N, ?_, ?_⟩
  · refine (θ_run _ _ _).mono (fun r h c => ?_) (Cert.UpGainsIdeal.Value.run_blocks (F := Ideal) m g)
    exact h c
  · refine (θ_run _ _ _).mono (fun r h c => ?_) (Cert.UpGainsRefIdeal.Value.run (F := Ideal) m' g')
    obtain ⟨h10, h11, h12, h13, h14, h15, h16, h17, h18, h19, h20, h21, h22, ha⟩ := h c
    obtain ⟨e0, e1, e2, e3, e4, e5, e6, e7, e8, e9⟩ := hm c
    refine ⟨h10.trans ?_, h11.trans ?_, h12.trans ?_, h13.trans ?_, h14.trans ?_, h15.trans ?_, h16.trans ?_, h17.trans ?_, h18.trans ?_, h19.trans ?_, h20.trans ?_, h21.trans ?_, h22.trans ?_, ha⟩
    all_goals try rw [e0]
    all_goals try rw [e1]
    all_goals try rw [e2]
    all_goals try rw [e3]
    all_goals try rw [e4]
    all_goals try rw [e5]
    all_goals try rw [e6]
    all_goals try rw [e7]
    all_goals try rw [e8]
    all_goals try rw [e9]
    · exact (Cert.UpGainsProof.final10 m c).symm
    · exact (Cert.UpGainsProof.final11 m c).symm
    · exact (Cert.UpGainsProof.final12 m c).symm
    · exact (Cert.UpGainsProof.final13 m c).symm
    · exact (Cert.UpGainsProof.final14 m c).symm
    · exact (Cert.UpGainsProof.final15 m c).symm
    · exact (Cert.UpGainsProof.final16 m c).symm
    · exact (Cert.UpGainsProof.final17 m c).symm
    · exact (Cert.UpGainsProof.final18 m c).symm
    · exact (Cert.UpGainsProof.final19 m c).symm
    · exact (Cert.UpGainsProof.final20 m c).symm
    · exact (Cert.UpGainsProof.final21 m c).symm
    · exact (Cert.UpGainsProof.final22 m c).symm

end Cert.Proof.UpGainsClaims

end
-- ==== Proof.WOut.lean ====
module

public import proofs.«01_k».proof.Proof.Common
public import proofs.«01_k».proof.Proof.Gen.WOutIdeal.Value
public import proofs.«01_k».proof.Proof.Gen.WOutRefIdeal.Read
public import Idealize.ShloMosaic.Lib.Pipeline.ReadBack

@[expose] public section

noncomputable section

/-! The gradient of the output projection of the merge: one accumulator adds up two products, each over 2048 tokens; the
reference contracts all 4096 tokens at once. -/

namespace Cert.WOutProof

open Idealize.ShloMosaic hiding ix2 eq_ix2
open Idealize.ShloMosaic.TcCoe Idealize.ShloMosaic.Tactic Idealize.SL.Sem Idealize.ShloMosaic.ValueIdx
open Cert.WOutIdeal Cert.WOutIdeal.Gen
open Cert.WOutRefIdeal.Read
open Idealize.ShloMosaic.Pipeline (Dat)

/-- Entry `(r, k)` of the gradient: the sum over the tokens. -/
def grad (a d : (⟨2, ![4096, 1024]⟩ : Shape).Idx → EReal) (r k : Fin 1024) : EReal :=
  ∑ t : Fin 4096, a (ix2 t r) * d (ix2 t k)

theorem ref_grad (a d) (r k : Fin 1024) : val_main_v5 (F := Ideal) a d (ix2 r k) = grad a d r k := by
  refine (val_main_v5_apply a d _).trans ?_
  refine (val_main_v4_apply a d _).trans ?_
  refine (val_main_v3_apply a d _).trans (Finset.sum_congr rfl fun j _ => ?_)
  rw [val_main_v0_apply]
  exact (congrArg₂ (fun p q => d p * a q) (eq_ix2 _) (eq_ix2 _)).trans (mul_comm _ _)

/-- The half of the sum over the 2048 tokens from `o` on. -/
def half (a d : (⟨2, ![4096, 1024]⟩ : Shape).Idx → EReal) (o : Fin 2) (r k : Fin 1024) : EReal :=
  ∑ j : Fin 2048, a (ix2 ⟨o.val * 2048 + j.val, by omega⟩ r) * d (ix2 ⟨o.val * 2048 + j.val, by omega⟩ k)

theorem halves (a d) (r k : Fin 1024) : half a d 0 r k + half a d 1 r k = grad a d r k := by
  unfold grad half
  rw [Fin.sum_univ_tiles 2 2048 rfl, Fin.sum_univ_two]

theorem pay_apply (v : Vec Ideal S1024x1024 .f32) (a : Vec Ideal S2048x1024 .bf16) (b : Vec Ideal S2048x1024 .f32) (r k : Fin 1024) :
    k0_pay2 (F := Ideal) v a b (ix2 r k) = v (ix2 r k) + ∑ j : Fin 2048, a (ix2 j r) * b (ix2 j k) := by
  unfold k0_pay2
  simp only [shapeCast_self]
  refine congrArg (fun z : EReal => v (ix2 r k) + z) ?_
  refine (Common.matmul_tn_apply (M := 1024) (K := 2048) (N := 1024) _ none a _ _ r k).trans ?_
  simp only [constant_apply, Ideal.ofBits_zero_f32, zero_add]
  rfl

theorem zero_pay (r k : Fin 1024) : k0_pay1 (F := Ideal) (ix2 r k) = (0 : EReal) := by
  unfold k0_pay1
  simp only [shapeCast_self]
  exact Ideal.ofBits_zero_f32

variable (m : (ℓ : Loc nD τ sig) → Buf (Elt Ideal) ℓ)

theorem idx0 : ∀ t : Fin cfg0.N, win0_0.index t = ![t.val, 0] := (by decide +kernel : ∀ t : Fin grid0.N, _)
theorem idx1 : ∀ t : Fin cfg0.N, win0_1.index t = ![t.val, 0] := (by decide +kernel : ∀ t : Fin grid0.N, _)
theorem idx2 : ∀ t : Fin cfg0.N, win0_2.index t = ![0, 0] := (by decide +kernel : ∀ t : Fin grid0.N, _)

theorem lt2 (t : Fin cfg0.N) : t.val < 2 := lt_of_lt_of_eq t.isLt N_0

abbrev row (t : Fin cfg0.N) (k : Fin 2048) : Fin 4096 := ⟨t.val * 2048 + k.val, by have := lt2 t; omega⟩

theorem blk0 (c : Dev nD) (t : Fin cfg0.N) (k : Fin 2048) (r : Fin 1024) :
    iblk m c 0 t (ix2 k r) = m ((c : Thread nD τ).loc main_arg0) (ix2 (row t k) r) := by
  blk_simp [iblk]
  rw [V_main_arg0]
  refine congrArg (m ((c : Thread nD τ).loc main_arg0)) ?_
  blk_ext [idx0]
theorem blk1 (c : Dev nD) (t : Fin cfg0.N) (k : Fin 2048) (r : Fin 1024) :
    iblk m c 1 t (ix2 k r) = m ((c : Thread nD τ).loc main_arg1) (ix2 (row t k) r) := by
  blk_simp [iblk]
  rw [V_main_arg1]
  refine congrArg (m ((c : Thread nD τ).loc main_arg1)) ?_
  blk_ext [idx1]

theorem step (c : Dev nD) (t : Fin cfg0.N) (v : Vec Ideal S1024x1024 .f32) (r k : Fin 1024) :
    k0_pay2 (F := Ideal) v (iblk m c 0 t) (iblk m c 1 t) (ix2 r k)
      = v (ix2 r k) + half (m ((c : Thread nD τ).loc main_arg0)) (m ((c : Thread nD τ).loc main_arg1)) ⟨t.val, lt2 t⟩ r k :=
  (pay_apply _ _ _ r k).trans (congrArg (fun z : EReal => v (ix2 r k) + z)
    (Finset.sum_congr rfl fun j _ => congrArg₂ (fun a b : EReal => a * b) (blk0 m c t j r) (blk1 m c t j k)))

theorem scA (c : Dev nD) (t : Fin cfg0.N) (h : t.val % 2 = 0) (h' : ¬t.val % 2 = 1) :
    (outsAt0 m c t.val t.isLt).2 = k0_pay2 (F := Ideal) (k0_pay1 (F := Ideal)) (iblk m c 0 t) (iblk m c 1 t) := by
  rw [outsAt0_A m c t h h']
  frame_open
  simp (disch := decide) only [↓ View.readCov_skip, ↓ View.readCov_cons_toLoadRect, ↓ View.readCov_fill]
  frame_out

theorem outB (c : Dev nD) (t : Fin cfg0.N) (h : ¬t.val % 2 = 0) (h' : t.val % 2 = 1) (y : S1024x1024.Idx) : (outsAt0 m c t.val t.isLt).1 y
    = k0_pay2 (F := Ideal) (outsAt0 m c (t.val - 1) (Nat.lt_of_le_of_lt (Nat.sub_le _ _) t.isLt)).2 (iblk m c 0 t) (iblk m c 1 t) y := by
  rw [outsAt0_B m c t h h']
  frame_open
  simp (disch := decide) only [↓ View.readCov_skip, ↓ View.readCov_cons_toLoadRect, ↓ View.readCov_fill]
  frame_out
  simp only [read_unread_whole]
  rfl

theorem final2 (c : Dev nD) : (dats m 0 c).arrAt 2 cfg0.N =
    val_main_v5 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  have ht : t.val % 2 = 1 := (flush0_2 t).mp hf
  have hl := lt2 t
  have h1 : t.val = 1 := by omega
  obtain ⟨r, k, rfl⟩ : ∃ (r : Fin 1024) (k : Fin 1024), y = ix2 r k := ⟨_, _, eq_ix2 y⟩
  have e : (((View.whole main_v0).slice (win0_2.rect t)).emb (ix2 r k)) = ix2 r k := by blk_ext [idx2]
  refine Eq.trans ?_ ((congrArg _ e).trans (ref_grad _ _ _ _)).symm
  refine (outB m c t (by omega) ht _).trans ((step m c t _ r k).trans ?_)
  have h0 := congrFun (scA m c ⟨t.val - 1, Nat.lt_of_le_of_lt (Nat.sub_le _ _) t.isLt⟩ (by show (t.val - 1) % 2 = 0; omega) (by show ¬(t.val - 1) % 2 = 1; omega)) (ix2 r k)
  refine (congrArg₂ (fun a b : EReal => a + b) ((h0.trans (step m c _ _ r k)).trans
    (congrArg (fun z : EReal => z + _) (zero_pay r k))) rfl).trans ?_
  rw [zero_add]
  refine Eq.trans ?_ (halves _ _ r k)
  exact congrArg₂ (fun a b : EReal => a + b) (congrArg (fun o => half _ _ o r k) (Fin.ext (by show t.val - 1 = 0; omega)))
    (congrArg (fun o => half _ _ o r k) (Fin.ext (by show t.val = 1; omega)))

end Cert.WOutProof

end
-- ==== Proof.WOutClaims.lean ====
module

public import proofs.«01_k».proof.Proof.Gen.WOut.Frame
public import proofs.«01_k».proof.Proof.WOut
public import proofs.«01_k».proof.Defs

@[expose] public section

noncomputable section

namespace Cert.Proof.WOutClaims

open Idealize.ShloMosaic Idealize.ShloMosaic.TcCoe Idealize.SL.Sem

theorem frame_p : Cert.quiescent_WOut := fun m ρ _ => Cert.WOut.Gen.frame m ρ
theorem frame_pi : Cert.quiescent_WOutIdeal := fun m ρ _ => Cert.WOutIdeal.Gen.frame m ρ
theorem frame_ri : Cert.quiescent_WOutRefIdeal := fun m ρ _ =>
  (θ_run Cert.WOutRefIdeal.defs _ _).mono (fun r h => ⟨fun c => (h c).2,
      Idealize.ShloMosaic.sem_eq_zero_of_no_sems (by decide) r.2⟩)
    (Cert.WOutRefIdeal.Value.run (F := Ideal) m ρ)

open Cert.WOutIdeal Cert.WOutIdeal.Gen in
theorem algebraic : Cert.algebraic_WOutIdeal_WOutRefIdeal := fun m g m' g' _ hm => by
  refine ⟨fun c => (dats m 0 c).arrAt 2 cfg0.N, ?_, ?_⟩
  · refine (θ_run _ _ _).mono (fun r h c => ?_) (Cert.WOutIdeal.Value.run_blocks (F := Ideal) m g)
    obtain ⟨h0, ha⟩ := h c
    exact ⟨h0, ha⟩
  · refine (θ_run _ _ _).mono (fun r h c => ?_) (Cert.WOutRefIdeal.Value.run (F := Ideal) m' g')
    obtain ⟨h0, ha⟩ := h c
    obtain ⟨e0, e1⟩ := hm c
    refine ⟨h0.trans ?_, ha⟩
    all_goals try rw [e0]
    all_goals try rw [e1]
    · exact (Cert.WOutProof.final2 m c).symm

end Cert.Proof.WOutClaims

end
-- ==== Proof.PairSum.lean ====
module

public import proofs.«01_k».proof.Proof.Common
public import proofs.«01_k».proof.Proof.Gen.PairSum.Frame
public import proofs.«01_k».proof.Proof.Gen.PairSumIdeal.Frame
public import proofs.«01_k».proof.Proof.Gen.PairSumRefIdeal.Read
public import proofs.«01_k».proof.Pre_core_ok
public import Idealize.ShloMosaic.Lib.Pointwise.ShapeOpsCore

@[expose] public section

noncomputable section

/-! The sum of a core's half of the input weights' shards with the half its neighbour sent. Which half is its own is one word of the
operands, the core's number in its pair: zero or one. Block `(j, h)` of the result is shard `2 j + core`'s half `h` plus sent shard `j`'s. -/

namespace Cert.PairSumProof

open Idealize.ShloMosaic hiding ix1 eq_ix1 ix2 eq_ix2 ix3 eq_ix3
open Idealize.ShloMosaic.TcCoe Idealize.ShloMosaic.Tactic Idealize.SL.Sem Idealize.ShloMosaic.ValueIdx

/-- The word read as the core's number. -/
theorem word_of_pre [Cert.Pre_core_ok.Facts] {F : FTy → Type} [FloatOps F] (x0 : FVec F Cert.Pre_core_ok.S8x736x1024 .bf16)
    (x1 : FVec F Cert.Pre_core_ok.S4x736x1024 .bf16) (x2 : IVec Cert.Pre_core_ok.S1 32)
    (h : Cert.Pre_core_ok.fn (F := F) x0 x1 x2 = fun _ => 1#1) : ∃ b : Fin 2, ∀ y, x2 y = BitVec.ofNat 32 b.val := by
  have key : ∀ v : BitVec 32, IntOp.ori (IntOp.cmpi .eq v 0#32) (IntOp.cmpi .eq v 1#32) = 1#1 → v = 0#32 ∨ v = 1#32 := by
    intro v e
    by_cases h0 : v = 0#32
    · exact .inl h0
    by_cases h1 : v = 1#32
    · exact .inr h1
    · exact absurd e (by simp [IntOp.cmpi, IntOp.ori, beq_eq_false_iff_ne.mpr h0, beq_eq_false_iff_ne.mpr h1])
  have e := congrFun h (ix1 0)
  simp only [Cert.Pre_core_ok.fn, ori, cmpi, broadcastInDim, constantI] at e
  have one : ∀ y : Cert.Pre_core_ok.S1.Idx, y = ix1 0 := fun y => by
    funext a
    match a with
    | ⟨0, _⟩ => exact Subsingleton.elim (α := Fin 1) _ _
  rcases key _ e with e | e
  · exact ⟨0, fun y => by rw [one y]; exact e⟩
  · exact ⟨1, fun y => by rw [one y]; exact e⟩

/-- The block that a word picks. -/
theorem block_word (a : Fin 4) (b : Fin 2) : (Scalar.addi (Scalar.muli 2#32 (BitVec.ofNat 32 a.val)) (BitVec.ofNat 32 b.val)).toNat = 2 * a.val + b.val := by
  revert a b; decide
theorem half_word (a : Fin 2) : (BitVec.ofNat 32 a.val).toNat = a.val := by revert a; decide

section Bits
open Cert.PairSum Cert.PairSum.Gen

theorem ok_bits {F : FTy → Type} [FloatOps F] (pf : pre0.Contents (Elt F)) (b : Fin 2) (hb : ∀ y, pf 0 y = BitVec.ofNat 32 b.val) : ok0 (F := F) pf := by
  intro i
  have e : cc0_transform_0 Facts₀.inb_S1_S1_0 Facts₀.numel1_S1 pf i = ![2 * (i 0).val + b.val, (i 1).val, 0] := by
    unfold cc0_transform_0
    simp only [Pipeline.Prefetch.Contents.at, hb]
    rw [block_word (i 0) b, half_word (i 1)]
    rfl
  refine ⟨fun a => ?_, .inr (Affine.block_words_dvd (of_decide_eq_true rfl) (by decide))⟩
  rw [e]
  have h0 : (i 0).val < 4 := (i 0).isLt
  have h1 : (i 1).val < 2 := (i 1).isLt
  match a with
  | ⟨0, _⟩ => show (2 * (i 0).val + b.val + 1) * 1 ≤ 8; omega
  | ⟨1, _⟩ => show ((i 1).val + 1) * 368 ≤ 736; omega
  | ⟨2, _⟩ => show (0 + 1) * 1024 ≤ 1024; omega

end Bits

open Cert.PairSumIdeal Cert.PairSumIdeal.Gen

theorem index0 {F : FTy → Type} [FloatOps F] (pf : pre0.Contents (Elt F)) (b : Fin 2) (hb : ∀ y, pf 0 y = BitVec.ofNat 32 b.val) (i : grid0.Coords) :
    cc0_transform_0 Facts₀.inb_S1_S1_0 Facts₀.numel1_S1 pf i = ![2 * (i 0).val + b.val, (i 1).val, 0] := by
  unfold cc0_transform_0
  simp only [Pipeline.Prefetch.Contents.at, hb]
  rw [block_word (i 0) b, half_word (i 1)]
  rfl

theorem ok_ideal {F : FTy → Type} [FloatOps F] (pf : pre0.Contents (Elt F)) (b : Fin 2) (hb : ∀ y, pf 0 y = BitVec.ofNat 32 b.val) : ok0 (F := F) pf := by
  intro i
  refine ⟨fun a => ?_, .inr (Affine.block_words_dvd (of_decide_eq_true rfl) (by decide))⟩
  rw [index0 pf b hb]
  have h0 : (i 0).val < 4 := (i 0).isLt
  have h1 : (i 1).val < 2 := (i 1).isLt
  match a with
  | ⟨0, _⟩ => show (2 * (i 0).val + b.val + 1) * 1 ≤ 8; omega
  | ⟨1, _⟩ => show ((i 1).val + 1) * 368 ≤ 736; omega
  | ⟨2, _⟩ => show (0 + 1) * 1024 ≤ 1024; omega

abbrev ArrB := (⟨3, ![8, 736, 1024]⟩ : Shape).Idx → EReal
abbrev ArrS := (⟨3, ![4, 736, 1024]⟩ : Shape).Idx → EReal

/-- The result: the core's own shard plus the one sent. -/
def total (x0 : ArrB) (x1 : ArrS) (b : Fin 2) : ArrS := fun y =>
  x0 (ix3 ⟨2 * (y 0).val + b.val, by have h : (y 0).val < 4 := (y 0).isLt; omega⟩ (y 1) (y 2)) + x1 y

open Cert.PairSumRefIdeal.Read in
theorem ref_eq (x0 : ArrB) (x1 : ArrS) (x2 : IVec Cert.PairSumRefIdeal.S1 32) (b : Fin 2) (hb : ∀ y, x2 y = BitVec.ofNat 32 b.val) :
    val_main_v8 (F := Ideal) x0 x1 x2 = total x0 x1 b := by
  funext y
  obtain ⟨j, r, k, rfl⟩ : ∃ (j : Fin 4) (r : Fin 736) (k : Fin 1024), y = ix3 j r k := ⟨_, _, _, eq_ix3 y⟩
  rw [val_main_v8_apply, val_main_v7_apply, val_main_v5_apply, val_main_v6_apply]
  have hw : ∀ i, val_main_v1 (F := Ideal) x2 i = if b = 0 then 1#1 else 0#1 := fun i => by
    rw [val_main_v1_apply, val_main_c_apply]
    show IntOp.cmpi .eq (x2 _) 0#32 = _
    rw [hb]
    clear hb; revert b; decide
  show (val_main_v4 (F := Ideal) x0 x2 (ix3 j r k) : EReal) + x1 (ix3 j r k) = _
  refine congrArg (fun a : EReal => a + _) ?_
  show Scalar.select (val_main_v1 (F := Ideal) x2 _) (val_main_v2 (F := Ideal) x0 (ix3 j r k)) (val_main_v3 (F := Ideal) x0 (ix3 j r k)) = _
  rw [hw]
  unfold val_main_v2 val_main_v3
  rw [Host.slice_apply, Host.slice_apply]
  clear hb hw
  match b with
  | ⟨0, _⟩ =>
    refine congrArg x0 (funext fun a => Fin.ext ?_)
    match a with
    | ⟨0, _⟩ => show 0 + 2 * j.val = 2 * j.val + 0; omega
    | ⟨1, _⟩ => show 0 + 1 * r.val = r.val; omega
    | ⟨2, _⟩ => show 0 + 1 * k.val = k.val; omega
  | ⟨1, _⟩ =>
    refine congrArg x0 (funext fun a => Fin.ext ?_)
    match a with
    | ⟨0, _⟩ => show 1 + 2 * j.val = 2 * j.val + 1; omega
    | ⟨1, _⟩ => show 0 + 1 * r.val = r.val; omega
    | ⟨2, _⟩ => show 0 + 1 * k.val = k.val; omega

variable (m : (ℓ : Loc nD τ sig) → Buf (Elt Ideal) ℓ) (hO : Ok m)

abbrev A0 (c : Dev nD) : ArrB := m ((c : Thread nD τ).loc main_arg0)
abbrev A1 (c : Dev nD) : ArrS := m ((c : Thread nD τ).loc main_arg1)

theorem coords_of : ∀ (j : Fin 4) (h : Fin 2), ∃ t : Fin grid0.N, (grid0.coords t 0).val = j.val ∧ (grid0.coords t 1).val = h.val := by
  decide +kernel

theorem pay_apply (v w : S1x368x1024.Idx → EReal) (y : S1x368x1024.Idx) : (k0_pay1 (F := Ideal) v w y : EReal) = v y + w y := by
  obtain ⟨z, r, k, rfl⟩ : ∃ (z : Fin 1) (r : Fin 368) (k : Fin 1024), y = ix3 z r k := ⟨_, _, _, eq_ix3 y⟩
  obtain rfl : z = 0 := Subsingleton.elim _ _
  unfold k0_pay1
  refine (shapeCast_ab_1ab_apply _ _ 0 r k).trans ?_
  show (shapeCast S368x1024 v _ (ix2 r k) : EReal) + shapeCast S368x1024 w _ (ix2 r k) = _
  exact congrArg₂ (fun a b : EReal => a + b) (shapeCast_1ab_ab_apply v _ r k) (shapeCast_1ab_ab_apply w _ r k)

/-- The blocks the point reads and writes, at coordinates. -/
abbrev I0 (c : Dev nD) (t : Fin (cfgM m hO).N) : S1x368x1024.Idx → EReal := iblk m hO c 0 t
abbrev I1 (c : Dev nD) (t : Fin (cfgM m hO).N) : S1x368x1024.Idx → EReal := iblk m hO c 1 t

theorem out_at (c : Dev nD) (t : Fin (cfgM m hO).N) :
    (dats m hO 0 c).after 2 t = k0_pay1 (F := Ideal) (I0 m hO c t) (I1 m hO c t) := by
  rw [after0_2]
  unfold outsAt0
  frame_out
  exact congrArg₂ (fun a b => k0_pay1 (F := Ideal) a b) ((hs0_0 m hO t).read_unread _) ((hs0_1 m hO t).read_unread _)

theorem lt0 (t : Fin grid0.N) : (grid0.coords t 0).val < 4 := (grid0.coords t 0).isLt
theorem lt1 (t : Fin grid0.N) : (grid0.coords t 1).val < 2 := (grid0.coords t 1).isLt

/-- The result's entry that entry `y` of point `t`'s block is. -/
def dst (t : Fin grid0.N) (y : S1x368x1024.Idx) : (⟨3, ![4, 736, 1024]⟩ : Shape).Idx :=
  ix3 ⟨(grid0.coords t 0).val, lt0 t⟩ ⟨(grid0.coords t 1).val * 368 + (y 1).val, by
    have h : (y 1).val < 368 := (y 1).isLt; have := lt1 t; omega⟩ (y 2)

theorem emb2 (t : Fin (cfgM m hO).N) (y : S1x368x1024.Idx) : (((cfgM m hO).win 2).blk t).view.emb y = dst t y := by
  have e : cc0_transform_2 (grid0.coords t) = ![(grid0.coords t 0).val, (grid0.coords t 1).val, 0] :=
    (by decide +kernel : ∀ t : Fin grid0.N, cc0_transform_2 (grid0.coords t) = ![(grid0.coords t 0).val, (grid0.coords t 1).val, 0]) t
  have h0 : (y 0).val < 1 := (y 0).isLt
  funext a; apply Fin.ext
  match a with
  | ⟨0, _⟩ =>
    show cc0_transform_2 (grid0.coords t) 0 * 1 + 1 * (y 0).val = (grid0.coords t 0).val
    rw [e]; show (grid0.coords t 0).val * 1 + 1 * (y 0).val = _; omega
  | ⟨1, _⟩ =>
    show cc0_transform_2 (grid0.coords t) 1 * 368 + 1 * (y 1).val = (grid0.coords t 1).val * 368 + (y 1).val
    rw [e]; show (grid0.coords t 1).val * 368 + 1 * (y 1).val = _; omega
  | ⟨2, _⟩ =>
    show cc0_transform_2 (grid0.coords t) 2 * 1024 + 1 * (y 2).val = (y 2).val
    rw [e]; show 0 * 1024 + 1 * (y 2).val = _; omega

theorem emb1 (t : Fin (cfgM m hO).N) (y : S1x368x1024.Idx) : (((cfgM m hO).win 1).blk t).view.emb y = dst t y := by
  have e : cc0_transform_1 (grid0.coords t) = ![(grid0.coords t 0).val, (grid0.coords t 1).val, 0] :=
    (by decide +kernel : ∀ t : Fin grid0.N, cc0_transform_1 (grid0.coords t) = ![(grid0.coords t 0).val, (grid0.coords t 1).val, 0]) t
  have h0 : (y 0).val < 1 := (y 0).isLt
  funext a; apply Fin.ext
  match a with
  | ⟨0, _⟩ =>
    show cc0_transform_1 (grid0.coords t) 0 * 1 + 1 * (y 0).val = (grid0.coords t 0).val
    rw [e]; show (grid0.coords t 0).val * 1 + 1 * (y 0).val = _; omega
  | ⟨1, _⟩ =>
    show cc0_transform_1 (grid0.coords t) 1 * 368 + 1 * (y 1).val = (grid0.coords t 1).val * 368 + (y 1).val
    rw [e]; show (grid0.coords t 1).val * 368 + 1 * (y 1).val = _; omega
  | ⟨2, _⟩ =>
    show cc0_transform_1 (grid0.coords t) 2 * 1024 + 1 * (y 2).val = (y 2).val
    rw [e]; show 0 * 1024 + 1 * (y 2).val = _; omega

theorem emb0 (b : Fin 2) (hb : ∀ y, tbl m 0 y = BitVec.ofNat 32 b.val) (t : Fin (cfgM m hO).N) (y : S1x368x1024.Idx) :
    (((cfgM m hO).win 0).blk t).view.emb y
      = (ix3 ⟨2 * (dst t y 0).val + b.val, by have h : (dst t y 0).val < 4 := (dst t y 0).isLt; omega⟩ (dst t y 1) (dst t y 2) :
          (⟨3, ![8, 736, 1024]⟩ : Shape).Idx) := by
  have e := index0 (F := Ideal) (tbl m) b hb (grid0.coords t)
  have h0 : (y 0).val < 1 := (y 0).isLt
  funext a; apply Fin.ext
  match a with
  | ⟨0, _⟩ =>
    show cc0_transform_0 Facts₀.inb_S1_S1_0 Facts₀.numel1_S1 (tbl m) (grid0.coords t) 0 * 1 + 1 * (y 0).val = 2 * (grid0.coords t 0).val + b.val
    rw [e]; show (2 * (grid0.coords t 0).val + b.val) * 1 + 1 * (y 0).val = _; omega
  | ⟨1, _⟩ =>
    show cc0_transform_0 Facts₀.inb_S1_S1_0 Facts₀.numel1_S1 (tbl m) (grid0.coords t) 1 * 368 + 1 * (y 1).val = (grid0.coords t 1).val * 368 + (y 1).val
    rw [e]; show (grid0.coords t 1).val * 368 + 1 * (y 1).val = _; omega
  | ⟨2, _⟩ =>
    show cc0_transform_0 Facts₀.inb_S1_S1_0 Facts₀.numel1_S1 (tbl m) (grid0.coords t) 2 * 1024 + 1 * (y 2).val = (y 2).val
    rw [e]; show 0 * 1024 + 1 * (y 2).val = _; omega

theorem cover (i : (⟨3, ![4, 736, 1024]⟩ : Shape).Idx) : ∃ (t : Fin grid0.N) (y : S1x368x1024.Idx), dst t y = i := by
  obtain ⟨j, r, k, rfl⟩ : ∃ (j : Fin 4) (r : Fin 736) (k : Fin 1024), i = ix3 j r k := ⟨_, _, _, eq_ix3 i⟩
  obtain ⟨t, h0, h1⟩ := coords_of j ⟨r.val / 368, by omega⟩
  have h1' : (grid0.coords t 1).val = r.val / 368 := h1
  refine ⟨t, ix3 (0 : Fin 1) (⟨r.val % 368, by omega⟩ : Fin 368) k, funext fun a => Fin.ext ?_⟩
  match a with
  | ⟨0, _⟩ => exact h0
  | ⟨1, _⟩ => show (grid0.coords t 1).val * 368 + r.val % 368 = r.val; rw [h1']; omega
  | ⟨2, _⟩ => rfl

theorem final (b : Fin 2) (hb : ∀ y, tbl m 0 y = BitVec.ofNat 32 b.val) (c : Dev nD) :
    (dats m hO 0 c).arrAt 2 (cfgM m hO).N = total (A0 m c) (A1 m c) b := by
  refine (dats m hO 0 c).arrAt_eq_of_emb 2 _ (fun t hf y => ?_) fun i => ?_
  · show ((dats m hO 0 c).after 2 t y : EReal) = total (A0 m c) (A1 m c) b ((((cfgM m hO).win 2).blk t).view.emb y)
    refine (congrFun (out_at m hO c t) y).trans ?_
    refine (pay_apply (I0 m hO c t) (I1 m hO c t) y).trans ?_
    refine Eq.trans ?_ (congrArg (total (A0 m c) (A1 m c) b) (emb2 m hO t y)).symm
    refine congrArg₂ (fun a b : EReal => a + b) ?_ ?_
    · show V m c main_arg0 ((((cfgM m hO).win 0).blk t).view.emb y) = _
      rw [V_main_arg0]
      exact congrArg (A0 m c) (emb0 m hO b hb t y)
    · show V m c main_arg1 ((((cfgM m hO).win 1).blk t).view.emb y) = _
      rw [V_main_arg1]
      exact congrArg (A1 m c) (emb1 m hO t y)
  · obtain ⟨t, y, h⟩ := cover i
    refine ⟨t, flush0_2 _ t, ?_⟩
    have h' := (((cfgM m hO).win 2).blk t).view.emb_mem_set y
    exact ((emb2 m hO t y).trans h) ▸ h'

end Cert.PairSumProof

end
-- ==== Proof.PairSumClaims.lean ====
module

public import proofs.«01_k».proof.Proof.PairSum
public import proofs.«01_k».proof.Proof.Gen.PairSumRefIdeal.Run
public import proofs.«01_k».proof.Defs

@[expose] public section

noncomputable section

namespace Cert.Proof.PairSumClaims

open Idealize.ShloMosaic Idealize.ShloMosaic.TcCoe Idealize.SL.Sem

variable [hPre : Cert.Pre_core_ok.Facts]

section Bits
open Cert.PairSum Cert.PairSum.Gen

theorem ok_bits (m : (ℓ : Loc nD τ sig) → Buf (Elt Bits) ℓ) (h : Cert.Pre_PairSum m) : Ok m := by
  obtain ⟨b, hb⟩ := Cert.PairSumProof.word_of_pre _ _ _ (h 0)
  refine Cert.PairSumProof.ok_bits (tbl m) b fun y => ?_
  show V m (0 : Dev nD) main_arg2 y = _
  rw [V_main_arg2]
  exact hb y

theorem frame_p : Cert.quiescent_PairSum := fun m ρ h => Cert.PairSum.Gen.frame m ρ (ok_bits m h)
end Bits

section Ideal
open Cert.PairSumIdeal Cert.PairSumIdeal.Gen

theorem word (m : (ℓ : Loc nD τ sig) → Buf (Elt Ideal) ℓ) (h : Cert.Pre_PairSumIdeal m) :
    ∃ b : Fin 2, (∀ y, m (((0 : Dev nD) : Thread nD τ).loc main_arg2) y = BitVec.ofNat 32 b.val) ∧ ∀ y, tbl m 0 y = BitVec.ofNat 32 b.val := by
  obtain ⟨b, hb⟩ := Cert.PairSumProof.word_of_pre _ _ _ (h 0)
  refine ⟨b, hb, fun y => ?_⟩
  show V m (0 : Dev nD) main_arg2 y = _
  rw [V_main_arg2]
  exact hb y

theorem frame_pi : Cert.quiescent_PairSumIdeal := fun m ρ h => by
  obtain ⟨b, _, hb⟩ := word m h
  exact Cert.PairSumIdeal.Gen.frame m ρ (Cert.PairSumProof.ok_ideal (tbl m) b hb)

theorem algebraic : Cert.algebraic_PairSumIdeal_PairSumRefIdeal := fun m g m' g' hpre hm => by
  obtain ⟨b, hw, hb⟩ := word m hpre
  have hO : Ok m := Cert.PairSumProof.ok_ideal (tbl m) b hb
  refine ⟨fun c => (dats m hO 0 c).arrAt 2 (cfgM m hO).N, ?_, ?_⟩
  · refine (θ_run _ _ _).mono (fun r h c => ?_) (run_main m g hO)
    exact ⟨(h c).1 2, ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).2 main_arg2 (by decide : main_arg2 ∈ Pipeline.restRefs sig spec0)).trans (V_main_arg2 m c)⟩
  · refine (θ_run _ _ _).mono (fun r h c => ?_) (Cert.PairSumRefIdeal.Value.run (F := Ideal) m' g')
    obtain ⟨h0, ha⟩ := h c
    obtain ⟨e0, e1, e2⟩ := hm c
    refine ⟨h0.trans ?_, ha⟩
    rw [e0, e1, e2]
    obtain rfl : c = 0 := Subsingleton.elim _ _
    exact (Cert.PairSumProof.ref_eq _ _ _ b hw).trans (Cert.PairSumProof.final m hO b hb 0).symm

end Ideal

omit hPre in
theorem frame_ri : Cert.quiescent_PairSumRefIdeal := fun m ρ _ =>
  (θ_run Cert.PairSumRefIdeal.defs _ _).mono (fun r h => ⟨fun c => (h c).2,
      Idealize.ShloMosaic.sem_eq_zero_of_no_sems (by decide) r.2⟩)
    (Cert.PairSumRefIdeal.Value.run (F := Ideal) m ρ)
theorem frame_ri_pre : Cert.quiescent_PairSumRefIdeal_pre_core_ok := fun m ρ _ => frame_ri m ρ trivial

end Cert.Proof.PairSumClaims

end
-- ==== Proof.ToBf16Claims.lean ====
module

public import proofs.«01_k».proof.Proof.Gen.ToBf16.Frame
public import proofs.«01_k».proof.Proof.Gen.ToBf16Ideal.Value
public import proofs.«01_k».proof.Proof.Gen.ToBf16RefIdeal.Run
public import proofs.«01_k».proof.Proof.Gen.ToBf16RefIdeal.Read
public import proofs.«01_k».proof.Defs

@[expose] public section

noncomputable section

/-! The weights' shards at half width: each array is taken whole, two of them turned on their side. -/

namespace Cert.Proof.ToBf16Claims

open Idealize.ShloMosaic Idealize.ShloMosaic.TcCoe Idealize.SL.Sem

theorem frame_p : Cert.quiescent_ToBf16 := fun m ρ _ => Cert.ToBf16.Gen.frame m ρ
theorem frame_pi : Cert.quiescent_ToBf16Ideal := fun m ρ _ => Cert.ToBf16Ideal.Gen.frame m ρ
theorem frame_ri : Cert.quiescent_ToBf16RefIdeal := fun m ρ _ =>
  (θ_run Cert.ToBf16RefIdeal.defs _ _).mono (fun r h => ⟨fun c => (h c).2.2.2.2.2.2,
      Idealize.ShloMosaic.sem_eq_zero_of_no_sems (by decide) r.2⟩)
    (Cert.ToBf16RefIdeal.Value.run (F := Ideal) m ρ)

open Cert.ToBf16Ideal Cert.ToBf16Ideal.Gen in
theorem algebraic : Cert.algebraic_ToBf16Ideal_ToBf16RefIdeal := fun m g m' g' _ hm => by
  refine ⟨fun c => (dats m 0 c).arrAt 6 cfg0.N, fun c => (dats m 0 c).arrAt 7 cfg0.N,
    fun c => (dats m 0 c).arrAt 8 cfg0.N, fun c => (dats m 0 c).arrAt 9 cfg0.N,
    fun c => (dats m 0 c).arrAt 10 cfg0.N, fun c => (dats m 0 c).arrAt 11 cfg0.N, ?_, ?_⟩
  · refine (θ_run _ _ _).mono (fun r h c => ?_) (Cert.ToBf16Ideal.Value.run_blocks (F := Ideal) m g)
    exact h c
  · refine (θ_run _ _ _).mono (fun r h c => ?_) (Cert.ToBf16RefIdeal.Value.run (F := Ideal) m' g')
    obtain ⟨h0, h1, h2, h3, h4, h5, ha⟩ := h c
    obtain ⟨e0, e1, e2, e3, e4, e5⟩ := hm c
    refine ⟨h0.trans ?_, h1.trans ?_, h2.trans ?_, h3.trans ?_, h4.trans ?_, h5.trans ?_, ha⟩
    · rw [e0]; exact (Cert.ToBf16Ideal.Value.final6 m c).symm
    · rw [e1]; exact (Cert.ToBf16Ideal.Value.final7 m c).symm
    · rw [e2]; exact (Cert.ToBf16Ideal.Value.final8 m c).symm
    · rw [e3]; exact (Cert.ToBf16Ideal.Value.final9 m c).symm
    · rw [e4]; exact (Cert.ToBf16Ideal.Value.final10 m c).symm
    · rw [e5]; exact (Cert.ToBf16Ideal.Value.final11 m c).symm

end Cert.Proof.ToBf16Claims

end
-- ==== Proof.lean ====
module

public import proofs.«01_k».proof.Proof.Gen.PairSum.Frame
public import proofs.«01_k».proof.Proof.Gen.PairSumIdeal.Frame
public import proofs.«01_k».proof.Proof.Gen.PairSumRefIdeal.Run
public import proofs.«01_k».proof.Proof.Gen.PairSumRefIdeal.Read
public import proofs.«01_k».proof.Proof.Gen.ToBf16.Frame
public import proofs.«01_k».proof.Proof.Gen.ToBf16Ideal.Value
public import proofs.«01_k».proof.Proof.Gen.ToBf16RefIdeal.Run
public import proofs.«01_k».proof.Proof.Gen.ToBf16RefIdeal.Read
public import proofs.«01_k».proof.Proof.Gen.Gate.Frame
public import proofs.«01_k».proof.Proof.Gen.GateIdeal.Value
public import proofs.«01_k».proof.Proof.Gen.GateRefIdeal.Run
public import proofs.«01_k».proof.Proof.Gen.GateRefIdeal.Read
public import proofs.«01_k».proof.Proof.GateClaims
public import proofs.«01_k».proof.Proof.StickFrame
public import proofs.«01_k».proof.Proof.StickIdealFrame
public import proofs.«01_k».proof.Proof.StickFwdFrame
public import proofs.«01_k».proof.Proof.StickFwdIdealFrame
public import proofs.«01_k».proof.Proof.Gen.NormProj.Frame
public import proofs.«01_k».proof.Proof.Gen.NormProjIdeal.Value
public import proofs.«01_k».proof.Proof.Gen.NormProjRefIdeal.Run
public import proofs.«01_k».proof.Proof.Gen.NormProjRefIdeal.Read
public import proofs.«01_k».proof.Proof.Gen.FfnIn.Frame
public import proofs.«01_k».proof.Proof.Gen.FfnInIdeal.Value
public import proofs.«01_k».proof.Proof.Gen.FfnInRefIdeal.Run
public import proofs.«01_k».proof.Proof.Gen.FfnInRefIdeal.Read
public import proofs.«01_k».proof.Proof.Gen.FfnOut.Frame
public import proofs.«01_k».proof.Proof.Gen.FfnOutIdeal.Value
public import proofs.«01_k».proof.Proof.Gen.FfnOutRefIdeal.Run
public import proofs.«01_k».proof.Proof.Gen.FfnOutRefIdeal.Read
public import proofs.«01_k».proof.Proof.Gen.ProjBwd.Frame
public import proofs.«01_k».proof.Proof.Gen.ProjBwdIdeal.Value
public import proofs.«01_k».proof.Proof.Gen.ProjBwdRefIdeal.Run
public import proofs.«01_k».proof.Proof.Gen.ProjBwdRefIdeal.Read
public import proofs.«01_k».proof.Proof.Gen.Ffn.Frame
public import proofs.«01_k».proof.Proof.Gen.FfnIdeal.Value
public import proofs.«01_k».proof.Proof.Gen.FfnRefIdeal.Run
public import proofs.«01_k».proof.Proof.Gen.FfnRefIdeal.Read
public import proofs.«01_k».proof.Proof.Gen.InGrad.Frame
public import proofs.«01_k».proof.Proof.Gen.InGradIdeal.Value
public import proofs.«01_k».proof.Proof.Gen.InGradRefIdeal.Run
public import proofs.«01_k».proof.Proof.Gen.InGradRefIdeal.Read
public import proofs.«01_k».proof.Proof.NormProjClaims
public import proofs.«01_k».proof.Proof.FfnInClaims
public import proofs.«01_k».proof.Proof.FfnOutClaims
public import proofs.«01_k».proof.Proof.ProjBwdClaims
public import proofs.«01_k».proof.Proof.FfnClaims
public import proofs.«01_k».proof.Proof.Gen.SbUp.Frame
public import proofs.«01_k».proof.Proof.Gen.SbUpIdeal.Value
public import proofs.«01_k».proof.Proof.Gen.SbUpRefIdeal.Run
public import proofs.«01_k».proof.Proof.Gen.SbUpRefIdeal.Read
public import proofs.«01_k».proof.Proof.Gen.DilUp.Frame
public import proofs.«01_k».proof.Proof.Gen.DilUpIdeal.Value
public import proofs.«01_k».proof.Proof.Gen.DilUpRefIdeal.Run
public import proofs.«01_k».proof.Proof.Gen.DilUpRefIdeal.Read
public import proofs.«01_k».proof.Proof.Gen.WOut.Frame
public import proofs.«01_k».proof.Proof.Gen.WOutIdeal.Value
public import proofs.«01_k».proof.Proof.Gen.WOutRefIdeal.Run
public import proofs.«01_k».proof.Proof.Gen.WOutRefIdeal.Read
public import proofs.«01_k».proof.Proof.InGradClaims
public import proofs.«01_k».proof.Proof.SbUpClaims
public import proofs.«01_k».proof.Proof.DilUpClaims
public import proofs.«01_k».proof.Proof.UpInClaims
public import proofs.«01_k».proof.Proof.UpSbClaims
public import proofs.«01_k».proof.Proof.UpDilClaims
public import proofs.«01_k».proof.Proof.UpOutClaims
public import proofs.«01_k».proof.Proof.UpFfnInClaims
public import proofs.«01_k».proof.Proof.UpFfnOutClaims
public import proofs.«01_k».proof.Proof.UpGainsClaims
public import proofs.«01_k».proof.Proof.WOutClaims
public import proofs.«01_k».proof.Proof.PairSumClaims
public import proofs.«01_k».proof.Proof.ToBf16Claims
public import proofs.«01_k».proof.Proof.Gen.UpIn.Frame
public import proofs.«01_k».proof.Proof.Gen.UpInIdeal.Value
public import proofs.«01_k».proof.Proof.Gen.UpInRefIdeal.Run
public import proofs.«01_k».proof.Proof.Gen.UpInRefIdeal.Read
public import proofs.«01_k».proof.Proof.Gen.UpSb.Frame
public import proofs.«01_k».proof.Proof.Gen.UpSbIdeal.Value
public import proofs.«01_k».proof.Proof.Gen.UpSbRefIdeal.Run
public import proofs.«01_k».proof.Proof.Gen.UpSbRefIdeal.Read
public import proofs.«01_k».proof.Proof.Gen.UpDil.Frame
public import proofs.«01_k».proof.Proof.Gen.UpDilIdeal.Value
public import proofs.«01_k».proof.Proof.Gen.UpDilRefIdeal.Run
public import proofs.«01_k».proof.Proof.Gen.UpDilRefIdeal.Read
public import proofs.«01_k».proof.Proof.Gen.UpOut.Frame
public import proofs.«01_k».proof.Proof.Gen.UpOutIdeal.Value
public import proofs.«01_k».proof.Proof.Gen.UpOutRefIdeal.Run
public import proofs.«01_k».proof.Proof.Gen.UpOutRefIdeal.Read
public import proofs.«01_k».proof.Proof.Gen.UpFfnIn.Frame
public import proofs.«01_k».proof.Proof.Gen.UpFfnInIdeal.Value
public import proofs.«01_k».proof.Proof.Gen.UpFfnInRefIdeal.Run
public import proofs.«01_k».proof.Proof.Gen.UpFfnInRefIdeal.Read
public import proofs.«01_k».proof.Proof.Gen.UpFfnOut.Frame
public import proofs.«01_k».proof.Proof.Gen.UpFfnOutIdeal.Value
public import proofs.«01_k».proof.Proof.Gen.UpFfnOutRefIdeal.Run
public import proofs.«01_k».proof.Proof.Gen.UpFfnOutRefIdeal.Read
public import proofs.«01_k».proof.Proof.Gen.UpGains.Frame
public import proofs.«01_k».proof.Proof.Gen.UpGainsIdeal.Value
public import proofs.«01_k».proof.Proof.Gen.UpGainsRefIdeal.Run
public import proofs.«01_k».proof.Proof.Gen.UpGainsRefIdeal.Read
public import proofs.«01_k».proof.Defs

@[expose] public section

noncomputable section

namespace Cert.Proof

open Idealize.ShloMosaic Idealize.SL.Sem

/-- The shape facts the precondition of `_proj_bwd` reads. -/
theorem proj_facts : Cert.Pre_proj_finite.Facts := by
  constructor <;> decide

/-- And those the precondition of `_mix_ffn_fwd_bwd` reads. -/
theorem ffn_facts : Cert.Pre_ffn_finite.Facts := by
  constructor <;> decide

/-- And those the precondition of `_pair_sum` reads. -/
theorem core_facts : Cert.Pre_core_ok.Facts := by
  constructor <;> decide

theorem claim : Cert.Claim :=
  ⟨Cert.Gate.Gen.facts, Cert.GateIdeal.Gen.facts, Cert.GateRefIdeal.Gen.facts, Cert.Stick.Gen.facts,
    Cert.StickIdeal.Gen.facts, Cert.NormProj.Gen.facts, Cert.NormProjIdeal.Gen.facts,
    Cert.NormProjRefIdeal.Gen.facts, Cert.FfnIn.Gen.facts, Cert.FfnInIdeal.Gen.facts,
    Cert.FfnInRefIdeal.Gen.facts, Cert.FfnOut.Gen.facts, Cert.FfnOutIdeal.Gen.facts,
    Cert.FfnOutRefIdeal.Gen.facts, Cert.ProjBwd.Gen.facts, Cert.ProjBwdIdeal.Gen.facts,
    Cert.ProjBwdRefIdeal.Gen.facts, Cert.Ffn.Gen.facts, Cert.FfnIdeal.Gen.facts, Cert.FfnRefIdeal.Gen.facts,
    Cert.InGrad.Gen.facts, Cert.InGradIdeal.Gen.facts, Cert.InGradRefIdeal.Gen.facts,
    Cert.SbUp.Gen.facts, Cert.SbUpIdeal.Gen.facts, Cert.SbUpRefIdeal.Gen.facts,
    Cert.DilUp.Gen.facts, Cert.DilUpIdeal.Gen.facts, Cert.DilUpRefIdeal.Gen.facts,
    Cert.WOut.Gen.facts, Cert.WOutIdeal.Gen.facts, Cert.WOutRefIdeal.Gen.facts, Cert.UpIn.Gen.facts, Cert.UpInIdeal.Gen.facts, Cert.UpInRefIdeal.Gen.facts, Cert.UpSb.Gen.facts, Cert.UpSbIdeal.Gen.facts, Cert.UpSbRefIdeal.Gen.facts, Cert.UpDil.Gen.facts, Cert.UpDilIdeal.Gen.facts, Cert.UpDilRefIdeal.Gen.facts, Cert.UpOut.Gen.facts, Cert.UpOutIdeal.Gen.facts, Cert.UpOutRefIdeal.Gen.facts, Cert.UpFfnIn.Gen.facts, Cert.UpFfnInIdeal.Gen.facts, Cert.UpFfnInRefIdeal.Gen.facts, Cert.UpFfnOut.Gen.facts, Cert.UpFfnOutIdeal.Gen.facts, Cert.UpFfnOutRefIdeal.Gen.facts, Cert.UpGains.Gen.facts, Cert.UpGainsIdeal.Gen.facts, Cert.UpGainsRefIdeal.Gen.facts,
    Cert.PairSum.Gen.facts, Cert.PairSumIdeal.Gen.facts, Cert.PairSumRefIdeal.Gen.facts, Cert.ToBf16.Gen.facts, Cert.ToBf16Ideal.Gen.facts, Cert.ToBf16RefIdeal.Gen.facts,
    Cert.StickFwd.Gen.facts, Cert.StickFwdIdeal.Gen.facts,
    proj_facts, ffn_facts, core_facts,
    GateClaims.frame_p, GateClaims.frame_pi, GateClaims.frame_ri, fun m ρ _ => StickProof.frame m ρ,
    fun m ρ _ => StickIdealProof.frame m ρ, NormProjClaims.frame_p, NormProjClaims.frame_pi,
    NormProjClaims.frame_ri, FfnInClaims.frame_p, FfnInClaims.frame_pi, FfnInClaims.frame_ri,
    FfnOutClaims.frame_p, FfnOutClaims.frame_pi, FfnOutClaims.frame_ri, ProjBwdClaims.frame_p,
    ProjBwdClaims.frame_pi, ProjBwdClaims.frame_pi_pre (hPre := proj_facts), ProjBwdClaims.frame_ri,
    ProjBwdClaims.frame_ri_pre (hPre := proj_facts), FfnClaims.frame_p, FfnClaims.frame_pi,
    FfnClaims.frame_pi_pre (hPre := ffn_facts), FfnClaims.frame_ri, FfnClaims.frame_ri_pre (hPre := ffn_facts),
    InGradClaims.frame_p, InGradClaims.frame_pi, InGradClaims.frame_ri,
    SbUpClaims.frame_p, SbUpClaims.frame_pi, SbUpClaims.frame_ri,
    DilUpClaims.frame_p, DilUpClaims.frame_pi, DilUpClaims.frame_ri,
    WOutClaims.frame_p, WOutClaims.frame_pi, WOutClaims.frame_ri, UpInClaims.frame_p, UpInClaims.frame_pi, UpInClaims.frame_ri, UpSbClaims.frame_p, UpSbClaims.frame_pi, UpSbClaims.frame_ri, UpDilClaims.frame_p, UpDilClaims.frame_pi, UpDilClaims.frame_ri, UpOutClaims.frame_p, UpOutClaims.frame_pi, UpOutClaims.frame_ri, UpFfnInClaims.frame_p, UpFfnInClaims.frame_pi, UpFfnInClaims.frame_ri, UpFfnOutClaims.frame_p, UpFfnOutClaims.frame_pi, UpFfnOutClaims.frame_ri, UpGainsClaims.frame_p, UpGainsClaims.frame_pi, UpGainsClaims.frame_ri,
    PairSumClaims.frame_p (hPre := core_facts), PairSumClaims.frame_pi (hPre := core_facts), PairSumClaims.frame_ri,
    PairSumClaims.frame_ri_pre (hPre := core_facts), ToBf16Claims.frame_p, ToBf16Claims.frame_pi, ToBf16Claims.frame_ri,
    fun m ρ _ => StickFwdProof.frame m ρ, fun m ρ _ => StickFwdIdealProof.frame m ρ,
    trivial, GateClaims.algebraic, trivial,
    trivial, NormProjClaims.algebraic, trivial, FfnInClaims.algebraic, trivial, FfnOutClaims.algebraic, trivial,
    ProjBwdClaims.algebraic (hPre := proj_facts), trivial, FfnClaims.algebraic (hPre := ffn_facts), trivial,
    InGradClaims.algebraic, trivial, SbUpClaims.algebraic, trivial, DilUpClaims.algebraic, trivial, WOutClaims.algebraic, trivial, UpInClaims.algebraic, trivial, UpSbClaims.algebraic, trivial, UpDilClaims.algebraic, trivial, UpOutClaims.algebraic, trivial, UpFfnInClaims.algebraic, trivial, UpFfnOutClaims.algebraic, trivial, UpGainsClaims.algebraic,
    trivial, PairSumClaims.algebraic (hPre := core_facts), trivial, ToBf16Claims.algebraic, trivial⟩

end Cert.Proof

end
